-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_within [hKernelIdeal : Cert.KernelIdeal.Facts] [hReferenceIdeal : Cert.ReferenceIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 64]⟩ : Shape).Idx, (Layout.block ⟨2, ![4096, 64]⟩ ⟨2, ![4096, 2048]⟩ 1 32 c ((Cert.On_within.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 64]⟩ : Shape).Idx → _) i = 1#1 → r.2.mem ((c.tc : Thread Cert.KernelIdeal.nD Cert.KernelIdeal.τ).loc Cert.KernelIdeal.main_v13) i = (Layout.block ⟨2, ![4096, 64]⟩ ⟨2, ![4096, 2048]⟩ 1 32 c v0 : (⟨2, ![4096, 64]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_within.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_within (hKernelIdeal := hKernelIdeal) (hReferenceIdeal := hReferenceIdeal) (hOn_within := hOn_within)
-- ==== On_within.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x2048 32 := (extsi 32 · natLt_8_32) main_arg1
  let main_v4 : FVec F S4096x2048 .f32 := sitofp .f32 main_v3
  let main_v5 : FVec F S4096x2048 .f32 := Host.absf main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B800000#32
  let main_v7 : FVec F S4096x2048 .f32 := broadcastInDim S4096x2048 ![] bcast_S_S4096x2048 main_cst
  let main_v8 : IVec S4096x2048 1 := cmpf .olt main_v6 main_v7
  main_v8
-- ==== Kernel.lean ====
abbrev S128x4096 : Shape := ⟨2, ![128, 4096]⟩
abbrev S4096x64 : Shape := ⟨2, ![4096, 64]⟩
abbrev S1 : Shape := ⟨1, ![1]⟩
abbrev S32 : Shape := ⟨1, ![32]⟩
abbrev S32x16 : Shape := ⟨2, ![32, 16]⟩
abbrev S_ : Shape := ⟨0, ![]⟩
abbrev S16 : Shape := ⟨1, ![16]⟩
abbrev S4096x4096 : Shape := ⟨2, ![4096, 4096]⟩
abbrev S16x4 : Shape := ⟨2, ![16, 4]⟩
abbrev S1x1 : Shape := ⟨2, ![1, 1]⟩
abbrev S32x4096 : Shape := ⟨2, ![32, 4096]⟩
abbrev S128x64 : Shape := ⟨2, ![128, 64]⟩

abbrev nBuf : Space → Nat
  | .hbm => 129
  | .vmem => 4
  | .smem => 8
  | _ => 0

abbrev hbmTy0_0 (i : Nat) : BufTy := match i % 128 with
  | 0 => ⟨S128x4096, .i8⟩
  | 1 => ⟨S4096x64, .i8⟩
  | 2 => ⟨S1, .f32⟩
  | 3 => ⟨S1, .f32⟩
  | 4 => ⟨S32, .i32⟩
  | 5 => ⟨S32, .i32⟩
  | 6 => ⟨S32x16, .i32⟩
  | 7 => ⟨S32x16, .i32⟩
  | 8 => ⟨S32x16, .i32⟩
  | 9 => ⟨S32x16, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S1, .i32⟩
  | 22 => ⟨S1, .i32⟩
  | 23 => ⟨S_, .i32⟩
  | 24 => ⟨S1, .i32⟩
  | 25 => ⟨S1, .i1⟩
  | 26 => ⟨S1, .i1⟩
  | 27 => ⟨S1, .i1⟩
  | 28 => ⟨S_, .i1⟩
  | 29 => ⟨S_, .i1⟩
  | 30 => ⟨S_, .i32⟩
  | 31 => ⟨S_, .i32⟩
  | 32 => ⟨S_, .i32⟩
  | 33 => ⟨S1, .i32⟩
  | 34 => ⟨S_, .i32⟩
  | 35 => ⟨S_, .i1⟩
  | 36 => ⟨S_, .i32⟩
  | 37 => ⟨S_, .i32⟩
  | 38 => ⟨S_, .i32⟩
  | 39 => ⟨S1, .i32⟩
  | 40 => ⟨S1, .i32⟩
  | 41 => ⟨S_, .i32⟩
  | 42 => ⟨S1, .i32⟩
  | 43 => ⟨S1, .i1⟩
  | 44 => ⟨S1, .i1⟩
  | 45 => ⟨S1, .i1⟩
  | 46 => ⟨S_, .i1⟩
  | 47 => ⟨S_, .i1⟩
  | 48 => ⟨S_, .i32⟩
  | 49 => ⟨S_, .i32⟩
  | 50 => ⟨S_, .i32⟩
  | 51 => ⟨S1, .i32⟩
  | 52 => ⟨S_, .i32⟩
  | 53 => ⟨S_, .i1⟩
  | 54 => ⟨S_, .i32⟩
  | 55 => ⟨S_, .i32⟩
  | 56 => ⟨S_, .i32⟩
  | 57 => ⟨S1, .i32⟩
  | 58 => ⟨S1, .i32⟩
  | 59 => ⟨S_, .i32⟩
  | 60 => ⟨S1, .i32⟩
  | 61 => ⟨S1, .i1⟩
  | 62 => ⟨S1, .i1⟩
  | 63 => ⟨S1, .i1⟩
  | 64 => ⟨S_, .i1⟩
  | 65 => ⟨S_, .i1⟩
  | 66 => ⟨S16, .i32⟩
  | 67 => ⟨S16, .i1⟩
  | 68 => ⟨S_, .i32⟩
  | 69 => ⟨S16, .i32⟩
  | 70 => ⟨S16, .i32⟩
  | 71 => ⟨S_, .i32⟩
  | 72 => ⟨S_, .i1⟩
  | 73 => ⟨S_, .i32⟩
  | 74 => ⟨S_, .i32⟩
  | 75 => ⟨S_, .i32⟩
  | 76 => ⟨S1, .i32⟩
  | 77 => ⟨S1, .i32⟩
  | 78 => ⟨S_, .i32⟩
  | 79 => ⟨S1, .i32⟩
  | 80 => ⟨S1, .i1⟩
  | 81 => ⟨S1, .i1⟩
  | 82 => ⟨S1, .i1⟩
  | 83 => ⟨S_, .i1⟩
  | 84 => ⟨S_, .i1⟩
  | 85 => ⟨S16, .i32⟩
  | 86 => ⟨S16, .i1⟩
  | 87 => ⟨S_, .i32⟩
  | 88 => ⟨S16, .i32⟩
  | 89 => ⟨S16, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S1, .i32⟩
  | 97 => ⟨S_, .i32⟩
  | 98 => ⟨S1, .i32⟩
  | 99 => ⟨S1, .i1⟩
  | 100 => ⟨S1, .i1⟩
  | 101 => ⟨S1, .i1⟩
  | 102 => ⟨S_, .i1⟩
  | 103 => ⟨S_, .i1⟩
  | 104 => ⟨S16, .i32⟩
  | 105 => ⟨S16, .i1⟩
  | 106 => ⟨S_, .i32⟩
  | 107 => ⟨S16, .i32⟩
  | 108 => ⟨S16, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S1, .i32⟩
  | 116 => ⟨S_, .i32⟩
  | 117 => ⟨S1, .i32⟩
  | 118 => ⟨S1, .i1⟩
  | 119 => ⟨S1, .i1⟩
  | 120 => ⟨S1, .i1⟩
  | 121 => ⟨S_, .i1⟩
  | 122 => ⟨S_, .i1⟩
  | 123 => ⟨S16, .i32⟩
  | 124 => ⟨S16, .i1⟩
  | 125 => ⟨S_, .i32⟩
  | 126 => ⟨S16, .i32⟩
  | 127 => ⟨S16, .i32⟩
  | _ => ⟨S128x4096, .i8⟩

abbrev hbmTy0_1 (i : Nat) : BufTy := match i % 128 with
  | 0 => ⟨S4096x64, .f32⟩
  | _ => ⟨S128x4096, .i8⟩

abbrev hbmTy (i : Nat) : BufTy := match i / 128 with
  | 0 => hbmTy0_0 i
  | 1 => hbmTy0_1 i
  | _ => ⟨S128x4096, .i8⟩

abbrev bufTy : (tb : Table) → Fin (tcTables nBuf tb) → BufTy
  | .hbm, ⟨i, _⟩ => hbmTy i
  | .local _ .vmem, ⟨0, _⟩ => ⟨S128x4096, .i8⟩
  | .local _ .vmem, ⟨1, _⟩ => ⟨S4096x64, .i8⟩
  | .local _ .vmem, ⟨2, _⟩ => ⟨S4096x64, .f32⟩
  | .local _ .vmem, ⟨3, _⟩ => ⟨S4096x4096, .i8⟩
  | .local _ .smem, ⟨0, _⟩ => ⟨S1, .f32⟩
  | .local _ .smem, ⟨1, _⟩ => ⟨S1, .f32⟩
  | .local _ .smem, ⟨2, _⟩ => ⟨S1, .i32⟩
  | .local _ .smem, ⟨3, _⟩ => ⟨S1, .i32⟩
  | .local _ .smem, ⟨4, _⟩ => ⟨S16, .i32⟩
  | .local _ .smem, ⟨5, _⟩ => ⟨S16, .i32⟩
  | .local _ .smem, ⟨6, _⟩ => ⟨S16, .i32⟩
  | .local _ .smem, ⟨7, _⟩ => ⟨S16, .i32⟩
  | _, _ => ⟨S128x4096, .i8⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 1 → Bool
  | ⟨0, _⟩ => false
  | _ => false

abbrev dmaSemScoped : Fin 267 → Bool
  | ⟨i, _⟩ => dmaSemScopedAt i

abbrev sig : RefSig :=
  (ofTc nBuf bufTy 1 267 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_c_0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_c_1 : Ref sig .tc := ⟨.hbm, 22, rfl⟩
abbrev main_call0_c_2 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_c_3 : Ref sig .tc := ⟨.hbm, 28, rfl⟩
abbrev main_call0_v8 : Ref sig .tc := ⟨.hbm, 29, rfl⟩
abbrev main_call0_v9 : Ref sig .tc := ⟨.hbm, 30, rfl⟩
abbrev main_call0_c_4 : Ref sig .tc := ⟨.hbm, 31, rfl⟩
abbrev main_v5 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_c_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_c_1 : Ref sig .tc := ⟨.hbm, 40, rfl⟩
abbrev main_call1_c_2 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_c_3 : Ref sig .tc := ⟨.hbm, 46, rfl⟩
abbrev main_call1_v8 : Ref sig .tc := ⟨.hbm, 47, rfl⟩
abbrev main_call1_v9 : Ref sig .tc := ⟨.hbm, 48, rfl⟩
abbrev main_call1_c_4 : Ref sig .tc := ⟨.hbm, 49, rfl⟩
abbrev main_v7 : Ref sig .tc := ⟨.hbm, 50, rfl⟩
abbrev main_v8 : Ref sig .tc := ⟨.hbm, 51, rfl⟩
abbrev main_call2_c : Ref sig .tc := ⟨.hbm, 52, rfl⟩
abbrev main_call2_v0 : Ref sig .tc := ⟨.hbm, 53, rfl⟩
abbrev main_call2_c_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_c_1 : Ref sig .tc := ⟨.hbm, 58, rfl⟩
abbrev main_call2_c_2 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_c_3 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_4 : Ref sig .tc := ⟨.hbm, 68, rfl⟩
abbrev main_call2_v11 : Ref sig .tc := ⟨.hbm, 69, rfl⟩
abbrev main_v9 : Ref sig .tc := ⟨.hbm, 70, rfl⟩
abbrev main_call3_c : Ref sig .tc := ⟨.hbm, 71, rfl⟩
abbrev main_call3_v0 : Ref sig .tc := ⟨.hbm, 72, rfl⟩
abbrev main_call3_c_0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_c_1 : Ref sig .tc := ⟨.hbm, 77, rfl⟩
abbrev main_call3_c_2 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_c_3 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_c_4 : Ref sig .tc := ⟨.hbm, 87, rfl⟩
abbrev main_call3_v11 : Ref sig .tc := ⟨.hbm, 88, rfl⟩
abbrev main_v10 : Ref sig .tc := ⟨.hbm, 89, rfl⟩
abbrev main_call4_c : Ref sig .tc := ⟨.hbm, 90, rfl⟩
abbrev main_call4_v0 : Ref sig .tc := ⟨.hbm, 91, rfl⟩
abbrev main_call4_c_0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_c_1 : Ref sig .tc := ⟨.hbm, 96, rfl⟩
abbrev main_call4_c_2 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_v7 : Ref sig .tc := ⟨.hbm, 101, rfl⟩
abbrev main_call4_c_3 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_call4_c_4 : Ref sig .tc := ⟨.hbm, 106, rfl⟩
abbrev main_call4_v11 : Ref sig .tc := ⟨.hbm, 107, rfl⟩
abbrev main_v11 : Ref sig .tc := ⟨.hbm, 108, rfl⟩
abbrev main_call5_c : Ref sig .tc := ⟨.hbm, 109, rfl⟩
abbrev main_call5_v0 : Ref sig .tc := ⟨.hbm, 110, rfl⟩
abbrev main_call5_c_0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_c_1 : Ref sig .tc := ⟨.hbm, 115, rfl⟩
abbrev main_call5_c_2 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_c_3 : Ref sig .tc := ⟨.hbm, 121, rfl⟩
abbrev main_call5_v8 : Ref sig .tc := ⟨.hbm, 122, rfl⟩
abbrev main_call5_v9 : Ref sig .tc := ⟨.hbm, 123, rfl⟩
abbrev main_call5_v10 : Ref sig .tc := ⟨.hbm, 124, rfl⟩
abbrev main_call5_c_4 : Ref sig .tc := ⟨.hbm, 125, rfl⟩
abbrev main_call5_v11 : Ref sig .tc := ⟨.hbm, 126, rfl⟩
abbrev main_v12 : Ref sig .tc := ⟨.hbm, 127, rfl⟩
abbrev main_v13 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg10_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_stg7_0 : Ref sig .tc := ⟨.smem, 5, rfl⟩
abbrev cc0_stg8_0 : Ref sig .tc := ⟨.smem, 6, rfl⟩
abbrev cc0_stg9_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev barrier0 : Sem sig := 0

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_4 : BitVec 32 := 1#32
  let v9 : BitVec 32 := Scalar.muli v4 c1_i32_4
  let v10 : BitVec 32 := Scalar.addi c0_i32 v9
  v10.toNat

def k0_dev2 (v3 : BitVec 32) : Nat :=
  let c0_i32_7 : BitVec 32 := 0#32
  let c1_i32_6 : BitVec 32 := 1#32
  let v11 : BitVec 32 := Scalar.muli v3 c1_i32_6
  let v12 : BitVec 32 := Scalar.addi c0_i32_7 v11
  v12.toNat

def k0_off1 (v13 : BitVec 32) : Fin 2 → Nat :=
  let c128_i32 : BitVec 32 := 128#32
  let v14 : BitVec 32 := Scalar.muli v13 c128_i32
  let c0_i32_9 : BitVec 32 := 0#32
  let v15 : BitVec 32 := Scalar.addi v14 c0_i32_9
  let c0_i32_16 : BitVec 32 := 0#32
  ![v15.toNat, 0]

def k0_chk3 (v13 : BitVec 32) : Prop :=
  (∀ a, (k0_off1 v13) a + S32x4096.size a ≤ S4096x4096.size a) ∧
  (∀ (hinb : ∀ a, (k0_off1 v13) a + S32x4096.size a ≤ S4096x4096.size a), (Rect.unit (s := S4096x4096) (k0_off1 v13) S32x4096.size hinb).WholeWords (EltTy.packing .i8))
theorem k0_off1_inb : ∀ (v13 : BitVec 32) (k0_hw3 : k0_chk3 v13), ∀ a, (k0_off1 v13) a + S32x4096.size a ≤ S4096x4096.size a := fun v13 k0_hw3 => k0_hw3.1
theorem k0_off1_wordsi8 : ∀ (v13 : BitVec 32) (k0_hw3 : k0_chk3 v13), (Rect.unit (s := S4096x4096) (k0_off1 v13) S32x4096.size (k0_off1_inb v13 k0_hw3)).WholeWords (EltTy.packing .i8) := fun v13 k0_hw3 => k0_hw3.2 (k0_off1_inb v13 k0_hw3)

def k0_dev3 (v3 : BitVec 32) : Nat :=
  let c0_i32_15 : BitVec 32 := 0#32
  let c1_i32_14 : BitVec 32 := 1#32
  let v16 : BitVec 32 := Scalar.muli v3 c1_i32_14
  let v17 : BitVec 32 := Scalar.addi c0_i32_15 v16
  v17.toNat
def k0_off2 (v24 : BitVec 32) : Fin 2 → Nat :=
  let c128_i32_20 : BitVec 32 := 128#32
  let v25 : BitVec 32 := Scalar.muli v24 c128_i32_20
  let c32_i32_21 : BitVec 32 := 32#32
  let v26 : BitVec 32 := Scalar.addi v25 c32_i32_21
  let c0_i32_28 : BitVec 32 := 0#32
  ![v26.toNat, 0]

def k0_chk4 (v24 : BitVec 32) : Prop :=
  (∀ a, (k0_off2 v24) a + S32x4096.size a ≤ S4096x4096.size a) ∧
  (∀ (hinb : ∀ a, (k0_off2 v24) a + S32x4096.size a ≤ S4096x4096.size a), (Rect.unit (s := S4096x4096) (k0_off2 v24) S32x4096.size hinb).WholeWords (EltTy.packing .i8))
theorem k0_off2_inb : ∀ (v24 : BitVec 32) (k0_hw4 : k0_chk4 v24), ∀ a, (k0_off2 v24) a + S32x4096.size a ≤ S4096x4096.size a := fun v24 k0_hw4 => k0_hw4.1
theorem k0_off2_wordsi8 : ∀ (v24 : BitVec 32) (k0_hw4 : k0_chk4 v24), (Rect.unit (s := S4096x4096) (k0_off2 v24) S32x4096.size (k0_off2_inb v24 k0_hw4)).WholeWords (EltTy.packing .i8) := fun v24 k0_hw4 => k0_hw4.2 (k0_off2_inb v24 k0_hw4)

def k0_dev4 (v3 : BitVec 32) : Nat :=
  let c0_i32_27 : BitVec 32 := 0#32
  let c1_i32_26 : BitVec 32 := 1#32
  let v27 : BitVec 32 := Scalar.muli v3 c1_i32_26
  let v28 : BitVec 32 := Scalar.addi c0_i32_27 v27
  v28.toNat
def k0_off3 (v35 : BitVec 32) : Fin 2 → Nat :=
  let c128_i32_32 : BitVec 32 := 128#32
  let v36 : BitVec 32 := Scalar.muli v35 c128_i32_32
  let c64_i32 : BitVec 32 := 64#32
  let v37 : BitVec 32 := Scalar.addi v36 c64_i32
  let c0_i32_39 : BitVec 32 := 0#32
  ![v37.toNat, 0]

def k0_chk5 (v35 : BitVec 32) : Prop :=
  (∀ a, (k0_off3 v35) a + S32x4096.size a ≤ S4096x4096.size a) ∧
  (∀ (hinb : ∀ a, (k0_off3 v35) a + S32x4096.size a ≤ S4096x4096.size a), (Rect.unit (s := S4096x4096) (k0_off3 v35) S32x4096.size hinb).WholeWords (EltTy.packing .i8))
theorem k0_off3_inb : ∀ (v35 : BitVec 32) (k0_hw5 : k0_chk5 v35), ∀ a, (k0_off3 v35) a + S32x4096.size a ≤ S4096x4096.size a := fun v35 k0_hw5 => k0_hw5.1
theorem k0_off3_wordsi8 : ∀ (v35 : BitVec 32) (k0_hw5 : k0_chk5 v35), (Rect.unit (s := S4096x4096) (k0_off3 v35) S32x4096.size (k0_off3_inb v35 k0_hw5)).WholeWords (EltTy.packing .i8) := fun v35 k0_hw5 => k0_hw5.2 (k0_off3_inb v35 k0_hw5)

def k0_dev5 (v3 : BitVec 32) : Nat :=
  let c0_i32_38 : BitVec 32 := 0#32
  let c1_i32_37 : BitVec 32 := 1#32
  let v38 : BitVec 32 := Scalar.muli v3 c1_i32_37
  let v39 : BitVec 32 := Scalar.addi c0_i32_38 v38
  v39.toNat
def k0_off4 (v46 : BitVec 32) : Fin 2 → Nat :=
  let c128_i32_43 : BitVec 32 := 128#32
  let v47 : BitVec 32 := Scalar.muli v46 c128_i32_43
  let c96_i32 : BitVec 32 := 96#32
  let v48 : BitVec 32 := Scalar.addi v47 c96_i32
  let c0_i32_49 : BitVec 32 := 0#32
  ![v48.toNat, 0]

def k0_chk6 (v46 : BitVec 32) : Prop :=
  (∀ a, (k0_off4 v46) a + S32x4096.size a ≤ S4096x4096.size a) ∧
  (∀ (hinb : ∀ a, (k0_off4 v46) a + S32x4096.size a ≤ S4096x4096.size a), (Rect.unit (s := S4096x4096) (k0_off4 v46) S32x4096.size hinb).WholeWords (EltTy.packing .i8))
theorem k0_off4_inb : ∀ (v46 : BitVec 32) (k0_hw6 : k0_chk6 v46), ∀ a, (k0_off4 v46) a + S32x4096.size a ≤ S4096x4096.size a := fun v46 k0_hw6 => k0_hw6.1
theorem k0_off4_wordsi8 : ∀ (v46 : BitVec 32) (k0_hw6 : k0_chk6 v46), (Rect.unit (s := S4096x4096) (k0_off4 v46) S32x4096.size (k0_off4_inb v46 k0_hw6)).WholeWords (EltTy.packing .i8) := fun v46 k0_hw6 => k0_hw6.2 (k0_off4_inb v46 k0_hw6)

def k0_dev6 (v3 : BitVec 32) : Nat :=
  let c0_i32_48 : BitVec 32 := 0#32
  let c1_i32_47 : BitVec 32 := 1#32
  let v49 : BitVec 32 := Scalar.muli v3 c1_i32_47
  let v50 : BitVec 32 := Scalar.addi c0_i32_48 v49
  v50.toNat
def k0_off5 (v57 : BitVec 32) : Fin 2 → Nat :=
  let c128_i32_53 : BitVec 32 := 128#32
  let v58 : BitVec 32 := Scalar.muli v57 c128_i32_53
  let c0_i32_54 : BitVec 32 := 0#32
  let v59 : BitVec 32 := Scalar.addi v58 c0_i32_54
  let c0_i32_61 : BitVec 32 := 0#32
  ![v59.toNat, 0]

def k0_chk7 (v57 : BitVec 32) : Prop :=
  (∀ a, (k0_off5 v57) a + S32x4096.size a ≤ S4096x4096.size a) ∧
  (∀ (hinb : ∀ a, (k0_off5 v57) a + S32x4096.size a ≤ S4096x4096.size a), (Rect.unit (s := S4096x4096) (k0_off5 v57) S32x4096.size hinb).WholeWords (EltTy.packing .i8))
theorem k0_off5_inb : ∀ (v57 : BitVec 32) (k0_hw7 : k0_chk7 v57), ∀ a, (k0_off5 v57) a + S32x4096.size a ≤ S4096x4096.size a := fun v57 k0_hw7 => k0_hw7.1
theorem k0_off5_wordsi8 : ∀ (v57 : BitVec 32) (k0_hw7 : k0_chk7 v57), (Rect.unit (s := S4096x4096) (k0_off5 v57) S32x4096.size (k0_off5_inb v57 k0_hw7)).WholeWords (EltTy.packing .i8) := fun v57 k0_hw7 => k0_hw7.2 (k0_off5_inb v57 k0_hw7)

def k0_dev7 (v4 : BitVec 32) : Nat :=
  let c0_i32_60 : BitVec 32 := 0#32
  let c1_i32_59 : BitVec 32 := 1#32
  let v60 : BitVec 32 := Scalar.muli v4 c1_i32_59
  let v61 : BitVec 32 := Scalar.addi c0_i32_60 v60
  v61.toNat
def k0_off6 (v68 : BitVec 32) : Fin 2 → Nat :=
  let c128_i32_65 : BitVec 32 := 128#32
  let v69 : BitVec 32 := Scalar.muli v68 c128_i32_65
  let c32_i32_66 : BitVec 32 := 32#32
  let v70 : BitVec 32 := Scalar.addi v69 c32_i32_66
  let c0_i32_73 : BitVec 32 := 0#32
  ![v70.toNat, 0]

def k0_chk8 (v68 : BitVec 32) : Prop :=
  (∀ a, (k0_off6 v68) a + S32x4096.size a ≤ S4096x4096.size a) ∧
  (∀ (hinb : ∀ a, (k0_off6 v68) a + S32x4096.size a ≤ S4096x4096.size a), (Rect.unit (s := S4096x4096) (k0_off6 v68) S32x4096.size hinb).WholeWords (EltTy.packing .i8))
theorem k0_off6_inb : ∀ (v68 : BitVec 32) (k0_hw8 : k0_chk8 v68), ∀ a, (k0_off6 v68) a + S32x4096.size a ≤ S4096x4096.size a := fun v68 k0_hw8 => k0_hw8.1
theorem k0_off6_wordsi8 : ∀ (v68 : BitVec 32) (k0_hw8 : k0_chk8 v68), (Rect.unit (s := S4096x4096) (k0_off6 v68) S32x4096.size (k0_off6_inb v68 k0_hw8)).WholeWords (EltTy.packing .i8) := fun v68 k0_hw8 => k0_hw8.2 (k0_off6_inb v68 k0_hw8)

def k0_dev8 (v4 : BitVec 32) : Nat :=
  let c0_i32_72 : BitVec 32 := 0#32
  let c1_i32_71 : BitVec 32 := 1#32
  let v71 : BitVec 32 := Scalar.muli v4 c1_i32_71
  let v72 : BitVec 32 := Scalar.addi c0_i32_72 v71
  v72.toNat
def k0_off7 (v79 : BitVec 32) : Fin 2 → Nat :=
  let c128_i32_77 : BitVec 32 := 128#32
  let v80 : BitVec 32 := Scalar.muli v79 c128_i32_77
  let c64_i32_78 : BitVec 32 := 64#32
  let v81 : BitVec 32 := Scalar.addi v80 c64_i32_78
  let c0_i32_85 : BitVec 32 := 0#32
  ![v81.toNat, 0]

def k0_chk9 (v79 : BitVec 32) : Prop :=
  (∀ a, (k0_off7 v79) a + S32x4096.size a ≤ S4096x4096.size a) ∧
  (∀ (hinb : ∀ a, (k0_off7 v79) a + S32x4096.size a ≤ S4096x4096.size a), (Rect.unit (s := S4096x4096) (k0_off7 v79) S32x4096.size hinb).WholeWords (EltTy.packing .i8))
theorem k0_off7_inb : ∀ (v79 : BitVec 32) (k0_hw9 : k0_chk9 v79), ∀ a, (k0_off7 v79) a + S32x4096.size a ≤ S4096x4096.size a := fun v79 k0_hw9 => k0_hw9.1
theorem k0_off7_wordsi8 : ∀ (v79 : BitVec 32) (k0_hw9 : k0_chk9 v79), (Rect.unit (s := S4096x4096) (k0_off7 v79) S32x4096.size (k0_off7_inb v79 k0_hw9)).WholeWords (EltTy.packing .i8) := fun v79 k0_hw9 => k0_hw9.2 (k0_off7_inb v79 k0_hw9)

def k0_dev9 (v4 : BitVec 32) : Nat :=
  let c0_i32_84 : BitVec 32 := 0#32
  let c1_i32_83 : BitVec 32 := 1#32
  let v82 : BitVec 32 := Scalar.muli v4 c1_i32_83
  let v83 : BitVec 32 := Scalar.addi c0_i32_84 v82
  v83.toNat
def k0_off8 (v90 : BitVec 32) : Fin 2 → Nat :=
  let c128_i32_89 : BitVec 32 := 128#32
  let v91 : BitVec 32 := Scalar.muli v90 c128_i32_89
  let c96_i32_90 : BitVec 32 := 96#32
  let v92 : BitVec 32 := Scalar.addi v91 c96_i32_90
  let c0_i32_97 : BitVec 32 := 0#32
  ![v92.toNat, 0]

def k0_chk10 (v90 : BitVec 32) : Prop :=
  (∀ a, (k0_off8 v90) a + S32x4096.size a ≤ S4096x4096.size a) ∧
  (∀ (hinb : ∀ a, (k0_off8 v90) a + S32x4096.size a ≤ S4096x4096.size a), (Rect.unit (s := S4096x4096) (k0_off8 v90) S32x4096.size hinb).WholeWords (EltTy.packing .i8))
theorem k0_off8_inb : ∀ (v90 : BitVec 32) (k0_hw10 : k0_chk10 v90), ∀ a, (k0_off8 v90) a + S32x4096.size a ≤ S4096x4096.size a := fun v90 k0_hw10 => k0_hw10.1
theorem k0_off8_wordsi8 : ∀ (v90 : BitVec 32) (k0_hw10 : k0_chk10 v90), (Rect.unit (s := S4096x4096) (k0_off8 v90) S32x4096.size (k0_off8_inb v90 k0_hw10)).WholeWords (EltTy.packing .i8) := fun v90 k0_hw10 => k0_hw10.2 (k0_off8_inb v90 k0_hw10)

def k0_dev10 (v4 : BitVec 32) : Nat :=
  let c0_i32_96 : BitVec 32 := 0#32
  let c1_i32_95 : BitVec 32 := 1#32
  let v93 : BitVec 32 := Scalar.muli v4 c1_i32_95
  let v94 : BitVec 32 := Scalar.addi c0_i32_96 v93
  v94.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_104 : BitVec 32 := 128#32
  let v109 : BitVec 32 := Scalar.muli v2 c128_i32_104
  let v110 : Index := Scalar.indexCast v109
  let c0_105 : Index := 0#32
  ![v110.toNat, 0]
def k0_off10 (v115 : BitVec 32) : Fin 2 → Nat :=
  let c128_i32_110 : BitVec 32 := 128#32
  let v116 : BitVec 32 := Scalar.muli v115 c128_i32_110
  let c0_i32_111 : BitVec 32 := 0#32
  let v117 : BitVec 32 := Scalar.addi v116 c0_i32_111
  let c0_i32_118 : BitVec 32 := 0#32
  ![v117.toNat, 0]

def k0_off11 (v112 : BitVec 32) : Fin 2 → Nat :=
  let c128_i32_107 : BitVec 32 := 128#32
  let v113 : BitVec 32 := Scalar.muli v112 c128_i32_107
  let c0_i32_108 : BitVec 32 := 0#32
  let v114 : BitVec 32 := Scalar.addi v113 c0_i32_108
  let c0_i32_119 : BitVec 32 := 0#32
  ![v114.toNat, 0]

def k0_chk12 (v112 : BitVec 32) : Prop :=
  (∀ a, (k0_off11 v112) a + S32x4096.size a ≤ S4096x4096.size a) ∧
  (∀ (hinb : ∀ a, (k0_off11 v112) a + S32x4096.size a ≤ S4096x4096.size a), (Rect.unit (s := S4096x4096) (k0_off11 v112) S32x4096.size hinb).WholeWords (EltTy.packing .i8))
theorem k0_off11_inb : ∀ (v112 : BitVec 32) (k0_hw12 : k0_chk12 v112), ∀ a, (k0_off11 v112) a + S32x4096.size a ≤ S4096x4096.size a := fun v112 k0_hw12 => k0_hw12.1
theorem k0_off11_wordsi8 : ∀ (v112 : BitVec 32) (k0_hw12 : k0_chk12 v112), (Rect.unit (s := S4096x4096) (k0_off11 v112) S32x4096.size (k0_off11_inb v112 k0_hw12)).WholeWords (EltTy.packing .i8) := fun v112 k0_hw12 => k0_hw12.2 (k0_off11_inb v112 k0_hw12)

def k0_chk11 (v115 : BitVec 32) : Prop :=
  (∀ a, (k0_off10 v115) a + S32x4096.size a ≤ S4096x4096.size a) ∧
  (∀ (hinb : ∀ a, (k0_off10 v115) a + S32x4096.size a ≤ S4096x4096.size a), (Rect.unit (s := S4096x4096) (k0_off10 v115) S32x4096.size hinb).WholeWords (EltTy.packing .i8))
theorem k0_off10_inb : ∀ (v115 : BitVec 32) (k0_hw11 : k0_chk11 v115), ∀ a, (k0_off10 v115) a + S32x4096.size a ≤ S4096x4096.size a := fun v115 k0_hw11 => k0_hw11.1
theorem k0_off10_wordsi8 : ∀ (v115 : BitVec 32) (k0_hw11 : k0_chk11 v115), (Rect.unit (s := S4096x4096) (k0_off10 v115) S32x4096.size (k0_off10_inb v115 k0_hw11)).WholeWords (EltTy.packing .i8) := fun v115 k0_hw11 => k0_hw11.2 (k0_off10_inb v115 k0_hw11)

def k0_off12 (v127 : BitVec 32) : Fin 2 → Nat :=
  let c128_i32_123 : BitVec 32 := 128#32
  let v128 : BitVec 32 := Scalar.muli v127 c128_i32_123
  let c0_i32_124 : BitVec 32 := 0#32
  let v129 : BitVec 32 := Scalar.addi v128 c0_i32_124
  let c0_i32_131 : BitVec 32 := 0#32
  ![v129.toNat, 0]

def k0_off13 (v124 : BitVec 32) : Fin 2 → Nat :=
  let c128_i32_120 : BitVec 32 := 128#32
  let v125 : BitVec 32 := Scalar.muli v124 c128_i32_120
  let c0_i32_121 : BitVec 32 := 0#32
  let v126 : BitVec 32 := Scalar.addi v125 c0_i32_121
  let c0_i32_132 : BitVec 32 := 0#32
  ![v126.toNat, 0]

def k0_chk14 (v124 : BitVec 32) : Prop :=
  (∀ a, (k0_off13 v124) a + S32x4096.size a ≤ S4096x4096.size a) ∧
  (∀ (hinb : ∀ a, (k0_off13 v124) a + S32x4096.size a ≤ S4096x4096.size a), (Rect.unit (s := S4096x4096) (k0_off13 v124) S32x4096.size hinb).WholeWords (EltTy.packing .i8))
theorem k0_off13_inb : ∀ (v124 : BitVec 32) (k0_hw14 : k0_chk14 v124), ∀ a, (k0_off13 v124) a + S32x4096.size a ≤ S4096x4096.size a := fun v124 k0_hw14 => k0_hw14.1
theorem k0_off13_wordsi8 : ∀ (v124 : BitVec 32) (k0_hw14 : k0_chk14 v124), (Rect.unit (s := S4096x4096) (k0_off13 v124) S32x4096.size (k0_off13_inb v124 k0_hw14)).WholeWords (EltTy.packing .i8) := fun v124 k0_hw14 => k0_hw14.2 (k0_off13_inb v124 k0_hw14)

def k0_chk13 (v127 : BitVec 32) : Prop :=
  (∀ a, (k0_off12 v127) a + S32x4096.size a ≤ S4096x4096.size a) ∧
  (∀ (hinb : ∀ a, (k0_off12 v127) a + S32x4096.size a ≤ S4096x4096.size a), (Rect.unit (s := S4096x4096) (k0_off12 v127) S32x4096.size hinb).WholeWords (EltTy.packing .i8))
theorem k0_off12_inb : ∀ (v127 : BitVec 32) (k0_hw13 : k0_chk13 v127), ∀ a, (k0_off12 v127) a + S32x4096.size a ≤ S4096x4096.size a := fun v127 k0_hw13 => k0_hw13.1
theorem k0_off12_wordsi8 : ∀ (v127 : BitVec 32) (k0_hw13 : k0_chk13 v127), (Rect.unit (s := S4096x4096) (k0_off12 v127) S32x4096.size (k0_off12_inb v127 k0_hw13)).WholeWords (EltTy.packing .i8) := fun v127 k0_hw13 => k0_hw13.2 (k0_off12_inb v127 k0_hw13)

def k0_dev11 (v3 : BitVec 32) : Nat :=
  let c0_i32_130 : BitVec 32 := 0#32
  let c1_i32_129 : BitVec 32 := 1#32
  let v130 : BitVec 32 := Scalar.muli v3 c1_i32_129
  let v131 : BitVec 32 := Scalar.addi c0_i32_130 v130
  v131.toNat
def k0_off14 (v141 : BitVec 32) : Fin 2 → Nat :=
  let c128_i32_137 : BitVec 32 := 128#32
  let v142 : BitVec 32 := Scalar.muli v141 c128_i32_137
  let c0_i32_138 : BitVec 32 := 0#32
  let v143 : BitVec 32 := Scalar.addi v142 c0_i32_138
  let c0_i32_145 : BitVec 32 := 0#32
  ![v143.toNat, 0]

def k0_off15 (v138 : BitVec 32) : Fin 2 → Nat :=
  let c128_i32_134 : BitVec 32 := 128#32
  let v139 : BitVec 32 := Scalar.muli v138 c128_i32_134
  let c0_i32_135 : BitVec 32 := 0#32
  let v140 : BitVec 32 := Scalar.addi v139 c0_i32_135
  let c0_i32_146 : BitVec 32 := 0#32
  ![v140.toNat, 0]

def k0_chk16 (v138 : BitVec 32) : Prop :=
  (∀ a, (k0_off15 v138) a + S32x4096.size a ≤ S4096x4096.size a) ∧
  (∀ (hinb : ∀ a, (k0_off15 v138) a + S32x4096.size a ≤ S4096x4096.size a), (Rect.unit (s := S4096x4096) (k0_off15 v138) S32x4096.size hinb).WholeWords (EltTy.packing .i8))
theorem k0_off15_inb : ∀ (v138 : BitVec 32) (k0_hw16 : k0_chk16 v138), ∀ a, (k0_off15 v138) a + S32x4096.size a ≤ S4096x4096.size a := fun v138 k0_hw16 => k0_hw16.1
theorem k0_off15_wordsi8 : ∀ (v138 : BitVec 32) (k0_hw16 : k0_chk16 v138), (Rect.unit (s := S4096x4096) (k0_off15 v138) S32x4096.size (k0_off15_inb v138 k0_hw16)).WholeWords (EltTy.packing .i8) := fun v138 k0_hw16 => k0_hw16.2 (k0_off15_inb v138 k0_hw16)

def k0_chk15 (v141 : BitVec 32) : Prop :=
  (∀ a, (k0_off14 v141) a + S32x4096.size a ≤ S4096x4096.size a) ∧
  (∀ (hinb : ∀ a, (k0_off14 v141) a + S32x4096.size a ≤ S4096x4096.size a), (Rect.unit (s := S4096x4096) (k0_off14 v141) S32x4096.size hinb).WholeWords (EltTy.packing .i8))
theorem k0_off14_inb : ∀ (v141 : BitVec 32) (k0_hw15 : k0_chk15 v141), ∀ a, (k0_off14 v141) a + S32x4096.size a ≤ S4096x4096.size a := fun v141 k0_hw15 => k0_hw15.1
theorem k0_off14_wordsi8 : ∀ (v141 : BitVec 32) (k0_hw15 : k0_chk15 v141), (Rect.unit (s := S4096x4096) (k0_off14 v141) S32x4096.size (k0_off14_inb v141 k0_hw15)).WholeWords (EltTy.packing .i8) := fun v141 k0_hw15 => k0_hw15.2 (k0_off14_inb v141 k0_hw15)

def k0_off16 (v153 : BitVec 32) : Fin 2 → Nat :=
  let c128_i32_151 : BitVec 32 := 128#32
  let v154 : BitVec 32 := Scalar.muli v153 c128_i32_151
  let c0_i32_152 : BitVec 32 := 0#32
  let v155 : BitVec 32 := Scalar.addi v154 c0_i32_152
  let c0_i32_159 : BitVec 32 := 0#32
  ![v155.toNat, 0]

def k0_off17 (v150 : BitVec 32) : Fin 2 → Nat :=
  let c128_i32_148 : BitVec 32 := 128#32
  let v151 : BitVec 32 := Scalar.muli v150 c128_i32_148
  let c0_i32_149 : BitVec 32 := 0#32
  let v152 : BitVec 32 := Scalar.addi v151 c0_i32_149
  let c0_i32_160 : BitVec 32 := 0#32
  ![v152.toNat, 0]

def k0_chk18 (v150 : BitVec 32) : Prop :=
  (∀ a, (k0_off17 v150) a + S32x4096.size a ≤ S4096x4096.size a) ∧
  (∀ (hinb : ∀ a, (k0_off17 v150) a + S32x4096.size a ≤ S4096x4096.size a), (Rect.unit (s := S4096x4096) (k0_off17 v150) S32x4096.size hinb).WholeWords (EltTy.packing .i8))
theorem k0_off17_inb : ∀ (v150 : BitVec 32) (k0_hw18 : k0_chk18 v150), ∀ a, (k0_off17 v150) a + S32x4096.size a ≤ S4096x4096.size a := fun v150 k0_hw18 => k0_hw18.1
theorem k0_off17_wordsi8 : ∀ (v150 : BitVec 32) (k0_hw18 : k0_chk18 v150), (Rect.unit (s := S4096x4096) (k0_off17 v150) S32x4096.size (k0_off17_inb v150 k0_hw18)).WholeWords (EltTy.packing .i8) := fun v150 k0_hw18 => k0_hw18.2 (k0_off17_inb v150 k0_hw18)

def k0_chk17 (v153 : BitVec 32) : Prop :=
  (∀ a, (k0_off16 v153) a + S32x4096.size a ≤ S4096x4096.size a) ∧
  (∀ (hinb : ∀ a, (k0_off16 v153) a + S32x4096.size a ≤ S4096x4096.size a), (Rect.unit (s := S4096x4096) (k0_off16 v153) S32x4096.size hinb).WholeWords (EltTy.packing .i8))
theorem k0_off16_inb : ∀ (v153 : BitVec 32) (k0_hw17 : k0_chk17 v153), ∀ a, (k0_off16 v153) a + S32x4096.size a ≤ S4096x4096.size a := fun v153 k0_hw17 => k0_hw17.1
theorem k0_off16_wordsi8 : ∀ (v153 : BitVec 32) (k0_hw17 : k0_chk17 v153), (Rect.unit (s := S4096x4096) (k0_off16 v153) S32x4096.size (k0_off16_inb v153 k0_hw17)).WholeWords (EltTy.packing .i8) := fun v153 k0_hw17 => k0_hw17.2 (k0_off16_inb v153 k0_hw17)

def k0_dev12 (v4 : BitVec 32) : Nat :=
  let c0_i32_158 : BitVec 32 := 0#32
  let c1_i32_157 : BitVec 32 := 1#32
  let v156 : BitVec 32 := Scalar.muli v4 c1_i32_157
  let v157 : BitVec 32 := Scalar.addi c0_i32_158 v156
  v157.toNat
def k0_off18 (v167 : BitVec 32) : Fin 2 → Nat :=
  let c128_i32_165 : BitVec 32 := 128#32
  let v168 : BitVec 32 := Scalar.muli v167 c128_i32_165
  let c32_i32_166 : BitVec 32 := 32#32
  let v169 : BitVec 32 := Scalar.addi v168 c32_i32_166
  let c0_i32_173 : BitVec 32 := 0#32
  ![v169.toNat, 0]

def k0_off19 (v164 : BitVec 32) : Fin 2 → Nat :=
  let c128_i32_162 : BitVec 32 := 128#32
  let v165 : BitVec 32 := Scalar.muli v164 c128_i32_162
  let c32_i32_163 : BitVec 32 := 32#32
  let v166 : BitVec 32 := Scalar.addi v165 c32_i32_163
  let c0_i32_174 : BitVec 32 := 0#32
  ![v166.toNat, 0]

def k0_chk20 (v164 : BitVec 32) : Prop :=
  (∀ a, (k0_off19 v164) a + S32x4096.size a ≤ S4096x4096.size a) ∧
  (∀ (hinb : ∀ a, (k0_off19 v164) a + S32x4096.size a ≤ S4096x4096.size a), (Rect.unit (s := S4096x4096) (k0_off19 v164) S32x4096.size hinb).WholeWords (EltTy.packing .i8))
theorem k0_off19_inb : ∀ (v164 : BitVec 32) (k0_hw20 : k0_chk20 v164), ∀ a, (k0_off19 v164) a + S32x4096.size a ≤ S4096x4096.size a := fun v164 k0_hw20 => k0_hw20.1
theorem k0_off19_wordsi8 : ∀ (v164 : BitVec 32) (k0_hw20 : k0_chk20 v164), (Rect.unit (s := S4096x4096) (k0_off19 v164) S32x4096.size (k0_off19_inb v164 k0_hw20)).WholeWords (EltTy.packing .i8) := fun v164 k0_hw20 => k0_hw20.2 (k0_off19_inb v164 k0_hw20)

def k0_chk19 (v167 : BitVec 32) : Prop :=
  (∀ a, (k0_off18 v167) a + S32x4096.size a ≤ S4096x4096.size a) ∧
  (∀ (hinb : ∀ a, (k0_off18 v167) a + S32x4096.size a ≤ S4096x4096.size a), (Rect.unit (s := S4096x4096) (k0_off18 v167) S32x4096.size hinb).WholeWords (EltTy.packing .i8))
theorem k0_off18_inb : ∀ (v167 : BitVec 32) (k0_hw19 : k0_chk19 v167), ∀ a, (k0_off18 v167) a + S32x4096.size a ≤ S4096x4096.size a := fun v167 k0_hw19 => k0_hw19.1
theorem k0_off18_wordsi8 : ∀ (v167 : BitVec 32) (k0_hw19 : k0_chk19 v167), (Rect.unit (s := S4096x4096) (k0_off18 v167) S32x4096.size (k0_off18_inb v167 k0_hw19)).WholeWords (EltTy.packing .i8) := fun v167 k0_hw19 => k0_hw19.2 (k0_off18_inb v167 k0_hw19)

def k0_off20 (v179 : BitVec 32) : Fin 2 → Nat :=
  let c128_i32_179 : BitVec 32 := 128#32
  let v180 : BitVec 32 := Scalar.muli v179 c128_i32_179
  let c32_i32_180 : BitVec 32 := 32#32
  let v181 : BitVec 32 := Scalar.addi v180 c32_i32_180
  let c0_i32_187 : BitVec 32 := 0#32
  ![v181.toNat, 0]

def k0_off21 (v176 : BitVec 32) : Fin 2 → Nat :=
  let c128_i32_176 : BitVec 32 := 128#32
  let v177 : BitVec 32 := Scalar.muli v176 c128_i32_176
  let c32_i32_177 : BitVec 32 := 32#32
  let v178 : BitVec 32 := Scalar.addi v177 c32_i32_177
  let c0_i32_188 : BitVec 32 := 0#32
  ![v178.toNat, 0]

def k0_chk22 (v176 : BitVec 32) : Prop :=
  (∀ a, (k0_off21 v176) a + S32x4096.size a ≤ S4096x4096.size a) ∧
  (∀ (hinb : ∀ a, (k0_off21 v176) a + S32x4096.size a ≤ S4096x4096.size a), (Rect.unit (s := S4096x4096) (k0_off21 v176) S32x4096.size hinb).WholeWords (EltTy.packing .i8))
theorem k0_off21_inb : ∀ (v176 : BitVec 32) (k0_hw22 : k0_chk22 v176), ∀ a, (k0_off21 v176) a + S32x4096.size a ≤ S4096x4096.size a := fun v176 k0_hw22 => k0_hw22.1
theorem k0_off21_wordsi8 : ∀ (v176 : BitVec 32) (k0_hw22 : k0_chk22 v176), (Rect.unit (s := S4096x4096) (k0_off21 v176) S32x4096.size (k0_off21_inb v176 k0_hw22)).WholeWords (EltTy.packing .i8) := fun v176 k0_hw22 => k0_hw22.2 (k0_off21_inb v176 k0_hw22)

def k0_chk21 (v179 : BitVec 32) : Prop :=
  (∀ a, (k0_off20 v179) a + S32x4096.size a ≤ S4096x4096.size a) ∧
  (∀ (hinb : ∀ a, (k0_off20 v179) a + S32x4096.size a ≤ S4096x4096.size a), (Rect.unit (s := S4096x4096) (k0_off20 v179) S32x4096.size hinb).WholeWords (EltTy.packing .i8))
theorem k0_off20_inb : ∀ (v179 : BitVec 32) (k0_hw21 : k0_chk21 v179), ∀ a, (k0_off20 v179) a + S32x4096.size a ≤ S4096x4096.size a := fun v179 k0_hw21 => k0_hw21.1
theorem k0_off20_wordsi8 : ∀ (v179 : BitVec 32) (k0_hw21 : k0_chk21 v179), (Rect.unit (s := S4096x4096) (k0_off20 v179) S32x4096.size (k0_off20_inb v179 k0_hw21)).WholeWords (EltTy.packing .i8) := fun v179 k0_hw21 => k0_hw21.2 (k0_off20_inb v179 k0_hw21)

def k0_dev13 (v3 : BitVec 32) : Nat :=
  let c0_i32_186 : BitVec 32 := 0#32
  let c1_i32_185 : BitVec 32 := 1#32
  let v182 : BitVec 32 := Scalar.muli v3 c1_i32_185
  let v183 : BitVec 32 := Scalar.addi c0_i32_186 v182
  v183.toNat
def k0_off22 (v193 : BitVec 32) : Fin 2 → Nat :=
  let c128_i32_193 : BitVec 32 := 128#32
  let v194 : BitVec 32 := Scalar.muli v193 c128_i32_193
  let c32_i32_194 : BitVec 32 := 32#32
  let v195 : BitVec 32 := Scalar.addi v194 c32_i32_194
  let c0_i32_201 : BitVec 32 := 0#32
  ![v195.toNat, 0]

def k0_off23 (v190 : BitVec 32) : Fin 2 → Nat :=
  let c128_i32_190 : BitVec 32 := 128#32
  let v191 : BitVec 32 := Scalar.muli v190 c128_i32_190
  let c32_i32_191 : BitVec 32 := 32#32
  let v192 : BitVec 32 := Scalar.addi v191 c32_i32_191
  let c0_i32_202 : BitVec 32 := 0#32
  ![v192.toNat, 0]

def k0_chk24 (v190 : BitVec 32) : Prop :=
  (∀ a, (k0_off23 v190) a + S32x4096.size a ≤ S4096x4096.size a) ∧
  (∀ (hinb : ∀ a, (k0_off23 v190) a + S32x4096.size a ≤ S4096x4096.size a), (Rect.unit (s := S4096x4096) (k0_off23 v190) S32x4096.size hinb).WholeWords (EltTy.packing .i8))
theorem k0_off23_inb : ∀ (v190 : BitVec 32) (k0_hw24 : k0_chk24 v190), ∀ a, (k0_off23 v190) a + S32x4096.size a ≤ S4096x4096.size a := fun v190 k0_hw24 => k0_hw24.1
theorem k0_off23_wordsi8 : ∀ (v190 : BitVec 32) (k0_hw24 : k0_chk24 v190), (Rect.unit (s := S4096x4096) (k0_off23 v190) S32x4096.size (k0_off23_inb v190 k0_hw24)).WholeWords (EltTy.packing .i8) := fun v190 k0_hw24 => k0_hw24.2 (k0_off23_inb v190 k0_hw24)

def k0_chk23 (v193 : BitVec 32) : Prop :=
  (∀ a, (k0_off22 v193) a + S32x4096.size a ≤ S4096x4096.size a) ∧
  (∀ (hinb : ∀ a, (k0_off22 v193) a + S32x4096.size a ≤ S4096x4096.size a), (Rect.unit (s := S4096x4096) (k0_off22 v193) S32x4096.size hinb).WholeWords (EltTy.packing .i8))
theorem k0_off22_inb : ∀ (v193 : BitVec 32) (k0_hw23 : k0_chk23 v193), ∀ a, (k0_off22 v193) a + S32x4096.size a ≤ S4096x4096.size a := fun v193 k0_hw23 => k0_hw23.1
theorem k0_off22_wordsi8 : ∀ (v193 : BitVec 32) (k0_hw23 : k0_chk23 v193), (Rect.unit (s := S4096x4096) (k0_off22 v193) S32x4096.size (k0_off22_inb v193 k0_hw23)).WholeWords (EltTy.packing .i8) := fun v193 k0_hw23 => k0_hw23.2 (k0_off22_inb v193 k0_hw23)

def k0_off24 (v205 : BitVec 32) : Fin 2 → Nat :=
  let c128_i32_207 : BitVec 32 := 128#32
  let v206 : BitVec 32 := Scalar.muli v205 c128_i32_207
  let c32_i32_208 : BitVec 32 := 32#32
  let v207 : BitVec 32 := Scalar.addi v206 c32_i32_208
  let c0_i32_215 : BitVec 32 := 0#32
  ![v207.toNat, 0]

def k0_off25 (v202 : BitVec 32) : Fin 2 → Nat :=
  let c128_i32_204 : BitVec 32 := 128#32
  let v203 : BitVec 32 := Scalar.muli v202 c128_i32_204
  let c32_i32_205 : BitVec 32 := 32#32
  let v204 : BitVec 32 := Scalar.addi v203 c32_i32_205
  let c0_i32_216 : BitVec 32 := 0#32
  ![v204.toNat, 0]

def k0_chk26 (v202 : BitVec 32) : Prop :=
  (∀ a, (k0_off25 v202) a + S32x4096.size a ≤ S4096x4096.size a) ∧
  (∀ (hinb : ∀ a, (k0_off25 v202) a + S32x4096.size a ≤ S4096x4096.size a), (Rect.unit (s := S4096x4096) (k0_off25 v202) S32x4096.size hinb).WholeWords (EltTy.packing .i8))
theorem k0_off25_inb : ∀ (v202 : BitVec 32) (k0_hw26 : k0_chk26 v202), ∀ a, (k0_off25 v202) a + S32x4096.size a ≤ S4096x4096.size a := fun v202 k0_hw26 => k0_hw26.1
theorem k0_off25_wordsi8 : ∀ (v202 : BitVec 32) (k0_hw26 : k0_chk26 v202), (Rect.unit (s := S4096x4096) (k0_off25 v202) S32x4096.size (k0_off25_inb v202 k0_hw26)).WholeWords (EltTy.packing .i8) := fun v202 k0_hw26 => k0_hw26.2 (k0_off25_inb v202 k0_hw26)

def k0_chk25 (v205 : BitVec 32) : Prop :=
  (∀ a, (k0_off24 v205) a + S32x4096.size a ≤ S4096x4096.size a) ∧
  (∀ (hinb : ∀ a, (k0_off24 v205) a + S32x4096.size a ≤ S4096x4096.size a), (Rect.unit (s := S4096x4096) (k0_off24 v205) S32x4096.size hinb).WholeWords (EltTy.packing .i8))
theorem k0_off24_inb : ∀ (v205 : BitVec 32) (k0_hw25 : k0_chk25 v205), ∀ a, (k0_off24 v205) a + S32x4096.size a ≤ S4096x4096.size a := fun v205 k0_hw25 => k0_hw25.1
theorem k0_off24_wordsi8 : ∀ (v205 : BitVec 32) (k0_hw25 : k0_chk25 v205), (Rect.unit (s := S4096x4096) (k0_off24 v205) S32x4096.size (k0_off24_inb v205 k0_hw25)).WholeWords (EltTy.packing .i8) := fun v205 k0_hw25 => k0_hw25.2 (k0_off24_inb v205 k0_hw25)

def k0_dev14 (v4 : BitVec 32) : Nat :=
  let c0_i32_214 : BitVec 32 := 0#32
  let c1_i32_213 : BitVec 32 := 1#32
  let v208 : BitVec 32 := Scalar.muli v4 c1_i32_213
  let v209 : BitVec 32 := Scalar.addi c0_i32_214 v208
  v209.toNat
def k0_off26 (v219 : BitVec 32) : Fin 2 → Nat :=
  let c128_i32_221 : BitVec 32 := 128#32
  let v220 : BitVec 32 := Scalar.muli v219 c128_i32_221
  let c64_i32_222 : BitVec 32 := 64#32
  let v221 : BitVec 32 := Scalar.addi v220 c64_i32_222
  let c0_i32_229 : BitVec 32 := 0#32
  ![v221.toNat, 0]

def k0_off27 (v216 : BitVec 32) : Fin 2 → Nat :=
  let c128_i32_218 : BitVec 32 := 128#32
  let v217 : BitVec 32 := Scalar.muli v216 c128_i32_218
  let c64_i32_219 : BitVec 32 := 64#32
  let v218 : BitVec 32 := Scalar.addi v217 c64_i32_219
  let c0_i32_230 : BitVec 32 := 0#32
  ![v218.toNat, 0]

def k0_chk28 (v216 : BitVec 32) : Prop :=
  (∀ a, (k0_off27 v216) a + S32x4096.size a ≤ S4096x4096.size a) ∧
  (∀ (hinb : ∀ a, (k0_off27 v216) a + S32x4096.size a ≤ S4096x4096.size a), (Rect.unit (s := S4096x4096) (k0_off27 v216) S32x4096.size hinb).WholeWords (EltTy.packing .i8))
theorem k0_off27_inb : ∀ (v216 : BitVec 32) (k0_hw28 : k0_chk28 v216), ∀ a, (k0_off27 v216) a + S32x4096.size a ≤ S4096x4096.size a := fun v216 k0_hw28 => k0_hw28.1
theorem k0_off27_wordsi8 : ∀ (v216 : BitVec 32) (k0_hw28 : k0_chk28 v216), (Rect.unit (s := S4096x4096) (k0_off27 v216) S32x4096.size (k0_off27_inb v216 k0_hw28)).WholeWords (EltTy.packing .i8) := fun v216 k0_hw28 => k0_hw28.2 (k0_off27_inb v216 k0_hw28)

def k0_chk27 (v219 : BitVec 32) : Prop :=
  (∀ a, (k0_off26 v219) a + S32x4096.size a ≤ S4096x4096.size a) ∧
  (∀ (hinb : ∀ a, (k0_off26 v219) a + S32x4096.size a ≤ S4096x4096.size a), (Rect.unit (s := S4096x4096) (k0_off26 v219) S32x4096.size hinb).WholeWords (EltTy.packing .i8))
theorem k0_off26_inb : ∀ (v219 : BitVec 32) (k0_hw27 : k0_chk27 v219), ∀ a, (k0_off26 v219) a + S32x4096.size a ≤ S4096x4096.size a := fun v219 k0_hw27 => k0_hw27.1
theorem k0_off26_wordsi8 : ∀ (v219 : BitVec 32) (k0_hw27 : k0_chk27 v219), (Rect.unit (s := S4096x4096) (k0_off26 v219) S32x4096.size (k0_off26_inb v219 k0_hw27)).WholeWords (EltTy.packing .i8) := fun v219 k0_hw27 => k0_hw27.2 (k0_off26_inb v219 k0_hw27)

def k0_off28 (v231 : BitVec 32) : Fin 2 → Nat :=
  let c128_i32_235 : BitVec 32 := 128#32
  let v232 : BitVec 32 := Scalar.muli v231 c128_i32_235
  let c64_i32_236 : BitVec 32 := 64#32
  let v233 : BitVec 32 := Scalar.addi v232 c64_i32_236
  let c0_i32_243 : BitVec 32 := 0#32
  ![v233.toNat, 0]

def k0_off29 (v228 : BitVec 32) : Fin 2 → Nat :=
  let c128_i32_232 : BitVec 32 := 128#32
  let v229 : BitVec 32 := Scalar.muli v228 c128_i32_232
  let c64_i32_233 : BitVec 32 := 64#32
  let v230 : BitVec 32 := Scalar.addi v229 c64_i32_233
  let c0_i32_244 : BitVec 32 := 0#32
  ![v230.toNat, 0]

def k0_chk30 (v228 : BitVec 32) : Prop :=
  (∀ a, (k0_off29 v228) a + S32x4096.size a ≤ S4096x4096.size a) ∧
  (∀ (hinb : ∀ a, (k0_off29 v228) a + S32x4096.size a ≤ S4096x4096.size a), (Rect.unit (s := S4096x4096) (k0_off29 v228) S32x4096.size hinb).WholeWords (EltTy.packing .i8))
theorem k0_off29_inb : ∀ (v228 : BitVec 32) (k0_hw30 : k0_chk30 v228), ∀ a, (k0_off29 v228) a + S32x4096.size a ≤ S4096x4096.size a := fun v228 k0_hw30 => k0_hw30.1
theorem k0_off29_wordsi8 : ∀ (v228 : BitVec 32) (k0_hw30 : k0_chk30 v228), (Rect.unit (s := S4096x4096) (k0_off29 v228) S32x4096.size (k0_off29_inb v228 k0_hw30)).WholeWords (EltTy.packing .i8) := fun v228 k0_hw30 => k0_hw30.2 (k0_off29_inb v228 k0_hw30)

def k0_chk29 (v231 : BitVec 32) : Prop :=
  (∀ a, (k0_off28 v231) a + S32x4096.size a ≤ S4096x4096.size a) ∧
  (∀ (hinb : ∀ a, (k0_off28 v231) a + S32x4096.size a ≤ S4096x4096.size a), (Rect.unit (s := S4096x4096) (k0_off28 v231) S32x4096.size hinb).WholeWords (EltTy.packing .i8))
theorem k0_off28_inb : ∀ (v231 : BitVec 32) (k0_hw29 : k0_chk29 v231), ∀ a, (k0_off28 v231) a + S32x4096.size a ≤ S4096x4096.size a := fun v231 k0_hw29 => k0_hw29.1
theorem k0_off28_wordsi8 : ∀ (v231 : BitVec 32) (k0_hw29 : k0_chk29 v231), (Rect.unit (s := S4096x4096) (k0_off28 v231) S32x4096.size (k0_off28_inb v231 k0_hw29)).WholeWords (EltTy.packing .i8) := fun v231 k0_hw29 => k0_hw29.2 (k0_off28_inb v231 k0_hw29)

def k0_dev15 (v3 : BitVec 32) : Nat :=
  let c0_i32_242 : BitVec 32 := 0#32
  let c1_i32_241 : BitVec 32 := 1#32
  let v234 : BitVec 32 := Scalar.muli v3 c1_i32_241
  let v235 : BitVec 32 := Scalar.addi c0_i32_242 v234
  v235.toNat
def k0_off30 (v245 : BitVec 32) : Fin 2 → Nat :=
  let c128_i32_249 : BitVec 32 := 128#32
  let v246 : BitVec 32 := Scalar.muli v245 c128_i32_249
  let c64_i32_250 : BitVec 32 := 64#32
  let v247 : BitVec 32 := Scalar.addi v246 c64_i32_250
  let c0_i32_257 : BitVec 32 := 0#32
  ![v247.toNat, 0]

def k0_off31 (v242 : BitVec 32) : Fin 2 → Nat :=
  let c128_i32_246 : BitVec 32 := 128#32
  let v243 : BitVec 32 := Scalar.muli v242 c128_i32_246
  let c64_i32_247 : BitVec 32 := 64#32
  let v244 : BitVec 32 := Scalar.addi v243 c64_i32_247
  let c0_i32_258 : BitVec 32 := 0#32
  ![v244.toNat, 0]

def k0_chk32 (v242 : BitVec 32) : Prop :=
  (∀ a, (k0_off31 v242) a + S32x4096.size a ≤ S4096x4096.size a) ∧
  (∀ (hinb : ∀ a, (k0_off31 v242) a + S32x4096.size a ≤ S4096x4096.size a), (Rect.unit (s := S4096x4096) (k0_off31 v242) S32x4096.size hinb).WholeWords (EltTy.packing .i8))
theorem k0_off31_inb : ∀ (v242 : BitVec 32) (k0_hw32 : k0_chk32 v242), ∀ a, (k0_off31 v242) a + S32x4096.size a ≤ S4096x4096.size a := fun v242 k0_hw32 => k0_hw32.1
theorem k0_off31_wordsi8 : ∀ (v242 : BitVec 32) (k0_hw32 : k0_chk32 v242), (Rect.unit (s := S4096x4096) (k0_off31 v242) S32x4096.size (k0_off31_inb v242 k0_hw32)).WholeWords (EltTy.packing .i8) := fun v242 k0_hw32 => k0_hw32.2 (k0_off31_inb v242 k0_hw32)

def k0_chk31 (v245 : BitVec 32) : Prop :=
  (∀ a, (k0_off30 v245) a + S32x4096.size a ≤ S4096x4096.size a) ∧
  (∀ (hinb : ∀ a, (k0_off30 v245) a + S32x4096.size a ≤ S4096x4096.size a), (Rect.unit (s := S4096x4096) (k0_off30 v245) S32x4096.size hinb).WholeWords (EltTy.packing .i8))
theorem k0_off30_inb : ∀ (v245 : BitVec 32) (k0_hw31 : k0_chk31 v245), ∀ a, (k0_off30 v245) a + S32x4096.size a ≤ S4096x4096.size a := fun v245 k0_hw31 => k0_hw31.1
theorem k0_off30_wordsi8 : ∀ (v245 : BitVec 32) (k0_hw31 : k0_chk31 v245), (Rect.unit (s := S4096x4096) (k0_off30 v245) S32x4096.size (k0_off30_inb v245 k0_hw31)).WholeWords (EltTy.packing .i8) := fun v245 k0_hw31 => k0_hw31.2 (k0_off30_inb v245 k0_hw31)

def k0_off32 (v257 : BitVec 32) : Fin 2 → Nat :=
  let c128_i32_263 : BitVec 32 := 128#32
  let v258 : BitVec 32 := Scalar.muli v257 c128_i32_263
  let c64_i32_264 : BitVec 32 := 64#32
  let v259 : BitVec 32 := Scalar.addi v258 c64_i32_264
  let c0_i32_271 : BitVec 32 := 0#32
  ![v259.toNat, 0]

def k0_off33 (v254 : BitVec 32) : Fin 2 → Nat :=
  let c128_i32_260 : BitVec 32 := 128#32
  let v255 : BitVec 32 := Scalar.muli v254 c128_i32_260
  let c64_i32_261 : BitVec 32 := 64#32
  let v256 : BitVec 32 := Scalar.addi v255 c64_i32_261
  let c0_i32_272 : BitVec 32 := 0#32
  ![v256.toNat, 0]

def k0_chk34 (v254 : BitVec 32) : Prop :=
  (∀ a, (k0_off33 v254) a + S32x4096.size a ≤ S4096x4096.size a) ∧
  (∀ (hinb : ∀ a, (k0_off33 v254) a + S32x4096.size a ≤ S4096x4096.size a), (Rect.unit (s := S4096x4096) (k0_off33 v254) S32x4096.size hinb).WholeWords (EltTy.packing .i8))
theorem k0_off33_inb : ∀ (v254 : BitVec 32) (k0_hw34 : k0_chk34 v254), ∀ a, (k0_off33 v254) a + S32x4096.size a ≤ S4096x4096.size a := fun v254 k0_hw34 => k0_hw34.1
theorem k0_off33_wordsi8 : ∀ (v254 : BitVec 32) (k0_hw34 : k0_chk34 v254), (Rect.unit (s := S4096x4096) (k0_off33 v254) S32x4096.size (k0_off33_inb v254 k0_hw34)).WholeWords (EltTy.packing .i8) := fun v254 k0_hw34 => k0_hw34.2 (k0_off33_inb v254 k0_hw34)

def k0_chk33 (v257 : BitVec 32) : Prop :=
  (∀ a, (k0_off32 v257) a + S32x4096.size a ≤ S4096x4096.size a) ∧
  (∀ (hinb : ∀ a, (k0_off32 v257) a + S32x4096.size a ≤ S4096x4096.size a), (Rect.unit (s := S4096x4096) (k0_off32 v257) S32x4096.size hinb).WholeWords (EltTy.packing .i8))
theorem k0_off32_inb : ∀ (v257 : BitVec 32) (k0_hw33 : k0_chk33 v257), ∀ a, (k0_off32 v257) a + S32x4096.size a ≤ S4096x4096.size a := fun v257 k0_hw33 => k0_hw33.1
theorem k0_off32_wordsi8 : ∀ (v257 : BitVec 32) (k0_hw33 : k0_chk33 v257), (Rect.unit (s := S4096x4096) (k0_off32 v257) S32x4096.size (k0_off32_inb v257 k0_hw33)).WholeWords (EltTy.packing .i8) := fun v257 k0_hw33 => k0_hw33.2 (k0_off32_inb v257 k0_hw33)

def k0_dev16 (v4 : BitVec 32) : Nat :=
  let c0_i32_270 : BitVec 32 := 0#32
  let c1_i32_269 : BitVec 32 := 1#32
  let v260 : BitVec 32 := Scalar.muli v4 c1_i32_269
  let v261 : BitVec 32 := Scalar.addi c0_i32_270 v260
  v261.toNat
def k0_off34 (v271 : BitVec 32) : Fin 2 → Nat :=
  let c128_i32_277 : BitVec 32 := 128#32
  let v272 : BitVec 32 := Scalar.muli v271 c128_i32_277
  let c96_i32_278 : BitVec 32 := 96#32
  let v273 : BitVec 32 := Scalar.addi v272 c96_i32_278
  let c0_i32_285 : BitVec 32 := 0#32
  ![v273.toNat, 0]

def k0_off35 (v268 : BitVec 32) : Fin 2 → Nat :=
  let c128_i32_274 : BitVec 32 := 128#32
  let v269 : BitVec 32 := Scalar.muli v268 c128_i32_274
  let c96_i32_275 : BitVec 32 := 96#32
  let v270 : BitVec 32 := Scalar.addi v269 c96_i32_275
  let c0_i32_286 : BitVec 32 := 0#32
  ![v270.toNat, 0]

def k0_chk36 (v268 : BitVec 32) : Prop :=
  (∀ a, (k0_off35 v268) a + S32x4096.size a ≤ S4096x4096.size a) ∧
  (∀ (hinb : ∀ a, (k0_off35 v268) a + S32x4096.size a ≤ S4096x4096.size a), (Rect.unit (s := S4096x4096) (k0_off35 v268) S32x4096.size hinb).WholeWords (EltTy.packing .i8))
theorem k0_off35_inb : ∀ (v268 : BitVec 32) (k0_hw36 : k0_chk36 v268), ∀ a, (k0_off35 v268) a + S32x4096.size a ≤ S4096x4096.size a := fun v268 k0_hw36 => k0_hw36.1
theorem k0_off35_wordsi8 : ∀ (v268 : BitVec 32) (k0_hw36 : k0_chk36 v268), (Rect.unit (s := S4096x4096) (k0_off35 v268) S32x4096.size (k0_off35_inb v268 k0_hw36)).WholeWords (EltTy.packing .i8) := fun v268 k0_hw36 => k0_hw36.2 (k0_off35_inb v268 k0_hw36)

def k0_chk35 (v271 : BitVec 32) : Prop :=
  (∀ a, (k0_off34 v271) a + S32x4096.size a ≤ S4096x4096.size a) ∧
  (∀ (hinb : ∀ a, (k0_off34 v271) a + S32x4096.size a ≤ S4096x4096.size a), (Rect.unit (s := S4096x4096) (k0_off34 v271) S32x4096.size hinb).WholeWords (EltTy.packing .i8))
theorem k0_off34_inb : ∀ (v271 : BitVec 32) (k0_hw35 : k0_chk35 v271), ∀ a, (k0_off34 v271) a + S32x4096.size a ≤ S4096x4096.size a := fun v271 k0_hw35 => k0_hw35.1
theorem k0_off34_wordsi8 : ∀ (v271 : BitVec 32) (k0_hw35 : k0_chk35 v271), (Rect.unit (s := S4096x4096) (k0_off34 v271) S32x4096.size (k0_off34_inb v271 k0_hw35)).WholeWords (EltTy.packing .i8) := fun v271 k0_hw35 => k0_hw35.2 (k0_off34_inb v271 k0_hw35)

def k0_off36 (v283 : BitVec 32) : Fin 2 → Nat :=
  let c128_i32_291 : BitVec 32 := 128#32
  let v284 : BitVec 32 := Scalar.muli v283 c128_i32_291
  let c96_i32_292 : BitVec 32 := 96#32
  let v285 : BitVec 32 := Scalar.addi v284 c96_i32_292
  let c0_i32_299 : BitVec 32 := 0#32
  ![v285.toNat, 0]

def k0_off37 (v280 : BitVec 32) : Fin 2 → Nat :=
  let c128_i32_288 : BitVec 32 := 128#32
  let v281 : BitVec 32 := Scalar.muli v280 c128_i32_288
  let c96_i32_289 : BitVec 32 := 96#32
  let v282 : BitVec 32 := Scalar.addi v281 c96_i32_289
  let c0_i32_300 : BitVec 32 := 0#32
  ![v282.toNat, 0]

def k0_chk38 (v280 : BitVec 32) : Prop :=
  (∀ a, (k0_off37 v280) a + S32x4096.size a ≤ S4096x4096.size a) ∧
  (∀ (hinb : ∀ a, (k0_off37 v280) a + S32x4096.size a ≤ S4096x4096.size a), (Rect.unit (s := S4096x4096) (k0_off37 v280) S32x4096.size hinb).WholeWords (EltTy.packing .i8))
theorem k0_off37_inb : ∀ (v280 : BitVec 32) (k0_hw38 : k0_chk38 v280), ∀ a, (k0_off37 v280) a + S32x4096.size a ≤ S4096x4096.size a := fun v280 k0_hw38 => k0_hw38.1
theorem k0_off37_wordsi8 : ∀ (v280 : BitVec 32) (k0_hw38 : k0_chk38 v280), (Rect.unit (s := S4096x4096) (k0_off37 v280) S32x4096.size (k0_off37_inb v280 k0_hw38)).WholeWords (EltTy.packing .i8) := fun v280 k0_hw38 => k0_hw38.2 (k0_off37_inb v280 k0_hw38)

def k0_chk37 (v283 : BitVec 32) : Prop :=
  (∀ a, (k0_off36 v283) a + S32x4096.size a ≤ S4096x4096.size a) ∧
  (∀ (hinb : ∀ a, (k0_off36 v283) a + S32x4096.size a ≤ S4096x4096.size a), (Rect.unit (s := S4096x4096) (k0_off36 v283) S32x4096.size hinb).WholeWords (EltTy.packing .i8))
theorem k0_off36_inb : ∀ (v283 : BitVec 32) (k0_hw37 : k0_chk37 v283), ∀ a, (k0_off36 v283) a + S32x4096.size a ≤ S4096x4096.size a := fun v283 k0_hw37 => k0_hw37.1
theorem k0_off36_wordsi8 : ∀ (v283 : BitVec 32) (k0_hw37 : k0_chk37 v283), (Rect.unit (s := S4096x4096) (k0_off36 v283) S32x4096.size (k0_off36_inb v283 k0_hw37)).WholeWords (EltTy.packing .i8) := fun v283 k0_hw37 => k0_hw37.2 (k0_off36_inb v283 k0_hw37)

def k0_dev17 (v3 : BitVec 32) : Nat :=
  let c0_i32_298 : BitVec 32 := 0#32
  let c1_i32_297 : BitVec 32 := 1#32
  let v286 : BitVec 32 := Scalar.muli v3 c1_i32_297
  let v287 : BitVec 32 := Scalar.addi c0_i32_298 v286
  v287.toNat
def k0_off38 (v297 : BitVec 32) : Fin 2 → Nat :=
  let c128_i32_305 : BitVec 32 := 128#32
  let v298 : BitVec 32 := Scalar.muli v297 c128_i32_305
  let c96_i32_306 : BitVec 32 := 96#32
  let v299 : BitVec 32 := Scalar.addi v298 c96_i32_306
  let c0_i32_313 : BitVec 32 := 0#32
  ![v299.toNat, 0]

def k0_off39 (v294 : BitVec 32) : Fin 2 → Nat :=
  let c128_i32_302 : BitVec 32 := 128#32
  let v295 : BitVec 32 := Scalar.muli v294 c128_i32_302
  let c96_i32_303 : BitVec 32 := 96#32
  let v296 : BitVec 32 := Scalar.addi v295 c96_i32_303
  let c0_i32_314 : BitVec 32 := 0#32
  ![v296.toNat, 0]

def k0_chk40 (v294 : BitVec 32) : Prop :=
  (∀ a, (k0_off39 v294) a + S32x4096.size a ≤ S4096x4096.size a) ∧
  (∀ (hinb : ∀ a, (k0_off39 v294) a + S32x4096.size a ≤ S4096x4096.size a), (Rect.unit (s := S4096x4096) (k0_off39 v294) S32x4096.size hinb).WholeWords (EltTy.packing .i8))
theorem k0_off39_inb : ∀ (v294 : BitVec 32) (k0_hw40 : k0_chk40 v294), ∀ a, (k0_off39 v294) a + S32x4096.size a ≤ S4096x4096.size a := fun v294 k0_hw40 => k0_hw40.1
theorem k0_off39_wordsi8 : ∀ (v294 : BitVec 32) (k0_hw40 : k0_chk40 v294), (Rect.unit (s := S4096x4096) (k0_off39 v294) S32x4096.size (k0_off39_inb v294 k0_hw40)).WholeWords (EltTy.packing .i8) := fun v294 k0_hw40 => k0_hw40.2 (k0_off39_inb v294 k0_hw40)

def k0_chk39 (v297 : BitVec 32) : Prop :=
  (∀ a, (k0_off38 v297) a + S32x4096.size a ≤ S4096x4096.size a) ∧
  (∀ (hinb : ∀ a, (k0_off38 v297) a + S32x4096.size a ≤ S4096x4096.size a), (Rect.unit (s := S4096x4096) (k0_off38 v297) S32x4096.size hinb).WholeWords (EltTy.packing .i8))
theorem k0_off38_inb : ∀ (v297 : BitVec 32) (k0_hw39 : k0_chk39 v297), ∀ a, (k0_off38 v297) a + S32x4096.size a ≤ S4096x4096.size a := fun v297 k0_hw39 => k0_hw39.1
theorem k0_off38_wordsi8 : ∀ (v297 : BitVec 32) (k0_hw39 : k0_chk39 v297), (Rect.unit (s := S4096x4096) (k0_off38 v297) S32x4096.size (k0_off38_inb v297 k0_hw39)).WholeWords (EltTy.packing .i8) := fun v297 k0_hw39 => k0_hw39.2 (k0_off38_inb v297 k0_hw39)

def k0_off40 (v309 : BitVec 32) : Fin 2 → Nat :=
  let c128_i32_319 : BitVec 32 := 128#32
  let v310 : BitVec 32 := Scalar.muli v309 c128_i32_319
  let c96_i32_320 : BitVec 32 := 96#32
  let v311 : BitVec 32 := Scalar.addi v310 c96_i32_320
  let c0_i32_327 : BitVec 32 := 0#32
  ![v311.toNat, 0]

def k0_off41 (v306 : BitVec 32) : Fin 2 → Nat :=
  let c128_i32_316 : BitVec 32 := 128#32
  let v307 : BitVec 32 := Scalar.muli v306 c128_i32_316
  let c96_i32_317 : BitVec 32 := 96#32
  let v308 : BitVec 32 := Scalar.addi v307 c96_i32_317
  let c0_i32_328 : BitVec 32 := 0#32
  ![v308.toNat, 0]

def k0_chk42 (v306 : BitVec 32) : Prop :=
  (∀ a, (k0_off41 v306) a + S32x4096.size a ≤ S4096x4096.size a) ∧
  (∀ (hinb : ∀ a, (k0_off41 v306) a + S32x4096.size a ≤ S4096x4096.size a), (Rect.unit (s := S4096x4096) (k0_off41 v306) S32x4096.size hinb).WholeWords (EltTy.packing .i8))
theorem k0_off41_inb : ∀ (v306 : BitVec 32) (k0_hw42 : k0_chk42 v306), ∀ a, (k0_off41 v306) a + S32x4096.size a ≤ S4096x4096.size a := fun v306 k0_hw42 => k0_hw42.1
theorem k0_off41_wordsi8 : ∀ (v306 : BitVec 32) (k0_hw42 : k0_chk42 v306), (Rect.unit (s := S4096x4096) (k0_off41 v306) S32x4096.size (k0_off41_inb v306 k0_hw42)).WholeWords (EltTy.packing .i8) := fun v306 k0_hw42 => k0_hw42.2 (k0_off41_inb v306 k0_hw42)

def k0_chk41 (v309 : BitVec 32) : Prop :=
  (∀ a, (k0_off40 v309) a + S32x4096.size a ≤ S4096x4096.size a) ∧
  (∀ (hinb : ∀ a, (k0_off40 v309) a + S32x4096.size a ≤ S4096x4096.size a), (Rect.unit (s := S4096x4096) (k0_off40 v309) S32x4096.size hinb).WholeWords (EltTy.packing .i8))
theorem k0_off40_inb : ∀ (v309 : BitVec 32) (k0_hw41 : k0_chk41 v309), ∀ a, (k0_off40 v309) a + S32x4096.size a ≤ S4096x4096.size a := fun v309 k0_hw41 => k0_hw41.1
theorem k0_off40_wordsi8 : ∀ (v309 : BitVec 32) (k0_hw41 : k0_chk41 v309), (Rect.unit (s := S4096x4096) (k0_off40 v309) S32x4096.size (k0_off40_inb v309 k0_hw41)).WholeWords (EltTy.packing .i8) := fun v309 k0_hw41 => k0_hw41.2 (k0_off40_inb v309 k0_hw41)

def k0_dev18 (v4 : BitVec 32) : Nat :=
  let c0_i32_326 : BitVec 32 := 0#32
  let c1_i32_325 : BitVec 32 := 1#32
  let v312 : BitVec 32 := Scalar.muli v4 c1_i32_325
  let v313 : BitVec 32 := Scalar.addi c0_i32_326 v312
  v313.toNat
def k0_off42 (v321 : BitVec 32) : Fin 2 → Nat :=
  let c128_i32_331 : BitVec 32 := 128#32
  let v322 : BitVec 32 := Scalar.muli v321 c128_i32_331
  let v323 : Index := Scalar.indexCast v322
  let c0_332 : Index := 0#32
  ![v323.toNat, 0]

def k0_chk43 (v321 : BitVec 32) : Prop :=
  (∀ a, (k0_off42 v321) a + S128x4096.size a ≤ S4096x4096.size a)
theorem k0_off42_inb : ∀ (v321 : BitVec 32) (k0_hw43 : k0_chk43 v321), ∀ a, (k0_off42 v321) a + S128x4096.size a ≤ S4096x4096.size a := fun v321 k0_hw43 => k0_hw43

def k0_off43 (v320 : BitVec 32) : Fin 2 → Nat :=
  let c128_i32_336 : BitVec 32 := 128#32
  let v331 : BitVec 32 := Scalar.muli v320 c128_i32_336
  let v332 : Index := Scalar.indexCast v331
  let c0_337 : Index := 0#32
  ![v332.toNat, 0]

def k0_chk44 (v320 : BitVec 32) : Prop :=
  (∀ a, (k0_off43 v320) a + S128x64.size a ≤ S4096x64.size a)
theorem k0_off43_inb : ∀ (v320 : BitVec 32) (k0_hw44 : k0_chk44 v320), ∀ a, (k0_off43 v320) a + S128x64.size a ≤ S4096x64.size a := fun v320 k0_hw44 => k0_hw44

def k0_off44 (v335 : BitVec 32) : Fin 2 → Nat :=
  let c128_i32_340 : BitVec 32 := 128#32
  let v336 : BitVec 32 := Scalar.muli v335 c128_i32_340
  let v337 : Index := Scalar.indexCast v336
  let c0_341 : Index := 0#32
  ![v337.toNat, 0]

def k0_chk45 (v335 : BitVec 32) : Prop :=
  (∀ a, (k0_off44 v335) a + S128x4096.size a ≤ S4096x4096.size a)
theorem k0_off44_inb : ∀ (v335 : BitVec 32) (k0_hw45 : k0_chk45 v335), ∀ a, (k0_off44 v335) a + S128x4096.size a ≤ S4096x4096.size a := fun v335 k0_hw45 => k0_hw45

def k0_off45 (v334 : BitVec 32) : Fin 2 → Nat :=
  let c128_i32_345 : BitVec 32 := 128#32
  let v345 : BitVec 32 := Scalar.muli v334 c128_i32_345
  let v346 : Index := Scalar.indexCast v345
  let c0_346 : Index := 0#32
  ![v346.toNat, 0]

def k0_chk46 (v334 : BitVec 32) : Prop :=
  (∀ a, (k0_off45 v334) a + S128x64.size a ≤ S4096x64.size a)
theorem k0_off45_inb : ∀ (v334 : BitVec 32) (k0_hw46 : k0_chk46 v334), ∀ a, (k0_off45 v334) a + S128x64.size a ≤ S4096x64.size a := fun v334 k0_hw46 => k0_hw46

def k0_off46 (v351 : BitVec 32) : Fin 2 → Nat :=
  let c128_i32_351 : BitVec 32 := 128#32
  let v352 : BitVec 32 := Scalar.muli v351 c128_i32_351
  let c0_i32_352 : BitVec 32 := 0#32
  let v353 : BitVec 32 := Scalar.addi v352 c0_i32_352
  let c0_i32_359 : BitVec 32 := 0#32
  ![v353.toNat, 0]

def k0_off47 (v348 : BitVec 32) : Fin 2 → Nat :=
  let c128_i32_348 : BitVec 32 := 128#32
  let v349 : BitVec 32 := Scalar.muli v348 c128_i32_348
  let c0_i32_349 : BitVec 32 := 0#32
  let v350 : BitVec 32 := Scalar.addi v349 c0_i32_349
  let c0_i32_360 : BitVec 32 := 0#32
  ![v350.toNat, 0]

def k0_chk48 (v348 : BitVec 32) : Prop :=
  (∀ a, (k0_off47 v348) a + S32x4096.size a ≤ S4096x4096.size a) ∧
  (∀ (hinb : ∀ a, (k0_off47 v348) a + S32x4096.size a ≤ S4096x4096.size a), (Rect.unit (s := S4096x4096) (k0_off47 v348) S32x4096.size hinb).WholeWords (EltTy.packing .i8))
theorem k0_off47_inb : ∀ (v348 : BitVec 32) (k0_hw48 : k0_chk48 v348), ∀ a, (k0_off47 v348) a + S32x4096.size a ≤ S4096x4096.size a := fun v348 k0_hw48 => k0_hw48.1
theorem k0_off47_wordsi8 : ∀ (v348 : BitVec 32) (k0_hw48 : k0_chk48 v348), (Rect.unit (s := S4096x4096) (k0_off47 v348) S32x4096.size (k0_off47_inb v348 k0_hw48)).WholeWords (EltTy.packing .i8) := fun v348 k0_hw48 => k0_hw48.2 (k0_off47_inb v348 k0_hw48)

def k0_chk47 (v351 : BitVec 32) : Prop :=
  (∀ a, (k0_off46 v351) a + S32x4096.size a ≤ S4096x4096.size a) ∧
  (∀ (hinb : ∀ a, (k0_off46 v351) a + S32x4096.size a ≤ S4096x4096.size a), (Rect.unit (s := S4096x4096) (k0_off46 v351) S32x4096.size hinb).WholeWords (EltTy.packing .i8))
theorem k0_off46_inb : ∀ (v351 : BitVec 32) (k0_hw47 : k0_chk47 v351), ∀ a, (k0_off46 v351) a + S32x4096.size a ≤ S4096x4096.size a := fun v351 k0_hw47 => k0_hw47.1
theorem k0_off46_wordsi8 : ∀ (v351 : BitVec 32) (k0_hw47 : k0_chk47 v351), (Rect.unit (s := S4096x4096) (k0_off46 v351) S32x4096.size (k0_off46_inb v351 k0_hw47)).WholeWords (EltTy.packing .i8) := fun v351 k0_hw47 => k0_hw47.2 (k0_off46_inb v351 k0_hw47)

def k0_off48 (v363 : BitVec 32) : Fin 2 → Nat :=
  let c128_i32_364 : BitVec 32 := 128#32
  let v364 : BitVec 32 := Scalar.muli v363 c128_i32_364
  let c0_i32_365 : BitVec 32 := 0#32
  let v365 : BitVec 32 := Scalar.addi v364 c0_i32_365
  let c0_i32_372 : BitVec 32 := 0#32
  ![v365.toNat, 0]

def k0_off49 (v360 : BitVec 32) : Fin 2 → Nat :=
  let c128_i32_361 : BitVec 32 := 128#32
  let v361 : BitVec 32 := Scalar.muli v360 c128_i32_361
  let c0_i32_362 : BitVec 32 := 0#32
  let v362 : BitVec 32 := Scalar.addi v361 c0_i32_362
  let c0_i32_373 : BitVec 32 := 0#32
  ![v362.toNat, 0]

def k0_chk50 (v360 : BitVec 32) : Prop :=
  (∀ a, (k0_off49 v360) a + S32x4096.size a ≤ S4096x4096.size a) ∧
  (∀ (hinb : ∀ a, (k0_off49 v360) a + S32x4096.size a ≤ S4096x4096.size a), (Rect.unit (s := S4096x4096) (k0_off49 v360) S32x4096.size hinb).WholeWords (EltTy.packing .i8))
theorem k0_off49_inb : ∀ (v360 : BitVec 32) (k0_hw50 : k0_chk50 v360), ∀ a, (k0_off49 v360) a + S32x4096.size a ≤ S4096x4096.size a := fun v360 k0_hw50 => k0_hw50.1
theorem k0_off49_wordsi8 : ∀ (v360 : BitVec 32) (k0_hw50 : k0_chk50 v360), (Rect.unit (s := S4096x4096) (k0_off49 v360) S32x4096.size (k0_off49_inb v360 k0_hw50)).WholeWords (EltTy.packing .i8) := fun v360 k0_hw50 => k0_hw50.2 (k0_off49_inb v360 k0_hw50)

def k0_chk49 (v363 : BitVec 32) : Prop :=
  (∀ a, (k0_off48 v363) a + S32x4096.size a ≤ S4096x4096.size a) ∧
  (∀ (hinb : ∀ a, (k0_off48 v363) a + S32x4096.size a ≤ S4096x4096.size a), (Rect.unit (s := S4096x4096) (k0_off48 v363) S32x4096.size hinb).WholeWords (EltTy.packing .i8))
theorem k0_off48_inb : ∀ (v363 : BitVec 32) (k0_hw49 : k0_chk49 v363), ∀ a, (k0_off48 v363) a + S32x4096.size a ≤ S4096x4096.size a := fun v363 k0_hw49 => k0_hw49.1
theorem k0_off48_wordsi8 : ∀ (v363 : BitVec 32) (k0_hw49 : k0_chk49 v363), (Rect.unit (s := S4096x4096) (k0_off48 v363) S32x4096.size (k0_off48_inb v363 k0_hw49)).WholeWords (EltTy.packing .i8) := fun v363 k0_hw49 => k0_hw49.2 (k0_off48_inb v363 k0_hw49)

def k0_dev19 (v3 : BitVec 32) : Nat :=
  let c0_i32_371 : BitVec 32 := 0#32
  let c1_i32_370 : BitVec 32 := 1#32
  let v366 : BitVec 32 := Scalar.muli v3 c1_i32_370
  let v367 : BitVec 32 := Scalar.addi c0_i32_371 v366
  v367.toNat
def k0_off50 (v377 : BitVec 32) : Fin 2 → Nat :=
  let c128_i32_378 : BitVec 32 := 128#32
  let v378 : BitVec 32 := Scalar.muli v377 c128_i32_378
  let c0_i32_379 : BitVec 32 := 0#32
  let v379 : BitVec 32 := Scalar.addi v378 c0_i32_379
  let c0_i32_386 : BitVec 32 := 0#32
  ![v379.toNat, 0]

def k0_off51 (v374 : BitVec 32) : Fin 2 → Nat :=
  let c128_i32_375 : BitVec 32 := 128#32
  let v375 : BitVec 32 := Scalar.muli v374 c128_i32_375
  let c0_i32_376 : BitVec 32 := 0#32
  let v376 : BitVec 32 := Scalar.addi v375 c0_i32_376
  let c0_i32_387 : BitVec 32 := 0#32
  ![v376.toNat, 0]

def k0_chk52 (v374 : BitVec 32) : Prop :=
  (∀ a, (k0_off51 v374) a + S32x4096.size a ≤ S4096x4096.size a) ∧
  (∀ (hinb : ∀ a, (k0_off51 v374) a + S32x4096.size a ≤ S4096x4096.size a), (Rect.unit (s := S4096x4096) (k0_off51 v374) S32x4096.size hinb).WholeWords (EltTy.packing .i8))
theorem k0_off51_inb : ∀ (v374 : BitVec 32) (k0_hw52 : k0_chk52 v374), ∀ a, (k0_off51 v374) a + S32x4096.size a ≤ S4096x4096.size a := fun v374 k0_hw52 => k0_hw52.1
theorem k0_off51_wordsi8 : ∀ (v374 : BitVec 32) (k0_hw52 : k0_chk52 v374), (Rect.unit (s := S4096x4096) (k0_off51 v374) S32x4096.size (k0_off51_inb v374 k0_hw52)).WholeWords (EltTy.packing .i8) := fun v374 k0_hw52 => k0_hw52.2 (k0_off51_inb v374 k0_hw52)

def k0_chk51 (v377 : BitVec 32) : Prop :=
  (∀ a, (k0_off50 v377) a + S32x4096.size a ≤ S4096x4096.size a) ∧
  (∀ (hinb : ∀ a, (k0_off50 v377) a + S32x4096.size a ≤ S4096x4096.size a), (Rect.unit (s := S4096x4096) (k0_off50 v377) S32x4096.size hinb).WholeWords (EltTy.packing .i8))
theorem k0_off50_inb : ∀ (v377 : BitVec 32) (k0_hw51 : k0_chk51 v377), ∀ a, (k0_off50 v377) a + S32x4096.size a ≤ S4096x4096.size a := fun v377 k0_hw51 => k0_hw51.1
theorem k0_off50_wordsi8 : ∀ (v377 : BitVec 32) (k0_hw51 : k0_chk51 v377), (Rect.unit (s := S4096x4096) (k0_off50 v377) S32x4096.size (k0_off50_inb v377 k0_hw51)).WholeWords (EltTy.packing .i8) := fun v377 k0_hw51 => k0_hw51.2 (k0_off50_inb v377 k0_hw51)

def k0_off52 (v389 : BitVec 32) : Fin 2 → Nat :=
  let c128_i32_392 : BitVec 32 := 128#32
  let v390 : BitVec 32 := Scalar.muli v389 c128_i32_392
  let c0_i32_393 : BitVec 32 := 0#32
  let v391 : BitVec 32 := Scalar.addi v390 c0_i32_393
  let c0_i32_400 : BitVec 32 := 0#32
  ![v391.toNat, 0]

def k0_off53 (v386 : BitVec 32) : Fin 2 → Nat :=
  let c128_i32_389 : BitVec 32 := 128#32
  let v387 : BitVec 32 := Scalar.muli v386 c128_i32_389
  let c0_i32_390 : BitVec 32 := 0#32
  let v388 : BitVec 32 := Scalar.addi v387 c0_i32_390
  let c0_i32_401 : BitVec 32 := 0#32
  ![v388.toNat, 0]

def k0_chk54 (v386 : BitVec 32) : Prop :=
  (∀ a, (k0_off53 v386) a + S32x4096.size a ≤ S4096x4096.size a) ∧
  (∀ (hinb : ∀ a, (k0_off53 v386) a + S32x4096.size a ≤ S4096x4096.size a), (Rect.unit (s := S4096x4096) (k0_off53 v386) S32x4096.size hinb).WholeWords (EltTy.packing .i8))
theorem k0_off53_inb : ∀ (v386 : BitVec 32) (k0_hw54 : k0_chk54 v386), ∀ a, (k0_off53 v386) a + S32x4096.size a ≤ S4096x4096.size a := fun v386 k0_hw54 => k0_hw54.1
theorem k0_off53_wordsi8 : ∀ (v386 : BitVec 32) (k0_hw54 : k0_chk54 v386), (Rect.unit (s := S4096x4096) (k0_off53 v386) S32x4096.size (k0_off53_inb v386 k0_hw54)).WholeWords (EltTy.packing .i8) := fun v386 k0_hw54 => k0_hw54.2 (k0_off53_inb v386 k0_hw54)

def k0_chk53 (v389 : BitVec 32) : Prop :=
  (∀ a, (k0_off52 v389) a + S32x4096.size a ≤ S4096x4096.size a) ∧
  (∀ (hinb : ∀ a, (k0_off52 v389) a + S32x4096.size a ≤ S4096x4096.size a), (Rect.unit (s := S4096x4096) (k0_off52 v389) S32x4096.size hinb).WholeWords (EltTy.packing .i8))
theorem k0_off52_inb : ∀ (v389 : BitVec 32) (k0_hw53 : k0_chk53 v389), ∀ a, (k0_off52 v389) a + S32x4096.size a ≤ S4096x4096.size a := fun v389 k0_hw53 => k0_hw53.1
theorem k0_off52_wordsi8 : ∀ (v389 : BitVec 32) (k0_hw53 : k0_chk53 v389), (Rect.unit (s := S4096x4096) (k0_off52 v389) S32x4096.size (k0_off52_inb v389 k0_hw53)).WholeWords (EltTy.packing .i8) := fun v389 k0_hw53 => k0_hw53.2 (k0_off52_inb v389 k0_hw53)

def k0_dev20 (v4 : BitVec 32) : Nat :=
  let c0_i32_399 : BitVec 32 := 0#32
  let c1_i32_398 : BitVec 32 := 1#32
  let v392 : BitVec 32 := Scalar.muli v4 c1_i32_398
  let v393 : BitVec 32 := Scalar.addi c0_i32_399 v392
  v393.toNat
def k0_off54 (v403 : BitVec 32) : Fin 2 → Nat :=
  let c128_i32_406 : BitVec 32 := 128#32
  let v404 : BitVec 32 := Scalar.muli v403 c128_i32_406
  let c32_i32_407 : BitVec 32 := 32#32
  let v405 : BitVec 32 := Scalar.addi v404 c32_i32_407
  let c0_i32_414 : BitVec 32 := 0#32
  ![v405.toNat, 0]

def k0_off55 (v400 : BitVec 32) : Fin 2 → Nat :=
  let c128_i32_403 : BitVec 32 := 128#32
  let v401 : BitVec 32 := Scalar.muli v400 c128_i32_403
  let c32_i32_404 : BitVec 32 := 32#32
  let v402 : BitVec 32 := Scalar.addi v401 c32_i32_404
  let c0_i32_415 : BitVec 32 := 0#32
  ![v402.toNat, 0]

def k0_chk56 (v400 : BitVec 32) : Prop :=
  (∀ a, (k0_off55 v400) a + S32x4096.size a ≤ S4096x4096.size a) ∧
  (∀ (hinb : ∀ a, (k0_off55 v400) a + S32x4096.size a ≤ S4096x4096.size a), (Rect.unit (s := S4096x4096) (k0_off55 v400) S32x4096.size hinb).WholeWords (EltTy.packing .i8))
theorem k0_off55_inb : ∀ (v400 : BitVec 32) (k0_hw56 : k0_chk56 v400), ∀ a, (k0_off55 v400) a + S32x4096.size a ≤ S4096x4096.size a := fun v400 k0_hw56 => k0_hw56.1
theorem k0_off55_wordsi8 : ∀ (v400 : BitVec 32) (k0_hw56 : k0_chk56 v400), (Rect.unit (s := S4096x4096) (k0_off55 v400) S32x4096.size (k0_off55_inb v400 k0_hw56)).WholeWords (EltTy.packing .i8) := fun v400 k0_hw56 => k0_hw56.2 (k0_off55_inb v400 k0_hw56)

def k0_chk55 (v403 : BitVec 32) : Prop :=
  (∀ a, (k0_off54 v403) a + S32x4096.size a ≤ S4096x4096.size a) ∧
  (∀ (hinb : ∀ a, (k0_off54 v403) a + S32x4096.size a ≤ S4096x4096.size a), (Rect.unit (s := S4096x4096) (k0_off54 v403) S32x4096.size hinb).WholeWords (EltTy.packing .i8))
theorem k0_off54_inb : ∀ (v403 : BitVec 32) (k0_hw55 : k0_chk55 v403), ∀ a, (k0_off54 v403) a + S32x4096.size a ≤ S4096x4096.size a := fun v403 k0_hw55 => k0_hw55.1
theorem k0_off54_wordsi8 : ∀ (v403 : BitVec 32) (k0_hw55 : k0_chk55 v403), (Rect.unit (s := S4096x4096) (k0_off54 v403) S32x4096.size (k0_off54_inb v403 k0_hw55)).WholeWords (EltTy.packing .i8) := fun v403 k0_hw55 => k0_hw55.2 (k0_off54_inb v403 k0_hw55)

def k0_off56 (v415 : BitVec 32) : Fin 2 → Nat :=
  let c128_i32_420 : BitVec 32 := 128#32
  let v416 : BitVec 32 := Scalar.muli v415 c128_i32_420
  let c32_i32_421 : BitVec 32 := 32#32
  let v417 : BitVec 32 := Scalar.addi v416 c32_i32_421
  let c0_i32_428 : BitVec 32 := 0#32
  ![v417.toNat, 0]

def k0_off57 (v412 : BitVec 32) : Fin 2 → Nat :=
  let c128_i32_417 : BitVec 32 := 128#32
  let v413 : BitVec 32 := Scalar.muli v412 c128_i32_417
  let c32_i32_418 : BitVec 32 := 32#32
  let v414 : BitVec 32 := Scalar.addi v413 c32_i32_418
  let c0_i32_429 : BitVec 32 := 0#32
  ![v414.toNat, 0]

def k0_chk58 (v412 : BitVec 32) : Prop :=
  (∀ a, (k0_off57 v412) a + S32x4096.size a ≤ S4096x4096.size a) ∧
  (∀ (hinb : ∀ a, (k0_off57 v412) a + S32x4096.size a ≤ S4096x4096.size a), (Rect.unit (s := S4096x4096) (k0_off57 v412) S32x4096.size hinb).WholeWords (EltTy.packing .i8))
theorem k0_off57_inb : ∀ (v412 : BitVec 32) (k0_hw58 : k0_chk58 v412), ∀ a, (k0_off57 v412) a + S32x4096.size a ≤ S4096x4096.size a := fun v412 k0_hw58 => k0_hw58.1
theorem k0_off57_wordsi8 : ∀ (v412 : BitVec 32) (k0_hw58 : k0_chk58 v412), (Rect.unit (s := S4096x4096) (k0_off57 v412) S32x4096.size (k0_off57_inb v412 k0_hw58)).WholeWords (EltTy.packing .i8) := fun v412 k0_hw58 => k0_hw58.2 (k0_off57_inb v412 k0_hw58)

def k0_chk57 (v415 : BitVec 32) : Prop :=
  (∀ a, (k0_off56 v415) a + S32x4096.size a ≤ S4096x4096.size a) ∧
  (∀ (hinb : ∀ a, (k0_off56 v415) a + S32x4096.size a ≤ S4096x4096.size a), (Rect.unit (s := S4096x4096) (k0_off56 v415) S32x4096.size hinb).WholeWords (EltTy.packing .i8))
theorem k0_off56_inb : ∀ (v415 : BitVec 32) (k0_hw57 : k0_chk57 v415), ∀ a, (k0_off56 v415) a + S32x4096.size a ≤ S4096x4096.size a := fun v415 k0_hw57 => k0_hw57.1
theorem k0_off56_wordsi8 : ∀ (v415 : BitVec 32) (k0_hw57 : k0_chk57 v415), (Rect.unit (s := S4096x4096) (k0_off56 v415) S32x4096.size (k0_off56_inb v415 k0_hw57)).WholeWords (EltTy.packing .i8) := fun v415 k0_hw57 => k0_hw57.2 (k0_off56_inb v415 k0_hw57)

def k0_dev21 (v3 : BitVec 32) : Nat :=
  let c0_i32_427 : BitVec 32 := 0#32
  let c1_i32_426 : BitVec 32 := 1#32
  let v418 : BitVec 32 := Scalar.muli v3 c1_i32_426
  let v419 : BitVec 32 := Scalar.addi c0_i32_427 v418
  v419.toNat
def k0_off58 (v429 : BitVec 32) : Fin 2 → Nat :=
  let c128_i32_434 : BitVec 32 := 128#32
  let v430 : BitVec 32 := Scalar.muli v429 c128_i32_434
  let c32_i32_435 : BitVec 32 := 32#32
  let v431 : BitVec 32 := Scalar.addi v430 c32_i32_435
  let c0_i32_442 : BitVec 32 := 0#32
  ![v431.toNat, 0]

def k0_off59 (v426 : BitVec 32) : Fin 2 → Nat :=
  let c128_i32_431 : BitVec 32 := 128#32
  let v427 : BitVec 32 := Scalar.muli v426 c128_i32_431
  let c32_i32_432 : BitVec 32 := 32#32
  let v428 : BitVec 32 := Scalar.addi v427 c32_i32_432
  let c0_i32_443 : BitVec 32 := 0#32
  ![v428.toNat, 0]

def k0_chk60 (v426 : BitVec 32) : Prop :=
  (∀ a, (k0_off59 v426) a + S32x4096.size a ≤ S4096x4096.size a) ∧
  (∀ (hinb : ∀ a, (k0_off59 v426) a + S32x4096.size a ≤ S4096x4096.size a), (Rect.unit (s := S4096x4096) (k0_off59 v426) S32x4096.size hinb).WholeWords (EltTy.packing .i8))
theorem k0_off59_inb : ∀ (v426 : BitVec 32) (k0_hw60 : k0_chk60 v426), ∀ a, (k0_off59 v426) a + S32x4096.size a ≤ S4096x4096.size a := fun v426 k0_hw60 => k0_hw60.1
theorem k0_off59_wordsi8 : ∀ (v426 : BitVec 32) (k0_hw60 : k0_chk60 v426), (Rect.unit (s := S4096x4096) (k0_off59 v426) S32x4096.size (k0_off59_inb v426 k0_hw60)).WholeWords (EltTy.packing .i8) := fun v426 k0_hw60 => k0_hw60.2 (k0_off59_inb v426 k0_hw60)

def k0_chk59 (v429 : BitVec 32) : Prop :=
  (∀ a, (k0_off58 v429) a + S32x4096.size a ≤ S4096x4096.size a) ∧
  (∀ (hinb : ∀ a, (k0_off58 v429) a + S32x4096.size a ≤ S4096x4096.size a), (Rect.unit (s := S4096x4096) (k0_off58 v429) S32x4096.size hinb).WholeWords (EltTy.packing .i8))
theorem k0_off58_inb : ∀ (v429 : BitVec 32) (k0_hw59 : k0_chk59 v429), ∀ a, (k0_off58 v429) a + S32x4096.size a ≤ S4096x4096.size a := fun v429 k0_hw59 => k0_hw59.1
theorem k0_off58_wordsi8 : ∀ (v429 : BitVec 32) (k0_hw59 : k0_chk59 v429), (Rect.unit (s := S4096x4096) (k0_off58 v429) S32x4096.size (k0_off58_inb v429 k0_hw59)).WholeWords (EltTy.packing .i8) := fun v429 k0_hw59 => k0_hw59.2 (k0_off58_inb v429 k0_hw59)

def k0_off60 (v441 : BitVec 32) : Fin 2 → Nat :=
  let c128_i32_448 : BitVec 32 := 128#32
  let v442 : BitVec 32 := Scalar.muli v441 c128_i32_448
  let c32_i32_449 : BitVec 32 := 32#32
  let v443 : BitVec 32 := Scalar.addi v442 c32_i32_449
  let c0_i32_456 : BitVec 32 := 0#32
  ![v443.toNat, 0]

def k0_off61 (v438 : BitVec 32) : Fin 2 → Nat :=
  let c128_i32_445 : BitVec 32 := 128#32
  let v439 : BitVec 32 := Scalar.muli v438 c128_i32_445
  let c32_i32_446 : BitVec 32 := 32#32
  let v440 : BitVec 32 := Scalar.addi v439 c32_i32_446
  let c0_i32_457 : BitVec 32 := 0#32
  ![v440.toNat, 0]

def k0_chk62 (v438 : BitVec 32) : Prop :=
  (∀ a, (k0_off61 v438) a + S32x4096.size a ≤ S4096x4096.size a) ∧
  (∀ (hinb : ∀ a, (k0_off61 v438) a + S32x4096.size a ≤ S4096x4096.size a), (Rect.unit (s := S4096x4096) (k0_off61 v438) S32x4096.size hinb).WholeWords (EltTy.packing .i8))
theorem k0_off61_inb : ∀ (v438 : BitVec 32) (k0_hw62 : k0_chk62 v438), ∀ a, (k0_off61 v438) a + S32x4096.size a ≤ S4096x4096.size a := fun v438 k0_hw62 => k0_hw62.1
theorem k0_off61_wordsi8 : ∀ (v438 : BitVec 32) (k0_hw62 : k0_chk62 v438), (Rect.unit (s := S4096x4096) (k0_off61 v438) S32x4096.size (k0_off61_inb v438 k0_hw62)).WholeWords (EltTy.packing .i8) := fun v438 k0_hw62 => k0_hw62.2 (k0_off61_inb v438 k0_hw62)

def k0_chk61 (v441 : BitVec 32) : Prop :=
  (∀ a, (k0_off60 v441) a + S32x4096.size a ≤ S4096x4096.size a) ∧
  (∀ (hinb : ∀ a, (k0_off60 v441) a + S32x4096.size a ≤ S4096x4096.size a), (Rect.unit (s := S4096x4096) (k0_off60 v441) S32x4096.size hinb).WholeWords (EltTy.packing .i8))
theorem k0_off60_inb : ∀ (v441 : BitVec 32) (k0_hw61 : k0_chk61 v441), ∀ a, (k0_off60 v441) a + S32x4096.size a ≤ S4096x4096.size a := fun v441 k0_hw61 => k0_hw61.1
theorem k0_off60_wordsi8 : ∀ (v441 : BitVec 32) (k0_hw61 : k0_chk61 v441), (Rect.unit (s := S4096x4096) (k0_off60 v441) S32x4096.size (k0_off60_inb v441 k0_hw61)).WholeWords (EltTy.packing .i8) := fun v441 k0_hw61 => k0_hw61.2 (k0_off60_inb v441 k0_hw61)

def k0_dev22 (v4 : BitVec 32) : Nat :=
  let c0_i32_455 : BitVec 32 := 0#32
  let c1_i32_454 : BitVec 32 := 1#32
  let v444 : BitVec 32 := Scalar.muli v4 c1_i32_454
  let v445 : BitVec 32 := Scalar.addi c0_i32_455 v444
  v445.toNat
def k0_off62 (v455 : BitVec 32) : Fin 2 → Nat :=
  let c128_i32_462 : BitVec 32 := 128#32
  let v456 : BitVec 32 := Scalar.muli v455 c128_i32_462
  let c64_i32_463 : BitVec 32 := 64#32
  let v457 : BitVec 32 := Scalar.addi v456 c64_i32_463
  let c0_i32_470 : BitVec 32 := 0#32
  ![v457.toNat, 0]

def k0_off63 (v452 : BitVec 32) : Fin 2 → Nat :=
  let c128_i32_459 : BitVec 32 := 128#32
  let v453 : BitVec 32 := Scalar.muli v452 c128_i32_459
  let c64_i32_460 : BitVec 32 := 64#32
  let v454 : BitVec 32 := Scalar.addi v453 c64_i32_460
  let c0_i32_471 : BitVec 32 := 0#32
  ![v454.toNat, 0]

def k0_chk64 (v452 : BitVec 32) : Prop :=
  (∀ a, (k0_off63 v452) a + S32x4096.size a ≤ S4096x4096.size a) ∧
  (∀ (hinb : ∀ a, (k0_off63 v452) a + S32x4096.size a ≤ S4096x4096.size a), (Rect.unit (s := S4096x4096) (k0_off63 v452) S32x4096.size hinb).WholeWords (EltTy.packing .i8))
theorem k0_off63_inb : ∀ (v452 : BitVec 32) (k0_hw64 : k0_chk64 v452), ∀ a, (k0_off63 v452) a + S32x4096.size a ≤ S4096x4096.size a := fun v452 k0_hw64 => k0_hw64.1
theorem k0_off63_wordsi8 : ∀ (v452 : BitVec 32) (k0_hw64 : k0_chk64 v452), (Rect.unit (s := S4096x4096) (k0_off63 v452) S32x4096.size (k0_off63_inb v452 k0_hw64)).WholeWords (EltTy.packing .i8) := fun v452 k0_hw64 => k0_hw64.2 (k0_off63_inb v452 k0_hw64)

def k0_chk63 (v455 : BitVec 32) : Prop :=
  (∀ a, (k0_off62 v455) a + S32x4096.size a ≤ S4096x4096.size a) ∧
  (∀ (hinb : ∀ a, (k0_off62 v455) a + S32x4096.size a ≤ S4096x4096.size a), (Rect.unit (s := S4096x4096) (k0_off62 v455) S32x4096.size hinb).WholeWords (EltTy.packing .i8))
theorem k0_off62_inb : ∀ (v455 : BitVec 32) (k0_hw63 : k0_chk63 v455), ∀ a, (k0_off62 v455) a + S32x4096.size a ≤ S4096x4096.size a := fun v455 k0_hw63 => k0_hw63.1
theorem k0_off62_wordsi8 : ∀ (v455 : BitVec 32) (k0_hw63 : k0_chk63 v455), (Rect.unit (s := S4096x4096) (k0_off62 v455) S32x4096.size (k0_off62_inb v455 k0_hw63)).WholeWords (EltTy.packing .i8) := fun v455 k0_hw63 => k0_hw63.2 (k0_off62_inb v455 k0_hw63)

def k0_off64 (v467 : BitVec 32) : Fin 2 → Nat :=
  let c128_i32_476 : BitVec 32 := 128#32
  let v468 : BitVec 32 := Scalar.muli v467 c128_i32_476
  let c64_i32_477 : BitVec 32 := 64#32
  let v469 : BitVec 32 := Scalar.addi v468 c64_i32_477
  let c0_i32_484 : BitVec 32 := 0#32
  ![v469.toNat, 0]

def k0_off65 (v464 : BitVec 32) : Fin 2 → Nat :=
  let c128_i32_473 : BitVec 32 := 128#32
  let v465 : BitVec 32 := Scalar.muli v464 c128_i32_473
  let c64_i32_474 : BitVec 32 := 64#32
  let v466 : BitVec 32 := Scalar.addi v465 c64_i32_474
  let c0_i32_485 : BitVec 32 := 0#32
  ![v466.toNat, 0]

def k0_chk66 (v464 : BitVec 32) : Prop :=
  (∀ a, (k0_off65 v464) a + S32x4096.size a ≤ S4096x4096.size a) ∧
  (∀ (hinb : ∀ a, (k0_off65 v464) a + S32x4096.size a ≤ S4096x4096.size a), (Rect.unit (s := S4096x4096) (k0_off65 v464) S32x4096.size hinb).WholeWords (EltTy.packing .i8))
theorem k0_off65_inb : ∀ (v464 : BitVec 32) (k0_hw66 : k0_chk66 v464), ∀ a, (k0_off65 v464) a + S32x4096.size a ≤ S4096x4096.size a := fun v464 k0_hw66 => k0_hw66.1
theorem k0_off65_wordsi8 : ∀ (v464 : BitVec 32) (k0_hw66 : k0_chk66 v464), (Rect.unit (s := S4096x4096) (k0_off65 v464) S32x4096.size (k0_off65_inb v464 k0_hw66)).WholeWords (EltTy.packing .i8) := fun v464 k0_hw66 => k0_hw66.2 (k0_off65_inb v464 k0_hw66)

def k0_chk65 (v467 : BitVec 32) : Prop :=
  (∀ a, (k0_off64 v467) a + S32x4096.size a ≤ S4096x4096.size a) ∧
  (∀ (hinb : ∀ a, (k0_off64 v467) a + S32x4096.size a ≤ S4096x4096.size a), (Rect.unit (s := S4096x4096) (k0_off64 v467) S32x4096.size hinb).WholeWords (EltTy.packing .i8))
theorem k0_off64_inb : ∀ (v467 : BitVec 32) (k0_hw65 : k0_chk65 v467), ∀ a, (k0_off64 v467) a + S32x4096.size a ≤ S4096x4096.size a := fun v467 k0_hw65 => k0_hw65.1
theorem k0_off64_wordsi8 : ∀ (v467 : BitVec 32) (k0_hw65 : k0_chk65 v467), (Rect.unit (s := S4096x4096) (k0_off64 v467) S32x4096.size (k0_off64_inb v467 k0_hw65)).WholeWords (EltTy.packing .i8) := fun v467 k0_hw65 => k0_hw65.2 (k0_off64_inb v467 k0_hw65)

def k0_dev23 (v3 : BitVec 32) : Nat :=
  let c0_i32_483 : BitVec 32 := 0#32
  let c1_i32_482 : BitVec 32 := 1#32
  let v470 : BitVec 32 := Scalar.muli v3 c1_i32_482
  let v471 : BitVec 32 := Scalar.addi c0_i32_483 v470
  v471.toNat
def k0_off66 (v481 : BitVec 32) : Fin 2 → Nat :=
  let c128_i32_490 : BitVec 32 := 128#32
  let v482 : BitVec 32 := Scalar.muli v481 c128_i32_490
  let c64_i32_491 : BitVec 32 := 64#32
  let v483 : BitVec 32 := Scalar.addi v482 c64_i32_491
  let c0_i32_498 : BitVec 32 := 0#32
  ![v483.toNat, 0]

def k0_off67 (v478 : BitVec 32) : Fin 2 → Nat :=
  let c128_i32_487 : BitVec 32 := 128#32
  let v479 : BitVec 32 := Scalar.muli v478 c128_i32_487
  let c64_i32_488 : BitVec 32 := 64#32
  let v480 : BitVec 32 := Scalar.addi v479 c64_i32_488
  let c0_i32_499 : BitVec 32 := 0#32
  ![v480.toNat, 0]

def k0_chk68 (v478 : BitVec 32) : Prop :=
  (∀ a, (k0_off67 v478) a + S32x4096.size a ≤ S4096x4096.size a) ∧
  (∀ (hinb : ∀ a, (k0_off67 v478) a + S32x4096.size a ≤ S4096x4096.size a), (Rect.unit (s := S4096x4096) (k0_off67 v478) S32x4096.size hinb).WholeWords (EltTy.packing .i8))
theorem k0_off67_inb : ∀ (v478 : BitVec 32) (k0_hw68 : k0_chk68 v478), ∀ a, (k0_off67 v478) a + S32x4096.size a ≤ S4096x4096.size a := fun v478 k0_hw68 => k0_hw68.1
theorem k0_off67_wordsi8 : ∀ (v478 : BitVec 32) (k0_hw68 : k0_chk68 v478), (Rect.unit (s := S4096x4096) (k0_off67 v478) S32x4096.size (k0_off67_inb v478 k0_hw68)).WholeWords (EltTy.packing .i8) := fun v478 k0_hw68 => k0_hw68.2 (k0_off67_inb v478 k0_hw68)

def k0_chk67 (v481 : BitVec 32) : Prop :=
  (∀ a, (k0_off66 v481) a + S32x4096.size a ≤ S4096x4096.size a) ∧
  (∀ (hinb : ∀ a, (k0_off66 v481) a + S32x4096.size a ≤ S4096x4096.size a), (Rect.unit (s := S4096x4096) (k0_off66 v481) S32x4096.size hinb).WholeWords (EltTy.packing .i8))
theorem k0_off66_inb : ∀ (v481 : BitVec 32) (k0_hw67 : k0_chk67 v481), ∀ a, (k0_off66 v481) a + S32x4096.size a ≤ S4096x4096.size a := fun v481 k0_hw67 => k0_hw67.1
theorem k0_off66_wordsi8 : ∀ (v481 : BitVec 32) (k0_hw67 : k0_chk67 v481), (Rect.unit (s := S4096x4096) (k0_off66 v481) S32x4096.size (k0_off66_inb v481 k0_hw67)).WholeWords (EltTy.packing .i8) := fun v481 k0_hw67 => k0_hw67.2 (k0_off66_inb v481 k0_hw67)

def k0_off68 (v493 : BitVec 32) : Fin 2 → Nat :=
  let c128_i32_504 : BitVec 32 := 128#32
  let v494 : BitVec 32 := Scalar.muli v493 c128_i32_504
  let c64_i32_505 : BitVec 32 := 64#32
  let v495 : BitVec 32 := Scalar.addi v494 c64_i32_505
  let c0_i32_512 : BitVec 32 := 0#32
  ![v495.toNat, 0]

def k0_off69 (v490 : BitVec 32) : Fin 2 → Nat :=
  let c128_i32_501 : BitVec 32 := 128#32
  let v491 : BitVec 32 := Scalar.muli v490 c128_i32_501
  let c64_i32_502 : BitVec 32 := 64#32
  let v492 : BitVec 32 := Scalar.addi v491 c64_i32_502
  let c0_i32_513 : BitVec 32 := 0#32
  ![v492.toNat, 0]

def k0_chk70 (v490 : BitVec 32) : Prop :=
  (∀ a, (k0_off69 v490) a + S32x4096.size a ≤ S4096x4096.size a) ∧
  (∀ (hinb : ∀ a, (k0_off69 v490) a + S32x4096.size a ≤ S4096x4096.size a), (Rect.unit (s := S4096x4096) (k0_off69 v490) S32x4096.size hinb).WholeWords (EltTy.packing .i8))
theorem k0_off69_inb : ∀ (v490 : BitVec 32) (k0_hw70 : k0_chk70 v490), ∀ a, (k0_off69 v490) a + S32x4096.size a ≤ S4096x4096.size a := fun v490 k0_hw70 => k0_hw70.1
theorem k0_off69_wordsi8 : ∀ (v490 : BitVec 32) (k0_hw70 : k0_chk70 v490), (Rect.unit (s := S4096x4096) (k0_off69 v490) S32x4096.size (k0_off69_inb v490 k0_hw70)).WholeWords (EltTy.packing .i8) := fun v490 k0_hw70 => k0_hw70.2 (k0_off69_inb v490 k0_hw70)

def k0_chk69 (v493 : BitVec 32) : Prop :=
  (∀ a, (k0_off68 v493) a + S32x4096.size a ≤ S4096x4096.size a) ∧
  (∀ (hinb : ∀ a, (k0_off68 v493) a + S32x4096.size a ≤ S4096x4096.size a), (Rect.unit (s := S4096x4096) (k0_off68 v493) S32x4096.size hinb).WholeWords (EltTy.packing .i8))
theorem k0_off68_inb : ∀ (v493 : BitVec 32) (k0_hw69 : k0_chk69 v493), ∀ a, (k0_off68 v493) a + S32x4096.size a ≤ S4096x4096.size a := fun v493 k0_hw69 => k0_hw69.1
theorem k0_off68_wordsi8 : ∀ (v493 : BitVec 32) (k0_hw69 : k0_chk69 v493), (Rect.unit (s := S4096x4096) (k0_off68 v493) S32x4096.size (k0_off68_inb v493 k0_hw69)).WholeWords (EltTy.packing .i8) := fun v493 k0_hw69 => k0_hw69.2 (k0_off68_inb v493 k0_hw69)

def k0_dev24 (v4 : BitVec 32) : Nat :=
  let c0_i32_511 : BitVec 32 := 0#32
  let c1_i32_510 : BitVec 32 := 1#32
  let v496 : BitVec 32 := Scalar.muli v4 c1_i32_510
  let v497 : BitVec 32 := Scalar.addi c0_i32_511 v496
  v497.toNat
def k0_off70 (v507 : BitVec 32) : Fin 2 → Nat :=
  let c128_i32_518 : BitVec 32 := 128#32
  let v508 : BitVec 32 := Scalar.muli v507 c128_i32_518
  let c96_i32_519 : BitVec 32 := 96#32
  let v509 : BitVec 32 := Scalar.addi v508 c96_i32_519
  let c0_i32_526 : BitVec 32 := 0#32
  ![v509.toNat, 0]

def k0_off71 (v504 : BitVec 32) : Fin 2 → Nat :=
  let c128_i32_515 : BitVec 32 := 128#32
  let v505 : BitVec 32 := Scalar.muli v504 c128_i32_515
  let c96_i32_516 : BitVec 32 := 96#32
  let v506 : BitVec 32 := Scalar.addi v505 c96_i32_516
  let c0_i32_527 : BitVec 32 := 0#32
  ![v506.toNat, 0]

def k0_chk72 (v504 : BitVec 32) : Prop :=
  (∀ a, (k0_off71 v504) a + S32x4096.size a ≤ S4096x4096.size a) ∧
  (∀ (hinb : ∀ a, (k0_off71 v504) a + S32x4096.size a ≤ S4096x4096.size a), (Rect.unit (s := S4096x4096) (k0_off71 v504) S32x4096.size hinb).WholeWords (EltTy.packing .i8))
theorem k0_off71_inb : ∀ (v504 : BitVec 32) (k0_hw72 : k0_chk72 v504), ∀ a, (k0_off71 v504) a + S32x4096.size a ≤ S4096x4096.size a := fun v504 k0_hw72 => k0_hw72.1
theorem k0_off71_wordsi8 : ∀ (v504 : BitVec 32) (k0_hw72 : k0_chk72 v504), (Rect.unit (s := S4096x4096) (k0_off71 v504) S32x4096.size (k0_off71_inb v504 k0_hw72)).WholeWords (EltTy.packing .i8) := fun v504 k0_hw72 => k0_hw72.2 (k0_off71_inb v504 k0_hw72)

def k0_chk71 (v507 : BitVec 32) : Prop :=
  (∀ a, (k0_off70 v507) a + S32x4096.size a ≤ S4096x4096.size a) ∧
  (∀ (hinb : ∀ a, (k0_off70 v507) a + S32x4096.size a ≤ S4096x4096.size a), (Rect.unit (s := S4096x4096) (k0_off70 v507) S32x4096.size hinb).WholeWords (EltTy.packing .i8))
theorem k0_off70_inb : ∀ (v507 : BitVec 32) (k0_hw71 : k0_chk71 v507), ∀ a, (k0_off70 v507) a + S32x4096.size a ≤ S4096x4096.size a := fun v507 k0_hw71 => k0_hw71.1
theorem k0_off70_wordsi8 : ∀ (v507 : BitVec 32) (k0_hw71 : k0_chk71 v507), (Rect.unit (s := S4096x4096) (k0_off70 v507) S32x4096.size (k0_off70_inb v507 k0_hw71)).WholeWords (EltTy.packing .i8) := fun v507 k0_hw71 => k0_hw71.2 (k0_off70_inb v507 k0_hw71)

def k0_off72 (v519 : BitVec 32) : Fin 2 → Nat :=
  let c128_i32_532 : BitVec 32 := 128#32
  let v520 : BitVec 32 := Scalar.muli v519 c128_i32_532
  let c96_i32_533 : BitVec 32 := 96#32
  let v521 : BitVec 32 := Scalar.addi v520 c96_i32_533
  let c0_i32_540 : BitVec 32 := 0#32
  ![v521.toNat, 0]

def k0_off73 (v516 : BitVec 32) : Fin 2 → Nat :=
  let c128_i32_529 : BitVec 32 := 128#32
  let v517 : BitVec 32 := Scalar.muli v516 c128_i32_529
  let c96_i32_530 : BitVec 32 := 96#32
  let v518 : BitVec 32 := Scalar.addi v517 c96_i32_530
  let c0_i32_541 : BitVec 32 := 0#32
  ![v518.toNat, 0]

def k0_chk74 (v516 : BitVec 32) : Prop :=
  (∀ a, (k0_off73 v516) a + S32x4096.size a ≤ S4096x4096.size a) ∧
  (∀ (hinb : ∀ a, (k0_off73 v516) a + S32x4096.size a ≤ S4096x4096.size a), (Rect.unit (s := S4096x4096) (k0_off73 v516) S32x4096.size hinb).WholeWords (EltTy.packing .i8))
theorem k0_off73_inb : ∀ (v516 : BitVec 32) (k0_hw74 : k0_chk74 v516), ∀ a, (k0_off73 v516) a + S32x4096.size a ≤ S4096x4096.size a := fun v516 k0_hw74 => k0_hw74.1
theorem k0_off73_wordsi8 : ∀ (v516 : BitVec 32) (k0_hw74 : k0_chk74 v516), (Rect.unit (s := S4096x4096) (k0_off73 v516) S32x4096.size (k0_off73_inb v516 k0_hw74)).WholeWords (EltTy.packing .i8) := fun v516 k0_hw74 => k0_hw74.2 (k0_off73_inb v516 k0_hw74)

def k0_chk73 (v519 : BitVec 32) : Prop :=
  (∀ a, (k0_off72 v519) a + S32x4096.size a ≤ S4096x4096.size a) ∧
  (∀ (hinb : ∀ a, (k0_off72 v519) a + S32x4096.size a ≤ S4096x4096.size a), (Rect.unit (s := S4096x4096) (k0_off72 v519) S32x4096.size hinb).WholeWords (EltTy.packing .i8))
theorem k0_off72_inb : ∀ (v519 : BitVec 32) (k0_hw73 : k0_chk73 v519), ∀ a, (k0_off72 v519) a + S32x4096.size a ≤ S4096x4096.size a := fun v519 k0_hw73 => k0_hw73.1
theorem k0_off72_wordsi8 : ∀ (v519 : BitVec 32) (k0_hw73 : k0_chk73 v519), (Rect.unit (s := S4096x4096) (k0_off72 v519) S32x4096.size (k0_off72_inb v519 k0_hw73)).WholeWords (EltTy.packing .i8) := fun v519 k0_hw73 => k0_hw73.2 (k0_off72_inb v519 k0_hw73)

def k0_dev25 (v3 : BitVec 32) : Nat :=
  let c0_i32_539 : BitVec 32 := 0#32
  let c1_i32_538 : BitVec 32 := 1#32
  let v522 : BitVec 32 := Scalar.muli v3 c1_i32_538
  let v523 : BitVec 32 := Scalar.addi c0_i32_539 v522
  v523.toNat
def k0_off74 (v533 : BitVec 32) : Fin 2 → Nat :=
  let c128_i32_546 : BitVec 32 := 128#32
  let v534 : BitVec 32 := Scalar.muli v533 c128_i32_546
  let c96_i32_547 : BitVec 32 := 96#32
  let v535 : BitVec 32 := Scalar.addi v534 c96_i32_547
  let c0_i32_554 : BitVec 32 := 0#32
  ![v535.toNat, 0]

def k0_off75 (v530 : BitVec 32) : Fin 2 → Nat :=
  let c128_i32_543 : BitVec 32 := 128#32
  let v531 : BitVec 32 := Scalar.muli v530 c128_i32_543
  let c96_i32_544 : BitVec 32 := 96#32
  let v532 : BitVec 32 := Scalar.addi v531 c96_i32_544
  let c0_i32_555 : BitVec 32 := 0#32
  ![v532.toNat, 0]

def k0_chk76 (v530 : BitVec 32) : Prop :=
  (∀ a, (k0_off75 v530) a + S32x4096.size a ≤ S4096x4096.size a) ∧
  (∀ (hinb : ∀ a, (k0_off75 v530) a + S32x4096.size a ≤ S4096x4096.size a), (Rect.unit (s := S4096x4096) (k0_off75 v530) S32x4096.size hinb).WholeWords (EltTy.packing .i8))
theorem k0_off75_inb : ∀ (v530 : BitVec 32) (k0_hw76 : k0_chk76 v530), ∀ a, (k0_off75 v530) a + S32x4096.size a ≤ S4096x4096.size a := fun v530 k0_hw76 => k0_hw76.1
theorem k0_off75_wordsi8 : ∀ (v530 : BitVec 32) (k0_hw76 : k0_chk76 v530), (Rect.unit (s := S4096x4096) (k0_off75 v530) S32x4096.size (k0_off75_inb v530 k0_hw76)).WholeWords (EltTy.packing .i8) := fun v530 k0_hw76 => k0_hw76.2 (k0_off75_inb v530 k0_hw76)

def k0_chk75 (v533 : BitVec 32) : Prop :=
  (∀ a, (k0_off74 v533) a + S32x4096.size a ≤ S4096x4096.size a) ∧
  (∀ (hinb : ∀ a, (k0_off74 v533) a + S32x4096.size a ≤ S4096x4096.size a), (Rect.unit (s := S4096x4096) (k0_off74 v533) S32x4096.size hinb).WholeWords (EltTy.packing .i8))
theorem k0_off74_inb : ∀ (v533 : BitVec 32) (k0_hw75 : k0_chk75 v533), ∀ a, (k0_off74 v533) a + S32x4096.size a ≤ S4096x4096.size a := fun v533 k0_hw75 => k0_hw75.1
theorem k0_off74_wordsi8 : ∀ (v533 : BitVec 32) (k0_hw75 : k0_chk75 v533), (Rect.unit (s := S4096x4096) (k0_off74 v533) S32x4096.size (k0_off74_inb v533 k0_hw75)).WholeWords (EltTy.packing .i8) := fun v533 k0_hw75 => k0_hw75.2 (k0_off74_inb v533 k0_hw75)

def k0_off76 (v545 : BitVec 32) : Fin 2 → Nat :=
  let c128_i32_560 : BitVec 32 := 128#32
  let v546 : BitVec 32 := Scalar.muli v545 c128_i32_560
  let c96_i32_561 : BitVec 32 := 96#32
  let v547 : BitVec 32 := Scalar.addi v546 c96_i32_561
  let c0_i32_568 : BitVec 32 := 0#32
  ![v547.toNat, 0]

def k0_off77 (v542 : BitVec 32) : Fin 2 → Nat :=
  let c128_i32_557 : BitVec 32 := 128#32
  let v543 : BitVec 32 := Scalar.muli v542 c128_i32_557
  let c96_i32_558 : BitVec 32 := 96#32
  let v544 : BitVec 32 := Scalar.addi v543 c96_i32_558
  let c0_i32_569 : BitVec 32 := 0#32
  ![v544.toNat, 0]

def k0_chk78 (v542 : BitVec 32) : Prop :=
  (∀ a, (k0_off77 v542) a + S32x4096.size a ≤ S4096x4096.size a) ∧
  (∀ (hinb : ∀ a, (k0_off77 v542) a + S32x4096.size a ≤ S4096x4096.size a), (Rect.unit (s := S4096x4096) (k0_off77 v542) S32x4096.size hinb).WholeWords (EltTy.packing .i8))
theorem k0_off77_inb : ∀ (v542 : BitVec 32) (k0_hw78 : k0_chk78 v542), ∀ a, (k0_off77 v542) a + S32x4096.size a ≤ S4096x4096.size a := fun v542 k0_hw78 => k0_hw78.1
theorem k0_off77_wordsi8 : ∀ (v542 : BitVec 32) (k0_hw78 : k0_chk78 v542), (Rect.unit (s := S4096x4096) (k0_off77 v542) S32x4096.size (k0_off77_inb v542 k0_hw78)).WholeWords (EltTy.packing .i8) := fun v542 k0_hw78 => k0_hw78.2 (k0_off77_inb v542 k0_hw78)

def k0_chk77 (v545 : BitVec 32) : Prop :=
  (∀ a, (k0_off76 v545) a + S32x4096.size a ≤ S4096x4096.size a) ∧
  (∀ (hinb : ∀ a, (k0_off76 v545) a + S32x4096.size a ≤ S4096x4096.size a), (Rect.unit (s := S4096x4096) (k0_off76 v545) S32x4096.size hinb).WholeWords (EltTy.packing .i8))
theorem k0_off76_inb : ∀ (v545 : BitVec 32) (k0_hw77 : k0_chk77 v545), ∀ a, (k0_off76 v545) a + S32x4096.size a ≤ S4096x4096.size a := fun v545 k0_hw77 => k0_hw77.1
theorem k0_off76_wordsi8 : ∀ (v545 : BitVec 32) (k0_hw77 : k0_chk77 v545), (Rect.unit (s := S4096x4096) (k0_off76 v545) S32x4096.size (k0_off76_inb v545 k0_hw77)).WholeWords (EltTy.packing .i8) := fun v545 k0_hw77 => k0_hw77.2 (k0_off76_inb v545 k0_hw77)

def k0_dev26 (v4 : BitVec 32) : Nat :=
  let c0_i32_567 : BitVec 32 := 0#32
  let c1_i32_566 : BitVec 32 := 1#32
  let v548 : BitVec 32 := Scalar.muli v4 c1_i32_566
  let v549 : BitVec 32 := Scalar.addi c0_i32_567 v548
  v549.toNat
def k0_off78 (v557 : BitVec 32) : Fin 2 → Nat :=
  let c128_i32_572 : BitVec 32 := 128#32
  let v558 : BitVec 32 := Scalar.muli v557 c128_i32_572
  let v559 : Index := Scalar.indexCast v558
  let c0_573 : Index := 0#32
  ![v559.toNat, 0]

def k0_chk79 (v557 : BitVec 32) : Prop :=
  (∀ a, (k0_off78 v557) a + S128x4096.size a ≤ S4096x4096.size a)
theorem k0_off78_inb : ∀ (v557 : BitVec 32) (k0_hw79 : k0_chk79 v557), ∀ a, (k0_off78 v557) a + S128x4096.size a ≤ S4096x4096.size a := fun v557 k0_hw79 => k0_hw79

def k0_off79 (v556 : BitVec 32) : Fin 2 → Nat :=
  let c128_i32_577 : BitVec 32 := 128#32
  let v567 : BitVec 32 := Scalar.muli v556 c128_i32_577
  let v568 : Index := Scalar.indexCast v567
  let c0_578 : Index := 0#32
  ![v568.toNat, 0]

def k0_chk80 (v556 : BitVec 32) : Prop :=
  (∀ a, (k0_off79 v556) a + S128x64.size a ≤ S4096x64.size a)
theorem k0_off79_inb : ∀ (v556 : BitVec 32) (k0_hw80 : k0_chk80 v556), ∀ a, (k0_off79 v556) a + S128x64.size a ≤ S4096x64.size a := fun v556 k0_hw80 => k0_hw80

def k0_off80 (v571 : BitVec 32) : Fin 2 → Nat :=
  let c128_i32_581 : BitVec 32 := 128#32
  let v572 : BitVec 32 := Scalar.muli v571 c128_i32_581
  let v573 : Index := Scalar.indexCast v572
  let c0_582 : Index := 0#32
  ![v573.toNat, 0]

def k0_chk81 (v571 : BitVec 32) : Prop :=
  (∀ a, (k0_off80 v571) a + S128x4096.size a ≤ S4096x4096.size a)
theorem k0_off80_inb : ∀ (v571 : BitVec 32) (k0_hw81 : k0_chk81 v571), ∀ a, (k0_off80 v571) a + S128x4096.size a ≤ S4096x4096.size a := fun v571 k0_hw81 => k0_hw81

def k0_off81 (v570 : BitVec 32) : Fin 2 → Nat :=
  let c128_i32_586 : BitVec 32 := 128#32
  let v581 : BitVec 32 := Scalar.muli v570 c128_i32_586
  let v582 : Index := Scalar.indexCast v581
  let c0_587 : Index := 0#32
  ![v582.toNat, 0]

def k0_chk82 (v570 : BitVec 32) : Prop :=
  (∀ a, (k0_off81 v570) a + S128x64.size a ≤ S4096x64.size a)
theorem k0_off81_inb : ∀ (v570 : BitVec 32) (k0_hw82 : k0_chk82 v570), ∀ a, (k0_off81 v570) a + S128x64.size a ≤ S4096x64.size a := fun v570 k0_hw82 => k0_hw82

def k0_off82 (v587 : BitVec 32) : Fin 2 → Nat :=
  let c128_i32_592 : BitVec 32 := 128#32
  let v588 : BitVec 32 := Scalar.muli v587 c128_i32_592
  let c0_i32_593 : BitVec 32 := 0#32
  let v589 : BitVec 32 := Scalar.addi v588 c0_i32_593
  let c0_i32_600 : BitVec 32 := 0#32
  ![v589.toNat, 0]

def k0_off83 (v584 : BitVec 32) : Fin 2 → Nat :=
  let c128_i32_589 : BitVec 32 := 128#32
  let v585 : BitVec 32 := Scalar.muli v584 c128_i32_589
  let c0_i32_590 : BitVec 32 := 0#32
  let v586 : BitVec 32 := Scalar.addi v585 c0_i32_590
  let c0_i32_601 : BitVec 32 := 0#32
  ![v586.toNat, 0]

def k0_chk84 (v584 : BitVec 32) : Prop :=
  (∀ a, (k0_off83 v584) a + S32x4096.size a ≤ S4096x4096.size a) ∧
  (∀ (hinb : ∀ a, (k0_off83 v584) a + S32x4096.size a ≤ S4096x4096.size a), (Rect.unit (s := S4096x4096) (k0_off83 v584) S32x4096.size hinb).WholeWords (EltTy.packing .i8))
theorem k0_off83_inb : ∀ (v584 : BitVec 32) (k0_hw84 : k0_chk84 v584), ∀ a, (k0_off83 v584) a + S32x4096.size a ≤ S4096x4096.size a := fun v584 k0_hw84 => k0_hw84.1
theorem k0_off83_wordsi8 : ∀ (v584 : BitVec 32) (k0_hw84 : k0_chk84 v584), (Rect.unit (s := S4096x4096) (k0_off83 v584) S32x4096.size (k0_off83_inb v584 k0_hw84)).WholeWords (EltTy.packing .i8) := fun v584 k0_hw84 => k0_hw84.2 (k0_off83_inb v584 k0_hw84)

def k0_chk83 (v587 : BitVec 32) : Prop :=
  (∀ a, (k0_off82 v587) a + S32x4096.size a ≤ S4096x4096.size a) ∧
  (∀ (hinb : ∀ a, (k0_off82 v587) a + S32x4096.size a ≤ S4096x4096.size a), (Rect.unit (s := S4096x4096) (k0_off82 v587) S32x4096.size hinb).WholeWords (EltTy.packing .i8))
theorem k0_off82_inb : ∀ (v587 : BitVec 32) (k0_hw83 : k0_chk83 v587), ∀ a, (k0_off82 v587) a + S32x4096.size a ≤ S4096x4096.size a := fun v587 k0_hw83 => k0_hw83.1
theorem k0_off82_wordsi8 : ∀ (v587 : BitVec 32) (k0_hw83 : k0_chk83 v587), (Rect.unit (s := S4096x4096) (k0_off82 v587) S32x4096.size (k0_off82_inb v587 k0_hw83)).WholeWords (EltTy.packing .i8) := fun v587 k0_hw83 => k0_hw83.2 (k0_off82_inb v587 k0_hw83)

def k0_off84 (v599 : BitVec 32) : Fin 2 → Nat :=
  let c128_i32_605 : BitVec 32 := 128#32
  let v600 : BitVec 32 := Scalar.muli v599 c128_i32_605
  let c0_i32_606 : BitVec 32 := 0#32
  let v601 : BitVec 32 := Scalar.addi v600 c0_i32_606
  let c0_i32_613 : BitVec 32 := 0#32
  ![v601.toNat, 0]

def k0_off85 (v596 : BitVec 32) : Fin 2 → Nat :=
  let c128_i32_602 : BitVec 32 := 128#32
  let v597 : BitVec 32 := Scalar.muli v596 c128_i32_602
  let c0_i32_603 : BitVec 32 := 0#32
  let v598 : BitVec 32 := Scalar.addi v597 c0_i32_603
  let c0_i32_614 : BitVec 32 := 0#32
  ![v598.toNat, 0]

def k0_chk86 (v596 : BitVec 32) : Prop :=
  (∀ a, (k0_off85 v596) a + S32x4096.size a ≤ S4096x4096.size a) ∧
  (∀ (hinb : ∀ a, (k0_off85 v596) a + S32x4096.size a ≤ S4096x4096.size a), (Rect.unit (s := S4096x4096) (k0_off85 v596) S32x4096.size hinb).WholeWords (EltTy.packing .i8))
theorem k0_off85_inb : ∀ (v596 : BitVec 32) (k0_hw86 : k0_chk86 v596), ∀ a, (k0_off85 v596) a + S32x4096.size a ≤ S4096x4096.size a := fun v596 k0_hw86 => k0_hw86.1
theorem k0_off85_wordsi8 : ∀ (v596 : BitVec 32) (k0_hw86 : k0_chk86 v596), (Rect.unit (s := S4096x4096) (k0_off85 v596) S32x4096.size (k0_off85_inb v596 k0_hw86)).WholeWords (EltTy.packing .i8) := fun v596 k0_hw86 => k0_hw86.2 (k0_off85_inb v596 k0_hw86)

def k0_chk85 (v599 : BitVec 32) : Prop :=
  (∀ a, (k0_off84 v599) a + S32x4096.size a ≤ S4096x4096.size a) ∧
  (∀ (hinb : ∀ a, (k0_off84 v599) a + S32x4096.size a ≤ S4096x4096.size a), (Rect.unit (s := S4096x4096) (k0_off84 v599) S32x4096.size hinb).WholeWords (EltTy.packing .i8))
theorem k0_off84_inb : ∀ (v599 : BitVec 32) (k0_hw85 : k0_chk85 v599), ∀ a, (k0_off84 v599) a + S32x4096.size a ≤ S4096x4096.size a := fun v599 k0_hw85 => k0_hw85.1
theorem k0_off84_wordsi8 : ∀ (v599 : BitVec 32) (k0_hw85 : k0_chk85 v599), (Rect.unit (s := S4096x4096) (k0_off84 v599) S32x4096.size (k0_off84_inb v599 k0_hw85)).WholeWords (EltTy.packing .i8) := fun v599 k0_hw85 => k0_hw85.2 (k0_off84_inb v599 k0_hw85)

def k0_dev27 (v3 : BitVec 32) : Nat :=
  let c0_i32_612 : BitVec 32 := 0#32
  let c1_i32_611 : BitVec 32 := 1#32
  let v602 : BitVec 32 := Scalar.muli v3 c1_i32_611
  let v603 : BitVec 32 := Scalar.addi c0_i32_612 v602
  v603.toNat
def k0_off86 (v613 : BitVec 32) : Fin 2 → Nat :=
  let c128_i32_619 : BitVec 32 := 128#32
  let v614 : BitVec 32 := Scalar.muli v613 c128_i32_619
  let c0_i32_620 : BitVec 32 := 0#32
  let v615 : BitVec 32 := Scalar.addi v614 c0_i32_620
  let c0_i32_627 : BitVec 32 := 0#32
  ![v615.toNat, 0]

def k0_off87 (v610 : BitVec 32) : Fin 2 → Nat :=
  let c128_i32_616 : BitVec 32 := 128#32
  let v611 : BitVec 32 := Scalar.muli v610 c128_i32_616
  let c0_i32_617 : BitVec 32 := 0#32
  let v612 : BitVec 32 := Scalar.addi v611 c0_i32_617
  let c0_i32_628 : BitVec 32 := 0#32
  ![v612.toNat, 0]

def k0_chk88 (v610 : BitVec 32) : Prop :=
  (∀ a, (k0_off87 v610) a + S32x4096.size a ≤ S4096x4096.size a) ∧
  (∀ (hinb : ∀ a, (k0_off87 v610) a + S32x4096.size a ≤ S4096x4096.size a), (Rect.unit (s := S4096x4096) (k0_off87 v610) S32x4096.size hinb).WholeWords (EltTy.packing .i8))
theorem k0_off87_inb : ∀ (v610 : BitVec 32) (k0_hw88 : k0_chk88 v610), ∀ a, (k0_off87 v610) a + S32x4096.size a ≤ S4096x4096.size a := fun v610 k0_hw88 => k0_hw88.1
theorem k0_off87_wordsi8 : ∀ (v610 : BitVec 32) (k0_hw88 : k0_chk88 v610), (Rect.unit (s := S4096x4096) (k0_off87 v610) S32x4096.size (k0_off87_inb v610 k0_hw88)).WholeWords (EltTy.packing .i8) := fun v610 k0_hw88 => k0_hw88.2 (k0_off87_inb v610 k0_hw88)

def k0_chk87 (v613 : BitVec 32) : Prop :=
  (∀ a, (k0_off86 v613) a + S32x4096.size a ≤ S4096x4096.size a) ∧
  (∀ (hinb : ∀ a, (k0_off86 v613) a + S32x4096.size a ≤ S4096x4096.size a), (Rect.unit (s := S4096x4096) (k0_off86 v613) S32x4096.size hinb).WholeWords (EltTy.packing .i8))
theorem k0_off86_inb : ∀ (v613 : BitVec 32) (k0_hw87 : k0_chk87 v613), ∀ a, (k0_off86 v613) a + S32x4096.size a ≤ S4096x4096.size a := fun v613 k0_hw87 => k0_hw87.1
theorem k0_off86_wordsi8 : ∀ (v613 : BitVec 32) (k0_hw87 : k0_chk87 v613), (Rect.unit (s := S4096x4096) (k0_off86 v613) S32x4096.size (k0_off86_inb v613 k0_hw87)).WholeWords (EltTy.packing .i8) := fun v613 k0_hw87 => k0_hw87.2 (k0_off86_inb v613 k0_hw87)

def k0_off88 (v625 : BitVec 32) : Fin 2 → Nat :=
  let c128_i32_633 : BitVec 32 := 128#32
  let v626 : BitVec 32 := Scalar.muli v625 c128_i32_633
  let c0_i32_634 : BitVec 32 := 0#32
  let v627 : BitVec 32 := Scalar.addi v626 c0_i32_634
  let c0_i32_641 : BitVec 32 := 0#32
  ![v627.toNat, 0]

def k0_off89 (v622 : BitVec 32) : Fin 2 → Nat :=
  let c128_i32_630 : BitVec 32 := 128#32
  let v623 : BitVec 32 := Scalar.muli v622 c128_i32_630
  let c0_i32_631 : BitVec 32 := 0#32
  let v624 : BitVec 32 := Scalar.addi v623 c0_i32_631
  let c0_i32_642 : BitVec 32 := 0#32
  ![v624.toNat, 0]

def k0_chk90 (v622 : BitVec 32) : Prop :=
  (∀ a, (k0_off89 v622) a + S32x4096.size a ≤ S4096x4096.size a) ∧
  (∀ (hinb : ∀ a, (k0_off89 v622) a + S32x4096.size a ≤ S4096x4096.size a), (Rect.unit (s := S4096x4096) (k0_off89 v622) S32x4096.size hinb).WholeWords (EltTy.packing .i8))
theorem k0_off89_inb : ∀ (v622 : BitVec 32) (k0_hw90 : k0_chk90 v622), ∀ a, (k0_off89 v622) a + S32x4096.size a ≤ S4096x4096.size a := fun v622 k0_hw90 => k0_hw90.1
theorem k0_off89_wordsi8 : ∀ (v622 : BitVec 32) (k0_hw90 : k0_chk90 v622), (Rect.unit (s := S4096x4096) (k0_off89 v622) S32x4096.size (k0_off89_inb v622 k0_hw90)).WholeWords (EltTy.packing .i8) := fun v622 k0_hw90 => k0_hw90.2 (k0_off89_inb v622 k0_hw90)

def k0_chk89 (v625 : BitVec 32) : Prop :=
  (∀ a, (k0_off88 v625) a + S32x4096.size a ≤ S4096x4096.size a) ∧
  (∀ (hinb : ∀ a, (k0_off88 v625) a + S32x4096.size a ≤ S4096x4096.size a), (Rect.unit (s := S4096x4096) (k0_off88 v625) S32x4096.size hinb).WholeWords (EltTy.packing .i8))
theorem k0_off88_inb : ∀ (v625 : BitVec 32) (k0_hw89 : k0_chk89 v625), ∀ a, (k0_off88 v625) a + S32x4096.size a ≤ S4096x4096.size a := fun v625 k0_hw89 => k0_hw89.1
theorem k0_off88_wordsi8 : ∀ (v625 : BitVec 32) (k0_hw89 : k0_chk89 v625), (Rect.unit (s := S4096x4096) (k0_off88 v625) S32x4096.size (k0_off88_inb v625 k0_hw89)).WholeWords (EltTy.packing .i8) := fun v625 k0_hw89 => k0_hw89.2 (k0_off88_inb v625 k0_hw89)

def k0_dev28 (v4 : BitVec 32) : Nat :=
  let c0_i32_640 : BitVec 32 := 0#32
  let c1_i32_639 : BitVec 32 := 1#32
  let v628 : BitVec 32 := Scalar.muli v4 c1_i32_639
  let v629 : BitVec 32 := Scalar.addi c0_i32_640 v628
  v629.toNat
def k0_off90 (v639 : BitVec 32) : Fin 2 → Nat :=
  let c128_i32_647 : BitVec 32 := 128#32
  let v640 : BitVec 32 := Scalar.muli v639 c128_i32_647
  let c32_i32_648 : BitVec 32 := 32#32
  let v641 : BitVec 32 := Scalar.addi v640 c32_i32_648
  let c0_i32_655 : BitVec 32 := 0#32
  ![v641.toNat, 0]

def k0_off91 (v636 : BitVec 32) : Fin 2 → Nat :=
  let c128_i32_644 : BitVec 32 := 128#32
  let v637 : BitVec 32 := Scalar.muli v636 c128_i32_644
  let c32_i32_645 : BitVec 32 := 32#32
  let v638 : BitVec 32 := Scalar.addi v637 c32_i32_645
  let c0_i32_656 : BitVec 32 := 0#32
  ![v638.toNat, 0]

def k0_chk92 (v636 : BitVec 32) : Prop :=
  (∀ a, (k0_off91 v636) a + S32x4096.size a ≤ S4096x4096.size a) ∧
  (∀ (hinb : ∀ a, (k0_off91 v636) a + S32x4096.size a ≤ S4096x4096.size a), (Rect.unit (s := S4096x4096) (k0_off91 v636) S32x4096.size hinb).WholeWords (EltTy.packing .i8))
theorem k0_off91_inb : ∀ (v636 : BitVec 32) (k0_hw92 : k0_chk92 v636), ∀ a, (k0_off91 v636) a + S32x4096.size a ≤ S4096x4096.size a := fun v636 k0_hw92 => k0_hw92.1
theorem k0_off91_wordsi8 : ∀ (v636 : BitVec 32) (k0_hw92 : k0_chk92 v636), (Rect.unit (s := S4096x4096) (k0_off91 v636) S32x4096.size (k0_off91_inb v636 k0_hw92)).WholeWords (EltTy.packing .i8) := fun v636 k0_hw92 => k0_hw92.2 (k0_off91_inb v636 k0_hw92)

def k0_chk91 (v639 : BitVec 32) : Prop :=
  (∀ a, (k0_off90 v639) a + S32x4096.size a ≤ S4096x4096.size a) ∧
  (∀ (hinb : ∀ a, (k0_off90 v639) a + S32x4096.size a ≤ S4096x4096.size a), (Rect.unit (s := S4096x4096) (k0_off90 v639) S32x4096.size hinb).WholeWords (EltTy.packing .i8))
theorem k0_off90_inb : ∀ (v639 : BitVec 32) (k0_hw91 : k0_chk91 v639), ∀ a, (k0_off90 v639) a + S32x4096.size a ≤ S4096x4096.size a := fun v639 k0_hw91 => k0_hw91.1
theorem k0_off90_wordsi8 : ∀ (v639 : BitVec 32) (k0_hw91 : k0_chk91 v639), (Rect.unit (s := S4096x4096) (k0_off90 v639) S32x4096.size (k0_off90_inb v639 k0_hw91)).WholeWords (EltTy.packing .i8) := fun v639 k0_hw91 => k0_hw91.2 (k0_off90_inb v639 k0_hw91)

def k0_off92 (v651 : BitVec 32) : Fin 2 → Nat :=
  let c128_i32_661 : BitVec 32 := 128#32
  let v652 : BitVec 32 := Scalar.muli v651 c128_i32_661
  let c32_i32_662 : BitVec 32 := 32#32
  let v653 : BitVec 32 := Scalar.addi v652 c32_i32_662
  let c0_i32_669 : BitVec 32 := 0#32
  ![v653.toNat, 0]

def k0_off93 (v648 : BitVec 32) : Fin 2 → Nat :=
  let c128_i32_658 : BitVec 32 := 128#32
  let v649 : BitVec 32 := Scalar.muli v648 c128_i32_658
  let c32_i32_659 : BitVec 32 := 32#32
  let v650 : BitVec 32 := Scalar.addi v649 c32_i32_659
  let c0_i32_670 : BitVec 32 := 0#32
  ![v650.toNat, 0]

def k0_chk94 (v648 : BitVec 32) : Prop :=
  (∀ a, (k0_off93 v648) a + S32x4096.size a ≤ S4096x4096.size a) ∧
  (∀ (hinb : ∀ a, (k0_off93 v648) a + S32x4096.size a ≤ S4096x4096.size a), (Rect.unit (s := S4096x4096) (k0_off93 v648) S32x4096.size hinb).WholeWords (EltTy.packing .i8))
theorem k0_off93_inb : ∀ (v648 : BitVec 32) (k0_hw94 : k0_chk94 v648), ∀ a, (k0_off93 v648) a + S32x4096.size a ≤ S4096x4096.size a := fun v648 k0_hw94 => k0_hw94.1
theorem k0_off93_wordsi8 : ∀ (v648 : BitVec 32) (k0_hw94 : k0_chk94 v648), (Rect.unit (s := S4096x4096) (k0_off93 v648) S32x4096.size (k0_off93_inb v648 k0_hw94)).WholeWords (EltTy.packing .i8) := fun v648 k0_hw94 => k0_hw94.2 (k0_off93_inb v648 k0_hw94)

def k0_chk93 (v651 : BitVec 32) : Prop :=
  (∀ a, (k0_off92 v651) a + S32x4096.size a ≤ S4096x4096.size a) ∧
  (∀ (hinb : ∀ a, (k0_off92 v651) a + S32x4096.size a ≤ S4096x4096.size a), (Rect.unit (s := S4096x4096) (k0_off92 v651) S32x4096.size hinb).WholeWords (EltTy.packing .i8))
theorem k0_off92_inb : ∀ (v651 : BitVec 32) (k0_hw93 : k0_chk93 v651), ∀ a, (k0_off92 v651) a + S32x4096.size a ≤ S4096x4096.size a := fun v651 k0_hw93 => k0_hw93.1
theorem k0_off92_wordsi8 : ∀ (v651 : BitVec 32) (k0_hw93 : k0_chk93 v651), (Rect.unit (s := S4096x4096) (k0_off92 v651) S32x4096.size (k0_off92_inb v651 k0_hw93)).WholeWords (EltTy.packing .i8) := fun v651 k0_hw93 => k0_hw93.2 (k0_off92_inb v651 k0_hw93)

def k0_dev29 (v3 : BitVec 32) : Nat :=
  let c0_i32_668 : BitVec 32 := 0#32
  let c1_i32_667 : BitVec 32 := 1#32
  let v654 : BitVec 32 := Scalar.muli v3 c1_i32_667
  let v655 : BitVec 32 := Scalar.addi c0_i32_668 v654
  v655.toNat
def k0_off94 (v665 : BitVec 32) : Fin 2 → Nat :=
  let c128_i32_675 : BitVec 32 := 128#32
  let v666 : BitVec 32 := Scalar.muli v665 c128_i32_675
  let c32_i32_676 : BitVec 32 := 32#32
  let v667 : BitVec 32 := Scalar.addi v666 c32_i32_676
  let c0_i32_683 : BitVec 32 := 0#32
  ![v667.toNat, 0]

def k0_off95 (v662 : BitVec 32) : Fin 2 → Nat :=
  let c128_i32_672 : BitVec 32 := 128#32
  let v663 : BitVec 32 := Scalar.muli v662 c128_i32_672
  let c32_i32_673 : BitVec 32 := 32#32
  let v664 : BitVec 32 := Scalar.addi v663 c32_i32_673
  let c0_i32_684 : BitVec 32 := 0#32
  ![v664.toNat, 0]

def k0_chk96 (v662 : BitVec 32) : Prop :=
  (∀ a, (k0_off95 v662) a + S32x4096.size a ≤ S4096x4096.size a) ∧
  (∀ (hinb : ∀ a, (k0_off95 v662) a + S32x4096.size a ≤ S4096x4096.size a), (Rect.unit (s := S4096x4096) (k0_off95 v662) S32x4096.size hinb).WholeWords (EltTy.packing .i8))
theorem k0_off95_inb : ∀ (v662 : BitVec 32) (k0_hw96 : k0_chk96 v662), ∀ a, (k0_off95 v662) a + S32x4096.size a ≤ S4096x4096.size a := fun v662 k0_hw96 => k0_hw96.1
theorem k0_off95_wordsi8 : ∀ (v662 : BitVec 32) (k0_hw96 : k0_chk96 v662), (Rect.unit (s := S4096x4096) (k0_off95 v662) S32x4096.size (k0_off95_inb v662 k0_hw96)).WholeWords (EltTy.packing .i8) := fun v662 k0_hw96 => k0_hw96.2 (k0_off95_inb v662 k0_hw96)

def k0_chk95 (v665 : BitVec 32) : Prop :=
  (∀ a, (k0_off94 v665) a + S32x4096.size a ≤ S4096x4096.size a) ∧
  (∀ (hinb : ∀ a, (k0_off94 v665) a + S32x4096.size a ≤ S4096x4096.size a), (Rect.unit (s := S4096x4096) (k0_off94 v665) S32x4096.size hinb).WholeWords (EltTy.packing .i8))
theorem k0_off94_inb : ∀ (v665 : BitVec 32) (k0_hw95 : k0_chk95 v665), ∀ a, (k0_off94 v665) a + S32x4096.size a ≤ S4096x4096.size a := fun v665 k0_hw95 => k0_hw95.1
theorem k0_off94_wordsi8 : ∀ (v665 : BitVec 32) (k0_hw95 : k0_chk95 v665), (Rect.unit (s := S4096x4096) (k0_off94 v665) S32x4096.size (k0_off94_inb v665 k0_hw95)).WholeWords (EltTy.packing .i8) := fun v665 k0_hw95 => k0_hw95.2 (k0_off94_inb v665 k0_hw95)

def k0_off96 (v677 : BitVec 32) : Fin 2 → Nat :=
  let c128_i32_689 : BitVec 32 := 128#32
  let v678 : BitVec 32 := Scalar.muli v677 c128_i32_689
  let c32_i32_690 : BitVec 32 := 32#32
  let v679 : BitVec 32 := Scalar.addi v678 c32_i32_690
  let c0_i32_697 : BitVec 32 := 0#32
  ![v679.toNat, 0]

def k0_off97 (v674 : BitVec 32) : Fin 2 → Nat :=
  let c128_i32_686 : BitVec 32 := 128#32
  let v675 : BitVec 32 := Scalar.muli v674 c128_i32_686
  let c32_i32_687 : BitVec 32 := 32#32
  let v676 : BitVec 32 := Scalar.addi v675 c32_i32_687
  let c0_i32_698 : BitVec 32 := 0#32
  ![v676.toNat, 0]

def k0_chk98 (v674 : BitVec 32) : Prop :=
  (∀ a, (k0_off97 v674) a + S32x4096.size a ≤ S4096x4096.size a) ∧
  (∀ (hinb : ∀ a, (k0_off97 v674) a + S32x4096.size a ≤ S4096x4096.size a), (Rect.unit (s := S4096x4096) (k0_off97 v674) S32x4096.size hinb).WholeWords (EltTy.packing .i8))
theorem k0_off97_inb : ∀ (v674 : BitVec 32) (k0_hw98 : k0_chk98 v674), ∀ a, (k0_off97 v674) a + S32x4096.size a ≤ S4096x4096.size a := fun v674 k0_hw98 => k0_hw98.1
theorem k0_off97_wordsi8 : ∀ (v674 : BitVec 32) (k0_hw98 : k0_chk98 v674), (Rect.unit (s := S4096x4096) (k0_off97 v674) S32x4096.size (k0_off97_inb v674 k0_hw98)).WholeWords (EltTy.packing .i8) := fun v674 k0_hw98 => k0_hw98.2 (k0_off97_inb v674 k0_hw98)

def k0_chk97 (v677 : BitVec 32) : Prop :=
  (∀ a, (k0_off96 v677) a + S32x4096.size a ≤ S4096x4096.size a) ∧
  (∀ (hinb : ∀ a, (k0_off96 v677) a + S32x4096.size a ≤ S4096x4096.size a), (Rect.unit (s := S4096x4096) (k0_off96 v677) S32x4096.size hinb).WholeWords (EltTy.packing .i8))
theorem k0_off96_inb : ∀ (v677 : BitVec 32) (k0_hw97 : k0_chk97 v677), ∀ a, (k0_off96 v677) a + S32x4096.size a ≤ S4096x4096.size a := fun v677 k0_hw97 => k0_hw97.1
theorem k0_off96_wordsi8 : ∀ (v677 : BitVec 32) (k0_hw97 : k0_chk97 v677), (Rect.unit (s := S4096x4096) (k0_off96 v677) S32x4096.size (k0_off96_inb v677 k0_hw97)).WholeWords (EltTy.packing .i8) := fun v677 k0_hw97 => k0_hw97.2 (k0_off96_inb v677 k0_hw97)

def k0_dev30 (v4 : BitVec 32) : Nat :=
  let c0_i32_696 : BitVec 32 := 0#32
  let c1_i32_695 : BitVec 32 := 1#32
  let v680 : BitVec 32 := Scalar.muli v4 c1_i32_695
  let v681 : BitVec 32 := Scalar.addi c0_i32_696 v680
  v681.toNat
def k0_off98 (v691 : BitVec 32) : Fin 2 → Nat :=
  let c128_i32_703 : BitVec 32 := 128#32
  let v692 : BitVec 32 := Scalar.muli v691 c128_i32_703
  let c64_i32_704 : BitVec 32 := 64#32
  let v693 : BitVec 32 := Scalar.addi v692 c64_i32_704
  let c0_i32_711 : BitVec 32 := 0#32
  ![v693.toNat, 0]

def k0_off99 (v688 : BitVec 32) : Fin 2 → Nat :=
  let c128_i32_700 : BitVec 32 := 128#32
  let v689 : BitVec 32 := Scalar.muli v688 c128_i32_700
  let c64_i32_701 : BitVec 32 := 64#32
  let v690 : BitVec 32 := Scalar.addi v689 c64_i32_701
  let c0_i32_712 : BitVec 32 := 0#32
  ![v690.toNat, 0]

def k0_chk100 (v688 : BitVec 32) : Prop :=
  (∀ a, (k0_off99 v688) a + S32x4096.size a ≤ S4096x4096.size a) ∧
  (∀ (hinb : ∀ a, (k0_off99 v688) a + S32x4096.size a ≤ S4096x4096.size a), (Rect.unit (s := S4096x4096) (k0_off99 v688) S32x4096.size hinb).WholeWords (EltTy.packing .i8))
theorem k0_off99_inb : ∀ (v688 : BitVec 32) (k0_hw100 : k0_chk100 v688), ∀ a, (k0_off99 v688) a + S32x4096.size a ≤ S4096x4096.size a := fun v688 k0_hw100 => k0_hw100.1
theorem k0_off99_wordsi8 : ∀ (v688 : BitVec 32) (k0_hw100 : k0_chk100 v688), (Rect.unit (s := S4096x4096) (k0_off99 v688) S32x4096.size (k0_off99_inb v688 k0_hw100)).WholeWords (EltTy.packing .i8) := fun v688 k0_hw100 => k0_hw100.2 (k0_off99_inb v688 k0_hw100)

def k0_chk99 (v691 : BitVec 32) : Prop :=
  (∀ a, (k0_off98 v691) a + S32x4096.size a ≤ S4096x4096.size a) ∧
  (∀ (hinb : ∀ a, (k0_off98 v691) a + S32x4096.size a ≤ S4096x4096.size a), (Rect.unit (s := S4096x4096) (k0_off98 v691) S32x4096.size hinb).WholeWords (EltTy.packing .i8))
theorem k0_off98_inb : ∀ (v691 : BitVec 32) (k0_hw99 : k0_chk99 v691), ∀ a, (k0_off98 v691) a + S32x4096.size a ≤ S4096x4096.size a := fun v691 k0_hw99 => k0_hw99.1
theorem k0_off98_wordsi8 : ∀ (v691 : BitVec 32) (k0_hw99 : k0_chk99 v691), (Rect.unit (s := S4096x4096) (k0_off98 v691) S32x4096.size (k0_off98_inb v691 k0_hw99)).WholeWords (EltTy.packing .i8) := fun v691 k0_hw99 => k0_hw99.2 (k0_off98_inb v691 k0_hw99)

def k0_off100 (v703 : BitVec 32) : Fin 2 → Nat :=
  let c128_i32_717 : BitVec 32 := 128#32
  let v704 : BitVec 32 := Scalar.muli v703 c128_i32_717
  let c64_i32_718 : BitVec 32 := 64#32
  let v705 : BitVec 32 := Scalar.addi v704 c64_i32_718
  let c0_i32_725 : BitVec 32 := 0#32
  ![v705.toNat, 0]

def k0_off101 (v700 : BitVec 32) : Fin 2 → Nat :=
  let c128_i32_714 : BitVec 32 := 128#32
  let v701 : BitVec 32 := Scalar.muli v700 c128_i32_714
  let c64_i32_715 : BitVec 32 := 64#32
  let v702 : BitVec 32 := Scalar.addi v701 c64_i32_715
  let c0_i32_726 : BitVec 32 := 0#32
  ![v702.toNat, 0]

def k0_chk102 (v700 : BitVec 32) : Prop :=
  (∀ a, (k0_off101 v700) a + S32x4096.size a ≤ S4096x4096.size a) ∧
  (∀ (hinb : ∀ a, (k0_off101 v700) a + S32x4096.size a ≤ S4096x4096.size a), (Rect.unit (s := S4096x4096) (k0_off101 v700) S32x4096.size hinb).WholeWords (EltTy.packing .i8))
theorem k0_off101_inb : ∀ (v700 : BitVec 32) (k0_hw102 : k0_chk102 v700), ∀ a, (k0_off101 v700) a + S32x4096.size a ≤ S4096x4096.size a := fun v700 k0_hw102 => k0_hw102.1
theorem k0_off101_wordsi8 : ∀ (v700 : BitVec 32) (k0_hw102 : k0_chk102 v700), (Rect.unit (s := S4096x4096) (k0_off101 v700) S32x4096.size (k0_off101_inb v700 k0_hw102)).WholeWords (EltTy.packing .i8) := fun v700 k0_hw102 => k0_hw102.2 (k0_off101_inb v700 k0_hw102)

def k0_chk101 (v703 : BitVec 32) : Prop :=
  (∀ a, (k0_off100 v703) a + S32x4096.size a ≤ S4096x4096.size a) ∧
  (∀ (hinb : ∀ a, (k0_off100 v703) a + S32x4096.size a ≤ S4096x4096.size a), (Rect.unit (s := S4096x4096) (k0_off100 v703) S32x4096.size hinb).WholeWords (EltTy.packing .i8))
theorem k0_off100_inb : ∀ (v703 : BitVec 32) (k0_hw101 : k0_chk101 v703), ∀ a, (k0_off100 v703) a + S32x4096.size a ≤ S4096x4096.size a := fun v703 k0_hw101 => k0_hw101.1
theorem k0_off100_wordsi8 : ∀ (v703 : BitVec 32) (k0_hw101 : k0_chk101 v703), (Rect.unit (s := S4096x4096) (k0_off100 v703) S32x4096.size (k0_off100_inb v703 k0_hw101)).WholeWords (EltTy.packing .i8) := fun v703 k0_hw101 => k0_hw101.2 (k0_off100_inb v703 k0_hw101)

def k0_dev31 (v3 : BitVec 32) : Nat :=
  let c0_i32_724 : BitVec 32 := 0#32
  let c1_i32_723 : BitVec 32 := 1#32
  let v706 : BitVec 32 := Scalar.muli v3 c1_i32_723
  let v707 : BitVec 32 := Scalar.addi c0_i32_724 v706
  v707.toNat
def k0_off102 (v717 : BitVec 32) : Fin 2 → Nat :=
  let c128_i32_731 : BitVec 32 := 128#32
  let v718 : BitVec 32 := Scalar.muli v717 c128_i32_731
  let c64_i32_732 : BitVec 32 := 64#32
  let v719 : BitVec 32 := Scalar.addi v718 c64_i32_732
  let c0_i32_739 : BitVec 32 := 0#32
  ![v719.toNat, 0]

def k0_off103 (v714 : BitVec 32) : Fin 2 → Nat :=
  let c128_i32_728 : BitVec 32 := 128#32
  let v715 : BitVec 32 := Scalar.muli v714 c128_i32_728
  let c64_i32_729 : BitVec 32 := 64#32
  let v716 : BitVec 32 := Scalar.addi v715 c64_i32_729
  let c0_i32_740 : BitVec 32 := 0#32
  ![v716.toNat, 0]

def k0_chk104 (v714 : BitVec 32) : Prop :=
  (∀ a, (k0_off103 v714) a + S32x4096.size a ≤ S4096x4096.size a) ∧
  (∀ (hinb : ∀ a, (k0_off103 v714) a + S32x4096.size a ≤ S4096x4096.size a), (Rect.unit (s := S4096x4096) (k0_off103 v714) S32x4096.size hinb).WholeWords (EltTy.packing .i8))
theorem k0_off103_inb : ∀ (v714 : BitVec 32) (k0_hw104 : k0_chk104 v714), ∀ a, (k0_off103 v714) a + S32x4096.size a ≤ S4096x4096.size a := fun v714 k0_hw104 => k0_hw104.1
theorem k0_off103_wordsi8 : ∀ (v714 : BitVec 32) (k0_hw104 : k0_chk104 v714), (Rect.unit (s := S4096x4096) (k0_off103 v714) S32x4096.size (k0_off103_inb v714 k0_hw104)).WholeWords (EltTy.packing .i8) := fun v714 k0_hw104 => k0_hw104.2 (k0_off103_inb v714 k0_hw104)

def k0_chk103 (v717 : BitVec 32) : Prop :=
  (∀ a, (k0_off102 v717) a + S32x4096.size a ≤ S4096x4096.size a) ∧
  (∀ (hinb : ∀ a, (k0_off102 v717) a + S32x4096.size a ≤ S4096x4096.size a), (Rect.unit (s := S4096x4096) (k0_off102 v717) S32x4096.size hinb).WholeWords (EltTy.packing .i8))
theorem k0_off102_inb : ∀ (v717 : BitVec 32) (k0_hw103 : k0_chk103 v717), ∀ a, (k0_off102 v717) a + S32x4096.size a ≤ S4096x4096.size a := fun v717 k0_hw103 => k0_hw103.1
theorem k0_off102_wordsi8 : ∀ (v717 : BitVec 32) (k0_hw103 : k0_chk103 v717), (Rect.unit (s := S4096x4096) (k0_off102 v717) S32x4096.size (k0_off102_inb v717 k0_hw103)).WholeWords (EltTy.packing .i8) := fun v717 k0_hw103 => k0_hw103.2 (k0_off102_inb v717 k0_hw103)

def k0_off104 (v729 : BitVec 32) : Fin 2 → Nat :=
  let c128_i32_745 : BitVec 32 := 128#32
  let v730 : BitVec 32 := Scalar.muli v729 c128_i32_745
  let c64_i32_746 : BitVec 32 := 64#32
  let v731 : BitVec 32 := Scalar.addi v730 c64_i32_746
  let c0_i32_753 : BitVec 32 := 0#32
  ![v731.toNat, 0]

def k0_off105 (v726 : BitVec 32) : Fin 2 → Nat :=
  let c128_i32_742 : BitVec 32 := 128#32
  let v727 : BitVec 32 := Scalar.muli v726 c128_i32_742
  let c64_i32_743 : BitVec 32 := 64#32
  let v728 : BitVec 32 := Scalar.addi v727 c64_i32_743
  let c0_i32_754 : BitVec 32 := 0#32
  ![v728.toNat, 0]

def k0_chk106 (v726 : BitVec 32) : Prop :=
  (∀ a, (k0_off105 v726) a + S32x4096.size a ≤ S4096x4096.size a) ∧
  (∀ (hinb : ∀ a, (k0_off105 v726) a + S32x4096.size a ≤ S4096x4096.size a), (Rect.unit (s := S4096x4096) (k0_off105 v726) S32x4096.size hinb).WholeWords (EltTy.packing .i8))
theorem k0_off105_inb : ∀ (v726 : BitVec 32) (k0_hw106 : k0_chk106 v726), ∀ a, (k0_off105 v726) a + S32x4096.size a ≤ S4096x4096.size a := fun v726 k0_hw106 => k0_hw106.1
theorem k0_off105_wordsi8 : ∀ (v726 : BitVec 32) (k0_hw106 : k0_chk106 v726), (Rect.unit (s := S4096x4096) (k0_off105 v726) S32x4096.size (k0_off105_inb v726 k0_hw106)).WholeWords (EltTy.packing .i8) := fun v726 k0_hw106 => k0_hw106.2 (k0_off105_inb v726 k0_hw106)

def k0_chk105 (v729 : BitVec 32) : Prop :=
  (∀ a, (k0_off104 v729) a + S32x4096.size a ≤ S4096x4096.size a) ∧
  (∀ (hinb : ∀ a, (k0_off104 v729) a + S32x4096.size a ≤ S4096x4096.size a), (Rect.unit (s := S4096x4096) (k0_off104 v729) S32x4096.size hinb).WholeWords (EltTy.packing .i8))
theorem k0_off104_inb : ∀ (v729 : BitVec 32) (k0_hw105 : k0_chk105 v729), ∀ a, (k0_off104 v729) a + S32x4096.size a ≤ S4096x4096.size a := fun v729 k0_hw105 => k0_hw105.1
theorem k0_off104_wordsi8 : ∀ (v729 : BitVec 32) (k0_hw105 : k0_chk105 v729), (Rect.unit (s := S4096x4096) (k0_off104 v729) S32x4096.size (k0_off104_inb v729 k0_hw105)).WholeWords (EltTy.packing .i8) := fun v729 k0_hw105 => k0_hw105.2 (k0_off104_inb v729 k0_hw105)

def k0_dev32 (v4 : BitVec 32) : Nat :=
  let c0_i32_752 : BitVec 32 := 0#32
  let c1_i32_751 : BitVec 32 := 1#32
  let v732 : BitVec 32 := Scalar.muli v4 c1_i32_751
  let v733 : BitVec 32 := Scalar.addi c0_i32_752 v732
  v733.toNat
def k0_off106 (v743 : BitVec 32) : Fin 2 → Nat :=
  let c128_i32_759 : BitVec 32 := 128#32
  let v744 : BitVec 32 := Scalar.muli v743 c128_i32_759
  let c96_i32_760 : BitVec 32 := 96#32
  let v745 : BitVec 32 := Scalar.addi v744 c96_i32_760
  let c0_i32_767 : BitVec 32 := 0#32
  ![v745.toNat, 0]

def k0_off107 (v740 : BitVec 32) : Fin 2 → Nat :=
  let c128_i32_756 : BitVec 32 := 128#32
  let v741 : BitVec 32 := Scalar.muli v740 c128_i32_756
  let c96_i32_757 : BitVec 32 := 96#32
  let v742 : BitVec 32 := Scalar.addi v741 c96_i32_757
  let c0_i32_768 : BitVec 32 := 0#32
  ![v742.toNat, 0]

def k0_chk108 (v740 : BitVec 32) : Prop :=
  (∀ a, (k0_off107 v740) a + S32x4096.size a ≤ S4096x4096.size a) ∧
  (∀ (hinb : ∀ a, (k0_off107 v740) a + S32x4096.size a ≤ S4096x4096.size a), (Rect.unit (s := S4096x4096) (k0_off107 v740) S32x4096.size hinb).WholeWords (EltTy.packing .i8))
theorem k0_off107_inb : ∀ (v740 : BitVec 32) (k0_hw108 : k0_chk108 v740), ∀ a, (k0_off107 v740) a + S32x4096.size a ≤ S4096x4096.size a := fun v740 k0_hw108 => k0_hw108.1
theorem k0_off107_wordsi8 : ∀ (v740 : BitVec 32) (k0_hw108 : k0_chk108 v740), (Rect.unit (s := S4096x4096) (k0_off107 v740) S32x4096.size (k0_off107_inb v740 k0_hw108)).WholeWords (EltTy.packing .i8) := fun v740 k0_hw108 => k0_hw108.2 (k0_off107_inb v740 k0_hw108)

def k0_chk107 (v743 : BitVec 32) : Prop :=
  (∀ a, (k0_off106 v743) a + S32x4096.size a ≤ S4096x4096.size a) ∧
  (∀ (hinb : ∀ a, (k0_off106 v743) a + S32x4096.size a ≤ S4096x4096.size a), (Rect.unit (s := S4096x4096) (k0_off106 v743) S32x4096.size hinb).WholeWords (EltTy.packing .i8))
theorem k0_off106_inb : ∀ (v743 : BitVec 32) (k0_hw107 : k0_chk107 v743), ∀ a, (k0_off106 v743) a + S32x4096.size a ≤ S4096x4096.size a := fun v743 k0_hw107 => k0_hw107.1
theorem k0_off106_wordsi8 : ∀ (v743 : BitVec 32) (k0_hw107 : k0_chk107 v743), (Rect.unit (s := S4096x4096) (k0_off106 v743) S32x4096.size (k0_off106_inb v743 k0_hw107)).WholeWords (EltTy.packing .i8) := fun v743 k0_hw107 => k0_hw107.2 (k0_off106_inb v743 k0_hw107)

def k0_off108 (v755 : BitVec 32) : Fin 2 → Nat :=
  let c128_i32_773 : BitVec 32 := 128#32
  let v756 : BitVec 32 := Scalar.muli v755 c128_i32_773
  let c96_i32_774 : BitVec 32 := 96#32
  let v757 : BitVec 32 := Scalar.addi v756 c96_i32_774
  let c0_i32_781 : BitVec 32 := 0#32
  ![v757.toNat, 0]

def k0_off109 (v752 : BitVec 32) : Fin 2 → Nat :=
  let c128_i32_770 : BitVec 32 := 128#32
  let v753 : BitVec 32 := Scalar.muli v752 c128_i32_770
  let c96_i32_771 : BitVec 32 := 96#32
  let v754 : BitVec 32 := Scalar.addi v753 c96_i32_771
  let c0_i32_782 : BitVec 32 := 0#32
  ![v754.toNat, 0]

def k0_chk110 (v752 : BitVec 32) : Prop :=
  (∀ a, (k0_off109 v752) a + S32x4096.size a ≤ S4096x4096.size a) ∧
  (∀ (hinb : ∀ a, (k0_off109 v752) a + S32x4096.size a ≤ S4096x4096.size a), (Rect.unit (s := S4096x4096) (k0_off109 v752) S32x4096.size hinb).WholeWords (EltTy.packing .i8))
theorem k0_off109_inb : ∀ (v752 : BitVec 32) (k0_hw110 : k0_chk110 v752), ∀ a, (k0_off109 v752) a + S32x4096.size a ≤ S4096x4096.size a := fun v752 k0_hw110 => k0_hw110.1
theorem k0_off109_wordsi8 : ∀ (v752 : BitVec 32) (k0_hw110 : k0_chk110 v752), (Rect.unit (s := S4096x4096) (k0_off109 v752) S32x4096.size (k0_off109_inb v752 k0_hw110)).WholeWords (EltTy.packing .i8) := fun v752 k0_hw110 => k0_hw110.2 (k0_off109_inb v752 k0_hw110)

def k0_chk109 (v755 : BitVec 32) : Prop :=
  (∀ a, (k0_off108 v755) a + S32x4096.size a ≤ S4096x4096.size a) ∧
  (∀ (hinb : ∀ a, (k0_off108 v755) a + S32x4096.size a ≤ S4096x4096.size a), (Rect.unit (s := S4096x4096) (k0_off108 v755) S32x4096.size hinb).WholeWords (EltTy.packing .i8))
theorem k0_off108_inb : ∀ (v755 : BitVec 32) (k0_hw109 : k0_chk109 v755), ∀ a, (k0_off108 v755) a + S32x4096.size a ≤ S4096x4096.size a := fun v755 k0_hw109 => k0_hw109.1
theorem k0_off108_wordsi8 : ∀ (v755 : BitVec 32) (k0_hw109 : k0_chk109 v755), (Rect.unit (s := S4096x4096) (k0_off108 v755) S32x4096.size (k0_off108_inb v755 k0_hw109)).WholeWords (EltTy.packing .i8) := fun v755 k0_hw109 => k0_hw109.2 (k0_off108_inb v755 k0_hw109)

def k0_dev33 (v3 : BitVec 32) : Nat :=
  let c0_i32_780 : BitVec 32 := 0#32
  let c1_i32_779 : BitVec 32 := 1#32
  let v758 : BitVec 32 := Scalar.muli v3 c1_i32_779
  let v759 : BitVec 32 := Scalar.addi c0_i32_780 v758
  v759.toNat
def k0_off110 (v769 : BitVec 32) : Fin 2 → Nat :=
  let c128_i32_787 : BitVec 32 := 128#32
  let v770 : BitVec 32 := Scalar.muli v769 c128_i32_787
  let c96_i32_788 : BitVec 32 := 96#32
  let v771 : BitVec 32 := Scalar.addi v770 c96_i32_788
  let c0_i32_795 : BitVec 32 := 0#32
  ![v771.toNat, 0]

def k0_off111 (v766 : BitVec 32) : Fin 2 → Nat :=
  let c128_i32_784 : BitVec 32 := 128#32
  let v767 : BitVec 32 := Scalar.muli v766 c128_i32_784
  let c96_i32_785 : BitVec 32 := 96#32
  let v768 : BitVec 32 := Scalar.addi v767 c96_i32_785
  let c0_i32_796 : BitVec 32 := 0#32
  ![v768.toNat, 0]

def k0_chk112 (v766 : BitVec 32) : Prop :=
  (∀ a, (k0_off111 v766) a + S32x4096.size a ≤ S4096x4096.size a) ∧
  (∀ (hinb : ∀ a, (k0_off111 v766) a + S32x4096.size a ≤ S4096x4096.size a), (Rect.unit (s := S4096x4096) (k0_off111 v766) S32x4096.size hinb).WholeWords (EltTy.packing .i8))
theorem k0_off111_inb : ∀ (v766 : BitVec 32) (k0_hw112 : k0_chk112 v766), ∀ a, (k0_off111 v766) a + S32x4096.size a ≤ S4096x4096.size a := fun v766 k0_hw112 => k0_hw112.1
theorem k0_off111_wordsi8 : ∀ (v766 : BitVec 32) (k0_hw112 : k0_chk112 v766), (Rect.unit (s := S4096x4096) (k0_off111 v766) S32x4096.size (k0_off111_inb v766 k0_hw112)).WholeWords (EltTy.packing .i8) := fun v766 k0_hw112 => k0_hw112.2 (k0_off111_inb v766 k0_hw112)

def k0_chk111 (v769 : BitVec 32) : Prop :=
  (∀ a, (k0_off110 v769) a + S32x4096.size a ≤ S4096x4096.size a) ∧
  (∀ (hinb : ∀ a, (k0_off110 v769) a + S32x4096.size a ≤ S4096x4096.size a), (Rect.unit (s := S4096x4096) (k0_off110 v769) S32x4096.size hinb).WholeWords (EltTy.packing .i8))
theorem k0_off110_inb : ∀ (v769 : BitVec 32) (k0_hw111 : k0_chk111 v769), ∀ a, (k0_off110 v769) a + S32x4096.size a ≤ S4096x4096.size a := fun v769 k0_hw111 => k0_hw111.1
theorem k0_off110_wordsi8 : ∀ (v769 : BitVec 32) (k0_hw111 : k0_chk111 v769), (Rect.unit (s := S4096x4096) (k0_off110 v769) S32x4096.size (k0_off110_inb v769 k0_hw111)).WholeWords (EltTy.packing .i8) := fun v769 k0_hw111 => k0_hw111.2 (k0_off110_inb v769 k0_hw111)

def k0_off112 (v781 : BitVec 32) : Fin 2 → Nat :=
  let c128_i32_801 : BitVec 32 := 128#32
  let v782 : BitVec 32 := Scalar.muli v781 c128_i32_801
  let c96_i32_802 : BitVec 32 := 96#32
  let v783 : BitVec 32 := Scalar.addi v782 c96_i32_802
  let c0_i32_809 : BitVec 32 := 0#32
  ![v783.toNat, 0]

def k0_off113 (v778 : BitVec 32) : Fin 2 → Nat :=
  let c128_i32_798 : BitVec 32 := 128#32
  let v779 : BitVec 32 := Scalar.muli v778 c128_i32_798
  let c96_i32_799 : BitVec 32 := 96#32
  let v780 : BitVec 32 := Scalar.addi v779 c96_i32_799
  let c0_i32_810 : BitVec 32 := 0#32
  ![v780.toNat, 0]

def k0_chk114 (v778 : BitVec 32) : Prop :=
  (∀ a, (k0_off113 v778) a + S32x4096.size a ≤ S4096x4096.size a) ∧
  (∀ (hinb : ∀ a, (k0_off113 v778) a + S32x4096.size a ≤ S4096x4096.size a), (Rect.unit (s := S4096x4096) (k0_off113 v778) S32x4096.size hinb).WholeWords (EltTy.packing .i8))
theorem k0_off113_inb : ∀ (v778 : BitVec 32) (k0_hw114 : k0_chk114 v778), ∀ a, (k0_off113 v778) a + S32x4096.size a ≤ S4096x4096.size a := fun v778 k0_hw114 => k0_hw114.1
theorem k0_off113_wordsi8 : ∀ (v778 : BitVec 32) (k0_hw114 : k0_chk114 v778), (Rect.unit (s := S4096x4096) (k0_off113 v778) S32x4096.size (k0_off113_inb v778 k0_hw114)).WholeWords (EltTy.packing .i8) := fun v778 k0_hw114 => k0_hw114.2 (k0_off113_inb v778 k0_hw114)

def k0_chk113 (v781 : BitVec 32) : Prop :=
  (∀ a, (k0_off112 v781) a + S32x4096.size a ≤ S4096x4096.size a) ∧
  (∀ (hinb : ∀ a, (k0_off112 v781) a + S32x4096.size a ≤ S4096x4096.size a), (Rect.unit (s := S4096x4096) (k0_off112 v781) S32x4096.size hinb).WholeWords (EltTy.packing .i8))
theorem k0_off112_inb : ∀ (v781 : BitVec 32) (k0_hw113 : k0_chk113 v781), ∀ a, (k0_off112 v781) a + S32x4096.size a ≤ S4096x4096.size a := fun v781 k0_hw113 => k0_hw113.1
theorem k0_off112_wordsi8 : ∀ (v781 : BitVec 32) (k0_hw113 : k0_chk113 v781), (Rect.unit (s := S4096x4096) (k0_off112 v781) S32x4096.size (k0_off112_inb v781 k0_hw113)).WholeWords (EltTy.packing .i8) := fun v781 k0_hw113 => k0_hw113.2 (k0_off112_inb v781 k0_hw113)

def k0_dev34 (v4 : BitVec 32) : Nat :=
  let c0_i32_808 : BitVec 32 := 0#32
  let c1_i32_807 : BitVec 32 := 1#32
  let v784 : BitVec 32 := Scalar.muli v4 c1_i32_807
  let v785 : BitVec 32 := Scalar.addi c0_i32_808 v784
  v785.toNat
def k0_off114 (v793 : BitVec 32) : Fin 2 → Nat :=
  let c128_i32_813 : BitVec 32 := 128#32
  let v794 : BitVec 32 := Scalar.muli v793 c128_i32_813
  let v795 : Index := Scalar.indexCast v794
  let c0_814 : Index := 0#32
  ![v795.toNat, 0]

def k0_chk115 (v793 : BitVec 32) : Prop :=
  (∀ a, (k0_off114 v793) a + S128x4096.size a ≤ S4096x4096.size a)
theorem k0_off114_inb : ∀ (v793 : BitVec 32) (k0_hw115 : k0_chk115 v793), ∀ a, (k0_off114 v793) a + S128x4096.size a ≤ S4096x4096.size a := fun v793 k0_hw115 => k0_hw115

def k0_off115 (v792 : BitVec 32) : Fin 2 → Nat :=
  let c128_i32_818 : BitVec 32 := 128#32
  let v803 : BitVec 32 := Scalar.muli v792 c128_i32_818
  let v804 : Index := Scalar.indexCast v803
  let c0_819 : Index := 0#32
  ![v804.toNat, 0]

def k0_chk116 (v792 : BitVec 32) : Prop :=
  (∀ a, (k0_off115 v792) a + S128x64.size a ≤ S4096x64.size a)
theorem k0_off115_inb : ∀ (v792 : BitVec 32) (k0_hw116 : k0_chk116 v792), ∀ a, (k0_off115 v792) a + S128x64.size a ≤ S4096x64.size a := fun v792 k0_hw116 => k0_hw116

def k0_off116 (v807 : BitVec 32) : Fin 2 → Nat :=
  let c128_i32_822 : BitVec 32 := 128#32
  let v808 : BitVec 32 := Scalar.muli v807 c128_i32_822
  let v809 : Index := Scalar.indexCast v808
  let c0_823 : Index := 0#32
  ![v809.toNat, 0]

def k0_chk117 (v807 : BitVec 32) : Prop :=
  (∀ a, (k0_off116 v807) a + S128x4096.size a ≤ S4096x4096.size a)
theorem k0_off116_inb : ∀ (v807 : BitVec 32) (k0_hw117 : k0_chk117 v807), ∀ a, (k0_off116 v807) a + S128x4096.size a ≤ S4096x4096.size a := fun v807 k0_hw117 => k0_hw117

def k0_off117 (v806 : BitVec 32) : Fin 2 → Nat :=
  let c128_i32_827 : BitVec 32 := 128#32
  let v817 : BitVec 32 := Scalar.muli v806 c128_i32_827
  let v818 : Index := Scalar.indexCast v817
  let c0_828 : Index := 0#32
  ![v818.toNat, 0]

def k0_chk118 (v806 : BitVec 32) : Prop :=
  (∀ a, (k0_off117 v806) a + S128x64.size a ≤ S4096x64.size a)
theorem k0_off117_inb : ∀ (v806 : BitVec 32) (k0_hw118 : k0_chk118 v806), ∀ a, (k0_off117 v806) a + S128x64.size a ≤ S4096x64.size a := fun v806 k0_hw118 => k0_hw118

def k0_off118 (v823 : BitVec 32) : Fin 2 → Nat :=
  let c128_i32_833 : BitVec 32 := 128#32
  let v824 : BitVec 32 := Scalar.muli v823 c128_i32_833
  let c0_i32_834 : BitVec 32 := 0#32
  let v825 : BitVec 32 := Scalar.addi v824 c0_i32_834
  let c0_i32_841 : BitVec 32 := 0#32
  ![v825.toNat, 0]

def k0_off119 (v820 : BitVec 32) : Fin 2 → Nat :=
  let c128_i32_830 : BitVec 32 := 128#32
  let v821 : BitVec 32 := Scalar.muli v820 c128_i32_830
  let c0_i32_831 : BitVec 32 := 0#32
  let v822 : BitVec 32 := Scalar.addi v821 c0_i32_831
  let c0_i32_842 : BitVec 32 := 0#32
  ![v822.toNat, 0]

def k0_chk120 (v820 : BitVec 32) : Prop :=
  (∀ a, (k0_off119 v820) a + S32x4096.size a ≤ S4096x4096.size a) ∧
  (∀ (hinb : ∀ a, (k0_off119 v820) a + S32x4096.size a ≤ S4096x4096.size a), (Rect.unit (s := S4096x4096) (k0_off119 v820) S32x4096.size hinb).WholeWords (EltTy.packing .i8))
theorem k0_off119_inb : ∀ (v820 : BitVec 32) (k0_hw120 : k0_chk120 v820), ∀ a, (k0_off119 v820) a + S32x4096.size a ≤ S4096x4096.size a := fun v820 k0_hw120 => k0_hw120.1
theorem k0_off119_wordsi8 : ∀ (v820 : BitVec 32) (k0_hw120 : k0_chk120 v820), (Rect.unit (s := S4096x4096) (k0_off119 v820) S32x4096.size (k0_off119_inb v820 k0_hw120)).WholeWords (EltTy.packing .i8) := fun v820 k0_hw120 => k0_hw120.2 (k0_off119_inb v820 k0_hw120)

def k0_chk119 (v823 : BitVec 32) : Prop :=
  (∀ a, (k0_off118 v823) a + S32x4096.size a ≤ S4096x4096.size a) ∧
  (∀ (hinb : ∀ a, (k0_off118 v823) a + S32x4096.size a ≤ S4096x4096.size a), (Rect.unit (s := S4096x4096) (k0_off118 v823) S32x4096.size hinb).WholeWords (EltTy.packing .i8))
theorem k0_off118_inb : ∀ (v823 : BitVec 32) (k0_hw119 : k0_chk119 v823), ∀ a, (k0_off118 v823) a + S32x4096.size a ≤ S4096x4096.size a := fun v823 k0_hw119 => k0_hw119.1
theorem k0_off118_wordsi8 : ∀ (v823 : BitVec 32) (k0_hw119 : k0_chk119 v823), (Rect.unit (s := S4096x4096) (k0_off118 v823) S32x4096.size (k0_off118_inb v823 k0_hw119)).WholeWords (EltTy.packing .i8) := fun v823 k0_hw119 => k0_hw119.2 (k0_off118_inb v823 k0_hw119)

def k0_off120 (v835 : BitVec 32) : Fin 2 → Nat :=
  let c128_i32_846 : BitVec 32 := 128#32
  let v836 : BitVec 32 := Scalar.muli v835 c128_i32_846
  let c0_i32_847 : BitVec 32 := 0#32
  let v837 : BitVec 32 := Scalar.addi v836 c0_i32_847
  let c0_i32_853 : BitVec 32 := 0#32
  ![v837.toNat, 0]

def k0_off121 (v832 : BitVec 32) : Fin 2 → Nat :=
  let c128_i32_843 : BitVec 32 := 128#32
  let v833 : BitVec 32 := Scalar.muli v832 c128_i32_843
  let c0_i32_844 : BitVec 32 := 0#32
  let v834 : BitVec 32 := Scalar.addi v833 c0_i32_844
  let c0_i32_854 : BitVec 32 := 0#32
  ![v834.toNat, 0]

def k0_chk122 (v832 : BitVec 32) : Prop :=
  (∀ a, (k0_off121 v832) a + S32x4096.size a ≤ S4096x4096.size a) ∧
  (∀ (hinb : ∀ a, (k0_off121 v832) a + S32x4096.size a ≤ S4096x4096.size a), (Rect.unit (s := S4096x4096) (k0_off121 v832) S32x4096.size hinb).WholeWords (EltTy.packing .i8))
theorem k0_off121_inb : ∀ (v832 : BitVec 32) (k0_hw122 : k0_chk122 v832), ∀ a, (k0_off121 v832) a + S32x4096.size a ≤ S4096x4096.size a := fun v832 k0_hw122 => k0_hw122.1
theorem k0_off121_wordsi8 : ∀ (v832 : BitVec 32) (k0_hw122 : k0_chk122 v832), (Rect.unit (s := S4096x4096) (k0_off121 v832) S32x4096.size (k0_off121_inb v832 k0_hw122)).WholeWords (EltTy.packing .i8) := fun v832 k0_hw122 => k0_hw122.2 (k0_off121_inb v832 k0_hw122)

def k0_chk121 (v835 : BitVec 32) : Prop :=
  (∀ a, (k0_off120 v835) a + S32x4096.size a ≤ S4096x4096.size a) ∧
  (∀ (hinb : ∀ a, (k0_off120 v835) a + S32x4096.size a ≤ S4096x4096.size a), (Rect.unit (s := S4096x4096) (k0_off120 v835) S32x4096.size hinb).WholeWords (EltTy.packing .i8))
theorem k0_off120_inb : ∀ (v835 : BitVec 32) (k0_hw121 : k0_chk121 v835), ∀ a, (k0_off120 v835) a + S32x4096.size a ≤ S4096x4096.size a := fun v835 k0_hw121 => k0_hw121.1
theorem k0_off120_wordsi8 : ∀ (v835 : BitVec 32) (k0_hw121 : k0_chk121 v835), (Rect.unit (s := S4096x4096) (k0_off120 v835) S32x4096.size (k0_off120_inb v835 k0_hw121)).WholeWords (EltTy.packing .i8) := fun v835 k0_hw121 => k0_hw121.2 (k0_off120_inb v835 k0_hw121)

def k0_dev35 (v3 : BitVec 32) : Nat :=
  let c0_i32_852 : BitVec 32 := 0#32
  let c1_i32_851 : BitVec 32 := 1#32
  let v838 : BitVec 32 := Scalar.muli v3 c1_i32_851
  let v839 : BitVec 32 := Scalar.addi c0_i32_852 v838
  v839.toNat
def k0_off122 (v849 : BitVec 32) : Fin 2 → Nat :=
  let c128_i32_859 : BitVec 32 := 128#32
  let v850 : BitVec 32 := Scalar.muli v849 c128_i32_859
  let c0_i32_860 : BitVec 32 := 0#32
  let v851 : BitVec 32 := Scalar.addi v850 c0_i32_860
  let c0_i32_867 : BitVec 32 := 0#32
  ![v851.toNat, 0]

def k0_off123 (v846 : BitVec 32) : Fin 2 → Nat :=
  let c128_i32_856 : BitVec 32 := 128#32
  let v847 : BitVec 32 := Scalar.muli v846 c128_i32_856
  let c0_i32_857 : BitVec 32 := 0#32
  let v848 : BitVec 32 := Scalar.addi v847 c0_i32_857
  let c0_i32_868 : BitVec 32 := 0#32
  ![v848.toNat, 0]

def k0_chk124 (v846 : BitVec 32) : Prop :=
  (∀ a, (k0_off123 v846) a + S32x4096.size a ≤ S4096x4096.size a) ∧
  (∀ (hinb : ∀ a, (k0_off123 v846) a + S32x4096.size a ≤ S4096x4096.size a), (Rect.unit (s := S4096x4096) (k0_off123 v846) S32x4096.size hinb).WholeWords (EltTy.packing .i8))
theorem k0_off123_inb : ∀ (v846 : BitVec 32) (k0_hw124 : k0_chk124 v846), ∀ a, (k0_off123 v846) a + S32x4096.size a ≤ S4096x4096.size a := fun v846 k0_hw124 => k0_hw124.1
theorem k0_off123_wordsi8 : ∀ (v846 : BitVec 32) (k0_hw124 : k0_chk124 v846), (Rect.unit (s := S4096x4096) (k0_off123 v846) S32x4096.size (k0_off123_inb v846 k0_hw124)).WholeWords (EltTy.packing .i8) := fun v846 k0_hw124 => k0_hw124.2 (k0_off123_inb v846 k0_hw124)

def k0_chk123 (v849 : BitVec 32) : Prop :=
  (∀ a, (k0_off122 v849) a + S32x4096.size a ≤ S4096x4096.size a) ∧
  (∀ (hinb : ∀ a, (k0_off122 v849) a + S32x4096.size a ≤ S4096x4096.size a), (Rect.unit (s := S4096x4096) (k0_off122 v849) S32x4096.size hinb).WholeWords (EltTy.packing .i8))
theorem k0_off122_inb : ∀ (v849 : BitVec 32) (k0_hw123 : k0_chk123 v849), ∀ a, (k0_off122 v849) a + S32x4096.size a ≤ S4096x4096.size a := fun v849 k0_hw123 => k0_hw123.1
theorem k0_off122_wordsi8 : ∀ (v849 : BitVec 32) (k0_hw123 : k0_chk123 v849), (Rect.unit (s := S4096x4096) (k0_off122 v849) S32x4096.size (k0_off122_inb v849 k0_hw123)).WholeWords (EltTy.packing .i8) := fun v849 k0_hw123 => k0_hw123.2 (k0_off122_inb v849 k0_hw123)

def k0_off124 (v861 : BitVec 32) : Fin 2 → Nat :=
  let c128_i32_873 : BitVec 32 := 128#32
  let v862 : BitVec 32 := Scalar.muli v861 c128_i32_873
  let c0_i32_874 : BitVec 32 := 0#32
  let v863 : BitVec 32 := Scalar.addi v862 c0_i32_874
  let c0_i32_881 : BitVec 32 := 0#32
  ![v863.toNat, 0]

def k0_off125 (v858 : BitVec 32) : Fin 2 → Nat :=
  let c128_i32_870 : BitVec 32 := 128#32
  let v859 : BitVec 32 := Scalar.muli v858 c128_i32_870
  let c0_i32_871 : BitVec 32 := 0#32
  let v860 : BitVec 32 := Scalar.addi v859 c0_i32_871
  let c0_i32_882 : BitVec 32 := 0#32
  ![v860.toNat, 0]

def k0_chk126 (v858 : BitVec 32) : Prop :=
  (∀ a, (k0_off125 v858) a + S32x4096.size a ≤ S4096x4096.size a) ∧
  (∀ (hinb : ∀ a, (k0_off125 v858) a + S32x4096.size a ≤ S4096x4096.size a), (Rect.unit (s := S4096x4096) (k0_off125 v858) S32x4096.size hinb).WholeWords (EltTy.packing .i8))
theorem k0_off125_inb : ∀ (v858 : BitVec 32) (k0_hw126 : k0_chk126 v858), ∀ a, (k0_off125 v858) a + S32x4096.size a ≤ S4096x4096.size a := fun v858 k0_hw126 => k0_hw126.1
theorem k0_off125_wordsi8 : ∀ (v858 : BitVec 32) (k0_hw126 : k0_chk126 v858), (Rect.unit (s := S4096x4096) (k0_off125 v858) S32x4096.size (k0_off125_inb v858 k0_hw126)).WholeWords (EltTy.packing .i8) := fun v858 k0_hw126 => k0_hw126.2 (k0_off125_inb v858 k0_hw126)

def k0_chk125 (v861 : BitVec 32) : Prop :=
  (∀ a, (k0_off124 v861) a + S32x4096.size a ≤ S4096x4096.size a) ∧
  (∀ (hinb : ∀ a, (k0_off124 v861) a + S32x4096.size a ≤ S4096x4096.size a), (Rect.unit (s := S4096x4096) (k0_off124 v861) S32x4096.size hinb).WholeWords (EltTy.packing .i8))
theorem k0_off124_inb : ∀ (v861 : BitVec 32) (k0_hw125 : k0_chk125 v861), ∀ a, (k0_off124 v861) a + S32x4096.size a ≤ S4096x4096.size a := fun v861 k0_hw125 => k0_hw125.1
theorem k0_off124_wordsi8 : ∀ (v861 : BitVec 32) (k0_hw125 : k0_chk125 v861), (Rect.unit (s := S4096x4096) (k0_off124 v861) S32x4096.size (k0_off124_inb v861 k0_hw125)).WholeWords (EltTy.packing .i8) := fun v861 k0_hw125 => k0_hw125.2 (k0_off124_inb v861 k0_hw125)

def k0_dev36 (v4 : BitVec 32) : Nat :=
  let c0_i32_880 : BitVec 32 := 0#32
  let c1_i32_879 : BitVec 32 := 1#32
  let v864 : BitVec 32 := Scalar.muli v4 c1_i32_879
  let v865 : BitVec 32 := Scalar.addi c0_i32_880 v864
  v865.toNat
def k0_off126 (v875 : BitVec 32) : Fin 2 → Nat :=
  let c128_i32_887 : BitVec 32 := 128#32
  let v876 : BitVec 32 := Scalar.muli v875 c128_i32_887
  let c32_i32_888 : BitVec 32 := 32#32
  let v877 : BitVec 32 := Scalar.addi v876 c32_i32_888
  let c0_i32_895 : BitVec 32 := 0#32
  ![v877.toNat, 0]

def k0_off127 (v872 : BitVec 32) : Fin 2 → Nat :=
  let c128_i32_884 : BitVec 32 := 128#32
  let v873 : BitVec 32 := Scalar.muli v872 c128_i32_884
  let c32_i32_885 : BitVec 32 := 32#32
  let v874 : BitVec 32 := Scalar.addi v873 c32_i32_885
  let c0_i32_896 : BitVec 32 := 0#32
  ![v874.toNat, 0]

def k0_chk128 (v872 : BitVec 32) : Prop :=
  (∀ a, (k0_off127 v872) a + S32x4096.size a ≤ S4096x4096.size a) ∧
  (∀ (hinb : ∀ a, (k0_off127 v872) a + S32x4096.size a ≤ S4096x4096.size a), (Rect.unit (s := S4096x4096) (k0_off127 v872) S32x4096.size hinb).WholeWords (EltTy.packing .i8))
theorem k0_off127_inb : ∀ (v872 : BitVec 32) (k0_hw128 : k0_chk128 v872), ∀ a, (k0_off127 v872) a + S32x4096.size a ≤ S4096x4096.size a := fun v872 k0_hw128 => k0_hw128.1
theorem k0_off127_wordsi8 : ∀ (v872 : BitVec 32) (k0_hw128 : k0_chk128 v872), (Rect.unit (s := S4096x4096) (k0_off127 v872) S32x4096.size (k0_off127_inb v872 k0_hw128)).WholeWords (EltTy.packing .i8) := fun v872 k0_hw128 => k0_hw128.2 (k0_off127_inb v872 k0_hw128)

def k0_chk127 (v875 : BitVec 32) : Prop :=
  (∀ a, (k0_off126 v875) a + S32x4096.size a ≤ S4096x4096.size a) ∧
  (∀ (hinb : ∀ a, (k0_off126 v875) a + S32x4096.size a ≤ S4096x4096.size a), (Rect.unit (s := S4096x4096) (k0_off126 v875) S32x4096.size hinb).WholeWords (EltTy.packing .i8))
theorem k0_off126_inb : ∀ (v875 : BitVec 32) (k0_hw127 : k0_chk127 v875), ∀ a, (k0_off126 v875) a + S32x4096.size a ≤ S4096x4096.size a := fun v875 k0_hw127 => k0_hw127.1
theorem k0_off126_wordsi8 : ∀ (v875 : BitVec 32) (k0_hw127 : k0_chk127 v875), (Rect.unit (s := S4096x4096) (k0_off126 v875) S32x4096.size (k0_off126_inb v875 k0_hw127)).WholeWords (EltTy.packing .i8) := fun v875 k0_hw127 => k0_hw127.2 (k0_off126_inb v875 k0_hw127)

def k0_off128 (v887 : BitVec 32) : Fin 2 → Nat :=
  let c128_i32_901 : BitVec 32 := 128#32
  let v888 : BitVec 32 := Scalar.muli v887 c128_i32_901
  let c32_i32_902 : BitVec 32 := 32#32
  let v889 : BitVec 32 := Scalar.addi v888 c32_i32_902
  let c0_i32_909 : BitVec 32 := 0#32
  ![v889.toNat, 0]

def k0_off129 (v884 : BitVec 32) : Fin 2 → Nat :=
  let c128_i32_898 : BitVec 32 := 128#32
  let v885 : BitVec 32 := Scalar.muli v884 c128_i32_898
  let c32_i32_899 : BitVec 32 := 32#32
  let v886 : BitVec 32 := Scalar.addi v885 c32_i32_899
  let c0_i32_910 : BitVec 32 := 0#32
  ![v886.toNat, 0]

def k0_chk130 (v884 : BitVec 32) : Prop :=
  (∀ a, (k0_off129 v884) a + S32x4096.size a ≤ S4096x4096.size a) ∧
  (∀ (hinb : ∀ a, (k0_off129 v884) a + S32x4096.size a ≤ S4096x4096.size a), (Rect.unit (s := S4096x4096) (k0_off129 v884) S32x4096.size hinb).WholeWords (EltTy.packing .i8))
theorem k0_off129_inb : ∀ (v884 : BitVec 32) (k0_hw130 : k0_chk130 v884), ∀ a, (k0_off129 v884) a + S32x4096.size a ≤ S4096x4096.size a := fun v884 k0_hw130 => k0_hw130.1
theorem k0_off129_wordsi8 : ∀ (v884 : BitVec 32) (k0_hw130 : k0_chk130 v884), (Rect.unit (s := S4096x4096) (k0_off129 v884) S32x4096.size (k0_off129_inb v884 k0_hw130)).WholeWords (EltTy.packing .i8) := fun v884 k0_hw130 => k0_hw130.2 (k0_off129_inb v884 k0_hw130)

def k0_chk129 (v887 : BitVec 32) : Prop :=
  (∀ a, (k0_off128 v887) a + S32x4096.size a ≤ S4096x4096.size a) ∧
  (∀ (hinb : ∀ a, (k0_off128 v887) a + S32x4096.size a ≤ S4096x4096.size a), (Rect.unit (s := S4096x4096) (k0_off128 v887) S32x4096.size hinb).WholeWords (EltTy.packing .i8))
theorem k0_off128_inb : ∀ (v887 : BitVec 32) (k0_hw129 : k0_chk129 v887), ∀ a, (k0_off128 v887) a + S32x4096.size a ≤ S4096x4096.size a := fun v887 k0_hw129 => k0_hw129.1
theorem k0_off128_wordsi8 : ∀ (v887 : BitVec 32) (k0_hw129 : k0_chk129 v887), (Rect.unit (s := S4096x4096) (k0_off128 v887) S32x4096.size (k0_off128_inb v887 k0_hw129)).WholeWords (EltTy.packing .i8) := fun v887 k0_hw129 => k0_hw129.2 (k0_off128_inb v887 k0_hw129)

def k0_dev37 (v3 : BitVec 32) : Nat :=
  let c0_i32_908 : BitVec 32 := 0#32
  let c1_i32_907 : BitVec 32 := 1#32
  let v890 : BitVec 32 := Scalar.muli v3 c1_i32_907
  let v891 : BitVec 32 := Scalar.addi c0_i32_908 v890
  v891.toNat
def k0_off130 (v901 : BitVec 32) : Fin 2 → Nat :=
  let c128_i32_915 : BitVec 32 := 128#32
  let v902 : BitVec 32 := Scalar.muli v901 c128_i32_915
  let c32_i32_916 : BitVec 32 := 32#32
  let v903 : BitVec 32 := Scalar.addi v902 c32_i32_916
  let c0_i32_923 : BitVec 32 := 0#32
  ![v903.toNat, 0]

def k0_off131 (v898 : BitVec 32) : Fin 2 → Nat :=
  let c128_i32_912 : BitVec 32 := 128#32
  let v899 : BitVec 32 := Scalar.muli v898 c128_i32_912
  let c32_i32_913 : BitVec 32 := 32#32
  let v900 : BitVec 32 := Scalar.addi v899 c32_i32_913
  let c0_i32_924 : BitVec 32 := 0#32
  ![v900.toNat, 0]

def k0_chk132 (v898 : BitVec 32) : Prop :=
  (∀ a, (k0_off131 v898) a + S32x4096.size a ≤ S4096x4096.size a) ∧
  (∀ (hinb : ∀ a, (k0_off131 v898) a + S32x4096.size a ≤ S4096x4096.size a), (Rect.unit (s := S4096x4096) (k0_off131 v898) S32x4096.size hinb).WholeWords (EltTy.packing .i8))
theorem k0_off131_inb : ∀ (v898 : BitVec 32) (k0_hw132 : k0_chk132 v898), ∀ a, (k0_off131 v898) a + S32x4096.size a ≤ S4096x4096.size a := fun v898 k0_hw132 => k0_hw132.1
theorem k0_off131_wordsi8 : ∀ (v898 : BitVec 32) (k0_hw132 : k0_chk132 v898), (Rect.unit (s := S4096x4096) (k0_off131 v898) S32x4096.size (k0_off131_inb v898 k0_hw132)).WholeWords (EltTy.packing .i8) := fun v898 k0_hw132 => k0_hw132.2 (k0_off131_inb v898 k0_hw132)

def k0_chk131 (v901 : BitVec 32) : Prop :=
  (∀ a, (k0_off130 v901) a + S32x4096.size a ≤ S4096x4096.size a) ∧
  (∀ (hinb : ∀ a, (k0_off130 v901) a + S32x4096.size a ≤ S4096x4096.size a), (Rect.unit (s := S4096x4096) (k0_off130 v901) S32x4096.size hinb).WholeWords (EltTy.packing .i8))
theorem k0_off130_inb : ∀ (v901 : BitVec 32) (k0_hw131 : k0_chk131 v901), ∀ a, (k0_off130 v901) a + S32x4096.size a ≤ S4096x4096.size a := fun v901 k0_hw131 => k0_hw131.1
theorem k0_off130_wordsi8 : ∀ (v901 : BitVec 32) (k0_hw131 : k0_chk131 v901), (Rect.unit (s := S4096x4096) (k0_off130 v901) S32x4096.size (k0_off130_inb v901 k0_hw131)).WholeWords (EltTy.packing .i8) := fun v901 k0_hw131 => k0_hw131.2 (k0_off130_inb v901 k0_hw131)

def k0_off132 (v913 : BitVec 32) : Fin 2 → Nat :=
  let c128_i32_929 : BitVec 32 := 128#32
  let v914 : BitVec 32 := Scalar.muli v913 c128_i32_929
  let c32_i32_930 : BitVec 32 := 32#32
  let v915 : BitVec 32 := Scalar.addi v914 c32_i32_930
  let c0_i32_937 : BitVec 32 := 0#32
  ![v915.toNat, 0]

def k0_off133 (v910 : BitVec 32) : Fin 2 → Nat :=
  let c128_i32_926 : BitVec 32 := 128#32
  let v911 : BitVec 32 := Scalar.muli v910 c128_i32_926
  let c32_i32_927 : BitVec 32 := 32#32
  let v912 : BitVec 32 := Scalar.addi v911 c32_i32_927
  let c0_i32_938 : BitVec 32 := 0#32
  ![v912.toNat, 0]

def k0_chk134 (v910 : BitVec 32) : Prop :=
  (∀ a, (k0_off133 v910) a + S32x4096.size a ≤ S4096x4096.size a) ∧
  (∀ (hinb : ∀ a, (k0_off133 v910) a + S32x4096.size a ≤ S4096x4096.size a), (Rect.unit (s := S4096x4096) (k0_off133 v910) S32x4096.size hinb).WholeWords (EltTy.packing .i8))
theorem k0_off133_inb : ∀ (v910 : BitVec 32) (k0_hw134 : k0_chk134 v910), ∀ a, (k0_off133 v910) a + S32x4096.size a ≤ S4096x4096.size a := fun v910 k0_hw134 => k0_hw134.1
theorem k0_off133_wordsi8 : ∀ (v910 : BitVec 32) (k0_hw134 : k0_chk134 v910), (Rect.unit (s := S4096x4096) (k0_off133 v910) S32x4096.size (k0_off133_inb v910 k0_hw134)).WholeWords (EltTy.packing .i8) := fun v910 k0_hw134 => k0_hw134.2 (k0_off133_inb v910 k0_hw134)

def k0_chk133 (v913 : BitVec 32) : Prop :=
  (∀ a, (k0_off132 v913) a + S32x4096.size a ≤ S4096x4096.size a) ∧
  (∀ (hinb : ∀ a, (k0_off132 v913) a + S32x4096.size a ≤ S4096x4096.size a), (Rect.unit (s := S4096x4096) (k0_off132 v913) S32x4096.size hinb).WholeWords (EltTy.packing .i8))
theorem k0_off132_inb : ∀ (v913 : BitVec 32) (k0_hw133 : k0_chk133 v913), ∀ a, (k0_off132 v913) a + S32x4096.size a ≤ S4096x4096.size a := fun v913 k0_hw133 => k0_hw133.1
theorem k0_off132_wordsi8 : ∀ (v913 : BitVec 32) (k0_hw133 : k0_chk133 v913), (Rect.unit (s := S4096x4096) (k0_off132 v913) S32x4096.size (k0_off132_inb v913 k0_hw133)).WholeWords (EltTy.packing .i8) := fun v913 k0_hw133 => k0_hw133.2 (k0_off132_inb v913 k0_hw133)

def k0_dev38 (v4 : BitVec 32) : Nat :=
  let c0_i32_936 : BitVec 32 := 0#32
  let c1_i32_935 : BitVec 32 := 1#32
  let v916 : BitVec 32 := Scalar.muli v4 c1_i32_935
  let v917 : BitVec 32 := Scalar.addi c0_i32_936 v916
  v917.toNat
def k0_off134 (v927 : BitVec 32) : Fin 2 → Nat :=
  let c128_i32_943 : BitVec 32 := 128#32
  let v928 : BitVec 32 := Scalar.muli v927 c128_i32_943
  let c64_i32_944 : BitVec 32 := 64#32
  let v929 : BitVec 32 := Scalar.addi v928 c64_i32_944
  let c0_i32_951 : BitVec 32 := 0#32
  ![v929.toNat, 0]

def k0_off135 (v924 : BitVec 32) : Fin 2 → Nat :=
  let c128_i32_940 : BitVec 32 := 128#32
  let v925 : BitVec 32 := Scalar.muli v924 c128_i32_940
  let c64_i32_941 : BitVec 32 := 64#32
  let v926 : BitVec 32 := Scalar.addi v925 c64_i32_941
  let c0_i32_952 : BitVec 32 := 0#32
  ![v926.toNat, 0]

def k0_chk136 (v924 : BitVec 32) : Prop :=
  (∀ a, (k0_off135 v924) a + S32x4096.size a ≤ S4096x4096.size a) ∧
  (∀ (hinb : ∀ a, (k0_off135 v924) a + S32x4096.size a ≤ S4096x4096.size a), (Rect.unit (s := S4096x4096) (k0_off135 v924) S32x4096.size hinb).WholeWords (EltTy.packing .i8))
theorem k0_off135_inb : ∀ (v924 : BitVec 32) (k0_hw136 : k0_chk136 v924), ∀ a, (k0_off135 v924) a + S32x4096.size a ≤ S4096x4096.size a := fun v924 k0_hw136 => k0_hw136.1
theorem k0_off135_wordsi8 : ∀ (v924 : BitVec 32) (k0_hw136 : k0_chk136 v924), (Rect.unit (s := S4096x4096) (k0_off135 v924) S32x4096.size (k0_off135_inb v924 k0_hw136)).WholeWords (EltTy.packing .i8) := fun v924 k0_hw136 => k0_hw136.2 (k0_off135_inb v924 k0_hw136)

def k0_chk135 (v927 : BitVec 32) : Prop :=
  (∀ a, (k0_off134 v927) a + S32x4096.size a ≤ S4096x4096.size a) ∧
  (∀ (hinb : ∀ a, (k0_off134 v927) a + S32x4096.size a ≤ S4096x4096.size a), (Rect.unit (s := S4096x4096) (k0_off134 v927) S32x4096.size hinb).WholeWords (EltTy.packing .i8))
theorem k0_off134_inb : ∀ (v927 : BitVec 32) (k0_hw135 : k0_chk135 v927), ∀ a, (k0_off134 v927) a + S32x4096.size a ≤ S4096x4096.size a := fun v927 k0_hw135 => k0_hw135.1
theorem k0_off134_wordsi8 : ∀ (v927 : BitVec 32) (k0_hw135 : k0_chk135 v927), (Rect.unit (s := S4096x4096) (k0_off134 v927) S32x4096.size (k0_off134_inb v927 k0_hw135)).WholeWords (EltTy.packing .i8) := fun v927 k0_hw135 => k0_hw135.2 (k0_off134_inb v927 k0_hw135)

def k0_off136 (v939 : BitVec 32) : Fin 2 → Nat :=
  let c128_i32_957 : BitVec 32 := 128#32
  let v940 : BitVec 32 := Scalar.muli v939 c128_i32_957
  let c64_i32_958 : BitVec 32 := 64#32
  let v941 : BitVec 32 := Scalar.addi v940 c64_i32_958
  let c0_i32_965 : BitVec 32 := 0#32
  ![v941.toNat, 0]

def k0_off137 (v936 : BitVec 32) : Fin 2 → Nat :=
  let c128_i32_954 : BitVec 32 := 128#32
  let v937 : BitVec 32 := Scalar.muli v936 c128_i32_954
  let c64_i32_955 : BitVec 32 := 64#32
  let v938 : BitVec 32 := Scalar.addi v937 c64_i32_955
  let c0_i32_966 : BitVec 32 := 0#32
  ![v938.toNat, 0]

def k0_chk138 (v936 : BitVec 32) : Prop :=
  (∀ a, (k0_off137 v936) a + S32x4096.size a ≤ S4096x4096.size a) ∧
  (∀ (hinb : ∀ a, (k0_off137 v936) a + S32x4096.size a ≤ S4096x4096.size a), (Rect.unit (s := S4096x4096) (k0_off137 v936) S32x4096.size hinb).WholeWords (EltTy.packing .i8))
theorem k0_off137_inb : ∀ (v936 : BitVec 32) (k0_hw138 : k0_chk138 v936), ∀ a, (k0_off137 v936) a + S32x4096.size a ≤ S4096x4096.size a := fun v936 k0_hw138 => k0_hw138.1
theorem k0_off137_wordsi8 : ∀ (v936 : BitVec 32) (k0_hw138 : k0_chk138 v936), (Rect.unit (s := S4096x4096) (k0_off137 v936) S32x4096.size (k0_off137_inb v936 k0_hw138)).WholeWords (EltTy.packing .i8) := fun v936 k0_hw138 => k0_hw138.2 (k0_off137_inb v936 k0_hw138)

def k0_chk137 (v939 : BitVec 32) : Prop :=
  (∀ a, (k0_off136 v939) a + S32x4096.size a ≤ S4096x4096.size a) ∧
  (∀ (hinb : ∀ a, (k0_off136 v939) a + S32x4096.size a ≤ S4096x4096.size a), (Rect.unit (s := S4096x4096) (k0_off136 v939) S32x4096.size hinb).WholeWords (EltTy.packing .i8))
theorem k0_off136_inb : ∀ (v939 : BitVec 32) (k0_hw137 : k0_chk137 v939), ∀ a, (k0_off136 v939) a + S32x4096.size a ≤ S4096x4096.size a := fun v939 k0_hw137 => k0_hw137.1
theorem k0_off136_wordsi8 : ∀ (v939 : BitVec 32) (k0_hw137 : k0_chk137 v939), (Rect.unit (s := S4096x4096) (k0_off136 v939) S32x4096.size (k0_off136_inb v939 k0_hw137)).WholeWords (EltTy.packing .i8) := fun v939 k0_hw137 => k0_hw137.2 (k0_off136_inb v939 k0_hw137)

def k0_dev39 (v3 : BitVec 32) : Nat :=
  let c0_i32_964 : BitVec 32 := 0#32
  let c1_i32_963 : BitVec 32 := 1#32
  let v942 : BitVec 32 := Scalar.muli v3 c1_i32_963
  let v943 : BitVec 32 := Scalar.addi c0_i32_964 v942
  v943.toNat
def k0_off138 (v953 : BitVec 32) : Fin 2 → Nat :=
  let c128_i32_971 : BitVec 32 := 128#32
  let v954 : BitVec 32 := Scalar.muli v953 c128_i32_971
  let c64_i32_972 : BitVec 32 := 64#32
  let v955 : BitVec 32 := Scalar.addi v954 c64_i32_972
  let c0_i32_979 : BitVec 32 := 0#32
  ![v955.toNat, 0]

def k0_off139 (v950 : BitVec 32) : Fin 2 → Nat :=
  let c128_i32_968 : BitVec 32 := 128#32
  let v951 : BitVec 32 := Scalar.muli v950 c128_i32_968
  let c64_i32_969 : BitVec 32 := 64#32
  let v952 : BitVec 32 := Scalar.addi v951 c64_i32_969
  let c0_i32_980 : BitVec 32 := 0#32
  ![v952.toNat, 0]

def k0_chk140 (v950 : BitVec 32) : Prop :=
  (∀ a, (k0_off139 v950) a + S32x4096.size a ≤ S4096x4096.size a) ∧
  (∀ (hinb : ∀ a, (k0_off139 v950) a + S32x4096.size a ≤ S4096x4096.size a), (Rect.unit (s := S4096x4096) (k0_off139 v950) S32x4096.size hinb).WholeWords (EltTy.packing .i8))
theorem k0_off139_inb : ∀ (v950 : BitVec 32) (k0_hw140 : k0_chk140 v950), ∀ a, (k0_off139 v950) a + S32x4096.size a ≤ S4096x4096.size a := fun v950 k0_hw140 => k0_hw140.1
theorem k0_off139_wordsi8 : ∀ (v950 : BitVec 32) (k0_hw140 : k0_chk140 v950), (Rect.unit (s := S4096x4096) (k0_off139 v950) S32x4096.size (k0_off139_inb v950 k0_hw140)).WholeWords (EltTy.packing .i8) := fun v950 k0_hw140 => k0_hw140.2 (k0_off139_inb v950 k0_hw140)

def k0_chk139 (v953 : BitVec 32) : Prop :=
  (∀ a, (k0_off138 v953) a + S32x4096.size a ≤ S4096x4096.size a) ∧
  (∀ (hinb : ∀ a, (k0_off138 v953) a + S32x4096.size a ≤ S4096x4096.size a), (Rect.unit (s := S4096x4096) (k0_off138 v953) S32x4096.size hinb).WholeWords (EltTy.packing .i8))
theorem k0_off138_inb : ∀ (v953 : BitVec 32) (k0_hw139 : k0_chk139 v953), ∀ a, (k0_off138 v953) a + S32x4096.size a ≤ S4096x4096.size a := fun v953 k0_hw139 => k0_hw139.1
theorem k0_off138_wordsi8 : ∀ (v953 : BitVec 32) (k0_hw139 : k0_chk139 v953), (Rect.unit (s := S4096x4096) (k0_off138 v953) S32x4096.size (k0_off138_inb v953 k0_hw139)).WholeWords (EltTy.packing .i8) := fun v953 k0_hw139 => k0_hw139.2 (k0_off138_inb v953 k0_hw139)

def k0_off140 (v965 : BitVec 32) : Fin 2 → Nat :=
  let c128_i32_985 : BitVec 32 := 128#32
  let v966 : BitVec 32 := Scalar.muli v965 c128_i32_985
  let c64_i32_986 : BitVec 32 := 64#32
  let v967 : BitVec 32 := Scalar.addi v966 c64_i32_986
  let c0_i32_993 : BitVec 32 := 0#32
  ![v967.toNat, 0]

def k0_off141 (v962 : BitVec 32) : Fin 2 → Nat :=
  let c128_i32_982 : BitVec 32 := 128#32
  let v963 : BitVec 32 := Scalar.muli v962 c128_i32_982
  let c64_i32_983 : BitVec 32 := 64#32
  let v964 : BitVec 32 := Scalar.addi v963 c64_i32_983
  let c0_i32_994 : BitVec 32 := 0#32
  ![v964.toNat, 0]

def k0_chk142 (v962 : BitVec 32) : Prop :=
  (∀ a, (k0_off141 v962) a + S32x4096.size a ≤ S4096x4096.size a) ∧
  (∀ (hinb : ∀ a, (k0_off141 v962) a + S32x4096.size a ≤ S4096x4096.size a), (Rect.unit (s := S4096x4096) (k0_off141 v962) S32x4096.size hinb).WholeWords (EltTy.packing .i8))
theorem k0_off141_inb : ∀ (v962 : BitVec 32) (k0_hw142 : k0_chk142 v962), ∀ a, (k0_off141 v962) a + S32x4096.size a ≤ S4096x4096.size a := fun v962 k0_hw142 => k0_hw142.1
theorem k0_off141_wordsi8 : ∀ (v962 : BitVec 32) (k0_hw142 : k0_chk142 v962), (Rect.unit (s := S4096x4096) (k0_off141 v962) S32x4096.size (k0_off141_inb v962 k0_hw142)).WholeWords (EltTy.packing .i8) := fun v962 k0_hw142 => k0_hw142.2 (k0_off141_inb v962 k0_hw142)

def k0_chk141 (v965 : BitVec 32) : Prop :=
  (∀ a, (k0_off140 v965) a + S32x4096.size a ≤ S4096x4096.size a) ∧
  (∀ (hinb : ∀ a, (k0_off140 v965) a + S32x4096.size a ≤ S4096x4096.size a), (Rect.unit (s := S4096x4096) (k0_off140 v965) S32x4096.size hinb).WholeWords (EltTy.packing .i8))
theorem k0_off140_inb : ∀ (v965 : BitVec 32) (k0_hw141 : k0_chk141 v965), ∀ a, (k0_off140 v965) a + S32x4096.size a ≤ S4096x4096.size a := fun v965 k0_hw141 => k0_hw141.1
theorem k0_off140_wordsi8 : ∀ (v965 : BitVec 32) (k0_hw141 : k0_chk141 v965), (Rect.unit (s := S4096x4096) (k0_off140 v965) S32x4096.size (k0_off140_inb v965 k0_hw141)).WholeWords (EltTy.packing .i8) := fun v965 k0_hw141 => k0_hw141.2 (k0_off140_inb v965 k0_hw141)

def k0_dev40 (v4 : BitVec 32) : Nat :=
  let c0_i32_992 : BitVec 32 := 0#32
  let c1_i32_991 : BitVec 32 := 1#32
  let v968 : BitVec 32 := Scalar.muli v4 c1_i32_991
  let v969 : BitVec 32 := Scalar.addi c0_i32_992 v968
  v969.toNat
def k0_off142 (v979 : BitVec 32) : Fin 2 → Nat :=
  let c128_i32_999 : BitVec 32 := 128#32
  let v980 : BitVec 32 := Scalar.muli v979 c128_i32_999
  let c96_i32_1000 : BitVec 32 := 96#32
  let v981 : BitVec 32 := Scalar.addi v980 c96_i32_1000
  let c0_i32_1007 : BitVec 32 := 0#32
  ![v981.toNat, 0]

def k0_off143 (v976 : BitVec 32) : Fin 2 → Nat :=
  let c128_i32_996 : BitVec 32 := 128#32
  let v977 : BitVec 32 := Scalar.muli v976 c128_i32_996
  let c96_i32_997 : BitVec 32 := 96#32
  let v978 : BitVec 32 := Scalar.addi v977 c96_i32_997
  let c0_i32_1008 : BitVec 32 := 0#32
  ![v978.toNat, 0]

def k0_chk144 (v976 : BitVec 32) : Prop :=
  (∀ a, (k0_off143 v976) a + S32x4096.size a ≤ S4096x4096.size a) ∧
  (∀ (hinb : ∀ a, (k0_off143 v976) a + S32x4096.size a ≤ S4096x4096.size a), (Rect.unit (s := S4096x4096) (k0_off143 v976) S32x4096.size hinb).WholeWords (EltTy.packing .i8))
theorem k0_off143_inb : ∀ (v976 : BitVec 32) (k0_hw144 : k0_chk144 v976), ∀ a, (k0_off143 v976) a + S32x4096.size a ≤ S4096x4096.size a := fun v976 k0_hw144 => k0_hw144.1
theorem k0_off143_wordsi8 : ∀ (v976 : BitVec 32) (k0_hw144 : k0_chk144 v976), (Rect.unit (s := S4096x4096) (k0_off143 v976) S32x4096.size (k0_off143_inb v976 k0_hw144)).WholeWords (EltTy.packing .i8) := fun v976 k0_hw144 => k0_hw144.2 (k0_off143_inb v976 k0_hw144)

def k0_chk143 (v979 : BitVec 32) : Prop :=
  (∀ a, (k0_off142 v979) a + S32x4096.size a ≤ S4096x4096.size a) ∧
  (∀ (hinb : ∀ a, (k0_off142 v979) a + S32x4096.size a ≤ S4096x4096.size a), (Rect.unit (s := S4096x4096) (k0_off142 v979) S32x4096.size hinb).WholeWords (EltTy.packing .i8))
theorem k0_off142_inb : ∀ (v979 : BitVec 32) (k0_hw143 : k0_chk143 v979), ∀ a, (k0_off142 v979) a + S32x4096.size a ≤ S4096x4096.size a := fun v979 k0_hw143 => k0_hw143.1
theorem k0_off142_wordsi8 : ∀ (v979 : BitVec 32) (k0_hw143 : k0_chk143 v979), (Rect.unit (s := S4096x4096) (k0_off142 v979) S32x4096.size (k0_off142_inb v979 k0_hw143)).WholeWords (EltTy.packing .i8) := fun v979 k0_hw143 => k0_hw143.2 (k0_off142_inb v979 k0_hw143)

def k0_off144 (v991 : BitVec 32) : Fin 2 → Nat :=
  let c128_i32_1013 : BitVec 32 := 128#32
  let v992 : BitVec 32 := Scalar.muli v991 c128_i32_1013
  let c96_i32_1014 : BitVec 32 := 96#32
  let v993 : BitVec 32 := Scalar.addi v992 c96_i32_1014
  let c0_i32_1021 : BitVec 32 := 0#32
  ![v993.toNat, 0]

def k0_off145 (v988 : BitVec 32) : Fin 2 → Nat :=
  let c128_i32_1010 : BitVec 32 := 128#32
  let v989 : BitVec 32 := Scalar.muli v988 c128_i32_1010
  let c96_i32_1011 : BitVec 32 := 96#32
  let v990 : BitVec 32 := Scalar.addi v989 c96_i32_1011
  let c0_i32_1022 : BitVec 32 := 0#32
  ![v990.toNat, 0]

def k0_chk146 (v988 : BitVec 32) : Prop :=
  (∀ a, (k0_off145 v988) a + S32x4096.size a ≤ S4096x4096.size a) ∧
  (∀ (hinb : ∀ a, (k0_off145 v988) a + S32x4096.size a ≤ S4096x4096.size a), (Rect.unit (s := S4096x4096) (k0_off145 v988) S32x4096.size hinb).WholeWords (EltTy.packing .i8))
theorem k0_off145_inb : ∀ (v988 : BitVec 32) (k0_hw146 : k0_chk146 v988), ∀ a, (k0_off145 v988) a + S32x4096.size a ≤ S4096x4096.size a := fun v988 k0_hw146 => k0_hw146.1
theorem k0_off145_wordsi8 : ∀ (v988 : BitVec 32) (k0_hw146 : k0_chk146 v988), (Rect.unit (s := S4096x4096) (k0_off145 v988) S32x4096.size (k0_off145_inb v988 k0_hw146)).WholeWords (EltTy.packing .i8) := fun v988 k0_hw146 => k0_hw146.2 (k0_off145_inb v988 k0_hw146)

def k0_chk145 (v991 : BitVec 32) : Prop :=
  (∀ a, (k0_off144 v991) a + S32x4096.size a ≤ S4096x4096.size a) ∧
  (∀ (hinb : ∀ a, (k0_off144 v991) a + S32x4096.size a ≤ S4096x4096.size a), (Rect.unit (s := S4096x4096) (k0_off144 v991) S32x4096.size hinb).WholeWords (EltTy.packing .i8))
theorem k0_off144_inb : ∀ (v991 : BitVec 32) (k0_hw145 : k0_chk145 v991), ∀ a, (k0_off144 v991) a + S32x4096.size a ≤ S4096x4096.size a := fun v991 k0_hw145 => k0_hw145.1
theorem k0_off144_wordsi8 : ∀ (v991 : BitVec 32) (k0_hw145 : k0_chk145 v991), (Rect.unit (s := S4096x4096) (k0_off144 v991) S32x4096.size (k0_off144_inb v991 k0_hw145)).WholeWords (EltTy.packing .i8) := fun v991 k0_hw145 => k0_hw145.2 (k0_off144_inb v991 k0_hw145)

def k0_dev41 (v3 : BitVec 32) : Nat :=
  let c0_i32_1020 : BitVec 32 := 0#32
  let c1_i32_1019 : BitVec 32 := 1#32
  let v994 : BitVec 32 := Scalar.muli v3 c1_i32_1019
  let v995 : BitVec 32 := Scalar.addi c0_i32_1020 v994
  v995.toNat
def k0_off146 (v1005 : BitVec 32) : Fin 2 → Nat :=
  let c128_i32_1027 : BitVec 32 := 128#32
  let v1006 : BitVec 32 := Scalar.muli v1005 c128_i32_1027
  let c96_i32_1028 : BitVec 32 := 96#32
  let v1007 : BitVec 32 := Scalar.addi v1006 c96_i32_1028
  let c0_i32_1035 : BitVec 32 := 0#32
  ![v1007.toNat, 0]

def k0_off147 (v1002 : BitVec 32) : Fin 2 → Nat :=
  let c128_i32_1024 : BitVec 32 := 128#32
  let v1003 : BitVec 32 := Scalar.muli v1002 c128_i32_1024
  let c96_i32_1025 : BitVec 32 := 96#32
  let v1004 : BitVec 32 := Scalar.addi v1003 c96_i32_1025
  let c0_i32_1036 : BitVec 32 := 0#32
  ![v1004.toNat, 0]

def k0_chk148 (v1002 : BitVec 32) : Prop :=
  (∀ a, (k0_off147 v1002) a + S32x4096.size a ≤ S4096x4096.size a) ∧
  (∀ (hinb : ∀ a, (k0_off147 v1002) a + S32x4096.size a ≤ S4096x4096.size a), (Rect.unit (s := S4096x4096) (k0_off147 v1002) S32x4096.size hinb).WholeWords (EltTy.packing .i8))
theorem k0_off147_inb : ∀ (v1002 : BitVec 32) (k0_hw148 : k0_chk148 v1002), ∀ a, (k0_off147 v1002) a + S32x4096.size a ≤ S4096x4096.size a := fun v1002 k0_hw148 => k0_hw148.1
theorem k0_off147_wordsi8 : ∀ (v1002 : BitVec 32) (k0_hw148 : k0_chk148 v1002), (Rect.unit (s := S4096x4096) (k0_off147 v1002) S32x4096.size (k0_off147_inb v1002 k0_hw148)).WholeWords (EltTy.packing .i8) := fun v1002 k0_hw148 => k0_hw148.2 (k0_off147_inb v1002 k0_hw148)

def k0_chk147 (v1005 : BitVec 32) : Prop :=
  (∀ a, (k0_off146 v1005) a + S32x4096.size a ≤ S4096x4096.size a) ∧
  (∀ (hinb : ∀ a, (k0_off146 v1005) a + S32x4096.size a ≤ S4096x4096.size a), (Rect.unit (s := S4096x4096) (k0_off146 v1005) S32x4096.size hinb).WholeWords (EltTy.packing .i8))
theorem k0_off146_inb : ∀ (v1005 : BitVec 32) (k0_hw147 : k0_chk147 v1005), ∀ a, (k0_off146 v1005) a + S32x4096.size a ≤ S4096x4096.size a := fun v1005 k0_hw147 => k0_hw147.1
theorem k0_off146_wordsi8 : ∀ (v1005 : BitVec 32) (k0_hw147 : k0_chk147 v1005), (Rect.unit (s := S4096x4096) (k0_off146 v1005) S32x4096.size (k0_off146_inb v1005 k0_hw147)).WholeWords (EltTy.packing .i8) := fun v1005 k0_hw147 => k0_hw147.2 (k0_off146_inb v1005 k0_hw147)

def k0_off148 (v1017 : BitVec 32) : Fin 2 → Nat :=
  let c128_i32_1041 : BitVec 32 := 128#32
  let v1018 : BitVec 32 := Scalar.muli v1017 c128_i32_1041
  let c96_i32_1042 : BitVec 32 := 96#32
  let v1019 : BitVec 32 := Scalar.addi v1018 c96_i32_1042
  let c0_i32_1049 : BitVec 32 := 0#32
  ![v1019.toNat, 0]

def k0_off149 (v1014 : BitVec 32) : Fin 2 → Nat :=
  let c128_i32_1038 : BitVec 32 := 128#32
  let v1015 : BitVec 32 := Scalar.muli v1014 c128_i32_1038
  let c96_i32_1039 : BitVec 32 := 96#32
  let v1016 : BitVec 32 := Scalar.addi v1015 c96_i32_1039
  let c0_i32_1050 : BitVec 32 := 0#32
  ![v1016.toNat, 0]

def k0_chk150 (v1014 : BitVec 32) : Prop :=
  (∀ a, (k0_off149 v1014) a + S32x4096.size a ≤ S4096x4096.size a) ∧
  (∀ (hinb : ∀ a, (k0_off149 v1014) a + S32x4096.size a ≤ S4096x4096.size a), (Rect.unit (s := S4096x4096) (k0_off149 v1014) S32x4096.size hinb).WholeWords (EltTy.packing .i8))
theorem k0_off149_inb : ∀ (v1014 : BitVec 32) (k0_hw150 : k0_chk150 v1014), ∀ a, (k0_off149 v1014) a + S32x4096.size a ≤ S4096x4096.size a := fun v1014 k0_hw150 => k0_hw150.1
theorem k0_off149_wordsi8 : ∀ (v1014 : BitVec 32) (k0_hw150 : k0_chk150 v1014), (Rect.unit (s := S4096x4096) (k0_off149 v1014) S32x4096.size (k0_off149_inb v1014 k0_hw150)).WholeWords (EltTy.packing .i8) := fun v1014 k0_hw150 => k0_hw150.2 (k0_off149_inb v1014 k0_hw150)

def k0_chk149 (v1017 : BitVec 32) : Prop :=
  (∀ a, (k0_off148 v1017) a + S32x4096.size a ≤ S4096x4096.size a) ∧
  (∀ (hinb : ∀ a, (k0_off148 v1017) a + S32x4096.size a ≤ S4096x4096.size a), (Rect.unit (s := S4096x4096) (k0_off148 v1017) S32x4096.size hinb).WholeWords (EltTy.packing .i8))
theorem k0_off148_inb : ∀ (v1017 : BitVec 32) (k0_hw149 : k0_chk149 v1017), ∀ a, (k0_off148 v1017) a + S32x4096.size a ≤ S4096x4096.size a := fun v1017 k0_hw149 => k0_hw149.1
theorem k0_off148_wordsi8 : ∀ (v1017 : BitVec 32) (k0_hw149 : k0_chk149 v1017), (Rect.unit (s := S4096x4096) (k0_off148 v1017) S32x4096.size (k0_off148_inb v1017 k0_hw149)).WholeWords (EltTy.packing .i8) := fun v1017 k0_hw149 => k0_hw149.2 (k0_off148_inb v1017 k0_hw149)

def k0_dev42 (v4 : BitVec 32) : Nat :=
  let c0_i32_1048 : BitVec 32 := 0#32
  let c1_i32_1047 : BitVec 32 := 1#32
  let v1020 : BitVec 32 := Scalar.muli v4 c1_i32_1047
  let v1021 : BitVec 32 := Scalar.addi c0_i32_1048 v1020
  v1021.toNat
def k0_off150 (v1029 : BitVec 32) : Fin 2 → Nat :=
  let c128_i32_1053 : BitVec 32 := 128#32
  let v1030 : BitVec 32 := Scalar.muli v1029 c128_i32_1053
  let v1031 : Index := Scalar.indexCast v1030
  let c0_1054 : Index := 0#32
  ![v1031.toNat, 0]

def k0_chk151 (v1029 : BitVec 32) : Prop :=
  (∀ a, (k0_off150 v1029) a + S128x4096.size a ≤ S4096x4096.size a)
theorem k0_off150_inb : ∀ (v1029 : BitVec 32) (k0_hw151 : k0_chk151 v1029), ∀ a, (k0_off150 v1029) a + S128x4096.size a ≤ S4096x4096.size a := fun v1029 k0_hw151 => k0_hw151

def k0_off151 (v1028 : BitVec 32) : Fin 2 → Nat :=
  let c128_i32_1058 : BitVec 32 := 128#32
  let v1039 : BitVec 32 := Scalar.muli v1028 c128_i32_1058
  let v1040 : Index := Scalar.indexCast v1039
  let c0_1059 : Index := 0#32
  ![v1040.toNat, 0]

def k0_chk152 (v1028 : BitVec 32) : Prop :=
  (∀ a, (k0_off151 v1028) a + S128x64.size a ≤ S4096x64.size a)
theorem k0_off151_inb : ∀ (v1028 : BitVec 32) (k0_hw152 : k0_chk152 v1028), ∀ a, (k0_off151 v1028) a + S128x64.size a ≤ S4096x64.size a := fun v1028 k0_hw152 => k0_hw152

def k0_off152 (v1043 : BitVec 32) : Fin 2 → Nat :=
  let c128_i32_1062 : BitVec 32 := 128#32
  let v1044 : BitVec 32 := Scalar.muli v1043 c128_i32_1062
  let v1045 : Index := Scalar.indexCast v1044
  let c0_1063 : Index := 0#32
  ![v1045.toNat, 0]

def k0_chk153 (v1043 : BitVec 32) : Prop :=
  (∀ a, (k0_off152 v1043) a + S128x4096.size a ≤ S4096x4096.size a)
theorem k0_off152_inb : ∀ (v1043 : BitVec 32) (k0_hw153 : k0_chk153 v1043), ∀ a, (k0_off152 v1043) a + S128x4096.size a ≤ S4096x4096.size a := fun v1043 k0_hw153 => k0_hw153

def k0_off153 (v1042 : BitVec 32) : Fin 2 → Nat :=
  let c128_i32_1067 : BitVec 32 := 128#32
  let v1053 : BitVec 32 := Scalar.muli v1042 c128_i32_1067
  let v1054 : Index := Scalar.indexCast v1053
  let c0_1068 : Index := 0#32
  ![v1054.toNat, 0]

def k0_chk154 (v1042 : BitVec 32) : Prop :=
  (∀ a, (k0_off153 v1042) a + S128x64.size a ≤ S4096x64.size a)
theorem k0_off153_inb : ∀ (v1042 : BitVec 32) (k0_hw154 : k0_chk154 v1042), ∀ a, (k0_off153 v1042) a + S128x64.size a ≤ S4096x64.size a := fun v1042 k0_hw154 => k0_hw154

def k0_off154 (v1059 : BitVec 32) : Fin 2 → Nat :=
  let c128_i32_1073 : BitVec 32 := 128#32
  let v1060 : BitVec 32 := Scalar.muli v1059 c128_i32_1073
  let c0_i32_1074 : BitVec 32 := 0#32
  let v1061 : BitVec 32 := Scalar.addi v1060 c0_i32_1074
  let c0_i32_1081 : BitVec 32 := 0#32
  ![v1061.toNat, 0]

def k0_off155 (v1056 : BitVec 32) : Fin 2 → Nat :=
  let c128_i32_1070 : BitVec 32 := 128#32
  let v1057 : BitVec 32 := Scalar.muli v1056 c128_i32_1070
  let c0_i32_1071 : BitVec 32 := 0#32
  let v1058 : BitVec 32 := Scalar.addi v1057 c0_i32_1071
  let c0_i32_1082 : BitVec 32 := 0#32
  ![v1058.toNat, 0]

def k0_chk156 (v1056 : BitVec 32) : Prop :=
  (∀ a, (k0_off155 v1056) a + S32x4096.size a ≤ S4096x4096.size a) ∧
  (∀ (hinb : ∀ a, (k0_off155 v1056) a + S32x4096.size a ≤ S4096x4096.size a), (Rect.unit (s := S4096x4096) (k0_off155 v1056) S32x4096.size hinb).WholeWords (EltTy.packing .i8))
theorem k0_off155_inb : ∀ (v1056 : BitVec 32) (k0_hw156 : k0_chk156 v1056), ∀ a, (k0_off155 v1056) a + S32x4096.size a ≤ S4096x4096.size a := fun v1056 k0_hw156 => k0_hw156.1
theorem k0_off155_wordsi8 : ∀ (v1056 : BitVec 32) (k0_hw156 : k0_chk156 v1056), (Rect.unit (s := S4096x4096) (k0_off155 v1056) S32x4096.size (k0_off155_inb v1056 k0_hw156)).WholeWords (EltTy.packing .i8) := fun v1056 k0_hw156 => k0_hw156.2 (k0_off155_inb v1056 k0_hw156)

def k0_chk155 (v1059 : BitVec 32) : Prop :=
  (∀ a, (k0_off154 v1059) a + S32x4096.size a ≤ S4096x4096.size a) ∧
  (∀ (hinb : ∀ a, (k0_off154 v1059) a + S32x4096.size a ≤ S4096x4096.size a), (Rect.unit (s := S4096x4096) (k0_off154 v1059) S32x4096.size hinb).WholeWords (EltTy.packing .i8))
theorem k0_off154_inb : ∀ (v1059 : BitVec 32) (k0_hw155 : k0_chk155 v1059), ∀ a, (k0_off154 v1059) a + S32x4096.size a ≤ S4096x4096.size a := fun v1059 k0_hw155 => k0_hw155.1
theorem k0_off154_wordsi8 : ∀ (v1059 : BitVec 32) (k0_hw155 : k0_chk155 v1059), (Rect.unit (s := S4096x4096) (k0_off154 v1059) S32x4096.size (k0_off154_inb v1059 k0_hw155)).WholeWords (EltTy.packing .i8) := fun v1059 k0_hw155 => k0_hw155.2 (k0_off154_inb v1059 k0_hw155)

def k0_off156 (v1071 : BitVec 32) : Fin 2 → Nat :=
  let c128_i32_1086 : BitVec 32 := 128#32
  let v1072 : BitVec 32 := Scalar.muli v1071 c128_i32_1086
  let c0_i32_1087 : BitVec 32 := 0#32
  let v1073 : BitVec 32 := Scalar.addi v1072 c0_i32_1087
  let c0_i32_1093 : BitVec 32 := 0#32
  ![v1073.toNat, 0]

def k0_off157 (v1068 : BitVec 32) : Fin 2 → Nat :=
  let c128_i32_1083 : BitVec 32 := 128#32
  let v1069 : BitVec 32 := Scalar.muli v1068 c128_i32_1083
  let c0_i32_1084 : BitVec 32 := 0#32
  let v1070 : BitVec 32 := Scalar.addi v1069 c0_i32_1084
  let c0_i32_1094 : BitVec 32 := 0#32
  ![v1070.toNat, 0]

def k0_chk158 (v1068 : BitVec 32) : Prop :=
  (∀ a, (k0_off157 v1068) a + S32x4096.size a ≤ S4096x4096.size a) ∧
  (∀ (hinb : ∀ a, (k0_off157 v1068) a + S32x4096.size a ≤ S4096x4096.size a), (Rect.unit (s := S4096x4096) (k0_off157 v1068) S32x4096.size hinb).WholeWords (EltTy.packing .i8))
theorem k0_off157_inb : ∀ (v1068 : BitVec 32) (k0_hw158 : k0_chk158 v1068), ∀ a, (k0_off157 v1068) a + S32x4096.size a ≤ S4096x4096.size a := fun v1068 k0_hw158 => k0_hw158.1
theorem k0_off157_wordsi8 : ∀ (v1068 : BitVec 32) (k0_hw158 : k0_chk158 v1068), (Rect.unit (s := S4096x4096) (k0_off157 v1068) S32x4096.size (k0_off157_inb v1068 k0_hw158)).WholeWords (EltTy.packing .i8) := fun v1068 k0_hw158 => k0_hw158.2 (k0_off157_inb v1068 k0_hw158)

def k0_chk157 (v1071 : BitVec 32) : Prop :=
  (∀ a, (k0_off156 v1071) a + S32x4096.size a ≤ S4096x4096.size a) ∧
  (∀ (hinb : ∀ a, (k0_off156 v1071) a + S32x4096.size a ≤ S4096x4096.size a), (Rect.unit (s := S4096x4096) (k0_off156 v1071) S32x4096.size hinb).WholeWords (EltTy.packing .i8))
theorem k0_off156_inb : ∀ (v1071 : BitVec 32) (k0_hw157 : k0_chk157 v1071), ∀ a, (k0_off156 v1071) a + S32x4096.size a ≤ S4096x4096.size a := fun v1071 k0_hw157 => k0_hw157.1
theorem k0_off156_wordsi8 : ∀ (v1071 : BitVec 32) (k0_hw157 : k0_chk157 v1071), (Rect.unit (s := S4096x4096) (k0_off156 v1071) S32x4096.size (k0_off156_inb v1071 k0_hw157)).WholeWords (EltTy.packing .i8) := fun v1071 k0_hw157 => k0_hw157.2 (k0_off156_inb v1071 k0_hw157)

def k0_dev43 (v3 : BitVec 32) : Nat :=
  let c0_i32_1092 : BitVec 32 := 0#32
  let c1_i32_1091 : BitVec 32 := 1#32
  let v1074 : BitVec 32 := Scalar.muli v3 c1_i32_1091
  let v1075 : BitVec 32 := Scalar.addi c0_i32_1092 v1074
  v1075.toNat
def k0_off158 (v1085 : BitVec 32) : Fin 2 → Nat :=
  let c128_i32_1099 : BitVec 32 := 128#32
  let v1086 : BitVec 32 := Scalar.muli v1085 c128_i32_1099
  let c0_i32_1100 : BitVec 32 := 0#32
  let v1087 : BitVec 32 := Scalar.addi v1086 c0_i32_1100
  let c0_i32_1107 : BitVec 32 := 0#32
  ![v1087.toNat, 0]

def k0_off159 (v1082 : BitVec 32) : Fin 2 → Nat :=
  let c128_i32_1096 : BitVec 32 := 128#32
  let v1083 : BitVec 32 := Scalar.muli v1082 c128_i32_1096
  let c0_i32_1097 : BitVec 32 := 0#32
  let v1084 : BitVec 32 := Scalar.addi v1083 c0_i32_1097
  let c0_i32_1108 : BitVec 32 := 0#32
  ![v1084.toNat, 0]

def k0_chk160 (v1082 : BitVec 32) : Prop :=
  (∀ a, (k0_off159 v1082) a + S32x4096.size a ≤ S4096x4096.size a) ∧
  (∀ (hinb : ∀ a, (k0_off159 v1082) a + S32x4096.size a ≤ S4096x4096.size a), (Rect.unit (s := S4096x4096) (k0_off159 v1082) S32x4096.size hinb).WholeWords (EltTy.packing .i8))
theorem k0_off159_inb : ∀ (v1082 : BitVec 32) (k0_hw160 : k0_chk160 v1082), ∀ a, (k0_off159 v1082) a + S32x4096.size a ≤ S4096x4096.size a := fun v1082 k0_hw160 => k0_hw160.1
theorem k0_off159_wordsi8 : ∀ (v1082 : BitVec 32) (k0_hw160 : k0_chk160 v1082), (Rect.unit (s := S4096x4096) (k0_off159 v1082) S32x4096.size (k0_off159_inb v1082 k0_hw160)).WholeWords (EltTy.packing .i8) := fun v1082 k0_hw160 => k0_hw160.2 (k0_off159_inb v1082 k0_hw160)

def k0_chk159 (v1085 : BitVec 32) : Prop :=
  (∀ a, (k0_off158 v1085) a + S32x4096.size a ≤ S4096x4096.size a) ∧
  (∀ (hinb : ∀ a, (k0_off158 v1085) a + S32x4096.size a ≤ S4096x4096.size a), (Rect.unit (s := S4096x4096) (k0_off158 v1085) S32x4096.size hinb).WholeWords (EltTy.packing .i8))
theorem k0_off158_inb : ∀ (v1085 : BitVec 32) (k0_hw159 : k0_chk159 v1085), ∀ a, (k0_off158 v1085) a + S32x4096.size a ≤ S4096x4096.size a := fun v1085 k0_hw159 => k0_hw159.1
theorem k0_off158_wordsi8 : ∀ (v1085 : BitVec 32) (k0_hw159 : k0_chk159 v1085), (Rect.unit (s := S4096x4096) (k0_off158 v1085) S32x4096.size (k0_off158_inb v1085 k0_hw159)).WholeWords (EltTy.packing .i8) := fun v1085 k0_hw159 => k0_hw159.2 (k0_off158_inb v1085 k0_hw159)

def k0_off160 (v1097 : BitVec 32) : Fin 2 → Nat :=
  let c128_i32_1113 : BitVec 32 := 128#32
  let v1098 : BitVec 32 := Scalar.muli v1097 c128_i32_1113
  let c0_i32_1114 : BitVec 32 := 0#32
  let v1099 : BitVec 32 := Scalar.addi v1098 c0_i32_1114
  let c0_i32_1121 : BitVec 32 := 0#32
  ![v1099.toNat, 0]

def k0_off161 (v1094 : BitVec 32) : Fin 2 → Nat :=
  let c128_i32_1110 : BitVec 32 := 128#32
  let v1095 : BitVec 32 := Scalar.muli v1094 c128_i32_1110
  let c0_i32_1111 : BitVec 32 := 0#32
  let v1096 : BitVec 32 := Scalar.addi v1095 c0_i32_1111
  let c0_i32_1122 : BitVec 32 := 0#32
  ![v1096.toNat, 0]

def k0_chk162 (v1094 : BitVec 32) : Prop :=
  (∀ a, (k0_off161 v1094) a + S32x4096.size a ≤ S4096x4096.size a) ∧
  (∀ (hinb : ∀ a, (k0_off161 v1094) a + S32x4096.size a ≤ S4096x4096.size a), (Rect.unit (s := S4096x4096) (k0_off161 v1094) S32x4096.size hinb).WholeWords (EltTy.packing .i8))
theorem k0_off161_inb : ∀ (v1094 : BitVec 32) (k0_hw162 : k0_chk162 v1094), ∀ a, (k0_off161 v1094) a + S32x4096.size a ≤ S4096x4096.size a := fun v1094 k0_hw162 => k0_hw162.1
theorem k0_off161_wordsi8 : ∀ (v1094 : BitVec 32) (k0_hw162 : k0_chk162 v1094), (Rect.unit (s := S4096x4096) (k0_off161 v1094) S32x4096.size (k0_off161_inb v1094 k0_hw162)).WholeWords (EltTy.packing .i8) := fun v1094 k0_hw162 => k0_hw162.2 (k0_off161_inb v1094 k0_hw162)

def k0_chk161 (v1097 : BitVec 32) : Prop :=
  (∀ a, (k0_off160 v1097) a + S32x4096.size a ≤ S4096x4096.size a) ∧
  (∀ (hinb : ∀ a, (k0_off160 v1097) a + S32x4096.size a ≤ S4096x4096.size a), (Rect.unit (s := S4096x4096) (k0_off160 v1097) S32x4096.size hinb).WholeWords (EltTy.packing .i8))
theorem k0_off160_inb : ∀ (v1097 : BitVec 32) (k0_hw161 : k0_chk161 v1097), ∀ a, (k0_off160 v1097) a + S32x4096.size a ≤ S4096x4096.size a := fun v1097 k0_hw161 => k0_hw161.1
theorem k0_off160_wordsi8 : ∀ (v1097 : BitVec 32) (k0_hw161 : k0_chk161 v1097), (Rect.unit (s := S4096x4096) (k0_off160 v1097) S32x4096.size (k0_off160_inb v1097 k0_hw161)).WholeWords (EltTy.packing .i8) := fun v1097 k0_hw161 => k0_hw161.2 (k0_off160_inb v1097 k0_hw161)

def k0_dev44 (v4 : BitVec 32) : Nat :=
  let c0_i32_1120 : BitVec 32 := 0#32
  let c1_i32_1119 : BitVec 32 := 1#32
  let v1100 : BitVec 32 := Scalar.muli v4 c1_i32_1119
  let v1101 : BitVec 32 := Scalar.addi c0_i32_1120 v1100
  v1101.toNat
def k0_off162 (v1111 : BitVec 32) : Fin 2 → Nat :=
  let c128_i32_1127 : BitVec 32 := 128#32
  let v1112 : BitVec 32 := Scalar.muli v1111 c128_i32_1127
  let c32_i32_1128 : BitVec 32 := 32#32
  let v1113 : BitVec 32 := Scalar.addi v1112 c32_i32_1128
  let c0_i32_1135 : BitVec 32 := 0#32
  ![v1113.toNat, 0]

def k0_off163 (v1108 : BitVec 32) : Fin 2 → Nat :=
  let c128_i32_1124 : BitVec 32 := 128#32
  let v1109 : BitVec 32 := Scalar.muli v1108 c128_i32_1124
  let c32_i32_1125 : BitVec 32 := 32#32
  let v1110 : BitVec 32 := Scalar.addi v1109 c32_i32_1125
  let c0_i32_1136 : BitVec 32 := 0#32
  ![v1110.toNat, 0]

def k0_chk164 (v1108 : BitVec 32) : Prop :=
  (∀ a, (k0_off163 v1108) a + S32x4096.size a ≤ S4096x4096.size a) ∧
  (∀ (hinb : ∀ a, (k0_off163 v1108) a + S32x4096.size a ≤ S4096x4096.size a), (Rect.unit (s := S4096x4096) (k0_off163 v1108) S32x4096.size hinb).WholeWords (EltTy.packing .i8))
theorem k0_off163_inb : ∀ (v1108 : BitVec 32) (k0_hw164 : k0_chk164 v1108), ∀ a, (k0_off163 v1108) a + S32x4096.size a ≤ S4096x4096.size a := fun v1108 k0_hw164 => k0_hw164.1
theorem k0_off163_wordsi8 : ∀ (v1108 : BitVec 32) (k0_hw164 : k0_chk164 v1108), (Rect.unit (s := S4096x4096) (k0_off163 v1108) S32x4096.size (k0_off163_inb v1108 k0_hw164)).WholeWords (EltTy.packing .i8) := fun v1108 k0_hw164 => k0_hw164.2 (k0_off163_inb v1108 k0_hw164)

def k0_chk163 (v1111 : BitVec 32) : Prop :=
  (∀ a, (k0_off162 v1111) a + S32x4096.size a ≤ S4096x4096.size a) ∧
  (∀ (hinb : ∀ a, (k0_off162 v1111) a + S32x4096.size a ≤ S4096x4096.size a), (Rect.unit (s := S4096x4096) (k0_off162 v1111) S32x4096.size hinb).WholeWords (EltTy.packing .i8))
theorem k0_off162_inb : ∀ (v1111 : BitVec 32) (k0_hw163 : k0_chk163 v1111), ∀ a, (k0_off162 v1111) a + S32x4096.size a ≤ S4096x4096.size a := fun v1111 k0_hw163 => k0_hw163.1
theorem k0_off162_wordsi8 : ∀ (v1111 : BitVec 32) (k0_hw163 : k0_chk163 v1111), (Rect.unit (s := S4096x4096) (k0_off162 v1111) S32x4096.size (k0_off162_inb v1111 k0_hw163)).WholeWords (EltTy.packing .i8) := fun v1111 k0_hw163 => k0_hw163.2 (k0_off162_inb v1111 k0_hw163)

def k0_off164 (v1123 : BitVec 32) : Fin 2 → Nat :=
  let c128_i32_1141 : BitVec 32 := 128#32
  let v1124 : BitVec 32 := Scalar.muli v1123 c128_i32_1141
  let c32_i32_1142 : BitVec 32 := 32#32
  let v1125 : BitVec 32 := Scalar.addi v1124 c32_i32_1142
  let c0_i32_1149 : BitVec 32 := 0#32
  ![v1125.toNat, 0]

def k0_off165 (v1120 : BitVec 32) : Fin 2 → Nat :=
  let c128_i32_1138 : BitVec 32 := 128#32
  let v1121 : BitVec 32 := Scalar.muli v1120 c128_i32_1138
  let c32_i32_1139 : BitVec 32 := 32#32
  let v1122 : BitVec 32 := Scalar.addi v1121 c32_i32_1139
  let c0_i32_1150 : BitVec 32 := 0#32
  ![v1122.toNat, 0]

def k0_chk166 (v1120 : BitVec 32) : Prop :=
  (∀ a, (k0_off165 v1120) a + S32x4096.size a ≤ S4096x4096.size a) ∧
  (∀ (hinb : ∀ a, (k0_off165 v1120) a + S32x4096.size a ≤ S4096x4096.size a), (Rect.unit (s := S4096x4096) (k0_off165 v1120) S32x4096.size hinb).WholeWords (EltTy.packing .i8))
theorem k0_off165_inb : ∀ (v1120 : BitVec 32) (k0_hw166 : k0_chk166 v1120), ∀ a, (k0_off165 v1120) a + S32x4096.size a ≤ S4096x4096.size a := fun v1120 k0_hw166 => k0_hw166.1
theorem k0_off165_wordsi8 : ∀ (v1120 : BitVec 32) (k0_hw166 : k0_chk166 v1120), (Rect.unit (s := S4096x4096) (k0_off165 v1120) S32x4096.size (k0_off165_inb v1120 k0_hw166)).WholeWords (EltTy.packing .i8) := fun v1120 k0_hw166 => k0_hw166.2 (k0_off165_inb v1120 k0_hw166)

def k0_chk165 (v1123 : BitVec 32) : Prop :=
  (∀ a, (k0_off164 v1123) a + S32x4096.size a ≤ S4096x4096.size a) ∧
  (∀ (hinb : ∀ a, (k0_off164 v1123) a + S32x4096.size a ≤ S4096x4096.size a), (Rect.unit (s := S4096x4096) (k0_off164 v1123) S32x4096.size hinb).WholeWords (EltTy.packing .i8))
theorem k0_off164_inb : ∀ (v1123 : BitVec 32) (k0_hw165 : k0_chk165 v1123), ∀ a, (k0_off164 v1123) a + S32x4096.size a ≤ S4096x4096.size a := fun v1123 k0_hw165 => k0_hw165.1
theorem k0_off164_wordsi8 : ∀ (v1123 : BitVec 32) (k0_hw165 : k0_chk165 v1123), (Rect.unit (s := S4096x4096) (k0_off164 v1123) S32x4096.size (k0_off164_inb v1123 k0_hw165)).WholeWords (EltTy.packing .i8) := fun v1123 k0_hw165 => k0_hw165.2 (k0_off164_inb v1123 k0_hw165)

def k0_dev45 (v3 : BitVec 32) : Nat :=
  let c0_i32_1148 : BitVec 32 := 0#32
  let c1_i32_1147 : BitVec 32 := 1#32
  let v1126 : BitVec 32 := Scalar.muli v3 c1_i32_1147
  let v1127 : BitVec 32 := Scalar.addi c0_i32_1148 v1126
  v1127.toNat
def k0_off166 (v1137 : BitVec 32) : Fin 2 → Nat :=
  let c128_i32_1155 : BitVec 32 := 128#32
  let v1138 : BitVec 32 := Scalar.muli v1137 c128_i32_1155
  let c32_i32_1156 : BitVec 32 := 32#32
  let v1139 : BitVec 32 := Scalar.addi v1138 c32_i32_1156
  let c0_i32_1163 : BitVec 32 := 0#32
  ![v1139.toNat, 0]

def k0_off167 (v1134 : BitVec 32) : Fin 2 → Nat :=
  let c128_i32_1152 : BitVec 32 := 128#32
  let v1135 : BitVec 32 := Scalar.muli v1134 c128_i32_1152
  let c32_i32_1153 : BitVec 32 := 32#32
  let v1136 : BitVec 32 := Scalar.addi v1135 c32_i32_1153
  let c0_i32_1164 : BitVec 32 := 0#32
  ![v1136.toNat, 0]

def k0_chk168 (v1134 : BitVec 32) : Prop :=
  (∀ a, (k0_off167 v1134) a + S32x4096.size a ≤ S4096x4096.size a) ∧
  (∀ (hinb : ∀ a, (k0_off167 v1134) a + S32x4096.size a ≤ S4096x4096.size a), (Rect.unit (s := S4096x4096) (k0_off167 v1134) S32x4096.size hinb).WholeWords (EltTy.packing .i8))
theorem k0_off167_inb : ∀ (v1134 : BitVec 32) (k0_hw168 : k0_chk168 v1134), ∀ a, (k0_off167 v1134) a + S32x4096.size a ≤ S4096x4096.size a := fun v1134 k0_hw168 => k0_hw168.1
theorem k0_off167_wordsi8 : ∀ (v1134 : BitVec 32) (k0_hw168 : k0_chk168 v1134), (Rect.unit (s := S4096x4096) (k0_off167 v1134) S32x4096.size (k0_off167_inb v1134 k0_hw168)).WholeWords (EltTy.packing .i8) := fun v1134 k0_hw168 => k0_hw168.2 (k0_off167_inb v1134 k0_hw168)

def k0_chk167 (v1137 : BitVec 32) : Prop :=
  (∀ a, (k0_off166 v1137) a + S32x4096.size a ≤ S4096x4096.size a) ∧
  (∀ (hinb : ∀ a, (k0_off166 v1137) a + S32x4096.size a ≤ S4096x4096.size a), (Rect.unit (s := S4096x4096) (k0_off166 v1137) S32x4096.size hinb).WholeWords (EltTy.packing .i8))
theorem k0_off166_inb : ∀ (v1137 : BitVec 32) (k0_hw167 : k0_chk167 v1137), ∀ a, (k0_off166 v1137) a + S32x4096.size a ≤ S4096x4096.size a := fun v1137 k0_hw167 => k0_hw167.1
theorem k0_off166_wordsi8 : ∀ (v1137 : BitVec 32) (k0_hw167 : k0_chk167 v1137), (Rect.unit (s := S4096x4096) (k0_off166 v1137) S32x4096.size (k0_off166_inb v1137 k0_hw167)).WholeWords (EltTy.packing .i8) := fun v1137 k0_hw167 => k0_hw167.2 (k0_off166_inb v1137 k0_hw167)

def k0_off168 (v1149 : BitVec 32) : Fin 2 → Nat :=
  let c128_i32_1169 : BitVec 32 := 128#32
  let v1150 : BitVec 32 := Scalar.muli v1149 c128_i32_1169
  let c32_i32_1170 : BitVec 32 := 32#32
  let v1151 : BitVec 32 := Scalar.addi v1150 c32_i32_1170
  let c0_i32_1177 : BitVec 32 := 0#32
  ![v1151.toNat, 0]

def k0_off169 (v1146 : BitVec 32) : Fin 2 → Nat :=
  let c128_i32_1166 : BitVec 32 := 128#32
  let v1147 : BitVec 32 := Scalar.muli v1146 c128_i32_1166
  let c32_i32_1167 : BitVec 32 := 32#32
  let v1148 : BitVec 32 := Scalar.addi v1147 c32_i32_1167
  let c0_i32_1178 : BitVec 32 := 0#32
  ![v1148.toNat, 0]

def k0_chk170 (v1146 : BitVec 32) : Prop :=
  (∀ a, (k0_off169 v1146) a + S32x4096.size a ≤ S4096x4096.size a) ∧
  (∀ (hinb : ∀ a, (k0_off169 v1146) a + S32x4096.size a ≤ S4096x4096.size a), (Rect.unit (s := S4096x4096) (k0_off169 v1146) S32x4096.size hinb).WholeWords (EltTy.packing .i8))
theorem k0_off169_inb : ∀ (v1146 : BitVec 32) (k0_hw170 : k0_chk170 v1146), ∀ a, (k0_off169 v1146) a + S32x4096.size a ≤ S4096x4096.size a := fun v1146 k0_hw170 => k0_hw170.1
theorem k0_off169_wordsi8 : ∀ (v1146 : BitVec 32) (k0_hw170 : k0_chk170 v1146), (Rect.unit (s := S4096x4096) (k0_off169 v1146) S32x4096.size (k0_off169_inb v1146 k0_hw170)).WholeWords (EltTy.packing .i8) := fun v1146 k0_hw170 => k0_hw170.2 (k0_off169_inb v1146 k0_hw170)

def k0_chk169 (v1149 : BitVec 32) : Prop :=
  (∀ a, (k0_off168 v1149) a + S32x4096.size a ≤ S4096x4096.size a) ∧
  (∀ (hinb : ∀ a, (k0_off168 v1149) a + S32x4096.size a ≤ S4096x4096.size a), (Rect.unit (s := S4096x4096) (k0_off168 v1149) S32x4096.size hinb).WholeWords (EltTy.packing .i8))
theorem k0_off168_inb : ∀ (v1149 : BitVec 32) (k0_hw169 : k0_chk169 v1149), ∀ a, (k0_off168 v1149) a + S32x4096.size a ≤ S4096x4096.size a := fun v1149 k0_hw169 => k0_hw169.1
theorem k0_off168_wordsi8 : ∀ (v1149 : BitVec 32) (k0_hw169 : k0_chk169 v1149), (Rect.unit (s := S4096x4096) (k0_off168 v1149) S32x4096.size (k0_off168_inb v1149 k0_hw169)).WholeWords (EltTy.packing .i8) := fun v1149 k0_hw169 => k0_hw169.2 (k0_off168_inb v1149 k0_hw169)

def k0_dev46 (v4 : BitVec 32) : Nat :=
  let c0_i32_1176 : BitVec 32 := 0#32
  let c1_i32_1175 : BitVec 32 := 1#32
  let v1152 : BitVec 32 := Scalar.muli v4 c1_i32_1175
  let v1153 : BitVec 32 := Scalar.addi c0_i32_1176 v1152
  v1153.toNat
def k0_off170 (v1163 : BitVec 32) : Fin 2 → Nat :=
  let c128_i32_1183 : BitVec 32 := 128#32
  let v1164 : BitVec 32 := Scalar.muli v1163 c128_i32_1183
  let c64_i32_1184 : BitVec 32 := 64#32
  let v1165 : BitVec 32 := Scalar.addi v1164 c64_i32_1184
  let c0_i32_1191 : BitVec 32 := 0#32
  ![v1165.toNat, 0]

def k0_off171 (v1160 : BitVec 32) : Fin 2 → Nat :=
  let c128_i32_1180 : BitVec 32 := 128#32
  let v1161 : BitVec 32 := Scalar.muli v1160 c128_i32_1180
  let c64_i32_1181 : BitVec 32 := 64#32
  let v1162 : BitVec 32 := Scalar.addi v1161 c64_i32_1181
  let c0_i32_1192 : BitVec 32 := 0#32
  ![v1162.toNat, 0]

def k0_chk172 (v1160 : BitVec 32) : Prop :=
  (∀ a, (k0_off171 v1160) a + S32x4096.size a ≤ S4096x4096.size a) ∧
  (∀ (hinb : ∀ a, (k0_off171 v1160) a + S32x4096.size a ≤ S4096x4096.size a), (Rect.unit (s := S4096x4096) (k0_off171 v1160) S32x4096.size hinb).WholeWords (EltTy.packing .i8))
theorem k0_off171_inb : ∀ (v1160 : BitVec 32) (k0_hw172 : k0_chk172 v1160), ∀ a, (k0_off171 v1160) a + S32x4096.size a ≤ S4096x4096.size a := fun v1160 k0_hw172 => k0_hw172.1
theorem k0_off171_wordsi8 : ∀ (v1160 : BitVec 32) (k0_hw172 : k0_chk172 v1160), (Rect.unit (s := S4096x4096) (k0_off171 v1160) S32x4096.size (k0_off171_inb v1160 k0_hw172)).WholeWords (EltTy.packing .i8) := fun v1160 k0_hw172 => k0_hw172.2 (k0_off171_inb v1160 k0_hw172)

def k0_chk171 (v1163 : BitVec 32) : Prop :=
  (∀ a, (k0_off170 v1163) a + S32x4096.size a ≤ S4096x4096.size a) ∧
  (∀ (hinb : ∀ a, (k0_off170 v1163) a + S32x4096.size a ≤ S4096x4096.size a), (Rect.unit (s := S4096x4096) (k0_off170 v1163) S32x4096.size hinb).WholeWords (EltTy.packing .i8))
theorem k0_off170_inb : ∀ (v1163 : BitVec 32) (k0_hw171 : k0_chk171 v1163), ∀ a, (k0_off170 v1163) a + S32x4096.size a ≤ S4096x4096.size a := fun v1163 k0_hw171 => k0_hw171.1
theorem k0_off170_wordsi8 : ∀ (v1163 : BitVec 32) (k0_hw171 : k0_chk171 v1163), (Rect.unit (s := S4096x4096) (k0_off170 v1163) S32x4096.size (k0_off170_inb v1163 k0_hw171)).WholeWords (EltTy.packing .i8) := fun v1163 k0_hw171 => k0_hw171.2 (k0_off170_inb v1163 k0_hw171)

def k0_off172 (v1175 : BitVec 32) : Fin 2 → Nat :=
  let c128_i32_1197 : BitVec 32 := 128#32
  let v1176 : BitVec 32 := Scalar.muli v1175 c128_i32_1197
  let c64_i32_1198 : BitVec 32 := 64#32
  let v1177 : BitVec 32 := Scalar.addi v1176 c64_i32_1198
  let c0_i32_1205 : BitVec 32 := 0#32
  ![v1177.toNat, 0]

def k0_off173 (v1172 : BitVec 32) : Fin 2 → Nat :=
  let c128_i32_1194 : BitVec 32 := 128#32
  let v1173 : BitVec 32 := Scalar.muli v1172 c128_i32_1194
  let c64_i32_1195 : BitVec 32 := 64#32
  let v1174 : BitVec 32 := Scalar.addi v1173 c64_i32_1195
  let c0_i32_1206 : BitVec 32 := 0#32
  ![v1174.toNat, 0]

def k0_chk174 (v1172 : BitVec 32) : Prop :=
  (∀ a, (k0_off173 v1172) a + S32x4096.size a ≤ S4096x4096.size a) ∧
  (∀ (hinb : ∀ a, (k0_off173 v1172) a + S32x4096.size a ≤ S4096x4096.size a), (Rect.unit (s := S4096x4096) (k0_off173 v1172) S32x4096.size hinb).WholeWords (EltTy.packing .i8))
theorem k0_off173_inb : ∀ (v1172 : BitVec 32) (k0_hw174 : k0_chk174 v1172), ∀ a, (k0_off173 v1172) a + S32x4096.size a ≤ S4096x4096.size a := fun v1172 k0_hw174 => k0_hw174.1
theorem k0_off173_wordsi8 : ∀ (v1172 : BitVec 32) (k0_hw174 : k0_chk174 v1172), (Rect.unit (s := S4096x4096) (k0_off173 v1172) S32x4096.size (k0_off173_inb v1172 k0_hw174)).WholeWords (EltTy.packing .i8) := fun v1172 k0_hw174 => k0_hw174.2 (k0_off173_inb v1172 k0_hw174)

def k0_chk173 (v1175 : BitVec 32) : Prop :=
  (∀ a, (k0_off172 v1175) a + S32x4096.size a ≤ S4096x4096.size a) ∧
  (∀ (hinb : ∀ a, (k0_off172 v1175) a + S32x4096.size a ≤ S4096x4096.size a), (Rect.unit (s := S4096x4096) (k0_off172 v1175) S32x4096.size hinb).WholeWords (EltTy.packing .i8))
theorem k0_off172_inb : ∀ (v1175 : BitVec 32) (k0_hw173 : k0_chk173 v1175), ∀ a, (k0_off172 v1175) a + S32x4096.size a ≤ S4096x4096.size a := fun v1175 k0_hw173 => k0_hw173.1
theorem k0_off172_wordsi8 : ∀ (v1175 : BitVec 32) (k0_hw173 : k0_chk173 v1175), (Rect.unit (s := S4096x4096) (k0_off172 v1175) S32x4096.size (k0_off172_inb v1175 k0_hw173)).WholeWords (EltTy.packing .i8) := fun v1175 k0_hw173 => k0_hw173.2 (k0_off172_inb v1175 k0_hw173)

def k0_dev47 (v3 : BitVec 32) : Nat :=
  let c0_i32_1204 : BitVec 32 := 0#32
  let c1_i32_1203 : BitVec 32 := 1#32
  let v1178 : BitVec 32 := Scalar.muli v3 c1_i32_1203
  let v1179 : BitVec 32 := Scalar.addi c0_i32_1204 v1178
  v1179.toNat
def k0_off174 (v1189 : BitVec 32) : Fin 2 → Nat :=
  let c128_i32_1211 : BitVec 32 := 128#32
  let v1190 : BitVec 32 := Scalar.muli v1189 c128_i32_1211
  let c64_i32_1212 : BitVec 32 := 64#32
  let v1191 : BitVec 32 := Scalar.addi v1190 c64_i32_1212
  let c0_i32_1219 : BitVec 32 := 0#32
  ![v1191.toNat, 0]

def k0_off175 (v1186 : BitVec 32) : Fin 2 → Nat :=
  let c128_i32_1208 : BitVec 32 := 128#32
  let v1187 : BitVec 32 := Scalar.muli v1186 c128_i32_1208
  let c64_i32_1209 : BitVec 32 := 64#32
  let v1188 : BitVec 32 := Scalar.addi v1187 c64_i32_1209
  let c0_i32_1220 : BitVec 32 := 0#32
  ![v1188.toNat, 0]

def k0_chk176 (v1186 : BitVec 32) : Prop :=
  (∀ a, (k0_off175 v1186) a + S32x4096.size a ≤ S4096x4096.size a) ∧
  (∀ (hinb : ∀ a, (k0_off175 v1186) a + S32x4096.size a ≤ S4096x4096.size a), (Rect.unit (s := S4096x4096) (k0_off175 v1186) S32x4096.size hinb).WholeWords (EltTy.packing .i8))
theorem k0_off175_inb : ∀ (v1186 : BitVec 32) (k0_hw176 : k0_chk176 v1186), ∀ a, (k0_off175 v1186) a + S32x4096.size a ≤ S4096x4096.size a := fun v1186 k0_hw176 => k0_hw176.1
theorem k0_off175_wordsi8 : ∀ (v1186 : BitVec 32) (k0_hw176 : k0_chk176 v1186), (Rect.unit (s := S4096x4096) (k0_off175 v1186) S32x4096.size (k0_off175_inb v1186 k0_hw176)).WholeWords (EltTy.packing .i8) := fun v1186 k0_hw176 => k0_hw176.2 (k0_off175_inb v1186 k0_hw176)

def k0_chk175 (v1189 : BitVec 32) : Prop :=
  (∀ a, (k0_off174 v1189) a + S32x4096.size a ≤ S4096x4096.size a) ∧
  (∀ (hinb : ∀ a, (k0_off174 v1189) a + S32x4096.size a ≤ S4096x4096.size a), (Rect.unit (s := S4096x4096) (k0_off174 v1189) S32x4096.size hinb).WholeWords (EltTy.packing .i8))
theorem k0_off174_inb : ∀ (v1189 : BitVec 32) (k0_hw175 : k0_chk175 v1189), ∀ a, (k0_off174 v1189) a + S32x4096.size a ≤ S4096x4096.size a := fun v1189 k0_hw175 => k0_hw175.1
theorem k0_off174_wordsi8 : ∀ (v1189 : BitVec 32) (k0_hw175 : k0_chk175 v1189), (Rect.unit (s := S4096x4096) (k0_off174 v1189) S32x4096.size (k0_off174_inb v1189 k0_hw175)).WholeWords (EltTy.packing .i8) := fun v1189 k0_hw175 => k0_hw175.2 (k0_off174_inb v1189 k0_hw175)

def k0_off176 (v1201 : BitVec 32) : Fin 2 → Nat :=
  let c128_i32_1225 : BitVec 32 := 128#32
  let v1202 : BitVec 32 := Scalar.muli v1201 c128_i32_1225
  let c64_i32_1226 : BitVec 32 := 64#32
  let v1203 : BitVec 32 := Scalar.addi v1202 c64_i32_1226
  let c0_i32_1233 : BitVec 32 := 0#32
  ![v1203.toNat, 0]

def k0_off177 (v1198 : BitVec 32) : Fin 2 → Nat :=
  let c128_i32_1222 : BitVec 32 := 128#32
  let v1199 : BitVec 32 := Scalar.muli v1198 c128_i32_1222
  let c64_i32_1223 : BitVec 32 := 64#32
  let v1200 : BitVec 32 := Scalar.addi v1199 c64_i32_1223
  let c0_i32_1234 : BitVec 32 := 0#32
  ![v1200.toNat, 0]

def k0_chk178 (v1198 : BitVec 32) : Prop :=
  (∀ a, (k0_off177 v1198) a + S32x4096.size a ≤ S4096x4096.size a) ∧
  (∀ (hinb : ∀ a, (k0_off177 v1198) a + S32x4096.size a ≤ S4096x4096.size a), (Rect.unit (s := S4096x4096) (k0_off177 v1198) S32x4096.size hinb).WholeWords (EltTy.packing .i8))
theorem k0_off177_inb : ∀ (v1198 : BitVec 32) (k0_hw178 : k0_chk178 v1198), ∀ a, (k0_off177 v1198) a + S32x4096.size a ≤ S4096x4096.size a := fun v1198 k0_hw178 => k0_hw178.1
theorem k0_off177_wordsi8 : ∀ (v1198 : BitVec 32) (k0_hw178 : k0_chk178 v1198), (Rect.unit (s := S4096x4096) (k0_off177 v1198) S32x4096.size (k0_off177_inb v1198 k0_hw178)).WholeWords (EltTy.packing .i8) := fun v1198 k0_hw178 => k0_hw178.2 (k0_off177_inb v1198 k0_hw178)

def k0_chk177 (v1201 : BitVec 32) : Prop :=
  (∀ a, (k0_off176 v1201) a + S32x4096.size a ≤ S4096x4096.size a) ∧
  (∀ (hinb : ∀ a, (k0_off176 v1201) a + S32x4096.size a ≤ S4096x4096.size a), (Rect.unit (s := S4096x4096) (k0_off176 v1201) S32x4096.size hinb).WholeWords (EltTy.packing .i8))
theorem k0_off176_inb : ∀ (v1201 : BitVec 32) (k0_hw177 : k0_chk177 v1201), ∀ a, (k0_off176 v1201) a + S32x4096.size a ≤ S4096x4096.size a := fun v1201 k0_hw177 => k0_hw177.1
theorem k0_off176_wordsi8 : ∀ (v1201 : BitVec 32) (k0_hw177 : k0_chk177 v1201), (Rect.unit (s := S4096x4096) (k0_off176 v1201) S32x4096.size (k0_off176_inb v1201 k0_hw177)).WholeWords (EltTy.packing .i8) := fun v1201 k0_hw177 => k0_hw177.2 (k0_off176_inb v1201 k0_hw177)

def k0_dev48 (v4 : BitVec 32) : Nat :=
  let c0_i32_1232 : BitVec 32 := 0#32
  let c1_i32_1231 : BitVec 32 := 1#32
  let v1204 : BitVec 32 := Scalar.muli v4 c1_i32_1231
  let v1205 : BitVec 32 := Scalar.addi c0_i32_1232 v1204
  v1205.toNat
def k0_off178 (v1215 : BitVec 32) : Fin 2 → Nat :=
  let c128_i32_1239 : BitVec 32 := 128#32
  let v1216 : BitVec 32 := Scalar.muli v1215 c128_i32_1239
  let c96_i32_1240 : BitVec 32 := 96#32
  let v1217 : BitVec 32 := Scalar.addi v1216 c96_i32_1240
  let c0_i32_1247 : BitVec 32 := 0#32
  ![v1217.toNat, 0]

def k0_off179 (v1212 : BitVec 32) : Fin 2 → Nat :=
  let c128_i32_1236 : BitVec 32 := 128#32
  let v1213 : BitVec 32 := Scalar.muli v1212 c128_i32_1236
  let c96_i32_1237 : BitVec 32 := 96#32
  let v1214 : BitVec 32 := Scalar.addi v1213 c96_i32_1237
  let c0_i32_1248 : BitVec 32 := 0#32
  ![v1214.toNat, 0]

def k0_chk180 (v1212 : BitVec 32) : Prop :=
  (∀ a, (k0_off179 v1212) a + S32x4096.size a ≤ S4096x4096.size a) ∧
  (∀ (hinb : ∀ a, (k0_off179 v1212) a + S32x4096.size a ≤ S4096x4096.size a), (Rect.unit (s := S4096x4096) (k0_off179 v1212) S32x4096.size hinb).WholeWords (EltTy.packing .i8))
theorem k0_off179_inb : ∀ (v1212 : BitVec 32) (k0_hw180 : k0_chk180 v1212), ∀ a, (k0_off179 v1212) a + S32x4096.size a ≤ S4096x4096.size a := fun v1212 k0_hw180 => k0_hw180.1
theorem k0_off179_wordsi8 : ∀ (v1212 : BitVec 32) (k0_hw180 : k0_chk180 v1212), (Rect.unit (s := S4096x4096) (k0_off179 v1212) S32x4096.size (k0_off179_inb v1212 k0_hw180)).WholeWords (EltTy.packing .i8) := fun v1212 k0_hw180 => k0_hw180.2 (k0_off179_inb v1212 k0_hw180)

def k0_chk179 (v1215 : BitVec 32) : Prop :=
  (∀ a, (k0_off178 v1215) a + S32x4096.size a ≤ S4096x4096.size a) ∧
  (∀ (hinb : ∀ a, (k0_off178 v1215) a + S32x4096.size a ≤ S4096x4096.size a), (Rect.unit (s := S4096x4096) (k0_off178 v1215) S32x4096.size hinb).WholeWords (EltTy.packing .i8))
theorem k0_off178_inb : ∀ (v1215 : BitVec 32) (k0_hw179 : k0_chk179 v1215), ∀ a, (k0_off178 v1215) a + S32x4096.size a ≤ S4096x4096.size a := fun v1215 k0_hw179 => k0_hw179.1
theorem k0_off178_wordsi8 : ∀ (v1215 : BitVec 32) (k0_hw179 : k0_chk179 v1215), (Rect.unit (s := S4096x4096) (k0_off178 v1215) S32x4096.size (k0_off178_inb v1215 k0_hw179)).WholeWords (EltTy.packing .i8) := fun v1215 k0_hw179 => k0_hw179.2 (k0_off178_inb v1215 k0_hw179)

def k0_off180 (v1227 : BitVec 32) : Fin 2 → Nat :=
  let c128_i32_1253 : BitVec 32 := 128#32
  let v1228 : BitVec 32 := Scalar.muli v1227 c128_i32_1253
  let c96_i32_1254 : BitVec 32 := 96#32
  let v1229 : BitVec 32 := Scalar.addi v1228 c96_i32_1254
  let c0_i32_1261 : BitVec 32 := 0#32
  ![v1229.toNat, 0]

def k0_off181 (v1224 : BitVec 32) : Fin 2 → Nat :=
  let c128_i32_1250 : BitVec 32 := 128#32
  let v1225 : BitVec 32 := Scalar.muli v1224 c128_i32_1250
  let c96_i32_1251 : BitVec 32 := 96#32
  let v1226 : BitVec 32 := Scalar.addi v1225 c96_i32_1251
  let c0_i32_1262 : BitVec 32 := 0#32
  ![v1226.toNat, 0]

def k0_chk182 (v1224 : BitVec 32) : Prop :=
  (∀ a, (k0_off181 v1224) a + S32x4096.size a ≤ S4096x4096.size a) ∧
  (∀ (hinb : ∀ a, (k0_off181 v1224) a + S32x4096.size a ≤ S4096x4096.size a), (Rect.unit (s := S4096x4096) (k0_off181 v1224) S32x4096.size hinb).WholeWords (EltTy.packing .i8))
theorem k0_off181_inb : ∀ (v1224 : BitVec 32) (k0_hw182 : k0_chk182 v1224), ∀ a, (k0_off181 v1224) a + S32x4096.size a ≤ S4096x4096.size a := fun v1224 k0_hw182 => k0_hw182.1
theorem k0_off181_wordsi8 : ∀ (v1224 : BitVec 32) (k0_hw182 : k0_chk182 v1224), (Rect.unit (s := S4096x4096) (k0_off181 v1224) S32x4096.size (k0_off181_inb v1224 k0_hw182)).WholeWords (EltTy.packing .i8) := fun v1224 k0_hw182 => k0_hw182.2 (k0_off181_inb v1224 k0_hw182)

def k0_chk181 (v1227 : BitVec 32) : Prop :=
  (∀ a, (k0_off180 v1227) a + S32x4096.size a ≤ S4096x4096.size a) ∧
  (∀ (hinb : ∀ a, (k0_off180 v1227) a + S32x4096.size a ≤ S4096x4096.size a), (Rect.unit (s := S4096x4096) (k0_off180 v1227) S32x4096.size hinb).WholeWords (EltTy.packing .i8))
theorem k0_off180_inb : ∀ (v1227 : BitVec 32) (k0_hw181 : k0_chk181 v1227), ∀ a, (k0_off180 v1227) a + S32x4096.size a ≤ S4096x4096.size a := fun v1227 k0_hw181 => k0_hw181.1
theorem k0_off180_wordsi8 : ∀ (v1227 : BitVec 32) (k0_hw181 : k0_chk181 v1227), (Rect.unit (s := S4096x4096) (k0_off180 v1227) S32x4096.size (k0_off180_inb v1227 k0_hw181)).WholeWords (EltTy.packing .i8) := fun v1227 k0_hw181 => k0_hw181.2 (k0_off180_inb v1227 k0_hw181)

def k0_dev49 (v3 : BitVec 32) : Nat :=
  let c0_i32_1260 : BitVec 32 := 0#32
  let c1_i32_1259 : BitVec 32 := 1#32
  let v1230 : BitVec 32 := Scalar.muli v3 c1_i32_1259
  let v1231 : BitVec 32 := Scalar.addi c0_i32_1260 v1230
  v1231.toNat
def k0_off182 (v1241 : BitVec 32) : Fin 2 → Nat :=
  let c128_i32_1267 : BitVec 32 := 128#32
  let v1242 : BitVec 32 := Scalar.muli v1241 c128_i32_1267
  let c96_i32_1268 : BitVec 32 := 96#32
  let v1243 : BitVec 32 := Scalar.addi v1242 c96_i32_1268
  let c0_i32_1275 : BitVec 32 := 0#32
  ![v1243.toNat, 0]

def k0_off183 (v1238 : BitVec 32) : Fin 2 → Nat :=
  let c128_i32_1264 : BitVec 32 := 128#32
  let v1239 : BitVec 32 := Scalar.muli v1238 c128_i32_1264
  let c96_i32_1265 : BitVec 32 := 96#32
  let v1240 : BitVec 32 := Scalar.addi v1239 c96_i32_1265
  let c0_i32_1276 : BitVec 32 := 0#32
  ![v1240.toNat, 0]

def k0_chk184 (v1238 : BitVec 32) : Prop :=
  (∀ a, (k0_off183 v1238) a + S32x4096.size a ≤ S4096x4096.size a) ∧
  (∀ (hinb : ∀ a, (k0_off183 v1238) a + S32x4096.size a ≤ S4096x4096.size a), (Rect.unit (s := S4096x4096) (k0_off183 v1238) S32x4096.size hinb).WholeWords (EltTy.packing .i8))
theorem k0_off183_inb : ∀ (v1238 : BitVec 32) (k0_hw184 : k0_chk184 v1238), ∀ a, (k0_off183 v1238) a + S32x4096.size a ≤ S4096x4096.size a := fun v1238 k0_hw184 => k0_hw184.1
theorem k0_off183_wordsi8 : ∀ (v1238 : BitVec 32) (k0_hw184 : k0_chk184 v1238), (Rect.unit (s := S4096x4096) (k0_off183 v1238) S32x4096.size (k0_off183_inb v1238 k0_hw184)).WholeWords (EltTy.packing .i8) := fun v1238 k0_hw184 => k0_hw184.2 (k0_off183_inb v1238 k0_hw184)

def k0_chk183 (v1241 : BitVec 32) : Prop :=
  (∀ a, (k0_off182 v1241) a + S32x4096.size a ≤ S4096x4096.size a) ∧
  (∀ (hinb : ∀ a, (k0_off182 v1241) a + S32x4096.size a ≤ S4096x4096.size a), (Rect.unit (s := S4096x4096) (k0_off182 v1241) S32x4096.size hinb).WholeWords (EltTy.packing .i8))
theorem k0_off182_inb : ∀ (v1241 : BitVec 32) (k0_hw183 : k0_chk183 v1241), ∀ a, (k0_off182 v1241) a + S32x4096.size a ≤ S4096x4096.size a := fun v1241 k0_hw183 => k0_hw183.1
theorem k0_off182_wordsi8 : ∀ (v1241 : BitVec 32) (k0_hw183 : k0_chk183 v1241), (Rect.unit (s := S4096x4096) (k0_off182 v1241) S32x4096.size (k0_off182_inb v1241 k0_hw183)).WholeWords (EltTy.packing .i8) := fun v1241 k0_hw183 => k0_hw183.2 (k0_off182_inb v1241 k0_hw183)

def k0_off184 (v1253 : BitVec 32) : Fin 2 → Nat :=
  let c128_i32_1281 : BitVec 32 := 128#32
  let v1254 : BitVec 32 := Scalar.muli v1253 c128_i32_1281
  let c96_i32_1282 : BitVec 32 := 96#32
  let v1255 : BitVec 32 := Scalar.addi v1254 c96_i32_1282
  let c0_i32_1289 : BitVec 32 := 0#32
  ![v1255.toNat, 0]

def k0_off185 (v1250 : BitVec 32) : Fin 2 → Nat :=
  let c128_i32_1278 : BitVec 32 := 128#32
  let v1251 : BitVec 32 := Scalar.muli v1250 c128_i32_1278
  let c96_i32_1279 : BitVec 32 := 96#32
  let v1252 : BitVec 32 := Scalar.addi v1251 c96_i32_1279
  let c0_i32_1290 : BitVec 32 := 0#32
  ![v1252.toNat, 0]

def k0_chk186 (v1250 : BitVec 32) : Prop :=
  (∀ a, (k0_off185 v1250) a + S32x4096.size a ≤ S4096x4096.size a) ∧
  (∀ (hinb : ∀ a, (k0_off185 v1250) a + S32x4096.size a ≤ S4096x4096.size a), (Rect.unit (s := S4096x4096) (k0_off185 v1250) S32x4096.size hinb).WholeWords (EltTy.packing .i8))
theorem k0_off185_inb : ∀ (v1250 : BitVec 32) (k0_hw186 : k0_chk186 v1250), ∀ a, (k0_off185 v1250) a + S32x4096.size a ≤ S4096x4096.size a := fun v1250 k0_hw186 => k0_hw186.1
theorem k0_off185_wordsi8 : ∀ (v1250 : BitVec 32) (k0_hw186 : k0_chk186 v1250), (Rect.unit (s := S4096x4096) (k0_off185 v1250) S32x4096.size (k0_off185_inb v1250 k0_hw186)).WholeWords (EltTy.packing .i8) := fun v1250 k0_hw186 => k0_hw186.2 (k0_off185_inb v1250 k0_hw186)

def k0_chk185 (v1253 : BitVec 32) : Prop :=
  (∀ a, (k0_off184 v1253) a + S32x4096.size a ≤ S4096x4096.size a) ∧
  (∀ (hinb : ∀ a, (k0_off184 v1253) a + S32x4096.size a ≤ S4096x4096.size a), (Rect.unit (s := S4096x4096) (k0_off184 v1253) S32x4096.size hinb).WholeWords (EltTy.packing .i8))
theorem k0_off184_inb : ∀ (v1253 : BitVec 32) (k0_hw185 : k0_chk185 v1253), ∀ a, (k0_off184 v1253) a + S32x4096.size a ≤ S4096x4096.size a := fun v1253 k0_hw185 => k0_hw185.1
theorem k0_off184_wordsi8 : ∀ (v1253 : BitVec 32) (k0_hw185 : k0_chk185 v1253), (Rect.unit (s := S4096x4096) (k0_off184 v1253) S32x4096.size (k0_off184_inb v1253 k0_hw185)).WholeWords (EltTy.packing .i8) := fun v1253 k0_hw185 => k0_hw185.2 (k0_off184_inb v1253 k0_hw185)

def k0_dev50 (v4 : BitVec 32) : Nat :=
  let c0_i32_1288 : BitVec 32 := 0#32
  let c1_i32_1287 : BitVec 32 := 1#32
  let v1256 : BitVec 32 := Scalar.muli v4 c1_i32_1287
  let v1257 : BitVec 32 := Scalar.addi c0_i32_1288 v1256
  v1257.toNat
def k0_off186 (v1265 : BitVec 32) : Fin 2 → Nat :=
  let c128_i32_1293 : BitVec 32 := 128#32
  let v1266 : BitVec 32 := Scalar.muli v1265 c128_i32_1293
  let v1267 : Index := Scalar.indexCast v1266
  let c0_1294 : Index := 0#32
  ![v1267.toNat, 0]

def k0_chk187 (v1265 : BitVec 32) : Prop :=
  (∀ a, (k0_off186 v1265) a + S128x4096.size a ≤ S4096x4096.size a)
theorem k0_off186_inb : ∀ (v1265 : BitVec 32) (k0_hw187 : k0_chk187 v1265), ∀ a, (k0_off186 v1265) a + S128x4096.size a ≤ S4096x4096.size a := fun v1265 k0_hw187 => k0_hw187

def k0_off187 (v1264 : BitVec 32) : Fin 2 → Nat :=
  let c128_i32_1298 : BitVec 32 := 128#32
  let v1275 : BitVec 32 := Scalar.muli v1264 c128_i32_1298
  let v1276 : Index := Scalar.indexCast v1275
  let c0_1299 : Index := 0#32
  ![v1276.toNat, 0]

def k0_chk188 (v1264 : BitVec 32) : Prop :=
  (∀ a, (k0_off187 v1264) a + S128x64.size a ≤ S4096x64.size a)
theorem k0_off187_inb : ∀ (v1264 : BitVec 32) (k0_hw188 : k0_chk188 v1264), ∀ a, (k0_off187 v1264) a + S128x64.size a ≤ S4096x64.size a := fun v1264 k0_hw188 => k0_hw188

def k0_off188 (v1279 : BitVec 32) : Fin 2 → Nat :=
  let c128_i32_1302 : BitVec 32 := 128#32
  let v1280 : BitVec 32 := Scalar.muli v1279 c128_i32_1302
  let v1281 : Index := Scalar.indexCast v1280
  let c0_1303 : Index := 0#32
  ![v1281.toNat, 0]

def k0_chk189 (v1279 : BitVec 32) : Prop :=
  (∀ a, (k0_off188 v1279) a + S128x4096.size a ≤ S4096x4096.size a)
theorem k0_off188_inb : ∀ (v1279 : BitVec 32) (k0_hw189 : k0_chk189 v1279), ∀ a, (k0_off188 v1279) a + S128x4096.size a ≤ S4096x4096.size a := fun v1279 k0_hw189 => k0_hw189

def k0_off189 (v1278 : BitVec 32) : Fin 2 → Nat :=
  let c128_i32_1307 : BitVec 32 := 128#32
  let v1289 : BitVec 32 := Scalar.muli v1278 c128_i32_1307
  let v1290 : Index := Scalar.indexCast v1289
  let c0_1308 : Index := 0#32
  ![v1290.toNat, 0]

def k0_chk190 (v1278 : BitVec 32) : Prop :=
  (∀ a, (k0_off189 v1278) a + S128x64.size a ≤ S4096x64.size a)
theorem k0_off189_inb : ∀ (v1278 : BitVec 32) (k0_hw190 : k0_chk190 v1278), ∀ a, (k0_off189 v1278) a + S128x64.size a ≤ S4096x64.size a := fun v1278 k0_hw190 => k0_hw190

def k0_off190 (v1295 : BitVec 32) : Fin 2 → Nat :=
  let c128_i32_1313 : BitVec 32 := 128#32
  let v1296 : BitVec 32 := Scalar.muli v1295 c128_i32_1313
  let c0_i32_1314 : BitVec 32 := 0#32
  let v1297 : BitVec 32 := Scalar.addi v1296 c0_i32_1314
  let c0_i32_1321 : BitVec 32 := 0#32
  ![v1297.toNat, 0]

def k0_off191 (v1292 : BitVec 32) : Fin 2 → Nat :=
  let c128_i32_1310 : BitVec 32 := 128#32
  let v1293 : BitVec 32 := Scalar.muli v1292 c128_i32_1310
  let c0_i32_1311 : BitVec 32 := 0#32
  let v1294 : BitVec 32 := Scalar.addi v1293 c0_i32_1311
  let c0_i32_1322 : BitVec 32 := 0#32
  ![v1294.toNat, 0]

def k0_chk192 (v1292 : BitVec 32) : Prop :=
  (∀ a, (k0_off191 v1292) a + S32x4096.size a ≤ S4096x4096.size a) ∧
  (∀ (hinb : ∀ a, (k0_off191 v1292) a + S32x4096.size a ≤ S4096x4096.size a), (Rect.unit (s := S4096x4096) (k0_off191 v1292) S32x4096.size hinb).WholeWords (EltTy.packing .i8))
theorem k0_off191_inb : ∀ (v1292 : BitVec 32) (k0_hw192 : k0_chk192 v1292), ∀ a, (k0_off191 v1292) a + S32x4096.size a ≤ S4096x4096.size a := fun v1292 k0_hw192 => k0_hw192.1
theorem k0_off191_wordsi8 : ∀ (v1292 : BitVec 32) (k0_hw192 : k0_chk192 v1292), (Rect.unit (s := S4096x4096) (k0_off191 v1292) S32x4096.size (k0_off191_inb v1292 k0_hw192)).WholeWords (EltTy.packing .i8) := fun v1292 k0_hw192 => k0_hw192.2 (k0_off191_inb v1292 k0_hw192)

def k0_chk191 (v1295 : BitVec 32) : Prop :=
  (∀ a, (k0_off190 v1295) a + S32x4096.size a ≤ S4096x4096.size a) ∧
  (∀ (hinb : ∀ a, (k0_off190 v1295) a + S32x4096.size a ≤ S4096x4096.size a), (Rect.unit (s := S4096x4096) (k0_off190 v1295) S32x4096.size hinb).WholeWords (EltTy.packing .i8))
theorem k0_off190_inb : ∀ (v1295 : BitVec 32) (k0_hw191 : k0_chk191 v1295), ∀ a, (k0_off190 v1295) a + S32x4096.size a ≤ S4096x4096.size a := fun v1295 k0_hw191 => k0_hw191.1
theorem k0_off190_wordsi8 : ∀ (v1295 : BitVec 32) (k0_hw191 : k0_chk191 v1295), (Rect.unit (s := S4096x4096) (k0_off190 v1295) S32x4096.size (k0_off190_inb v1295 k0_hw191)).WholeWords (EltTy.packing .i8) := fun v1295 k0_hw191 => k0_hw191.2 (k0_off190_inb v1295 k0_hw191)

def k0_off192 (v1307 : BitVec 32) : Fin 2 → Nat :=
  let c128_i32_1326 : BitVec 32 := 128#32
  let v1308 : BitVec 32 := Scalar.muli v1307 c128_i32_1326
  let c0_i32_1327 : BitVec 32 := 0#32
  let v1309 : BitVec 32 := Scalar.addi v1308 c0_i32_1327
  let c0_i32_1333 : BitVec 32 := 0#32
  ![v1309.toNat, 0]

def k0_off193 (v1304 : BitVec 32) : Fin 2 → Nat :=
  let c128_i32_1323 : BitVec 32 := 128#32
  let v1305 : BitVec 32 := Scalar.muli v1304 c128_i32_1323
  let c0_i32_1324 : BitVec 32 := 0#32
  let v1306 : BitVec 32 := Scalar.addi v1305 c0_i32_1324
  let c0_i32_1334 : BitVec 32 := 0#32
  ![v1306.toNat, 0]

def k0_chk194 (v1304 : BitVec 32) : Prop :=
  (∀ a, (k0_off193 v1304) a + S32x4096.size a ≤ S4096x4096.size a) ∧
  (∀ (hinb : ∀ a, (k0_off193 v1304) a + S32x4096.size a ≤ S4096x4096.size a), (Rect.unit (s := S4096x4096) (k0_off193 v1304) S32x4096.size hinb).WholeWords (EltTy.packing .i8))
theorem k0_off193_inb : ∀ (v1304 : BitVec 32) (k0_hw194 : k0_chk194 v1304), ∀ a, (k0_off193 v1304) a + S32x4096.size a ≤ S4096x4096.size a := fun v1304 k0_hw194 => k0_hw194.1
theorem k0_off193_wordsi8 : ∀ (v1304 : BitVec 32) (k0_hw194 : k0_chk194 v1304), (Rect.unit (s := S4096x4096) (k0_off193 v1304) S32x4096.size (k0_off193_inb v1304 k0_hw194)).WholeWords (EltTy.packing .i8) := fun v1304 k0_hw194 => k0_hw194.2 (k0_off193_inb v1304 k0_hw194)

def k0_chk193 (v1307 : BitVec 32) : Prop :=
  (∀ a, (k0_off192 v1307) a + S32x4096.size a ≤ S4096x4096.size a) ∧
  (∀ (hinb : ∀ a, (k0_off192 v1307) a + S32x4096.size a ≤ S4096x4096.size a), (Rect.unit (s := S4096x4096) (k0_off192 v1307) S32x4096.size hinb).WholeWords (EltTy.packing .i8))
theorem k0_off192_inb : ∀ (v1307 : BitVec 32) (k0_hw193 : k0_chk193 v1307), ∀ a, (k0_off192 v1307) a + S32x4096.size a ≤ S4096x4096.size a := fun v1307 k0_hw193 => k0_hw193.1
theorem k0_off192_wordsi8 : ∀ (v1307 : BitVec 32) (k0_hw193 : k0_chk193 v1307), (Rect.unit (s := S4096x4096) (k0_off192 v1307) S32x4096.size (k0_off192_inb v1307 k0_hw193)).WholeWords (EltTy.packing .i8) := fun v1307 k0_hw193 => k0_hw193.2 (k0_off192_inb v1307 k0_hw193)

def k0_dev51 (v3 : BitVec 32) : Nat :=
  let c0_i32_1332 : BitVec 32 := 0#32
  let c1_i32_1331 : BitVec 32 := 1#32
  let v1310 : BitVec 32 := Scalar.muli v3 c1_i32_1331
  let v1311 : BitVec 32 := Scalar.addi c0_i32_1332 v1310
  v1311.toNat
def k0_off194 (v1321 : BitVec 32) : Fin 2 → Nat :=
  let c128_i32_1339 : BitVec 32 := 128#32
  let v1322 : BitVec 32 := Scalar.muli v1321 c128_i32_1339
  let c0_i32_1340 : BitVec 32 := 0#32
  let v1323 : BitVec 32 := Scalar.addi v1322 c0_i32_1340
  let c0_i32_1347 : BitVec 32 := 0#32
  ![v1323.toNat, 0]

def k0_off195 (v1318 : BitVec 32) : Fin 2 → Nat :=
  let c128_i32_1336 : BitVec 32 := 128#32
  let v1319 : BitVec 32 := Scalar.muli v1318 c128_i32_1336
  let c0_i32_1337 : BitVec 32 := 0#32
  let v1320 : BitVec 32 := Scalar.addi v1319 c0_i32_1337
  let c0_i32_1348 : BitVec 32 := 0#32
  ![v1320.toNat, 0]

def k0_chk196 (v1318 : BitVec 32) : Prop :=
  (∀ a, (k0_off195 v1318) a + S32x4096.size a ≤ S4096x4096.size a) ∧
  (∀ (hinb : ∀ a, (k0_off195 v1318) a + S32x4096.size a ≤ S4096x4096.size a), (Rect.unit (s := S4096x4096) (k0_off195 v1318) S32x4096.size hinb).WholeWords (EltTy.packing .i8))
theorem k0_off195_inb : ∀ (v1318 : BitVec 32) (k0_hw196 : k0_chk196 v1318), ∀ a, (k0_off195 v1318) a + S32x4096.size a ≤ S4096x4096.size a := fun v1318 k0_hw196 => k0_hw196.1
theorem k0_off195_wordsi8 : ∀ (v1318 : BitVec 32) (k0_hw196 : k0_chk196 v1318), (Rect.unit (s := S4096x4096) (k0_off195 v1318) S32x4096.size (k0_off195_inb v1318 k0_hw196)).WholeWords (EltTy.packing .i8) := fun v1318 k0_hw196 => k0_hw196.2 (k0_off195_inb v1318 k0_hw196)

def k0_chk195 (v1321 : BitVec 32) : Prop :=
  (∀ a, (k0_off194 v1321) a + S32x4096.size a ≤ S4096x4096.size a) ∧
  (∀ (hinb : ∀ a, (k0_off194 v1321) a + S32x4096.size a ≤ S4096x4096.size a), (Rect.unit (s := S4096x4096) (k0_off194 v1321) S32x4096.size hinb).WholeWords (EltTy.packing .i8))
theorem k0_off194_inb : ∀ (v1321 : BitVec 32) (k0_hw195 : k0_chk195 v1321), ∀ a, (k0_off194 v1321) a + S32x4096.size a ≤ S4096x4096.size a := fun v1321 k0_hw195 => k0_hw195.1
theorem k0_off194_wordsi8 : ∀ (v1321 : BitVec 32) (k0_hw195 : k0_chk195 v1321), (Rect.unit (s := S4096x4096) (k0_off194 v1321) S32x4096.size (k0_off194_inb v1321 k0_hw195)).WholeWords (EltTy.packing .i8) := fun v1321 k0_hw195 => k0_hw195.2 (k0_off194_inb v1321 k0_hw195)

def k0_off196 (v1333 : BitVec 32) : Fin 2 → Nat :=
  let c128_i32_1353 : BitVec 32 := 128#32
  let v1334 : BitVec 32 := Scalar.muli v1333 c128_i32_1353
  let c0_i32_1354 : BitVec 32 := 0#32
  let v1335 : BitVec 32 := Scalar.addi v1334 c0_i32_1354
  let c0_i32_1361 : BitVec 32 := 0#32
  ![v1335.toNat, 0]

def k0_off197 (v1330 : BitVec 32) : Fin 2 → Nat :=
  let c128_i32_1350 : BitVec 32 := 128#32
  let v1331 : BitVec 32 := Scalar.muli v1330 c128_i32_1350
  let c0_i32_1351 : BitVec 32 := 0#32
  let v1332 : BitVec 32 := Scalar.addi v1331 c0_i32_1351
  let c0_i32_1362 : BitVec 32 := 0#32
  ![v1332.toNat, 0]

def k0_chk198 (v1330 : BitVec 32) : Prop :=
  (∀ a, (k0_off197 v1330) a + S32x4096.size a ≤ S4096x4096.size a) ∧
  (∀ (hinb : ∀ a, (k0_off197 v1330) a + S32x4096.size a ≤ S4096x4096.size a), (Rect.unit (s := S4096x4096) (k0_off197 v1330) S32x4096.size hinb).WholeWords (EltTy.packing .i8))
theorem k0_off197_inb : ∀ (v1330 : BitVec 32) (k0_hw198 : k0_chk198 v1330), ∀ a, (k0_off197 v1330) a + S32x4096.size a ≤ S4096x4096.size a := fun v1330 k0_hw198 => k0_hw198.1
theorem k0_off197_wordsi8 : ∀ (v1330 : BitVec 32) (k0_hw198 : k0_chk198 v1330), (Rect.unit (s := S4096x4096) (k0_off197 v1330) S32x4096.size (k0_off197_inb v1330 k0_hw198)).WholeWords (EltTy.packing .i8) := fun v1330 k0_hw198 => k0_hw198.2 (k0_off197_inb v1330 k0_hw198)

def k0_chk197 (v1333 : BitVec 32) : Prop :=
  (∀ a, (k0_off196 v1333) a + S32x4096.size a ≤ S4096x4096.size a) ∧
  (∀ (hinb : ∀ a, (k0_off196 v1333) a + S32x4096.size a ≤ S4096x4096.size a), (Rect.unit (s := S4096x4096) (k0_off196 v1333) S32x4096.size hinb).WholeWords (EltTy.packing .i8))
theorem k0_off196_inb : ∀ (v1333 : BitVec 32) (k0_hw197 : k0_chk197 v1333), ∀ a, (k0_off196 v1333) a + S32x4096.size a ≤ S4096x4096.size a := fun v1333 k0_hw197 => k0_hw197.1
theorem k0_off196_wordsi8 : ∀ (v1333 : BitVec 32) (k0_hw197 : k0_chk197 v1333), (Rect.unit (s := S4096x4096) (k0_off196 v1333) S32x4096.size (k0_off196_inb v1333 k0_hw197)).WholeWords (EltTy.packing .i8) := fun v1333 k0_hw197 => k0_hw197.2 (k0_off196_inb v1333 k0_hw197)

def k0_dev52 (v4 : BitVec 32) : Nat :=
  let c0_i32_1360 : BitVec 32 := 0#32
  let c1_i32_1359 : BitVec 32 := 1#32
  let v1336 : BitVec 32 := Scalar.muli v4 c1_i32_1359
  let v1337 : BitVec 32 := Scalar.addi c0_i32_1360 v1336
  v1337.toNat
def k0_off198 (v1347 : BitVec 32) : Fin 2 → Nat :=
  let c128_i32_1367 : BitVec 32 := 128#32
  let v1348 : BitVec 32 := Scalar.muli v1347 c128_i32_1367
  let c32_i32_1368 : BitVec 32 := 32#32
  let v1349 : BitVec 32 := Scalar.addi v1348 c32_i32_1368
  let c0_i32_1375 : BitVec 32 := 0#32
  ![v1349.toNat, 0]

def k0_off199 (v1344 : BitVec 32) : Fin 2 → Nat :=
  let c128_i32_1364 : BitVec 32 := 128#32
  let v1345 : BitVec 32 := Scalar.muli v1344 c128_i32_1364
  let c32_i32_1365 : BitVec 32 := 32#32
  let v1346 : BitVec 32 := Scalar.addi v1345 c32_i32_1365
  let c0_i32_1376 : BitVec 32 := 0#32
  ![v1346.toNat, 0]

def k0_chk200 (v1344 : BitVec 32) : Prop :=
  (∀ a, (k0_off199 v1344) a + S32x4096.size a ≤ S4096x4096.size a) ∧
  (∀ (hinb : ∀ a, (k0_off199 v1344) a + S32x4096.size a ≤ S4096x4096.size a), (Rect.unit (s := S4096x4096) (k0_off199 v1344) S32x4096.size hinb).WholeWords (EltTy.packing .i8))
theorem k0_off199_inb : ∀ (v1344 : BitVec 32) (k0_hw200 : k0_chk200 v1344), ∀ a, (k0_off199 v1344) a + S32x4096.size a ≤ S4096x4096.size a := fun v1344 k0_hw200 => k0_hw200.1
theorem k0_off199_wordsi8 : ∀ (v1344 : BitVec 32) (k0_hw200 : k0_chk200 v1344), (Rect.unit (s := S4096x4096) (k0_off199 v1344) S32x4096.size (k0_off199_inb v1344 k0_hw200)).WholeWords (EltTy.packing .i8) := fun v1344 k0_hw200 => k0_hw200.2 (k0_off199_inb v1344 k0_hw200)

def k0_chk199 (v1347 : BitVec 32) : Prop :=
  (∀ a, (k0_off198 v1347) a + S32x4096.size a ≤ S4096x4096.size a) ∧
  (∀ (hinb : ∀ a, (k0_off198 v1347) a + S32x4096.size a ≤ S4096x4096.size a), (Rect.unit (s := S4096x4096) (k0_off198 v1347) S32x4096.size hinb).WholeWords (EltTy.packing .i8))
theorem k0_off198_inb : ∀ (v1347 : BitVec 32) (k0_hw199 : k0_chk199 v1347), ∀ a, (k0_off198 v1347) a + S32x4096.size a ≤ S4096x4096.size a := fun v1347 k0_hw199 => k0_hw199.1
theorem k0_off198_wordsi8 : ∀ (v1347 : BitVec 32) (k0_hw199 : k0_chk199 v1347), (Rect.unit (s := S4096x4096) (k0_off198 v1347) S32x4096.size (k0_off198_inb v1347 k0_hw199)).WholeWords (EltTy.packing .i8) := fun v1347 k0_hw199 => k0_hw199.2 (k0_off198_inb v1347 k0_hw199)

def k0_off200 (v1359 : BitVec 32) : Fin 2 → Nat :=
  let c128_i32_1381 : BitVec 32 := 128#32
  let v1360 : BitVec 32 := Scalar.muli v1359 c128_i32_1381
  let c32_i32_1382 : BitVec 32 := 32#32
  let v1361 : BitVec 32 := Scalar.addi v1360 c32_i32_1382
  let c0_i32_1389 : BitVec 32 := 0#32
  ![v1361.toNat, 0]

def k0_off201 (v1356 : BitVec 32) : Fin 2 → Nat :=
  let c128_i32_1378 : BitVec 32 := 128#32
  let v1357 : BitVec 32 := Scalar.muli v1356 c128_i32_1378
  let c32_i32_1379 : BitVec 32 := 32#32
  let v1358 : BitVec 32 := Scalar.addi v1357 c32_i32_1379
  let c0_i32_1390 : BitVec 32 := 0#32
  ![v1358.toNat, 0]

def k0_chk202 (v1356 : BitVec 32) : Prop :=
  (∀ a, (k0_off201 v1356) a + S32x4096.size a ≤ S4096x4096.size a) ∧
  (∀ (hinb : ∀ a, (k0_off201 v1356) a + S32x4096.size a ≤ S4096x4096.size a), (Rect.unit (s := S4096x4096) (k0_off201 v1356) S32x4096.size hinb).WholeWords (EltTy.packing .i8))
theorem k0_off201_inb : ∀ (v1356 : BitVec 32) (k0_hw202 : k0_chk202 v1356), ∀ a, (k0_off201 v1356) a + S32x4096.size a ≤ S4096x4096.size a := fun v1356 k0_hw202 => k0_hw202.1
theorem k0_off201_wordsi8 : ∀ (v1356 : BitVec 32) (k0_hw202 : k0_chk202 v1356), (Rect.unit (s := S4096x4096) (k0_off201 v1356) S32x4096.size (k0_off201_inb v1356 k0_hw202)).WholeWords (EltTy.packing .i8) := fun v1356 k0_hw202 => k0_hw202.2 (k0_off201_inb v1356 k0_hw202)

def k0_chk201 (v1359 : BitVec 32) : Prop :=
  (∀ a, (k0_off200 v1359) a + S32x4096.size a ≤ S4096x4096.size a) ∧
  (∀ (hinb : ∀ a, (k0_off200 v1359) a + S32x4096.size a ≤ S4096x4096.size a), (Rect.unit (s := S4096x4096) (k0_off200 v1359) S32x4096.size hinb).WholeWords (EltTy.packing .i8))
theorem k0_off200_inb : ∀ (v1359 : BitVec 32) (k0_hw201 : k0_chk201 v1359), ∀ a, (k0_off200 v1359) a + S32x4096.size a ≤ S4096x4096.size a := fun v1359 k0_hw201 => k0_hw201.1
theorem k0_off200_wordsi8 : ∀ (v1359 : BitVec 32) (k0_hw201 : k0_chk201 v1359), (Rect.unit (s := S4096x4096) (k0_off200 v1359) S32x4096.size (k0_off200_inb v1359 k0_hw201)).WholeWords (EltTy.packing .i8) := fun v1359 k0_hw201 => k0_hw201.2 (k0_off200_inb v1359 k0_hw201)

def k0_dev53 (v3 : BitVec 32) : Nat :=
  let c0_i32_1388 : BitVec 32 := 0#32
  let c1_i32_1387 : BitVec 32 := 1#32
  let v1362 : BitVec 32 := Scalar.muli v3 c1_i32_1387
  let v1363 : BitVec 32 := Scalar.addi c0_i32_1388 v1362
  v1363.toNat
def k0_off202 (v1373 : BitVec 32) : Fin 2 → Nat :=
  let c128_i32_1395 : BitVec 32 := 128#32
  let v1374 : BitVec 32 := Scalar.muli v1373 c128_i32_1395
  let c32_i32_1396 : BitVec 32 := 32#32
  let v1375 : BitVec 32 := Scalar.addi v1374 c32_i32_1396
  let c0_i32_1403 : BitVec 32 := 0#32
  ![v1375.toNat, 0]

def k0_off203 (v1370 : BitVec 32) : Fin 2 → Nat :=
  let c128_i32_1392 : BitVec 32 := 128#32
  let v1371 : BitVec 32 := Scalar.muli v1370 c128_i32_1392
  let c32_i32_1393 : BitVec 32 := 32#32
  let v1372 : BitVec 32 := Scalar.addi v1371 c32_i32_1393
  let c0_i32_1404 : BitVec 32 := 0#32
  ![v1372.toNat, 0]

def k0_chk204 (v1370 : BitVec 32) : Prop :=
  (∀ a, (k0_off203 v1370) a + S32x4096.size a ≤ S4096x4096.size a) ∧
  (∀ (hinb : ∀ a, (k0_off203 v1370) a + S32x4096.size a ≤ S4096x4096.size a), (Rect.unit (s := S4096x4096) (k0_off203 v1370) S32x4096.size hinb).WholeWords (EltTy.packing .i8))
theorem k0_off203_inb : ∀ (v1370 : BitVec 32) (k0_hw204 : k0_chk204 v1370), ∀ a, (k0_off203 v1370) a + S32x4096.size a ≤ S4096x4096.size a := fun v1370 k0_hw204 => k0_hw204.1
theorem k0_off203_wordsi8 : ∀ (v1370 : BitVec 32) (k0_hw204 : k0_chk204 v1370), (Rect.unit (s := S4096x4096) (k0_off203 v1370) S32x4096.size (k0_off203_inb v1370 k0_hw204)).WholeWords (EltTy.packing .i8) := fun v1370 k0_hw204 => k0_hw204.2 (k0_off203_inb v1370 k0_hw204)

def k0_chk203 (v1373 : BitVec 32) : Prop :=
  (∀ a, (k0_off202 v1373) a + S32x4096.size a ≤ S4096x4096.size a) ∧
  (∀ (hinb : ∀ a, (k0_off202 v1373) a + S32x4096.size a ≤ S4096x4096.size a), (Rect.unit (s := S4096x4096) (k0_off202 v1373) S32x4096.size hinb).WholeWords (EltTy.packing .i8))
theorem k0_off202_inb : ∀ (v1373 : BitVec 32) (k0_hw203 : k0_chk203 v1373), ∀ a, (k0_off202 v1373) a + S32x4096.size a ≤ S4096x4096.size a := fun v1373 k0_hw203 => k0_hw203.1
theorem k0_off202_wordsi8 : ∀ (v1373 : BitVec 32) (k0_hw203 : k0_chk203 v1373), (Rect.unit (s := S4096x4096) (k0_off202 v1373) S32x4096.size (k0_off202_inb v1373 k0_hw203)).WholeWords (EltTy.packing .i8) := fun v1373 k0_hw203 => k0_hw203.2 (k0_off202_inb v1373 k0_hw203)

def k0_off204 (v1385 : BitVec 32) : Fin 2 → Nat :=
  let c128_i32_1409 : BitVec 32 := 128#32
  let v1386 : BitVec 32 := Scalar.muli v1385 c128_i32_1409
  let c32_i32_1410 : BitVec 32 := 32#32
  let v1387 : BitVec 32 := Scalar.addi v1386 c32_i32_1410
  let c0_i32_1417 : BitVec 32 := 0#32
  ![v1387.toNat, 0]

def k0_off205 (v1382 : BitVec 32) : Fin 2 → Nat :=
  let c128_i32_1406 : BitVec 32 := 128#32
  let v1383 : BitVec 32 := Scalar.muli v1382 c128_i32_1406
  let c32_i32_1407 : BitVec 32 := 32#32
  let v1384 : BitVec 32 := Scalar.addi v1383 c32_i32_1407
  let c0_i32_1418 : BitVec 32 := 0#32
  ![v1384.toNat, 0]

def k0_chk206 (v1382 : BitVec 32) : Prop :=
  (∀ a, (k0_off205 v1382) a + S32x4096.size a ≤ S4096x4096.size a) ∧
  (∀ (hinb : ∀ a, (k0_off205 v1382) a + S32x4096.size a ≤ S4096x4096.size a), (Rect.unit (s := S4096x4096) (k0_off205 v1382) S32x4096.size hinb).WholeWords (EltTy.packing .i8))
theorem k0_off205_inb : ∀ (v1382 : BitVec 32) (k0_hw206 : k0_chk206 v1382), ∀ a, (k0_off205 v1382) a + S32x4096.size a ≤ S4096x4096.size a := fun v1382 k0_hw206 => k0_hw206.1
theorem k0_off205_wordsi8 : ∀ (v1382 : BitVec 32) (k0_hw206 : k0_chk206 v1382), (Rect.unit (s := S4096x4096) (k0_off205 v1382) S32x4096.size (k0_off205_inb v1382 k0_hw206)).WholeWords (EltTy.packing .i8) := fun v1382 k0_hw206 => k0_hw206.2 (k0_off205_inb v1382 k0_hw206)

def k0_chk205 (v1385 : BitVec 32) : Prop :=
  (∀ a, (k0_off204 v1385) a + S32x4096.size a ≤ S4096x4096.size a) ∧
  (∀ (hinb : ∀ a, (k0_off204 v1385) a + S32x4096.size a ≤ S4096x4096.size a), (Rect.unit (s := S4096x4096) (k0_off204 v1385) S32x4096.size hinb).WholeWords (EltTy.packing .i8))
theorem k0_off204_inb : ∀ (v1385 : BitVec 32) (k0_hw205 : k0_chk205 v1385), ∀ a, (k0_off204 v1385) a + S32x4096.size a ≤ S4096x4096.size a := fun v1385 k0_hw205 => k0_hw205.1
theorem k0_off204_wordsi8 : ∀ (v1385 : BitVec 32) (k0_hw205 : k0_chk205 v1385), (Rect.unit (s := S4096x4096) (k0_off204 v1385) S32x4096.size (k0_off204_inb v1385 k0_hw205)).WholeWords (EltTy.packing .i8) := fun v1385 k0_hw205 => k0_hw205.2 (k0_off204_inb v1385 k0_hw205)

def k0_dev54 (v4 : BitVec 32) : Nat :=
  let c0_i32_1416 : BitVec 32 := 0#32
  let c1_i32_1415 : BitVec 32 := 1#32
  let v1388 : BitVec 32 := Scalar.muli v4 c1_i32_1415
  let v1389 : BitVec 32 := Scalar.addi c0_i32_1416 v1388
  v1389.toNat
def k0_off206 (v1399 : BitVec 32) : Fin 2 → Nat :=
  let c128_i32_1423 : BitVec 32 := 128#32
  let v1400 : BitVec 32 := Scalar.muli v1399 c128_i32_1423
  let c64_i32_1424 : BitVec 32 := 64#32
  let v1401 : BitVec 32 := Scalar.addi v1400 c64_i32_1424
  let c0_i32_1431 : BitVec 32 := 0#32
  ![v1401.toNat, 0]

def k0_off207 (v1396 : BitVec 32) : Fin 2 → Nat :=
  let c128_i32_1420 : BitVec 32 := 128#32
  let v1397 : BitVec 32 := Scalar.muli v1396 c128_i32_1420
  let c64_i32_1421 : BitVec 32 := 64#32
  let v1398 : BitVec 32 := Scalar.addi v1397 c64_i32_1421
  let c0_i32_1432 : BitVec 32 := 0#32
  ![v1398.toNat, 0]

def k0_chk208 (v1396 : BitVec 32) : Prop :=
  (∀ a, (k0_off207 v1396) a + S32x4096.size a ≤ S4096x4096.size a) ∧
  (∀ (hinb : ∀ a, (k0_off207 v1396) a + S32x4096.size a ≤ S4096x4096.size a), (Rect.unit (s := S4096x4096) (k0_off207 v1396) S32x4096.size hinb).WholeWords (EltTy.packing .i8))
theorem k0_off207_inb : ∀ (v1396 : BitVec 32) (k0_hw208 : k0_chk208 v1396), ∀ a, (k0_off207 v1396) a + S32x4096.size a ≤ S4096x4096.size a := fun v1396 k0_hw208 => k0_hw208.1
theorem k0_off207_wordsi8 : ∀ (v1396 : BitVec 32) (k0_hw208 : k0_chk208 v1396), (Rect.unit (s := S4096x4096) (k0_off207 v1396) S32x4096.size (k0_off207_inb v1396 k0_hw208)).WholeWords (EltTy.packing .i8) := fun v1396 k0_hw208 => k0_hw208.2 (k0_off207_inb v1396 k0_hw208)

def k0_chk207 (v1399 : BitVec 32) : Prop :=
  (∀ a, (k0_off206 v1399) a + S32x4096.size a ≤ S4096x4096.size a) ∧
  (∀ (hinb : ∀ a, (k0_off206 v1399) a + S32x4096.size a ≤ S4096x4096.size a), (Rect.unit (s := S4096x4096) (k0_off206 v1399) S32x4096.size hinb).WholeWords (EltTy.packing .i8))
theorem k0_off206_inb : ∀ (v1399 : BitVec 32) (k0_hw207 : k0_chk207 v1399), ∀ a, (k0_off206 v1399) a + S32x4096.size a ≤ S4096x4096.size a := fun v1399 k0_hw207 => k0_hw207.1
theorem k0_off206_wordsi8 : ∀ (v1399 : BitVec 32) (k0_hw207 : k0_chk207 v1399), (Rect.unit (s := S4096x4096) (k0_off206 v1399) S32x4096.size (k0_off206_inb v1399 k0_hw207)).WholeWords (EltTy.packing .i8) := fun v1399 k0_hw207 => k0_hw207.2 (k0_off206_inb v1399 k0_hw207)

def k0_off208 (v1411 : BitVec 32) : Fin 2 → Nat :=
  let c128_i32_1437 : BitVec 32 := 128#32
  let v1412 : BitVec 32 := Scalar.muli v1411 c128_i32_1437
  let c64_i32_1438 : BitVec 32 := 64#32
  let v1413 : BitVec 32 := Scalar.addi v1412 c64_i32_1438
  let c0_i32_1445 : BitVec 32 := 0#32
  ![v1413.toNat, 0]

def k0_off209 (v1408 : BitVec 32) : Fin 2 → Nat :=
  let c128_i32_1434 : BitVec 32 := 128#32
  let v1409 : BitVec 32 := Scalar.muli v1408 c128_i32_1434
  let c64_i32_1435 : BitVec 32 := 64#32
  let v1410 : BitVec 32 := Scalar.addi v1409 c64_i32_1435
  let c0_i32_1446 : BitVec 32 := 0#32
  ![v1410.toNat, 0]

def k0_chk210 (v1408 : BitVec 32) : Prop :=
  (∀ a, (k0_off209 v1408) a + S32x4096.size a ≤ S4096x4096.size a) ∧
  (∀ (hinb : ∀ a, (k0_off209 v1408) a + S32x4096.size a ≤ S4096x4096.size a), (Rect.unit (s := S4096x4096) (k0_off209 v1408) S32x4096.size hinb).WholeWords (EltTy.packing .i8))
theorem k0_off209_inb : ∀ (v1408 : BitVec 32) (k0_hw210 : k0_chk210 v1408), ∀ a, (k0_off209 v1408) a + S32x4096.size a ≤ S4096x4096.size a := fun v1408 k0_hw210 => k0_hw210.1
theorem k0_off209_wordsi8 : ∀ (v1408 : BitVec 32) (k0_hw210 : k0_chk210 v1408), (Rect.unit (s := S4096x4096) (k0_off209 v1408) S32x4096.size (k0_off209_inb v1408 k0_hw210)).WholeWords (EltTy.packing .i8) := fun v1408 k0_hw210 => k0_hw210.2 (k0_off209_inb v1408 k0_hw210)

def k0_chk209 (v1411 : BitVec 32) : Prop :=
  (∀ a, (k0_off208 v1411) a + S32x4096.size a ≤ S4096x4096.size a) ∧
  (∀ (hinb : ∀ a, (k0_off208 v1411) a + S32x4096.size a ≤ S4096x4096.size a), (Rect.unit (s := S4096x4096) (k0_off208 v1411) S32x4096.size hinb).WholeWords (EltTy.packing .i8))
theorem k0_off208_inb : ∀ (v1411 : BitVec 32) (k0_hw209 : k0_chk209 v1411), ∀ a, (k0_off208 v1411) a + S32x4096.size a ≤ S4096x4096.size a := fun v1411 k0_hw209 => k0_hw209.1
theorem k0_off208_wordsi8 : ∀ (v1411 : BitVec 32) (k0_hw209 : k0_chk209 v1411), (Rect.unit (s := S4096x4096) (k0_off208 v1411) S32x4096.size (k0_off208_inb v1411 k0_hw209)).WholeWords (EltTy.packing .i8) := fun v1411 k0_hw209 => k0_hw209.2 (k0_off208_inb v1411 k0_hw209)

def k0_dev55 (v3 : BitVec 32) : Nat :=
  let c0_i32_1444 : BitVec 32 := 0#32
  let c1_i32_1443 : BitVec 32 := 1#32
  let v1414 : BitVec 32 := Scalar.muli v3 c1_i32_1443
  let v1415 : BitVec 32 := Scalar.addi c0_i32_1444 v1414
  v1415.toNat
def k0_off210 (v1425 : BitVec 32) : Fin 2 → Nat :=
  let c128_i32_1451 : BitVec 32 := 128#32
  let v1426 : BitVec 32 := Scalar.muli v1425 c128_i32_1451
  let c64_i32_1452 : BitVec 32 := 64#32
  let v1427 : BitVec 32 := Scalar.addi v1426 c64_i32_1452
  let c0_i32_1459 : BitVec 32 := 0#32
  ![v1427.toNat, 0]

def k0_off211 (v1422 : BitVec 32) : Fin 2 → Nat :=
  let c128_i32_1448 : BitVec 32 := 128#32
  let v1423 : BitVec 32 := Scalar.muli v1422 c128_i32_1448
  let c64_i32_1449 : BitVec 32 := 64#32
  let v1424 : BitVec 32 := Scalar.addi v1423 c64_i32_1449
  let c0_i32_1460 : BitVec 32 := 0#32
  ![v1424.toNat, 0]

def k0_chk212 (v1422 : BitVec 32) : Prop :=
  (∀ a, (k0_off211 v1422) a + S32x4096.size a ≤ S4096x4096.size a) ∧
  (∀ (hinb : ∀ a, (k0_off211 v1422) a + S32x4096.size a ≤ S4096x4096.size a), (Rect.unit (s := S4096x4096) (k0_off211 v1422) S32x4096.size hinb).WholeWords (EltTy.packing .i8))
theorem k0_off211_inb : ∀ (v1422 : BitVec 32) (k0_hw212 : k0_chk212 v1422), ∀ a, (k0_off211 v1422) a + S32x4096.size a ≤ S4096x4096.size a := fun v1422 k0_hw212 => k0_hw212.1
theorem k0_off211_wordsi8 : ∀ (v1422 : BitVec 32) (k0_hw212 : k0_chk212 v1422), (Rect.unit (s := S4096x4096) (k0_off211 v1422) S32x4096.size (k0_off211_inb v1422 k0_hw212)).WholeWords (EltTy.packing .i8) := fun v1422 k0_hw212 => k0_hw212.2 (k0_off211_inb v1422 k0_hw212)

def k0_chk211 (v1425 : BitVec 32) : Prop :=
  (∀ a, (k0_off210 v1425) a + S32x4096.size a ≤ S4096x4096.size a) ∧
  (∀ (hinb : ∀ a, (k0_off210 v1425) a + S32x4096.size a ≤ S4096x4096.size a), (Rect.unit (s := S4096x4096) (k0_off210 v1425) S32x4096.size hinb).WholeWords (EltTy.packing .i8))
theorem k0_off210_inb : ∀ (v1425 : BitVec 32) (k0_hw211 : k0_chk211 v1425), ∀ a, (k0_off210 v1425) a + S32x4096.size a ≤ S4096x4096.size a := fun v1425 k0_hw211 => k0_hw211.1
theorem k0_off210_wordsi8 : ∀ (v1425 : BitVec 32) (k0_hw211 : k0_chk211 v1425), (Rect.unit (s := S4096x4096) (k0_off210 v1425) S32x4096.size (k0_off210_inb v1425 k0_hw211)).WholeWords (EltTy.packing .i8) := fun v1425 k0_hw211 => k0_hw211.2 (k0_off210_inb v1425 k0_hw211)

def k0_off212 (v1437 : BitVec 32) : Fin 2 → Nat :=
  let c128_i32_1465 : BitVec 32 := 128#32
  let v1438 : BitVec 32 := Scalar.muli v1437 c128_i32_1465
  let c64_i32_1466 : BitVec 32 := 64#32
  let v1439 : BitVec 32 := Scalar.addi v1438 c64_i32_1466
  let c0_i32_1473 : BitVec 32 := 0#32
  ![v1439.toNat, 0]

def k0_off213 (v1434 : BitVec 32) : Fin 2 → Nat :=
  let c128_i32_1462 : BitVec 32 := 128#32
  let v1435 : BitVec 32 := Scalar.muli v1434 c128_i32_1462
  let c64_i32_1463 : BitVec 32 := 64#32
  let v1436 : BitVec 32 := Scalar.addi v1435 c64_i32_1463
  let c0_i32_1474 : BitVec 32 := 0#32
  ![v1436.toNat, 0]

def k0_chk214 (v1434 : BitVec 32) : Prop :=
  (∀ a, (k0_off213 v1434) a + S32x4096.size a ≤ S4096x4096.size a) ∧
  (∀ (hinb : ∀ a, (k0_off213 v1434) a + S32x4096.size a ≤ S4096x4096.size a), (Rect.unit (s := S4096x4096) (k0_off213 v1434) S32x4096.size hinb).WholeWords (EltTy.packing .i8))
theorem k0_off213_inb : ∀ (v1434 : BitVec 32) (k0_hw214 : k0_chk214 v1434), ∀ a, (k0_off213 v1434) a + S32x4096.size a ≤ S4096x4096.size a := fun v1434 k0_hw214 => k0_hw214.1
theorem k0_off213_wordsi8 : ∀ (v1434 : BitVec 32) (k0_hw214 : k0_chk214 v1434), (Rect.unit (s := S4096x4096) (k0_off213 v1434) S32x4096.size (k0_off213_inb v1434 k0_hw214)).WholeWords (EltTy.packing .i8) := fun v1434 k0_hw214 => k0_hw214.2 (k0_off213_inb v1434 k0_hw214)

def k0_chk213 (v1437 : BitVec 32) : Prop :=
  (∀ a, (k0_off212 v1437) a + S32x4096.size a ≤ S4096x4096.size a) ∧
  (∀ (hinb : ∀ a, (k0_off212 v1437) a + S32x4096.size a ≤ S4096x4096.size a), (Rect.unit (s := S4096x4096) (k0_off212 v1437) S32x4096.size hinb).WholeWords (EltTy.packing .i8))
theorem k0_off212_inb : ∀ (v1437 : BitVec 32) (k0_hw213 : k0_chk213 v1437), ∀ a, (k0_off212 v1437) a + S32x4096.size a ≤ S4096x4096.size a := fun v1437 k0_hw213 => k0_hw213.1
theorem k0_off212_wordsi8 : ∀ (v1437 : BitVec 32) (k0_hw213 : k0_chk213 v1437), (Rect.unit (s := S4096x4096) (k0_off212 v1437) S32x4096.size (k0_off212_inb v1437 k0_hw213)).WholeWords (EltTy.packing .i8) := fun v1437 k0_hw213 => k0_hw213.2 (k0_off212_inb v1437 k0_hw213)

def k0_dev56 (v4 : BitVec 32) : Nat :=
  let c0_i32_1472 : BitVec 32 := 0#32
  let c1_i32_1471 : BitVec 32 := 1#32
  let v1440 : BitVec 32 := Scalar.muli v4 c1_i32_1471
  let v1441 : BitVec 32 := Scalar.addi c0_i32_1472 v1440
  v1441.toNat
def k0_off214 (v1451 : BitVec 32) : Fin 2 → Nat :=
  let c128_i32_1479 : BitVec 32 := 128#32
  let v1452 : BitVec 32 := Scalar.muli v1451 c128_i32_1479
  let c96_i32_1480 : BitVec 32 := 96#32
  let v1453 : BitVec 32 := Scalar.addi v1452 c96_i32_1480
  let c0_i32_1487 : BitVec 32 := 0#32
  ![v1453.toNat, 0]

def k0_off215 (v1448 : BitVec 32) : Fin 2 → Nat :=
  let c128_i32_1476 : BitVec 32 := 128#32
  let v1449 : BitVec 32 := Scalar.muli v1448 c128_i32_1476
  let c96_i32_1477 : BitVec 32 := 96#32
  let v1450 : BitVec 32 := Scalar.addi v1449 c96_i32_1477
  let c0_i32_1488 : BitVec 32 := 0#32
  ![v1450.toNat, 0]

def k0_chk216 (v1448 : BitVec 32) : Prop :=
  (∀ a, (k0_off215 v1448) a + S32x4096.size a ≤ S4096x4096.size a) ∧
  (∀ (hinb : ∀ a, (k0_off215 v1448) a + S32x4096.size a ≤ S4096x4096.size a), (Rect.unit (s := S4096x4096) (k0_off215 v1448) S32x4096.size hinb).WholeWords (EltTy.packing .i8))
theorem k0_off215_inb : ∀ (v1448 : BitVec 32) (k0_hw216 : k0_chk216 v1448), ∀ a, (k0_off215 v1448) a + S32x4096.size a ≤ S4096x4096.size a := fun v1448 k0_hw216 => k0_hw216.1
theorem k0_off215_wordsi8 : ∀ (v1448 : BitVec 32) (k0_hw216 : k0_chk216 v1448), (Rect.unit (s := S4096x4096) (k0_off215 v1448) S32x4096.size (k0_off215_inb v1448 k0_hw216)).WholeWords (EltTy.packing .i8) := fun v1448 k0_hw216 => k0_hw216.2 (k0_off215_inb v1448 k0_hw216)

def k0_chk215 (v1451 : BitVec 32) : Prop :=
  (∀ a, (k0_off214 v1451) a + S32x4096.size a ≤ S4096x4096.size a) ∧
  (∀ (hinb : ∀ a, (k0_off214 v1451) a + S32x4096.size a ≤ S4096x4096.size a), (Rect.unit (s := S4096x4096) (k0_off214 v1451) S32x4096.size hinb).WholeWords (EltTy.packing .i8))
theorem k0_off214_inb : ∀ (v1451 : BitVec 32) (k0_hw215 : k0_chk215 v1451), ∀ a, (k0_off214 v1451) a + S32x4096.size a ≤ S4096x4096.size a := fun v1451 k0_hw215 => k0_hw215.1
theorem k0_off214_wordsi8 : ∀ (v1451 : BitVec 32) (k0_hw215 : k0_chk215 v1451), (Rect.unit (s := S4096x4096) (k0_off214 v1451) S32x4096.size (k0_off214_inb v1451 k0_hw215)).WholeWords (EltTy.packing .i8) := fun v1451 k0_hw215 => k0_hw215.2 (k0_off214_inb v1451 k0_hw215)

def k0_off216 (v1463 : BitVec 32) : Fin 2 → Nat :=
  let c128_i32_1493 : BitVec 32 := 128#32
  let v1464 : BitVec 32 := Scalar.muli v1463 c128_i32_1493
  let c96_i32_1494 : BitVec 32 := 96#32
  let v1465 : BitVec 32 := Scalar.addi v1464 c96_i32_1494
  let c0_i32_1501 : BitVec 32 := 0#32
  ![v1465.toNat, 0]

def k0_off217 (v1460 : BitVec 32) : Fin 2 → Nat :=
  let c128_i32_1490 : BitVec 32 := 128#32
  let v1461 : BitVec 32 := Scalar.muli v1460 c128_i32_1490
  let c96_i32_1491 : BitVec 32 := 96#32
  let v1462 : BitVec 32 := Scalar.addi v1461 c96_i32_1491
  let c0_i32_1502 : BitVec 32 := 0#32
  ![v1462.toNat, 0]

def k0_chk218 (v1460 : BitVec 32) : Prop :=
  (∀ a, (k0_off217 v1460) a + S32x4096.size a ≤ S4096x4096.size a) ∧
  (∀ (hinb : ∀ a, (k0_off217 v1460) a + S32x4096.size a ≤ S4096x4096.size a), (Rect.unit (s := S4096x4096) (k0_off217 v1460) S32x4096.size hinb).WholeWords (EltTy.packing .i8))
theorem k0_off217_inb : ∀ (v1460 : BitVec 32) (k0_hw218 : k0_chk218 v1460), ∀ a, (k0_off217 v1460) a + S32x4096.size a ≤ S4096x4096.size a := fun v1460 k0_hw218 => k0_hw218.1
theorem k0_off217_wordsi8 : ∀ (v1460 : BitVec 32) (k0_hw218 : k0_chk218 v1460), (Rect.unit (s := S4096x4096) (k0_off217 v1460) S32x4096.size (k0_off217_inb v1460 k0_hw218)).WholeWords (EltTy.packing .i8) := fun v1460 k0_hw218 => k0_hw218.2 (k0_off217_inb v1460 k0_hw218)

def k0_chk217 (v1463 : BitVec 32) : Prop :=
  (∀ a, (k0_off216 v1463) a + S32x4096.size a ≤ S4096x4096.size a) ∧
  (∀ (hinb : ∀ a, (k0_off216 v1463) a + S32x4096.size a ≤ S4096x4096.size a), (Rect.unit (s := S4096x4096) (k0_off216 v1463) S32x4096.size hinb).WholeWords (EltTy.packing .i8))
theorem k0_off216_inb : ∀ (v1463 : BitVec 32) (k0_hw217 : k0_chk217 v1463), ∀ a, (k0_off216 v1463) a + S32x4096.size a ≤ S4096x4096.size a := fun v1463 k0_hw217 => k0_hw217.1
theorem k0_off216_wordsi8 : ∀ (v1463 : BitVec 32) (k0_hw217 : k0_chk217 v1463), (Rect.unit (s := S4096x4096) (k0_off216 v1463) S32x4096.size (k0_off216_inb v1463 k0_hw217)).WholeWords (EltTy.packing .i8) := fun v1463 k0_hw217 => k0_hw217.2 (k0_off216_inb v1463 k0_hw217)

def k0_dev57 (v3 : BitVec 32) : Nat :=
  let c0_i32_1500 : BitVec 32 := 0#32
  let c1_i32_1499 : BitVec 32 := 1#32
  let v1466 : BitVec 32 := Scalar.muli v3 c1_i32_1499
  let v1467 : BitVec 32 := Scalar.addi c0_i32_1500 v1466
  v1467.toNat
def k0_off218 (v1477 : BitVec 32) : Fin 2 → Nat :=
  let c128_i32_1507 : BitVec 32 := 128#32
  let v1478 : BitVec 32 := Scalar.muli v1477 c128_i32_1507
  let c96_i32_1508 : BitVec 32 := 96#32
  let v1479 : BitVec 32 := Scalar.addi v1478 c96_i32_1508
  let c0_i32_1515 : BitVec 32 := 0#32
  ![v1479.toNat, 0]

def k0_off219 (v1474 : BitVec 32) : Fin 2 → Nat :=
  let c128_i32_1504 : BitVec 32 := 128#32
  let v1475 : BitVec 32 := Scalar.muli v1474 c128_i32_1504
  let c96_i32_1505 : BitVec 32 := 96#32
  let v1476 : BitVec 32 := Scalar.addi v1475 c96_i32_1505
  let c0_i32_1516 : BitVec 32 := 0#32
  ![v1476.toNat, 0]

def k0_chk220 (v1474 : BitVec 32) : Prop :=
  (∀ a, (k0_off219 v1474) a + S32x4096.size a ≤ S4096x4096.size a) ∧
  (∀ (hinb : ∀ a, (k0_off219 v1474) a + S32x4096.size a ≤ S4096x4096.size a), (Rect.unit (s := S4096x4096) (k0_off219 v1474) S32x4096.size hinb).WholeWords (EltTy.packing .i8))
theorem k0_off219_inb : ∀ (v1474 : BitVec 32) (k0_hw220 : k0_chk220 v1474), ∀ a, (k0_off219 v1474) a + S32x4096.size a ≤ S4096x4096.size a := fun v1474 k0_hw220 => k0_hw220.1
theorem k0_off219_wordsi8 : ∀ (v1474 : BitVec 32) (k0_hw220 : k0_chk220 v1474), (Rect.unit (s := S4096x4096) (k0_off219 v1474) S32x4096.size (k0_off219_inb v1474 k0_hw220)).WholeWords (EltTy.packing .i8) := fun v1474 k0_hw220 => k0_hw220.2 (k0_off219_inb v1474 k0_hw220)

def k0_chk219 (v1477 : BitVec 32) : Prop :=
  (∀ a, (k0_off218 v1477) a + S32x4096.size a ≤ S4096x4096.size a) ∧
  (∀ (hinb : ∀ a, (k0_off218 v1477) a + S32x4096.size a ≤ S4096x4096.size a), (Rect.unit (s := S4096x4096) (k0_off218 v1477) S32x4096.size hinb).WholeWords (EltTy.packing .i8))
theorem k0_off218_inb : ∀ (v1477 : BitVec 32) (k0_hw219 : k0_chk219 v1477), ∀ a, (k0_off218 v1477) a + S32x4096.size a ≤ S4096x4096.size a := fun v1477 k0_hw219 => k0_hw219.1
theorem k0_off218_wordsi8 : ∀ (v1477 : BitVec 32) (k0_hw219 : k0_chk219 v1477), (Rect.unit (s := S4096x4096) (k0_off218 v1477) S32x4096.size (k0_off218_inb v1477 k0_hw219)).WholeWords (EltTy.packing .i8) := fun v1477 k0_hw219 => k0_hw219.2 (k0_off218_inb v1477 k0_hw219)

def k0_off220 (v1489 : BitVec 32) : Fin 2 → Nat :=
  let c128_i32_1521 : BitVec 32 := 128#32
  let v1490 : BitVec 32 := Scalar.muli v1489 c128_i32_1521
  let c96_i32_1522 : BitVec 32 := 96#32
  let v1491 : BitVec 32 := Scalar.addi v1490 c96_i32_1522
  let c0_i32_1529 : BitVec 32 := 0#32
  ![v1491.toNat, 0]

def k0_off221 (v1486 : BitVec 32) : Fin 2 → Nat :=
  let c128_i32_1518 : BitVec 32 := 128#32
  let v1487 : BitVec 32 := Scalar.muli v1486 c128_i32_1518
  let c96_i32_1519 : BitVec 32 := 96#32
  let v1488 : BitVec 32 := Scalar.addi v1487 c96_i32_1519
  let c0_i32_1530 : BitVec 32 := 0#32
  ![v1488.toNat, 0]

def k0_chk222 (v1486 : BitVec 32) : Prop :=
  (∀ a, (k0_off221 v1486) a + S32x4096.size a ≤ S4096x4096.size a) ∧
  (∀ (hinb : ∀ a, (k0_off221 v1486) a + S32x4096.size a ≤ S4096x4096.size a), (Rect.unit (s := S4096x4096) (k0_off221 v1486) S32x4096.size hinb).WholeWords (EltTy.packing .i8))
theorem k0_off221_inb : ∀ (v1486 : BitVec 32) (k0_hw222 : k0_chk222 v1486), ∀ a, (k0_off221 v1486) a + S32x4096.size a ≤ S4096x4096.size a := fun v1486 k0_hw222 => k0_hw222.1
theorem k0_off221_wordsi8 : ∀ (v1486 : BitVec 32) (k0_hw222 : k0_chk222 v1486), (Rect.unit (s := S4096x4096) (k0_off221 v1486) S32x4096.size (k0_off221_inb v1486 k0_hw222)).WholeWords (EltTy.packing .i8) := fun v1486 k0_hw222 => k0_hw222.2 (k0_off221_inb v1486 k0_hw222)

def k0_chk221 (v1489 : BitVec 32) : Prop :=
  (∀ a, (k0_off220 v1489) a + S32x4096.size a ≤ S4096x4096.size a) ∧
  (∀ (hinb : ∀ a, (k0_off220 v1489) a + S32x4096.size a ≤ S4096x4096.size a), (Rect.unit (s := S4096x4096) (k0_off220 v1489) S32x4096.size hinb).WholeWords (EltTy.packing .i8))
theorem k0_off220_inb : ∀ (v1489 : BitVec 32) (k0_hw221 : k0_chk221 v1489), ∀ a, (k0_off220 v1489) a + S32x4096.size a ≤ S4096x4096.size a := fun v1489 k0_hw221 => k0_hw221.1
theorem k0_off220_wordsi8 : ∀ (v1489 : BitVec 32) (k0_hw221 : k0_chk221 v1489), (Rect.unit (s := S4096x4096) (k0_off220 v1489) S32x4096.size (k0_off220_inb v1489 k0_hw221)).WholeWords (EltTy.packing .i8) := fun v1489 k0_hw221 => k0_hw221.2 (k0_off220_inb v1489 k0_hw221)

def k0_dev58 (v4 : BitVec 32) : Nat :=
  let c0_i32_1528 : BitVec 32 := 0#32
  let c1_i32_1527 : BitVec 32 := 1#32
  let v1492 : BitVec 32 := Scalar.muli v4 c1_i32_1527
  let v1493 : BitVec 32 := Scalar.addi c0_i32_1528 v1492
  v1493.toNat
def k0_off222 (v1501 : BitVec 32) : Fin 2 → Nat :=
  let c128_i32_1533 : BitVec 32 := 128#32
  let v1502 : BitVec 32 := Scalar.muli v1501 c128_i32_1533
  let v1503 : Index := Scalar.indexCast v1502
  let c0_1534 : Index := 0#32
  ![v1503.toNat, 0]

def k0_chk223 (v1501 : BitVec 32) : Prop :=
  (∀ a, (k0_off222 v1501) a + S128x4096.size a ≤ S4096x4096.size a)
theorem k0_off222_inb : ∀ (v1501 : BitVec 32) (k0_hw223 : k0_chk223 v1501), ∀ a, (k0_off222 v1501) a + S128x4096.size a ≤ S4096x4096.size a := fun v1501 k0_hw223 => k0_hw223

def k0_off223 (v1500 : BitVec 32) : Fin 2 → Nat :=
  let c128_i32_1538 : BitVec 32 := 128#32
  let v1511 : BitVec 32 := Scalar.muli v1500 c128_i32_1538
  let v1512 : Index := Scalar.indexCast v1511
  let c0_1539 : Index := 0#32
  ![v1512.toNat, 0]

def k0_chk224 (v1500 : BitVec 32) : Prop :=
  (∀ a, (k0_off223 v1500) a + S128x64.size a ≤ S4096x64.size a)
theorem k0_off223_inb : ∀ (v1500 : BitVec 32) (k0_hw224 : k0_chk224 v1500), ∀ a, (k0_off223 v1500) a + S128x64.size a ≤ S4096x64.size a := fun v1500 k0_hw224 => k0_hw224

def k0_off224 (v1515 : BitVec 32) : Fin 2 → Nat :=
  let c128_i32_1542 : BitVec 32 := 128#32
  let v1516 : BitVec 32 := Scalar.muli v1515 c128_i32_1542
  let v1517 : Index := Scalar.indexCast v1516
  let c0_1543 : Index := 0#32
  ![v1517.toNat, 0]

def k0_chk225 (v1515 : BitVec 32) : Prop :=
  (∀ a, (k0_off224 v1515) a + S128x4096.size a ≤ S4096x4096.size a)
theorem k0_off224_inb : ∀ (v1515 : BitVec 32) (k0_hw225 : k0_chk225 v1515), ∀ a, (k0_off224 v1515) a + S128x4096.size a ≤ S4096x4096.size a := fun v1515 k0_hw225 => k0_hw225

def k0_off225 (v1514 : BitVec 32) : Fin 2 → Nat :=
  let c128_i32_1547 : BitVec 32 := 128#32
  let v1525 : BitVec 32 := Scalar.muli v1514 c128_i32_1547
  let v1526 : Index := Scalar.indexCast v1525
  let c0_1548 : Index := 0#32
  ![v1526.toNat, 0]

def k0_chk226 (v1514 : BitVec 32) : Prop :=
  (∀ a, (k0_off225 v1514) a + S128x64.size a ≤ S4096x64.size a)
theorem k0_off225_inb : ∀ (v1514 : BitVec 32) (k0_hw226 : k0_chk226 v1514), ∀ a, (k0_off225 v1514) a + S128x64.size a ≤ S4096x64.size a := fun v1514 k0_hw226 => k0_hw226

def k0_off226 (v1531 : BitVec 32) : Fin 2 → Nat :=
  let c128_i32_1553 : BitVec 32 := 128#32
  let v1532 : BitVec 32 := Scalar.muli v1531 c128_i32_1553
  let c0_i32_1554 : BitVec 32 := 0#32
  let v1533 : BitVec 32 := Scalar.addi v1532 c0_i32_1554
  let c0_i32_1561 : BitVec 32 := 0#32
  ![v1533.toNat, 0]

def k0_off227 (v1528 : BitVec 32) : Fin 2 → Nat :=
  let c128_i32_1550 : BitVec 32 := 128#32
  let v1529 : BitVec 32 := Scalar.muli v1528 c128_i32_1550
  let c0_i32_1551 : BitVec 32 := 0#32
  let v1530 : BitVec 32 := Scalar.addi v1529 c0_i32_1551
  let c0_i32_1562 : BitVec 32 := 0#32
  ![v1530.toNat, 0]

def k0_chk228 (v1528 : BitVec 32) : Prop :=
  (∀ a, (k0_off227 v1528) a + S32x4096.size a ≤ S4096x4096.size a) ∧
  (∀ (hinb : ∀ a, (k0_off227 v1528) a + S32x4096.size a ≤ S4096x4096.size a), (Rect.unit (s := S4096x4096) (k0_off227 v1528) S32x4096.size hinb).WholeWords (EltTy.packing .i8))
theorem k0_off227_inb : ∀ (v1528 : BitVec 32) (k0_hw228 : k0_chk228 v1528), ∀ a, (k0_off227 v1528) a + S32x4096.size a ≤ S4096x4096.size a := fun v1528 k0_hw228 => k0_hw228.1
theorem k0_off227_wordsi8 : ∀ (v1528 : BitVec 32) (k0_hw228 : k0_chk228 v1528), (Rect.unit (s := S4096x4096) (k0_off227 v1528) S32x4096.size (k0_off227_inb v1528 k0_hw228)).WholeWords (EltTy.packing .i8) := fun v1528 k0_hw228 => k0_hw228.2 (k0_off227_inb v1528 k0_hw228)

def k0_chk227 (v1531 : BitVec 32) : Prop :=
  (∀ a, (k0_off226 v1531) a + S32x4096.size a ≤ S4096x4096.size a) ∧
  (∀ (hinb : ∀ a, (k0_off226 v1531) a + S32x4096.size a ≤ S4096x4096.size a), (Rect.unit (s := S4096x4096) (k0_off226 v1531) S32x4096.size hinb).WholeWords (EltTy.packing .i8))
theorem k0_off226_inb : ∀ (v1531 : BitVec 32) (k0_hw227 : k0_chk227 v1531), ∀ a, (k0_off226 v1531) a + S32x4096.size a ≤ S4096x4096.size a := fun v1531 k0_hw227 => k0_hw227.1
theorem k0_off226_wordsi8 : ∀ (v1531 : BitVec 32) (k0_hw227 : k0_chk227 v1531), (Rect.unit (s := S4096x4096) (k0_off226 v1531) S32x4096.size (k0_off226_inb v1531 k0_hw227)).WholeWords (EltTy.packing .i8) := fun v1531 k0_hw227 => k0_hw227.2 (k0_off226_inb v1531 k0_hw227)

def k0_off228 (v1543 : BitVec 32) : Fin 2 → Nat :=
  let c128_i32_1566 : BitVec 32 := 128#32
  let v1544 : BitVec 32 := Scalar.muli v1543 c128_i32_1566
  let c0_i32_1567 : BitVec 32 := 0#32
  let v1545 : BitVec 32 := Scalar.addi v1544 c0_i32_1567
  let c0_i32_1573 : BitVec 32 := 0#32
  ![v1545.toNat, 0]

def k0_off229 (v1540 : BitVec 32) : Fin 2 → Nat :=
  let c128_i32_1563 : BitVec 32 := 128#32
  let v1541 : BitVec 32 := Scalar.muli v1540 c128_i32_1563
  let c0_i32_1564 : BitVec 32 := 0#32
  let v1542 : BitVec 32 := Scalar.addi v1541 c0_i32_1564
  let c0_i32_1574 : BitVec 32 := 0#32
  ![v1542.toNat, 0]

def k0_chk230 (v1540 : BitVec 32) : Prop :=
  (∀ a, (k0_off229 v1540) a + S32x4096.size a ≤ S4096x4096.size a) ∧
  (∀ (hinb : ∀ a, (k0_off229 v1540) a + S32x4096.size a ≤ S4096x4096.size a), (Rect.unit (s := S4096x4096) (k0_off229 v1540) S32x4096.size hinb).WholeWords (EltTy.packing .i8))
theorem k0_off229_inb : ∀ (v1540 : BitVec 32) (k0_hw230 : k0_chk230 v1540), ∀ a, (k0_off229 v1540) a + S32x4096.size a ≤ S4096x4096.size a := fun v1540 k0_hw230 => k0_hw230.1
theorem k0_off229_wordsi8 : ∀ (v1540 : BitVec 32) (k0_hw230 : k0_chk230 v1540), (Rect.unit (s := S4096x4096) (k0_off229 v1540) S32x4096.size (k0_off229_inb v1540 k0_hw230)).WholeWords (EltTy.packing .i8) := fun v1540 k0_hw230 => k0_hw230.2 (k0_off229_inb v1540 k0_hw230)

def k0_chk229 (v1543 : BitVec 32) : Prop :=
  (∀ a, (k0_off228 v1543) a + S32x4096.size a ≤ S4096x4096.size a) ∧
  (∀ (hinb : ∀ a, (k0_off228 v1543) a + S32x4096.size a ≤ S4096x4096.size a), (Rect.unit (s := S4096x4096) (k0_off228 v1543) S32x4096.size hinb).WholeWords (EltTy.packing .i8))
theorem k0_off228_inb : ∀ (v1543 : BitVec 32) (k0_hw229 : k0_chk229 v1543), ∀ a, (k0_off228 v1543) a + S32x4096.size a ≤ S4096x4096.size a := fun v1543 k0_hw229 => k0_hw229.1
theorem k0_off228_wordsi8 : ∀ (v1543 : BitVec 32) (k0_hw229 : k0_chk229 v1543), (Rect.unit (s := S4096x4096) (k0_off228 v1543) S32x4096.size (k0_off228_inb v1543 k0_hw229)).WholeWords (EltTy.packing .i8) := fun v1543 k0_hw229 => k0_hw229.2 (k0_off228_inb v1543 k0_hw229)

def k0_dev59 (v3 : BitVec 32) : Nat :=
  let c0_i32_1572 : BitVec 32 := 0#32
  let c1_i32_1571 : BitVec 32 := 1#32
  let v1546 : BitVec 32 := Scalar.muli v3 c1_i32_1571
  let v1547 : BitVec 32 := Scalar.addi c0_i32_1572 v1546
  v1547.toNat
def k0_off230 (v1557 : BitVec 32) : Fin 2 → Nat :=
  let c128_i32_1579 : BitVec 32 := 128#32
  let v1558 : BitVec 32 := Scalar.muli v1557 c128_i32_1579
  let c0_i32_1580 : BitVec 32 := 0#32
  let v1559 : BitVec 32 := Scalar.addi v1558 c0_i32_1580
  let c0_i32_1587 : BitVec 32 := 0#32
  ![v1559.toNat, 0]

def k0_off231 (v1554 : BitVec 32) : Fin 2 → Nat :=
  let c128_i32_1576 : BitVec 32 := 128#32
  let v1555 : BitVec 32 := Scalar.muli v1554 c128_i32_1576
  let c0_i32_1577 : BitVec 32 := 0#32
  let v1556 : BitVec 32 := Scalar.addi v1555 c0_i32_1577
  let c0_i32_1588 : BitVec 32 := 0#32
  ![v1556.toNat, 0]

def k0_chk232 (v1554 : BitVec 32) : Prop :=
  (∀ a, (k0_off231 v1554) a + S32x4096.size a ≤ S4096x4096.size a) ∧
  (∀ (hinb : ∀ a, (k0_off231 v1554) a + S32x4096.size a ≤ S4096x4096.size a), (Rect.unit (s := S4096x4096) (k0_off231 v1554) S32x4096.size hinb).WholeWords (EltTy.packing .i8))
theorem k0_off231_inb : ∀ (v1554 : BitVec 32) (k0_hw232 : k0_chk232 v1554), ∀ a, (k0_off231 v1554) a + S32x4096.size a ≤ S4096x4096.size a := fun v1554 k0_hw232 => k0_hw232.1
theorem k0_off231_wordsi8 : ∀ (v1554 : BitVec 32) (k0_hw232 : k0_chk232 v1554), (Rect.unit (s := S4096x4096) (k0_off231 v1554) S32x4096.size (k0_off231_inb v1554 k0_hw232)).WholeWords (EltTy.packing .i8) := fun v1554 k0_hw232 => k0_hw232.2 (k0_off231_inb v1554 k0_hw232)

def k0_chk231 (v1557 : BitVec 32) : Prop :=
  (∀ a, (k0_off230 v1557) a + S32x4096.size a ≤ S4096x4096.size a) ∧
  (∀ (hinb : ∀ a, (k0_off230 v1557) a + S32x4096.size a ≤ S4096x4096.size a), (Rect.unit (s := S4096x4096) (k0_off230 v1557) S32x4096.size hinb).WholeWords (EltTy.packing .i8))
theorem k0_off230_inb : ∀ (v1557 : BitVec 32) (k0_hw231 : k0_chk231 v1557), ∀ a, (k0_off230 v1557) a + S32x4096.size a ≤ S4096x4096.size a := fun v1557 k0_hw231 => k0_hw231.1
theorem k0_off230_wordsi8 : ∀ (v1557 : BitVec 32) (k0_hw231 : k0_chk231 v1557), (Rect.unit (s := S4096x4096) (k0_off230 v1557) S32x4096.size (k0_off230_inb v1557 k0_hw231)).WholeWords (EltTy.packing .i8) := fun v1557 k0_hw231 => k0_hw231.2 (k0_off230_inb v1557 k0_hw231)

def k0_off232 (v1569 : BitVec 32) : Fin 2 → Nat :=
  let c128_i32_1593 : BitVec 32 := 128#32
  let v1570 : BitVec 32 := Scalar.muli v1569 c128_i32_1593
  let c0_i32_1594 : BitVec 32 := 0#32
  let v1571 : BitVec 32 := Scalar.addi v1570 c0_i32_1594
  let c0_i32_1601 : BitVec 32 := 0#32
  ![v1571.toNat, 0]

def k0_off233 (v1566 : BitVec 32) : Fin 2 → Nat :=
  let c128_i32_1590 : BitVec 32 := 128#32
  let v1567 : BitVec 32 := Scalar.muli v1566 c128_i32_1590
  let c0_i32_1591 : BitVec 32 := 0#32
  let v1568 : BitVec 32 := Scalar.addi v1567 c0_i32_1591
  let c0_i32_1602 : BitVec 32 := 0#32
  ![v1568.toNat, 0]

def k0_chk234 (v1566 : BitVec 32) : Prop :=
  (∀ a, (k0_off233 v1566) a + S32x4096.size a ≤ S4096x4096.size a) ∧
  (∀ (hinb : ∀ a, (k0_off233 v1566) a + S32x4096.size a ≤ S4096x4096.size a), (Rect.unit (s := S4096x4096) (k0_off233 v1566) S32x4096.size hinb).WholeWords (EltTy.packing .i8))
theorem k0_off233_inb : ∀ (v1566 : BitVec 32) (k0_hw234 : k0_chk234 v1566), ∀ a, (k0_off233 v1566) a + S32x4096.size a ≤ S4096x4096.size a := fun v1566 k0_hw234 => k0_hw234.1
theorem k0_off233_wordsi8 : ∀ (v1566 : BitVec 32) (k0_hw234 : k0_chk234 v1566), (Rect.unit (s := S4096x4096) (k0_off233 v1566) S32x4096.size (k0_off233_inb v1566 k0_hw234)).WholeWords (EltTy.packing .i8) := fun v1566 k0_hw234 => k0_hw234.2 (k0_off233_inb v1566 k0_hw234)

def k0_chk233 (v1569 : BitVec 32) : Prop :=
  (∀ a, (k0_off232 v1569) a + S32x4096.size a ≤ S4096x4096.size a) ∧
  (∀ (hinb : ∀ a, (k0_off232 v1569) a + S32x4096.size a ≤ S4096x4096.size a), (Rect.unit (s := S4096x4096) (k0_off232 v1569) S32x4096.size hinb).WholeWords (EltTy.packing .i8))
theorem k0_off232_inb : ∀ (v1569 : BitVec 32) (k0_hw233 : k0_chk233 v1569), ∀ a, (k0_off232 v1569) a + S32x4096.size a ≤ S4096x4096.size a := fun v1569 k0_hw233 => k0_hw233.1
theorem k0_off232_wordsi8 : ∀ (v1569 : BitVec 32) (k0_hw233 : k0_chk233 v1569), (Rect.unit (s := S4096x4096) (k0_off232 v1569) S32x4096.size (k0_off232_inb v1569 k0_hw233)).WholeWords (EltTy.packing .i8) := fun v1569 k0_hw233 => k0_hw233.2 (k0_off232_inb v1569 k0_hw233)

def k0_dev60 (v4 : BitVec 32) : Nat :=
  let c0_i32_1600 : BitVec 32 := 0#32
  let c1_i32_1599 : BitVec 32 := 1#32
  let v1572 : BitVec 32 := Scalar.muli v4 c1_i32_1599
  let v1573 : BitVec 32 := Scalar.addi c0_i32_1600 v1572
  v1573.toNat
def k0_off234 (v1583 : BitVec 32) : Fin 2 → Nat :=
  let c128_i32_1607 : BitVec 32 := 128#32
  let v1584 : BitVec 32 := Scalar.muli v1583 c128_i32_1607
  let c32_i32_1608 : BitVec 32 := 32#32
  let v1585 : BitVec 32 := Scalar.addi v1584 c32_i32_1608
  let c0_i32_1615 : BitVec 32 := 0#32
  ![v1585.toNat, 0]

def k0_off235 (v1580 : BitVec 32) : Fin 2 → Nat :=
  let c128_i32_1604 : BitVec 32 := 128#32
  let v1581 : BitVec 32 := Scalar.muli v1580 c128_i32_1604
  let c32_i32_1605 : BitVec 32 := 32#32
  let v1582 : BitVec 32 := Scalar.addi v1581 c32_i32_1605
  let c0_i32_1616 : BitVec 32 := 0#32
  ![v1582.toNat, 0]

def k0_chk236 (v1580 : BitVec 32) : Prop :=
  (∀ a, (k0_off235 v1580) a + S32x4096.size a ≤ S4096x4096.size a) ∧
  (∀ (hinb : ∀ a, (k0_off235 v1580) a + S32x4096.size a ≤ S4096x4096.size a), (Rect.unit (s := S4096x4096) (k0_off235 v1580) S32x4096.size hinb).WholeWords (EltTy.packing .i8))
theorem k0_off235_inb : ∀ (v1580 : BitVec 32) (k0_hw236 : k0_chk236 v1580), ∀ a, (k0_off235 v1580) a + S32x4096.size a ≤ S4096x4096.size a := fun v1580 k0_hw236 => k0_hw236.1
theorem k0_off235_wordsi8 : ∀ (v1580 : BitVec 32) (k0_hw236 : k0_chk236 v1580), (Rect.unit (s := S4096x4096) (k0_off235 v1580) S32x4096.size (k0_off235_inb v1580 k0_hw236)).WholeWords (EltTy.packing .i8) := fun v1580 k0_hw236 => k0_hw236.2 (k0_off235_inb v1580 k0_hw236)

def k0_chk235 (v1583 : BitVec 32) : Prop :=
  (∀ a, (k0_off234 v1583) a + S32x4096.size a ≤ S4096x4096.size a) ∧
  (∀ (hinb : ∀ a, (k0_off234 v1583) a + S32x4096.size a ≤ S4096x4096.size a), (Rect.unit (s := S4096x4096) (k0_off234 v1583) S32x4096.size hinb).WholeWords (EltTy.packing .i8))
theorem k0_off234_inb : ∀ (v1583 : BitVec 32) (k0_hw235 : k0_chk235 v1583), ∀ a, (k0_off234 v1583) a + S32x4096.size a ≤ S4096x4096.size a := fun v1583 k0_hw235 => k0_hw235.1
theorem k0_off234_wordsi8 : ∀ (v1583 : BitVec 32) (k0_hw235 : k0_chk235 v1583), (Rect.unit (s := S4096x4096) (k0_off234 v1583) S32x4096.size (k0_off234_inb v1583 k0_hw235)).WholeWords (EltTy.packing .i8) := fun v1583 k0_hw235 => k0_hw235.2 (k0_off234_inb v1583 k0_hw235)

def k0_off236 (v1595 : BitVec 32) : Fin 2 → Nat :=
  let c128_i32_1621 : BitVec 32 := 128#32
  let v1596 : BitVec 32 := Scalar.muli v1595 c128_i32_1621
  let c32_i32_1622 : BitVec 32 := 32#32
  let v1597 : BitVec 32 := Scalar.addi v1596 c32_i32_1622
  let c0_i32_1629 : BitVec 32 := 0#32
  ![v1597.toNat, 0]

def k0_off237 (v1592 : BitVec 32) : Fin 2 → Nat :=
  let c128_i32_1618 : BitVec 32 := 128#32
  let v1593 : BitVec 32 := Scalar.muli v1592 c128_i32_1618
  let c32_i32_1619 : BitVec 32 := 32#32
  let v1594 : BitVec 32 := Scalar.addi v1593 c32_i32_1619
  let c0_i32_1630 : BitVec 32 := 0#32
  ![v1594.toNat, 0]

def k0_chk238 (v1592 : BitVec 32) : Prop :=
  (∀ a, (k0_off237 v1592) a + S32x4096.size a ≤ S4096x4096.size a) ∧
  (∀ (hinb : ∀ a, (k0_off237 v1592) a + S32x4096.size a ≤ S4096x4096.size a), (Rect.unit (s := S4096x4096) (k0_off237 v1592) S32x4096.size hinb).WholeWords (EltTy.packing .i8))
theorem k0_off237_inb : ∀ (v1592 : BitVec 32) (k0_hw238 : k0_chk238 v1592), ∀ a, (k0_off237 v1592) a + S32x4096.size a ≤ S4096x4096.size a := fun v1592 k0_hw238 => k0_hw238.1
theorem k0_off237_wordsi8 : ∀ (v1592 : BitVec 32) (k0_hw238 : k0_chk238 v1592), (Rect.unit (s := S4096x4096) (k0_off237 v1592) S32x4096.size (k0_off237_inb v1592 k0_hw238)).WholeWords (EltTy.packing .i8) := fun v1592 k0_hw238 => k0_hw238.2 (k0_off237_inb v1592 k0_hw238)

def k0_chk237 (v1595 : BitVec 32) : Prop :=
  (∀ a, (k0_off236 v1595) a + S32x4096.size a ≤ S4096x4096.size a) ∧
  (∀ (hinb : ∀ a, (k0_off236 v1595) a + S32x4096.size a ≤ S4096x4096.size a), (Rect.unit (s := S4096x4096) (k0_off236 v1595) S32x4096.size hinb).WholeWords (EltTy.packing .i8))
theorem k0_off236_inb : ∀ (v1595 : BitVec 32) (k0_hw237 : k0_chk237 v1595), ∀ a, (k0_off236 v1595) a + S32x4096.size a ≤ S4096x4096.size a := fun v1595 k0_hw237 => k0_hw237.1
theorem k0_off236_wordsi8 : ∀ (v1595 : BitVec 32) (k0_hw237 : k0_chk237 v1595), (Rect.unit (s := S4096x4096) (k0_off236 v1595) S32x4096.size (k0_off236_inb v1595 k0_hw237)).WholeWords (EltTy.packing .i8) := fun v1595 k0_hw237 => k0_hw237.2 (k0_off236_inb v1595 k0_hw237)

def k0_dev61 (v3 : BitVec 32) : Nat :=
  let c0_i32_1628 : BitVec 32 := 0#32
  let c1_i32_1627 : BitVec 32 := 1#32
  let v1598 : BitVec 32 := Scalar.muli v3 c1_i32_1627
  let v1599 : BitVec 32 := Scalar.addi c0_i32_1628 v1598
  v1599.toNat
def k0_off238 (v1609 : BitVec 32) : Fin 2 → Nat :=
  let c128_i32_1635 : BitVec 32 := 128#32
  let v1610 : BitVec 32 := Scalar.muli v1609 c128_i32_1635
  let c32_i32_1636 : BitVec 32 := 32#32
  let v1611 : BitVec 32 := Scalar.addi v1610 c32_i32_1636
  let c0_i32_1643 : BitVec 32 := 0#32
  ![v1611.toNat, 0]

def k0_off239 (v1606 : BitVec 32) : Fin 2 → Nat :=
  let c128_i32_1632 : BitVec 32 := 128#32
  let v1607 : BitVec 32 := Scalar.muli v1606 c128_i32_1632
  let c32_i32_1633 : BitVec 32 := 32#32
  let v1608 : BitVec 32 := Scalar.addi v1607 c32_i32_1633
  let c0_i32_1644 : BitVec 32 := 0#32
  ![v1608.toNat, 0]

def k0_chk240 (v1606 : BitVec 32) : Prop :=
  (∀ a, (k0_off239 v1606) a + S32x4096.size a ≤ S4096x4096.size a) ∧
  (∀ (hinb : ∀ a, (k0_off239 v1606) a + S32x4096.size a ≤ S4096x4096.size a), (Rect.unit (s := S4096x4096) (k0_off239 v1606) S32x4096.size hinb).WholeWords (EltTy.packing .i8))
theorem k0_off239_inb : ∀ (v1606 : BitVec 32) (k0_hw240 : k0_chk240 v1606), ∀ a, (k0_off239 v1606) a + S32x4096.size a ≤ S4096x4096.size a := fun v1606 k0_hw240 => k0_hw240.1
theorem k0_off239_wordsi8 : ∀ (v1606 : BitVec 32) (k0_hw240 : k0_chk240 v1606), (Rect.unit (s := S4096x4096) (k0_off239 v1606) S32x4096.size (k0_off239_inb v1606 k0_hw240)).WholeWords (EltTy.packing .i8) := fun v1606 k0_hw240 => k0_hw240.2 (k0_off239_inb v1606 k0_hw240)

def k0_chk239 (v1609 : BitVec 32) : Prop :=
  (∀ a, (k0_off238 v1609) a + S32x4096.size a ≤ S4096x4096.size a) ∧
  (∀ (hinb : ∀ a, (k0_off238 v1609) a + S32x4096.size a ≤ S4096x4096.size a), (Rect.unit (s := S4096x4096) (k0_off238 v1609) S32x4096.size hinb).WholeWords (EltTy.packing .i8))
theorem k0_off238_inb : ∀ (v1609 : BitVec 32) (k0_hw239 : k0_chk239 v1609), ∀ a, (k0_off238 v1609) a + S32x4096.size a ≤ S4096x4096.size a := fun v1609 k0_hw239 => k0_hw239.1
theorem k0_off238_wordsi8 : ∀ (v1609 : BitVec 32) (k0_hw239 : k0_chk239 v1609), (Rect.unit (s := S4096x4096) (k0_off238 v1609) S32x4096.size (k0_off238_inb v1609 k0_hw239)).WholeWords (EltTy.packing .i8) := fun v1609 k0_hw239 => k0_hw239.2 (k0_off238_inb v1609 k0_hw239)

def k0_off240 (v1621 : BitVec 32) : Fin 2 → Nat :=
  let c128_i32_1649 : BitVec 32 := 128#32
  let v1622 : BitVec 32 := Scalar.muli v1621 c128_i32_1649
  let c32_i32_1650 : BitVec 32 := 32#32
  let v1623 : BitVec 32 := Scalar.addi v1622 c32_i32_1650
  let c0_i32_1657 : BitVec 32 := 0#32
  ![v1623.toNat, 0]

def k0_off241 (v1618 : BitVec 32) : Fin 2 → Nat :=
  let c128_i32_1646 : BitVec 32 := 128#32
  let v1619 : BitVec 32 := Scalar.muli v1618 c128_i32_1646
  let c32_i32_1647 : BitVec 32 := 32#32
  let v1620 : BitVec 32 := Scalar.addi v1619 c32_i32_1647
  let c0_i32_1658 : BitVec 32 := 0#32
  ![v1620.toNat, 0]

def k0_chk242 (v1618 : BitVec 32) : Prop :=
  (∀ a, (k0_off241 v1618) a + S32x4096.size a ≤ S4096x4096.size a) ∧
  (∀ (hinb : ∀ a, (k0_off241 v1618) a + S32x4096.size a ≤ S4096x4096.size a), (Rect.unit (s := S4096x4096) (k0_off241 v1618) S32x4096.size hinb).WholeWords (EltTy.packing .i8))
theorem k0_off241_inb : ∀ (v1618 : BitVec 32) (k0_hw242 : k0_chk242 v1618), ∀ a, (k0_off241 v1618) a + S32x4096.size a ≤ S4096x4096.size a := fun v1618 k0_hw242 => k0_hw242.1
theorem k0_off241_wordsi8 : ∀ (v1618 : BitVec 32) (k0_hw242 : k0_chk242 v1618), (Rect.unit (s := S4096x4096) (k0_off241 v1618) S32x4096.size (k0_off241_inb v1618 k0_hw242)).WholeWords (EltTy.packing .i8) := fun v1618 k0_hw242 => k0_hw242.2 (k0_off241_inb v1618 k0_hw242)

def k0_chk241 (v1621 : BitVec 32) : Prop :=
  (∀ a, (k0_off240 v1621) a + S32x4096.size a ≤ S4096x4096.size a) ∧
  (∀ (hinb : ∀ a, (k0_off240 v1621) a + S32x4096.size a ≤ S4096x4096.size a), (Rect.unit (s := S4096x4096) (k0_off240 v1621) S32x4096.size hinb).WholeWords (EltTy.packing .i8))
theorem k0_off240_inb : ∀ (v1621 : BitVec 32) (k0_hw241 : k0_chk241 v1621), ∀ a, (k0_off240 v1621) a + S32x4096.size a ≤ S4096x4096.size a := fun v1621 k0_hw241 => k0_hw241.1
theorem k0_off240_wordsi8 : ∀ (v1621 : BitVec 32) (k0_hw241 : k0_chk241 v1621), (Rect.unit (s := S4096x4096) (k0_off240 v1621) S32x4096.size (k0_off240_inb v1621 k0_hw241)).WholeWords (EltTy.packing .i8) := fun v1621 k0_hw241 => k0_hw241.2 (k0_off240_inb v1621 k0_hw241)

def k0_dev62 (v4 : BitVec 32) : Nat :=
  let c0_i32_1656 : BitVec 32 := 0#32
  let c1_i32_1655 : BitVec 32 := 1#32
  let v1624 : BitVec 32 := Scalar.muli v4 c1_i32_1655
  let v1625 : BitVec 32 := Scalar.addi c0_i32_1656 v1624
  v1625.toNat
def k0_off242 (v1635 : BitVec 32) : Fin 2 → Nat :=
  let c128_i32_1663 : BitVec 32 := 128#32
  let v1636 : BitVec 32 := Scalar.muli v1635 c128_i32_1663
  let c64_i32_1664 : BitVec 32 := 64#32
  let v1637 : BitVec 32 := Scalar.addi v1636 c64_i32_1664
  let c0_i32_1671 : BitVec 32 := 0#32
  ![v1637.toNat, 0]

def k0_off243 (v1632 : BitVec 32) : Fin 2 → Nat :=
  let c128_i32_1660 : BitVec 32 := 128#32
  let v1633 : BitVec 32 := Scalar.muli v1632 c128_i32_1660
  let c64_i32_1661 : BitVec 32 := 64#32
  let v1634 : BitVec 32 := Scalar.addi v1633 c64_i32_1661
  let c0_i32_1672 : BitVec 32 := 0#32
  ![v1634.toNat, 0]

def k0_chk244 (v1632 : BitVec 32) : Prop :=
  (∀ a, (k0_off243 v1632) a + S32x4096.size a ≤ S4096x4096.size a) ∧
  (∀ (hinb : ∀ a, (k0_off243 v1632) a + S32x4096.size a ≤ S4096x4096.size a), (Rect.unit (s := S4096x4096) (k0_off243 v1632) S32x4096.size hinb).WholeWords (EltTy.packing .i8))
theorem k0_off243_inb : ∀ (v1632 : BitVec 32) (k0_hw244 : k0_chk244 v1632), ∀ a, (k0_off243 v1632) a + S32x4096.size a ≤ S4096x4096.size a := fun v1632 k0_hw244 => k0_hw244.1
theorem k0_off243_wordsi8 : ∀ (v1632 : BitVec 32) (k0_hw244 : k0_chk244 v1632), (Rect.unit (s := S4096x4096) (k0_off243 v1632) S32x4096.size (k0_off243_inb v1632 k0_hw244)).WholeWords (EltTy.packing .i8) := fun v1632 k0_hw244 => k0_hw244.2 (k0_off243_inb v1632 k0_hw244)

def k0_chk243 (v1635 : BitVec 32) : Prop :=
  (∀ a, (k0_off242 v1635) a + S32x4096.size a ≤ S4096x4096.size a) ∧
  (∀ (hinb : ∀ a, (k0_off242 v1635) a + S32x4096.size a ≤ S4096x4096.size a), (Rect.unit (s := S4096x4096) (k0_off242 v1635) S32x4096.size hinb).WholeWords (EltTy.packing .i8))
theorem k0_off242_inb : ∀ (v1635 : BitVec 32) (k0_hw243 : k0_chk243 v1635), ∀ a, (k0_off242 v1635) a + S32x4096.size a ≤ S4096x4096.size a := fun v1635 k0_hw243 => k0_hw243.1
theorem k0_off242_wordsi8 : ∀ (v1635 : BitVec 32) (k0_hw243 : k0_chk243 v1635), (Rect.unit (s := S4096x4096) (k0_off242 v1635) S32x4096.size (k0_off242_inb v1635 k0_hw243)).WholeWords (EltTy.packing .i8) := fun v1635 k0_hw243 => k0_hw243.2 (k0_off242_inb v1635 k0_hw243)

def k0_off244 (v1647 : BitVec 32) : Fin 2 → Nat :=
  let c128_i32_1677 : BitVec 32 := 128#32
  let v1648 : BitVec 32 := Scalar.muli v1647 c128_i32_1677
  let c64_i32_1678 : BitVec 32 := 64#32
  let v1649 : BitVec 32 := Scalar.addi v1648 c64_i32_1678
  let c0_i32_1685 : BitVec 32 := 0#32
  ![v1649.toNat, 0]

def k0_off245 (v1644 : BitVec 32) : Fin 2 → Nat :=
  let c128_i32_1674 : BitVec 32 := 128#32
  let v1645 : BitVec 32 := Scalar.muli v1644 c128_i32_1674
  let c64_i32_1675 : BitVec 32 := 64#32
  let v1646 : BitVec 32 := Scalar.addi v1645 c64_i32_1675
  let c0_i32_1686 : BitVec 32 := 0#32
  ![v1646.toNat, 0]

def k0_chk246 (v1644 : BitVec 32) : Prop :=
  (∀ a, (k0_off245 v1644) a + S32x4096.size a ≤ S4096x4096.size a) ∧
  (∀ (hinb : ∀ a, (k0_off245 v1644) a + S32x4096.size a ≤ S4096x4096.size a), (Rect.unit (s := S4096x4096) (k0_off245 v1644) S32x4096.size hinb).WholeWords (EltTy.packing .i8))
theorem k0_off245_inb : ∀ (v1644 : BitVec 32) (k0_hw246 : k0_chk246 v1644), ∀ a, (k0_off245 v1644) a + S32x4096.size a ≤ S4096x4096.size a := fun v1644 k0_hw246 => k0_hw246.1
theorem k0_off245_wordsi8 : ∀ (v1644 : BitVec 32) (k0_hw246 : k0_chk246 v1644), (Rect.unit (s := S4096x4096) (k0_off245 v1644) S32x4096.size (k0_off245_inb v1644 k0_hw246)).WholeWords (EltTy.packing .i8) := fun v1644 k0_hw246 => k0_hw246.2 (k0_off245_inb v1644 k0_hw246)

def k0_chk245 (v1647 : BitVec 32) : Prop :=
  (∀ a, (k0_off244 v1647) a + S32x4096.size a ≤ S4096x4096.size a) ∧
  (∀ (hinb : ∀ a, (k0_off244 v1647) a + S32x4096.size a ≤ S4096x4096.size a), (Rect.unit (s := S4096x4096) (k0_off244 v1647) S32x4096.size hinb).WholeWords (EltTy.packing .i8))
theorem k0_off244_inb : ∀ (v1647 : BitVec 32) (k0_hw245 : k0_chk245 v1647), ∀ a, (k0_off244 v1647) a + S32x4096.size a ≤ S4096x4096.size a := fun v1647 k0_hw245 => k0_hw245.1
theorem k0_off244_wordsi8 : ∀ (v1647 : BitVec 32) (k0_hw245 : k0_chk245 v1647), (Rect.unit (s := S4096x4096) (k0_off244 v1647) S32x4096.size (k0_off244_inb v1647 k0_hw245)).WholeWords (EltTy.packing .i8) := fun v1647 k0_hw245 => k0_hw245.2 (k0_off244_inb v1647 k0_hw245)

def k0_dev63 (v3 : BitVec 32) : Nat :=
  let c0_i32_1684 : BitVec 32 := 0#32
  let c1_i32_1683 : BitVec 32 := 1#32
  let v1650 : BitVec 32 := Scalar.muli v3 c1_i32_1683
  let v1651 : BitVec 32 := Scalar.addi c0_i32_1684 v1650
  v1651.toNat
def k0_off246 (v1661 : BitVec 32) : Fin 2 → Nat :=
  let c128_i32_1691 : BitVec 32 := 128#32
  let v1662 : BitVec 32 := Scalar.muli v1661 c128_i32_1691
  let c64_i32_1692 : BitVec 32 := 64#32
  let v1663 : BitVec 32 := Scalar.addi v1662 c64_i32_1692
  let c0_i32_1699 : BitVec 32 := 0#32
  ![v1663.toNat, 0]

def k0_off247 (v1658 : BitVec 32) : Fin 2 → Nat :=
  let c128_i32_1688 : BitVec 32 := 128#32
  let v1659 : BitVec 32 := Scalar.muli v1658 c128_i32_1688
  let c64_i32_1689 : BitVec 32 := 64#32
  let v1660 : BitVec 32 := Scalar.addi v1659 c64_i32_1689
  let c0_i32_1700 : BitVec 32 := 0#32
  ![v1660.toNat, 0]

def k0_chk248 (v1658 : BitVec 32) : Prop :=
  (∀ a, (k0_off247 v1658) a + S32x4096.size a ≤ S4096x4096.size a) ∧
  (∀ (hinb : ∀ a, (k0_off247 v1658) a + S32x4096.size a ≤ S4096x4096.size a), (Rect.unit (s := S4096x4096) (k0_off247 v1658) S32x4096.size hinb).WholeWords (EltTy.packing .i8))
theorem k0_off247_inb : ∀ (v1658 : BitVec 32) (k0_hw248 : k0_chk248 v1658), ∀ a, (k0_off247 v1658) a + S32x4096.size a ≤ S4096x4096.size a := fun v1658 k0_hw248 => k0_hw248.1
theorem k0_off247_wordsi8 : ∀ (v1658 : BitVec 32) (k0_hw248 : k0_chk248 v1658), (Rect.unit (s := S4096x4096) (k0_off247 v1658) S32x4096.size (k0_off247_inb v1658 k0_hw248)).WholeWords (EltTy.packing .i8) := fun v1658 k0_hw248 => k0_hw248.2 (k0_off247_inb v1658 k0_hw248)

def k0_chk247 (v1661 : BitVec 32) : Prop :=
  (∀ a, (k0_off246 v1661) a + S32x4096.size a ≤ S4096x4096.size a) ∧
  (∀ (hinb : ∀ a, (k0_off246 v1661) a + S32x4096.size a ≤ S4096x4096.size a), (Rect.unit (s := S4096x4096) (k0_off246 v1661) S32x4096.size hinb).WholeWords (EltTy.packing .i8))
theorem k0_off246_inb : ∀ (v1661 : BitVec 32) (k0_hw247 : k0_chk247 v1661), ∀ a, (k0_off246 v1661) a + S32x4096.size a ≤ S4096x4096.size a := fun v1661 k0_hw247 => k0_hw247.1
theorem k0_off246_wordsi8 : ∀ (v1661 : BitVec 32) (k0_hw247 : k0_chk247 v1661), (Rect.unit (s := S4096x4096) (k0_off246 v1661) S32x4096.size (k0_off246_inb v1661 k0_hw247)).WholeWords (EltTy.packing .i8) := fun v1661 k0_hw247 => k0_hw247.2 (k0_off246_inb v1661 k0_hw247)

def k0_off248 (v1673 : BitVec 32) : Fin 2 → Nat :=
  let c128_i32_1705 : BitVec 32 := 128#32
  let v1674 : BitVec 32 := Scalar.muli v1673 c128_i32_1705
  let c64_i32_1706 : BitVec 32 := 64#32
  let v1675 : BitVec 32 := Scalar.addi v1674 c64_i32_1706
  let c0_i32_1713 : BitVec 32 := 0#32
  ![v1675.toNat, 0]

def k0_off249 (v1670 : BitVec 32) : Fin 2 → Nat :=
  let c128_i32_1702 : BitVec 32 := 128#32
  let v1671 : BitVec 32 := Scalar.muli v1670 c128_i32_1702
  let c64_i32_1703 : BitVec 32 := 64#32
  let v1672 : BitVec 32 := Scalar.addi v1671 c64_i32_1703
  let c0_i32_1714 : BitVec 32 := 0#32
  ![v1672.toNat, 0]

def k0_chk250 (v1670 : BitVec 32) : Prop :=
  (∀ a, (k0_off249 v1670) a + S32x4096.size a ≤ S4096x4096.size a) ∧
  (∀ (hinb : ∀ a, (k0_off249 v1670) a + S32x4096.size a ≤ S4096x4096.size a), (Rect.unit (s := S4096x4096) (k0_off249 v1670) S32x4096.size hinb).WholeWords (EltTy.packing .i8))
theorem k0_off249_inb : ∀ (v1670 : BitVec 32) (k0_hw250 : k0_chk250 v1670), ∀ a, (k0_off249 v1670) a + S32x4096.size a ≤ S4096x4096.size a := fun v1670 k0_hw250 => k0_hw250.1
theorem k0_off249_wordsi8 : ∀ (v1670 : BitVec 32) (k0_hw250 : k0_chk250 v1670), (Rect.unit (s := S4096x4096) (k0_off249 v1670) S32x4096.size (k0_off249_inb v1670 k0_hw250)).WholeWords (EltTy.packing .i8) := fun v1670 k0_hw250 => k0_hw250.2 (k0_off249_inb v1670 k0_hw250)

def k0_chk249 (v1673 : BitVec 32) : Prop :=
  (∀ a, (k0_off248 v1673) a + S32x4096.size a ≤ S4096x4096.size a) ∧
  (∀ (hinb : ∀ a, (k0_off248 v1673) a + S32x4096.size a ≤ S4096x4096.size a), (Rect.unit (s := S4096x4096) (k0_off248 v1673) S32x4096.size hinb).WholeWords (EltTy.packing .i8))
theorem k0_off248_inb : ∀ (v1673 : BitVec 32) (k0_hw249 : k0_chk249 v1673), ∀ a, (k0_off248 v1673) a + S32x4096.size a ≤ S4096x4096.size a := fun v1673 k0_hw249 => k0_hw249.1
theorem k0_off248_wordsi8 : ∀ (v1673 : BitVec 32) (k0_hw249 : k0_chk249 v1673), (Rect.unit (s := S4096x4096) (k0_off248 v1673) S32x4096.size (k0_off248_inb v1673 k0_hw249)).WholeWords (EltTy.packing .i8) := fun v1673 k0_hw249 => k0_hw249.2 (k0_off248_inb v1673 k0_hw249)

def k0_dev64 (v4 : BitVec 32) : Nat :=
  let c0_i32_1712 : BitVec 32 := 0#32
  let c1_i32_1711 : BitVec 32 := 1#32
  let v1676 : BitVec 32 := Scalar.muli v4 c1_i32_1711
  let v1677 : BitVec 32 := Scalar.addi c0_i32_1712 v1676
  v1677.toNat
def k0_off250 (v1687 : BitVec 32) : Fin 2 → Nat :=
  let c128_i32_1719 : BitVec 32 := 128#32
  let v1688 : BitVec 32 := Scalar.muli v1687 c128_i32_1719
  let c96_i32_1720 : BitVec 32 := 96#32
  let v1689 : BitVec 32 := Scalar.addi v1688 c96_i32_1720
  let c0_i32_1727 : BitVec 32 := 0#32
  ![v1689.toNat, 0]

def k0_off251 (v1684 : BitVec 32) : Fin 2 → Nat :=
  let c128_i32_1716 : BitVec 32 := 128#32
  let v1685 : BitVec 32 := Scalar.muli v1684 c128_i32_1716
  let c96_i32_1717 : BitVec 32 := 96#32
  let v1686 : BitVec 32 := Scalar.addi v1685 c96_i32_1717
  let c0_i32_1728 : BitVec 32 := 0#32
  ![v1686.toNat, 0]

def k0_chk252 (v1684 : BitVec 32) : Prop :=
  (∀ a, (k0_off251 v1684) a + S32x4096.size a ≤ S4096x4096.size a) ∧
  (∀ (hinb : ∀ a, (k0_off251 v1684) a + S32x4096.size a ≤ S4096x4096.size a), (Rect.unit (s := S4096x4096) (k0_off251 v1684) S32x4096.size hinb).WholeWords (EltTy.packing .i8))
theorem k0_off251_inb : ∀ (v1684 : BitVec 32) (k0_hw252 : k0_chk252 v1684), ∀ a, (k0_off251 v1684) a + S32x4096.size a ≤ S4096x4096.size a := fun v1684 k0_hw252 => k0_hw252.1
theorem k0_off251_wordsi8 : ∀ (v1684 : BitVec 32) (k0_hw252 : k0_chk252 v1684), (Rect.unit (s := S4096x4096) (k0_off251 v1684) S32x4096.size (k0_off251_inb v1684 k0_hw252)).WholeWords (EltTy.packing .i8) := fun v1684 k0_hw252 => k0_hw252.2 (k0_off251_inb v1684 k0_hw252)

def k0_chk251 (v1687 : BitVec 32) : Prop :=
  (∀ a, (k0_off250 v1687) a + S32x4096.size a ≤ S4096x4096.size a) ∧
  (∀ (hinb : ∀ a, (k0_off250 v1687) a + S32x4096.size a ≤ S4096x4096.size a), (Rect.unit (s := S4096x4096) (k0_off250 v1687) S32x4096.size hinb).WholeWords (EltTy.packing .i8))
theorem k0_off250_inb : ∀ (v1687 : BitVec 32) (k0_hw251 : k0_chk251 v1687), ∀ a, (k0_off250 v1687) a + S32x4096.size a ≤ S4096x4096.size a := fun v1687 k0_hw251 => k0_hw251.1
theorem k0_off250_wordsi8 : ∀ (v1687 : BitVec 32) (k0_hw251 : k0_chk251 v1687), (Rect.unit (s := S4096x4096) (k0_off250 v1687) S32x4096.size (k0_off250_inb v1687 k0_hw251)).WholeWords (EltTy.packing .i8) := fun v1687 k0_hw251 => k0_hw251.2 (k0_off250_inb v1687 k0_hw251)

def k0_off252 (v1699 : BitVec 32) : Fin 2 → Nat :=
  let c128_i32_1733 : BitVec 32 := 128#32
  let v1700 : BitVec 32 := Scalar.muli v1699 c128_i32_1733
  let c96_i32_1734 : BitVec 32 := 96#32
  let v1701 : BitVec 32 := Scalar.addi v1700 c96_i32_1734
  let c0_i32_1741 : BitVec 32 := 0#32
  ![v1701.toNat, 0]

def k0_off253 (v1696 : BitVec 32) : Fin 2 → Nat :=
  let c128_i32_1730 : BitVec 32 := 128#32
  let v1697 : BitVec 32 := Scalar.muli v1696 c128_i32_1730
  let c96_i32_1731 : BitVec 32 := 96#32
  let v1698 : BitVec 32 := Scalar.addi v1697 c96_i32_1731
  let c0_i32_1742 : BitVec 32 := 0#32
  ![v1698.toNat, 0]

def k0_chk254 (v1696 : BitVec 32) : Prop :=
  (∀ a, (k0_off253 v1696) a + S32x4096.size a ≤ S4096x4096.size a) ∧
  (∀ (hinb : ∀ a, (k0_off253 v1696) a + S32x4096.size a ≤ S4096x4096.size a), (Rect.unit (s := S4096x4096) (k0_off253 v1696) S32x4096.size hinb).WholeWords (EltTy.packing .i8))
theorem k0_off253_inb : ∀ (v1696 : BitVec 32) (k0_hw254 : k0_chk254 v1696), ∀ a, (k0_off253 v1696) a + S32x4096.size a ≤ S4096x4096.size a := fun v1696 k0_hw254 => k0_hw254.1
theorem k0_off253_wordsi8 : ∀ (v1696 : BitVec 32) (k0_hw254 : k0_chk254 v1696), (Rect.unit (s := S4096x4096) (k0_off253 v1696) S32x4096.size (k0_off253_inb v1696 k0_hw254)).WholeWords (EltTy.packing .i8) := fun v1696 k0_hw254 => k0_hw254.2 (k0_off253_inb v1696 k0_hw254)

def k0_chk253 (v1699 : BitVec 32) : Prop :=
  (∀ a, (k0_off252 v1699) a + S32x4096.size a ≤ S4096x4096.size a) ∧
  (∀ (hinb : ∀ a, (k0_off252 v1699) a + S32x4096.size a ≤ S4096x4096.size a), (Rect.unit (s := S4096x4096) (k0_off252 v1699) S32x4096.size hinb).WholeWords (EltTy.packing .i8))
theorem k0_off252_inb : ∀ (v1699 : BitVec 32) (k0_hw253 : k0_chk253 v1699), ∀ a, (k0_off252 v1699) a + S32x4096.size a ≤ S4096x4096.size a := fun v1699 k0_hw253 => k0_hw253.1
theorem k0_off252_wordsi8 : ∀ (v1699 : BitVec 32) (k0_hw253 : k0_chk253 v1699), (Rect.unit (s := S4096x4096) (k0_off252 v1699) S32x4096.size (k0_off252_inb v1699 k0_hw253)).WholeWords (EltTy.packing .i8) := fun v1699 k0_hw253 => k0_hw253.2 (k0_off252_inb v1699 k0_hw253)

def k0_dev65 (v3 : BitVec 32) : Nat :=
  let c0_i32_1740 : BitVec 32 := 0#32
  let c1_i32_1739 : BitVec 32 := 1#32
  let v1702 : BitVec 32 := Scalar.muli v3 c1_i32_1739
  let v1703 : BitVec 32 := Scalar.addi c0_i32_1740 v1702
  v1703.toNat
def k0_off254 (v1713 : BitVec 32) : Fin 2 → Nat :=
  let c128_i32_1747 : BitVec 32 := 128#32
  let v1714 : BitVec 32 := Scalar.muli v1713 c128_i32_1747
  let c96_i32_1748 : BitVec 32 := 96#32
  let v1715 : BitVec 32 := Scalar.addi v1714 c96_i32_1748
  let c0_i32_1755 : BitVec 32 := 0#32
  ![v1715.toNat, 0]

def k0_off255 (v1710 : BitVec 32) : Fin 2 → Nat :=
  let c128_i32_1744 : BitVec 32 := 128#32
  let v1711 : BitVec 32 := Scalar.muli v1710 c128_i32_1744
  let c96_i32_1745 : BitVec 32 := 96#32
  let v1712 : BitVec 32 := Scalar.addi v1711 c96_i32_1745
  let c0_i32_1756 : BitVec 32 := 0#32
  ![v1712.toNat, 0]

def k0_chk256 (v1710 : BitVec 32) : Prop :=
  (∀ a, (k0_off255 v1710) a + S32x4096.size a ≤ S4096x4096.size a) ∧
  (∀ (hinb : ∀ a, (k0_off255 v1710) a + S32x4096.size a ≤ S4096x4096.size a), (Rect.unit (s := S4096x4096) (k0_off255 v1710) S32x4096.size hinb).WholeWords (EltTy.packing .i8))
theorem k0_off255_inb : ∀ (v1710 : BitVec 32) (k0_hw256 : k0_chk256 v1710), ∀ a, (k0_off255 v1710) a + S32x4096.size a ≤ S4096x4096.size a := fun v1710 k0_hw256 => k0_hw256.1
theorem k0_off255_wordsi8 : ∀ (v1710 : BitVec 32) (k0_hw256 : k0_chk256 v1710), (Rect.unit (s := S4096x4096) (k0_off255 v1710) S32x4096.size (k0_off255_inb v1710 k0_hw256)).WholeWords (EltTy.packing .i8) := fun v1710 k0_hw256 => k0_hw256.2 (k0_off255_inb v1710 k0_hw256)

def k0_chk255 (v1713 : BitVec 32) : Prop :=
  (∀ a, (k0_off254 v1713) a + S32x4096.size a ≤ S4096x4096.size a) ∧
  (∀ (hinb : ∀ a, (k0_off254 v1713) a + S32x4096.size a ≤ S4096x4096.size a), (Rect.unit (s := S4096x4096) (k0_off254 v1713) S32x4096.size hinb).WholeWords (EltTy.packing .i8))
theorem k0_off254_inb : ∀ (v1713 : BitVec 32) (k0_hw255 : k0_chk255 v1713), ∀ a, (k0_off254 v1713) a + S32x4096.size a ≤ S4096x4096.size a := fun v1713 k0_hw255 => k0_hw255.1
theorem k0_off254_wordsi8 : ∀ (v1713 : BitVec 32) (k0_hw255 : k0_chk255 v1713), (Rect.unit (s := S4096x4096) (k0_off254 v1713) S32x4096.size (k0_off254_inb v1713 k0_hw255)).WholeWords (EltTy.packing .i8) := fun v1713 k0_hw255 => k0_hw255.2 (k0_off254_inb v1713 k0_hw255)

def k0_off256 (v1725 : BitVec 32) : Fin 2 → Nat :=
  let c128_i32_1761 : BitVec 32 := 128#32
  let v1726 : BitVec 32 := Scalar.muli v1725 c128_i32_1761
  let c96_i32_1762 : BitVec 32 := 96#32
  let v1727 : BitVec 32 := Scalar.addi v1726 c96_i32_1762
  let c0_i32_1769 : BitVec 32 := 0#32
  ![v1727.toNat, 0]

def k0_off257 (v1722 : BitVec 32) : Fin 2 → Nat :=
  let c128_i32_1758 : BitVec 32 := 128#32
  let v1723 : BitVec 32 := Scalar.muli v1722 c128_i32_1758
  let c96_i32_1759 : BitVec 32 := 96#32
  let v1724 : BitVec 32 := Scalar.addi v1723 c96_i32_1759
  let c0_i32_1770 : BitVec 32 := 0#32
  ![v1724.toNat, 0]

def k0_chk258 (v1722 : BitVec 32) : Prop :=
  (∀ a, (k0_off257 v1722) a + S32x4096.size a ≤ S4096x4096.size a) ∧
  (∀ (hinb : ∀ a, (k0_off257 v1722) a + S32x4096.size a ≤ S4096x4096.size a), (Rect.unit (s := S4096x4096) (k0_off257 v1722) S32x4096.size hinb).WholeWords (EltTy.packing .i8))
theorem k0_off257_inb : ∀ (v1722 : BitVec 32) (k0_hw258 : k0_chk258 v1722), ∀ a, (k0_off257 v1722) a + S32x4096.size a ≤ S4096x4096.size a := fun v1722 k0_hw258 => k0_hw258.1
theorem k0_off257_wordsi8 : ∀ (v1722 : BitVec 32) (k0_hw258 : k0_chk258 v1722), (Rect.unit (s := S4096x4096) (k0_off257 v1722) S32x4096.size (k0_off257_inb v1722 k0_hw258)).WholeWords (EltTy.packing .i8) := fun v1722 k0_hw258 => k0_hw258.2 (k0_off257_inb v1722 k0_hw258)

def k0_chk257 (v1725 : BitVec 32) : Prop :=
  (∀ a, (k0_off256 v1725) a + S32x4096.size a ≤ S4096x4096.size a) ∧
  (∀ (hinb : ∀ a, (k0_off256 v1725) a + S32x4096.size a ≤ S4096x4096.size a), (Rect.unit (s := S4096x4096) (k0_off256 v1725) S32x4096.size hinb).WholeWords (EltTy.packing .i8))
theorem k0_off256_inb : ∀ (v1725 : BitVec 32) (k0_hw257 : k0_chk257 v1725), ∀ a, (k0_off256 v1725) a + S32x4096.size a ≤ S4096x4096.size a := fun v1725 k0_hw257 => k0_hw257.1
theorem k0_off256_wordsi8 : ∀ (v1725 : BitVec 32) (k0_hw257 : k0_chk257 v1725), (Rect.unit (s := S4096x4096) (k0_off256 v1725) S32x4096.size (k0_off256_inb v1725 k0_hw257)).WholeWords (EltTy.packing .i8) := fun v1725 k0_hw257 => k0_hw257.2 (k0_off256_inb v1725 k0_hw257)

def k0_dev66 (v4 : BitVec 32) : Nat :=
  let c0_i32_1768 : BitVec 32 := 0#32
  let c1_i32_1767 : BitVec 32 := 1#32
  let v1728 : BitVec 32 := Scalar.muli v4 c1_i32_1767
  let v1729 : BitVec 32 := Scalar.addi c0_i32_1768 v1728
  v1729.toNat
def k0_off258 (v1737 : BitVec 32) : Fin 2 → Nat :=
  let c128_i32_1773 : BitVec 32 := 128#32
  let v1738 : BitVec 32 := Scalar.muli v1737 c128_i32_1773
  let v1739 : Index := Scalar.indexCast v1738
  let c0_1774 : Index := 0#32
  ![v1739.toNat, 0]

def k0_chk259 (v1737 : BitVec 32) : Prop :=
  (∀ a, (k0_off258 v1737) a + S128x4096.size a ≤ S4096x4096.size a)
theorem k0_off258_inb : ∀ (v1737 : BitVec 32) (k0_hw259 : k0_chk259 v1737), ∀ a, (k0_off258 v1737) a + S128x4096.size a ≤ S4096x4096.size a := fun v1737 k0_hw259 => k0_hw259

def k0_off259 (v1736 : BitVec 32) : Fin 2 → Nat :=
  let c128_i32_1778 : BitVec 32 := 128#32
  let v1747 : BitVec 32 := Scalar.muli v1736 c128_i32_1778
  let v1748 : Index := Scalar.indexCast v1747
  let c0_1779 : Index := 0#32
  ![v1748.toNat, 0]

def k0_chk260 (v1736 : BitVec 32) : Prop :=
  (∀ a, (k0_off259 v1736) a + S128x64.size a ≤ S4096x64.size a)
theorem k0_off259_inb : ∀ (v1736 : BitVec 32) (k0_hw260 : k0_chk260 v1736), ∀ a, (k0_off259 v1736) a + S128x64.size a ≤ S4096x64.size a := fun v1736 k0_hw260 => k0_hw260

def k0_off260 (v1751 : BitVec 32) : Fin 2 → Nat :=
  let c128_i32_1782 : BitVec 32 := 128#32
  let v1752 : BitVec 32 := Scalar.muli v1751 c128_i32_1782
  let v1753 : Index := Scalar.indexCast v1752
  let c0_1783 : Index := 0#32
  ![v1753.toNat, 0]

def k0_chk261 (v1751 : BitVec 32) : Prop :=
  (∀ a, (k0_off260 v1751) a + S128x4096.size a ≤ S4096x4096.size a)
theorem k0_off260_inb : ∀ (v1751 : BitVec 32) (k0_hw261 : k0_chk261 v1751), ∀ a, (k0_off260 v1751) a + S128x4096.size a ≤ S4096x4096.size a := fun v1751 k0_hw261 => k0_hw261

def k0_off261 (v1750 : BitVec 32) : Fin 2 → Nat :=
  let c128_i32_1787 : BitVec 32 := 128#32
  let v1761 : BitVec 32 := Scalar.muli v1750 c128_i32_1787
  let v1762 : Index := Scalar.indexCast v1761
  let c0_1788 : Index := 0#32
  ![v1762.toNat, 0]

def k0_chk262 (v1750 : BitVec 32) : Prop :=
  (∀ a, (k0_off261 v1750) a + S128x64.size a ≤ S4096x64.size a)
theorem k0_off261_inb : ∀ (v1750 : BitVec 32) (k0_hw262 : k0_chk262 v1750), ∀ a, (k0_off261 v1750) a + S128x64.size a ≤ S4096x64.size a := fun v1750 k0_hw262 => k0_hw262

def k0_off262 (v1767 : BitVec 32) : Fin 2 → Nat :=
  let c128_i32_1793 : BitVec 32 := 128#32
  let v1768 : BitVec 32 := Scalar.muli v1767 c128_i32_1793
  let c0_i32_1794 : BitVec 32 := 0#32
  let v1769 : BitVec 32 := Scalar.addi v1768 c0_i32_1794
  let c0_i32_1801 : BitVec 32 := 0#32
  ![v1769.toNat, 0]

def k0_off263 (v1764 : BitVec 32) : Fin 2 → Nat :=
  let c128_i32_1790 : BitVec 32 := 128#32
  let v1765 : BitVec 32 := Scalar.muli v1764 c128_i32_1790
  let c0_i32_1791 : BitVec 32 := 0#32
  let v1766 : BitVec 32 := Scalar.addi v1765 c0_i32_1791
  let c0_i32_1802 : BitVec 32 := 0#32
  ![v1766.toNat, 0]

def k0_chk264 (v1764 : BitVec 32) : Prop :=
  (∀ a, (k0_off263 v1764) a + S32x4096.size a ≤ S4096x4096.size a) ∧
  (∀ (hinb : ∀ a, (k0_off263 v1764) a + S32x4096.size a ≤ S4096x4096.size a), (Rect.unit (s := S4096x4096) (k0_off263 v1764) S32x4096.size hinb).WholeWords (EltTy.packing .i8))
theorem k0_off263_inb : ∀ (v1764 : BitVec 32) (k0_hw264 : k0_chk264 v1764), ∀ a, (k0_off263 v1764) a + S32x4096.size a ≤ S4096x4096.size a := fun v1764 k0_hw264 => k0_hw264.1
theorem k0_off263_wordsi8 : ∀ (v1764 : BitVec 32) (k0_hw264 : k0_chk264 v1764), (Rect.unit (s := S4096x4096) (k0_off263 v1764) S32x4096.size (k0_off263_inb v1764 k0_hw264)).WholeWords (EltTy.packing .i8) := fun v1764 k0_hw264 => k0_hw264.2 (k0_off263_inb v1764 k0_hw264)

def k0_chk263 (v1767 : BitVec 32) : Prop :=
  (∀ a, (k0_off262 v1767) a + S32x4096.size a ≤ S4096x4096.size a) ∧
  (∀ (hinb : ∀ a, (k0_off262 v1767) a + S32x4096.size a ≤ S4096x4096.size a), (Rect.unit (s := S4096x4096) (k0_off262 v1767) S32x4096.size hinb).WholeWords (EltTy.packing .i8))
theorem k0_off262_inb : ∀ (v1767 : BitVec 32) (k0_hw263 : k0_chk263 v1767), ∀ a, (k0_off262 v1767) a + S32x4096.size a ≤ S4096x4096.size a := fun v1767 k0_hw263 => k0_hw263.1
theorem k0_off262_wordsi8 : ∀ (v1767 : BitVec 32) (k0_hw263 : k0_chk263 v1767), (Rect.unit (s := S4096x4096) (k0_off262 v1767) S32x4096.size (k0_off262_inb v1767 k0_hw263)).WholeWords (EltTy.packing .i8) := fun v1767 k0_hw263 => k0_hw263.2 (k0_off262_inb v1767 k0_hw263)

def k0_off264 (v1779 : BitVec 32) : Fin 2 → Nat :=
  let c128_i32_1806 : BitVec 32 := 128#32
  let v1780 : BitVec 32 := Scalar.muli v1779 c128_i32_1806
  let c0_i32_1807 : BitVec 32 := 0#32
  let v1781 : BitVec 32 := Scalar.addi v1780 c0_i32_1807
  let c0_i32_1813 : BitVec 32 := 0#32
  ![v1781.toNat, 0]

def k0_off265 (v1776 : BitVec 32) : Fin 2 → Nat :=
  let c128_i32_1803 : BitVec 32 := 128#32
  let v1777 : BitVec 32 := Scalar.muli v1776 c128_i32_1803
  let c0_i32_1804 : BitVec 32 := 0#32
  let v1778 : BitVec 32 := Scalar.addi v1777 c0_i32_1804
  let c0_i32_1814 : BitVec 32 := 0#32
  ![v1778.toNat, 0]

def k0_chk266 (v1776 : BitVec 32) : Prop :=
  (∀ a, (k0_off265 v1776) a + S32x4096.size a ≤ S4096x4096.size a) ∧
  (∀ (hinb : ∀ a, (k0_off265 v1776) a + S32x4096.size a ≤ S4096x4096.size a), (Rect.unit (s := S4096x4096) (k0_off265 v1776) S32x4096.size hinb).WholeWords (EltTy.packing .i8))
theorem k0_off265_inb : ∀ (v1776 : BitVec 32) (k0_hw266 : k0_chk266 v1776), ∀ a, (k0_off265 v1776) a + S32x4096.size a ≤ S4096x4096.size a := fun v1776 k0_hw266 => k0_hw266.1
theorem k0_off265_wordsi8 : ∀ (v1776 : BitVec 32) (k0_hw266 : k0_chk266 v1776), (Rect.unit (s := S4096x4096) (k0_off265 v1776) S32x4096.size (k0_off265_inb v1776 k0_hw266)).WholeWords (EltTy.packing .i8) := fun v1776 k0_hw266 => k0_hw266.2 (k0_off265_inb v1776 k0_hw266)

def k0_chk265 (v1779 : BitVec 32) : Prop :=
  (∀ a, (k0_off264 v1779) a + S32x4096.size a ≤ S4096x4096.size a) ∧
  (∀ (hinb : ∀ a, (k0_off264 v1779) a + S32x4096.size a ≤ S4096x4096.size a), (Rect.unit (s := S4096x4096) (k0_off264 v1779) S32x4096.size hinb).WholeWords (EltTy.packing .i8))
theorem k0_off264_inb : ∀ (v1779 : BitVec 32) (k0_hw265 : k0_chk265 v1779), ∀ a, (k0_off264 v1779) a + S32x4096.size a ≤ S4096x4096.size a := fun v1779 k0_hw265 => k0_hw265.1
theorem k0_off264_wordsi8 : ∀ (v1779 : BitVec 32) (k0_hw265 : k0_chk265 v1779), (Rect.unit (s := S4096x4096) (k0_off264 v1779) S32x4096.size (k0_off264_inb v1779 k0_hw265)).WholeWords (EltTy.packing .i8) := fun v1779 k0_hw265 => k0_hw265.2 (k0_off264_inb v1779 k0_hw265)

def k0_dev67 (v3 : BitVec 32) : Nat :=
  let c0_i32_1812 : BitVec 32 := 0#32
  let c1_i32_1811 : BitVec 32 := 1#32
  let v1782 : BitVec 32 := Scalar.muli v3 c1_i32_1811
  let v1783 : BitVec 32 := Scalar.addi c0_i32_1812 v1782
  v1783.toNat
def k0_off266 (v1793 : BitVec 32) : Fin 2 → Nat :=
  let c128_i32_1819 : BitVec 32 := 128#32
  let v1794 : BitVec 32 := Scalar.muli v1793 c128_i32_1819
  let c0_i32_1820 : BitVec 32 := 0#32
  let v1795 : BitVec 32 := Scalar.addi v1794 c0_i32_1820
  let c0_i32_1827 : BitVec 32 := 0#32
  ![v1795.toNat, 0]

def k0_off267 (v1790 : BitVec 32) : Fin 2 → Nat :=
  let c128_i32_1816 : BitVec 32 := 128#32
  let v1791 : BitVec 32 := Scalar.muli v1790 c128_i32_1816
  let c0_i32_1817 : BitVec 32 := 0#32
  let v1792 : BitVec 32 := Scalar.addi v1791 c0_i32_1817
  let c0_i32_1828 : BitVec 32 := 0#32
  ![v1792.toNat, 0]

def k0_chk268 (v1790 : BitVec 32) : Prop :=
  (∀ a, (k0_off267 v1790) a + S32x4096.size a ≤ S4096x4096.size a) ∧
  (∀ (hinb : ∀ a, (k0_off267 v1790) a + S32x4096.size a ≤ S4096x4096.size a), (Rect.unit (s := S4096x4096) (k0_off267 v1790) S32x4096.size hinb).WholeWords (EltTy.packing .i8))
theorem k0_off267_inb : ∀ (v1790 : BitVec 32) (k0_hw268 : k0_chk268 v1790), ∀ a, (k0_off267 v1790) a + S32x4096.size a ≤ S4096x4096.size a := fun v1790 k0_hw268 => k0_hw268.1
theorem k0_off267_wordsi8 : ∀ (v1790 : BitVec 32) (k0_hw268 : k0_chk268 v1790), (Rect.unit (s := S4096x4096) (k0_off267 v1790) S32x4096.size (k0_off267_inb v1790 k0_hw268)).WholeWords (EltTy.packing .i8) := fun v1790 k0_hw268 => k0_hw268.2 (k0_off267_inb v1790 k0_hw268)

def k0_chk267 (v1793 : BitVec 32) : Prop :=
  (∀ a, (k0_off266 v1793) a + S32x4096.size a ≤ S4096x4096.size a) ∧
  (∀ (hinb : ∀ a, (k0_off266 v1793) a + S32x4096.size a ≤ S4096x4096.size a), (Rect.unit (s := S4096x4096) (k0_off266 v1793) S32x4096.size hinb).WholeWords (EltTy.packing .i8))
theorem k0_off266_inb : ∀ (v1793 : BitVec 32) (k0_hw267 : k0_chk267 v1793), ∀ a, (k0_off266 v1793) a + S32x4096.size a ≤ S4096x4096.size a := fun v1793 k0_hw267 => k0_hw267.1
theorem k0_off266_wordsi8 : ∀ (v1793 : BitVec 32) (k0_hw267 : k0_chk267 v1793), (Rect.unit (s := S4096x4096) (k0_off266 v1793) S32x4096.size (k0_off266_inb v1793 k0_hw267)).WholeWords (EltTy.packing .i8) := fun v1793 k0_hw267 => k0_hw267.2 (k0_off266_inb v1793 k0_hw267)

def k0_off268 (v1805 : BitVec 32) : Fin 2 → Nat :=
  let c128_i32_1833 : BitVec 32 := 128#32
  let v1806 : BitVec 32 := Scalar.muli v1805 c128_i32_1833
  let c0_i32_1834 : BitVec 32 := 0#32
  let v1807 : BitVec 32 := Scalar.addi v1806 c0_i32_1834
  let c0_i32_1841 : BitVec 32 := 0#32
  ![v1807.toNat, 0]

def k0_off269 (v1802 : BitVec 32) : Fin 2 → Nat :=
  let c128_i32_1830 : BitVec 32 := 128#32
  let v1803 : BitVec 32 := Scalar.muli v1802 c128_i32_1830
  let c0_i32_1831 : BitVec 32 := 0#32
  let v1804 : BitVec 32 := Scalar.addi v1803 c0_i32_1831
  let c0_i32_1842 : BitVec 32 := 0#32
  ![v1804.toNat, 0]

def k0_chk270 (v1802 : BitVec 32) : Prop :=
  (∀ a, (k0_off269 v1802) a + S32x4096.size a ≤ S4096x4096.size a) ∧
  (∀ (hinb : ∀ a, (k0_off269 v1802) a + S32x4096.size a ≤ S4096x4096.size a), (Rect.unit (s := S4096x4096) (k0_off269 v1802) S32x4096.size hinb).WholeWords (EltTy.packing .i8))
theorem k0_off269_inb : ∀ (v1802 : BitVec 32) (k0_hw270 : k0_chk270 v1802), ∀ a, (k0_off269 v1802) a + S32x4096.size a ≤ S4096x4096.size a := fun v1802 k0_hw270 => k0_hw270.1
theorem k0_off269_wordsi8 : ∀ (v1802 : BitVec 32) (k0_hw270 : k0_chk270 v1802), (Rect.unit (s := S4096x4096) (k0_off269 v1802) S32x4096.size (k0_off269_inb v1802 k0_hw270)).WholeWords (EltTy.packing .i8) := fun v1802 k0_hw270 => k0_hw270.2 (k0_off269_inb v1802 k0_hw270)

def k0_chk269 (v1805 : BitVec 32) : Prop :=
  (∀ a, (k0_off268 v1805) a + S32x4096.size a ≤ S4096x4096.size a) ∧
  (∀ (hinb : ∀ a, (k0_off268 v1805) a + S32x4096.size a ≤ S4096x4096.size a), (Rect.unit (s := S4096x4096) (k0_off268 v1805) S32x4096.size hinb).WholeWords (EltTy.packing .i8))
theorem k0_off268_inb : ∀ (v1805 : BitVec 32) (k0_hw269 : k0_chk269 v1805), ∀ a, (k0_off268 v1805) a + S32x4096.size a ≤ S4096x4096.size a := fun v1805 k0_hw269 => k0_hw269.1
theorem k0_off268_wordsi8 : ∀ (v1805 : BitVec 32) (k0_hw269 : k0_chk269 v1805), (Rect.unit (s := S4096x4096) (k0_off268 v1805) S32x4096.size (k0_off268_inb v1805 k0_hw269)).WholeWords (EltTy.packing .i8) := fun v1805 k0_hw269 => k0_hw269.2 (k0_off268_inb v1805 k0_hw269)

def k0_dev68 (v4 : BitVec 32) : Nat :=
  let c0_i32_1840 : BitVec 32 := 0#32
  let c1_i32_1839 : BitVec 32 := 1#32
  let v1808 : BitVec 32 := Scalar.muli v4 c1_i32_1839
  let v1809 : BitVec 32 := Scalar.addi c0_i32_1840 v1808
  v1809.toNat
def k0_off270 (v1819 : BitVec 32) : Fin 2 → Nat :=
  let c128_i32_1847 : BitVec 32 := 128#32
  let v1820 : BitVec 32 := Scalar.muli v1819 c128_i32_1847
  let c32_i32_1848 : BitVec 32 := 32#32
  let v1821 : BitVec 32 := Scalar.addi v1820 c32_i32_1848
  let c0_i32_1855 : BitVec 32 := 0#32
  ![v1821.toNat, 0]

def k0_off271 (v1816 : BitVec 32) : Fin 2 → Nat :=
  let c128_i32_1844 : BitVec 32 := 128#32
  let v1817 : BitVec 32 := Scalar.muli v1816 c128_i32_1844
  let c32_i32_1845 : BitVec 32 := 32#32
  let v1818 : BitVec 32 := Scalar.addi v1817 c32_i32_1845
  let c0_i32_1856 : BitVec 32 := 0#32
  ![v1818.toNat, 0]

def k0_chk272 (v1816 : BitVec 32) : Prop :=
  (∀ a, (k0_off271 v1816) a + S32x4096.size a ≤ S4096x4096.size a) ∧
  (∀ (hinb : ∀ a, (k0_off271 v1816) a + S32x4096.size a ≤ S4096x4096.size a), (Rect.unit (s := S4096x4096) (k0_off271 v1816) S32x4096.size hinb).WholeWords (EltTy.packing .i8))
theorem k0_off271_inb : ∀ (v1816 : BitVec 32) (k0_hw272 : k0_chk272 v1816), ∀ a, (k0_off271 v1816) a + S32x4096.size a ≤ S4096x4096.size a := fun v1816 k0_hw272 => k0_hw272.1
theorem k0_off271_wordsi8 : ∀ (v1816 : BitVec 32) (k0_hw272 : k0_chk272 v1816), (Rect.unit (s := S4096x4096) (k0_off271 v1816) S32x4096.size (k0_off271_inb v1816 k0_hw272)).WholeWords (EltTy.packing .i8) := fun v1816 k0_hw272 => k0_hw272.2 (k0_off271_inb v1816 k0_hw272)

def k0_chk271 (v1819 : BitVec 32) : Prop :=
  (∀ a, (k0_off270 v1819) a + S32x4096.size a ≤ S4096x4096.size a) ∧
  (∀ (hinb : ∀ a, (k0_off270 v1819) a + S32x4096.size a ≤ S4096x4096.size a), (Rect.unit (s := S4096x4096) (k0_off270 v1819) S32x4096.size hinb).WholeWords (EltTy.packing .i8))
theorem k0_off270_inb : ∀ (v1819 : BitVec 32) (k0_hw271 : k0_chk271 v1819), ∀ a, (k0_off270 v1819) a + S32x4096.size a ≤ S4096x4096.size a := fun v1819 k0_hw271 => k0_hw271.1
theorem k0_off270_wordsi8 : ∀ (v1819 : BitVec 32) (k0_hw271 : k0_chk271 v1819), (Rect.unit (s := S4096x4096) (k0_off270 v1819) S32x4096.size (k0_off270_inb v1819 k0_hw271)).WholeWords (EltTy.packing .i8) := fun v1819 k0_hw271 => k0_hw271.2 (k0_off270_inb v1819 k0_hw271)

def k0_off272 (v1831 : BitVec 32) : Fin 2 → Nat :=
  let c128_i32_1861 : BitVec 32 := 128#32
  let v1832 : BitVec 32 := Scalar.muli v1831 c128_i32_1861
  let c32_i32_1862 : BitVec 32 := 32#32
  let v1833 : BitVec 32 := Scalar.addi v1832 c32_i32_1862
  let c0_i32_1869 : BitVec 32 := 0#32
  ![v1833.toNat, 0]

def k0_off273 (v1828 : BitVec 32) : Fin 2 → Nat :=
  let c128_i32_1858 : BitVec 32 := 128#32
  let v1829 : BitVec 32 := Scalar.muli v1828 c128_i32_1858
  let c32_i32_1859 : BitVec 32 := 32#32
  let v1830 : BitVec 32 := Scalar.addi v1829 c32_i32_1859
  let c0_i32_1870 : BitVec 32 := 0#32
  ![v1830.toNat, 0]

def k0_chk274 (v1828 : BitVec 32) : Prop :=
  (∀ a, (k0_off273 v1828) a + S32x4096.size a ≤ S4096x4096.size a) ∧
  (∀ (hinb : ∀ a, (k0_off273 v1828) a + S32x4096.size a ≤ S4096x4096.size a), (Rect.unit (s := S4096x4096) (k0_off273 v1828) S32x4096.size hinb).WholeWords (EltTy.packing .i8))
theorem k0_off273_inb : ∀ (v1828 : BitVec 32) (k0_hw274 : k0_chk274 v1828), ∀ a, (k0_off273 v1828) a + S32x4096.size a ≤ S4096x4096.size a := fun v1828 k0_hw274 => k0_hw274.1
theorem k0_off273_wordsi8 : ∀ (v1828 : BitVec 32) (k0_hw274 : k0_chk274 v1828), (Rect.unit (s := S4096x4096) (k0_off273 v1828) S32x4096.size (k0_off273_inb v1828 k0_hw274)).WholeWords (EltTy.packing .i8) := fun v1828 k0_hw274 => k0_hw274.2 (k0_off273_inb v1828 k0_hw274)

def k0_chk273 (v1831 : BitVec 32) : Prop :=
  (∀ a, (k0_off272 v1831) a + S32x4096.size a ≤ S4096x4096.size a) ∧
  (∀ (hinb : ∀ a, (k0_off272 v1831) a + S32x4096.size a ≤ S4096x4096.size a), (Rect.unit (s := S4096x4096) (k0_off272 v1831) S32x4096.size hinb).WholeWords (EltTy.packing .i8))
theorem k0_off272_inb : ∀ (v1831 : BitVec 32) (k0_hw273 : k0_chk273 v1831), ∀ a, (k0_off272 v1831) a + S32x4096.size a ≤ S4096x4096.size a := fun v1831 k0_hw273 => k0_hw273.1
theorem k0_off272_wordsi8 : ∀ (v1831 : BitVec 32) (k0_hw273 : k0_chk273 v1831), (Rect.unit (s := S4096x4096) (k0_off272 v1831) S32x4096.size (k0_off272_inb v1831 k0_hw273)).WholeWords (EltTy.packing .i8) := fun v1831 k0_hw273 => k0_hw273.2 (k0_off272_inb v1831 k0_hw273)

def k0_dev69 (v3 : BitVec 32) : Nat :=
  let c0_i32_1868 : BitVec 32 := 0#32
  let c1_i32_1867 : BitVec 32 := 1#32
  let v1834 : BitVec 32 := Scalar.muli v3 c1_i32_1867
  let v1835 : BitVec 32 := Scalar.addi c0_i32_1868 v1834
  v1835.toNat
def k0_off274 (v1845 : BitVec 32) : Fin 2 → Nat :=
  let c128_i32_1875 : BitVec 32 := 128#32
  let v1846 : BitVec 32 := Scalar.muli v1845 c128_i32_1875
  let c32_i32_1876 : BitVec 32 := 32#32
  let v1847 : BitVec 32 := Scalar.addi v1846 c32_i32_1876
  let c0_i32_1883 : BitVec 32 := 0#32
  ![v1847.toNat, 0]

def k0_off275 (v1842 : BitVec 32) : Fin 2 → Nat :=
  let c128_i32_1872 : BitVec 32 := 128#32
  let v1843 : BitVec 32 := Scalar.muli v1842 c128_i32_1872
  let c32_i32_1873 : BitVec 32 := 32#32
  let v1844 : BitVec 32 := Scalar.addi v1843 c32_i32_1873
  let c0_i32_1884 : BitVec 32 := 0#32
  ![v1844.toNat, 0]

def k0_chk276 (v1842 : BitVec 32) : Prop :=
  (∀ a, (k0_off275 v1842) a + S32x4096.size a ≤ S4096x4096.size a) ∧
  (∀ (hinb : ∀ a, (k0_off275 v1842) a + S32x4096.size a ≤ S4096x4096.size a), (Rect.unit (s := S4096x4096) (k0_off275 v1842) S32x4096.size hinb).WholeWords (EltTy.packing .i8))
theorem k0_off275_inb : ∀ (v1842 : BitVec 32) (k0_hw276 : k0_chk276 v1842), ∀ a, (k0_off275 v1842) a + S32x4096.size a ≤ S4096x4096.size a := fun v1842 k0_hw276 => k0_hw276.1
theorem k0_off275_wordsi8 : ∀ (v1842 : BitVec 32) (k0_hw276 : k0_chk276 v1842), (Rect.unit (s := S4096x4096) (k0_off275 v1842) S32x4096.size (k0_off275_inb v1842 k0_hw276)).WholeWords (EltTy.packing .i8) := fun v1842 k0_hw276 => k0_hw276.2 (k0_off275_inb v1842 k0_hw276)

def k0_chk275 (v1845 : BitVec 32) : Prop :=
  (∀ a, (k0_off274 v1845) a + S32x4096.size a ≤ S4096x4096.size a) ∧
  (∀ (hinb : ∀ a, (k0_off274 v1845) a + S32x4096.size a ≤ S4096x4096.size a), (Rect.unit (s := S4096x4096) (k0_off274 v1845) S32x4096.size hinb).WholeWords (EltTy.packing .i8))
theorem k0_off274_inb : ∀ (v1845 : BitVec 32) (k0_hw275 : k0_chk275 v1845), ∀ a, (k0_off274 v1845) a + S32x4096.size a ≤ S4096x4096.size a := fun v1845 k0_hw275 => k0_hw275.1
theorem k0_off274_wordsi8 : ∀ (v1845 : BitVec 32) (k0_hw275 : k0_chk275 v1845), (Rect.unit (s := S4096x4096) (k0_off274 v1845) S32x4096.size (k0_off274_inb v1845 k0_hw275)).WholeWords (EltTy.packing .i8) := fun v1845 k0_hw275 => k0_hw275.2 (k0_off274_inb v1845 k0_hw275)

def k0_off276 (v1857 : BitVec 32) : Fin 2 → Nat :=
  let c128_i32_1889 : BitVec 32 := 128#32
  let v1858 : BitVec 32 := Scalar.muli v1857 c128_i32_1889
  let c32_i32_1890 : BitVec 32 := 32#32
  let v1859 : BitVec 32 := Scalar.addi v1858 c32_i32_1890
  let c0_i32_1897 : BitVec 32 := 0#32
  ![v1859.toNat, 0]

def k0_off277 (v1854 : BitVec 32) : Fin 2 → Nat :=
  let c128_i32_1886 : BitVec 32 := 128#32
  let v1855 : BitVec 32 := Scalar.muli v1854 c128_i32_1886
  let c32_i32_1887 : BitVec 32 := 32#32
  let v1856 : BitVec 32 := Scalar.addi v1855 c32_i32_1887
  let c0_i32_1898 : BitVec 32 := 0#32
  ![v1856.toNat, 0]

def k0_chk278 (v1854 : BitVec 32) : Prop :=
  (∀ a, (k0_off277 v1854) a + S32x4096.size a ≤ S4096x4096.size a) ∧
  (∀ (hinb : ∀ a, (k0_off277 v1854) a + S32x4096.size a ≤ S4096x4096.size a), (Rect.unit (s := S4096x4096) (k0_off277 v1854) S32x4096.size hinb).WholeWords (EltTy.packing .i8))
theorem k0_off277_inb : ∀ (v1854 : BitVec 32) (k0_hw278 : k0_chk278 v1854), ∀ a, (k0_off277 v1854) a + S32x4096.size a ≤ S4096x4096.size a := fun v1854 k0_hw278 => k0_hw278.1
theorem k0_off277_wordsi8 : ∀ (v1854 : BitVec 32) (k0_hw278 : k0_chk278 v1854), (Rect.unit (s := S4096x4096) (k0_off277 v1854) S32x4096.size (k0_off277_inb v1854 k0_hw278)).WholeWords (EltTy.packing .i8) := fun v1854 k0_hw278 => k0_hw278.2 (k0_off277_inb v1854 k0_hw278)

def k0_chk277 (v1857 : BitVec 32) : Prop :=
  (∀ a, (k0_off276 v1857) a + S32x4096.size a ≤ S4096x4096.size a) ∧
  (∀ (hinb : ∀ a, (k0_off276 v1857) a + S32x4096.size a ≤ S4096x4096.size a), (Rect.unit (s := S4096x4096) (k0_off276 v1857) S32x4096.size hinb).WholeWords (EltTy.packing .i8))
theorem k0_off276_inb : ∀ (v1857 : BitVec 32) (k0_hw277 : k0_chk277 v1857), ∀ a, (k0_off276 v1857) a + S32x4096.size a ≤ S4096x4096.size a := fun v1857 k0_hw277 => k0_hw277.1
theorem k0_off276_wordsi8 : ∀ (v1857 : BitVec 32) (k0_hw277 : k0_chk277 v1857), (Rect.unit (s := S4096x4096) (k0_off276 v1857) S32x4096.size (k0_off276_inb v1857 k0_hw277)).WholeWords (EltTy.packing .i8) := fun v1857 k0_hw277 => k0_hw277.2 (k0_off276_inb v1857 k0_hw277)

def k0_dev70 (v4 : BitVec 32) : Nat :=
  let c0_i32_1896 : BitVec 32 := 0#32
  let c1_i32_1895 : BitVec 32 := 1#32
  let v1860 : BitVec 32 := Scalar.muli v4 c1_i32_1895
  let v1861 : BitVec 32 := Scalar.addi c0_i32_1896 v1860
  v1861.toNat
def k0_off278 (v1871 : BitVec 32) : Fin 2 → Nat :=
  let c128_i32_1903 : BitVec 32 := 128#32
  let v1872 : BitVec 32 := Scalar.muli v1871 c128_i32_1903
  let c64_i32_1904 : BitVec 32 := 64#32
  let v1873 : BitVec 32 := Scalar.addi v1872 c64_i32_1904
  let c0_i32_1911 : BitVec 32 := 0#32
  ![v1873.toNat, 0]

def k0_off279 (v1868 : BitVec 32) : Fin 2 → Nat :=
  let c128_i32_1900 : BitVec 32 := 128#32
  let v1869 : BitVec 32 := Scalar.muli v1868 c128_i32_1900
  let c64_i32_1901 : BitVec 32 := 64#32
  let v1870 : BitVec 32 := Scalar.addi v1869 c64_i32_1901
  let c0_i32_1912 : BitVec 32 := 0#32
  ![v1870.toNat, 0]

def k0_chk280 (v1868 : BitVec 32) : Prop :=
  (∀ a, (k0_off279 v1868) a + S32x4096.size a ≤ S4096x4096.size a) ∧
  (∀ (hinb : ∀ a, (k0_off279 v1868) a + S32x4096.size a ≤ S4096x4096.size a), (Rect.unit (s := S4096x4096) (k0_off279 v1868) S32x4096.size hinb).WholeWords (EltTy.packing .i8))
theorem k0_off279_inb : ∀ (v1868 : BitVec 32) (k0_hw280 : k0_chk280 v1868), ∀ a, (k0_off279 v1868) a + S32x4096.size a ≤ S4096x4096.size a := fun v1868 k0_hw280 => k0_hw280.1
theorem k0_off279_wordsi8 : ∀ (v1868 : BitVec 32) (k0_hw280 : k0_chk280 v1868), (Rect.unit (s := S4096x4096) (k0_off279 v1868) S32x4096.size (k0_off279_inb v1868 k0_hw280)).WholeWords (EltTy.packing .i8) := fun v1868 k0_hw280 => k0_hw280.2 (k0_off279_inb v1868 k0_hw280)

def k0_chk279 (v1871 : BitVec 32) : Prop :=
  (∀ a, (k0_off278 v1871) a + S32x4096.size a ≤ S4096x4096.size a) ∧
  (∀ (hinb : ∀ a, (k0_off278 v1871) a + S32x4096.size a ≤ S4096x4096.size a), (Rect.unit (s := S4096x4096) (k0_off278 v1871) S32x4096.size hinb).WholeWords (EltTy.packing .i8))
theorem k0_off278_inb : ∀ (v1871 : BitVec 32) (k0_hw279 : k0_chk279 v1871), ∀ a, (k0_off278 v1871) a + S32x4096.size a ≤ S4096x4096.size a := fun v1871 k0_hw279 => k0_hw279.1
theorem k0_off278_wordsi8 : ∀ (v1871 : BitVec 32) (k0_hw279 : k0_chk279 v1871), (Rect.unit (s := S4096x4096) (k0_off278 v1871) S32x4096.size (k0_off278_inb v1871 k0_hw279)).WholeWords (EltTy.packing .i8) := fun v1871 k0_hw279 => k0_hw279.2 (k0_off278_inb v1871 k0_hw279)

def k0_off280 (v1883 : BitVec 32) : Fin 2 → Nat :=
  let c128_i32_1917 : BitVec 32 := 128#32
  let v1884 : BitVec 32 := Scalar.muli v1883 c128_i32_1917
  let c64_i32_1918 : BitVec 32 := 64#32
  let v1885 : BitVec 32 := Scalar.addi v1884 c64_i32_1918
  let c0_i32_1925 : BitVec 32 := 0#32
  ![v1885.toNat, 0]

def k0_off281 (v1880 : BitVec 32) : Fin 2 → Nat :=
  let c128_i32_1914 : BitVec 32 := 128#32
  let v1881 : BitVec 32 := Scalar.muli v1880 c128_i32_1914
  let c64_i32_1915 : BitVec 32 := 64#32
  let v1882 : BitVec 32 := Scalar.addi v1881 c64_i32_1915
  let c0_i32_1926 : BitVec 32 := 0#32
  ![v1882.toNat, 0]

def k0_chk282 (v1880 : BitVec 32) : Prop :=
  (∀ a, (k0_off281 v1880) a + S32x4096.size a ≤ S4096x4096.size a) ∧
  (∀ (hinb : ∀ a, (k0_off281 v1880) a + S32x4096.size a ≤ S4096x4096.size a), (Rect.unit (s := S4096x4096) (k0_off281 v1880) S32x4096.size hinb).WholeWords (EltTy.packing .i8))
theorem k0_off281_inb : ∀ (v1880 : BitVec 32) (k0_hw282 : k0_chk282 v1880), ∀ a, (k0_off281 v1880) a + S32x4096.size a ≤ S4096x4096.size a := fun v1880 k0_hw282 => k0_hw282.1
theorem k0_off281_wordsi8 : ∀ (v1880 : BitVec 32) (k0_hw282 : k0_chk282 v1880), (Rect.unit (s := S4096x4096) (k0_off281 v1880) S32x4096.size (k0_off281_inb v1880 k0_hw282)).WholeWords (EltTy.packing .i8) := fun v1880 k0_hw282 => k0_hw282.2 (k0_off281_inb v1880 k0_hw282)

def k0_chk281 (v1883 : BitVec 32) : Prop :=
  (∀ a, (k0_off280 v1883) a + S32x4096.size a ≤ S4096x4096.size a) ∧
  (∀ (hinb : ∀ a, (k0_off280 v1883) a + S32x4096.size a ≤ S4096x4096.size a), (Rect.unit (s := S4096x4096) (k0_off280 v1883) S32x4096.size hinb).WholeWords (EltTy.packing .i8))
theorem k0_off280_inb : ∀ (v1883 : BitVec 32) (k0_hw281 : k0_chk281 v1883), ∀ a, (k0_off280 v1883) a + S32x4096.size a ≤ S4096x4096.size a := fun v1883 k0_hw281 => k0_hw281.1
theorem k0_off280_wordsi8 : ∀ (v1883 : BitVec 32) (k0_hw281 : k0_chk281 v1883), (Rect.unit (s := S4096x4096) (k0_off280 v1883) S32x4096.size (k0_off280_inb v1883 k0_hw281)).WholeWords (EltTy.packing .i8) := fun v1883 k0_hw281 => k0_hw281.2 (k0_off280_inb v1883 k0_hw281)

def k0_dev71 (v3 : BitVec 32) : Nat :=
  let c0_i32_1924 : BitVec 32 := 0#32
  let c1_i32_1923 : BitVec 32 := 1#32
  let v1886 : BitVec 32 := Scalar.muli v3 c1_i32_1923
  let v1887 : BitVec 32 := Scalar.addi c0_i32_1924 v1886
  v1887.toNat
def k0_off282 (v1897 : BitVec 32) : Fin 2 → Nat :=
  let c128_i32_1931 : BitVec 32 := 128#32
  let v1898 : BitVec 32 := Scalar.muli v1897 c128_i32_1931
  let c64_i32_1932 : BitVec 32 := 64#32
  let v1899 : BitVec 32 := Scalar.addi v1898 c64_i32_1932
  let c0_i32_1939 : BitVec 32 := 0#32
  ![v1899.toNat, 0]

def k0_off283 (v1894 : BitVec 32) : Fin 2 → Nat :=
  let c128_i32_1928 : BitVec 32 := 128#32
  let v1895 : BitVec 32 := Scalar.muli v1894 c128_i32_1928
  let c64_i32_1929 : BitVec 32 := 64#32
  let v1896 : BitVec 32 := Scalar.addi v1895 c64_i32_1929
  let c0_i32_1940 : BitVec 32 := 0#32
  ![v1896.toNat, 0]

def k0_chk284 (v1894 : BitVec 32) : Prop :=
  (∀ a, (k0_off283 v1894) a + S32x4096.size a ≤ S4096x4096.size a) ∧
  (∀ (hinb : ∀ a, (k0_off283 v1894) a + S32x4096.size a ≤ S4096x4096.size a), (Rect.unit (s := S4096x4096) (k0_off283 v1894) S32x4096.size hinb).WholeWords (EltTy.packing .i8))
theorem k0_off283_inb : ∀ (v1894 : BitVec 32) (k0_hw284 : k0_chk284 v1894), ∀ a, (k0_off283 v1894) a + S32x4096.size a ≤ S4096x4096.size a := fun v1894 k0_hw284 => k0_hw284.1
theorem k0_off283_wordsi8 : ∀ (v1894 : BitVec 32) (k0_hw284 : k0_chk284 v1894), (Rect.unit (s := S4096x4096) (k0_off283 v1894) S32x4096.size (k0_off283_inb v1894 k0_hw284)).WholeWords (EltTy.packing .i8) := fun v1894 k0_hw284 => k0_hw284.2 (k0_off283_inb v1894 k0_hw284)

def k0_chk283 (v1897 : BitVec 32) : Prop :=
  (∀ a, (k0_off282 v1897) a + S32x4096.size a ≤ S4096x4096.size a) ∧
  (∀ (hinb : ∀ a, (k0_off282 v1897) a + S32x4096.size a ≤ S4096x4096.size a), (Rect.unit (s := S4096x4096) (k0_off282 v1897) S32x4096.size hinb).WholeWords (EltTy.packing .i8))
theorem k0_off282_inb : ∀ (v1897 : BitVec 32) (k0_hw283 : k0_chk283 v1897), ∀ a, (k0_off282 v1897) a + S32x4096.size a ≤ S4096x4096.size a := fun v1897 k0_hw283 => k0_hw283.1
theorem k0_off282_wordsi8 : ∀ (v1897 : BitVec 32) (k0_hw283 : k0_chk283 v1897), (Rect.unit (s := S4096x4096) (k0_off282 v1897) S32x4096.size (k0_off282_inb v1897 k0_hw283)).WholeWords (EltTy.packing .i8) := fun v1897 k0_hw283 => k0_hw283.2 (k0_off282_inb v1897 k0_hw283)

def k0_off284 (v1909 : BitVec 32) : Fin 2 → Nat :=
  let c128_i32_1945 : BitVec 32 := 128#32
  let v1910 : BitVec 32 := Scalar.muli v1909 c128_i32_1945
  let c64_i32_1946 : BitVec 32 := 64#32
  let v1911 : BitVec 32 := Scalar.addi v1910 c64_i32_1946
  let c0_i32_1953 : BitVec 32 := 0#32
  ![v1911.toNat, 0]

def k0_off285 (v1906 : BitVec 32) : Fin 2 → Nat :=
  let c128_i32_1942 : BitVec 32 := 128#32
  let v1907 : BitVec 32 := Scalar.muli v1906 c128_i32_1942
  let c64_i32_1943 : BitVec 32 := 64#32
  let v1908 : BitVec 32 := Scalar.addi v1907 c64_i32_1943
  let c0_i32_1954 : BitVec 32 := 0#32
  ![v1908.toNat, 0]

def k0_chk286 (v1906 : BitVec 32) : Prop :=
  (∀ a, (k0_off285 v1906) a + S32x4096.size a ≤ S4096x4096.size a) ∧
  (∀ (hinb : ∀ a, (k0_off285 v1906) a + S32x4096.size a ≤ S4096x4096.size a), (Rect.unit (s := S4096x4096) (k0_off285 v1906) S32x4096.size hinb).WholeWords (EltTy.packing .i8))
theorem k0_off285_inb : ∀ (v1906 : BitVec 32) (k0_hw286 : k0_chk286 v1906), ∀ a, (k0_off285 v1906) a + S32x4096.size a ≤ S4096x4096.size a := fun v1906 k0_hw286 => k0_hw286.1
theorem k0_off285_wordsi8 : ∀ (v1906 : BitVec 32) (k0_hw286 : k0_chk286 v1906), (Rect.unit (s := S4096x4096) (k0_off285 v1906) S32x4096.size (k0_off285_inb v1906 k0_hw286)).WholeWords (EltTy.packing .i8) := fun v1906 k0_hw286 => k0_hw286.2 (k0_off285_inb v1906 k0_hw286)

def k0_chk285 (v1909 : BitVec 32) : Prop :=
  (∀ a, (k0_off284 v1909) a + S32x4096.size a ≤ S4096x4096.size a) ∧
  (∀ (hinb : ∀ a, (k0_off284 v1909) a + S32x4096.size a ≤ S4096x4096.size a), (Rect.unit (s := S4096x4096) (k0_off284 v1909) S32x4096.size hinb).WholeWords (EltTy.packing .i8))
theorem k0_off284_inb : ∀ (v1909 : BitVec 32) (k0_hw285 : k0_chk285 v1909), ∀ a, (k0_off284 v1909) a + S32x4096.size a ≤ S4096x4096.size a := fun v1909 k0_hw285 => k0_hw285.1
theorem k0_off284_wordsi8 : ∀ (v1909 : BitVec 32) (k0_hw285 : k0_chk285 v1909), (Rect.unit (s := S4096x4096) (k0_off284 v1909) S32x4096.size (k0_off284_inb v1909 k0_hw285)).WholeWords (EltTy.packing .i8) := fun v1909 k0_hw285 => k0_hw285.2 (k0_off284_inb v1909 k0_hw285)

def k0_dev72 (v4 : BitVec 32) : Nat :=
  let c0_i32_1952 : BitVec 32 := 0#32
  let c1_i32_1951 : BitVec 32 := 1#32
  let v1912 : BitVec 32 := Scalar.muli v4 c1_i32_1951
  let v1913 : BitVec 32 := Scalar.addi c0_i32_1952 v1912
  v1913.toNat
def k0_off286 (v1923 : BitVec 32) : Fin 2 → Nat :=
  let c128_i32_1959 : BitVec 32 := 128#32
  let v1924 : BitVec 32 := Scalar.muli v1923 c128_i32_1959
  let c96_i32_1960 : BitVec 32 := 96#32
  let v1925 : BitVec 32 := Scalar.addi v1924 c96_i32_1960
  let c0_i32_1967 : BitVec 32 := 0#32
  ![v1925.toNat, 0]

def k0_off287 (v1920 : BitVec 32) : Fin 2 → Nat :=
  let c128_i32_1956 : BitVec 32 := 128#32
  let v1921 : BitVec 32 := Scalar.muli v1920 c128_i32_1956
  let c96_i32_1957 : BitVec 32 := 96#32
  let v1922 : BitVec 32 := Scalar.addi v1921 c96_i32_1957
  let c0_i32_1968 : BitVec 32 := 0#32
  ![v1922.toNat, 0]

def k0_chk288 (v1920 : BitVec 32) : Prop :=
  (∀ a, (k0_off287 v1920) a + S32x4096.size a ≤ S4096x4096.size a) ∧
  (∀ (hinb : ∀ a, (k0_off287 v1920) a + S32x4096.size a ≤ S4096x4096.size a), (Rect.unit (s := S4096x4096) (k0_off287 v1920) S32x4096.size hinb).WholeWords (EltTy.packing .i8))
theorem k0_off287_inb : ∀ (v1920 : BitVec 32) (k0_hw288 : k0_chk288 v1920), ∀ a, (k0_off287 v1920) a + S32x4096.size a ≤ S4096x4096.size a := fun v1920 k0_hw288 => k0_hw288.1
theorem k0_off287_wordsi8 : ∀ (v1920 : BitVec 32) (k0_hw288 : k0_chk288 v1920), (Rect.unit (s := S4096x4096) (k0_off287 v1920) S32x4096.size (k0_off287_inb v1920 k0_hw288)).WholeWords (EltTy.packing .i8) := fun v1920 k0_hw288 => k0_hw288.2 (k0_off287_inb v1920 k0_hw288)

def k0_chk287 (v1923 : BitVec 32) : Prop :=
  (∀ a, (k0_off286 v1923) a + S32x4096.size a ≤ S4096x4096.size a) ∧
  (∀ (hinb : ∀ a, (k0_off286 v1923) a + S32x4096.size a ≤ S4096x4096.size a), (Rect.unit (s := S4096x4096) (k0_off286 v1923) S32x4096.size hinb).WholeWords (EltTy.packing .i8))
theorem k0_off286_inb : ∀ (v1923 : BitVec 32) (k0_hw287 : k0_chk287 v1923), ∀ a, (k0_off286 v1923) a + S32x4096.size a ≤ S4096x4096.size a := fun v1923 k0_hw287 => k0_hw287.1
theorem k0_off286_wordsi8 : ∀ (v1923 : BitVec 32) (k0_hw287 : k0_chk287 v1923), (Rect.unit (s := S4096x4096) (k0_off286 v1923) S32x4096.size (k0_off286_inb v1923 k0_hw287)).WholeWords (EltTy.packing .i8) := fun v1923 k0_hw287 => k0_hw287.2 (k0_off286_inb v1923 k0_hw287)

def k0_off288 (v1935 : BitVec 32) : Fin 2 → Nat :=
  let c128_i32_1973 : BitVec 32 := 128#32
  let v1936 : BitVec 32 := Scalar.muli v1935 c128_i32_1973
  let c96_i32_1974 : BitVec 32 := 96#32
  let v1937 : BitVec 32 := Scalar.addi v1936 c96_i32_1974
  let c0_i32_1981 : BitVec 32 := 0#32
  ![v1937.toNat, 0]

def k0_off289 (v1932 : BitVec 32) : Fin 2 → Nat :=
  let c128_i32_1970 : BitVec 32 := 128#32
  let v1933 : BitVec 32 := Scalar.muli v1932 c128_i32_1970
  let c96_i32_1971 : BitVec 32 := 96#32
  let v1934 : BitVec 32 := Scalar.addi v1933 c96_i32_1971
  let c0_i32_1982 : BitVec 32 := 0#32
  ![v1934.toNat, 0]

def k0_chk290 (v1932 : BitVec 32) : Prop :=
  (∀ a, (k0_off289 v1932) a + S32x4096.size a ≤ S4096x4096.size a) ∧
  (∀ (hinb : ∀ a, (k0_off289 v1932) a + S32x4096.size a ≤ S4096x4096.size a), (Rect.unit (s := S4096x4096) (k0_off289 v1932) S32x4096.size hinb).WholeWords (EltTy.packing .i8))
theorem k0_off289_inb : ∀ (v1932 : BitVec 32) (k0_hw290 : k0_chk290 v1932), ∀ a, (k0_off289 v1932) a + S32x4096.size a ≤ S4096x4096.size a := fun v1932 k0_hw290 => k0_hw290.1
theorem k0_off289_wordsi8 : ∀ (v1932 : BitVec 32) (k0_hw290 : k0_chk290 v1932), (Rect.unit (s := S4096x4096) (k0_off289 v1932) S32x4096.size (k0_off289_inb v1932 k0_hw290)).WholeWords (EltTy.packing .i8) := fun v1932 k0_hw290 => k0_hw290.2 (k0_off289_inb v1932 k0_hw290)

def k0_chk289 (v1935 : BitVec 32) : Prop :=
  (∀ a, (k0_off288 v1935) a + S32x4096.size a ≤ S4096x4096.size a) ∧
  (∀ (hinb : ∀ a, (k0_off288 v1935) a + S32x4096.size a ≤ S4096x4096.size a), (Rect.unit (s := S4096x4096) (k0_off288 v1935) S32x4096.size hinb).WholeWords (EltTy.packing .i8))
theorem k0_off288_inb : ∀ (v1935 : BitVec 32) (k0_hw289 : k0_chk289 v1935), ∀ a, (k0_off288 v1935) a + S32x4096.size a ≤ S4096x4096.size a := fun v1935 k0_hw289 => k0_hw289.1
theorem k0_off288_wordsi8 : ∀ (v1935 : BitVec 32) (k0_hw289 : k0_chk289 v1935), (Rect.unit (s := S4096x4096) (k0_off288 v1935) S32x4096.size (k0_off288_inb v1935 k0_hw289)).WholeWords (EltTy.packing .i8) := fun v1935 k0_hw289 => k0_hw289.2 (k0_off288_inb v1935 k0_hw289)

def k0_dev73 (v3 : BitVec 32) : Nat :=
  let c0_i32_1980 : BitVec 32 := 0#32
  let c1_i32_1979 : BitVec 32 := 1#32
  let v1938 : BitVec 32 := Scalar.muli v3 c1_i32_1979
  let v1939 : BitVec 32 := Scalar.addi c0_i32_1980 v1938
  v1939.toNat
def k0_off290 (v1949 : BitVec 32) : Fin 2 → Nat :=
  let c128_i32_1987 : BitVec 32 := 128#32
  let v1950 : BitVec 32 := Scalar.muli v1949 c128_i32_1987
  let c96_i32_1988 : BitVec 32 := 96#32
  let v1951 : BitVec 32 := Scalar.addi v1950 c96_i32_1988
  let c0_i32_1995 : BitVec 32 := 0#32
  ![v1951.toNat, 0]

def k0_off291 (v1946 : BitVec 32) : Fin 2 → Nat :=
  let c128_i32_1984 : BitVec 32 := 128#32
  let v1947 : BitVec 32 := Scalar.muli v1946 c128_i32_1984
  let c96_i32_1985 : BitVec 32 := 96#32
  let v1948 : BitVec 32 := Scalar.addi v1947 c96_i32_1985
  let c0_i32_1996 : BitVec 32 := 0#32
  ![v1948.toNat, 0]

def k0_chk292 (v1946 : BitVec 32) : Prop :=
  (∀ a, (k0_off291 v1946) a + S32x4096.size a ≤ S4096x4096.size a) ∧
  (∀ (hinb : ∀ a, (k0_off291 v1946) a + S32x4096.size a ≤ S4096x4096.size a), (Rect.unit (s := S4096x4096) (k0_off291 v1946) S32x4096.size hinb).WholeWords (EltTy.packing .i8))
theorem k0_off291_inb : ∀ (v1946 : BitVec 32) (k0_hw292 : k0_chk292 v1946), ∀ a, (k0_off291 v1946) a + S32x4096.size a ≤ S4096x4096.size a := fun v1946 k0_hw292 => k0_hw292.1
theorem k0_off291_wordsi8 : ∀ (v1946 : BitVec 32) (k0_hw292 : k0_chk292 v1946), (Rect.unit (s := S4096x4096) (k0_off291 v1946) S32x4096.size (k0_off291_inb v1946 k0_hw292)).WholeWords (EltTy.packing .i8) := fun v1946 k0_hw292 => k0_hw292.2 (k0_off291_inb v1946 k0_hw292)

def k0_chk291 (v1949 : BitVec 32) : Prop :=
  (∀ a, (k0_off290 v1949) a + S32x4096.size a ≤ S4096x4096.size a) ∧
  (∀ (hinb : ∀ a, (k0_off290 v1949) a + S32x4096.size a ≤ S4096x4096.size a), (Rect.unit (s := S4096x4096) (k0_off290 v1949) S32x4096.size hinb).WholeWords (EltTy.packing .i8))
theorem k0_off290_inb : ∀ (v1949 : BitVec 32) (k0_hw291 : k0_chk291 v1949), ∀ a, (k0_off290 v1949) a + S32x4096.size a ≤ S4096x4096.size a := fun v1949 k0_hw291 => k0_hw291.1
theorem k0_off290_wordsi8 : ∀ (v1949 : BitVec 32) (k0_hw291 : k0_chk291 v1949), (Rect.unit (s := S4096x4096) (k0_off290 v1949) S32x4096.size (k0_off290_inb v1949 k0_hw291)).WholeWords (EltTy.packing .i8) := fun v1949 k0_hw291 => k0_hw291.2 (k0_off290_inb v1949 k0_hw291)

def k0_off292 (v1961 : BitVec 32) : Fin 2 → Nat :=
  let c128_i32_2001 : BitVec 32 := 128#32
  let v1962 : BitVec 32 := Scalar.muli v1961 c128_i32_2001
  let c96_i32_2002 : BitVec 32 := 96#32
  let v1963 : BitVec 32 := Scalar.addi v1962 c96_i32_2002
  let c0_i32_2009 : BitVec 32 := 0#32
  ![v1963.toNat, 0]

def k0_off293 (v1958 : BitVec 32) : Fin 2 → Nat :=
  let c128_i32_1998 : BitVec 32 := 128#32
  let v1959 : BitVec 32 := Scalar.muli v1958 c128_i32_1998
  let c96_i32_1999 : BitVec 32 := 96#32
  let v1960 : BitVec 32 := Scalar.addi v1959 c96_i32_1999
  let c0_i32_2010 : BitVec 32 := 0#32
  ![v1960.toNat, 0]

def k0_chk294 (v1958 : BitVec 32) : Prop :=
  (∀ a, (k0_off293 v1958) a + S32x4096.size a ≤ S4096x4096.size a) ∧
  (∀ (hinb : ∀ a, (k0_off293 v1958) a + S32x4096.size a ≤ S4096x4096.size a), (Rect.unit (s := S4096x4096) (k0_off293 v1958) S32x4096.size hinb).WholeWords (EltTy.packing .i8))
theorem k0_off293_inb : ∀ (v1958 : BitVec 32) (k0_hw294 : k0_chk294 v1958), ∀ a, (k0_off293 v1958) a + S32x4096.size a ≤ S4096x4096.size a := fun v1958 k0_hw294 => k0_hw294.1
theorem k0_off293_wordsi8 : ∀ (v1958 : BitVec 32) (k0_hw294 : k0_chk294 v1958), (Rect.unit (s := S4096x4096) (k0_off293 v1958) S32x4096.size (k0_off293_inb v1958 k0_hw294)).WholeWords (EltTy.packing .i8) := fun v1958 k0_hw294 => k0_hw294.2 (k0_off293_inb v1958 k0_hw294)

def k0_chk293 (v1961 : BitVec 32) : Prop :=
  (∀ a, (k0_off292 v1961) a + S32x4096.size a ≤ S4096x4096.size a) ∧
  (∀ (hinb : ∀ a, (k0_off292 v1961) a + S32x4096.size a ≤ S4096x4096.size a), (Rect.unit (s := S4096x4096) (k0_off292 v1961) S32x4096.size hinb).WholeWords (EltTy.packing .i8))
theorem k0_off292_inb : ∀ (v1961 : BitVec 32) (k0_hw293 : k0_chk293 v1961), ∀ a, (k0_off292 v1961) a + S32x4096.size a ≤ S4096x4096.size a := fun v1961 k0_hw293 => k0_hw293.1
theorem k0_off292_wordsi8 : ∀ (v1961 : BitVec 32) (k0_hw293 : k0_chk293 v1961), (Rect.unit (s := S4096x4096) (k0_off292 v1961) S32x4096.size (k0_off292_inb v1961 k0_hw293)).WholeWords (EltTy.packing .i8) := fun v1961 k0_hw293 => k0_hw293.2 (k0_off292_inb v1961 k0_hw293)

def k0_dev74 (v4 : BitVec 32) : Nat :=
  let c0_i32_2008 : BitVec 32 := 0#32
  let c1_i32_2007 : BitVec 32 := 1#32
  let v1964 : BitVec 32 := Scalar.muli v4 c1_i32_2007
  let v1965 : BitVec 32 := Scalar.addi c0_i32_2008 v1964
  v1965.toNat
def k0_off294 (v1973 : BitVec 32) : Fin 2 → Nat :=
  let c128_i32_2013 : BitVec 32 := 128#32
  let v1974 : BitVec 32 := Scalar.muli v1973 c128_i32_2013
  let v1975 : Index := Scalar.indexCast v1974
  let c0_2014 : Index := 0#32
  ![v1975.toNat, 0]

def k0_chk295 (v1973 : BitVec 32) : Prop :=
  (∀ a, (k0_off294 v1973) a + S128x4096.size a ≤ S4096x4096.size a)
theorem k0_off294_inb : ∀ (v1973 : BitVec 32) (k0_hw295 : k0_chk295 v1973), ∀ a, (k0_off294 v1973) a + S128x4096.size a ≤ S4096x4096.size a := fun v1973 k0_hw295 => k0_hw295

def k0_off295 (v1972 : BitVec 32) : Fin 2 → Nat :=
  let c128_i32_2018 : BitVec 32 := 128#32
  let v1983 : BitVec 32 := Scalar.muli v1972 c128_i32_2018
  let v1984 : Index := Scalar.indexCast v1983
  let c0_2019 : Index := 0#32
  ![v1984.toNat, 0]

def k0_chk296 (v1972 : BitVec 32) : Prop :=
  (∀ a, (k0_off295 v1972) a + S128x64.size a ≤ S4096x64.size a)
theorem k0_off295_inb : ∀ (v1972 : BitVec 32) (k0_hw296 : k0_chk296 v1972), ∀ a, (k0_off295 v1972) a + S128x64.size a ≤ S4096x64.size a := fun v1972 k0_hw296 => k0_hw296

def k0_off296 (v1987 : BitVec 32) : Fin 2 → Nat :=
  let c128_i32_2022 : BitVec 32 := 128#32
  let v1988 : BitVec 32 := Scalar.muli v1987 c128_i32_2022
  let v1989 : Index := Scalar.indexCast v1988
  let c0_2023 : Index := 0#32
  ![v1989.toNat, 0]

def k0_chk297 (v1987 : BitVec 32) : Prop :=
  (∀ a, (k0_off296 v1987) a + S128x4096.size a ≤ S4096x4096.size a)
theorem k0_off296_inb : ∀ (v1987 : BitVec 32) (k0_hw297 : k0_chk297 v1987), ∀ a, (k0_off296 v1987) a + S128x4096.size a ≤ S4096x4096.size a := fun v1987 k0_hw297 => k0_hw297

def k0_off297 (v1986 : BitVec 32) : Fin 2 → Nat :=
  let c128_i32_2027 : BitVec 32 := 128#32
  let v1997 : BitVec 32 := Scalar.muli v1986 c128_i32_2027
  let v1998 : Index := Scalar.indexCast v1997
  let c0_2028 : Index := 0#32
  ![v1998.toNat, 0]

def k0_chk298 (v1986 : BitVec 32) : Prop :=
  (∀ a, (k0_off297 v1986) a + S128x64.size a ≤ S4096x64.size a)
theorem k0_off297_inb : ∀ (v1986 : BitVec 32) (k0_hw298 : k0_chk298 v1986), ∀ a, (k0_off297 v1986) a + S128x64.size a ≤ S4096x64.size a := fun v1986 k0_hw298 => k0_hw298

def k0_off298 (v2003 : BitVec 32) : Fin 2 → Nat :=
  let c128_i32_2033 : BitVec 32 := 128#32
  let v2004 : BitVec 32 := Scalar.muli v2003 c128_i32_2033
  let c0_i32_2034 : BitVec 32 := 0#32
  let v2005 : BitVec 32 := Scalar.addi v2004 c0_i32_2034
  let c0_i32_2041 : BitVec 32 := 0#32
  ![v2005.toNat, 0]

def k0_off299 (v2000 : BitVec 32) : Fin 2 → Nat :=
  let c128_i32_2030 : BitVec 32 := 128#32
  let v2001 : BitVec 32 := Scalar.muli v2000 c128_i32_2030
  let c0_i32_2031 : BitVec 32 := 0#32
  let v2002 : BitVec 32 := Scalar.addi v2001 c0_i32_2031
  let c0_i32_2042 : BitVec 32 := 0#32
  ![v2002.toNat, 0]

def k0_chk300 (v2000 : BitVec 32) : Prop :=
  (∀ a, (k0_off299 v2000) a + S32x4096.size a ≤ S4096x4096.size a) ∧
  (∀ (hinb : ∀ a, (k0_off299 v2000) a + S32x4096.size a ≤ S4096x4096.size a), (Rect.unit (s := S4096x4096) (k0_off299 v2000) S32x4096.size hinb).WholeWords (EltTy.packing .i8))
theorem k0_off299_inb : ∀ (v2000 : BitVec 32) (k0_hw300 : k0_chk300 v2000), ∀ a, (k0_off299 v2000) a + S32x4096.size a ≤ S4096x4096.size a := fun v2000 k0_hw300 => k0_hw300.1
theorem k0_off299_wordsi8 : ∀ (v2000 : BitVec 32) (k0_hw300 : k0_chk300 v2000), (Rect.unit (s := S4096x4096) (k0_off299 v2000) S32x4096.size (k0_off299_inb v2000 k0_hw300)).WholeWords (EltTy.packing .i8) := fun v2000 k0_hw300 => k0_hw300.2 (k0_off299_inb v2000 k0_hw300)

def k0_chk299 (v2003 : BitVec 32) : Prop :=
  (∀ a, (k0_off298 v2003) a + S32x4096.size a ≤ S4096x4096.size a) ∧
  (∀ (hinb : ∀ a, (k0_off298 v2003) a + S32x4096.size a ≤ S4096x4096.size a), (Rect.unit (s := S4096x4096) (k0_off298 v2003) S32x4096.size hinb).WholeWords (EltTy.packing .i8))
theorem k0_off298_inb : ∀ (v2003 : BitVec 32) (k0_hw299 : k0_chk299 v2003), ∀ a, (k0_off298 v2003) a + S32x4096.size a ≤ S4096x4096.size a := fun v2003 k0_hw299 => k0_hw299.1
theorem k0_off298_wordsi8 : ∀ (v2003 : BitVec 32) (k0_hw299 : k0_chk299 v2003), (Rect.unit (s := S4096x4096) (k0_off298 v2003) S32x4096.size (k0_off298_inb v2003 k0_hw299)).WholeWords (EltTy.packing .i8) := fun v2003 k0_hw299 => k0_hw299.2 (k0_off298_inb v2003 k0_hw299)

def k0_off300 (v2015 : BitVec 32) : Fin 2 → Nat :=
  let c128_i32_2046 : BitVec 32 := 128#32
  let v2016 : BitVec 32 := Scalar.muli v2015 c128_i32_2046
  let c0_i32_2047 : BitVec 32 := 0#32
  let v2017 : BitVec 32 := Scalar.addi v2016 c0_i32_2047
  let c0_i32_2053 : BitVec 32 := 0#32
  ![v2017.toNat, 0]

def k0_off301 (v2012 : BitVec 32) : Fin 2 → Nat :=
  let c128_i32_2043 : BitVec 32 := 128#32
  let v2013 : BitVec 32 := Scalar.muli v2012 c128_i32_2043
  let c0_i32_2044 : BitVec 32 := 0#32
  let v2014 : BitVec 32 := Scalar.addi v2013 c0_i32_2044
  let c0_i32_2054 : BitVec 32 := 0#32
  ![v2014.toNat, 0]

def k0_chk302 (v2012 : BitVec 32) : Prop :=
  (∀ a, (k0_off301 v2012) a + S32x4096.size a ≤ S4096x4096.size a) ∧
  (∀ (hinb : ∀ a, (k0_off301 v2012) a + S32x4096.size a ≤ S4096x4096.size a), (Rect.unit (s := S4096x4096) (k0_off301 v2012) S32x4096.size hinb).WholeWords (EltTy.packing .i8))
theorem k0_off301_inb : ∀ (v2012 : BitVec 32) (k0_hw302 : k0_chk302 v2012), ∀ a, (k0_off301 v2012) a + S32x4096.size a ≤ S4096x4096.size a := fun v2012 k0_hw302 => k0_hw302.1
theorem k0_off301_wordsi8 : ∀ (v2012 : BitVec 32) (k0_hw302 : k0_chk302 v2012), (Rect.unit (s := S4096x4096) (k0_off301 v2012) S32x4096.size (k0_off301_inb v2012 k0_hw302)).WholeWords (EltTy.packing .i8) := fun v2012 k0_hw302 => k0_hw302.2 (k0_off301_inb v2012 k0_hw302)

def k0_chk301 (v2015 : BitVec 32) : Prop :=
  (∀ a, (k0_off300 v2015) a + S32x4096.size a ≤ S4096x4096.size a) ∧
  (∀ (hinb : ∀ a, (k0_off300 v2015) a + S32x4096.size a ≤ S4096x4096.size a), (Rect.unit (s := S4096x4096) (k0_off300 v2015) S32x4096.size hinb).WholeWords (EltTy.packing .i8))
theorem k0_off300_inb : ∀ (v2015 : BitVec 32) (k0_hw301 : k0_chk301 v2015), ∀ a, (k0_off300 v2015) a + S32x4096.size a ≤ S4096x4096.size a := fun v2015 k0_hw301 => k0_hw301.1
theorem k0_off300_wordsi8 : ∀ (v2015 : BitVec 32) (k0_hw301 : k0_chk301 v2015), (Rect.unit (s := S4096x4096) (k0_off300 v2015) S32x4096.size (k0_off300_inb v2015 k0_hw301)).WholeWords (EltTy.packing .i8) := fun v2015 k0_hw301 => k0_hw301.2 (k0_off300_inb v2015 k0_hw301)

def k0_dev75 (v3 : BitVec 32) : Nat :=
  let c0_i32_2052 : BitVec 32 := 0#32
  let c1_i32_2051 : BitVec 32 := 1#32
  let v2018 : BitVec 32 := Scalar.muli v3 c1_i32_2051
  let v2019 : BitVec 32 := Scalar.addi c0_i32_2052 v2018
  v2019.toNat
def k0_off302 (v2029 : BitVec 32) : Fin 2 → Nat :=
  let c128_i32_2059 : BitVec 32 := 128#32
  let v2030 : BitVec 32 := Scalar.muli v2029 c128_i32_2059
  let c0_i32_2060 : BitVec 32 := 0#32
  let v2031 : BitVec 32 := Scalar.addi v2030 c0_i32_2060
  let c0_i32_2067 : BitVec 32 := 0#32
  ![v2031.toNat, 0]

def k0_off303 (v2026 : BitVec 32) : Fin 2 → Nat :=
  let c128_i32_2056 : BitVec 32 := 128#32
  let v2027 : BitVec 32 := Scalar.muli v2026 c128_i32_2056
  let c0_i32_2057 : BitVec 32 := 0#32
  let v2028 : BitVec 32 := Scalar.addi v2027 c0_i32_2057
  let c0_i32_2068 : BitVec 32 := 0#32
  ![v2028.toNat, 0]

def k0_chk304 (v2026 : BitVec 32) : Prop :=
  (∀ a, (k0_off303 v2026) a + S32x4096.size a ≤ S4096x4096.size a) ∧
  (∀ (hinb : ∀ a, (k0_off303 v2026) a + S32x4096.size a ≤ S4096x4096.size a), (Rect.unit (s := S4096x4096) (k0_off303 v2026) S32x4096.size hinb).WholeWords (EltTy.packing .i8))
theorem k0_off303_inb : ∀ (v2026 : BitVec 32) (k0_hw304 : k0_chk304 v2026), ∀ a, (k0_off303 v2026) a + S32x4096.size a ≤ S4096x4096.size a := fun v2026 k0_hw304 => k0_hw304.1
theorem k0_off303_wordsi8 : ∀ (v2026 : BitVec 32) (k0_hw304 : k0_chk304 v2026), (Rect.unit (s := S4096x4096) (k0_off303 v2026) S32x4096.size (k0_off303_inb v2026 k0_hw304)).WholeWords (EltTy.packing .i8) := fun v2026 k0_hw304 => k0_hw304.2 (k0_off303_inb v2026 k0_hw304)

def k0_chk303 (v2029 : BitVec 32) : Prop :=
  (∀ a, (k0_off302 v2029) a + S32x4096.size a ≤ S4096x4096.size a) ∧
  (∀ (hinb : ∀ a, (k0_off302 v2029) a + S32x4096.size a ≤ S4096x4096.size a), (Rect.unit (s := S4096x4096) (k0_off302 v2029) S32x4096.size hinb).WholeWords (EltTy.packing .i8))
theorem k0_off302_inb : ∀ (v2029 : BitVec 32) (k0_hw303 : k0_chk303 v2029), ∀ a, (k0_off302 v2029) a + S32x4096.size a ≤ S4096x4096.size a := fun v2029 k0_hw303 => k0_hw303.1
theorem k0_off302_wordsi8 : ∀ (v2029 : BitVec 32) (k0_hw303 : k0_chk303 v2029), (Rect.unit (s := S4096x4096) (k0_off302 v2029) S32x4096.size (k0_off302_inb v2029 k0_hw303)).WholeWords (EltTy.packing .i8) := fun v2029 k0_hw303 => k0_hw303.2 (k0_off302_inb v2029 k0_hw303)

def k0_off304 (v2041 : BitVec 32) : Fin 2 → Nat :=
  let c128_i32_2073 : BitVec 32 := 128#32
  let v2042 : BitVec 32 := Scalar.muli v2041 c128_i32_2073
  let c0_i32_2074 : BitVec 32 := 0#32
  let v2043 : BitVec 32 := Scalar.addi v2042 c0_i32_2074
  let c0_i32_2081 : BitVec 32 := 0#32
  ![v2043.toNat, 0]

def k0_off305 (v2038 : BitVec 32) : Fin 2 → Nat :=
  let c128_i32_2070 : BitVec 32 := 128#32
  let v2039 : BitVec 32 := Scalar.muli v2038 c128_i32_2070
  let c0_i32_2071 : BitVec 32 := 0#32
  let v2040 : BitVec 32 := Scalar.addi v2039 c0_i32_2071
  let c0_i32_2082 : BitVec 32 := 0#32
  ![v2040.toNat, 0]

def k0_chk306 (v2038 : BitVec 32) : Prop :=
  (∀ a, (k0_off305 v2038) a + S32x4096.size a ≤ S4096x4096.size a) ∧
  (∀ (hinb : ∀ a, (k0_off305 v2038) a + S32x4096.size a ≤ S4096x4096.size a), (Rect.unit (s := S4096x4096) (k0_off305 v2038) S32x4096.size hinb).WholeWords (EltTy.packing .i8))
theorem k0_off305_inb : ∀ (v2038 : BitVec 32) (k0_hw306 : k0_chk306 v2038), ∀ a, (k0_off305 v2038) a + S32x4096.size a ≤ S4096x4096.size a := fun v2038 k0_hw306 => k0_hw306.1
theorem k0_off305_wordsi8 : ∀ (v2038 : BitVec 32) (k0_hw306 : k0_chk306 v2038), (Rect.unit (s := S4096x4096) (k0_off305 v2038) S32x4096.size (k0_off305_inb v2038 k0_hw306)).WholeWords (EltTy.packing .i8) := fun v2038 k0_hw306 => k0_hw306.2 (k0_off305_inb v2038 k0_hw306)

def k0_chk305 (v2041 : BitVec 32) : Prop :=
  (∀ a, (k0_off304 v2041) a + S32x4096.size a ≤ S4096x4096.size a) ∧
  (∀ (hinb : ∀ a, (k0_off304 v2041) a + S32x4096.size a ≤ S4096x4096.size a), (Rect.unit (s := S4096x4096) (k0_off304 v2041) S32x4096.size hinb).WholeWords (EltTy.packing .i8))
theorem k0_off304_inb : ∀ (v2041 : BitVec 32) (k0_hw305 : k0_chk305 v2041), ∀ a, (k0_off304 v2041) a + S32x4096.size a ≤ S4096x4096.size a := fun v2041 k0_hw305 => k0_hw305.1
theorem k0_off304_wordsi8 : ∀ (v2041 : BitVec 32) (k0_hw305 : k0_chk305 v2041), (Rect.unit (s := S4096x4096) (k0_off304 v2041) S32x4096.size (k0_off304_inb v2041 k0_hw305)).WholeWords (EltTy.packing .i8) := fun v2041 k0_hw305 => k0_hw305.2 (k0_off304_inb v2041 k0_hw305)

def k0_dev76 (v4 : BitVec 32) : Nat :=
  let c0_i32_2080 : BitVec 32 := 0#32
  let c1_i32_2079 : BitVec 32 := 1#32
  let v2044 : BitVec 32 := Scalar.muli v4 c1_i32_2079
  let v2045 : BitVec 32 := Scalar.addi c0_i32_2080 v2044
  v2045.toNat
def k0_off306 (v2055 : BitVec 32) : Fin 2 → Nat :=
  let c128_i32_2087 : BitVec 32 := 128#32
  let v2056 : BitVec 32 := Scalar.muli v2055 c128_i32_2087
  let c32_i32_2088 : BitVec 32 := 32#32
  let v2057 : BitVec 32 := Scalar.addi v2056 c32_i32_2088
  let c0_i32_2095 : BitVec 32 := 0#32
  ![v2057.toNat, 0]

def k0_off307 (v2052 : BitVec 32) : Fin 2 → Nat :=
  let c128_i32_2084 : BitVec 32 := 128#32
  let v2053 : BitVec 32 := Scalar.muli v2052 c128_i32_2084
  let c32_i32_2085 : BitVec 32 := 32#32
  let v2054 : BitVec 32 := Scalar.addi v2053 c32_i32_2085
  let c0_i32_2096 : BitVec 32 := 0#32
  ![v2054.toNat, 0]

def k0_chk308 (v2052 : BitVec 32) : Prop :=
  (∀ a, (k0_off307 v2052) a + S32x4096.size a ≤ S4096x4096.size a) ∧
  (∀ (hinb : ∀ a, (k0_off307 v2052) a + S32x4096.size a ≤ S4096x4096.size a), (Rect.unit (s := S4096x4096) (k0_off307 v2052) S32x4096.size hinb).WholeWords (EltTy.packing .i8))
theorem k0_off307_inb : ∀ (v2052 : BitVec 32) (k0_hw308 : k0_chk308 v2052), ∀ a, (k0_off307 v2052) a + S32x4096.size a ≤ S4096x4096.size a := fun v2052 k0_hw308 => k0_hw308.1
theorem k0_off307_wordsi8 : ∀ (v2052 : BitVec 32) (k0_hw308 : k0_chk308 v2052), (Rect.unit (s := S4096x4096) (k0_off307 v2052) S32x4096.size (k0_off307_inb v2052 k0_hw308)).WholeWords (EltTy.packing .i8) := fun v2052 k0_hw308 => k0_hw308.2 (k0_off307_inb v2052 k0_hw308)

def k0_chk307 (v2055 : BitVec 32) : Prop :=
  (∀ a, (k0_off306 v2055) a + S32x4096.size a ≤ S4096x4096.size a) ∧
  (∀ (hinb : ∀ a, (k0_off306 v2055) a + S32x4096.size a ≤ S4096x4096.size a), (Rect.unit (s := S4096x4096) (k0_off306 v2055) S32x4096.size hinb).WholeWords (EltTy.packing .i8))
theorem k0_off306_inb : ∀ (v2055 : BitVec 32) (k0_hw307 : k0_chk307 v2055), ∀ a, (k0_off306 v2055) a + S32x4096.size a ≤ S4096x4096.size a := fun v2055 k0_hw307 => k0_hw307.1
theorem k0_off306_wordsi8 : ∀ (v2055 : BitVec 32) (k0_hw307 : k0_chk307 v2055), (Rect.unit (s := S4096x4096) (k0_off306 v2055) S32x4096.size (k0_off306_inb v2055 k0_hw307)).WholeWords (EltTy.packing .i8) := fun v2055 k0_hw307 => k0_hw307.2 (k0_off306_inb v2055 k0_hw307)

def k0_off308 (v2067 : BitVec 32) : Fin 2 → Nat :=
  let c128_i32_2101 : BitVec 32 := 128#32
  let v2068 : BitVec 32 := Scalar.muli v2067 c128_i32_2101
  let c32_i32_2102 : BitVec 32 := 32#32
  let v2069 : BitVec 32 := Scalar.addi v2068 c32_i32_2102
  let c0_i32_2109 : BitVec 32 := 0#32
  ![v2069.toNat, 0]

def k0_off309 (v2064 : BitVec 32) : Fin 2 → Nat :=
  let c128_i32_2098 : BitVec 32 := 128#32
  let v2065 : BitVec 32 := Scalar.muli v2064 c128_i32_2098
  let c32_i32_2099 : BitVec 32 := 32#32
  let v2066 : BitVec 32 := Scalar.addi v2065 c32_i32_2099
  let c0_i32_2110 : BitVec 32 := 0#32
  ![v2066.toNat, 0]

def k0_chk310 (v2064 : BitVec 32) : Prop :=
  (∀ a, (k0_off309 v2064) a + S32x4096.size a ≤ S4096x4096.size a) ∧
  (∀ (hinb : ∀ a, (k0_off309 v2064) a + S32x4096.size a ≤ S4096x4096.size a), (Rect.unit (s := S4096x4096) (k0_off309 v2064) S32x4096.size hinb).WholeWords (EltTy.packing .i8))
theorem k0_off309_inb : ∀ (v2064 : BitVec 32) (k0_hw310 : k0_chk310 v2064), ∀ a, (k0_off309 v2064) a + S32x4096.size a ≤ S4096x4096.size a := fun v2064 k0_hw310 => k0_hw310.1
theorem k0_off309_wordsi8 : ∀ (v2064 : BitVec 32) (k0_hw310 : k0_chk310 v2064), (Rect.unit (s := S4096x4096) (k0_off309 v2064) S32x4096.size (k0_off309_inb v2064 k0_hw310)).WholeWords (EltTy.packing .i8) := fun v2064 k0_hw310 => k0_hw310.2 (k0_off309_inb v2064 k0_hw310)

def k0_chk309 (v2067 : BitVec 32) : Prop :=
  (∀ a, (k0_off308 v2067) a + S32x4096.size a ≤ S4096x4096.size a) ∧
  (∀ (hinb : ∀ a, (k0_off308 v2067) a + S32x4096.size a ≤ S4096x4096.size a), (Rect.unit (s := S4096x4096) (k0_off308 v2067) S32x4096.size hinb).WholeWords (EltTy.packing .i8))
theorem k0_off308_inb : ∀ (v2067 : BitVec 32) (k0_hw309 : k0_chk309 v2067), ∀ a, (k0_off308 v2067) a + S32x4096.size a ≤ S4096x4096.size a := fun v2067 k0_hw309 => k0_hw309.1
theorem k0_off308_wordsi8 : ∀ (v2067 : BitVec 32) (k0_hw309 : k0_chk309 v2067), (Rect.unit (s := S4096x4096) (k0_off308 v2067) S32x4096.size (k0_off308_inb v2067 k0_hw309)).WholeWords (EltTy.packing .i8) := fun v2067 k0_hw309 => k0_hw309.2 (k0_off308_inb v2067 k0_hw309)

def k0_dev77 (v3 : BitVec 32) : Nat :=
  let c0_i32_2108 : BitVec 32 := 0#32
  let c1_i32_2107 : BitVec 32 := 1#32
  let v2070 : BitVec 32 := Scalar.muli v3 c1_i32_2107
  let v2071 : BitVec 32 := Scalar.addi c0_i32_2108 v2070
  v2071.toNat
def k0_off310 (v2081 : BitVec 32) : Fin 2 → Nat :=
  let c128_i32_2115 : BitVec 32 := 128#32
  let v2082 : BitVec 32 := Scalar.muli v2081 c128_i32_2115
  let c32_i32_2116 : BitVec 32 := 32#32
  let v2083 : BitVec 32 := Scalar.addi v2082 c32_i32_2116
  let c0_i32_2123 : BitVec 32 := 0#32
  ![v2083.toNat, 0]

def k0_off311 (v2078 : BitVec 32) : Fin 2 → Nat :=
  let c128_i32_2112 : BitVec 32 := 128#32
  let v2079 : BitVec 32 := Scalar.muli v2078 c128_i32_2112
  let c32_i32_2113 : BitVec 32 := 32#32
  let v2080 : BitVec 32 := Scalar.addi v2079 c32_i32_2113
  let c0_i32_2124 : BitVec 32 := 0#32
  ![v2080.toNat, 0]

def k0_chk312 (v2078 : BitVec 32) : Prop :=
  (∀ a, (k0_off311 v2078) a + S32x4096.size a ≤ S4096x4096.size a) ∧
  (∀ (hinb : ∀ a, (k0_off311 v2078) a + S32x4096.size a ≤ S4096x4096.size a), (Rect.unit (s := S4096x4096) (k0_off311 v2078) S32x4096.size hinb).WholeWords (EltTy.packing .i8))
theorem k0_off311_inb : ∀ (v2078 : BitVec 32) (k0_hw312 : k0_chk312 v2078), ∀ a, (k0_off311 v2078) a + S32x4096.size a ≤ S4096x4096.size a := fun v2078 k0_hw312 => k0_hw312.1
theorem k0_off311_wordsi8 : ∀ (v2078 : BitVec 32) (k0_hw312 : k0_chk312 v2078), (Rect.unit (s := S4096x4096) (k0_off311 v2078) S32x4096.size (k0_off311_inb v2078 k0_hw312)).WholeWords (EltTy.packing .i8) := fun v2078 k0_hw312 => k0_hw312.2 (k0_off311_inb v2078 k0_hw312)

def k0_chk311 (v2081 : BitVec 32) : Prop :=
  (∀ a, (k0_off310 v2081) a + S32x4096.size a ≤ S4096x4096.size a) ∧
  (∀ (hinb : ∀ a, (k0_off310 v2081) a + S32x4096.size a ≤ S4096x4096.size a), (Rect.unit (s := S4096x4096) (k0_off310 v2081) S32x4096.size hinb).WholeWords (EltTy.packing .i8))
theorem k0_off310_inb : ∀ (v2081 : BitVec 32) (k0_hw311 : k0_chk311 v2081), ∀ a, (k0_off310 v2081) a + S32x4096.size a ≤ S4096x4096.size a := fun v2081 k0_hw311 => k0_hw311.1
theorem k0_off310_wordsi8 : ∀ (v2081 : BitVec 32) (k0_hw311 : k0_chk311 v2081), (Rect.unit (s := S4096x4096) (k0_off310 v2081) S32x4096.size (k0_off310_inb v2081 k0_hw311)).WholeWords (EltTy.packing .i8) := fun v2081 k0_hw311 => k0_hw311.2 (k0_off310_inb v2081 k0_hw311)

def k0_off312 (v2093 : BitVec 32) : Fin 2 → Nat :=
  let c128_i32_2129 : BitVec 32 := 128#32
  let v2094 : BitVec 32 := Scalar.muli v2093 c128_i32_2129
  let c32_i32_2130 : BitVec 32 := 32#32
  let v2095 : BitVec 32 := Scalar.addi v2094 c32_i32_2130
  let c0_i32_2137 : BitVec 32 := 0#32
  ![v2095.toNat, 0]

def k0_off313 (v2090 : BitVec 32) : Fin 2 → Nat :=
  let c128_i32_2126 : BitVec 32 := 128#32
  let v2091 : BitVec 32 := Scalar.muli v2090 c128_i32_2126
  let c32_i32_2127 : BitVec 32 := 32#32
  let v2092 : BitVec 32 := Scalar.addi v2091 c32_i32_2127
  let c0_i32_2138 : BitVec 32 := 0#32
  ![v2092.toNat, 0]

def k0_chk314 (v2090 : BitVec 32) : Prop :=
  (∀ a, (k0_off313 v2090) a + S32x4096.size a ≤ S4096x4096.size a) ∧
  (∀ (hinb : ∀ a, (k0_off313 v2090) a + S32x4096.size a ≤ S4096x4096.size a), (Rect.unit (s := S4096x4096) (k0_off313 v2090) S32x4096.size hinb).WholeWords (EltTy.packing .i8))
theorem k0_off313_inb : ∀ (v2090 : BitVec 32) (k0_hw314 : k0_chk314 v2090), ∀ a, (k0_off313 v2090) a + S32x4096.size a ≤ S4096x4096.size a := fun v2090 k0_hw314 => k0_hw314.1
theorem k0_off313_wordsi8 : ∀ (v2090 : BitVec 32) (k0_hw314 : k0_chk314 v2090), (Rect.unit (s := S4096x4096) (k0_off313 v2090) S32x4096.size (k0_off313_inb v2090 k0_hw314)).WholeWords (EltTy.packing .i8) := fun v2090 k0_hw314 => k0_hw314.2 (k0_off313_inb v2090 k0_hw314)

def k0_chk313 (v2093 : BitVec 32) : Prop :=
  (∀ a, (k0_off312 v2093) a + S32x4096.size a ≤ S4096x4096.size a) ∧
  (∀ (hinb : ∀ a, (k0_off312 v2093) a + S32x4096.size a ≤ S4096x4096.size a), (Rect.unit (s := S4096x4096) (k0_off312 v2093) S32x4096.size hinb).WholeWords (EltTy.packing .i8))
theorem k0_off312_inb : ∀ (v2093 : BitVec 32) (k0_hw313 : k0_chk313 v2093), ∀ a, (k0_off312 v2093) a + S32x4096.size a ≤ S4096x4096.size a := fun v2093 k0_hw313 => k0_hw313.1
theorem k0_off312_wordsi8 : ∀ (v2093 : BitVec 32) (k0_hw313 : k0_chk313 v2093), (Rect.unit (s := S4096x4096) (k0_off312 v2093) S32x4096.size (k0_off312_inb v2093 k0_hw313)).WholeWords (EltTy.packing .i8) := fun v2093 k0_hw313 => k0_hw313.2 (k0_off312_inb v2093 k0_hw313)

def k0_dev78 (v4 : BitVec 32) : Nat :=
  let c0_i32_2136 : BitVec 32 := 0#32
  let c1_i32_2135 : BitVec 32 := 1#32
  let v2096 : BitVec 32 := Scalar.muli v4 c1_i32_2135
  let v2097 : BitVec 32 := Scalar.addi c0_i32_2136 v2096
  v2097.toNat
def k0_off314 (v2107 : BitVec 32) : Fin 2 → Nat :=
  let c128_i32_2143 : BitVec 32 := 128#32
  let v2108 : BitVec 32 := Scalar.muli v2107 c128_i32_2143
  let c64_i32_2144 : BitVec 32 := 64#32
  let v2109 : BitVec 32 := Scalar.addi v2108 c64_i32_2144
  let c0_i32_2151 : BitVec 32 := 0#32
  ![v2109.toNat, 0]

def k0_off315 (v2104 : BitVec 32) : Fin 2 → Nat :=
  let c128_i32_2140 : BitVec 32 := 128#32
  let v2105 : BitVec 32 := Scalar.muli v2104 c128_i32_2140
  let c64_i32_2141 : BitVec 32 := 64#32
  let v2106 : BitVec 32 := Scalar.addi v2105 c64_i32_2141
  let c0_i32_2152 : BitVec 32 := 0#32
  ![v2106.toNat, 0]

def k0_chk316 (v2104 : BitVec 32) : Prop :=
  (∀ a, (k0_off315 v2104) a + S32x4096.size a ≤ S4096x4096.size a) ∧
  (∀ (hinb : ∀ a, (k0_off315 v2104) a + S32x4096.size a ≤ S4096x4096.size a), (Rect.unit (s := S4096x4096) (k0_off315 v2104) S32x4096.size hinb).WholeWords (EltTy.packing .i8))
theorem k0_off315_inb : ∀ (v2104 : BitVec 32) (k0_hw316 : k0_chk316 v2104), ∀ a, (k0_off315 v2104) a + S32x4096.size a ≤ S4096x4096.size a := fun v2104 k0_hw316 => k0_hw316.1
theorem k0_off315_wordsi8 : ∀ (v2104 : BitVec 32) (k0_hw316 : k0_chk316 v2104), (Rect.unit (s := S4096x4096) (k0_off315 v2104) S32x4096.size (k0_off315_inb v2104 k0_hw316)).WholeWords (EltTy.packing .i8) := fun v2104 k0_hw316 => k0_hw316.2 (k0_off315_inb v2104 k0_hw316)

def k0_chk315 (v2107 : BitVec 32) : Prop :=
  (∀ a, (k0_off314 v2107) a + S32x4096.size a ≤ S4096x4096.size a) ∧
  (∀ (hinb : ∀ a, (k0_off314 v2107) a + S32x4096.size a ≤ S4096x4096.size a), (Rect.unit (s := S4096x4096) (k0_off314 v2107) S32x4096.size hinb).WholeWords (EltTy.packing .i8))
theorem k0_off314_inb : ∀ (v2107 : BitVec 32) (k0_hw315 : k0_chk315 v2107), ∀ a, (k0_off314 v2107) a + S32x4096.size a ≤ S4096x4096.size a := fun v2107 k0_hw315 => k0_hw315.1
theorem k0_off314_wordsi8 : ∀ (v2107 : BitVec 32) (k0_hw315 : k0_chk315 v2107), (Rect.unit (s := S4096x4096) (k0_off314 v2107) S32x4096.size (k0_off314_inb v2107 k0_hw315)).WholeWords (EltTy.packing .i8) := fun v2107 k0_hw315 => k0_hw315.2 (k0_off314_inb v2107 k0_hw315)

def k0_off316 (v2119 : BitVec 32) : Fin 2 → Nat :=
  let c128_i32_2157 : BitVec 32 := 128#32
  let v2120 : BitVec 32 := Scalar.muli v2119 c128_i32_2157
  let c64_i32_2158 : BitVec 32 := 64#32
  let v2121 : BitVec 32 := Scalar.addi v2120 c64_i32_2158
  let c0_i32_2165 : BitVec 32 := 0#32
  ![v2121.toNat, 0]

def k0_off317 (v2116 : BitVec 32) : Fin 2 → Nat :=
  let c128_i32_2154 : BitVec 32 := 128#32
  let v2117 : BitVec 32 := Scalar.muli v2116 c128_i32_2154
  let c64_i32_2155 : BitVec 32 := 64#32
  let v2118 : BitVec 32 := Scalar.addi v2117 c64_i32_2155
  let c0_i32_2166 : BitVec 32 := 0#32
  ![v2118.toNat, 0]

def k0_chk318 (v2116 : BitVec 32) : Prop :=
  (∀ a, (k0_off317 v2116) a + S32x4096.size a ≤ S4096x4096.size a) ∧
  (∀ (hinb : ∀ a, (k0_off317 v2116) a + S32x4096.size a ≤ S4096x4096.size a), (Rect.unit (s := S4096x4096) (k0_off317 v2116) S32x4096.size hinb).WholeWords (EltTy.packing .i8))
theorem k0_off317_inb : ∀ (v2116 : BitVec 32) (k0_hw318 : k0_chk318 v2116), ∀ a, (k0_off317 v2116) a + S32x4096.size a ≤ S4096x4096.size a := fun v2116 k0_hw318 => k0_hw318.1
theorem k0_off317_wordsi8 : ∀ (v2116 : BitVec 32) (k0_hw318 : k0_chk318 v2116), (Rect.unit (s := S4096x4096) (k0_off317 v2116) S32x4096.size (k0_off317_inb v2116 k0_hw318)).WholeWords (EltTy.packing .i8) := fun v2116 k0_hw318 => k0_hw318.2 (k0_off317_inb v2116 k0_hw318)

def k0_chk317 (v2119 : BitVec 32) : Prop :=
  (∀ a, (k0_off316 v2119) a + S32x4096.size a ≤ S4096x4096.size a) ∧
  (∀ (hinb : ∀ a, (k0_off316 v2119) a + S32x4096.size a ≤ S4096x4096.size a), (Rect.unit (s := S4096x4096) (k0_off316 v2119) S32x4096.size hinb).WholeWords (EltTy.packing .i8))
theorem k0_off316_inb : ∀ (v2119 : BitVec 32) (k0_hw317 : k0_chk317 v2119), ∀ a, (k0_off316 v2119) a + S32x4096.size a ≤ S4096x4096.size a := fun v2119 k0_hw317 => k0_hw317.1
theorem k0_off316_wordsi8 : ∀ (v2119 : BitVec 32) (k0_hw317 : k0_chk317 v2119), (Rect.unit (s := S4096x4096) (k0_off316 v2119) S32x4096.size (k0_off316_inb v2119 k0_hw317)).WholeWords (EltTy.packing .i8) := fun v2119 k0_hw317 => k0_hw317.2 (k0_off316_inb v2119 k0_hw317)

def k0_dev79 (v3 : BitVec 32) : Nat :=
  let c0_i32_2164 : BitVec 32 := 0#32
  let c1_i32_2163 : BitVec 32 := 1#32
  let v2122 : BitVec 32 := Scalar.muli v3 c1_i32_2163
  let v2123 : BitVec 32 := Scalar.addi c0_i32_2164 v2122
  v2123.toNat
def k0_off318 (v2133 : BitVec 32) : Fin 2 → Nat :=
  let c128_i32_2171 : BitVec 32 := 128#32
  let v2134 : BitVec 32 := Scalar.muli v2133 c128_i32_2171
  let c64_i32_2172 : BitVec 32 := 64#32
  let v2135 : BitVec 32 := Scalar.addi v2134 c64_i32_2172
  let c0_i32_2179 : BitVec 32 := 0#32
  ![v2135.toNat, 0]

def k0_off319 (v2130 : BitVec 32) : Fin 2 → Nat :=
  let c128_i32_2168 : BitVec 32 := 128#32
  let v2131 : BitVec 32 := Scalar.muli v2130 c128_i32_2168
  let c64_i32_2169 : BitVec 32 := 64#32
  let v2132 : BitVec 32 := Scalar.addi v2131 c64_i32_2169
  let c0_i32_2180 : BitVec 32 := 0#32
  ![v2132.toNat, 0]

def k0_chk320 (v2130 : BitVec 32) : Prop :=
  (∀ a, (k0_off319 v2130) a + S32x4096.size a ≤ S4096x4096.size a) ∧
  (∀ (hinb : ∀ a, (k0_off319 v2130) a + S32x4096.size a ≤ S4096x4096.size a), (Rect.unit (s := S4096x4096) (k0_off319 v2130) S32x4096.size hinb).WholeWords (EltTy.packing .i8))
theorem k0_off319_inb : ∀ (v2130 : BitVec 32) (k0_hw320 : k0_chk320 v2130), ∀ a, (k0_off319 v2130) a + S32x4096.size a ≤ S4096x4096.size a := fun v2130 k0_hw320 => k0_hw320.1
theorem k0_off319_wordsi8 : ∀ (v2130 : BitVec 32) (k0_hw320 : k0_chk320 v2130), (Rect.unit (s := S4096x4096) (k0_off319 v2130) S32x4096.size (k0_off319_inb v2130 k0_hw320)).WholeWords (EltTy.packing .i8) := fun v2130 k0_hw320 => k0_hw320.2 (k0_off319_inb v2130 k0_hw320)

def k0_chk319 (v2133 : BitVec 32) : Prop :=
  (∀ a, (k0_off318 v2133) a + S32x4096.size a ≤ S4096x4096.size a) ∧
  (∀ (hinb : ∀ a, (k0_off318 v2133) a + S32x4096.size a ≤ S4096x4096.size a), (Rect.unit (s := S4096x4096) (k0_off318 v2133) S32x4096.size hinb).WholeWords (EltTy.packing .i8))
theorem k0_off318_inb : ∀ (v2133 : BitVec 32) (k0_hw319 : k0_chk319 v2133), ∀ a, (k0_off318 v2133) a + S32x4096.size a ≤ S4096x4096.size a := fun v2133 k0_hw319 => k0_hw319.1
theorem k0_off318_wordsi8 : ∀ (v2133 : BitVec 32) (k0_hw319 : k0_chk319 v2133), (Rect.unit (s := S4096x4096) (k0_off318 v2133) S32x4096.size (k0_off318_inb v2133 k0_hw319)).WholeWords (EltTy.packing .i8) := fun v2133 k0_hw319 => k0_hw319.2 (k0_off318_inb v2133 k0_hw319)

def k0_off320 (v2145 : BitVec 32) : Fin 2 → Nat :=
  let c128_i32_2185 : BitVec 32 := 128#32
  let v2146 : BitVec 32 := Scalar.muli v2145 c128_i32_2185
  let c64_i32_2186 : BitVec 32 := 64#32
  let v2147 : BitVec 32 := Scalar.addi v2146 c64_i32_2186
  let c0_i32_2193 : BitVec 32 := 0#32
  ![v2147.toNat, 0]

def k0_off321 (v2142 : BitVec 32) : Fin 2 → Nat :=
  let c128_i32_2182 : BitVec 32 := 128#32
  let v2143 : BitVec 32 := Scalar.muli v2142 c128_i32_2182
  let c64_i32_2183 : BitVec 32 := 64#32
  let v2144 : BitVec 32 := Scalar.addi v2143 c64_i32_2183
  let c0_i32_2194 : BitVec 32 := 0#32
  ![v2144.toNat, 0]

def k0_chk322 (v2142 : BitVec 32) : Prop :=
  (∀ a, (k0_off321 v2142) a + S32x4096.size a ≤ S4096x4096.size a) ∧
  (∀ (hinb : ∀ a, (k0_off321 v2142) a + S32x4096.size a ≤ S4096x4096.size a), (Rect.unit (s := S4096x4096) (k0_off321 v2142) S32x4096.size hinb).WholeWords (EltTy.packing .i8))
theorem k0_off321_inb : ∀ (v2142 : BitVec 32) (k0_hw322 : k0_chk322 v2142), ∀ a, (k0_off321 v2142) a + S32x4096.size a ≤ S4096x4096.size a := fun v2142 k0_hw322 => k0_hw322.1
theorem k0_off321_wordsi8 : ∀ (v2142 : BitVec 32) (k0_hw322 : k0_chk322 v2142), (Rect.unit (s := S4096x4096) (k0_off321 v2142) S32x4096.size (k0_off321_inb v2142 k0_hw322)).WholeWords (EltTy.packing .i8) := fun v2142 k0_hw322 => k0_hw322.2 (k0_off321_inb v2142 k0_hw322)

def k0_chk321 (v2145 : BitVec 32) : Prop :=
  (∀ a, (k0_off320 v2145) a + S32x4096.size a ≤ S4096x4096.size a) ∧
  (∀ (hinb : ∀ a, (k0_off320 v2145) a + S32x4096.size a ≤ S4096x4096.size a), (Rect.unit (s := S4096x4096) (k0_off320 v2145) S32x4096.size hinb).WholeWords (EltTy.packing .i8))
theorem k0_off320_inb : ∀ (v2145 : BitVec 32) (k0_hw321 : k0_chk321 v2145), ∀ a, (k0_off320 v2145) a + S32x4096.size a ≤ S4096x4096.size a := fun v2145 k0_hw321 => k0_hw321.1
theorem k0_off320_wordsi8 : ∀ (v2145 : BitVec 32) (k0_hw321 : k0_chk321 v2145), (Rect.unit (s := S4096x4096) (k0_off320 v2145) S32x4096.size (k0_off320_inb v2145 k0_hw321)).WholeWords (EltTy.packing .i8) := fun v2145 k0_hw321 => k0_hw321.2 (k0_off320_inb v2145 k0_hw321)

def k0_dev80 (v4 : BitVec 32) : Nat :=
  let c0_i32_2192 : BitVec 32 := 0#32
  let c1_i32_2191 : BitVec 32 := 1#32
  let v2148 : BitVec 32 := Scalar.muli v4 c1_i32_2191
  let v2149 : BitVec 32 := Scalar.addi c0_i32_2192 v2148
  v2149.toNat
def k0_off322 (v2159 : BitVec 32) : Fin 2 → Nat :=
  let c128_i32_2199 : BitVec 32 := 128#32
  let v2160 : BitVec 32 := Scalar.muli v2159 c128_i32_2199
  let c96_i32_2200 : BitVec 32 := 96#32
  let v2161 : BitVec 32 := Scalar.addi v2160 c96_i32_2200
  let c0_i32_2207 : BitVec 32 := 0#32
  ![v2161.toNat, 0]

def k0_off323 (v2156 : BitVec 32) : Fin 2 → Nat :=
  let c128_i32_2196 : BitVec 32 := 128#32
  let v2157 : BitVec 32 := Scalar.muli v2156 c128_i32_2196
  let c96_i32_2197 : BitVec 32 := 96#32
  let v2158 : BitVec 32 := Scalar.addi v2157 c96_i32_2197
  let c0_i32_2208 : BitVec 32 := 0#32
  ![v2158.toNat, 0]

def k0_chk324 (v2156 : BitVec 32) : Prop :=
  (∀ a, (k0_off323 v2156) a + S32x4096.size a ≤ S4096x4096.size a) ∧
  (∀ (hinb : ∀ a, (k0_off323 v2156) a + S32x4096.size a ≤ S4096x4096.size a), (Rect.unit (s := S4096x4096) (k0_off323 v2156) S32x4096.size hinb).WholeWords (EltTy.packing .i8))
theorem k0_off323_inb : ∀ (v2156 : BitVec 32) (k0_hw324 : k0_chk324 v2156), ∀ a, (k0_off323 v2156) a + S32x4096.size a ≤ S4096x4096.size a := fun v2156 k0_hw324 => k0_hw324.1
theorem k0_off323_wordsi8 : ∀ (v2156 : BitVec 32) (k0_hw324 : k0_chk324 v2156), (Rect.unit (s := S4096x4096) (k0_off323 v2156) S32x4096.size (k0_off323_inb v2156 k0_hw324)).WholeWords (EltTy.packing .i8) := fun v2156 k0_hw324 => k0_hw324.2 (k0_off323_inb v2156 k0_hw324)

def k0_chk323 (v2159 : BitVec 32) : Prop :=
  (∀ a, (k0_off322 v2159) a + S32x4096.size a ≤ S4096x4096.size a) ∧
  (∀ (hinb : ∀ a, (k0_off322 v2159) a + S32x4096.size a ≤ S4096x4096.size a), (Rect.unit (s := S4096x4096) (k0_off322 v2159) S32x4096.size hinb).WholeWords (EltTy.packing .i8))
theorem k0_off322_inb : ∀ (v2159 : BitVec 32) (k0_hw323 : k0_chk323 v2159), ∀ a, (k0_off322 v2159) a + S32x4096.size a ≤ S4096x4096.size a := fun v2159 k0_hw323 => k0_hw323.1
theorem k0_off322_wordsi8 : ∀ (v2159 : BitVec 32) (k0_hw323 : k0_chk323 v2159), (Rect.unit (s := S4096x4096) (k0_off322 v2159) S32x4096.size (k0_off322_inb v2159 k0_hw323)).WholeWords (EltTy.packing .i8) := fun v2159 k0_hw323 => k0_hw323.2 (k0_off322_inb v2159 k0_hw323)

def k0_off324 (v2171 : BitVec 32) : Fin 2 → Nat :=
  let c128_i32_2213 : BitVec 32 := 128#32
  let v2172 : BitVec 32 := Scalar.muli v2171 c128_i32_2213
  let c96_i32_2214 : BitVec 32 := 96#32
  let v2173 : BitVec 32 := Scalar.addi v2172 c96_i32_2214
  let c0_i32_2221 : BitVec 32 := 0#32
  ![v2173.toNat, 0]

def k0_off325 (v2168 : BitVec 32) : Fin 2 → Nat :=
  let c128_i32_2210 : BitVec 32 := 128#32
  let v2169 : BitVec 32 := Scalar.muli v2168 c128_i32_2210
  let c96_i32_2211 : BitVec 32 := 96#32
  let v2170 : BitVec 32 := Scalar.addi v2169 c96_i32_2211
  let c0_i32_2222 : BitVec 32 := 0#32
  ![v2170.toNat, 0]

def k0_chk326 (v2168 : BitVec 32) : Prop :=
  (∀ a, (k0_off325 v2168) a + S32x4096.size a ≤ S4096x4096.size a) ∧
  (∀ (hinb : ∀ a, (k0_off325 v2168) a + S32x4096.size a ≤ S4096x4096.size a), (Rect.unit (s := S4096x4096) (k0_off325 v2168) S32x4096.size hinb).WholeWords (EltTy.packing .i8))
theorem k0_off325_inb : ∀ (v2168 : BitVec 32) (k0_hw326 : k0_chk326 v2168), ∀ a, (k0_off325 v2168) a + S32x4096.size a ≤ S4096x4096.size a := fun v2168 k0_hw326 => k0_hw326.1
theorem k0_off325_wordsi8 : ∀ (v2168 : BitVec 32) (k0_hw326 : k0_chk326 v2168), (Rect.unit (s := S4096x4096) (k0_off325 v2168) S32x4096.size (k0_off325_inb v2168 k0_hw326)).WholeWords (EltTy.packing .i8) := fun v2168 k0_hw326 => k0_hw326.2 (k0_off325_inb v2168 k0_hw326)

def k0_chk325 (v2171 : BitVec 32) : Prop :=
  (∀ a, (k0_off324 v2171) a + S32x4096.size a ≤ S4096x4096.size a) ∧
  (∀ (hinb : ∀ a, (k0_off324 v2171) a + S32x4096.size a ≤ S4096x4096.size a), (Rect.unit (s := S4096x4096) (k0_off324 v2171) S32x4096.size hinb).WholeWords (EltTy.packing .i8))
theorem k0_off324_inb : ∀ (v2171 : BitVec 32) (k0_hw325 : k0_chk325 v2171), ∀ a, (k0_off324 v2171) a + S32x4096.size a ≤ S4096x4096.size a := fun v2171 k0_hw325 => k0_hw325.1
theorem k0_off324_wordsi8 : ∀ (v2171 : BitVec 32) (k0_hw325 : k0_chk325 v2171), (Rect.unit (s := S4096x4096) (k0_off324 v2171) S32x4096.size (k0_off324_inb v2171 k0_hw325)).WholeWords (EltTy.packing .i8) := fun v2171 k0_hw325 => k0_hw325.2 (k0_off324_inb v2171 k0_hw325)

def k0_dev81 (v3 : BitVec 32) : Nat :=
  let c0_i32_2220 : BitVec 32 := 0#32
  let c1_i32_2219 : BitVec 32 := 1#32
  let v2174 : BitVec 32 := Scalar.muli v3 c1_i32_2219
  let v2175 : BitVec 32 := Scalar.addi c0_i32_2220 v2174
  v2175.toNat
def k0_off326 (v2185 : BitVec 32) : Fin 2 → Nat :=
  let c128_i32_2227 : BitVec 32 := 128#32
  let v2186 : BitVec 32 := Scalar.muli v2185 c128_i32_2227
  let c96_i32_2228 : BitVec 32 := 96#32
  let v2187 : BitVec 32 := Scalar.addi v2186 c96_i32_2228
  let c0_i32_2235 : BitVec 32 := 0#32
  ![v2187.toNat, 0]

def k0_off327 (v2182 : BitVec 32) : Fin 2 → Nat :=
  let c128_i32_2224 : BitVec 32 := 128#32
  let v2183 : BitVec 32 := Scalar.muli v2182 c128_i32_2224
  let c96_i32_2225 : BitVec 32 := 96#32
  let v2184 : BitVec 32 := Scalar.addi v2183 c96_i32_2225
  let c0_i32_2236 : BitVec 32 := 0#32
  ![v2184.toNat, 0]

def k0_chk328 (v2182 : BitVec 32) : Prop :=
  (∀ a, (k0_off327 v2182) a + S32x4096.size a ≤ S4096x4096.size a) ∧
  (∀ (hinb : ∀ a, (k0_off327 v2182) a + S32x4096.size a ≤ S4096x4096.size a), (Rect.unit (s := S4096x4096) (k0_off327 v2182) S32x4096.size hinb).WholeWords (EltTy.packing .i8))
theorem k0_off327_inb : ∀ (v2182 : BitVec 32) (k0_hw328 : k0_chk328 v2182), ∀ a, (k0_off327 v2182) a + S32x4096.size a ≤ S4096x4096.size a := fun v2182 k0_hw328 => k0_hw328.1
theorem k0_off327_wordsi8 : ∀ (v2182 : BitVec 32) (k0_hw328 : k0_chk328 v2182), (Rect.unit (s := S4096x4096) (k0_off327 v2182) S32x4096.size (k0_off327_inb v2182 k0_hw328)).WholeWords (EltTy.packing .i8) := fun v2182 k0_hw328 => k0_hw328.2 (k0_off327_inb v2182 k0_hw328)

def k0_chk327 (v2185 : BitVec 32) : Prop :=
  (∀ a, (k0_off326 v2185) a + S32x4096.size a ≤ S4096x4096.size a) ∧
  (∀ (hinb : ∀ a, (k0_off326 v2185) a + S32x4096.size a ≤ S4096x4096.size a), (Rect.unit (s := S4096x4096) (k0_off326 v2185) S32x4096.size hinb).WholeWords (EltTy.packing .i8))
theorem k0_off326_inb : ∀ (v2185 : BitVec 32) (k0_hw327 : k0_chk327 v2185), ∀ a, (k0_off326 v2185) a + S32x4096.size a ≤ S4096x4096.size a := fun v2185 k0_hw327 => k0_hw327.1
theorem k0_off326_wordsi8 : ∀ (v2185 : BitVec 32) (k0_hw327 : k0_chk327 v2185), (Rect.unit (s := S4096x4096) (k0_off326 v2185) S32x4096.size (k0_off326_inb v2185 k0_hw327)).WholeWords (EltTy.packing .i8) := fun v2185 k0_hw327 => k0_hw327.2 (k0_off326_inb v2185 k0_hw327)

def k0_off328 (v2197 : BitVec 32) : Fin 2 → Nat :=
  let c128_i32_2241 : BitVec 32 := 128#32
  let v2198 : BitVec 32 := Scalar.muli v2197 c128_i32_2241
  let c96_i32_2242 : BitVec 32 := 96#32
  let v2199 : BitVec 32 := Scalar.addi v2198 c96_i32_2242
  let c0_i32_2249 : BitVec 32 := 0#32
  ![v2199.toNat, 0]

def k0_off329 (v2194 : BitVec 32) : Fin 2 → Nat :=
  let c128_i32_2238 : BitVec 32 := 128#32
  let v2195 : BitVec 32 := Scalar.muli v2194 c128_i32_2238
  let c96_i32_2239 : BitVec 32 := 96#32
  let v2196 : BitVec 32 := Scalar.addi v2195 c96_i32_2239
  let c0_i32_2250 : BitVec 32 := 0#32
  ![v2196.toNat, 0]

def k0_chk330 (v2194 : BitVec 32) : Prop :=
  (∀ a, (k0_off329 v2194) a + S32x4096.size a ≤ S4096x4096.size a) ∧
  (∀ (hinb : ∀ a, (k0_off329 v2194) a + S32x4096.size a ≤ S4096x4096.size a), (Rect.unit (s := S4096x4096) (k0_off329 v2194) S32x4096.size hinb).WholeWords (EltTy.packing .i8))
theorem k0_off329_inb : ∀ (v2194 : BitVec 32) (k0_hw330 : k0_chk330 v2194), ∀ a, (k0_off329 v2194) a + S32x4096.size a ≤ S4096x4096.size a := fun v2194 k0_hw330 => k0_hw330.1
theorem k0_off329_wordsi8 : ∀ (v2194 : BitVec 32) (k0_hw330 : k0_chk330 v2194), (Rect.unit (s := S4096x4096) (k0_off329 v2194) S32x4096.size (k0_off329_inb v2194 k0_hw330)).WholeWords (EltTy.packing .i8) := fun v2194 k0_hw330 => k0_hw330.2 (k0_off329_inb v2194 k0_hw330)

def k0_chk329 (v2197 : BitVec 32) : Prop :=
  (∀ a, (k0_off328 v2197) a + S32x4096.size a ≤ S4096x4096.size a) ∧
  (∀ (hinb : ∀ a, (k0_off328 v2197) a + S32x4096.size a ≤ S4096x4096.size a), (Rect.unit (s := S4096x4096) (k0_off328 v2197) S32x4096.size hinb).WholeWords (EltTy.packing .i8))
theorem k0_off328_inb : ∀ (v2197 : BitVec 32) (k0_hw329 : k0_chk329 v2197), ∀ a, (k0_off328 v2197) a + S32x4096.size a ≤ S4096x4096.size a := fun v2197 k0_hw329 => k0_hw329.1
theorem k0_off328_wordsi8 : ∀ (v2197 : BitVec 32) (k0_hw329 : k0_chk329 v2197), (Rect.unit (s := S4096x4096) (k0_off328 v2197) S32x4096.size (k0_off328_inb v2197 k0_hw329)).WholeWords (EltTy.packing .i8) := fun v2197 k0_hw329 => k0_hw329.2 (k0_off328_inb v2197 k0_hw329)

def k0_dev82 (v4 : BitVec 32) : Nat :=
  let c0_i32_2248 : BitVec 32 := 0#32
  let c1_i32_2247 : BitVec 32 := 1#32
  let v2200 : BitVec 32 := Scalar.muli v4 c1_i32_2247
  let v2201 : BitVec 32 := Scalar.addi c0_i32_2248 v2200
  v2201.toNat
def k0_off330 (v2209 : BitVec 32) : Fin 2 → Nat :=
  let c128_i32_2253 : BitVec 32 := 128#32
  let v2210 : BitVec 32 := Scalar.muli v2209 c128_i32_2253
  let v2211 : Index := Scalar.indexCast v2210
  let c0_2254 : Index := 0#32
  ![v2211.toNat, 0]

def k0_chk331 (v2209 : BitVec 32) : Prop :=
  (∀ a, (k0_off330 v2209) a + S128x4096.size a ≤ S4096x4096.size a)
theorem k0_off330_inb : ∀ (v2209 : BitVec 32) (k0_hw331 : k0_chk331 v2209), ∀ a, (k0_off330 v2209) a + S128x4096.size a ≤ S4096x4096.size a := fun v2209 k0_hw331 => k0_hw331

def k0_off331 (v2208 : BitVec 32) : Fin 2 → Nat :=
  let c128_i32_2258 : BitVec 32 := 128#32
  let v2219 : BitVec 32 := Scalar.muli v2208 c128_i32_2258
  let v2220 : Index := Scalar.indexCast v2219
  let c0_2259 : Index := 0#32
  ![v2220.toNat, 0]

def k0_chk332 (v2208 : BitVec 32) : Prop :=
  (∀ a, (k0_off331 v2208) a + S128x64.size a ≤ S4096x64.size a)
theorem k0_off331_inb : ∀ (v2208 : BitVec 32) (k0_hw332 : k0_chk332 v2208), ∀ a, (k0_off331 v2208) a + S128x64.size a ≤ S4096x64.size a := fun v2208 k0_hw332 => k0_hw332

def k0_off332 (v2223 : BitVec 32) : Fin 2 → Nat :=
  let c128_i32_2262 : BitVec 32 := 128#32
  let v2224 : BitVec 32 := Scalar.muli v2223 c128_i32_2262
  let v2225 : Index := Scalar.indexCast v2224
  let c0_2263 : Index := 0#32
  ![v2225.toNat, 0]

def k0_chk333 (v2223 : BitVec 32) : Prop :=
  (∀ a, (k0_off332 v2223) a + S128x4096.size a ≤ S4096x4096.size a)
theorem k0_off332_inb : ∀ (v2223 : BitVec 32) (k0_hw333 : k0_chk333 v2223), ∀ a, (k0_off332 v2223) a + S128x4096.size a ≤ S4096x4096.size a := fun v2223 k0_hw333 => k0_hw333

def k0_off333 (v2222 : BitVec 32) : Fin 2 → Nat :=
  let c128_i32_2267 : BitVec 32 := 128#32
  let v2233 : BitVec 32 := Scalar.muli v2222 c128_i32_2267
  let v2234 : Index := Scalar.indexCast v2233
  let c0_2268 : Index := 0#32
  ![v2234.toNat, 0]

def k0_chk334 (v2222 : BitVec 32) : Prop :=
  (∀ a, (k0_off333 v2222) a + S128x64.size a ≤ S4096x64.size a)
theorem k0_off333_inb : ∀ (v2222 : BitVec 32) (k0_hw334 : k0_chk334 v2222), ∀ a, (k0_off333 v2222) a + S128x64.size a ≤ S4096x64.size a := fun v2222 k0_hw334 => k0_hw334

def k0_off334 (v2239 : BitVec 32) : Fin 2 → Nat :=
  let c128_i32_2273 : BitVec 32 := 128#32
  let v2240 : BitVec 32 := Scalar.muli v2239 c128_i32_2273
  let c0_i32_2274 : BitVec 32 := 0#32
  let v2241 : BitVec 32 := Scalar.addi v2240 c0_i32_2274
  let c0_i32_2281 : BitVec 32 := 0#32
  ![v2241.toNat, 0]

def k0_off335 (v2236 : BitVec 32) : Fin 2 → Nat :=
  let c128_i32_2270 : BitVec 32 := 128#32
  let v2237 : BitVec 32 := Scalar.muli v2236 c128_i32_2270
  let c0_i32_2271 : BitVec 32 := 0#32
  let v2238 : BitVec 32 := Scalar.addi v2237 c0_i32_2271
  let c0_i32_2282 : BitVec 32 := 0#32
  ![v2238.toNat, 0]

def k0_chk336 (v2236 : BitVec 32) : Prop :=
  (∀ a, (k0_off335 v2236) a + S32x4096.size a ≤ S4096x4096.size a) ∧
  (∀ (hinb : ∀ a, (k0_off335 v2236) a + S32x4096.size a ≤ S4096x4096.size a), (Rect.unit (s := S4096x4096) (k0_off335 v2236) S32x4096.size hinb).WholeWords (EltTy.packing .i8))
theorem k0_off335_inb : ∀ (v2236 : BitVec 32) (k0_hw336 : k0_chk336 v2236), ∀ a, (k0_off335 v2236) a + S32x4096.size a ≤ S4096x4096.size a := fun v2236 k0_hw336 => k0_hw336.1
theorem k0_off335_wordsi8 : ∀ (v2236 : BitVec 32) (k0_hw336 : k0_chk336 v2236), (Rect.unit (s := S4096x4096) (k0_off335 v2236) S32x4096.size (k0_off335_inb v2236 k0_hw336)).WholeWords (EltTy.packing .i8) := fun v2236 k0_hw336 => k0_hw336.2 (k0_off335_inb v2236 k0_hw336)

def k0_chk335 (v2239 : BitVec 32) : Prop :=
  (∀ a, (k0_off334 v2239) a + S32x4096.size a ≤ S4096x4096.size a) ∧
  (∀ (hinb : ∀ a, (k0_off334 v2239) a + S32x4096.size a ≤ S4096x4096.size a), (Rect.unit (s := S4096x4096) (k0_off334 v2239) S32x4096.size hinb).WholeWords (EltTy.packing .i8))
theorem k0_off334_inb : ∀ (v2239 : BitVec 32) (k0_hw335 : k0_chk335 v2239), ∀ a, (k0_off334 v2239) a + S32x4096.size a ≤ S4096x4096.size a := fun v2239 k0_hw335 => k0_hw335.1
theorem k0_off334_wordsi8 : ∀ (v2239 : BitVec 32) (k0_hw335 : k0_chk335 v2239), (Rect.unit (s := S4096x4096) (k0_off334 v2239) S32x4096.size (k0_off334_inb v2239 k0_hw335)).WholeWords (EltTy.packing .i8) := fun v2239 k0_hw335 => k0_hw335.2 (k0_off334_inb v2239 k0_hw335)

def k0_off336 (v2251 : BitVec 32) : Fin 2 → Nat :=
  let c128_i32_2286 : BitVec 32 := 128#32
  let v2252 : BitVec 32 := Scalar.muli v2251 c128_i32_2286
  let c0_i32_2287 : BitVec 32 := 0#32
  let v2253 : BitVec 32 := Scalar.addi v2252 c0_i32_2287
  let c0_i32_2293 : BitVec 32 := 0#32
  ![v2253.toNat, 0]

def k0_off337 (v2248 : BitVec 32) : Fin 2 → Nat :=
  let c128_i32_2283 : BitVec 32 := 128#32
  let v2249 : BitVec 32 := Scalar.muli v2248 c128_i32_2283
  let c0_i32_2284 : BitVec 32 := 0#32
  let v2250 : BitVec 32 := Scalar.addi v2249 c0_i32_2284
  let c0_i32_2294 : BitVec 32 := 0#32
  ![v2250.toNat, 0]

def k0_chk338 (v2248 : BitVec 32) : Prop :=
  (∀ a, (k0_off337 v2248) a + S32x4096.size a ≤ S4096x4096.size a) ∧
  (∀ (hinb : ∀ a, (k0_off337 v2248) a + S32x4096.size a ≤ S4096x4096.size a), (Rect.unit (s := S4096x4096) (k0_off337 v2248) S32x4096.size hinb).WholeWords (EltTy.packing .i8))
theorem k0_off337_inb : ∀ (v2248 : BitVec 32) (k0_hw338 : k0_chk338 v2248), ∀ a, (k0_off337 v2248) a + S32x4096.size a ≤ S4096x4096.size a := fun v2248 k0_hw338 => k0_hw338.1
theorem k0_off337_wordsi8 : ∀ (v2248 : BitVec 32) (k0_hw338 : k0_chk338 v2248), (Rect.unit (s := S4096x4096) (k0_off337 v2248) S32x4096.size (k0_off337_inb v2248 k0_hw338)).WholeWords (EltTy.packing .i8) := fun v2248 k0_hw338 => k0_hw338.2 (k0_off337_inb v2248 k0_hw338)

def k0_chk337 (v2251 : BitVec 32) : Prop :=
  (∀ a, (k0_off336 v2251) a + S32x4096.size a ≤ S4096x4096.size a) ∧
  (∀ (hinb : ∀ a, (k0_off336 v2251) a + S32x4096.size a ≤ S4096x4096.size a), (Rect.unit (s := S4096x4096) (k0_off336 v2251) S32x4096.size hinb).WholeWords (EltTy.packing .i8))
theorem k0_off336_inb : ∀ (v2251 : BitVec 32) (k0_hw337 : k0_chk337 v2251), ∀ a, (k0_off336 v2251) a + S32x4096.size a ≤ S4096x4096.size a := fun v2251 k0_hw337 => k0_hw337.1
theorem k0_off336_wordsi8 : ∀ (v2251 : BitVec 32) (k0_hw337 : k0_chk337 v2251), (Rect.unit (s := S4096x4096) (k0_off336 v2251) S32x4096.size (k0_off336_inb v2251 k0_hw337)).WholeWords (EltTy.packing .i8) := fun v2251 k0_hw337 => k0_hw337.2 (k0_off336_inb v2251 k0_hw337)

def k0_dev83 (v3 : BitVec 32) : Nat :=
  let c0_i32_2292 : BitVec 32 := 0#32
  let c1_i32_2291 : BitVec 32 := 1#32
  let v2254 : BitVec 32 := Scalar.muli v3 c1_i32_2291
  let v2255 : BitVec 32 := Scalar.addi c0_i32_2292 v2254
  v2255.toNat
def k0_off338 (v2265 : BitVec 32) : Fin 2 → Nat :=
  let c128_i32_2299 : BitVec 32 := 128#32
  let v2266 : BitVec 32 := Scalar.muli v2265 c128_i32_2299
  let c0_i32_2300 : BitVec 32 := 0#32
  let v2267 : BitVec 32 := Scalar.addi v2266 c0_i32_2300
  let c0_i32_2307 : BitVec 32 := 0#32
  ![v2267.toNat, 0]

def k0_off339 (v2262 : BitVec 32) : Fin 2 → Nat :=
  let c128_i32_2296 : BitVec 32 := 128#32
  let v2263 : BitVec 32 := Scalar.muli v2262 c128_i32_2296
  let c0_i32_2297 : BitVec 32 := 0#32
  let v2264 : BitVec 32 := Scalar.addi v2263 c0_i32_2297
  let c0_i32_2308 : BitVec 32 := 0#32
  ![v2264.toNat, 0]

def k0_chk340 (v2262 : BitVec 32) : Prop :=
  (∀ a, (k0_off339 v2262) a + S32x4096.size a ≤ S4096x4096.size a) ∧
  (∀ (hinb : ∀ a, (k0_off339 v2262) a + S32x4096.size a ≤ S4096x4096.size a), (Rect.unit (s := S4096x4096) (k0_off339 v2262) S32x4096.size hinb).WholeWords (EltTy.packing .i8))
theorem k0_off339_inb : ∀ (v2262 : BitVec 32) (k0_hw340 : k0_chk340 v2262), ∀ a, (k0_off339 v2262) a + S32x4096.size a ≤ S4096x4096.size a := fun v2262 k0_hw340 => k0_hw340.1
theorem k0_off339_wordsi8 : ∀ (v2262 : BitVec 32) (k0_hw340 : k0_chk340 v2262), (Rect.unit (s := S4096x4096) (k0_off339 v2262) S32x4096.size (k0_off339_inb v2262 k0_hw340)).WholeWords (EltTy.packing .i8) := fun v2262 k0_hw340 => k0_hw340.2 (k0_off339_inb v2262 k0_hw340)

def k0_chk339 (v2265 : BitVec 32) : Prop :=
  (∀ a, (k0_off338 v2265) a + S32x4096.size a ≤ S4096x4096.size a) ∧
  (∀ (hinb : ∀ a, (k0_off338 v2265) a + S32x4096.size a ≤ S4096x4096.size a), (Rect.unit (s := S4096x4096) (k0_off338 v2265) S32x4096.size hinb).WholeWords (EltTy.packing .i8))
theorem k0_off338_inb : ∀ (v2265 : BitVec 32) (k0_hw339 : k0_chk339 v2265), ∀ a, (k0_off338 v2265) a + S32x4096.size a ≤ S4096x4096.size a := fun v2265 k0_hw339 => k0_hw339.1
theorem k0_off338_wordsi8 : ∀ (v2265 : BitVec 32) (k0_hw339 : k0_chk339 v2265), (Rect.unit (s := S4096x4096) (k0_off338 v2265) S32x4096.size (k0_off338_inb v2265 k0_hw339)).WholeWords (EltTy.packing .i8) := fun v2265 k0_hw339 => k0_hw339.2 (k0_off338_inb v2265 k0_hw339)

def k0_off340 (v2277 : BitVec 32) : Fin 2 → Nat :=
  let c128_i32_2313 : BitVec 32 := 128#32
  let v2278 : BitVec 32 := Scalar.muli v2277 c128_i32_2313
  let c0_i32_2314 : BitVec 32 := 0#32
  let v2279 : BitVec 32 := Scalar.addi v2278 c0_i32_2314
  let c0_i32_2321 : BitVec 32 := 0#32
  ![v2279.toNat, 0]

def k0_off341 (v2274 : BitVec 32) : Fin 2 → Nat :=
  let c128_i32_2310 : BitVec 32 := 128#32
  let v2275 : BitVec 32 := Scalar.muli v2274 c128_i32_2310
  let c0_i32_2311 : BitVec 32 := 0#32
  let v2276 : BitVec 32 := Scalar.addi v2275 c0_i32_2311
  let c0_i32_2322 : BitVec 32 := 0#32
  ![v2276.toNat, 0]

def k0_chk342 (v2274 : BitVec 32) : Prop :=
  (∀ a, (k0_off341 v2274) a + S32x4096.size a ≤ S4096x4096.size a) ∧
  (∀ (hinb : ∀ a, (k0_off341 v2274) a + S32x4096.size a ≤ S4096x4096.size a), (Rect.unit (s := S4096x4096) (k0_off341 v2274) S32x4096.size hinb).WholeWords (EltTy.packing .i8))
theorem k0_off341_inb : ∀ (v2274 : BitVec 32) (k0_hw342 : k0_chk342 v2274), ∀ a, (k0_off341 v2274) a + S32x4096.size a ≤ S4096x4096.size a := fun v2274 k0_hw342 => k0_hw342.1
theorem k0_off341_wordsi8 : ∀ (v2274 : BitVec 32) (k0_hw342 : k0_chk342 v2274), (Rect.unit (s := S4096x4096) (k0_off341 v2274) S32x4096.size (k0_off341_inb v2274 k0_hw342)).WholeWords (EltTy.packing .i8) := fun v2274 k0_hw342 => k0_hw342.2 (k0_off341_inb v2274 k0_hw342)

def k0_chk341 (v2277 : BitVec 32) : Prop :=
  (∀ a, (k0_off340 v2277) a + S32x4096.size a ≤ S4096x4096.size a) ∧
  (∀ (hinb : ∀ a, (k0_off340 v2277) a + S32x4096.size a ≤ S4096x4096.size a), (Rect.unit (s := S4096x4096) (k0_off340 v2277) S32x4096.size hinb).WholeWords (EltTy.packing .i8))
theorem k0_off340_inb : ∀ (v2277 : BitVec 32) (k0_hw341 : k0_chk341 v2277), ∀ a, (k0_off340 v2277) a + S32x4096.size a ≤ S4096x4096.size a := fun v2277 k0_hw341 => k0_hw341.1
theorem k0_off340_wordsi8 : ∀ (v2277 : BitVec 32) (k0_hw341 : k0_chk341 v2277), (Rect.unit (s := S4096x4096) (k0_off340 v2277) S32x4096.size (k0_off340_inb v2277 k0_hw341)).WholeWords (EltTy.packing .i8) := fun v2277 k0_hw341 => k0_hw341.2 (k0_off340_inb v2277 k0_hw341)

def k0_dev84 (v4 : BitVec 32) : Nat :=
  let c0_i32_2320 : BitVec 32 := 0#32
  let c1_i32_2319 : BitVec 32 := 1#32
  let v2280 : BitVec 32 := Scalar.muli v4 c1_i32_2319
  let v2281 : BitVec 32 := Scalar.addi c0_i32_2320 v2280
  v2281.toNat
def k0_off342 (v2291 : BitVec 32) : Fin 2 → Nat :=
  let c128_i32_2327 : BitVec 32 := 128#32
  let v2292 : BitVec 32 := Scalar.muli v2291 c128_i32_2327
  let c32_i32_2328 : BitVec 32 := 32#32
  let v2293 : BitVec 32 := Scalar.addi v2292 c32_i32_2328
  let c0_i32_2335 : BitVec 32 := 0#32
  ![v2293.toNat, 0]

def k0_off343 (v2288 : BitVec 32) : Fin 2 → Nat :=
  let c128_i32_2324 : BitVec 32 := 128#32
  let v2289 : BitVec 32 := Scalar.muli v2288 c128_i32_2324
  let c32_i32_2325 : BitVec 32 := 32#32
  let v2290 : BitVec 32 := Scalar.addi v2289 c32_i32_2325
  let c0_i32_2336 : BitVec 32 := 0#32
  ![v2290.toNat, 0]

def k0_chk344 (v2288 : BitVec 32) : Prop :=
  (∀ a, (k0_off343 v2288) a + S32x4096.size a ≤ S4096x4096.size a) ∧
  (∀ (hinb : ∀ a, (k0_off343 v2288) a + S32x4096.size a ≤ S4096x4096.size a), (Rect.unit (s := S4096x4096) (k0_off343 v2288) S32x4096.size hinb).WholeWords (EltTy.packing .i8))
theorem k0_off343_inb : ∀ (v2288 : BitVec 32) (k0_hw344 : k0_chk344 v2288), ∀ a, (k0_off343 v2288) a + S32x4096.size a ≤ S4096x4096.size a := fun v2288 k0_hw344 => k0_hw344.1
theorem k0_off343_wordsi8 : ∀ (v2288 : BitVec 32) (k0_hw344 : k0_chk344 v2288), (Rect.unit (s := S4096x4096) (k0_off343 v2288) S32x4096.size (k0_off343_inb v2288 k0_hw344)).WholeWords (EltTy.packing .i8) := fun v2288 k0_hw344 => k0_hw344.2 (k0_off343_inb v2288 k0_hw344)

def k0_chk343 (v2291 : BitVec 32) : Prop :=
  (∀ a, (k0_off342 v2291) a + S32x4096.size a ≤ S4096x4096.size a) ∧
  (∀ (hinb : ∀ a, (k0_off342 v2291) a + S32x4096.size a ≤ S4096x4096.size a), (Rect.unit (s := S4096x4096) (k0_off342 v2291) S32x4096.size hinb).WholeWords (EltTy.packing .i8))
theorem k0_off342_inb : ∀ (v2291 : BitVec 32) (k0_hw343 : k0_chk343 v2291), ∀ a, (k0_off342 v2291) a + S32x4096.size a ≤ S4096x4096.size a := fun v2291 k0_hw343 => k0_hw343.1
theorem k0_off342_wordsi8 : ∀ (v2291 : BitVec 32) (k0_hw343 : k0_chk343 v2291), (Rect.unit (s := S4096x4096) (k0_off342 v2291) S32x4096.size (k0_off342_inb v2291 k0_hw343)).WholeWords (EltTy.packing .i8) := fun v2291 k0_hw343 => k0_hw343.2 (k0_off342_inb v2291 k0_hw343)

def k0_off344 (v2303 : BitVec 32) : Fin 2 → Nat :=
  let c128_i32_2341 : BitVec 32 := 128#32
  let v2304 : BitVec 32 := Scalar.muli v2303 c128_i32_2341
  let c32_i32_2342 : BitVec 32 := 32#32
  let v2305 : BitVec 32 := Scalar.addi v2304 c32_i32_2342
  let c0_i32_2349 : BitVec 32 := 0#32
  ![v2305.toNat, 0]

def k0_off345 (v2300 : BitVec 32) : Fin 2 → Nat :=
  let c128_i32_2338 : BitVec 32 := 128#32
  let v2301 : BitVec 32 := Scalar.muli v2300 c128_i32_2338
  let c32_i32_2339 : BitVec 32 := 32#32
  let v2302 : BitVec 32 := Scalar.addi v2301 c32_i32_2339
  let c0_i32_2350 : BitVec 32 := 0#32
  ![v2302.toNat, 0]

def k0_chk346 (v2300 : BitVec 32) : Prop :=
  (∀ a, (k0_off345 v2300) a + S32x4096.size a ≤ S4096x4096.size a) ∧
  (∀ (hinb : ∀ a, (k0_off345 v2300) a + S32x4096.size a ≤ S4096x4096.size a), (Rect.unit (s := S4096x4096) (k0_off345 v2300) S32x4096.size hinb).WholeWords (EltTy.packing .i8))
theorem k0_off345_inb : ∀ (v2300 : BitVec 32) (k0_hw346 : k0_chk346 v2300), ∀ a, (k0_off345 v2300) a + S32x4096.size a ≤ S4096x4096.size a := fun v2300 k0_hw346 => k0_hw346.1
theorem k0_off345_wordsi8 : ∀ (v2300 : BitVec 32) (k0_hw346 : k0_chk346 v2300), (Rect.unit (s := S4096x4096) (k0_off345 v2300) S32x4096.size (k0_off345_inb v2300 k0_hw346)).WholeWords (EltTy.packing .i8) := fun v2300 k0_hw346 => k0_hw346.2 (k0_off345_inb v2300 k0_hw346)

def k0_chk345 (v2303 : BitVec 32) : Prop :=
  (∀ a, (k0_off344 v2303) a + S32x4096.size a ≤ S4096x4096.size a) ∧
  (∀ (hinb : ∀ a, (k0_off344 v2303) a + S32x4096.size a ≤ S4096x4096.size a), (Rect.unit (s := S4096x4096) (k0_off344 v2303) S32x4096.size hinb).WholeWords (EltTy.packing .i8))
theorem k0_off344_inb : ∀ (v2303 : BitVec 32) (k0_hw345 : k0_chk345 v2303), ∀ a, (k0_off344 v2303) a + S32x4096.size a ≤ S4096x4096.size a := fun v2303 k0_hw345 => k0_hw345.1
theorem k0_off344_wordsi8 : ∀ (v2303 : BitVec 32) (k0_hw345 : k0_chk345 v2303), (Rect.unit (s := S4096x4096) (k0_off344 v2303) S32x4096.size (k0_off344_inb v2303 k0_hw345)).WholeWords (EltTy.packing .i8) := fun v2303 k0_hw345 => k0_hw345.2 (k0_off344_inb v2303 k0_hw345)

def k0_dev85 (v3 : BitVec 32) : Nat :=
  let c0_i32_2348 : BitVec 32 := 0#32
  let c1_i32_2347 : BitVec 32 := 1#32
  let v2306 : BitVec 32 := Scalar.muli v3 c1_i32_2347
  let v2307 : BitVec 32 := Scalar.addi c0_i32_2348 v2306
  v2307.toNat
def k0_off346 (v2317 : BitVec 32) : Fin 2 → Nat :=
  let c128_i32_2355 : BitVec 32 := 128#32
  let v2318 : BitVec 32 := Scalar.muli v2317 c128_i32_2355
  let c32_i32_2356 : BitVec 32 := 32#32
  let v2319 : BitVec 32 := Scalar.addi v2318 c32_i32_2356
  let c0_i32_2363 : BitVec 32 := 0#32
  ![v2319.toNat, 0]

def k0_off347 (v2314 : BitVec 32) : Fin 2 → Nat :=
  let c128_i32_2352 : BitVec 32 := 128#32
  let v2315 : BitVec 32 := Scalar.muli v2314 c128_i32_2352
  let c32_i32_2353 : BitVec 32 := 32#32
  let v2316 : BitVec 32 := Scalar.addi v2315 c32_i32_2353
  let c0_i32_2364 : BitVec 32 := 0#32
  ![v2316.toNat, 0]

def k0_chk348 (v2314 : BitVec 32) : Prop :=
  (∀ a, (k0_off347 v2314) a + S32x4096.size a ≤ S4096x4096.size a) ∧
  (∀ (hinb : ∀ a, (k0_off347 v2314) a + S32x4096.size a ≤ S4096x4096.size a), (Rect.unit (s := S4096x4096) (k0_off347 v2314) S32x4096.size hinb).WholeWords (EltTy.packing .i8))
theorem k0_off347_inb : ∀ (v2314 : BitVec 32) (k0_hw348 : k0_chk348 v2314), ∀ a, (k0_off347 v2314) a + S32x4096.size a ≤ S4096x4096.size a := fun v2314 k0_hw348 => k0_hw348.1
theorem k0_off347_wordsi8 : ∀ (v2314 : BitVec 32) (k0_hw348 : k0_chk348 v2314), (Rect.unit (s := S4096x4096) (k0_off347 v2314) S32x4096.size (k0_off347_inb v2314 k0_hw348)).WholeWords (EltTy.packing .i8) := fun v2314 k0_hw348 => k0_hw348.2 (k0_off347_inb v2314 k0_hw348)

def k0_chk347 (v2317 : BitVec 32) : Prop :=
  (∀ a, (k0_off346 v2317) a + S32x4096.size a ≤ S4096x4096.size a) ∧
  (∀ (hinb : ∀ a, (k0_off346 v2317) a + S32x4096.size a ≤ S4096x4096.size a), (Rect.unit (s := S4096x4096) (k0_off346 v2317) S32x4096.size hinb).WholeWords (EltTy.packing .i8))
theorem k0_off346_inb : ∀ (v2317 : BitVec 32) (k0_hw347 : k0_chk347 v2317), ∀ a, (k0_off346 v2317) a + S32x4096.size a ≤ S4096x4096.size a := fun v2317 k0_hw347 => k0_hw347.1
theorem k0_off346_wordsi8 : ∀ (v2317 : BitVec 32) (k0_hw347 : k0_chk347 v2317), (Rect.unit (s := S4096x4096) (k0_off346 v2317) S32x4096.size (k0_off346_inb v2317 k0_hw347)).WholeWords (EltTy.packing .i8) := fun v2317 k0_hw347 => k0_hw347.2 (k0_off346_inb v2317 k0_hw347)

def k0_off348 (v2329 : BitVec 32) : Fin 2 → Nat :=
  let c128_i32_2369 : BitVec 32 := 128#32
  let v2330 : BitVec 32 := Scalar.muli v2329 c128_i32_2369
  let c32_i32_2370 : BitVec 32 := 32#32
  let v2331 : BitVec 32 := Scalar.addi v2330 c32_i32_2370
  let c0_i32_2377 : BitVec 32 := 0#32
  ![v2331.toNat, 0]

def k0_off349 (v2326 : BitVec 32) : Fin 2 → Nat :=
  let c128_i32_2366 : BitVec 32 := 128#32
  let v2327 : BitVec 32 := Scalar.muli v2326 c128_i32_2366
  let c32_i32_2367 : BitVec 32 := 32#32
  let v2328 : BitVec 32 := Scalar.addi v2327 c32_i32_2367
  let c0_i32_2378 : BitVec 32 := 0#32
  ![v2328.toNat, 0]

def k0_chk350 (v2326 : BitVec 32) : Prop :=
  (∀ a, (k0_off349 v2326) a + S32x4096.size a ≤ S4096x4096.size a) ∧
  (∀ (hinb : ∀ a, (k0_off349 v2326) a + S32x4096.size a ≤ S4096x4096.size a), (Rect.unit (s := S4096x4096) (k0_off349 v2326) S32x4096.size hinb).WholeWords (EltTy.packing .i8))
theorem k0_off349_inb : ∀ (v2326 : BitVec 32) (k0_hw350 : k0_chk350 v2326), ∀ a, (k0_off349 v2326) a + S32x4096.size a ≤ S4096x4096.size a := fun v2326 k0_hw350 => k0_hw350.1
theorem k0_off349_wordsi8 : ∀ (v2326 : BitVec 32) (k0_hw350 : k0_chk350 v2326), (Rect.unit (s := S4096x4096) (k0_off349 v2326) S32x4096.size (k0_off349_inb v2326 k0_hw350)).WholeWords (EltTy.packing .i8) := fun v2326 k0_hw350 => k0_hw350.2 (k0_off349_inb v2326 k0_hw350)

def k0_chk349 (v2329 : BitVec 32) : Prop :=
  (∀ a, (k0_off348 v2329) a + S32x4096.size a ≤ S4096x4096.size a) ∧
  (∀ (hinb : ∀ a, (k0_off348 v2329) a + S32x4096.size a ≤ S4096x4096.size a), (Rect.unit (s := S4096x4096) (k0_off348 v2329) S32x4096.size hinb).WholeWords (EltTy.packing .i8))
theorem k0_off348_inb : ∀ (v2329 : BitVec 32) (k0_hw349 : k0_chk349 v2329), ∀ a, (k0_off348 v2329) a + S32x4096.size a ≤ S4096x4096.size a := fun v2329 k0_hw349 => k0_hw349.1
theorem k0_off348_wordsi8 : ∀ (v2329 : BitVec 32) (k0_hw349 : k0_chk349 v2329), (Rect.unit (s := S4096x4096) (k0_off348 v2329) S32x4096.size (k0_off348_inb v2329 k0_hw349)).WholeWords (EltTy.packing .i8) := fun v2329 k0_hw349 => k0_hw349.2 (k0_off348_inb v2329 k0_hw349)

def k0_dev86 (v4 : BitVec 32) : Nat :=
  let c0_i32_2376 : BitVec 32 := 0#32
  let c1_i32_2375 : BitVec 32 := 1#32
  let v2332 : BitVec 32 := Scalar.muli v4 c1_i32_2375
  let v2333 : BitVec 32 := Scalar.addi c0_i32_2376 v2332
  v2333.toNat
def k0_off350 (v2343 : BitVec 32) : Fin 2 → Nat :=
  let c128_i32_2383 : BitVec 32 := 128#32
  let v2344 : BitVec 32 := Scalar.muli v2343 c128_i32_2383
  let c64_i32_2384 : BitVec 32 := 64#32
  let v2345 : BitVec 32 := Scalar.addi v2344 c64_i32_2384
  let c0_i32_2391 : BitVec 32 := 0#32
  ![v2345.toNat, 0]

def k0_off351 (v2340 : BitVec 32) : Fin 2 → Nat :=
  let c128_i32_2380 : BitVec 32 := 128#32
  let v2341 : BitVec 32 := Scalar.muli v2340 c128_i32_2380
  let c64_i32_2381 : BitVec 32 := 64#32
  let v2342 : BitVec 32 := Scalar.addi v2341 c64_i32_2381
  let c0_i32_2392 : BitVec 32 := 0#32
  ![v2342.toNat, 0]

def k0_chk352 (v2340 : BitVec 32) : Prop :=
  (∀ a, (k0_off351 v2340) a + S32x4096.size a ≤ S4096x4096.size a) ∧
  (∀ (hinb : ∀ a, (k0_off351 v2340) a + S32x4096.size a ≤ S4096x4096.size a), (Rect.unit (s := S4096x4096) (k0_off351 v2340) S32x4096.size hinb).WholeWords (EltTy.packing .i8))
theorem k0_off351_inb : ∀ (v2340 : BitVec 32) (k0_hw352 : k0_chk352 v2340), ∀ a, (k0_off351 v2340) a + S32x4096.size a ≤ S4096x4096.size a := fun v2340 k0_hw352 => k0_hw352.1
theorem k0_off351_wordsi8 : ∀ (v2340 : BitVec 32) (k0_hw352 : k0_chk352 v2340), (Rect.unit (s := S4096x4096) (k0_off351 v2340) S32x4096.size (k0_off351_inb v2340 k0_hw352)).WholeWords (EltTy.packing .i8) := fun v2340 k0_hw352 => k0_hw352.2 (k0_off351_inb v2340 k0_hw352)

def k0_chk351 (v2343 : BitVec 32) : Prop :=
  (∀ a, (k0_off350 v2343) a + S32x4096.size a ≤ S4096x4096.size a) ∧
  (∀ (hinb : ∀ a, (k0_off350 v2343) a + S32x4096.size a ≤ S4096x4096.size a), (Rect.unit (s := S4096x4096) (k0_off350 v2343) S32x4096.size hinb).WholeWords (EltTy.packing .i8))
theorem k0_off350_inb : ∀ (v2343 : BitVec 32) (k0_hw351 : k0_chk351 v2343), ∀ a, (k0_off350 v2343) a + S32x4096.size a ≤ S4096x4096.size a := fun v2343 k0_hw351 => k0_hw351.1
theorem k0_off350_wordsi8 : ∀ (v2343 : BitVec 32) (k0_hw351 : k0_chk351 v2343), (Rect.unit (s := S4096x4096) (k0_off350 v2343) S32x4096.size (k0_off350_inb v2343 k0_hw351)).WholeWords (EltTy.packing .i8) := fun v2343 k0_hw351 => k0_hw351.2 (k0_off350_inb v2343 k0_hw351)

def k0_off352 (v2355 : BitVec 32) : Fin 2 → Nat :=
  let c128_i32_2397 : BitVec 32 := 128#32
  let v2356 : BitVec 32 := Scalar.muli v2355 c128_i32_2397
  let c64_i32_2398 : BitVec 32 := 64#32
  let v2357 : BitVec 32 := Scalar.addi v2356 c64_i32_2398
  let c0_i32_2405 : BitVec 32 := 0#32
  ![v2357.toNat, 0]

def k0_off353 (v2352 : BitVec 32) : Fin 2 → Nat :=
  let c128_i32_2394 : BitVec 32 := 128#32
  let v2353 : BitVec 32 := Scalar.muli v2352 c128_i32_2394
  let c64_i32_2395 : BitVec 32 := 64#32
  let v2354 : BitVec 32 := Scalar.addi v2353 c64_i32_2395
  let c0_i32_2406 : BitVec 32 := 0#32
  ![v2354.toNat, 0]

def k0_chk354 (v2352 : BitVec 32) : Prop :=
  (∀ a, (k0_off353 v2352) a + S32x4096.size a ≤ S4096x4096.size a) ∧
  (∀ (hinb : ∀ a, (k0_off353 v2352) a + S32x4096.size a ≤ S4096x4096.size a), (Rect.unit (s := S4096x4096) (k0_off353 v2352) S32x4096.size hinb).WholeWords (EltTy.packing .i8))
theorem k0_off353_inb : ∀ (v2352 : BitVec 32) (k0_hw354 : k0_chk354 v2352), ∀ a, (k0_off353 v2352) a + S32x4096.size a ≤ S4096x4096.size a := fun v2352 k0_hw354 => k0_hw354.1
theorem k0_off353_wordsi8 : ∀ (v2352 : BitVec 32) (k0_hw354 : k0_chk354 v2352), (Rect.unit (s := S4096x4096) (k0_off353 v2352) S32x4096.size (k0_off353_inb v2352 k0_hw354)).WholeWords (EltTy.packing .i8) := fun v2352 k0_hw354 => k0_hw354.2 (k0_off353_inb v2352 k0_hw354)

def k0_chk353 (v2355 : BitVec 32) : Prop :=
  (∀ a, (k0_off352 v2355) a + S32x4096.size a ≤ S4096x4096.size a) ∧
  (∀ (hinb : ∀ a, (k0_off352 v2355) a + S32x4096.size a ≤ S4096x4096.size a), (Rect.unit (s := S4096x4096) (k0_off352 v2355) S32x4096.size hinb).WholeWords (EltTy.packing .i8))
theorem k0_off352_inb : ∀ (v2355 : BitVec 32) (k0_hw353 : k0_chk353 v2355), ∀ a, (k0_off352 v2355) a + S32x4096.size a ≤ S4096x4096.size a := fun v2355 k0_hw353 => k0_hw353.1
theorem k0_off352_wordsi8 : ∀ (v2355 : BitVec 32) (k0_hw353 : k0_chk353 v2355), (Rect.unit (s := S4096x4096) (k0_off352 v2355) S32x4096.size (k0_off352_inb v2355 k0_hw353)).WholeWords (EltTy.packing .i8) := fun v2355 k0_hw353 => k0_hw353.2 (k0_off352_inb v2355 k0_hw353)

def k0_dev87 (v3 : BitVec 32) : Nat :=
  let c0_i32_2404 : BitVec 32 := 0#32
  let c1_i32_2403 : BitVec 32 := 1#32
  let v2358 : BitVec 32 := Scalar.muli v3 c1_i32_2403
  let v2359 : BitVec 32 := Scalar.addi c0_i32_2404 v2358
  v2359.toNat
def k0_off354 (v2369 : BitVec 32) : Fin 2 → Nat :=
  let c128_i32_2411 : BitVec 32 := 128#32
  let v2370 : BitVec 32 := Scalar.muli v2369 c128_i32_2411
  let c64_i32_2412 : BitVec 32 := 64#32
  let v2371 : BitVec 32 := Scalar.addi v2370 c64_i32_2412
  let c0_i32_2419 : BitVec 32 := 0#32
  ![v2371.toNat, 0]

def k0_off355 (v2366 : BitVec 32) : Fin 2 → Nat :=
  let c128_i32_2408 : BitVec 32 := 128#32
  let v2367 : BitVec 32 := Scalar.muli v2366 c128_i32_2408
  let c64_i32_2409 : BitVec 32 := 64#32
  let v2368 : BitVec 32 := Scalar.addi v2367 c64_i32_2409
  let c0_i32_2420 : BitVec 32 := 0#32
  ![v2368.toNat, 0]

def k0_chk356 (v2366 : BitVec 32) : Prop :=
  (∀ a, (k0_off355 v2366) a + S32x4096.size a ≤ S4096x4096.size a) ∧
  (∀ (hinb : ∀ a, (k0_off355 v2366) a + S32x4096.size a ≤ S4096x4096.size a), (Rect.unit (s := S4096x4096) (k0_off355 v2366) S32x4096.size hinb).WholeWords (EltTy.packing .i8))
theorem k0_off355_inb : ∀ (v2366 : BitVec 32) (k0_hw356 : k0_chk356 v2366), ∀ a, (k0_off355 v2366) a + S32x4096.size a ≤ S4096x4096.size a := fun v2366 k0_hw356 => k0_hw356.1
theorem k0_off355_wordsi8 : ∀ (v2366 : BitVec 32) (k0_hw356 : k0_chk356 v2366), (Rect.unit (s := S4096x4096) (k0_off355 v2366) S32x4096.size (k0_off355_inb v2366 k0_hw356)).WholeWords (EltTy.packing .i8) := fun v2366 k0_hw356 => k0_hw356.2 (k0_off355_inb v2366 k0_hw356)

def k0_chk355 (v2369 : BitVec 32) : Prop :=
  (∀ a, (k0_off354 v2369) a + S32x4096.size a ≤ S4096x4096.size a) ∧
  (∀ (hinb : ∀ a, (k0_off354 v2369) a + S32x4096.size a ≤ S4096x4096.size a), (Rect.unit (s := S4096x4096) (k0_off354 v2369) S32x4096.size hinb).WholeWords (EltTy.packing .i8))
theorem k0_off354_inb : ∀ (v2369 : BitVec 32) (k0_hw355 : k0_chk355 v2369), ∀ a, (k0_off354 v2369) a + S32x4096.size a ≤ S4096x4096.size a := fun v2369 k0_hw355 => k0_hw355.1
theorem k0_off354_wordsi8 : ∀ (v2369 : BitVec 32) (k0_hw355 : k0_chk355 v2369), (Rect.unit (s := S4096x4096) (k0_off354 v2369) S32x4096.size (k0_off354_inb v2369 k0_hw355)).WholeWords (EltTy.packing .i8) := fun v2369 k0_hw355 => k0_hw355.2 (k0_off354_inb v2369 k0_hw355)

def k0_off356 (v2381 : BitVec 32) : Fin 2 → Nat :=
  let c128_i32_2425 : BitVec 32 := 128#32
  let v2382 : BitVec 32 := Scalar.muli v2381 c128_i32_2425
  let c64_i32_2426 : BitVec 32 := 64#32
  let v2383 : BitVec 32 := Scalar.addi v2382 c64_i32_2426
  let c0_i32_2433 : BitVec 32 := 0#32
  ![v2383.toNat, 0]

def k0_off357 (v2378 : BitVec 32) : Fin 2 → Nat :=
  let c128_i32_2422 : BitVec 32 := 128#32
  let v2379 : BitVec 32 := Scalar.muli v2378 c128_i32_2422
  let c64_i32_2423 : BitVec 32 := 64#32
  let v2380 : BitVec 32 := Scalar.addi v2379 c64_i32_2423
  let c0_i32_2434 : BitVec 32 := 0#32
  ![v2380.toNat, 0]

def k0_chk358 (v2378 : BitVec 32) : Prop :=
  (∀ a, (k0_off357 v2378) a + S32x4096.size a ≤ S4096x4096.size a) ∧
  (∀ (hinb : ∀ a, (k0_off357 v2378) a + S32x4096.size a ≤ S4096x4096.size a), (Rect.unit (s := S4096x4096) (k0_off357 v2378) S32x4096.size hinb).WholeWords (EltTy.packing .i8))
theorem k0_off357_inb : ∀ (v2378 : BitVec 32) (k0_hw358 : k0_chk358 v2378), ∀ a, (k0_off357 v2378) a + S32x4096.size a ≤ S4096x4096.size a := fun v2378 k0_hw358 => k0_hw358.1
theorem k0_off357_wordsi8 : ∀ (v2378 : BitVec 32) (k0_hw358 : k0_chk358 v2378), (Rect.unit (s := S4096x4096) (k0_off357 v2378) S32x4096.size (k0_off357_inb v2378 k0_hw358)).WholeWords (EltTy.packing .i8) := fun v2378 k0_hw358 => k0_hw358.2 (k0_off357_inb v2378 k0_hw358)

def k0_chk357 (v2381 : BitVec 32) : Prop :=
  (∀ a, (k0_off356 v2381) a + S32x4096.size a ≤ S4096x4096.size a) ∧
  (∀ (hinb : ∀ a, (k0_off356 v2381) a + S32x4096.size a ≤ S4096x4096.size a), (Rect.unit (s := S4096x4096) (k0_off356 v2381) S32x4096.size hinb).WholeWords (EltTy.packing .i8))
theorem k0_off356_inb : ∀ (v2381 : BitVec 32) (k0_hw357 : k0_chk357 v2381), ∀ a, (k0_off356 v2381) a + S32x4096.size a ≤ S4096x4096.size a := fun v2381 k0_hw357 => k0_hw357.1
theorem k0_off356_wordsi8 : ∀ (v2381 : BitVec 32) (k0_hw357 : k0_chk357 v2381), (Rect.unit (s := S4096x4096) (k0_off356 v2381) S32x4096.size (k0_off356_inb v2381 k0_hw357)).WholeWords (EltTy.packing .i8) := fun v2381 k0_hw357 => k0_hw357.2 (k0_off356_inb v2381 k0_hw357)

def k0_dev88 (v4 : BitVec 32) : Nat :=
  let c0_i32_2432 : BitVec 32 := 0#32
  let c1_i32_2431 : BitVec 32 := 1#32
  let v2384 : BitVec 32 := Scalar.muli v4 c1_i32_2431
  let v2385 : BitVec 32 := Scalar.addi c0_i32_2432 v2384
  v2385.toNat
def k0_off358 (v2395 : BitVec 32) : Fin 2 → Nat :=
  let c128_i32_2439 : BitVec 32 := 128#32
  let v2396 : BitVec 32 := Scalar.muli v2395 c128_i32_2439
  let c96_i32_2440 : BitVec 32 := 96#32
  let v2397 : BitVec 32 := Scalar.addi v2396 c96_i32_2440
  let c0_i32_2447 : BitVec 32 := 0#32
  ![v2397.toNat, 0]

def k0_off359 (v2392 : BitVec 32) : Fin 2 → Nat :=
  let c128_i32_2436 : BitVec 32 := 128#32
  let v2393 : BitVec 32 := Scalar.muli v2392 c128_i32_2436
  let c96_i32_2437 : BitVec 32 := 96#32
  let v2394 : BitVec 32 := Scalar.addi v2393 c96_i32_2437
  let c0_i32_2448 : BitVec 32 := 0#32
  ![v2394.toNat, 0]

def k0_chk360 (v2392 : BitVec 32) : Prop :=
  (∀ a, (k0_off359 v2392) a + S32x4096.size a ≤ S4096x4096.size a) ∧
  (∀ (hinb : ∀ a, (k0_off359 v2392) a + S32x4096.size a ≤ S4096x4096.size a), (Rect.unit (s := S4096x4096) (k0_off359 v2392) S32x4096.size hinb).WholeWords (EltTy.packing .i8))
theorem k0_off359_inb : ∀ (v2392 : BitVec 32) (k0_hw360 : k0_chk360 v2392), ∀ a, (k0_off359 v2392) a + S32x4096.size a ≤ S4096x4096.size a := fun v2392 k0_hw360 => k0_hw360.1
theorem k0_off359_wordsi8 : ∀ (v2392 : BitVec 32) (k0_hw360 : k0_chk360 v2392), (Rect.unit (s := S4096x4096) (k0_off359 v2392) S32x4096.size (k0_off359_inb v2392 k0_hw360)).WholeWords (EltTy.packing .i8) := fun v2392 k0_hw360 => k0_hw360.2 (k0_off359_inb v2392 k0_hw360)

def k0_chk359 (v2395 : BitVec 32) : Prop :=
  (∀ a, (k0_off358 v2395) a + S32x4096.size a ≤ S4096x4096.size a) ∧
  (∀ (hinb : ∀ a, (k0_off358 v2395) a + S32x4096.size a ≤ S4096x4096.size a), (Rect.unit (s := S4096x4096) (k0_off358 v2395) S32x4096.size hinb).WholeWords (EltTy.packing .i8))
theorem k0_off358_inb : ∀ (v2395 : BitVec 32) (k0_hw359 : k0_chk359 v2395), ∀ a, (k0_off358 v2395) a + S32x4096.size a ≤ S4096x4096.size a := fun v2395 k0_hw359 => k0_hw359.1
theorem k0_off358_wordsi8 : ∀ (v2395 : BitVec 32) (k0_hw359 : k0_chk359 v2395), (Rect.unit (s := S4096x4096) (k0_off358 v2395) S32x4096.size (k0_off358_inb v2395 k0_hw359)).WholeWords (EltTy.packing .i8) := fun v2395 k0_hw359 => k0_hw359.2 (k0_off358_inb v2395 k0_hw359)

def k0_off360 (v2407 : BitVec 32) : Fin 2 → Nat :=
  let c128_i32_2453 : BitVec 32 := 128#32
  let v2408 : BitVec 32 := Scalar.muli v2407 c128_i32_2453
  let c96_i32_2454 : BitVec 32 := 96#32
  let v2409 : BitVec 32 := Scalar.addi v2408 c96_i32_2454
  let c0_i32_2461 : BitVec 32 := 0#32
  ![v2409.toNat, 0]

def k0_off361 (v2404 : BitVec 32) : Fin 2 → Nat :=
  let c128_i32_2450 : BitVec 32 := 128#32
  let v2405 : BitVec 32 := Scalar.muli v2404 c128_i32_2450
  let c96_i32_2451 : BitVec 32 := 96#32
  let v2406 : BitVec 32 := Scalar.addi v2405 c96_i32_2451
  let c0_i32_2462 : BitVec 32 := 0#32
  ![v2406.toNat, 0]

def k0_chk362 (v2404 : BitVec 32) : Prop :=
  (∀ a, (k0_off361 v2404) a + S32x4096.size a ≤ S4096x4096.size a) ∧
  (∀ (hinb : ∀ a, (k0_off361 v2404) a + S32x4096.size a ≤ S4096x4096.size a), (Rect.unit (s := S4096x4096) (k0_off361 v2404) S32x4096.size hinb).WholeWords (EltTy.packing .i8))
theorem k0_off361_inb : ∀ (v2404 : BitVec 32) (k0_hw362 : k0_chk362 v2404), ∀ a, (k0_off361 v2404) a + S32x4096.size a ≤ S4096x4096.size a := fun v2404 k0_hw362 => k0_hw362.1
theorem k0_off361_wordsi8 : ∀ (v2404 : BitVec 32) (k0_hw362 : k0_chk362 v2404), (Rect.unit (s := S4096x4096) (k0_off361 v2404) S32x4096.size (k0_off361_inb v2404 k0_hw362)).WholeWords (EltTy.packing .i8) := fun v2404 k0_hw362 => k0_hw362.2 (k0_off361_inb v2404 k0_hw362)

def k0_chk361 (v2407 : BitVec 32) : Prop :=
  (∀ a, (k0_off360 v2407) a + S32x4096.size a ≤ S4096x4096.size a) ∧
  (∀ (hinb : ∀ a, (k0_off360 v2407) a + S32x4096.size a ≤ S4096x4096.size a), (Rect.unit (s := S4096x4096) (k0_off360 v2407) S32x4096.size hinb).WholeWords (EltTy.packing .i8))
theorem k0_off360_inb : ∀ (v2407 : BitVec 32) (k0_hw361 : k0_chk361 v2407), ∀ a, (k0_off360 v2407) a + S32x4096.size a ≤ S4096x4096.size a := fun v2407 k0_hw361 => k0_hw361.1
theorem k0_off360_wordsi8 : ∀ (v2407 : BitVec 32) (k0_hw361 : k0_chk361 v2407), (Rect.unit (s := S4096x4096) (k0_off360 v2407) S32x4096.size (k0_off360_inb v2407 k0_hw361)).WholeWords (EltTy.packing .i8) := fun v2407 k0_hw361 => k0_hw361.2 (k0_off360_inb v2407 k0_hw361)

def k0_dev89 (v3 : BitVec 32) : Nat :=
  let c0_i32_2460 : BitVec 32 := 0#32
  let c1_i32_2459 : BitVec 32 := 1#32
  let v2410 : BitVec 32 := Scalar.muli v3 c1_i32_2459
  let v2411 : BitVec 32 := Scalar.addi c0_i32_2460 v2410
  v2411.toNat
def k0_off362 (v2421 : BitVec 32) : Fin 2 → Nat :=
  let c128_i32_2467 : BitVec 32 := 128#32
  let v2422 : BitVec 32 := Scalar.muli v2421 c128_i32_2467
  let c96_i32_2468 : BitVec 32 := 96#32
  let v2423 : BitVec 32 := Scalar.addi v2422 c96_i32_2468
  let c0_i32_2475 : BitVec 32 := 0#32
  ![v2423.toNat, 0]

def k0_off363 (v2418 : BitVec 32) : Fin 2 → Nat :=
  let c128_i32_2464 : BitVec 32 := 128#32
  let v2419 : BitVec 32 := Scalar.muli v2418 c128_i32_2464
  let c96_i32_2465 : BitVec 32 := 96#32
  let v2420 : BitVec 32 := Scalar.addi v2419 c96_i32_2465
  let c0_i32_2476 : BitVec 32 := 0#32
  ![v2420.toNat, 0]

def k0_chk364 (v2418 : BitVec 32) : Prop :=
  (∀ a, (k0_off363 v2418) a + S32x4096.size a ≤ S4096x4096.size a) ∧
  (∀ (hinb : ∀ a, (k0_off363 v2418) a + S32x4096.size a ≤ S4096x4096.size a), (Rect.unit (s := S4096x4096) (k0_off363 v2418) S32x4096.size hinb).WholeWords (EltTy.packing .i8))
theorem k0_off363_inb : ∀ (v2418 : BitVec 32) (k0_hw364 : k0_chk364 v2418), ∀ a, (k0_off363 v2418) a + S32x4096.size a ≤ S4096x4096.size a := fun v2418 k0_hw364 => k0_hw364.1
theorem k0_off363_wordsi8 : ∀ (v2418 : BitVec 32) (k0_hw364 : k0_chk364 v2418), (Rect.unit (s := S4096x4096) (k0_off363 v2418) S32x4096.size (k0_off363_inb v2418 k0_hw364)).WholeWords (EltTy.packing .i8) := fun v2418 k0_hw364 => k0_hw364.2 (k0_off363_inb v2418 k0_hw364)

def k0_chk363 (v2421 : BitVec 32) : Prop :=
  (∀ a, (k0_off362 v2421) a + S32x4096.size a ≤ S4096x4096.size a) ∧
  (∀ (hinb : ∀ a, (k0_off362 v2421) a + S32x4096.size a ≤ S4096x4096.size a), (Rect.unit (s := S4096x4096) (k0_off362 v2421) S32x4096.size hinb).WholeWords (EltTy.packing .i8))
theorem k0_off362_inb : ∀ (v2421 : BitVec 32) (k0_hw363 : k0_chk363 v2421), ∀ a, (k0_off362 v2421) a + S32x4096.size a ≤ S4096x4096.size a := fun v2421 k0_hw363 => k0_hw363.1
theorem k0_off362_wordsi8 : ∀ (v2421 : BitVec 32) (k0_hw363 : k0_chk363 v2421), (Rect.unit (s := S4096x4096) (k0_off362 v2421) S32x4096.size (k0_off362_inb v2421 k0_hw363)).WholeWords (EltTy.packing .i8) := fun v2421 k0_hw363 => k0_hw363.2 (k0_off362_inb v2421 k0_hw363)

def k0_off364 (v2433 : BitVec 32) : Fin 2 → Nat :=
  let c128_i32_2481 : BitVec 32 := 128#32
  let v2434 : BitVec 32 := Scalar.muli v2433 c128_i32_2481
  let c96_i32_2482 : BitVec 32 := 96#32
  let v2435 : BitVec 32 := Scalar.addi v2434 c96_i32_2482
  let c0_i32_2489 : BitVec 32 := 0#32
  ![v2435.toNat, 0]

def k0_off365 (v2430 : BitVec 32) : Fin 2 → Nat :=
  let c128_i32_2478 : BitVec 32 := 128#32
  let v2431 : BitVec 32 := Scalar.muli v2430 c128_i32_2478
  let c96_i32_2479 : BitVec 32 := 96#32
  let v2432 : BitVec 32 := Scalar.addi v2431 c96_i32_2479
  let c0_i32_2490 : BitVec 32 := 0#32
  ![v2432.toNat, 0]

def k0_chk366 (v2430 : BitVec 32) : Prop :=
  (∀ a, (k0_off365 v2430) a + S32x4096.size a ≤ S4096x4096.size a) ∧
  (∀ (hinb : ∀ a, (k0_off365 v2430) a + S32x4096.size a ≤ S4096x4096.size a), (Rect.unit (s := S4096x4096) (k0_off365 v2430) S32x4096.size hinb).WholeWords (EltTy.packing .i8))
theorem k0_off365_inb : ∀ (v2430 : BitVec 32) (k0_hw366 : k0_chk366 v2430), ∀ a, (k0_off365 v2430) a + S32x4096.size a ≤ S4096x4096.size a := fun v2430 k0_hw366 => k0_hw366.1
theorem k0_off365_wordsi8 : ∀ (v2430 : BitVec 32) (k0_hw366 : k0_chk366 v2430), (Rect.unit (s := S4096x4096) (k0_off365 v2430) S32x4096.size (k0_off365_inb v2430 k0_hw366)).WholeWords (EltTy.packing .i8) := fun v2430 k0_hw366 => k0_hw366.2 (k0_off365_inb v2430 k0_hw366)

def k0_chk365 (v2433 : BitVec 32) : Prop :=
  (∀ a, (k0_off364 v2433) a + S32x4096.size a ≤ S4096x4096.size a) ∧
  (∀ (hinb : ∀ a, (k0_off364 v2433) a + S32x4096.size a ≤ S4096x4096.size a), (Rect.unit (s := S4096x4096) (k0_off364 v2433) S32x4096.size hinb).WholeWords (EltTy.packing .i8))
theorem k0_off364_inb : ∀ (v2433 : BitVec 32) (k0_hw365 : k0_chk365 v2433), ∀ a, (k0_off364 v2433) a + S32x4096.size a ≤ S4096x4096.size a := fun v2433 k0_hw365 => k0_hw365.1
theorem k0_off364_wordsi8 : ∀ (v2433 : BitVec 32) (k0_hw365 : k0_chk365 v2433), (Rect.unit (s := S4096x4096) (k0_off364 v2433) S32x4096.size (k0_off364_inb v2433 k0_hw365)).WholeWords (EltTy.packing .i8) := fun v2433 k0_hw365 => k0_hw365.2 (k0_off364_inb v2433 k0_hw365)

def k0_dev90 (v4 : BitVec 32) : Nat :=
  let c0_i32_2488 : BitVec 32 := 0#32
  let c1_i32_2487 : BitVec 32 := 1#32
  let v2436 : BitVec 32 := Scalar.muli v4 c1_i32_2487
  let v2437 : BitVec 32 := Scalar.addi c0_i32_2488 v2436
  v2437.toNat
def k0_off366 (v2445 : BitVec 32) : Fin 2 → Nat :=
  let c128_i32_2493 : BitVec 32 := 128#32
  let v2446 : BitVec 32 := Scalar.muli v2445 c128_i32_2493
  let v2447 : Index := Scalar.indexCast v2446
  let c0_2494 : Index := 0#32
  ![v2447.toNat, 0]

def k0_chk367 (v2445 : BitVec 32) : Prop :=
  (∀ a, (k0_off366 v2445) a + S128x4096.size a ≤ S4096x4096.size a)
theorem k0_off366_inb : ∀ (v2445 : BitVec 32) (k0_hw367 : k0_chk367 v2445), ∀ a, (k0_off366 v2445) a + S128x4096.size a ≤ S4096x4096.size a := fun v2445 k0_hw367 => k0_hw367

def k0_off367 (v2444 : BitVec 32) : Fin 2 → Nat :=
  let c128_i32_2498 : BitVec 32 := 128#32
  let v2455 : BitVec 32 := Scalar.muli v2444 c128_i32_2498
  let v2456 : Index := Scalar.indexCast v2455
  let c0_2499 : Index := 0#32
  ![v2456.toNat, 0]

def k0_chk368 (v2444 : BitVec 32) : Prop :=
  (∀ a, (k0_off367 v2444) a + S128x64.size a ≤ S4096x64.size a)
theorem k0_off367_inb : ∀ (v2444 : BitVec 32) (k0_hw368 : k0_chk368 v2444), ∀ a, (k0_off367 v2444) a + S128x64.size a ≤ S4096x64.size a := fun v2444 k0_hw368 => k0_hw368

def k0_off368 (v2459 : BitVec 32) : Fin 2 → Nat :=
  let c128_i32_2502 : BitVec 32 := 128#32
  let v2460 : BitVec 32 := Scalar.muli v2459 c128_i32_2502
  let v2461 : Index := Scalar.indexCast v2460
  let c0_2503 : Index := 0#32
  ![v2461.toNat, 0]

def k0_chk369 (v2459 : BitVec 32) : Prop :=
  (∀ a, (k0_off368 v2459) a + S128x4096.size a ≤ S4096x4096.size a)
theorem k0_off368_inb : ∀ (v2459 : BitVec 32) (k0_hw369 : k0_chk369 v2459), ∀ a, (k0_off368 v2459) a + S128x4096.size a ≤ S4096x4096.size a := fun v2459 k0_hw369 => k0_hw369

def k0_off369 (v2458 : BitVec 32) : Fin 2 → Nat :=
  let c128_i32_2507 : BitVec 32 := 128#32
  let v2469 : BitVec 32 := Scalar.muli v2458 c128_i32_2507
  let v2470 : Index := Scalar.indexCast v2469
  let c0_2508 : Index := 0#32
  ![v2470.toNat, 0]

def k0_chk370 (v2458 : BitVec 32) : Prop :=
  (∀ a, (k0_off369 v2458) a + S128x64.size a ≤ S4096x64.size a)
theorem k0_off369_inb : ∀ (v2458 : BitVec 32) (k0_hw370 : k0_chk370 v2458), ∀ a, (k0_off369 v2458) a + S128x64.size a ≤ S4096x64.size a := fun v2458 k0_hw370 => k0_hw370

def k0_off370 (v2475 : BitVec 32) : Fin 2 → Nat :=
  let c128_i32_2513 : BitVec 32 := 128#32
  let v2476 : BitVec 32 := Scalar.muli v2475 c128_i32_2513
  let c0_i32_2514 : BitVec 32 := 0#32
  let v2477 : BitVec 32 := Scalar.addi v2476 c0_i32_2514
  let c0_i32_2521 : BitVec 32 := 0#32
  ![v2477.toNat, 0]

def k0_off371 (v2472 : BitVec 32) : Fin 2 → Nat :=
  let c128_i32_2510 : BitVec 32 := 128#32
  let v2473 : BitVec 32 := Scalar.muli v2472 c128_i32_2510
  let c0_i32_2511 : BitVec 32 := 0#32
  let v2474 : BitVec 32 := Scalar.addi v2473 c0_i32_2511
  let c0_i32_2522 : BitVec 32 := 0#32
  ![v2474.toNat, 0]

def k0_chk372 (v2472 : BitVec 32) : Prop :=
  (∀ a, (k0_off371 v2472) a + S32x4096.size a ≤ S4096x4096.size a) ∧
  (∀ (hinb : ∀ a, (k0_off371 v2472) a + S32x4096.size a ≤ S4096x4096.size a), (Rect.unit (s := S4096x4096) (k0_off371 v2472) S32x4096.size hinb).WholeWords (EltTy.packing .i8))
theorem k0_off371_inb : ∀ (v2472 : BitVec 32) (k0_hw372 : k0_chk372 v2472), ∀ a, (k0_off371 v2472) a + S32x4096.size a ≤ S4096x4096.size a := fun v2472 k0_hw372 => k0_hw372.1
theorem k0_off371_wordsi8 : ∀ (v2472 : BitVec 32) (k0_hw372 : k0_chk372 v2472), (Rect.unit (s := S4096x4096) (k0_off371 v2472) S32x4096.size (k0_off371_inb v2472 k0_hw372)).WholeWords (EltTy.packing .i8) := fun v2472 k0_hw372 => k0_hw372.2 (k0_off371_inb v2472 k0_hw372)

def k0_chk371 (v2475 : BitVec 32) : Prop :=
  (∀ a, (k0_off370 v2475) a + S32x4096.size a ≤ S4096x4096.size a) ∧
  (∀ (hinb : ∀ a, (k0_off370 v2475) a + S32x4096.size a ≤ S4096x4096.size a), (Rect.unit (s := S4096x4096) (k0_off370 v2475) S32x4096.size hinb).WholeWords (EltTy.packing .i8))
theorem k0_off370_inb : ∀ (v2475 : BitVec 32) (k0_hw371 : k0_chk371 v2475), ∀ a, (k0_off370 v2475) a + S32x4096.size a ≤ S4096x4096.size a := fun v2475 k0_hw371 => k0_hw371.1
theorem k0_off370_wordsi8 : ∀ (v2475 : BitVec 32) (k0_hw371 : k0_chk371 v2475), (Rect.unit (s := S4096x4096) (k0_off370 v2475) S32x4096.size (k0_off370_inb v2475 k0_hw371)).WholeWords (EltTy.packing .i8) := fun v2475 k0_hw371 => k0_hw371.2 (k0_off370_inb v2475 k0_hw371)

def k0_off372 (v2487 : BitVec 32) : Fin 2 → Nat :=
  let c128_i32_2526 : BitVec 32 := 128#32
  let v2488 : BitVec 32 := Scalar.muli v2487 c128_i32_2526
  let c0_i32_2527 : BitVec 32 := 0#32
  let v2489 : BitVec 32 := Scalar.addi v2488 c0_i32_2527
  let c0_i32_2533 : BitVec 32 := 0#32
  ![v2489.toNat, 0]

def k0_off373 (v2484 : BitVec 32) : Fin 2 → Nat :=
  let c128_i32_2523 : BitVec 32 := 128#32
  let v2485 : BitVec 32 := Scalar.muli v2484 c128_i32_2523
  let c0_i32_2524 : BitVec 32 := 0#32
  let v2486 : BitVec 32 := Scalar.addi v2485 c0_i32_2524
  let c0_i32_2534 : BitVec 32 := 0#32
  ![v2486.toNat, 0]

def k0_chk374 (v2484 : BitVec 32) : Prop :=
  (∀ a, (k0_off373 v2484) a + S32x4096.size a ≤ S4096x4096.size a) ∧
  (∀ (hinb : ∀ a, (k0_off373 v2484) a + S32x4096.size a ≤ S4096x4096.size a), (Rect.unit (s := S4096x4096) (k0_off373 v2484) S32x4096.size hinb).WholeWords (EltTy.packing .i8))
theorem k0_off373_inb : ∀ (v2484 : BitVec 32) (k0_hw374 : k0_chk374 v2484), ∀ a, (k0_off373 v2484) a + S32x4096.size a ≤ S4096x4096.size a := fun v2484 k0_hw374 => k0_hw374.1
theorem k0_off373_wordsi8 : ∀ (v2484 : BitVec 32) (k0_hw374 : k0_chk374 v2484), (Rect.unit (s := S4096x4096) (k0_off373 v2484) S32x4096.size (k0_off373_inb v2484 k0_hw374)).WholeWords (EltTy.packing .i8) := fun v2484 k0_hw374 => k0_hw374.2 (k0_off373_inb v2484 k0_hw374)

def k0_chk373 (v2487 : BitVec 32) : Prop :=
  (∀ a, (k0_off372 v2487) a + S32x4096.size a ≤ S4096x4096.size a) ∧
  (∀ (hinb : ∀ a, (k0_off372 v2487) a + S32x4096.size a ≤ S4096x4096.size a), (Rect.unit (s := S4096x4096) (k0_off372 v2487) S32x4096.size hinb).WholeWords (EltTy.packing .i8))
theorem k0_off372_inb : ∀ (v2487 : BitVec 32) (k0_hw373 : k0_chk373 v2487), ∀ a, (k0_off372 v2487) a + S32x4096.size a ≤ S4096x4096.size a := fun v2487 k0_hw373 => k0_hw373.1
theorem k0_off372_wordsi8 : ∀ (v2487 : BitVec 32) (k0_hw373 : k0_chk373 v2487), (Rect.unit (s := S4096x4096) (k0_off372 v2487) S32x4096.size (k0_off372_inb v2487 k0_hw373)).WholeWords (EltTy.packing .i8) := fun v2487 k0_hw373 => k0_hw373.2 (k0_off372_inb v2487 k0_hw373)

def k0_dev91 (v3 : BitVec 32) : Nat :=
  let c0_i32_2532 : BitVec 32 := 0#32
  let c1_i32_2531 : BitVec 32 := 1#32
  let v2490 : BitVec 32 := Scalar.muli v3 c1_i32_2531
  let v2491 : BitVec 32 := Scalar.addi c0_i32_2532 v2490
  v2491.toNat
def k0_off374 (v2501 : BitVec 32) : Fin 2 → Nat :=
  let c128_i32_2539 : BitVec 32 := 128#32
  let v2502 : BitVec 32 := Scalar.muli v2501 c128_i32_2539
  let c0_i32_2540 : BitVec 32 := 0#32
  let v2503 : BitVec 32 := Scalar.addi v2502 c0_i32_2540
  let c0_i32_2547 : BitVec 32 := 0#32
  ![v2503.toNat, 0]

def k0_off375 (v2498 : BitVec 32) : Fin 2 → Nat :=
  let c128_i32_2536 : BitVec 32 := 128#32
  let v2499 : BitVec 32 := Scalar.muli v2498 c128_i32_2536
  let c0_i32_2537 : BitVec 32 := 0#32
  let v2500 : BitVec 32 := Scalar.addi v2499 c0_i32_2537
  let c0_i32_2548 : BitVec 32 := 0#32
  ![v2500.toNat, 0]

def k0_chk376 (v2498 : BitVec 32) : Prop :=
  (∀ a, (k0_off375 v2498) a + S32x4096.size a ≤ S4096x4096.size a) ∧
  (∀ (hinb : ∀ a, (k0_off375 v2498) a + S32x4096.size a ≤ S4096x4096.size a), (Rect.unit (s := S4096x4096) (k0_off375 v2498) S32x4096.size hinb).WholeWords (EltTy.packing .i8))
theorem k0_off375_inb : ∀ (v2498 : BitVec 32) (k0_hw376 : k0_chk376 v2498), ∀ a, (k0_off375 v2498) a + S32x4096.size a ≤ S4096x4096.size a := fun v2498 k0_hw376 => k0_hw376.1
theorem k0_off375_wordsi8 : ∀ (v2498 : BitVec 32) (k0_hw376 : k0_chk376 v2498), (Rect.unit (s := S4096x4096) (k0_off375 v2498) S32x4096.size (k0_off375_inb v2498 k0_hw376)).WholeWords (EltTy.packing .i8) := fun v2498 k0_hw376 => k0_hw376.2 (k0_off375_inb v2498 k0_hw376)

def k0_chk375 (v2501 : BitVec 32) : Prop :=
  (∀ a, (k0_off374 v2501) a + S32x4096.size a ≤ S4096x4096.size a) ∧
  (∀ (hinb : ∀ a, (k0_off374 v2501) a + S32x4096.size a ≤ S4096x4096.size a), (Rect.unit (s := S4096x4096) (k0_off374 v2501) S32x4096.size hinb).WholeWords (EltTy.packing .i8))
theorem k0_off374_inb : ∀ (v2501 : BitVec 32) (k0_hw375 : k0_chk375 v2501), ∀ a, (k0_off374 v2501) a + S32x4096.size a ≤ S4096x4096.size a := fun v2501 k0_hw375 => k0_hw375.1
theorem k0_off374_wordsi8 : ∀ (v2501 : BitVec 32) (k0_hw375 : k0_chk375 v2501), (Rect.unit (s := S4096x4096) (k0_off374 v2501) S32x4096.size (k0_off374_inb v2501 k0_hw375)).WholeWords (EltTy.packing .i8) := fun v2501 k0_hw375 => k0_hw375.2 (k0_off374_inb v2501 k0_hw375)

def k0_off376 (v2513 : BitVec 32) : Fin 2 → Nat :=
  let c128_i32_2553 : BitVec 32 := 128#32
  let v2514 : BitVec 32 := Scalar.muli v2513 c128_i32_2553
  let c0_i32_2554 : BitVec 32 := 0#32
  let v2515 : BitVec 32 := Scalar.addi v2514 c0_i32_2554
  let c0_i32_2561 : BitVec 32 := 0#32
  ![v2515.toNat, 0]

def k0_off377 (v2510 : BitVec 32) : Fin 2 → Nat :=
  let c128_i32_2550 : BitVec 32 := 128#32
  let v2511 : BitVec 32 := Scalar.muli v2510 c128_i32_2550
  let c0_i32_2551 : BitVec 32 := 0#32
  let v2512 : BitVec 32 := Scalar.addi v2511 c0_i32_2551
  let c0_i32_2562 : BitVec 32 := 0#32
  ![v2512.toNat, 0]

def k0_chk378 (v2510 : BitVec 32) : Prop :=
  (∀ a, (k0_off377 v2510) a + S32x4096.size a ≤ S4096x4096.size a) ∧
  (∀ (hinb : ∀ a, (k0_off377 v2510) a + S32x4096.size a ≤ S4096x4096.size a), (Rect.unit (s := S4096x4096) (k0_off377 v2510) S32x4096.size hinb).WholeWords (EltTy.packing .i8))
theorem k0_off377_inb : ∀ (v2510 : BitVec 32) (k0_hw378 : k0_chk378 v2510), ∀ a, (k0_off377 v2510) a + S32x4096.size a ≤ S4096x4096.size a := fun v2510 k0_hw378 => k0_hw378.1
theorem k0_off377_wordsi8 : ∀ (v2510 : BitVec 32) (k0_hw378 : k0_chk378 v2510), (Rect.unit (s := S4096x4096) (k0_off377 v2510) S32x4096.size (k0_off377_inb v2510 k0_hw378)).WholeWords (EltTy.packing .i8) := fun v2510 k0_hw378 => k0_hw378.2 (k0_off377_inb v2510 k0_hw378)

def k0_chk377 (v2513 : BitVec 32) : Prop :=
  (∀ a, (k0_off376 v2513) a + S32x4096.size a ≤ S4096x4096.size a) ∧
  (∀ (hinb : ∀ a, (k0_off376 v2513) a + S32x4096.size a ≤ S4096x4096.size a), (Rect.unit (s := S4096x4096) (k0_off376 v2513) S32x4096.size hinb).WholeWords (EltTy.packing .i8))
theorem k0_off376_inb : ∀ (v2513 : BitVec 32) (k0_hw377 : k0_chk377 v2513), ∀ a, (k0_off376 v2513) a + S32x4096.size a ≤ S4096x4096.size a := fun v2513 k0_hw377 => k0_hw377.1
theorem k0_off376_wordsi8 : ∀ (v2513 : BitVec 32) (k0_hw377 : k0_chk377 v2513), (Rect.unit (s := S4096x4096) (k0_off376 v2513) S32x4096.size (k0_off376_inb v2513 k0_hw377)).WholeWords (EltTy.packing .i8) := fun v2513 k0_hw377 => k0_hw377.2 (k0_off376_inb v2513 k0_hw377)

def k0_dev92 (v4 : BitVec 32) : Nat :=
  let c0_i32_2560 : BitVec 32 := 0#32
  let c1_i32_2559 : BitVec 32 := 1#32
  let v2516 : BitVec 32 := Scalar.muli v4 c1_i32_2559
  let v2517 : BitVec 32 := Scalar.addi c0_i32_2560 v2516
  v2517.toNat
def k0_off378 (v2527 : BitVec 32) : Fin 2 → Nat :=
  let c128_i32_2567 : BitVec 32 := 128#32
  let v2528 : BitVec 32 := Scalar.muli v2527 c128_i32_2567
  let c32_i32_2568 : BitVec 32 := 32#32
  let v2529 : BitVec 32 := Scalar.addi v2528 c32_i32_2568
  let c0_i32_2575 : BitVec 32 := 0#32
  ![v2529.toNat, 0]

def k0_off379 (v2524 : BitVec 32) : Fin 2 → Nat :=
  let c128_i32_2564 : BitVec 32 := 128#32
  let v2525 : BitVec 32 := Scalar.muli v2524 c128_i32_2564
  let c32_i32_2565 : BitVec 32 := 32#32
  let v2526 : BitVec 32 := Scalar.addi v2525 c32_i32_2565
  let c0_i32_2576 : BitVec 32 := 0#32
  ![v2526.toNat, 0]

def k0_chk380 (v2524 : BitVec 32) : Prop :=
  (∀ a, (k0_off379 v2524) a + S32x4096.size a ≤ S4096x4096.size a) ∧
  (∀ (hinb : ∀ a, (k0_off379 v2524) a + S32x4096.size a ≤ S4096x4096.size a), (Rect.unit (s := S4096x4096) (k0_off379 v2524) S32x4096.size hinb).WholeWords (EltTy.packing .i8))
theorem k0_off379_inb : ∀ (v2524 : BitVec 32) (k0_hw380 : k0_chk380 v2524), ∀ a, (k0_off379 v2524) a + S32x4096.size a ≤ S4096x4096.size a := fun v2524 k0_hw380 => k0_hw380.1
theorem k0_off379_wordsi8 : ∀ (v2524 : BitVec 32) (k0_hw380 : k0_chk380 v2524), (Rect.unit (s := S4096x4096) (k0_off379 v2524) S32x4096.size (k0_off379_inb v2524 k0_hw380)).WholeWords (EltTy.packing .i8) := fun v2524 k0_hw380 => k0_hw380.2 (k0_off379_inb v2524 k0_hw380)

def k0_chk379 (v2527 : BitVec 32) : Prop :=
  (∀ a, (k0_off378 v2527) a + S32x4096.size a ≤ S4096x4096.size a) ∧
  (∀ (hinb : ∀ a, (k0_off378 v2527) a + S32x4096.size a ≤ S4096x4096.size a), (Rect.unit (s := S4096x4096) (k0_off378 v2527) S32x4096.size hinb).WholeWords (EltTy.packing .i8))
theorem k0_off378_inb : ∀ (v2527 : BitVec 32) (k0_hw379 : k0_chk379 v2527), ∀ a, (k0_off378 v2527) a + S32x4096.size a ≤ S4096x4096.size a := fun v2527 k0_hw379 => k0_hw379.1
theorem k0_off378_wordsi8 : ∀ (v2527 : BitVec 32) (k0_hw379 : k0_chk379 v2527), (Rect.unit (s := S4096x4096) (k0_off378 v2527) S32x4096.size (k0_off378_inb v2527 k0_hw379)).WholeWords (EltTy.packing .i8) := fun v2527 k0_hw379 => k0_hw379.2 (k0_off378_inb v2527 k0_hw379)

def k0_off380 (v2539 : BitVec 32) : Fin 2 → Nat :=
  let c128_i32_2581 : BitVec 32 := 128#32
  let v2540 : BitVec 32 := Scalar.muli v2539 c128_i32_2581
  let c32_i32_2582 : BitVec 32 := 32#32
  let v2541 : BitVec 32 := Scalar.addi v2540 c32_i32_2582
  let c0_i32_2589 : BitVec 32 := 0#32
  ![v2541.toNat, 0]

def k0_off381 (v2536 : BitVec 32) : Fin 2 → Nat :=
  let c128_i32_2578 : BitVec 32 := 128#32
  let v2537 : BitVec 32 := Scalar.muli v2536 c128_i32_2578
  let c32_i32_2579 : BitVec 32 := 32#32
  let v2538 : BitVec 32 := Scalar.addi v2537 c32_i32_2579
  let c0_i32_2590 : BitVec 32 := 0#32
  ![v2538.toNat, 0]

def k0_chk382 (v2536 : BitVec 32) : Prop :=
  (∀ a, (k0_off381 v2536) a + S32x4096.size a ≤ S4096x4096.size a) ∧
  (∀ (hinb : ∀ a, (k0_off381 v2536) a + S32x4096.size a ≤ S4096x4096.size a), (Rect.unit (s := S4096x4096) (k0_off381 v2536) S32x4096.size hinb).WholeWords (EltTy.packing .i8))
theorem k0_off381_inb : ∀ (v2536 : BitVec 32) (k0_hw382 : k0_chk382 v2536), ∀ a, (k0_off381 v2536) a + S32x4096.size a ≤ S4096x4096.size a := fun v2536 k0_hw382 => k0_hw382.1
theorem k0_off381_wordsi8 : ∀ (v2536 : BitVec 32) (k0_hw382 : k0_chk382 v2536), (Rect.unit (s := S4096x4096) (k0_off381 v2536) S32x4096.size (k0_off381_inb v2536 k0_hw382)).WholeWords (EltTy.packing .i8) := fun v2536 k0_hw382 => k0_hw382.2 (k0_off381_inb v2536 k0_hw382)

def k0_chk381 (v2539 : BitVec 32) : Prop :=
  (∀ a, (k0_off380 v2539) a + S32x4096.size a ≤ S4096x4096.size a) ∧
  (∀ (hinb : ∀ a, (k0_off380 v2539) a + S32x4096.size a ≤ S4096x4096.size a), (Rect.unit (s := S4096x4096) (k0_off380 v2539) S32x4096.size hinb).WholeWords (EltTy.packing .i8))
theorem k0_off380_inb : ∀ (v2539 : BitVec 32) (k0_hw381 : k0_chk381 v2539), ∀ a, (k0_off380 v2539) a + S32x4096.size a ≤ S4096x4096.size a := fun v2539 k0_hw381 => k0_hw381.1
theorem k0_off380_wordsi8 : ∀ (v2539 : BitVec 32) (k0_hw381 : k0_chk381 v2539), (Rect.unit (s := S4096x4096) (k0_off380 v2539) S32x4096.size (k0_off380_inb v2539 k0_hw381)).WholeWords (EltTy.packing .i8) := fun v2539 k0_hw381 => k0_hw381.2 (k0_off380_inb v2539 k0_hw381)

def k0_dev93 (v3 : BitVec 32) : Nat :=
  let c0_i32_2588 : BitVec 32 := 0#32
  let c1_i32_2587 : BitVec 32 := 1#32
  let v2542 : BitVec 32 := Scalar.muli v3 c1_i32_2587
  let v2543 : BitVec 32 := Scalar.addi c0_i32_2588 v2542
  v2543.toNat
def k0_off382 (v2553 : BitVec 32) : Fin 2 → Nat :=
  let c128_i32_2595 : BitVec 32 := 128#32
  let v2554 : BitVec 32 := Scalar.muli v2553 c128_i32_2595
  let c32_i32_2596 : BitVec 32 := 32#32
  let v2555 : BitVec 32 := Scalar.addi v2554 c32_i32_2596
  let c0_i32_2603 : BitVec 32 := 0#32
  ![v2555.toNat, 0]

def k0_off383 (v2550 : BitVec 32) : Fin 2 → Nat :=
  let c128_i32_2592 : BitVec 32 := 128#32
  let v2551 : BitVec 32 := Scalar.muli v2550 c128_i32_2592
  let c32_i32_2593 : BitVec 32 := 32#32
  let v2552 : BitVec 32 := Scalar.addi v2551 c32_i32_2593
  let c0_i32_2604 : BitVec 32 := 0#32
  ![v2552.toNat, 0]

def k0_chk384 (v2550 : BitVec 32) : Prop :=
  (∀ a, (k0_off383 v2550) a + S32x4096.size a ≤ S4096x4096.size a) ∧
  (∀ (hinb : ∀ a, (k0_off383 v2550) a + S32x4096.size a ≤ S4096x4096.size a), (Rect.unit (s := S4096x4096) (k0_off383 v2550) S32x4096.size hinb).WholeWords (EltTy.packing .i8))
theorem k0_off383_inb : ∀ (v2550 : BitVec 32) (k0_hw384 : k0_chk384 v2550), ∀ a, (k0_off383 v2550) a + S32x4096.size a ≤ S4096x4096.size a := fun v2550 k0_hw384 => k0_hw384.1
theorem k0_off383_wordsi8 : ∀ (v2550 : BitVec 32) (k0_hw384 : k0_chk384 v2550), (Rect.unit (s := S4096x4096) (k0_off383 v2550) S32x4096.size (k0_off383_inb v2550 k0_hw384)).WholeWords (EltTy.packing .i8) := fun v2550 k0_hw384 => k0_hw384.2 (k0_off383_inb v2550 k0_hw384)

def k0_chk383 (v2553 : BitVec 32) : Prop :=
  (∀ a, (k0_off382 v2553) a + S32x4096.size a ≤ S4096x4096.size a) ∧
  (∀ (hinb : ∀ a, (k0_off382 v2553) a + S32x4096.size a ≤ S4096x4096.size a), (Rect.unit (s := S4096x4096) (k0_off382 v2553) S32x4096.size hinb).WholeWords (EltTy.packing .i8))
theorem k0_off382_inb : ∀ (v2553 : BitVec 32) (k0_hw383 : k0_chk383 v2553), ∀ a, (k0_off382 v2553) a + S32x4096.size a ≤ S4096x4096.size a := fun v2553 k0_hw383 => k0_hw383.1
theorem k0_off382_wordsi8 : ∀ (v2553 : BitVec 32) (k0_hw383 : k0_chk383 v2553), (Rect.unit (s := S4096x4096) (k0_off382 v2553) S32x4096.size (k0_off382_inb v2553 k0_hw383)).WholeWords (EltTy.packing .i8) := fun v2553 k0_hw383 => k0_hw383.2 (k0_off382_inb v2553 k0_hw383)

def k0_off384 (v2565 : BitVec 32) : Fin 2 → Nat :=
  let c128_i32_2609 : BitVec 32 := 128#32
  let v2566 : BitVec 32 := Scalar.muli v2565 c128_i32_2609
  let c32_i32_2610 : BitVec 32 := 32#32
  let v2567 : BitVec 32 := Scalar.addi v2566 c32_i32_2610
  let c0_i32_2617 : BitVec 32 := 0#32
  ![v2567.toNat, 0]

def k0_off385 (v2562 : BitVec 32) : Fin 2 → Nat :=
  let c128_i32_2606 : BitVec 32 := 128#32
  let v2563 : BitVec 32 := Scalar.muli v2562 c128_i32_2606
  let c32_i32_2607 : BitVec 32 := 32#32
  let v2564 : BitVec 32 := Scalar.addi v2563 c32_i32_2607
  let c0_i32_2618 : BitVec 32 := 0#32
  ![v2564.toNat, 0]

def k0_chk386 (v2562 : BitVec 32) : Prop :=
  (∀ a, (k0_off385 v2562) a + S32x4096.size a ≤ S4096x4096.size a) ∧
  (∀ (hinb : ∀ a, (k0_off385 v2562) a + S32x4096.size a ≤ S4096x4096.size a), (Rect.unit (s := S4096x4096) (k0_off385 v2562) S32x4096.size hinb).WholeWords (EltTy.packing .i8))
theorem k0_off385_inb : ∀ (v2562 : BitVec 32) (k0_hw386 : k0_chk386 v2562), ∀ a, (k0_off385 v2562) a + S32x4096.size a ≤ S4096x4096.size a := fun v2562 k0_hw386 => k0_hw386.1
theorem k0_off385_wordsi8 : ∀ (v2562 : BitVec 32) (k0_hw386 : k0_chk386 v2562), (Rect.unit (s := S4096x4096) (k0_off385 v2562) S32x4096.size (k0_off385_inb v2562 k0_hw386)).WholeWords (EltTy.packing .i8) := fun v2562 k0_hw386 => k0_hw386.2 (k0_off385_inb v2562 k0_hw386)

def k0_chk385 (v2565 : BitVec 32) : Prop :=
  (∀ a, (k0_off384 v2565) a + S32x4096.size a ≤ S4096x4096.size a) ∧
  (∀ (hinb : ∀ a, (k0_off384 v2565) a + S32x4096.size a ≤ S4096x4096.size a), (Rect.unit (s := S4096x4096) (k0_off384 v2565) S32x4096.size hinb).WholeWords (EltTy.packing .i8))
theorem k0_off384_inb : ∀ (v2565 : BitVec 32) (k0_hw385 : k0_chk385 v2565), ∀ a, (k0_off384 v2565) a + S32x4096.size a ≤ S4096x4096.size a := fun v2565 k0_hw385 => k0_hw385.1
theorem k0_off384_wordsi8 : ∀ (v2565 : BitVec 32) (k0_hw385 : k0_chk385 v2565), (Rect.unit (s := S4096x4096) (k0_off384 v2565) S32x4096.size (k0_off384_inb v2565 k0_hw385)).WholeWords (EltTy.packing .i8) := fun v2565 k0_hw385 => k0_hw385.2 (k0_off384_inb v2565 k0_hw385)

def k0_dev94 (v4 : BitVec 32) : Nat :=
  let c0_i32_2616 : BitVec 32 := 0#32
  let c1_i32_2615 : BitVec 32 := 1#32
  let v2568 : BitVec 32 := Scalar.muli v4 c1_i32_2615
  let v2569 : BitVec 32 := Scalar.addi c0_i32_2616 v2568
  v2569.toNat
def k0_off386 (v2579 : BitVec 32) : Fin 2 → Nat :=
  let c128_i32_2623 : BitVec 32 := 128#32
  let v2580 : BitVec 32 := Scalar.muli v2579 c128_i32_2623
  let c64_i32_2624 : BitVec 32 := 64#32
  let v2581 : BitVec 32 := Scalar.addi v2580 c64_i32_2624
  let c0_i32_2631 : BitVec 32 := 0#32
  ![v2581.toNat, 0]

def k0_off387 (v2576 : BitVec 32) : Fin 2 → Nat :=
  let c128_i32_2620 : BitVec 32 := 128#32
  let v2577 : BitVec 32 := Scalar.muli v2576 c128_i32_2620
  let c64_i32_2621 : BitVec 32 := 64#32
  let v2578 : BitVec 32 := Scalar.addi v2577 c64_i32_2621
  let c0_i32_2632 : BitVec 32 := 0#32
  ![v2578.toNat, 0]

def k0_chk388 (v2576 : BitVec 32) : Prop :=
  (∀ a, (k0_off387 v2576) a + S32x4096.size a ≤ S4096x4096.size a) ∧
  (∀ (hinb : ∀ a, (k0_off387 v2576) a + S32x4096.size a ≤ S4096x4096.size a), (Rect.unit (s := S4096x4096) (k0_off387 v2576) S32x4096.size hinb).WholeWords (EltTy.packing .i8))
theorem k0_off387_inb : ∀ (v2576 : BitVec 32) (k0_hw388 : k0_chk388 v2576), ∀ a, (k0_off387 v2576) a + S32x4096.size a ≤ S4096x4096.size a := fun v2576 k0_hw388 => k0_hw388.1
theorem k0_off387_wordsi8 : ∀ (v2576 : BitVec 32) (k0_hw388 : k0_chk388 v2576), (Rect.unit (s := S4096x4096) (k0_off387 v2576) S32x4096.size (k0_off387_inb v2576 k0_hw388)).WholeWords (EltTy.packing .i8) := fun v2576 k0_hw388 => k0_hw388.2 (k0_off387_inb v2576 k0_hw388)

def k0_chk387 (v2579 : BitVec 32) : Prop :=
  (∀ a, (k0_off386 v2579) a + S32x4096.size a ≤ S4096x4096.size a) ∧
  (∀ (hinb : ∀ a, (k0_off386 v2579) a + S32x4096.size a ≤ S4096x4096.size a), (Rect.unit (s := S4096x4096) (k0_off386 v2579) S32x4096.size hinb).WholeWords (EltTy.packing .i8))
theorem k0_off386_inb : ∀ (v2579 : BitVec 32) (k0_hw387 : k0_chk387 v2579), ∀ a, (k0_off386 v2579) a + S32x4096.size a ≤ S4096x4096.size a := fun v2579 k0_hw387 => k0_hw387.1
theorem k0_off386_wordsi8 : ∀ (v2579 : BitVec 32) (k0_hw387 : k0_chk387 v2579), (Rect.unit (s := S4096x4096) (k0_off386 v2579) S32x4096.size (k0_off386_inb v2579 k0_hw387)).WholeWords (EltTy.packing .i8) := fun v2579 k0_hw387 => k0_hw387.2 (k0_off386_inb v2579 k0_hw387)

def k0_off388 (v2591 : BitVec 32) : Fin 2 → Nat :=
  let c128_i32_2637 : BitVec 32 := 128#32
  let v2592 : BitVec 32 := Scalar.muli v2591 c128_i32_2637
  let c64_i32_2638 : BitVec 32 := 64#32
  let v2593 : BitVec 32 := Scalar.addi v2592 c64_i32_2638
  let c0_i32_2645 : BitVec 32 := 0#32
  ![v2593.toNat, 0]

def k0_off389 (v2588 : BitVec 32) : Fin 2 → Nat :=
  let c128_i32_2634 : BitVec 32 := 128#32
  let v2589 : BitVec 32 := Scalar.muli v2588 c128_i32_2634
  let c64_i32_2635 : BitVec 32 := 64#32
  let v2590 : BitVec 32 := Scalar.addi v2589 c64_i32_2635
  let c0_i32_2646 : BitVec 32 := 0#32
  ![v2590.toNat, 0]

def k0_chk390 (v2588 : BitVec 32) : Prop :=
  (∀ a, (k0_off389 v2588) a + S32x4096.size a ≤ S4096x4096.size a) ∧
  (∀ (hinb : ∀ a, (k0_off389 v2588) a + S32x4096.size a ≤ S4096x4096.size a), (Rect.unit (s := S4096x4096) (k0_off389 v2588) S32x4096.size hinb).WholeWords (EltTy.packing .i8))
theorem k0_off389_inb : ∀ (v2588 : BitVec 32) (k0_hw390 : k0_chk390 v2588), ∀ a, (k0_off389 v2588) a + S32x4096.size a ≤ S4096x4096.size a := fun v2588 k0_hw390 => k0_hw390.1
theorem k0_off389_wordsi8 : ∀ (v2588 : BitVec 32) (k0_hw390 : k0_chk390 v2588), (Rect.unit (s := S4096x4096) (k0_off389 v2588) S32x4096.size (k0_off389_inb v2588 k0_hw390)).WholeWords (EltTy.packing .i8) := fun v2588 k0_hw390 => k0_hw390.2 (k0_off389_inb v2588 k0_hw390)

def k0_chk389 (v2591 : BitVec 32) : Prop :=
  (∀ a, (k0_off388 v2591) a + S32x4096.size a ≤ S4096x4096.size a) ∧
  (∀ (hinb : ∀ a, (k0_off388 v2591) a + S32x4096.size a ≤ S4096x4096.size a), (Rect.unit (s := S4096x4096) (k0_off388 v2591) S32x4096.size hinb).WholeWords (EltTy.packing .i8))
theorem k0_off388_inb : ∀ (v2591 : BitVec 32) (k0_hw389 : k0_chk389 v2591), ∀ a, (k0_off388 v2591) a + S32x4096.size a ≤ S4096x4096.size a := fun v2591 k0_hw389 => k0_hw389.1
theorem k0_off388_wordsi8 : ∀ (v2591 : BitVec 32) (k0_hw389 : k0_chk389 v2591), (Rect.unit (s := S4096x4096) (k0_off388 v2591) S32x4096.size (k0_off388_inb v2591 k0_hw389)).WholeWords (EltTy.packing .i8) := fun v2591 k0_hw389 => k0_hw389.2 (k0_off388_inb v2591 k0_hw389)

def k0_dev95 (v3 : BitVec 32) : Nat :=
  let c0_i32_2644 : BitVec 32 := 0#32
  let c1_i32_2643 : BitVec 32 := 1#32
  let v2594 : BitVec 32 := Scalar.muli v3 c1_i32_2643
  let v2595 : BitVec 32 := Scalar.addi c0_i32_2644 v2594
  v2595.toNat
def k0_off390 (v2605 : BitVec 32) : Fin 2 → Nat :=
  let c128_i32_2651 : BitVec 32 := 128#32
  let v2606 : BitVec 32 := Scalar.muli v2605 c128_i32_2651
  let c64_i32_2652 : BitVec 32 := 64#32
  let v2607 : BitVec 32 := Scalar.addi v2606 c64_i32_2652
  let c0_i32_2659 : BitVec 32 := 0#32
  ![v2607.toNat, 0]

def k0_off391 (v2602 : BitVec 32) : Fin 2 → Nat :=
  let c128_i32_2648 : BitVec 32 := 128#32
  let v2603 : BitVec 32 := Scalar.muli v2602 c128_i32_2648
  let c64_i32_2649 : BitVec 32 := 64#32
  let v2604 : BitVec 32 := Scalar.addi v2603 c64_i32_2649
  let c0_i32_2660 : BitVec 32 := 0#32
  ![v2604.toNat, 0]

def k0_chk392 (v2602 : BitVec 32) : Prop :=
  (∀ a, (k0_off391 v2602) a + S32x4096.size a ≤ S4096x4096.size a) ∧
  (∀ (hinb : ∀ a, (k0_off391 v2602) a + S32x4096.size a ≤ S4096x4096.size a), (Rect.unit (s := S4096x4096) (k0_off391 v2602) S32x4096.size hinb).WholeWords (EltTy.packing .i8))
theorem k0_off391_inb : ∀ (v2602 : BitVec 32) (k0_hw392 : k0_chk392 v2602), ∀ a, (k0_off391 v2602) a + S32x4096.size a ≤ S4096x4096.size a := fun v2602 k0_hw392 => k0_hw392.1
theorem k0_off391_wordsi8 : ∀ (v2602 : BitVec 32) (k0_hw392 : k0_chk392 v2602), (Rect.unit (s := S4096x4096) (k0_off391 v2602) S32x4096.size (k0_off391_inb v2602 k0_hw392)).WholeWords (EltTy.packing .i8) := fun v2602 k0_hw392 => k0_hw392.2 (k0_off391_inb v2602 k0_hw392)

def k0_chk391 (v2605 : BitVec 32) : Prop :=
  (∀ a, (k0_off390 v2605) a + S32x4096.size a ≤ S4096x4096.size a) ∧
  (∀ (hinb : ∀ a, (k0_off390 v2605) a + S32x4096.size a ≤ S4096x4096.size a), (Rect.unit (s := S4096x4096) (k0_off390 v2605) S32x4096.size hinb).WholeWords (EltTy.packing .i8))
theorem k0_off390_inb : ∀ (v2605 : BitVec 32) (k0_hw391 : k0_chk391 v2605), ∀ a, (k0_off390 v2605) a + S32x4096.size a ≤ S4096x4096.size a := fun v2605 k0_hw391 => k0_hw391.1
theorem k0_off390_wordsi8 : ∀ (v2605 : BitVec 32) (k0_hw391 : k0_chk391 v2605), (Rect.unit (s := S4096x4096) (k0_off390 v2605) S32x4096.size (k0_off390_inb v2605 k0_hw391)).WholeWords (EltTy.packing .i8) := fun v2605 k0_hw391 => k0_hw391.2 (k0_off390_inb v2605 k0_hw391)

def k0_off392 (v2617 : BitVec 32) : Fin 2 → Nat :=
  let c128_i32_2665 : BitVec 32 := 128#32
  let v2618 : BitVec 32 := Scalar.muli v2617 c128_i32_2665
  let c64_i32_2666 : BitVec 32 := 64#32
  let v2619 : BitVec 32 := Scalar.addi v2618 c64_i32_2666
  let c0_i32_2673 : BitVec 32 := 0#32
  ![v2619.toNat, 0]

def k0_off393 (v2614 : BitVec 32) : Fin 2 → Nat :=
  let c128_i32_2662 : BitVec 32 := 128#32
  let v2615 : BitVec 32 := Scalar.muli v2614 c128_i32_2662
  let c64_i32_2663 : BitVec 32 := 64#32
  let v2616 : BitVec 32 := Scalar.addi v2615 c64_i32_2663
  let c0_i32_2674 : BitVec 32 := 0#32
  ![v2616.toNat, 0]

def k0_chk394 (v2614 : BitVec 32) : Prop :=
  (∀ a, (k0_off393 v2614) a + S32x4096.size a ≤ S4096x4096.size a) ∧
  (∀ (hinb : ∀ a, (k0_off393 v2614) a + S32x4096.size a ≤ S4096x4096.size a), (Rect.unit (s := S4096x4096) (k0_off393 v2614) S32x4096.size hinb).WholeWords (EltTy.packing .i8))
theorem k0_off393_inb : ∀ (v2614 : BitVec 32) (k0_hw394 : k0_chk394 v2614), ∀ a, (k0_off393 v2614) a + S32x4096.size a ≤ S4096x4096.size a := fun v2614 k0_hw394 => k0_hw394.1
theorem k0_off393_wordsi8 : ∀ (v2614 : BitVec 32) (k0_hw394 : k0_chk394 v2614), (Rect.unit (s := S4096x4096) (k0_off393 v2614) S32x4096.size (k0_off393_inb v2614 k0_hw394)).WholeWords (EltTy.packing .i8) := fun v2614 k0_hw394 => k0_hw394.2 (k0_off393_inb v2614 k0_hw394)

def k0_chk393 (v2617 : BitVec 32) : Prop :=
  (∀ a, (k0_off392 v2617) a + S32x4096.size a ≤ S4096x4096.size a) ∧
  (∀ (hinb : ∀ a, (k0_off392 v2617) a + S32x4096.size a ≤ S4096x4096.size a), (Rect.unit (s := S4096x4096) (k0_off392 v2617) S32x4096.size hinb).WholeWords (EltTy.packing .i8))
theorem k0_off392_inb : ∀ (v2617 : BitVec 32) (k0_hw393 : k0_chk393 v2617), ∀ a, (k0_off392 v2617) a + S32x4096.size a ≤ S4096x4096.size a := fun v2617 k0_hw393 => k0_hw393.1
theorem k0_off392_wordsi8 : ∀ (v2617 : BitVec 32) (k0_hw393 : k0_chk393 v2617), (Rect.unit (s := S4096x4096) (k0_off392 v2617) S32x4096.size (k0_off392_inb v2617 k0_hw393)).WholeWords (EltTy.packing .i8) := fun v2617 k0_hw393 => k0_hw393.2 (k0_off392_inb v2617 k0_hw393)

def k0_dev96 (v4 : BitVec 32) : Nat :=
  let c0_i32_2672 : BitVec 32 := 0#32
  let c1_i32_2671 : BitVec 32 := 1#32
  let v2620 : BitVec 32 := Scalar.muli v4 c1_i32_2671
  let v2621 : BitVec 32 := Scalar.addi c0_i32_2672 v2620
  v2621.toNat
def k0_off394 (v2631 : BitVec 32) : Fin 2 → Nat :=
  let c128_i32_2679 : BitVec 32 := 128#32
  let v2632 : BitVec 32 := Scalar.muli v2631 c128_i32_2679
  let c96_i32_2680 : BitVec 32 := 96#32
  let v2633 : BitVec 32 := Scalar.addi v2632 c96_i32_2680
  let c0_i32_2687 : BitVec 32 := 0#32
  ![v2633.toNat, 0]

def k0_off395 (v2628 : BitVec 32) : Fin 2 → Nat :=
  let c128_i32_2676 : BitVec 32 := 128#32
  let v2629 : BitVec 32 := Scalar.muli v2628 c128_i32_2676
  let c96_i32_2677 : BitVec 32 := 96#32
  let v2630 : BitVec 32 := Scalar.addi v2629 c96_i32_2677
  let c0_i32_2688 : BitVec 32 := 0#32
  ![v2630.toNat, 0]

def k0_chk396 (v2628 : BitVec 32) : Prop :=
  (∀ a, (k0_off395 v2628) a + S32x4096.size a ≤ S4096x4096.size a) ∧
  (∀ (hinb : ∀ a, (k0_off395 v2628) a + S32x4096.size a ≤ S4096x4096.size a), (Rect.unit (s := S4096x4096) (k0_off395 v2628) S32x4096.size hinb).WholeWords (EltTy.packing .i8))
theorem k0_off395_inb : ∀ (v2628 : BitVec 32) (k0_hw396 : k0_chk396 v2628), ∀ a, (k0_off395 v2628) a + S32x4096.size a ≤ S4096x4096.size a := fun v2628 k0_hw396 => k0_hw396.1
theorem k0_off395_wordsi8 : ∀ (v2628 : BitVec 32) (k0_hw396 : k0_chk396 v2628), (Rect.unit (s := S4096x4096) (k0_off395 v2628) S32x4096.size (k0_off395_inb v2628 k0_hw396)).WholeWords (EltTy.packing .i8) := fun v2628 k0_hw396 => k0_hw396.2 (k0_off395_inb v2628 k0_hw396)

def k0_chk395 (v2631 : BitVec 32) : Prop :=
  (∀ a, (k0_off394 v2631) a + S32x4096.size a ≤ S4096x4096.size a) ∧
  (∀ (hinb : ∀ a, (k0_off394 v2631) a + S32x4096.size a ≤ S4096x4096.size a), (Rect.unit (s := S4096x4096) (k0_off394 v2631) S32x4096.size hinb).WholeWords (EltTy.packing .i8))
theorem k0_off394_inb : ∀ (v2631 : BitVec 32) (k0_hw395 : k0_chk395 v2631), ∀ a, (k0_off394 v2631) a + S32x4096.size a ≤ S4096x4096.size a := fun v2631 k0_hw395 => k0_hw395.1
theorem k0_off394_wordsi8 : ∀ (v2631 : BitVec 32) (k0_hw395 : k0_chk395 v2631), (Rect.unit (s := S4096x4096) (k0_off394 v2631) S32x4096.size (k0_off394_inb v2631 k0_hw395)).WholeWords (EltTy.packing .i8) := fun v2631 k0_hw395 => k0_hw395.2 (k0_off394_inb v2631 k0_hw395)

def k0_off396 (v2643 : BitVec 32) : Fin 2 → Nat :=
  let c128_i32_2693 : BitVec 32 := 128#32
  let v2644 : BitVec 32 := Scalar.muli v2643 c128_i32_2693
  let c96_i32_2694 : BitVec 32 := 96#32
  let v2645 : BitVec 32 := Scalar.addi v2644 c96_i32_2694
  let c0_i32_2701 : BitVec 32 := 0#32
  ![v2645.toNat, 0]

def k0_off397 (v2640 : BitVec 32) : Fin 2 → Nat :=
  let c128_i32_2690 : BitVec 32 := 128#32
  let v2641 : BitVec 32 := Scalar.muli v2640 c128_i32_2690
  let c96_i32_2691 : BitVec 32 := 96#32
  let v2642 : BitVec 32 := Scalar.addi v2641 c96_i32_2691
  let c0_i32_2702 : BitVec 32 := 0#32
  ![v2642.toNat, 0]

def k0_chk398 (v2640 : BitVec 32) : Prop :=
  (∀ a, (k0_off397 v2640) a + S32x4096.size a ≤ S4096x4096.size a) ∧
  (∀ (hinb : ∀ a, (k0_off397 v2640) a + S32x4096.size a ≤ S4096x4096.size a), (Rect.unit (s := S4096x4096) (k0_off397 v2640) S32x4096.size hinb).WholeWords (EltTy.packing .i8))
theorem k0_off397_inb : ∀ (v2640 : BitVec 32) (k0_hw398 : k0_chk398 v2640), ∀ a, (k0_off397 v2640) a + S32x4096.size a ≤ S4096x4096.size a := fun v2640 k0_hw398 => k0_hw398.1
theorem k0_off397_wordsi8 : ∀ (v2640 : BitVec 32) (k0_hw398 : k0_chk398 v2640), (Rect.unit (s := S4096x4096) (k0_off397 v2640) S32x4096.size (k0_off397_inb v2640 k0_hw398)).WholeWords (EltTy.packing .i8) := fun v2640 k0_hw398 => k0_hw398.2 (k0_off397_inb v2640 k0_hw398)

def k0_chk397 (v2643 : BitVec 32) : Prop :=
  (∀ a, (k0_off396 v2643) a + S32x4096.size a ≤ S4096x4096.size a) ∧
  (∀ (hinb : ∀ a, (k0_off396 v2643) a + S32x4096.size a ≤ S4096x4096.size a), (Rect.unit (s := S4096x4096) (k0_off396 v2643) S32x4096.size hinb).WholeWords (EltTy.packing .i8))
theorem k0_off396_inb : ∀ (v2643 : BitVec 32) (k0_hw397 : k0_chk397 v2643), ∀ a, (k0_off396 v2643) a + S32x4096.size a ≤ S4096x4096.size a := fun v2643 k0_hw397 => k0_hw397.1
theorem k0_off396_wordsi8 : ∀ (v2643 : BitVec 32) (k0_hw397 : k0_chk397 v2643), (Rect.unit (s := S4096x4096) (k0_off396 v2643) S32x4096.size (k0_off396_inb v2643 k0_hw397)).WholeWords (EltTy.packing .i8) := fun v2643 k0_hw397 => k0_hw397.2 (k0_off396_inb v2643 k0_hw397)

def k0_dev97 (v3 : BitVec 32) : Nat :=
  let c0_i32_2700 : BitVec 32 := 0#32
  let c1_i32_2699 : BitVec 32 := 1#32
  let v2646 : BitVec 32 := Scalar.muli v3 c1_i32_2699
  let v2647 : BitVec 32 := Scalar.addi c0_i32_2700 v2646
  v2647.toNat
def k0_off398 (v2657 : BitVec 32) : Fin 2 → Nat :=
  let c128_i32_2707 : BitVec 32 := 128#32
  let v2658 : BitVec 32 := Scalar.muli v2657 c128_i32_2707
  let c96_i32_2708 : BitVec 32 := 96#32
  let v2659 : BitVec 32 := Scalar.addi v2658 c96_i32_2708
  let c0_i32_2715 : BitVec 32 := 0#32
  ![v2659.toNat, 0]

def k0_off399 (v2654 : BitVec 32) : Fin 2 → Nat :=
  let c128_i32_2704 : BitVec 32 := 128#32
  let v2655 : BitVec 32 := Scalar.muli v2654 c128_i32_2704
  let c96_i32_2705 : BitVec 32 := 96#32
  let v2656 : BitVec 32 := Scalar.addi v2655 c96_i32_2705
  let c0_i32_2716 : BitVec 32 := 0#32
  ![v2656.toNat, 0]

def k0_chk400 (v2654 : BitVec 32) : Prop :=
  (∀ a, (k0_off399 v2654) a + S32x4096.size a ≤ S4096x4096.size a) ∧
  (∀ (hinb : ∀ a, (k0_off399 v2654) a + S32x4096.size a ≤ S4096x4096.size a), (Rect.unit (s := S4096x4096) (k0_off399 v2654) S32x4096.size hinb).WholeWords (EltTy.packing .i8))
theorem k0_off399_inb : ∀ (v2654 : BitVec 32) (k0_hw400 : k0_chk400 v2654), ∀ a, (k0_off399 v2654) a + S32x4096.size a ≤ S4096x4096.size a := fun v2654 k0_hw400 => k0_hw400.1
theorem k0_off399_wordsi8 : ∀ (v2654 : BitVec 32) (k0_hw400 : k0_chk400 v2654), (Rect.unit (s := S4096x4096) (k0_off399 v2654) S32x4096.size (k0_off399_inb v2654 k0_hw400)).WholeWords (EltTy.packing .i8) := fun v2654 k0_hw400 => k0_hw400.2 (k0_off399_inb v2654 k0_hw400)

def k0_chk399 (v2657 : BitVec 32) : Prop :=
  (∀ a, (k0_off398 v2657) a + S32x4096.size a ≤ S4096x4096.size a) ∧
  (∀ (hinb : ∀ a, (k0_off398 v2657) a + S32x4096.size a ≤ S4096x4096.size a), (Rect.unit (s := S4096x4096) (k0_off398 v2657) S32x4096.size hinb).WholeWords (EltTy.packing .i8))
theorem k0_off398_inb : ∀ (v2657 : BitVec 32) (k0_hw399 : k0_chk399 v2657), ∀ a, (k0_off398 v2657) a + S32x4096.size a ≤ S4096x4096.size a := fun v2657 k0_hw399 => k0_hw399.1
theorem k0_off398_wordsi8 : ∀ (v2657 : BitVec 32) (k0_hw399 : k0_chk399 v2657), (Rect.unit (s := S4096x4096) (k0_off398 v2657) S32x4096.size (k0_off398_inb v2657 k0_hw399)).WholeWords (EltTy.packing .i8) := fun v2657 k0_hw399 => k0_hw399.2 (k0_off398_inb v2657 k0_hw399)

def k0_off400 (v2669 : BitVec 32) : Fin 2 → Nat :=
  let c128_i32_2721 : BitVec 32 := 128#32
  let v2670 : BitVec 32 := Scalar.muli v2669 c128_i32_2721
  let c96_i32_2722 : BitVec 32 := 96#32
  let v2671 : BitVec 32 := Scalar.addi v2670 c96_i32_2722
  let c0_i32_2729 : BitVec 32 := 0#32
  ![v2671.toNat, 0]

def k0_off401 (v2666 : BitVec 32) : Fin 2 → Nat :=
  let c128_i32_2718 : BitVec 32 := 128#32
  let v2667 : BitVec 32 := Scalar.muli v2666 c128_i32_2718
  let c96_i32_2719 : BitVec 32 := 96#32
  let v2668 : BitVec 32 := Scalar.addi v2667 c96_i32_2719
  let c0_i32_2730 : BitVec 32 := 0#32
  ![v2668.toNat, 0]

def k0_chk402 (v2666 : BitVec 32) : Prop :=
  (∀ a, (k0_off401 v2666) a + S32x4096.size a ≤ S4096x4096.size a) ∧
  (∀ (hinb : ∀ a, (k0_off401 v2666) a + S32x4096.size a ≤ S4096x4096.size a), (Rect.unit (s := S4096x4096) (k0_off401 v2666) S32x4096.size hinb).WholeWords (EltTy.packing .i8))
theorem k0_off401_inb : ∀ (v2666 : BitVec 32) (k0_hw402 : k0_chk402 v2666), ∀ a, (k0_off401 v2666) a + S32x4096.size a ≤ S4096x4096.size a := fun v2666 k0_hw402 => k0_hw402.1
theorem k0_off401_wordsi8 : ∀ (v2666 : BitVec 32) (k0_hw402 : k0_chk402 v2666), (Rect.unit (s := S4096x4096) (k0_off401 v2666) S32x4096.size (k0_off401_inb v2666 k0_hw402)).WholeWords (EltTy.packing .i8) := fun v2666 k0_hw402 => k0_hw402.2 (k0_off401_inb v2666 k0_hw402)

def k0_chk401 (v2669 : BitVec 32) : Prop :=
  (∀ a, (k0_off400 v2669) a + S32x4096.size a ≤ S4096x4096.size a) ∧
  (∀ (hinb : ∀ a, (k0_off400 v2669) a + S32x4096.size a ≤ S4096x4096.size a), (Rect.unit (s := S4096x4096) (k0_off400 v2669) S32x4096.size hinb).WholeWords (EltTy.packing .i8))
theorem k0_off400_inb : ∀ (v2669 : BitVec 32) (k0_hw401 : k0_chk401 v2669), ∀ a, (k0_off400 v2669) a + S32x4096.size a ≤ S4096x4096.size a := fun v2669 k0_hw401 => k0_hw401.1
theorem k0_off400_wordsi8 : ∀ (v2669 : BitVec 32) (k0_hw401 : k0_chk401 v2669), (Rect.unit (s := S4096x4096) (k0_off400 v2669) S32x4096.size (k0_off400_inb v2669 k0_hw401)).WholeWords (EltTy.packing .i8) := fun v2669 k0_hw401 => k0_hw401.2 (k0_off400_inb v2669 k0_hw401)

def k0_dev98 (v4 : BitVec 32) : Nat :=
  let c0_i32_2728 : BitVec 32 := 0#32
  let c1_i32_2727 : BitVec 32 := 1#32
  let v2672 : BitVec 32 := Scalar.muli v4 c1_i32_2727
  let v2673 : BitVec 32 := Scalar.addi c0_i32_2728 v2672
  v2673.toNat
def k0_off402 (v2681 : BitVec 32) : Fin 2 → Nat :=
  let c128_i32_2733 : BitVec 32 := 128#32
  let v2682 : BitVec 32 := Scalar.muli v2681 c128_i32_2733
  let v2683 : Index := Scalar.indexCast v2682
  let c0_2734 : Index := 0#32
  ![v2683.toNat, 0]

def k0_chk403 (v2681 : BitVec 32) : Prop :=
  (∀ a, (k0_off402 v2681) a + S128x4096.size a ≤ S4096x4096.size a)
theorem k0_off402_inb : ∀ (v2681 : BitVec 32) (k0_hw403 : k0_chk403 v2681), ∀ a, (k0_off402 v2681) a + S128x4096.size a ≤ S4096x4096.size a := fun v2681 k0_hw403 => k0_hw403

def k0_off403 (v2680 : BitVec 32) : Fin 2 → Nat :=
  let c128_i32_2738 : BitVec 32 := 128#32
  let v2691 : BitVec 32 := Scalar.muli v2680 c128_i32_2738
  let v2692 : Index := Scalar.indexCast v2691
  let c0_2739 : Index := 0#32
  ![v2692.toNat, 0]

def k0_chk404 (v2680 : BitVec 32) : Prop :=
  (∀ a, (k0_off403 v2680) a + S128x64.size a ≤ S4096x64.size a)
theorem k0_off403_inb : ∀ (v2680 : BitVec 32) (k0_hw404 : k0_chk404 v2680), ∀ a, (k0_off403 v2680) a + S128x64.size a ≤ S4096x64.size a := fun v2680 k0_hw404 => k0_hw404

def k0_off404 (v2695 : BitVec 32) : Fin 2 → Nat :=
  let c128_i32_2742 : BitVec 32 := 128#32
  let v2696 : BitVec 32 := Scalar.muli v2695 c128_i32_2742
  let v2697 : Index := Scalar.indexCast v2696
  let c0_2743 : Index := 0#32
  ![v2697.toNat, 0]

def k0_chk405 (v2695 : BitVec 32) : Prop :=
  (∀ a, (k0_off404 v2695) a + S128x4096.size a ≤ S4096x4096.size a)
theorem k0_off404_inb : ∀ (v2695 : BitVec 32) (k0_hw405 : k0_chk405 v2695), ∀ a, (k0_off404 v2695) a + S128x4096.size a ≤ S4096x4096.size a := fun v2695 k0_hw405 => k0_hw405

def k0_off405 (v2694 : BitVec 32) : Fin 2 → Nat :=
  let c128_i32_2747 : BitVec 32 := 128#32
  let v2705 : BitVec 32 := Scalar.muli v2694 c128_i32_2747
  let v2706 : Index := Scalar.indexCast v2705
  let c0_2748 : Index := 0#32
  ![v2706.toNat, 0]

def k0_chk406 (v2694 : BitVec 32) : Prop :=
  (∀ a, (k0_off405 v2694) a + S128x64.size a ≤ S4096x64.size a)
theorem k0_off405_inb : ∀ (v2694 : BitVec 32) (k0_hw406 : k0_chk406 v2694), ∀ a, (k0_off405 v2694) a + S128x64.size a ≤ S4096x64.size a := fun v2694 k0_hw406 => k0_hw406

def k0_off406 (v2711 : BitVec 32) : Fin 2 → Nat :=
  let c128_i32_2753 : BitVec 32 := 128#32
  let v2712 : BitVec 32 := Scalar.muli v2711 c128_i32_2753
  let c0_i32_2754 : BitVec 32 := 0#32
  let v2713 : BitVec 32 := Scalar.addi v2712 c0_i32_2754
  let c0_i32_2761 : BitVec 32 := 0#32
  ![v2713.toNat, 0]

def k0_off407 (v2708 : BitVec 32) : Fin 2 → Nat :=
  let c128_i32_2750 : BitVec 32 := 128#32
  let v2709 : BitVec 32 := Scalar.muli v2708 c128_i32_2750
  let c0_i32_2751 : BitVec 32 := 0#32
  let v2710 : BitVec 32 := Scalar.addi v2709 c0_i32_2751
  let c0_i32_2762 : BitVec 32 := 0#32
  ![v2710.toNat, 0]

def k0_chk408 (v2708 : BitVec 32) : Prop :=
  (∀ a, (k0_off407 v2708) a + S32x4096.size a ≤ S4096x4096.size a) ∧
  (∀ (hinb : ∀ a, (k0_off407 v2708) a + S32x4096.size a ≤ S4096x4096.size a), (Rect.unit (s := S4096x4096) (k0_off407 v2708) S32x4096.size hinb).WholeWords (EltTy.packing .i8))
theorem k0_off407_inb : ∀ (v2708 : BitVec 32) (k0_hw408 : k0_chk408 v2708), ∀ a, (k0_off407 v2708) a + S32x4096.size a ≤ S4096x4096.size a := fun v2708 k0_hw408 => k0_hw408.1
theorem k0_off407_wordsi8 : ∀ (v2708 : BitVec 32) (k0_hw408 : k0_chk408 v2708), (Rect.unit (s := S4096x4096) (k0_off407 v2708) S32x4096.size (k0_off407_inb v2708 k0_hw408)).WholeWords (EltTy.packing .i8) := fun v2708 k0_hw408 => k0_hw408.2 (k0_off407_inb v2708 k0_hw408)

def k0_chk407 (v2711 : BitVec 32) : Prop :=
  (∀ a, (k0_off406 v2711) a + S32x4096.size a ≤ S4096x4096.size a) ∧
  (∀ (hinb : ∀ a, (k0_off406 v2711) a + S32x4096.size a ≤ S4096x4096.size a), (Rect.unit (s := S4096x4096) (k0_off406 v2711) S32x4096.size hinb).WholeWords (EltTy.packing .i8))
theorem k0_off406_inb : ∀ (v2711 : BitVec 32) (k0_hw407 : k0_chk407 v2711), ∀ a, (k0_off406 v2711) a + S32x4096.size a ≤ S4096x4096.size a := fun v2711 k0_hw407 => k0_hw407.1
theorem k0_off406_wordsi8 : ∀ (v2711 : BitVec 32) (k0_hw407 : k0_chk407 v2711), (Rect.unit (s := S4096x4096) (k0_off406 v2711) S32x4096.size (k0_off406_inb v2711 k0_hw407)).WholeWords (EltTy.packing .i8) := fun v2711 k0_hw407 => k0_hw407.2 (k0_off406_inb v2711 k0_hw407)

def k0_off408 (v2723 : BitVec 32) : Fin 2 → Nat :=
  let c128_i32_2766 : BitVec 32 := 128#32
  let v2724 : BitVec 32 := Scalar.muli v2723 c128_i32_2766
  let c0_i32_2767 : BitVec 32 := 0#32
  let v2725 : BitVec 32 := Scalar.addi v2724 c0_i32_2767
  let c0_i32_2773 : BitVec 32 := 0#32
  ![v2725.toNat, 0]

def k0_off409 (v2720 : BitVec 32) : Fin 2 → Nat :=
  let c128_i32_2763 : BitVec 32 := 128#32
  let v2721 : BitVec 32 := Scalar.muli v2720 c128_i32_2763
  let c0_i32_2764 : BitVec 32 := 0#32
  let v2722 : BitVec 32 := Scalar.addi v2721 c0_i32_2764
  let c0_i32_2774 : BitVec 32 := 0#32
  ![v2722.toNat, 0]

def k0_chk410 (v2720 : BitVec 32) : Prop :=
  (∀ a, (k0_off409 v2720) a + S32x4096.size a ≤ S4096x4096.size a) ∧
  (∀ (hinb : ∀ a, (k0_off409 v2720) a + S32x4096.size a ≤ S4096x4096.size a), (Rect.unit (s := S4096x4096) (k0_off409 v2720) S32x4096.size hinb).WholeWords (EltTy.packing .i8))
theorem k0_off409_inb : ∀ (v2720 : BitVec 32) (k0_hw410 : k0_chk410 v2720), ∀ a, (k0_off409 v2720) a + S32x4096.size a ≤ S4096x4096.size a := fun v2720 k0_hw410 => k0_hw410.1
theorem k0_off409_wordsi8 : ∀ (v2720 : BitVec 32) (k0_hw410 : k0_chk410 v2720), (Rect.unit (s := S4096x4096) (k0_off409 v2720) S32x4096.size (k0_off409_inb v2720 k0_hw410)).WholeWords (EltTy.packing .i8) := fun v2720 k0_hw410 => k0_hw410.2 (k0_off409_inb v2720 k0_hw410)

def k0_chk409 (v2723 : BitVec 32) : Prop :=
  (∀ a, (k0_off408 v2723) a + S32x4096.size a ≤ S4096x4096.size a) ∧
  (∀ (hinb : ∀ a, (k0_off408 v2723) a + S32x4096.size a ≤ S4096x4096.size a), (Rect.unit (s := S4096x4096) (k0_off408 v2723) S32x4096.size hinb).WholeWords (EltTy.packing .i8))
theorem k0_off408_inb : ∀ (v2723 : BitVec 32) (k0_hw409 : k0_chk409 v2723), ∀ a, (k0_off408 v2723) a + S32x4096.size a ≤ S4096x4096.size a := fun v2723 k0_hw409 => k0_hw409.1
theorem k0_off408_wordsi8 : ∀ (v2723 : BitVec 32) (k0_hw409 : k0_chk409 v2723), (Rect.unit (s := S4096x4096) (k0_off408 v2723) S32x4096.size (k0_off408_inb v2723 k0_hw409)).WholeWords (EltTy.packing .i8) := fun v2723 k0_hw409 => k0_hw409.2 (k0_off408_inb v2723 k0_hw409)

def k0_dev99 (v3 : BitVec 32) : Nat :=
  let c0_i32_2772 : BitVec 32 := 0#32
  let c1_i32_2771 : BitVec 32 := 1#32
  let v2726 : BitVec 32 := Scalar.muli v3 c1_i32_2771
  let v2727 : BitVec 32 := Scalar.addi c0_i32_2772 v2726
  v2727.toNat
def k0_off410 (v2737 : BitVec 32) : Fin 2 → Nat :=
  let c128_i32_2779 : BitVec 32 := 128#32
  let v2738 : BitVec 32 := Scalar.muli v2737 c128_i32_2779
  let c0_i32_2780 : BitVec 32 := 0#32
  let v2739 : BitVec 32 := Scalar.addi v2738 c0_i32_2780
  let c0_i32_2787 : BitVec 32 := 0#32
  ![v2739.toNat, 0]

def k0_off411 (v2734 : BitVec 32) : Fin 2 → Nat :=
  let c128_i32_2776 : BitVec 32 := 128#32
  let v2735 : BitVec 32 := Scalar.muli v2734 c128_i32_2776
  let c0_i32_2777 : BitVec 32 := 0#32
  let v2736 : BitVec 32 := Scalar.addi v2735 c0_i32_2777
  let c0_i32_2788 : BitVec 32 := 0#32
  ![v2736.toNat, 0]

def k0_chk412 (v2734 : BitVec 32) : Prop :=
  (∀ a, (k0_off411 v2734) a + S32x4096.size a ≤ S4096x4096.size a) ∧
  (∀ (hinb : ∀ a, (k0_off411 v2734) a + S32x4096.size a ≤ S4096x4096.size a), (Rect.unit (s := S4096x4096) (k0_off411 v2734) S32x4096.size hinb).WholeWords (EltTy.packing .i8))
theorem k0_off411_inb : ∀ (v2734 : BitVec 32) (k0_hw412 : k0_chk412 v2734), ∀ a, (k0_off411 v2734) a + S32x4096.size a ≤ S4096x4096.size a := fun v2734 k0_hw412 => k0_hw412.1
theorem k0_off411_wordsi8 : ∀ (v2734 : BitVec 32) (k0_hw412 : k0_chk412 v2734), (Rect.unit (s := S4096x4096) (k0_off411 v2734) S32x4096.size (k0_off411_inb v2734 k0_hw412)).WholeWords (EltTy.packing .i8) := fun v2734 k0_hw412 => k0_hw412.2 (k0_off411_inb v2734 k0_hw412)

def k0_chk411 (v2737 : BitVec 32) : Prop :=
  (∀ a, (k0_off410 v2737) a + S32x4096.size a ≤ S4096x4096.size a) ∧
  (∀ (hinb : ∀ a, (k0_off410 v2737) a + S32x4096.size a ≤ S4096x4096.size a), (Rect.unit (s := S4096x4096) (k0_off410 v2737) S32x4096.size hinb).WholeWords (EltTy.packing .i8))
theorem k0_off410_inb : ∀ (v2737 : BitVec 32) (k0_hw411 : k0_chk411 v2737), ∀ a, (k0_off410 v2737) a + S32x4096.size a ≤ S4096x4096.size a := fun v2737 k0_hw411 => k0_hw411.1
theorem k0_off410_wordsi8 : ∀ (v2737 : BitVec 32) (k0_hw411 : k0_chk411 v2737), (Rect.unit (s := S4096x4096) (k0_off410 v2737) S32x4096.size (k0_off410_inb v2737 k0_hw411)).WholeWords (EltTy.packing .i8) := fun v2737 k0_hw411 => k0_hw411.2 (k0_off410_inb v2737 k0_hw411)

def k0_off412 (v2749 : BitVec 32) : Fin 2 → Nat :=
  let c128_i32_2793 : BitVec 32 := 128#32
  let v2750 : BitVec 32 := Scalar.muli v2749 c128_i32_2793
  let c0_i32_2794 : BitVec 32 := 0#32
  let v2751 : BitVec 32 := Scalar.addi v2750 c0_i32_2794
  let c0_i32_2801 : BitVec 32 := 0#32
  ![v2751.toNat, 0]

def k0_off413 (v2746 : BitVec 32) : Fin 2 → Nat :=
  let c128_i32_2790 : BitVec 32 := 128#32
  let v2747 : BitVec 32 := Scalar.muli v2746 c128_i32_2790
  let c0_i32_2791 : BitVec 32 := 0#32
  let v2748 : BitVec 32 := Scalar.addi v2747 c0_i32_2791
  let c0_i32_2802 : BitVec 32 := 0#32
  ![v2748.toNat, 0]

def k0_chk414 (v2746 : BitVec 32) : Prop :=
  (∀ a, (k0_off413 v2746) a + S32x4096.size a ≤ S4096x4096.size a) ∧
  (∀ (hinb : ∀ a, (k0_off413 v2746) a + S32x4096.size a ≤ S4096x4096.size a), (Rect.unit (s := S4096x4096) (k0_off413 v2746) S32x4096.size hinb).WholeWords (EltTy.packing .i8))
theorem k0_off413_inb : ∀ (v2746 : BitVec 32) (k0_hw414 : k0_chk414 v2746), ∀ a, (k0_off413 v2746) a + S32x4096.size a ≤ S4096x4096.size a := fun v2746 k0_hw414 => k0_hw414.1
theorem k0_off413_wordsi8 : ∀ (v2746 : BitVec 32) (k0_hw414 : k0_chk414 v2746), (Rect.unit (s := S4096x4096) (k0_off413 v2746) S32x4096.size (k0_off413_inb v2746 k0_hw414)).WholeWords (EltTy.packing .i8) := fun v2746 k0_hw414 => k0_hw414.2 (k0_off413_inb v2746 k0_hw414)

def k0_chk413 (v2749 : BitVec 32) : Prop :=
  (∀ a, (k0_off412 v2749) a + S32x4096.size a ≤ S4096x4096.size a) ∧
  (∀ (hinb : ∀ a, (k0_off412 v2749) a + S32x4096.size a ≤ S4096x4096.size a), (Rect.unit (s := S4096x4096) (k0_off412 v2749) S32x4096.size hinb).WholeWords (EltTy.packing .i8))
theorem k0_off412_inb : ∀ (v2749 : BitVec 32) (k0_hw413 : k0_chk413 v2749), ∀ a, (k0_off412 v2749) a + S32x4096.size a ≤ S4096x4096.size a := fun v2749 k0_hw413 => k0_hw413.1
theorem k0_off412_wordsi8 : ∀ (v2749 : BitVec 32) (k0_hw413 : k0_chk413 v2749), (Rect.unit (s := S4096x4096) (k0_off412 v2749) S32x4096.size (k0_off412_inb v2749 k0_hw413)).WholeWords (EltTy.packing .i8) := fun v2749 k0_hw413 => k0_hw413.2 (k0_off412_inb v2749 k0_hw413)

def k0_dev100 (v4 : BitVec 32) : Nat :=
  let c0_i32_2800 : BitVec 32 := 0#32
  let c1_i32_2799 : BitVec 32 := 1#32
  let v2752 : BitVec 32 := Scalar.muli v4 c1_i32_2799
  let v2753 : BitVec 32 := Scalar.addi c0_i32_2800 v2752
  v2753.toNat
def k0_off414 (v2763 : BitVec 32) : Fin 2 → Nat :=
  let c128_i32_2807 : BitVec 32 := 128#32
  let v2764 : BitVec 32 := Scalar.muli v2763 c128_i32_2807
  let c32_i32_2808 : BitVec 32 := 32#32
  let v2765 : BitVec 32 := Scalar.addi v2764 c32_i32_2808
  let c0_i32_2815 : BitVec 32 := 0#32
  ![v2765.toNat, 0]

def k0_off415 (v2760 : BitVec 32) : Fin 2 → Nat :=
  let c128_i32_2804 : BitVec 32 := 128#32
  let v2761 : BitVec 32 := Scalar.muli v2760 c128_i32_2804
  let c32_i32_2805 : BitVec 32 := 32#32
  let v2762 : BitVec 32 := Scalar.addi v2761 c32_i32_2805
  let c0_i32_2816 : BitVec 32 := 0#32
  ![v2762.toNat, 0]

def k0_chk416 (v2760 : BitVec 32) : Prop :=
  (∀ a, (k0_off415 v2760) a + S32x4096.size a ≤ S4096x4096.size a) ∧
  (∀ (hinb : ∀ a, (k0_off415 v2760) a + S32x4096.size a ≤ S4096x4096.size a), (Rect.unit (s := S4096x4096) (k0_off415 v2760) S32x4096.size hinb).WholeWords (EltTy.packing .i8))
theorem k0_off415_inb : ∀ (v2760 : BitVec 32) (k0_hw416 : k0_chk416 v2760), ∀ a, (k0_off415 v2760) a + S32x4096.size a ≤ S4096x4096.size a := fun v2760 k0_hw416 => k0_hw416.1
theorem k0_off415_wordsi8 : ∀ (v2760 : BitVec 32) (k0_hw416 : k0_chk416 v2760), (Rect.unit (s := S4096x4096) (k0_off415 v2760) S32x4096.size (k0_off415_inb v2760 k0_hw416)).WholeWords (EltTy.packing .i8) := fun v2760 k0_hw416 => k0_hw416.2 (k0_off415_inb v2760 k0_hw416)

def k0_chk415 (v2763 : BitVec 32) : Prop :=
  (∀ a, (k0_off414 v2763) a + S32x4096.size a ≤ S4096x4096.size a) ∧
  (∀ (hinb : ∀ a, (k0_off414 v2763) a + S32x4096.size a ≤ S4096x4096.size a), (Rect.unit (s := S4096x4096) (k0_off414 v2763) S32x4096.size hinb).WholeWords (EltTy.packing .i8))
theorem k0_off414_inb : ∀ (v2763 : BitVec 32) (k0_hw415 : k0_chk415 v2763), ∀ a, (k0_off414 v2763) a + S32x4096.size a ≤ S4096x4096.size a := fun v2763 k0_hw415 => k0_hw415.1
theorem k0_off414_wordsi8 : ∀ (v2763 : BitVec 32) (k0_hw415 : k0_chk415 v2763), (Rect.unit (s := S4096x4096) (k0_off414 v2763) S32x4096.size (k0_off414_inb v2763 k0_hw415)).WholeWords (EltTy.packing .i8) := fun v2763 k0_hw415 => k0_hw415.2 (k0_off414_inb v2763 k0_hw415)

def k0_off416 (v2775 : BitVec 32) : Fin 2 → Nat :=
  let c128_i32_2821 : BitVec 32 := 128#32
  let v2776 : BitVec 32 := Scalar.muli v2775 c128_i32_2821
  let c32_i32_2822 : BitVec 32 := 32#32
  let v2777 : BitVec 32 := Scalar.addi v2776 c32_i32_2822
  let c0_i32_2829 : BitVec 32 := 0#32
  ![v2777.toNat, 0]

def k0_off417 (v2772 : BitVec 32) : Fin 2 → Nat :=
  let c128_i32_2818 : BitVec 32 := 128#32
  let v2773 : BitVec 32 := Scalar.muli v2772 c128_i32_2818
  let c32_i32_2819 : BitVec 32 := 32#32
  let v2774 : BitVec 32 := Scalar.addi v2773 c32_i32_2819
  let c0_i32_2830 : BitVec 32 := 0#32
  ![v2774.toNat, 0]

def k0_chk418 (v2772 : BitVec 32) : Prop :=
  (∀ a, (k0_off417 v2772) a + S32x4096.size a ≤ S4096x4096.size a) ∧
  (∀ (hinb : ∀ a, (k0_off417 v2772) a + S32x4096.size a ≤ S4096x4096.size a), (Rect.unit (s := S4096x4096) (k0_off417 v2772) S32x4096.size hinb).WholeWords (EltTy.packing .i8))
theorem k0_off417_inb : ∀ (v2772 : BitVec 32) (k0_hw418 : k0_chk418 v2772), ∀ a, (k0_off417 v2772) a + S32x4096.size a ≤ S4096x4096.size a := fun v2772 k0_hw418 => k0_hw418.1
theorem k0_off417_wordsi8 : ∀ (v2772 : BitVec 32) (k0_hw418 : k0_chk418 v2772), (Rect.unit (s := S4096x4096) (k0_off417 v2772) S32x4096.size (k0_off417_inb v2772 k0_hw418)).WholeWords (EltTy.packing .i8) := fun v2772 k0_hw418 => k0_hw418.2 (k0_off417_inb v2772 k0_hw418)

def k0_chk417 (v2775 : BitVec 32) : Prop :=
  (∀ a, (k0_off416 v2775) a + S32x4096.size a ≤ S4096x4096.size a) ∧
  (∀ (hinb : ∀ a, (k0_off416 v2775) a + S32x4096.size a ≤ S4096x4096.size a), (Rect.unit (s := S4096x4096) (k0_off416 v2775) S32x4096.size hinb).WholeWords (EltTy.packing .i8))
theorem k0_off416_inb : ∀ (v2775 : BitVec 32) (k0_hw417 : k0_chk417 v2775), ∀ a, (k0_off416 v2775) a + S32x4096.size a ≤ S4096x4096.size a := fun v2775 k0_hw417 => k0_hw417.1
theorem k0_off416_wordsi8 : ∀ (v2775 : BitVec 32) (k0_hw417 : k0_chk417 v2775), (Rect.unit (s := S4096x4096) (k0_off416 v2775) S32x4096.size (k0_off416_inb v2775 k0_hw417)).WholeWords (EltTy.packing .i8) := fun v2775 k0_hw417 => k0_hw417.2 (k0_off416_inb v2775 k0_hw417)

def k0_dev101 (v3 : BitVec 32) : Nat :=
  let c0_i32_2828 : BitVec 32 := 0#32
  let c1_i32_2827 : BitVec 32 := 1#32
  let v2778 : BitVec 32 := Scalar.muli v3 c1_i32_2827
  let v2779 : BitVec 32 := Scalar.addi c0_i32_2828 v2778
  v2779.toNat
def k0_off418 (v2789 : BitVec 32) : Fin 2 → Nat :=
  let c128_i32_2835 : BitVec 32 := 128#32
  let v2790 : BitVec 32 := Scalar.muli v2789 c128_i32_2835
  let c32_i32_2836 : BitVec 32 := 32#32
  let v2791 : BitVec 32 := Scalar.addi v2790 c32_i32_2836
  let c0_i32_2843 : BitVec 32 := 0#32
  ![v2791.toNat, 0]

def k0_off419 (v2786 : BitVec 32) : Fin 2 → Nat :=
  let c128_i32_2832 : BitVec 32 := 128#32
  let v2787 : BitVec 32 := Scalar.muli v2786 c128_i32_2832
  let c32_i32_2833 : BitVec 32 := 32#32
  let v2788 : BitVec 32 := Scalar.addi v2787 c32_i32_2833
  let c0_i32_2844 : BitVec 32 := 0#32
  ![v2788.toNat, 0]

def k0_chk420 (v2786 : BitVec 32) : Prop :=
  (∀ a, (k0_off419 v2786) a + S32x4096.size a ≤ S4096x4096.size a) ∧
  (∀ (hinb : ∀ a, (k0_off419 v2786) a + S32x4096.size a ≤ S4096x4096.size a), (Rect.unit (s := S4096x4096) (k0_off419 v2786) S32x4096.size hinb).WholeWords (EltTy.packing .i8))
theorem k0_off419_inb : ∀ (v2786 : BitVec 32) (k0_hw420 : k0_chk420 v2786), ∀ a, (k0_off419 v2786) a + S32x4096.size a ≤ S4096x4096.size a := fun v2786 k0_hw420 => k0_hw420.1
theorem k0_off419_wordsi8 : ∀ (v2786 : BitVec 32) (k0_hw420 : k0_chk420 v2786), (Rect.unit (s := S4096x4096) (k0_off419 v2786) S32x4096.size (k0_off419_inb v2786 k0_hw420)).WholeWords (EltTy.packing .i8) := fun v2786 k0_hw420 => k0_hw420.2 (k0_off419_inb v2786 k0_hw420)

def k0_chk419 (v2789 : BitVec 32) : Prop :=
  (∀ a, (k0_off418 v2789) a + S32x4096.size a ≤ S4096x4096.size a) ∧
  (∀ (hinb : ∀ a, (k0_off418 v2789) a + S32x4096.size a ≤ S4096x4096.size a), (Rect.unit (s := S4096x4096) (k0_off418 v2789) S32x4096.size hinb).WholeWords (EltTy.packing .i8))
theorem k0_off418_inb : ∀ (v2789 : BitVec 32) (k0_hw419 : k0_chk419 v2789), ∀ a, (k0_off418 v2789) a + S32x4096.size a ≤ S4096x4096.size a := fun v2789 k0_hw419 => k0_hw419.1
theorem k0_off418_wordsi8 : ∀ (v2789 : BitVec 32) (k0_hw419 : k0_chk419 v2789), (Rect.unit (s := S4096x4096) (k0_off418 v2789) S32x4096.size (k0_off418_inb v2789 k0_hw419)).WholeWords (EltTy.packing .i8) := fun v2789 k0_hw419 => k0_hw419.2 (k0_off418_inb v2789 k0_hw419)

def k0_off420 (v2801 : BitVec 32) : Fin 2 → Nat :=
  let c128_i32_2849 : BitVec 32 := 128#32
  let v2802 : BitVec 32 := Scalar.muli v2801 c128_i32_2849
  let c32_i32_2850 : BitVec 32 := 32#32
  let v2803 : BitVec 32 := Scalar.addi v2802 c32_i32_2850
  let c0_i32_2857 : BitVec 32 := 0#32
  ![v2803.toNat, 0]

def k0_off421 (v2798 : BitVec 32) : Fin 2 → Nat :=
  let c128_i32_2846 : BitVec 32 := 128#32
  let v2799 : BitVec 32 := Scalar.muli v2798 c128_i32_2846
  let c32_i32_2847 : BitVec 32 := 32#32
  let v2800 : BitVec 32 := Scalar.addi v2799 c32_i32_2847
  let c0_i32_2858 : BitVec 32 := 0#32
  ![v2800.toNat, 0]

def k0_chk422 (v2798 : BitVec 32) : Prop :=
  (∀ a, (k0_off421 v2798) a + S32x4096.size a ≤ S4096x4096.size a) ∧
  (∀ (hinb : ∀ a, (k0_off421 v2798) a + S32x4096.size a ≤ S4096x4096.size a), (Rect.unit (s := S4096x4096) (k0_off421 v2798) S32x4096.size hinb).WholeWords (EltTy.packing .i8))
theorem k0_off421_inb : ∀ (v2798 : BitVec 32) (k0_hw422 : k0_chk422 v2798), ∀ a, (k0_off421 v2798) a + S32x4096.size a ≤ S4096x4096.size a := fun v2798 k0_hw422 => k0_hw422.1
theorem k0_off421_wordsi8 : ∀ (v2798 : BitVec 32) (k0_hw422 : k0_chk422 v2798), (Rect.unit (s := S4096x4096) (k0_off421 v2798) S32x4096.size (k0_off421_inb v2798 k0_hw422)).WholeWords (EltTy.packing .i8) := fun v2798 k0_hw422 => k0_hw422.2 (k0_off421_inb v2798 k0_hw422)

def k0_chk421 (v2801 : BitVec 32) : Prop :=
  (∀ a, (k0_off420 v2801) a + S32x4096.size a ≤ S4096x4096.size a) ∧
  (∀ (hinb : ∀ a, (k0_off420 v2801) a + S32x4096.size a ≤ S4096x4096.size a), (Rect.unit (s := S4096x4096) (k0_off420 v2801) S32x4096.size hinb).WholeWords (EltTy.packing .i8))
theorem k0_off420_inb : ∀ (v2801 : BitVec 32) (k0_hw421 : k0_chk421 v2801), ∀ a, (k0_off420 v2801) a + S32x4096.size a ≤ S4096x4096.size a := fun v2801 k0_hw421 => k0_hw421.1
theorem k0_off420_wordsi8 : ∀ (v2801 : BitVec 32) (k0_hw421 : k0_chk421 v2801), (Rect.unit (s := S4096x4096) (k0_off420 v2801) S32x4096.size (k0_off420_inb v2801 k0_hw421)).WholeWords (EltTy.packing .i8) := fun v2801 k0_hw421 => k0_hw421.2 (k0_off420_inb v2801 k0_hw421)

def k0_dev102 (v4 : BitVec 32) : Nat :=
  let c0_i32_2856 : BitVec 32 := 0#32
  let c1_i32_2855 : BitVec 32 := 1#32
  let v2804 : BitVec 32 := Scalar.muli v4 c1_i32_2855
  let v2805 : BitVec 32 := Scalar.addi c0_i32_2856 v2804
  v2805.toNat
def k0_off422 (v2815 : BitVec 32) : Fin 2 → Nat :=
  let c128_i32_2863 : BitVec 32 := 128#32
  let v2816 : BitVec 32 := Scalar.muli v2815 c128_i32_2863
  let c64_i32_2864 : BitVec 32 := 64#32
  let v2817 : BitVec 32 := Scalar.addi v2816 c64_i32_2864
  let c0_i32_2871 : BitVec 32 := 0#32
  ![v2817.toNat, 0]

def k0_off423 (v2812 : BitVec 32) : Fin 2 → Nat :=
  let c128_i32_2860 : BitVec 32 := 128#32
  let v2813 : BitVec 32 := Scalar.muli v2812 c128_i32_2860
  let c64_i32_2861 : BitVec 32 := 64#32
  let v2814 : BitVec 32 := Scalar.addi v2813 c64_i32_2861
  let c0_i32_2872 : BitVec 32 := 0#32
  ![v2814.toNat, 0]

def k0_chk424 (v2812 : BitVec 32) : Prop :=
  (∀ a, (k0_off423 v2812) a + S32x4096.size a ≤ S4096x4096.size a) ∧
  (∀ (hinb : ∀ a, (k0_off423 v2812) a + S32x4096.size a ≤ S4096x4096.size a), (Rect.unit (s := S4096x4096) (k0_off423 v2812) S32x4096.size hinb).WholeWords (EltTy.packing .i8))
theorem k0_off423_inb : ∀ (v2812 : BitVec 32) (k0_hw424 : k0_chk424 v2812), ∀ a, (k0_off423 v2812) a + S32x4096.size a ≤ S4096x4096.size a := fun v2812 k0_hw424 => k0_hw424.1
theorem k0_off423_wordsi8 : ∀ (v2812 : BitVec 32) (k0_hw424 : k0_chk424 v2812), (Rect.unit (s := S4096x4096) (k0_off423 v2812) S32x4096.size (k0_off423_inb v2812 k0_hw424)).WholeWords (EltTy.packing .i8) := fun v2812 k0_hw424 => k0_hw424.2 (k0_off423_inb v2812 k0_hw424)

def k0_chk423 (v2815 : BitVec 32) : Prop :=
  (∀ a, (k0_off422 v2815) a + S32x4096.size a ≤ S4096x4096.size a) ∧
  (∀ (hinb : ∀ a, (k0_off422 v2815) a + S32x4096.size a ≤ S4096x4096.size a), (Rect.unit (s := S4096x4096) (k0_off422 v2815) S32x4096.size hinb).WholeWords (EltTy.packing .i8))
theorem k0_off422_inb : ∀ (v2815 : BitVec 32) (k0_hw423 : k0_chk423 v2815), ∀ a, (k0_off422 v2815) a + S32x4096.size a ≤ S4096x4096.size a := fun v2815 k0_hw423 => k0_hw423.1
theorem k0_off422_wordsi8 : ∀ (v2815 : BitVec 32) (k0_hw423 : k0_chk423 v2815), (Rect.unit (s := S4096x4096) (k0_off422 v2815) S32x4096.size (k0_off422_inb v2815 k0_hw423)).WholeWords (EltTy.packing .i8) := fun v2815 k0_hw423 => k0_hw423.2 (k0_off422_inb v2815 k0_hw423)

def k0_off424 (v2827 : BitVec 32) : Fin 2 → Nat :=
  let c128_i32_2877 : BitVec 32 := 128#32
  let v2828 : BitVec 32 := Scalar.muli v2827 c128_i32_2877
  let c64_i32_2878 : BitVec 32 := 64#32
  let v2829 : BitVec 32 := Scalar.addi v2828 c64_i32_2878
  let c0_i32_2885 : BitVec 32 := 0#32
  ![v2829.toNat, 0]

def k0_off425 (v2824 : BitVec 32) : Fin 2 → Nat :=
  let c128_i32_2874 : BitVec 32 := 128#32
  let v2825 : BitVec 32 := Scalar.muli v2824 c128_i32_2874
  let c64_i32_2875 : BitVec 32 := 64#32
  let v2826 : BitVec 32 := Scalar.addi v2825 c64_i32_2875
  let c0_i32_2886 : BitVec 32 := 0#32
  ![v2826.toNat, 0]

def k0_chk426 (v2824 : BitVec 32) : Prop :=
  (∀ a, (k0_off425 v2824) a + S32x4096.size a ≤ S4096x4096.size a) ∧
  (∀ (hinb : ∀ a, (k0_off425 v2824) a + S32x4096.size a ≤ S4096x4096.size a), (Rect.unit (s := S4096x4096) (k0_off425 v2824) S32x4096.size hinb).WholeWords (EltTy.packing .i8))
theorem k0_off425_inb : ∀ (v2824 : BitVec 32) (k0_hw426 : k0_chk426 v2824), ∀ a, (k0_off425 v2824) a + S32x4096.size a ≤ S4096x4096.size a := fun v2824 k0_hw426 => k0_hw426.1
theorem k0_off425_wordsi8 : ∀ (v2824 : BitVec 32) (k0_hw426 : k0_chk426 v2824), (Rect.unit (s := S4096x4096) (k0_off425 v2824) S32x4096.size (k0_off425_inb v2824 k0_hw426)).WholeWords (EltTy.packing .i8) := fun v2824 k0_hw426 => k0_hw426.2 (k0_off425_inb v2824 k0_hw426)

def k0_chk425 (v2827 : BitVec 32) : Prop :=
  (∀ a, (k0_off424 v2827) a + S32x4096.size a ≤ S4096x4096.size a) ∧
  (∀ (hinb : ∀ a, (k0_off424 v2827) a + S32x4096.size a ≤ S4096x4096.size a), (Rect.unit (s := S4096x4096) (k0_off424 v2827) S32x4096.size hinb).WholeWords (EltTy.packing .i8))
theorem k0_off424_inb : ∀ (v2827 : BitVec 32) (k0_hw425 : k0_chk425 v2827), ∀ a, (k0_off424 v2827) a + S32x4096.size a ≤ S4096x4096.size a := fun v2827 k0_hw425 => k0_hw425.1
theorem k0_off424_wordsi8 : ∀ (v2827 : BitVec 32) (k0_hw425 : k0_chk425 v2827), (Rect.unit (s := S4096x4096) (k0_off424 v2827) S32x4096.size (k0_off424_inb v2827 k0_hw425)).WholeWords (EltTy.packing .i8) := fun v2827 k0_hw425 => k0_hw425.2 (k0_off424_inb v2827 k0_hw425)

def k0_dev103 (v3 : BitVec 32) : Nat :=
  let c0_i32_2884 : BitVec 32 := 0#32
  let c1_i32_2883 : BitVec 32 := 1#32
  let v2830 : BitVec 32 := Scalar.muli v3 c1_i32_2883
  let v2831 : BitVec 32 := Scalar.addi c0_i32_2884 v2830
  v2831.toNat
def k0_off426 (v2841 : BitVec 32) : Fin 2 → Nat :=
  let c128_i32_2891 : BitVec 32 := 128#32
  let v2842 : BitVec 32 := Scalar.muli v2841 c128_i32_2891
  let c64_i32_2892 : BitVec 32 := 64#32
  let v2843 : BitVec 32 := Scalar.addi v2842 c64_i32_2892
  let c0_i32_2899 : BitVec 32 := 0#32
  ![v2843.toNat, 0]

def k0_off427 (v2838 : BitVec 32) : Fin 2 → Nat :=
  let c128_i32_2888 : BitVec 32 := 128#32
  let v2839 : BitVec 32 := Scalar.muli v2838 c128_i32_2888
  let c64_i32_2889 : BitVec 32 := 64#32
  let v2840 : BitVec 32 := Scalar.addi v2839 c64_i32_2889
  let c0_i32_2900 : BitVec 32 := 0#32
  ![v2840.toNat, 0]

def k0_chk428 (v2838 : BitVec 32) : Prop :=
  (∀ a, (k0_off427 v2838) a + S32x4096.size a ≤ S4096x4096.size a) ∧
  (∀ (hinb : ∀ a, (k0_off427 v2838) a + S32x4096.size a ≤ S4096x4096.size a), (Rect.unit (s := S4096x4096) (k0_off427 v2838) S32x4096.size hinb).WholeWords (EltTy.packing .i8))
theorem k0_off427_inb : ∀ (v2838 : BitVec 32) (k0_hw428 : k0_chk428 v2838), ∀ a, (k0_off427 v2838) a + S32x4096.size a ≤ S4096x4096.size a := fun v2838 k0_hw428 => k0_hw428.1
theorem k0_off427_wordsi8 : ∀ (v2838 : BitVec 32) (k0_hw428 : k0_chk428 v2838), (Rect.unit (s := S4096x4096) (k0_off427 v2838) S32x4096.size (k0_off427_inb v2838 k0_hw428)).WholeWords (EltTy.packing .i8) := fun v2838 k0_hw428 => k0_hw428.2 (k0_off427_inb v2838 k0_hw428)

def k0_chk427 (v2841 : BitVec 32) : Prop :=
  (∀ a, (k0_off426 v2841) a + S32x4096.size a ≤ S4096x4096.size a) ∧
  (∀ (hinb : ∀ a, (k0_off426 v2841) a + S32x4096.size a ≤ S4096x4096.size a), (Rect.unit (s := S4096x4096) (k0_off426 v2841) S32x4096.size hinb).WholeWords (EltTy.packing .i8))
theorem k0_off426_inb : ∀ (v2841 : BitVec 32) (k0_hw427 : k0_chk427 v2841), ∀ a, (k0_off426 v2841) a + S32x4096.size a ≤ S4096x4096.size a := fun v2841 k0_hw427 => k0_hw427.1
theorem k0_off426_wordsi8 : ∀ (v2841 : BitVec 32) (k0_hw427 : k0_chk427 v2841), (Rect.unit (s := S4096x4096) (k0_off426 v2841) S32x4096.size (k0_off426_inb v2841 k0_hw427)).WholeWords (EltTy.packing .i8) := fun v2841 k0_hw427 => k0_hw427.2 (k0_off426_inb v2841 k0_hw427)

def k0_off428 (v2853 : BitVec 32) : Fin 2 → Nat :=
  let c128_i32_2905 : BitVec 32 := 128#32
  let v2854 : BitVec 32 := Scalar.muli v2853 c128_i32_2905
  let c64_i32_2906 : BitVec 32 := 64#32
  let v2855 : BitVec 32 := Scalar.addi v2854 c64_i32_2906
  let c0_i32_2913 : BitVec 32 := 0#32
  ![v2855.toNat, 0]

def k0_off429 (v2850 : BitVec 32) : Fin 2 → Nat :=
  let c128_i32_2902 : BitVec 32 := 128#32
  let v2851 : BitVec 32 := Scalar.muli v2850 c128_i32_2902
  let c64_i32_2903 : BitVec 32 := 64#32
  let v2852 : BitVec 32 := Scalar.addi v2851 c64_i32_2903
  let c0_i32_2914 : BitVec 32 := 0#32
  ![v2852.toNat, 0]

def k0_chk430 (v2850 : BitVec 32) : Prop :=
  (∀ a, (k0_off429 v2850) a + S32x4096.size a ≤ S4096x4096.size a) ∧
  (∀ (hinb : ∀ a, (k0_off429 v2850) a + S32x4096.size a ≤ S4096x4096.size a), (Rect.unit (s := S4096x4096) (k0_off429 v2850) S32x4096.size hinb).WholeWords (EltTy.packing .i8))
theorem k0_off429_inb : ∀ (v2850 : BitVec 32) (k0_hw430 : k0_chk430 v2850), ∀ a, (k0_off429 v2850) a + S32x4096.size a ≤ S4096x4096.size a := fun v2850 k0_hw430 => k0_hw430.1
theorem k0_off429_wordsi8 : ∀ (v2850 : BitVec 32) (k0_hw430 : k0_chk430 v2850), (Rect.unit (s := S4096x4096) (k0_off429 v2850) S32x4096.size (k0_off429_inb v2850 k0_hw430)).WholeWords (EltTy.packing .i8) := fun v2850 k0_hw430 => k0_hw430.2 (k0_off429_inb v2850 k0_hw430)

def k0_chk429 (v2853 : BitVec 32) : Prop :=
  (∀ a, (k0_off428 v2853) a + S32x4096.size a ≤ S4096x4096.size a) ∧
  (∀ (hinb : ∀ a, (k0_off428 v2853) a + S32x4096.size a ≤ S4096x4096.size a), (Rect.unit (s := S4096x4096) (k0_off428 v2853) S32x4096.size hinb).WholeWords (EltTy.packing .i8))
theorem k0_off428_inb : ∀ (v2853 : BitVec 32) (k0_hw429 : k0_chk429 v2853), ∀ a, (k0_off428 v2853) a + S32x4096.size a ≤ S4096x4096.size a := fun v2853 k0_hw429 => k0_hw429.1
theorem k0_off428_wordsi8 : ∀ (v2853 : BitVec 32) (k0_hw429 : k0_chk429 v2853), (Rect.unit (s := S4096x4096) (k0_off428 v2853) S32x4096.size (k0_off428_inb v2853 k0_hw429)).WholeWords (EltTy.packing .i8) := fun v2853 k0_hw429 => k0_hw429.2 (k0_off428_inb v2853 k0_hw429)

def k0_dev104 (v4 : BitVec 32) : Nat :=
  let c0_i32_2912 : BitVec 32 := 0#32
  let c1_i32_2911 : BitVec 32 := 1#32
  let v2856 : BitVec 32 := Scalar.muli v4 c1_i32_2911
  let v2857 : BitVec 32 := Scalar.addi c0_i32_2912 v2856
  v2857.toNat
def k0_off430 (v2867 : BitVec 32) : Fin 2 → Nat :=
  let c128_i32_2919 : BitVec 32 := 128#32
  let v2868 : BitVec 32 := Scalar.muli v2867 c128_i32_2919
  let c96_i32_2920 : BitVec 32 := 96#32
  let v2869 : BitVec 32 := Scalar.addi v2868 c96_i32_2920
  let c0_i32_2927 : BitVec 32 := 0#32
  ![v2869.toNat, 0]

def k0_off431 (v2864 : BitVec 32) : Fin 2 → Nat :=
  let c128_i32_2916 : BitVec 32 := 128#32
  let v2865 : BitVec 32 := Scalar.muli v2864 c128_i32_2916
  let c96_i32_2917 : BitVec 32 := 96#32
  let v2866 : BitVec 32 := Scalar.addi v2865 c96_i32_2917
  let c0_i32_2928 : BitVec 32 := 0#32
  ![v2866.toNat, 0]

def k0_chk432 (v2864 : BitVec 32) : Prop :=
  (∀ a, (k0_off431 v2864) a + S32x4096.size a ≤ S4096x4096.size a) ∧
  (∀ (hinb : ∀ a, (k0_off431 v2864) a + S32x4096.size a ≤ S4096x4096.size a), (Rect.unit (s := S4096x4096) (k0_off431 v2864) S32x4096.size hinb).WholeWords (EltTy.packing .i8))
theorem k0_off431_inb : ∀ (v2864 : BitVec 32) (k0_hw432 : k0_chk432 v2864), ∀ a, (k0_off431 v2864) a + S32x4096.size a ≤ S4096x4096.size a := fun v2864 k0_hw432 => k0_hw432.1
theorem k0_off431_wordsi8 : ∀ (v2864 : BitVec 32) (k0_hw432 : k0_chk432 v2864), (Rect.unit (s := S4096x4096) (k0_off431 v2864) S32x4096.size (k0_off431_inb v2864 k0_hw432)).WholeWords (EltTy.packing .i8) := fun v2864 k0_hw432 => k0_hw432.2 (k0_off431_inb v2864 k0_hw432)

def k0_chk431 (v2867 : BitVec 32) : Prop :=
  (∀ a, (k0_off430 v2867) a + S32x4096.size a ≤ S4096x4096.size a) ∧
  (∀ (hinb : ∀ a, (k0_off430 v2867) a + S32x4096.size a ≤ S4096x4096.size a), (Rect.unit (s := S4096x4096) (k0_off430 v2867) S32x4096.size hinb).WholeWords (EltTy.packing .i8))
theorem k0_off430_inb : ∀ (v2867 : BitVec 32) (k0_hw431 : k0_chk431 v2867), ∀ a, (k0_off430 v2867) a + S32x4096.size a ≤ S4096x4096.size a := fun v2867 k0_hw431 => k0_hw431.1
theorem k0_off430_wordsi8 : ∀ (v2867 : BitVec 32) (k0_hw431 : k0_chk431 v2867), (Rect.unit (s := S4096x4096) (k0_off430 v2867) S32x4096.size (k0_off430_inb v2867 k0_hw431)).WholeWords (EltTy.packing .i8) := fun v2867 k0_hw431 => k0_hw431.2 (k0_off430_inb v2867 k0_hw431)

def k0_off432 (v2879 : BitVec 32) : Fin 2 → Nat :=
  let c128_i32_2933 : BitVec 32 := 128#32
  let v2880 : BitVec 32 := Scalar.muli v2879 c128_i32_2933
  let c96_i32_2934 : BitVec 32 := 96#32
  let v2881 : BitVec 32 := Scalar.addi v2880 c96_i32_2934
  let c0_i32_2941 : BitVec 32 := 0#32
  ![v2881.toNat, 0]

def k0_off433 (v2876 : BitVec 32) : Fin 2 → Nat :=
  let c128_i32_2930 : BitVec 32 := 128#32
  let v2877 : BitVec 32 := Scalar.muli v2876 c128_i32_2930
  let c96_i32_2931 : BitVec 32 := 96#32
  let v2878 : BitVec 32 := Scalar.addi v2877 c96_i32_2931
  let c0_i32_2942 : BitVec 32 := 0#32
  ![v2878.toNat, 0]

def k0_chk434 (v2876 : BitVec 32) : Prop :=
  (∀ a, (k0_off433 v2876) a + S32x4096.size a ≤ S4096x4096.size a) ∧
  (∀ (hinb : ∀ a, (k0_off433 v2876) a + S32x4096.size a ≤ S4096x4096.size a), (Rect.unit (s := S4096x4096) (k0_off433 v2876) S32x4096.size hinb).WholeWords (EltTy.packing .i8))
theorem k0_off433_inb : ∀ (v2876 : BitVec 32) (k0_hw434 : k0_chk434 v2876), ∀ a, (k0_off433 v2876) a + S32x4096.size a ≤ S4096x4096.size a := fun v2876 k0_hw434 => k0_hw434.1
theorem k0_off433_wordsi8 : ∀ (v2876 : BitVec 32) (k0_hw434 : k0_chk434 v2876), (Rect.unit (s := S4096x4096) (k0_off433 v2876) S32x4096.size (k0_off433_inb v2876 k0_hw434)).WholeWords (EltTy.packing .i8) := fun v2876 k0_hw434 => k0_hw434.2 (k0_off433_inb v2876 k0_hw434)

def k0_chk433 (v2879 : BitVec 32) : Prop :=
  (∀ a, (k0_off432 v2879) a + S32x4096.size a ≤ S4096x4096.size a) ∧
  (∀ (hinb : ∀ a, (k0_off432 v2879) a + S32x4096.size a ≤ S4096x4096.size a), (Rect.unit (s := S4096x4096) (k0_off432 v2879) S32x4096.size hinb).WholeWords (EltTy.packing .i8))
theorem k0_off432_inb : ∀ (v2879 : BitVec 32) (k0_hw433 : k0_chk433 v2879), ∀ a, (k0_off432 v2879) a + S32x4096.size a ≤ S4096x4096.size a := fun v2879 k0_hw433 => k0_hw433.1
theorem k0_off432_wordsi8 : ∀ (v2879 : BitVec 32) (k0_hw433 : k0_chk433 v2879), (Rect.unit (s := S4096x4096) (k0_off432 v2879) S32x4096.size (k0_off432_inb v2879 k0_hw433)).WholeWords (EltTy.packing .i8) := fun v2879 k0_hw433 => k0_hw433.2 (k0_off432_inb v2879 k0_hw433)

def k0_dev105 (v3 : BitVec 32) : Nat :=
  let c0_i32_2940 : BitVec 32 := 0#32
  let c1_i32_2939 : BitVec 32 := 1#32
  let v2882 : BitVec 32 := Scalar.muli v3 c1_i32_2939
  let v2883 : BitVec 32 := Scalar.addi c0_i32_2940 v2882
  v2883.toNat
def k0_off434 (v2893 : BitVec 32) : Fin 2 → Nat :=
  let c128_i32_2947 : BitVec 32 := 128#32
  let v2894 : BitVec 32 := Scalar.muli v2893 c128_i32_2947
  let c96_i32_2948 : BitVec 32 := 96#32
  let v2895 : BitVec 32 := Scalar.addi v2894 c96_i32_2948
  let c0_i32_2955 : BitVec 32 := 0#32
  ![v2895.toNat, 0]

def k0_off435 (v2890 : BitVec 32) : Fin 2 → Nat :=
  let c128_i32_2944 : BitVec 32 := 128#32
  let v2891 : BitVec 32 := Scalar.muli v2890 c128_i32_2944
  let c96_i32_2945 : BitVec 32 := 96#32
  let v2892 : BitVec 32 := Scalar.addi v2891 c96_i32_2945
  let c0_i32_2956 : BitVec 32 := 0#32
  ![v2892.toNat, 0]

def k0_chk436 (v2890 : BitVec 32) : Prop :=
  (∀ a, (k0_off435 v2890) a + S32x4096.size a ≤ S4096x4096.size a) ∧
  (∀ (hinb : ∀ a, (k0_off435 v2890) a + S32x4096.size a ≤ S4096x4096.size a), (Rect.unit (s := S4096x4096) (k0_off435 v2890) S32x4096.size hinb).WholeWords (EltTy.packing .i8))
theorem k0_off435_inb : ∀ (v2890 : BitVec 32) (k0_hw436 : k0_chk436 v2890), ∀ a, (k0_off435 v2890) a + S32x4096.size a ≤ S4096x4096.size a := fun v2890 k0_hw436 => k0_hw436.1
theorem k0_off435_wordsi8 : ∀ (v2890 : BitVec 32) (k0_hw436 : k0_chk436 v2890), (Rect.unit (s := S4096x4096) (k0_off435 v2890) S32x4096.size (k0_off435_inb v2890 k0_hw436)).WholeWords (EltTy.packing .i8) := fun v2890 k0_hw436 => k0_hw436.2 (k0_off435_inb v2890 k0_hw436)

def k0_chk435 (v2893 : BitVec 32) : Prop :=
  (∀ a, (k0_off434 v2893) a + S32x4096.size a ≤ S4096x4096.size a) ∧
  (∀ (hinb : ∀ a, (k0_off434 v2893) a + S32x4096.size a ≤ S4096x4096.size a), (Rect.unit (s := S4096x4096) (k0_off434 v2893) S32x4096.size hinb).WholeWords (EltTy.packing .i8))
theorem k0_off434_inb : ∀ (v2893 : BitVec 32) (k0_hw435 : k0_chk435 v2893), ∀ a, (k0_off434 v2893) a + S32x4096.size a ≤ S4096x4096.size a := fun v2893 k0_hw435 => k0_hw435.1
theorem k0_off434_wordsi8 : ∀ (v2893 : BitVec 32) (k0_hw435 : k0_chk435 v2893), (Rect.unit (s := S4096x4096) (k0_off434 v2893) S32x4096.size (k0_off434_inb v2893 k0_hw435)).WholeWords (EltTy.packing .i8) := fun v2893 k0_hw435 => k0_hw435.2 (k0_off434_inb v2893 k0_hw435)

def k0_off436 (v2905 : BitVec 32) : Fin 2 → Nat :=
  let c128_i32_2961 : BitVec 32 := 128#32
  let v2906 : BitVec 32 := Scalar.muli v2905 c128_i32_2961
  let c96_i32_2962 : BitVec 32 := 96#32
  let v2907 : BitVec 32 := Scalar.addi v2906 c96_i32_2962
  let c0_i32_2969 : BitVec 32 := 0#32
  ![v2907.toNat, 0]

def k0_off437 (v2902 : BitVec 32) : Fin 2 → Nat :=
  let c128_i32_2958 : BitVec 32 := 128#32
  let v2903 : BitVec 32 := Scalar.muli v2902 c128_i32_2958
  let c96_i32_2959 : BitVec 32 := 96#32
  let v2904 : BitVec 32 := Scalar.addi v2903 c96_i32_2959
  let c0_i32_2970 : BitVec 32 := 0#32
  ![v2904.toNat, 0]

def k0_chk438 (v2902 : BitVec 32) : Prop :=
  (∀ a, (k0_off437 v2902) a + S32x4096.size a ≤ S4096x4096.size a) ∧
  (∀ (hinb : ∀ a, (k0_off437 v2902) a + S32x4096.size a ≤ S4096x4096.size a), (Rect.unit (s := S4096x4096) (k0_off437 v2902) S32x4096.size hinb).WholeWords (EltTy.packing .i8))
theorem k0_off437_inb : ∀ (v2902 : BitVec 32) (k0_hw438 : k0_chk438 v2902), ∀ a, (k0_off437 v2902) a + S32x4096.size a ≤ S4096x4096.size a := fun v2902 k0_hw438 => k0_hw438.1
theorem k0_off437_wordsi8 : ∀ (v2902 : BitVec 32) (k0_hw438 : k0_chk438 v2902), (Rect.unit (s := S4096x4096) (k0_off437 v2902) S32x4096.size (k0_off437_inb v2902 k0_hw438)).WholeWords (EltTy.packing .i8) := fun v2902 k0_hw438 => k0_hw438.2 (k0_off437_inb v2902 k0_hw438)

def k0_chk437 (v2905 : BitVec 32) : Prop :=
  (∀ a, (k0_off436 v2905) a + S32x4096.size a ≤ S4096x4096.size a) ∧
  (∀ (hinb : ∀ a, (k0_off436 v2905) a + S32x4096.size a ≤ S4096x4096.size a), (Rect.unit (s := S4096x4096) (k0_off436 v2905) S32x4096.size hinb).WholeWords (EltTy.packing .i8))
theorem k0_off436_inb : ∀ (v2905 : BitVec 32) (k0_hw437 : k0_chk437 v2905), ∀ a, (k0_off436 v2905) a + S32x4096.size a ≤ S4096x4096.size a := fun v2905 k0_hw437 => k0_hw437.1
theorem k0_off436_wordsi8 : ∀ (v2905 : BitVec 32) (k0_hw437 : k0_chk437 v2905), (Rect.unit (s := S4096x4096) (k0_off436 v2905) S32x4096.size (k0_off436_inb v2905 k0_hw437)).WholeWords (EltTy.packing .i8) := fun v2905 k0_hw437 => k0_hw437.2 (k0_off436_inb v2905 k0_hw437)

def k0_dev106 (v4 : BitVec 32) : Nat :=
  let c0_i32_2968 : BitVec 32 := 0#32
  let c1_i32_2967 : BitVec 32 := 1#32
  let v2908 : BitVec 32 := Scalar.muli v4 c1_i32_2967
  let v2909 : BitVec 32 := Scalar.addi c0_i32_2968 v2908
  v2909.toNat
def k0_off438 (v2917 : BitVec 32) : Fin 2 → Nat :=
  let c128_i32_2973 : BitVec 32 := 128#32
  let v2918 : BitVec 32 := Scalar.muli v2917 c128_i32_2973
  let v2919 : Index := Scalar.indexCast v2918
  let c0_2974 : Index := 0#32
  ![v2919.toNat, 0]

def k0_chk439 (v2917 : BitVec 32) : Prop :=
  (∀ a, (k0_off438 v2917) a + S128x4096.size a ≤ S4096x4096.size a)
theorem k0_off438_inb : ∀ (v2917 : BitVec 32) (k0_hw439 : k0_chk439 v2917), ∀ a, (k0_off438 v2917) a + S128x4096.size a ≤ S4096x4096.size a := fun v2917 k0_hw439 => k0_hw439

def k0_off439 (v2916 : BitVec 32) : Fin 2 → Nat :=
  let c128_i32_2978 : BitVec 32 := 128#32
  let v2927 : BitVec 32 := Scalar.muli v2916 c128_i32_2978
  let v2928 : Index := Scalar.indexCast v2927
  let c0_2979 : Index := 0#32
  ![v2928.toNat, 0]

def k0_chk440 (v2916 : BitVec 32) : Prop :=
  (∀ a, (k0_off439 v2916) a + S128x64.size a ≤ S4096x64.size a)
theorem k0_off439_inb : ∀ (v2916 : BitVec 32) (k0_hw440 : k0_chk440 v2916), ∀ a, (k0_off439 v2916) a + S128x64.size a ≤ S4096x64.size a := fun v2916 k0_hw440 => k0_hw440

def k0_off440 (v2931 : BitVec 32) : Fin 2 → Nat :=
  let c128_i32_2982 : BitVec 32 := 128#32
  let v2932 : BitVec 32 := Scalar.muli v2931 c128_i32_2982
  let v2933 : Index := Scalar.indexCast v2932
  let c0_2983 : Index := 0#32
  ![v2933.toNat, 0]

def k0_chk441 (v2931 : BitVec 32) : Prop :=
  (∀ a, (k0_off440 v2931) a + S128x4096.size a ≤ S4096x4096.size a)
theorem k0_off440_inb : ∀ (v2931 : BitVec 32) (k0_hw441 : k0_chk441 v2931), ∀ a, (k0_off440 v2931) a + S128x4096.size a ≤ S4096x4096.size a := fun v2931 k0_hw441 => k0_hw441

def k0_off441 (v2930 : BitVec 32) : Fin 2 → Nat :=
  let c128_i32_2987 : BitVec 32 := 128#32
  let v2941 : BitVec 32 := Scalar.muli v2930 c128_i32_2987
  let v2942 : Index := Scalar.indexCast v2941
  let c0_2988 : Index := 0#32
  ![v2942.toNat, 0]

def k0_chk442 (v2930 : BitVec 32) : Prop :=
  (∀ a, (k0_off441 v2930) a + S128x64.size a ≤ S4096x64.size a)
theorem k0_off441_inb : ∀ (v2930 : BitVec 32) (k0_hw442 : k0_chk442 v2930), ∀ a, (k0_off441 v2930) a + S128x64.size a ≤ S4096x64.size a := fun v2930 k0_hw442 => k0_hw442

def k0_off442 (v2947 : BitVec 32) : Fin 2 → Nat :=
  let c128_i32_2993 : BitVec 32 := 128#32
  let v2948 : BitVec 32 := Scalar.muli v2947 c128_i32_2993
  let c0_i32_2994 : BitVec 32 := 0#32
  let v2949 : BitVec 32 := Scalar.addi v2948 c0_i32_2994
  let c0_i32_3001 : BitVec 32 := 0#32
  ![v2949.toNat, 0]

def k0_off443 (v2944 : BitVec 32) : Fin 2 → Nat :=
  let c128_i32_2990 : BitVec 32 := 128#32
  let v2945 : BitVec 32 := Scalar.muli v2944 c128_i32_2990
  let c0_i32_2991 : BitVec 32 := 0#32
  let v2946 : BitVec 32 := Scalar.addi v2945 c0_i32_2991
  let c0_i32_3002 : BitVec 32 := 0#32
  ![v2946.toNat, 0]

def k0_chk444 (v2944 : BitVec 32) : Prop :=
  (∀ a, (k0_off443 v2944) a + S32x4096.size a ≤ S4096x4096.size a) ∧
  (∀ (hinb : ∀ a, (k0_off443 v2944) a + S32x4096.size a ≤ S4096x4096.size a), (Rect.unit (s := S4096x4096) (k0_off443 v2944) S32x4096.size hinb).WholeWords (EltTy.packing .i8))
theorem k0_off443_inb : ∀ (v2944 : BitVec 32) (k0_hw444 : k0_chk444 v2944), ∀ a, (k0_off443 v2944) a + S32x4096.size a ≤ S4096x4096.size a := fun v2944 k0_hw444 => k0_hw444.1
theorem k0_off443_wordsi8 : ∀ (v2944 : BitVec 32) (k0_hw444 : k0_chk444 v2944), (Rect.unit (s := S4096x4096) (k0_off443 v2944) S32x4096.size (k0_off443_inb v2944 k0_hw444)).WholeWords (EltTy.packing .i8) := fun v2944 k0_hw444 => k0_hw444.2 (k0_off443_inb v2944 k0_hw444)

def k0_chk443 (v2947 : BitVec 32) : Prop :=
  (∀ a, (k0_off442 v2947) a + S32x4096.size a ≤ S4096x4096.size a) ∧
  (∀ (hinb : ∀ a, (k0_off442 v2947) a + S32x4096.size a ≤ S4096x4096.size a), (Rect.unit (s := S4096x4096) (k0_off442 v2947) S32x4096.size hinb).WholeWords (EltTy.packing .i8))
theorem k0_off442_inb : ∀ (v2947 : BitVec 32) (k0_hw443 : k0_chk443 v2947), ∀ a, (k0_off442 v2947) a + S32x4096.size a ≤ S4096x4096.size a := fun v2947 k0_hw443 => k0_hw443.1
theorem k0_off442_wordsi8 : ∀ (v2947 : BitVec 32) (k0_hw443 : k0_chk443 v2947), (Rect.unit (s := S4096x4096) (k0_off442 v2947) S32x4096.size (k0_off442_inb v2947 k0_hw443)).WholeWords (EltTy.packing .i8) := fun v2947 k0_hw443 => k0_hw443.2 (k0_off442_inb v2947 k0_hw443)

def k0_off444 (v2959 : BitVec 32) : Fin 2 → Nat :=
  let c128_i32_3006 : BitVec 32 := 128#32
  let v2960 : BitVec 32 := Scalar.muli v2959 c128_i32_3006
  let c0_i32_3007 : BitVec 32 := 0#32
  let v2961 : BitVec 32 := Scalar.addi v2960 c0_i32_3007
  let c0_i32_3013 : BitVec 32 := 0#32
  ![v2961.toNat, 0]

def k0_off445 (v2956 : BitVec 32) : Fin 2 → Nat :=
  let c128_i32_3003 : BitVec 32 := 128#32
  let v2957 : BitVec 32 := Scalar.muli v2956 c128_i32_3003
  let c0_i32_3004 : BitVec 32 := 0#32
  let v2958 : BitVec 32 := Scalar.addi v2957 c0_i32_3004
  let c0_i32_3014 : BitVec 32 := 0#32
  ![v2958.toNat, 0]

def k0_chk446 (v2956 : BitVec 32) : Prop :=
  (∀ a, (k0_off445 v2956) a + S32x4096.size a ≤ S4096x4096.size a) ∧
  (∀ (hinb : ∀ a, (k0_off445 v2956) a + S32x4096.size a ≤ S4096x4096.size a), (Rect.unit (s := S4096x4096) (k0_off445 v2956) S32x4096.size hinb).WholeWords (EltTy.packing .i8))
theorem k0_off445_inb : ∀ (v2956 : BitVec 32) (k0_hw446 : k0_chk446 v2956), ∀ a, (k0_off445 v2956) a + S32x4096.size a ≤ S4096x4096.size a := fun v2956 k0_hw446 => k0_hw446.1
theorem k0_off445_wordsi8 : ∀ (v2956 : BitVec 32) (k0_hw446 : k0_chk446 v2956), (Rect.unit (s := S4096x4096) (k0_off445 v2956) S32x4096.size (k0_off445_inb v2956 k0_hw446)).WholeWords (EltTy.packing .i8) := fun v2956 k0_hw446 => k0_hw446.2 (k0_off445_inb v2956 k0_hw446)

def k0_chk445 (v2959 : BitVec 32) : Prop :=
  (∀ a, (k0_off444 v2959) a + S32x4096.size a ≤ S4096x4096.size a) ∧
  (∀ (hinb : ∀ a, (k0_off444 v2959) a + S32x4096.size a ≤ S4096x4096.size a), (Rect.unit (s := S4096x4096) (k0_off444 v2959) S32x4096.size hinb).WholeWords (EltTy.packing .i8))
theorem k0_off444_inb : ∀ (v2959 : BitVec 32) (k0_hw445 : k0_chk445 v2959), ∀ a, (k0_off444 v2959) a + S32x4096.size a ≤ S4096x4096.size a := fun v2959 k0_hw445 => k0_hw445.1
theorem k0_off444_wordsi8 : ∀ (v2959 : BitVec 32) (k0_hw445 : k0_chk445 v2959), (Rect.unit (s := S4096x4096) (k0_off444 v2959) S32x4096.size (k0_off444_inb v2959 k0_hw445)).WholeWords (EltTy.packing .i8) := fun v2959 k0_hw445 => k0_hw445.2 (k0_off444_inb v2959 k0_hw445)

def k0_dev107 (v3 : BitVec 32) : Nat :=
  let c0_i32_3012 : BitVec 32 := 0#32
  let c1_i32_3011 : BitVec 32 := 1#32
  let v2962 : BitVec 32 := Scalar.muli v3 c1_i32_3011
  let v2963 : BitVec 32 := Scalar.addi c0_i32_3012 v2962
  v2963.toNat
def k0_off446 (v2973 : BitVec 32) : Fin 2 → Nat :=
  let c128_i32_3019 : BitVec 32 := 128#32
  let v2974 : BitVec 32 := Scalar.muli v2973 c128_i32_3019
  let c0_i32_3020 : BitVec 32 := 0#32
  let v2975 : BitVec 32 := Scalar.addi v2974 c0_i32_3020
  let c0_i32_3027 : BitVec 32 := 0#32
  ![v2975.toNat, 0]

def k0_off447 (v2970 : BitVec 32) : Fin 2 → Nat :=
  let c128_i32_3016 : BitVec 32 := 128#32
  let v2971 : BitVec 32 := Scalar.muli v2970 c128_i32_3016
  let c0_i32_3017 : BitVec 32 := 0#32
  let v2972 : BitVec 32 := Scalar.addi v2971 c0_i32_3017
  let c0_i32_3028 : BitVec 32 := 0#32
  ![v2972.toNat, 0]

def k0_chk448 (v2970 : BitVec 32) : Prop :=
  (∀ a, (k0_off447 v2970) a + S32x4096.size a ≤ S4096x4096.size a) ∧
  (∀ (hinb : ∀ a, (k0_off447 v2970) a + S32x4096.size a ≤ S4096x4096.size a), (Rect.unit (s := S4096x4096) (k0_off447 v2970) S32x4096.size hinb).WholeWords (EltTy.packing .i8))
theorem k0_off447_inb : ∀ (v2970 : BitVec 32) (k0_hw448 : k0_chk448 v2970), ∀ a, (k0_off447 v2970) a + S32x4096.size a ≤ S4096x4096.size a := fun v2970 k0_hw448 => k0_hw448.1
theorem k0_off447_wordsi8 : ∀ (v2970 : BitVec 32) (k0_hw448 : k0_chk448 v2970), (Rect.unit (s := S4096x4096) (k0_off447 v2970) S32x4096.size (k0_off447_inb v2970 k0_hw448)).WholeWords (EltTy.packing .i8) := fun v2970 k0_hw448 => k0_hw448.2 (k0_off447_inb v2970 k0_hw448)

def k0_chk447 (v2973 : BitVec 32) : Prop :=
  (∀ a, (k0_off446 v2973) a + S32x4096.size a ≤ S4096x4096.size a) ∧
  (∀ (hinb : ∀ a, (k0_off446 v2973) a + S32x4096.size a ≤ S4096x4096.size a), (Rect.unit (s := S4096x4096) (k0_off446 v2973) S32x4096.size hinb).WholeWords (EltTy.packing .i8))
theorem k0_off446_inb : ∀ (v2973 : BitVec 32) (k0_hw447 : k0_chk447 v2973), ∀ a, (k0_off446 v2973) a + S32x4096.size a ≤ S4096x4096.size a := fun v2973 k0_hw447 => k0_hw447.1
theorem k0_off446_wordsi8 : ∀ (v2973 : BitVec 32) (k0_hw447 : k0_chk447 v2973), (Rect.unit (s := S4096x4096) (k0_off446 v2973) S32x4096.size (k0_off446_inb v2973 k0_hw447)).WholeWords (EltTy.packing .i8) := fun v2973 k0_hw447 => k0_hw447.2 (k0_off446_inb v2973 k0_hw447)

def k0_off448 (v2985 : BitVec 32) : Fin 2 → Nat :=
  let c128_i32_3033 : BitVec 32 := 128#32
  let v2986 : BitVec 32 := Scalar.muli v2985 c128_i32_3033
  let c0_i32_3034 : BitVec 32 := 0#32
  let v2987 : BitVec 32 := Scalar.addi v2986 c0_i32_3034
  let c0_i32_3041 : BitVec 32 := 0#32
  ![v2987.toNat, 0]

def k0_off449 (v2982 : BitVec 32) : Fin 2 → Nat :=
  let c128_i32_3030 : BitVec 32 := 128#32
  let v2983 : BitVec 32 := Scalar.muli v2982 c128_i32_3030
  let c0_i32_3031 : BitVec 32 := 0#32
  let v2984 : BitVec 32 := Scalar.addi v2983 c0_i32_3031
  let c0_i32_3042 : BitVec 32 := 0#32
  ![v2984.toNat, 0]

def k0_chk450 (v2982 : BitVec 32) : Prop :=
  (∀ a, (k0_off449 v2982) a + S32x4096.size a ≤ S4096x4096.size a) ∧
  (∀ (hinb : ∀ a, (k0_off449 v2982) a + S32x4096.size a ≤ S4096x4096.size a), (Rect.unit (s := S4096x4096) (k0_off449 v2982) S32x4096.size hinb).WholeWords (EltTy.packing .i8))
theorem k0_off449_inb : ∀ (v2982 : BitVec 32) (k0_hw450 : k0_chk450 v2982), ∀ a, (k0_off449 v2982) a + S32x4096.size a ≤ S4096x4096.size a := fun v2982 k0_hw450 => k0_hw450.1
theorem k0_off449_wordsi8 : ∀ (v2982 : BitVec 32) (k0_hw450 : k0_chk450 v2982), (Rect.unit (s := S4096x4096) (k0_off449 v2982) S32x4096.size (k0_off449_inb v2982 k0_hw450)).WholeWords (EltTy.packing .i8) := fun v2982 k0_hw450 => k0_hw450.2 (k0_off449_inb v2982 k0_hw450)

def k0_chk449 (v2985 : BitVec 32) : Prop :=
  (∀ a, (k0_off448 v2985) a + S32x4096.size a ≤ S4096x4096.size a) ∧
  (∀ (hinb : ∀ a, (k0_off448 v2985) a + S32x4096.size a ≤ S4096x4096.size a), (Rect.unit (s := S4096x4096) (k0_off448 v2985) S32x4096.size hinb).WholeWords (EltTy.packing .i8))
theorem k0_off448_inb : ∀ (v2985 : BitVec 32) (k0_hw449 : k0_chk449 v2985), ∀ a, (k0_off448 v2985) a + S32x4096.size a ≤ S4096x4096.size a := fun v2985 k0_hw449 => k0_hw449.1
theorem k0_off448_wordsi8 : ∀ (v2985 : BitVec 32) (k0_hw449 : k0_chk449 v2985), (Rect.unit (s := S4096x4096) (k0_off448 v2985) S32x4096.size (k0_off448_inb v2985 k0_hw449)).WholeWords (EltTy.packing .i8) := fun v2985 k0_hw449 => k0_hw449.2 (k0_off448_inb v2985 k0_hw449)

def k0_dev108 (v4 : BitVec 32) : Nat :=
  let c0_i32_3040 : BitVec 32 := 0#32
  let c1_i32_3039 : BitVec 32 := 1#32
  let v2988 : BitVec 32 := Scalar.muli v4 c1_i32_3039
  let v2989 : BitVec 32 := Scalar.addi c0_i32_3040 v2988
  v2989.toNat
def k0_off450 (v2999 : BitVec 32) : Fin 2 → Nat :=
  let c128_i32_3047 : BitVec 32 := 128#32
  let v3000 : BitVec 32 := Scalar.muli v2999 c128_i32_3047
  let c32_i32_3048 : BitVec 32 := 32#32
  let v3001 : BitVec 32 := Scalar.addi v3000 c32_i32_3048
  let c0_i32_3055 : BitVec 32 := 0#32
  ![v3001.toNat, 0]

def k0_off451 (v2996 : BitVec 32) : Fin 2 → Nat :=
  let c128_i32_3044 : BitVec 32 := 128#32
  let v2997 : BitVec 32 := Scalar.muli v2996 c128_i32_3044
  let c32_i32_3045 : BitVec 32 := 32#32
  let v2998 : BitVec 32 := Scalar.addi v2997 c32_i32_3045
  let c0_i32_3056 : BitVec 32 := 0#32
  ![v2998.toNat, 0]

def k0_chk452 (v2996 : BitVec 32) : Prop :=
  (∀ a, (k0_off451 v2996) a + S32x4096.size a ≤ S4096x4096.size a) ∧
  (∀ (hinb : ∀ a, (k0_off451 v2996) a + S32x4096.size a ≤ S4096x4096.size a), (Rect.unit (s := S4096x4096) (k0_off451 v2996) S32x4096.size hinb).WholeWords (EltTy.packing .i8))
theorem k0_off451_inb : ∀ (v2996 : BitVec 32) (k0_hw452 : k0_chk452 v2996), ∀ a, (k0_off451 v2996) a + S32x4096.size a ≤ S4096x4096.size a := fun v2996 k0_hw452 => k0_hw452.1
theorem k0_off451_wordsi8 : ∀ (v2996 : BitVec 32) (k0_hw452 : k0_chk452 v2996), (Rect.unit (s := S4096x4096) (k0_off451 v2996) S32x4096.size (k0_off451_inb v2996 k0_hw452)).WholeWords (EltTy.packing .i8) := fun v2996 k0_hw452 => k0_hw452.2 (k0_off451_inb v2996 k0_hw452)

def k0_chk451 (v2999 : BitVec 32) : Prop :=
  (∀ a, (k0_off450 v2999) a + S32x4096.size a ≤ S4096x4096.size a) ∧
  (∀ (hinb : ∀ a, (k0_off450 v2999) a + S32x4096.size a ≤ S4096x4096.size a), (Rect.unit (s := S4096x4096) (k0_off450 v2999) S32x4096.size hinb).WholeWords (EltTy.packing .i8))
theorem k0_off450_inb : ∀ (v2999 : BitVec 32) (k0_hw451 : k0_chk451 v2999), ∀ a, (k0_off450 v2999) a + S32x4096.size a ≤ S4096x4096.size a := fun v2999 k0_hw451 => k0_hw451.1
theorem k0_off450_wordsi8 : ∀ (v2999 : BitVec 32) (k0_hw451 : k0_chk451 v2999), (Rect.unit (s := S4096x4096) (k0_off450 v2999) S32x4096.size (k0_off450_inb v2999 k0_hw451)).WholeWords (EltTy.packing .i8) := fun v2999 k0_hw451 => k0_hw451.2 (k0_off450_inb v2999 k0_hw451)

def k0_off452 (v3011 : BitVec 32) : Fin 2 → Nat :=
  let c128_i32_3061 : BitVec 32 := 128#32
  let v3012 : BitVec 32 := Scalar.muli v3011 c128_i32_3061
  let c32_i32_3062 : BitVec 32 := 32#32
  let v3013 : BitVec 32 := Scalar.addi v3012 c32_i32_3062
  let c0_i32_3069 : BitVec 32 := 0#32
  ![v3013.toNat, 0]

def k0_off453 (v3008 : BitVec 32) : Fin 2 → Nat :=
  let c128_i32_3058 : BitVec 32 := 128#32
  let v3009 : BitVec 32 := Scalar.muli v3008 c128_i32_3058
  let c32_i32_3059 : BitVec 32 := 32#32
  let v3010 : BitVec 32 := Scalar.addi v3009 c32_i32_3059
  let c0_i32_3070 : BitVec 32 := 0#32
  ![v3010.toNat, 0]

def k0_chk454 (v3008 : BitVec 32) : Prop :=
  (∀ a, (k0_off453 v3008) a + S32x4096.size a ≤ S4096x4096.size a) ∧
  (∀ (hinb : ∀ a, (k0_off453 v3008) a + S32x4096.size a ≤ S4096x4096.size a), (Rect.unit (s := S4096x4096) (k0_off453 v3008) S32x4096.size hinb).WholeWords (EltTy.packing .i8))
theorem k0_off453_inb : ∀ (v3008 : BitVec 32) (k0_hw454 : k0_chk454 v3008), ∀ a, (k0_off453 v3008) a + S32x4096.size a ≤ S4096x4096.size a := fun v3008 k0_hw454 => k0_hw454.1
theorem k0_off453_wordsi8 : ∀ (v3008 : BitVec 32) (k0_hw454 : k0_chk454 v3008), (Rect.unit (s := S4096x4096) (k0_off453 v3008) S32x4096.size (k0_off453_inb v3008 k0_hw454)).WholeWords (EltTy.packing .i8) := fun v3008 k0_hw454 => k0_hw454.2 (k0_off453_inb v3008 k0_hw454)

def k0_chk453 (v3011 : BitVec 32) : Prop :=
  (∀ a, (k0_off452 v3011) a + S32x4096.size a ≤ S4096x4096.size a) ∧
  (∀ (hinb : ∀ a, (k0_off452 v3011) a + S32x4096.size a ≤ S4096x4096.size a), (Rect.unit (s := S4096x4096) (k0_off452 v3011) S32x4096.size hinb).WholeWords (EltTy.packing .i8))
theorem k0_off452_inb : ∀ (v3011 : BitVec 32) (k0_hw453 : k0_chk453 v3011), ∀ a, (k0_off452 v3011) a + S32x4096.size a ≤ S4096x4096.size a := fun v3011 k0_hw453 => k0_hw453.1
theorem k0_off452_wordsi8 : ∀ (v3011 : BitVec 32) (k0_hw453 : k0_chk453 v3011), (Rect.unit (s := S4096x4096) (k0_off452 v3011) S32x4096.size (k0_off452_inb v3011 k0_hw453)).WholeWords (EltTy.packing .i8) := fun v3011 k0_hw453 => k0_hw453.2 (k0_off452_inb v3011 k0_hw453)

def k0_dev109 (v3 : BitVec 32) : Nat :=
  let c0_i32_3068 : BitVec 32 := 0#32
  let c1_i32_3067 : BitVec 32 := 1#32
  let v3014 : BitVec 32 := Scalar.muli v3 c1_i32_3067
  let v3015 : BitVec 32 := Scalar.addi c0_i32_3068 v3014
  v3015.toNat
def k0_off454 (v3025 : BitVec 32) : Fin 2 → Nat :=
  let c128_i32_3075 : BitVec 32 := 128#32
  let v3026 : BitVec 32 := Scalar.muli v3025 c128_i32_3075
  let c32_i32_3076 : BitVec 32 := 32#32
  let v3027 : BitVec 32 := Scalar.addi v3026 c32_i32_3076
  let c0_i32_3083 : BitVec 32 := 0#32
  ![v3027.toNat, 0]

def k0_off455 (v3022 : BitVec 32) : Fin 2 → Nat :=
  let c128_i32_3072 : BitVec 32 := 128#32
  let v3023 : BitVec 32 := Scalar.muli v3022 c128_i32_3072
  let c32_i32_3073 : BitVec 32 := 32#32
  let v3024 : BitVec 32 := Scalar.addi v3023 c32_i32_3073
  let c0_i32_3084 : BitVec 32 := 0#32
  ![v3024.toNat, 0]

def k0_chk456 (v3022 : BitVec 32) : Prop :=
  (∀ a, (k0_off455 v3022) a + S32x4096.size a ≤ S4096x4096.size a) ∧
  (∀ (hinb : ∀ a, (k0_off455 v3022) a + S32x4096.size a ≤ S4096x4096.size a), (Rect.unit (s := S4096x4096) (k0_off455 v3022) S32x4096.size hinb).WholeWords (EltTy.packing .i8))
theorem k0_off455_inb : ∀ (v3022 : BitVec 32) (k0_hw456 : k0_chk456 v3022), ∀ a, (k0_off455 v3022) a + S32x4096.size a ≤ S4096x4096.size a := fun v3022 k0_hw456 => k0_hw456.1
theorem k0_off455_wordsi8 : ∀ (v3022 : BitVec 32) (k0_hw456 : k0_chk456 v3022), (Rect.unit (s := S4096x4096) (k0_off455 v3022) S32x4096.size (k0_off455_inb v3022 k0_hw456)).WholeWords (EltTy.packing .i8) := fun v3022 k0_hw456 => k0_hw456.2 (k0_off455_inb v3022 k0_hw456)

def k0_chk455 (v3025 : BitVec 32) : Prop :=
  (∀ a, (k0_off454 v3025) a + S32x4096.size a ≤ S4096x4096.size a) ∧
  (∀ (hinb : ∀ a, (k0_off454 v3025) a + S32x4096.size a ≤ S4096x4096.size a), (Rect.unit (s := S4096x4096) (k0_off454 v3025) S32x4096.size hinb).WholeWords (EltTy.packing .i8))
theorem k0_off454_inb : ∀ (v3025 : BitVec 32) (k0_hw455 : k0_chk455 v3025), ∀ a, (k0_off454 v3025) a + S32x4096.size a ≤ S4096x4096.size a := fun v3025 k0_hw455 => k0_hw455.1
theorem k0_off454_wordsi8 : ∀ (v3025 : BitVec 32) (k0_hw455 : k0_chk455 v3025), (Rect.unit (s := S4096x4096) (k0_off454 v3025) S32x4096.size (k0_off454_inb v3025 k0_hw455)).WholeWords (EltTy.packing .i8) := fun v3025 k0_hw455 => k0_hw455.2 (k0_off454_inb v3025 k0_hw455)

def k0_off456 (v3037 : BitVec 32) : Fin 2 → Nat :=
  let c128_i32_3089 : BitVec 32 := 128#32
  let v3038 : BitVec 32 := Scalar.muli v3037 c128_i32_3089
  let c32_i32_3090 : BitVec 32 := 32#32
  let v3039 : BitVec 32 := Scalar.addi v3038 c32_i32_3090
  let c0_i32_3097 : BitVec 32 := 0#32
  ![v3039.toNat, 0]

def k0_off457 (v3034 : BitVec 32) : Fin 2 → Nat :=
  let c128_i32_3086 : BitVec 32 := 128#32
  let v3035 : BitVec 32 := Scalar.muli v3034 c128_i32_3086
  let c32_i32_3087 : BitVec 32 := 32#32
  let v3036 : BitVec 32 := Scalar.addi v3035 c32_i32_3087
  let c0_i32_3098 : BitVec 32 := 0#32
  ![v3036.toNat, 0]

def k0_chk458 (v3034 : BitVec 32) : Prop :=
  (∀ a, (k0_off457 v3034) a + S32x4096.size a ≤ S4096x4096.size a) ∧
  (∀ (hinb : ∀ a, (k0_off457 v3034) a + S32x4096.size a ≤ S4096x4096.size a), (Rect.unit (s := S4096x4096) (k0_off457 v3034) S32x4096.size hinb).WholeWords (EltTy.packing .i8))
theorem k0_off457_inb : ∀ (v3034 : BitVec 32) (k0_hw458 : k0_chk458 v3034), ∀ a, (k0_off457 v3034) a + S32x4096.size a ≤ S4096x4096.size a := fun v3034 k0_hw458 => k0_hw458.1
theorem k0_off457_wordsi8 : ∀ (v3034 : BitVec 32) (k0_hw458 : k0_chk458 v3034), (Rect.unit (s := S4096x4096) (k0_off457 v3034) S32x4096.size (k0_off457_inb v3034 k0_hw458)).WholeWords (EltTy.packing .i8) := fun v3034 k0_hw458 => k0_hw458.2 (k0_off457_inb v3034 k0_hw458)

def k0_chk457 (v3037 : BitVec 32) : Prop :=
  (∀ a, (k0_off456 v3037) a + S32x4096.size a ≤ S4096x4096.size a) ∧
  (∀ (hinb : ∀ a, (k0_off456 v3037) a + S32x4096.size a ≤ S4096x4096.size a), (Rect.unit (s := S4096x4096) (k0_off456 v3037) S32x4096.size hinb).WholeWords (EltTy.packing .i8))
theorem k0_off456_inb : ∀ (v3037 : BitVec 32) (k0_hw457 : k0_chk457 v3037), ∀ a, (k0_off456 v3037) a + S32x4096.size a ≤ S4096x4096.size a := fun v3037 k0_hw457 => k0_hw457.1
theorem k0_off456_wordsi8 : ∀ (v3037 : BitVec 32) (k0_hw457 : k0_chk457 v3037), (Rect.unit (s := S4096x4096) (k0_off456 v3037) S32x4096.size (k0_off456_inb v3037 k0_hw457)).WholeWords (EltTy.packing .i8) := fun v3037 k0_hw457 => k0_hw457.2 (k0_off456_inb v3037 k0_hw457)

def k0_dev110 (v4 : BitVec 32) : Nat :=
  let c0_i32_3096 : BitVec 32 := 0#32
  let c1_i32_3095 : BitVec 32 := 1#32
  let v3040 : BitVec 32 := Scalar.muli v4 c1_i32_3095
  let v3041 : BitVec 32 := Scalar.addi c0_i32_3096 v3040
  v3041.toNat
def k0_off458 (v3051 : BitVec 32) : Fin 2 → Nat :=
  let c128_i32_3103 : BitVec 32 := 128#32
  let v3052 : BitVec 32 := Scalar.muli v3051 c128_i32_3103
  let c64_i32_3104 : BitVec 32 := 64#32
  let v3053 : BitVec 32 := Scalar.addi v3052 c64_i32_3104
  let c0_i32_3111 : BitVec 32 := 0#32
  ![v3053.toNat, 0]

def k0_off459 (v3048 : BitVec 32) : Fin 2 → Nat :=
  let c128_i32_3100 : BitVec 32 := 128#32
  let v3049 : BitVec 32 := Scalar.muli v3048 c128_i32_3100
  let c64_i32_3101 : BitVec 32 := 64#32
  let v3050 : BitVec 32 := Scalar.addi v3049 c64_i32_3101
  let c0_i32_3112 : BitVec 32 := 0#32
  ![v3050.toNat, 0]

def k0_chk460 (v3048 : BitVec 32) : Prop :=
  (∀ a, (k0_off459 v3048) a + S32x4096.size a ≤ S4096x4096.size a) ∧
  (∀ (hinb : ∀ a, (k0_off459 v3048) a + S32x4096.size a ≤ S4096x4096.size a), (Rect.unit (s := S4096x4096) (k0_off459 v3048) S32x4096.size hinb).WholeWords (EltTy.packing .i8))
theorem k0_off459_inb : ∀ (v3048 : BitVec 32) (k0_hw460 : k0_chk460 v3048), ∀ a, (k0_off459 v3048) a + S32x4096.size a ≤ S4096x4096.size a := fun v3048 k0_hw460 => k0_hw460.1
theorem k0_off459_wordsi8 : ∀ (v3048 : BitVec 32) (k0_hw460 : k0_chk460 v3048), (Rect.unit (s := S4096x4096) (k0_off459 v3048) S32x4096.size (k0_off459_inb v3048 k0_hw460)).WholeWords (EltTy.packing .i8) := fun v3048 k0_hw460 => k0_hw460.2 (k0_off459_inb v3048 k0_hw460)

def k0_chk459 (v3051 : BitVec 32) : Prop :=
  (∀ a, (k0_off458 v3051) a + S32x4096.size a ≤ S4096x4096.size a) ∧
  (∀ (hinb : ∀ a, (k0_off458 v3051) a + S32x4096.size a ≤ S4096x4096.size a), (Rect.unit (s := S4096x4096) (k0_off458 v3051) S32x4096.size hinb).WholeWords (EltTy.packing .i8))
theorem k0_off458_inb : ∀ (v3051 : BitVec 32) (k0_hw459 : k0_chk459 v3051), ∀ a, (k0_off458 v3051) a + S32x4096.size a ≤ S4096x4096.size a := fun v3051 k0_hw459 => k0_hw459.1
theorem k0_off458_wordsi8 : ∀ (v3051 : BitVec 32) (k0_hw459 : k0_chk459 v3051), (Rect.unit (s := S4096x4096) (k0_off458 v3051) S32x4096.size (k0_off458_inb v3051 k0_hw459)).WholeWords (EltTy.packing .i8) := fun v3051 k0_hw459 => k0_hw459.2 (k0_off458_inb v3051 k0_hw459)

def k0_off460 (v3063 : BitVec 32) : Fin 2 → Nat :=
  let c128_i32_3117 : BitVec 32 := 128#32
  let v3064 : BitVec 32 := Scalar.muli v3063 c128_i32_3117
  let c64_i32_3118 : BitVec 32 := 64#32
  let v3065 : BitVec 32 := Scalar.addi v3064 c64_i32_3118
  let c0_i32_3125 : BitVec 32 := 0#32
  ![v3065.toNat, 0]

def k0_off461 (v3060 : BitVec 32) : Fin 2 → Nat :=
  let c128_i32_3114 : BitVec 32 := 128#32
  let v3061 : BitVec 32 := Scalar.muli v3060 c128_i32_3114
  let c64_i32_3115 : BitVec 32 := 64#32
  let v3062 : BitVec 32 := Scalar.addi v3061 c64_i32_3115
  let c0_i32_3126 : BitVec 32 := 0#32
  ![v3062.toNat, 0]

def k0_chk462 (v3060 : BitVec 32) : Prop :=
  (∀ a, (k0_off461 v3060) a + S32x4096.size a ≤ S4096x4096.size a) ∧
  (∀ (hinb : ∀ a, (k0_off461 v3060) a + S32x4096.size a ≤ S4096x4096.size a), (Rect.unit (s := S4096x4096) (k0_off461 v3060) S32x4096.size hinb).WholeWords (EltTy.packing .i8))
theorem k0_off461_inb : ∀ (v3060 : BitVec 32) (k0_hw462 : k0_chk462 v3060), ∀ a, (k0_off461 v3060) a + S32x4096.size a ≤ S4096x4096.size a := fun v3060 k0_hw462 => k0_hw462.1
theorem k0_off461_wordsi8 : ∀ (v3060 : BitVec 32) (k0_hw462 : k0_chk462 v3060), (Rect.unit (s := S4096x4096) (k0_off461 v3060) S32x4096.size (k0_off461_inb v3060 k0_hw462)).WholeWords (EltTy.packing .i8) := fun v3060 k0_hw462 => k0_hw462.2 (k0_off461_inb v3060 k0_hw462)

def k0_chk461 (v3063 : BitVec 32) : Prop :=
  (∀ a, (k0_off460 v3063) a + S32x4096.size a ≤ S4096x4096.size a) ∧
  (∀ (hinb : ∀ a, (k0_off460 v3063) a + S32x4096.size a ≤ S4096x4096.size a), (Rect.unit (s := S4096x4096) (k0_off460 v3063) S32x4096.size hinb).WholeWords (EltTy.packing .i8))
theorem k0_off460_inb : ∀ (v3063 : BitVec 32) (k0_hw461 : k0_chk461 v3063), ∀ a, (k0_off460 v3063) a + S32x4096.size a ≤ S4096x4096.size a := fun v3063 k0_hw461 => k0_hw461.1
theorem k0_off460_wordsi8 : ∀ (v3063 : BitVec 32) (k0_hw461 : k0_chk461 v3063), (Rect.unit (s := S4096x4096) (k0_off460 v3063) S32x4096.size (k0_off460_inb v3063 k0_hw461)).WholeWords (EltTy.packing .i8) := fun v3063 k0_hw461 => k0_hw461.2 (k0_off460_inb v3063 k0_hw461)

def k0_dev111 (v3 : BitVec 32) : Nat :=
  let c0_i32_3124 : BitVec 32 := 0#32
  let c1_i32_3123 : BitVec 32 := 1#32
  let v3066 : BitVec 32 := Scalar.muli v3 c1_i32_3123
  let v3067 : BitVec 32 := Scalar.addi c0_i32_3124 v3066
  v3067.toNat
def k0_off462 (v3077 : BitVec 32) : Fin 2 → Nat :=
  let c128_i32_3131 : BitVec 32 := 128#32
  let v3078 : BitVec 32 := Scalar.muli v3077 c128_i32_3131
  let c64_i32_3132 : BitVec 32 := 64#32
  let v3079 : BitVec 32 := Scalar.addi v3078 c64_i32_3132
  let c0_i32_3139 : BitVec 32 := 0#32
  ![v3079.toNat, 0]

def k0_off463 (v3074 : BitVec 32) : Fin 2 → Nat :=
  let c128_i32_3128 : BitVec 32 := 128#32
  let v3075 : BitVec 32 := Scalar.muli v3074 c128_i32_3128
  let c64_i32_3129 : BitVec 32 := 64#32
  let v3076 : BitVec 32 := Scalar.addi v3075 c64_i32_3129
  let c0_i32_3140 : BitVec 32 := 0#32
  ![v3076.toNat, 0]

def k0_chk464 (v3074 : BitVec 32) : Prop :=
  (∀ a, (k0_off463 v3074) a + S32x4096.size a ≤ S4096x4096.size a) ∧
  (∀ (hinb : ∀ a, (k0_off463 v3074) a + S32x4096.size a ≤ S4096x4096.size a), (Rect.unit (s := S4096x4096) (k0_off463 v3074) S32x4096.size hinb).WholeWords (EltTy.packing .i8))
theorem k0_off463_inb : ∀ (v3074 : BitVec 32) (k0_hw464 : k0_chk464 v3074), ∀ a, (k0_off463 v3074) a + S32x4096.size a ≤ S4096x4096.size a := fun v3074 k0_hw464 => k0_hw464.1
theorem k0_off463_wordsi8 : ∀ (v3074 : BitVec 32) (k0_hw464 : k0_chk464 v3074), (Rect.unit (s := S4096x4096) (k0_off463 v3074) S32x4096.size (k0_off463_inb v3074 k0_hw464)).WholeWords (EltTy.packing .i8) := fun v3074 k0_hw464 => k0_hw464.2 (k0_off463_inb v3074 k0_hw464)

def k0_chk463 (v3077 : BitVec 32) : Prop :=
  (∀ a, (k0_off462 v3077) a + S32x4096.size a ≤ S4096x4096.size a) ∧
  (∀ (hinb : ∀ a, (k0_off462 v3077) a + S32x4096.size a ≤ S4096x4096.size a), (Rect.unit (s := S4096x4096) (k0_off462 v3077) S32x4096.size hinb).WholeWords (EltTy.packing .i8))
theorem k0_off462_inb : ∀ (v3077 : BitVec 32) (k0_hw463 : k0_chk463 v3077), ∀ a, (k0_off462 v3077) a + S32x4096.size a ≤ S4096x4096.size a := fun v3077 k0_hw463 => k0_hw463.1
theorem k0_off462_wordsi8 : ∀ (v3077 : BitVec 32) (k0_hw463 : k0_chk463 v3077), (Rect.unit (s := S4096x4096) (k0_off462 v3077) S32x4096.size (k0_off462_inb v3077 k0_hw463)).WholeWords (EltTy.packing .i8) := fun v3077 k0_hw463 => k0_hw463.2 (k0_off462_inb v3077 k0_hw463)

def k0_off464 (v3089 : BitVec 32) : Fin 2 → Nat :=
  let c128_i32_3145 : BitVec 32 := 128#32
  let v3090 : BitVec 32 := Scalar.muli v3089 c128_i32_3145
  let c64_i32_3146 : BitVec 32 := 64#32
  let v3091 : BitVec 32 := Scalar.addi v3090 c64_i32_3146
  let c0_i32_3153 : BitVec 32 := 0#32
  ![v3091.toNat, 0]

def k0_off465 (v3086 : BitVec 32) : Fin 2 → Nat :=
  let c128_i32_3142 : BitVec 32 := 128#32
  let v3087 : BitVec 32 := Scalar.muli v3086 c128_i32_3142
  let c64_i32_3143 : BitVec 32 := 64#32
  let v3088 : BitVec 32 := Scalar.addi v3087 c64_i32_3143
  let c0_i32_3154 : BitVec 32 := 0#32
  ![v3088.toNat, 0]

def k0_chk466 (v3086 : BitVec 32) : Prop :=
  (∀ a, (k0_off465 v3086) a + S32x4096.size a ≤ S4096x4096.size a) ∧
  (∀ (hinb : ∀ a, (k0_off465 v3086) a + S32x4096.size a ≤ S4096x4096.size a), (Rect.unit (s := S4096x4096) (k0_off465 v3086) S32x4096.size hinb).WholeWords (EltTy.packing .i8))
theorem k0_off465_inb : ∀ (v3086 : BitVec 32) (k0_hw466 : k0_chk466 v3086), ∀ a, (k0_off465 v3086) a + S32x4096.size a ≤ S4096x4096.size a := fun v3086 k0_hw466 => k0_hw466.1
theorem k0_off465_wordsi8 : ∀ (v3086 : BitVec 32) (k0_hw466 : k0_chk466 v3086), (Rect.unit (s := S4096x4096) (k0_off465 v3086) S32x4096.size (k0_off465_inb v3086 k0_hw466)).WholeWords (EltTy.packing .i8) := fun v3086 k0_hw466 => k0_hw466.2 (k0_off465_inb v3086 k0_hw466)

def k0_chk465 (v3089 : BitVec 32) : Prop :=
  (∀ a, (k0_off464 v3089) a + S32x4096.size a ≤ S4096x4096.size a) ∧
  (∀ (hinb : ∀ a, (k0_off464 v3089) a + S32x4096.size a ≤ S4096x4096.size a), (Rect.unit (s := S4096x4096) (k0_off464 v3089) S32x4096.size hinb).WholeWords (EltTy.packing .i8))
theorem k0_off464_inb : ∀ (v3089 : BitVec 32) (k0_hw465 : k0_chk465 v3089), ∀ a, (k0_off464 v3089) a + S32x4096.size a ≤ S4096x4096.size a := fun v3089 k0_hw465 => k0_hw465.1
theorem k0_off464_wordsi8 : ∀ (v3089 : BitVec 32) (k0_hw465 : k0_chk465 v3089), (Rect.unit (s := S4096x4096) (k0_off464 v3089) S32x4096.size (k0_off464_inb v3089 k0_hw465)).WholeWords (EltTy.packing .i8) := fun v3089 k0_hw465 => k0_hw465.2 (k0_off464_inb v3089 k0_hw465)

def k0_dev112 (v4 : BitVec 32) : Nat :=
  let c0_i32_3152 : BitVec 32 := 0#32
  let c1_i32_3151 : BitVec 32 := 1#32
  let v3092 : BitVec 32 := Scalar.muli v4 c1_i32_3151
  let v3093 : BitVec 32 := Scalar.addi c0_i32_3152 v3092
  v3093.toNat
def k0_off466 (v3103 : BitVec 32) : Fin 2 → Nat :=
  let c128_i32_3159 : BitVec 32 := 128#32
  let v3104 : BitVec 32 := Scalar.muli v3103 c128_i32_3159
  let c96_i32_3160 : BitVec 32 := 96#32
  let v3105 : BitVec 32 := Scalar.addi v3104 c96_i32_3160
  let c0_i32_3167 : BitVec 32 := 0#32
  ![v3105.toNat, 0]

def k0_off467 (v3100 : BitVec 32) : Fin 2 → Nat :=
  let c128_i32_3156 : BitVec 32 := 128#32
  let v3101 : BitVec 32 := Scalar.muli v3100 c128_i32_3156
  let c96_i32_3157 : BitVec 32 := 96#32
  let v3102 : BitVec 32 := Scalar.addi v3101 c96_i32_3157
  let c0_i32_3168 : BitVec 32 := 0#32
  ![v3102.toNat, 0]

def k0_chk468 (v3100 : BitVec 32) : Prop :=
  (∀ a, (k0_off467 v3100) a + S32x4096.size a ≤ S4096x4096.size a) ∧
  (∀ (hinb : ∀ a, (k0_off467 v3100) a + S32x4096.size a ≤ S4096x4096.size a), (Rect.unit (s := S4096x4096) (k0_off467 v3100) S32x4096.size hinb).WholeWords (EltTy.packing .i8))
theorem k0_off467_inb : ∀ (v3100 : BitVec 32) (k0_hw468 : k0_chk468 v3100), ∀ a, (k0_off467 v3100) a + S32x4096.size a ≤ S4096x4096.size a := fun v3100 k0_hw468 => k0_hw468.1
theorem k0_off467_wordsi8 : ∀ (v3100 : BitVec 32) (k0_hw468 : k0_chk468 v3100), (Rect.unit (s := S4096x4096) (k0_off467 v3100) S32x4096.size (k0_off467_inb v3100 k0_hw468)).WholeWords (EltTy.packing .i8) := fun v3100 k0_hw468 => k0_hw468.2 (k0_off467_inb v3100 k0_hw468)

def k0_chk467 (v3103 : BitVec 32) : Prop :=
  (∀ a, (k0_off466 v3103) a + S32x4096.size a ≤ S4096x4096.size a) ∧
  (∀ (hinb : ∀ a, (k0_off466 v3103) a + S32x4096.size a ≤ S4096x4096.size a), (Rect.unit (s := S4096x4096) (k0_off466 v3103) S32x4096.size hinb).WholeWords (EltTy.packing .i8))
theorem k0_off466_inb : ∀ (v3103 : BitVec 32) (k0_hw467 : k0_chk467 v3103), ∀ a, (k0_off466 v3103) a + S32x4096.size a ≤ S4096x4096.size a := fun v3103 k0_hw467 => k0_hw467.1
theorem k0_off466_wordsi8 : ∀ (v3103 : BitVec 32) (k0_hw467 : k0_chk467 v3103), (Rect.unit (s := S4096x4096) (k0_off466 v3103) S32x4096.size (k0_off466_inb v3103 k0_hw467)).WholeWords (EltTy.packing .i8) := fun v3103 k0_hw467 => k0_hw467.2 (k0_off466_inb v3103 k0_hw467)

def k0_off468 (v3115 : BitVec 32) : Fin 2 → Nat :=
  let c128_i32_3173 : BitVec 32 := 128#32
  let v3116 : BitVec 32 := Scalar.muli v3115 c128_i32_3173
  let c96_i32_3174 : BitVec 32 := 96#32
  let v3117 : BitVec 32 := Scalar.addi v3116 c96_i32_3174
  let c0_i32_3181 : BitVec 32 := 0#32
  ![v3117.toNat, 0]

def k0_off469 (v3112 : BitVec 32) : Fin 2 → Nat :=
  let c128_i32_3170 : BitVec 32 := 128#32
  let v3113 : BitVec 32 := Scalar.muli v3112 c128_i32_3170
  let c96_i32_3171 : BitVec 32 := 96#32
  let v3114 : BitVec 32 := Scalar.addi v3113 c96_i32_3171
  let c0_i32_3182 : BitVec 32 := 0#32
  ![v3114.toNat, 0]

def k0_chk470 (v3112 : BitVec 32) : Prop :=
  (∀ a, (k0_off469 v3112) a + S32x4096.size a ≤ S4096x4096.size a) ∧
  (∀ (hinb : ∀ a, (k0_off469 v3112) a + S32x4096.size a ≤ S4096x4096.size a), (Rect.unit (s := S4096x4096) (k0_off469 v3112) S32x4096.size hinb).WholeWords (EltTy.packing .i8))
theorem k0_off469_inb : ∀ (v3112 : BitVec 32) (k0_hw470 : k0_chk470 v3112), ∀ a, (k0_off469 v3112) a + S32x4096.size a ≤ S4096x4096.size a := fun v3112 k0_hw470 => k0_hw470.1
theorem k0_off469_wordsi8 : ∀ (v3112 : BitVec 32) (k0_hw470 : k0_chk470 v3112), (Rect.unit (s := S4096x4096) (k0_off469 v3112) S32x4096.size (k0_off469_inb v3112 k0_hw470)).WholeWords (EltTy.packing .i8) := fun v3112 k0_hw470 => k0_hw470.2 (k0_off469_inb v3112 k0_hw470)

def k0_chk469 (v3115 : BitVec 32) : Prop :=
  (∀ a, (k0_off468 v3115) a + S32x4096.size a ≤ S4096x4096.size a) ∧
  (∀ (hinb : ∀ a, (k0_off468 v3115) a + S32x4096.size a ≤ S4096x4096.size a), (Rect.unit (s := S4096x4096) (k0_off468 v3115) S32x4096.size hinb).WholeWords (EltTy.packing .i8))
theorem k0_off468_inb : ∀ (v3115 : BitVec 32) (k0_hw469 : k0_chk469 v3115), ∀ a, (k0_off468 v3115) a + S32x4096.size a ≤ S4096x4096.size a := fun v3115 k0_hw469 => k0_hw469.1
theorem k0_off468_wordsi8 : ∀ (v3115 : BitVec 32) (k0_hw469 : k0_chk469 v3115), (Rect.unit (s := S4096x4096) (k0_off468 v3115) S32x4096.size (k0_off468_inb v3115 k0_hw469)).WholeWords (EltTy.packing .i8) := fun v3115 k0_hw469 => k0_hw469.2 (k0_off468_inb v3115 k0_hw469)

def k0_dev113 (v3 : BitVec 32) : Nat :=
  let c0_i32_3180 : BitVec 32 := 0#32
  let c1_i32_3179 : BitVec 32 := 1#32
  let v3118 : BitVec 32 := Scalar.muli v3 c1_i32_3179
  let v3119 : BitVec 32 := Scalar.addi c0_i32_3180 v3118
  v3119.toNat
def k0_off470 (v3129 : BitVec 32) : Fin 2 → Nat :=
  let c128_i32_3187 : BitVec 32 := 128#32
  let v3130 : BitVec 32 := Scalar.muli v3129 c128_i32_3187
  let c96_i32_3188 : BitVec 32 := 96#32
  let v3131 : BitVec 32 := Scalar.addi v3130 c96_i32_3188
  let c0_i32_3195 : BitVec 32 := 0#32
  ![v3131.toNat, 0]

def k0_off471 (v3126 : BitVec 32) : Fin 2 → Nat :=
  let c128_i32_3184 : BitVec 32 := 128#32
  let v3127 : BitVec 32 := Scalar.muli v3126 c128_i32_3184
  let c96_i32_3185 : BitVec 32 := 96#32
  let v3128 : BitVec 32 := Scalar.addi v3127 c96_i32_3185
  let c0_i32_3196 : BitVec 32 := 0#32
  ![v3128.toNat, 0]

def k0_chk472 (v3126 : BitVec 32) : Prop :=
  (∀ a, (k0_off471 v3126) a + S32x4096.size a ≤ S4096x4096.size a) ∧
  (∀ (hinb : ∀ a, (k0_off471 v3126) a + S32x4096.size a ≤ S4096x4096.size a), (Rect.unit (s := S4096x4096) (k0_off471 v3126) S32x4096.size hinb).WholeWords (EltTy.packing .i8))
theorem k0_off471_inb : ∀ (v3126 : BitVec 32) (k0_hw472 : k0_chk472 v3126), ∀ a, (k0_off471 v3126) a + S32x4096.size a ≤ S4096x4096.size a := fun v3126 k0_hw472 => k0_hw472.1
theorem k0_off471_wordsi8 : ∀ (v3126 : BitVec 32) (k0_hw472 : k0_chk472 v3126), (Rect.unit (s := S4096x4096) (k0_off471 v3126) S32x4096.size (k0_off471_inb v3126 k0_hw472)).WholeWords (EltTy.packing .i8) := fun v3126 k0_hw472 => k0_hw472.2 (k0_off471_inb v3126 k0_hw472)

def k0_chk471 (v3129 : BitVec 32) : Prop :=
  (∀ a, (k0_off470 v3129) a + S32x4096.size a ≤ S4096x4096.size a) ∧
  (∀ (hinb : ∀ a, (k0_off470 v3129) a + S32x4096.size a ≤ S4096x4096.size a), (Rect.unit (s := S4096x4096) (k0_off470 v3129) S32x4096.size hinb).WholeWords (EltTy.packing .i8))
theorem k0_off470_inb : ∀ (v3129 : BitVec 32) (k0_hw471 : k0_chk471 v3129), ∀ a, (k0_off470 v3129) a + S32x4096.size a ≤ S4096x4096.size a := fun v3129 k0_hw471 => k0_hw471.1
theorem k0_off470_wordsi8 : ∀ (v3129 : BitVec 32) (k0_hw471 : k0_chk471 v3129), (Rect.unit (s := S4096x4096) (k0_off470 v3129) S32x4096.size (k0_off470_inb v3129 k0_hw471)).WholeWords (EltTy.packing .i8) := fun v3129 k0_hw471 => k0_hw471.2 (k0_off470_inb v3129 k0_hw471)

def k0_off472 (v3141 : BitVec 32) : Fin 2 → Nat :=
  let c128_i32_3201 : BitVec 32 := 128#32
  let v3142 : BitVec 32 := Scalar.muli v3141 c128_i32_3201
  let c96_i32_3202 : BitVec 32 := 96#32
  let v3143 : BitVec 32 := Scalar.addi v3142 c96_i32_3202
  let c0_i32_3209 : BitVec 32 := 0#32
  ![v3143.toNat, 0]

def k0_off473 (v3138 : BitVec 32) : Fin 2 → Nat :=
  let c128_i32_3198 : BitVec 32 := 128#32
  let v3139 : BitVec 32 := Scalar.muli v3138 c128_i32_3198
  let c96_i32_3199 : BitVec 32 := 96#32
  let v3140 : BitVec 32 := Scalar.addi v3139 c96_i32_3199
  let c0_i32_3210 : BitVec 32 := 0#32
  ![v3140.toNat, 0]

def k0_chk474 (v3138 : BitVec 32) : Prop :=
  (∀ a, (k0_off473 v3138) a + S32x4096.size a ≤ S4096x4096.size a) ∧
  (∀ (hinb : ∀ a, (k0_off473 v3138) a + S32x4096.size a ≤ S4096x4096.size a), (Rect.unit (s := S4096x4096) (k0_off473 v3138) S32x4096.size hinb).WholeWords (EltTy.packing .i8))
theorem k0_off473_inb : ∀ (v3138 : BitVec 32) (k0_hw474 : k0_chk474 v3138), ∀ a, (k0_off473 v3138) a + S32x4096.size a ≤ S4096x4096.size a := fun v3138 k0_hw474 => k0_hw474.1
theorem k0_off473_wordsi8 : ∀ (v3138 : BitVec 32) (k0_hw474 : k0_chk474 v3138), (Rect.unit (s := S4096x4096) (k0_off473 v3138) S32x4096.size (k0_off473_inb v3138 k0_hw474)).WholeWords (EltTy.packing .i8) := fun v3138 k0_hw474 => k0_hw474.2 (k0_off473_inb v3138 k0_hw474)

def k0_chk473 (v3141 : BitVec 32) : Prop :=
  (∀ a, (k0_off472 v3141) a + S32x4096.size a ≤ S4096x4096.size a) ∧
  (∀ (hinb : ∀ a, (k0_off472 v3141) a + S32x4096.size a ≤ S4096x4096.size a), (Rect.unit (s := S4096x4096) (k0_off472 v3141) S32x4096.size hinb).WholeWords (EltTy.packing .i8))
theorem k0_off472_inb : ∀ (v3141 : BitVec 32) (k0_hw473 : k0_chk473 v3141), ∀ a, (k0_off472 v3141) a + S32x4096.size a ≤ S4096x4096.size a := fun v3141 k0_hw473 => k0_hw473.1
theorem k0_off472_wordsi8 : ∀ (v3141 : BitVec 32) (k0_hw473 : k0_chk473 v3141), (Rect.unit (s := S4096x4096) (k0_off472 v3141) S32x4096.size (k0_off472_inb v3141 k0_hw473)).WholeWords (EltTy.packing .i8) := fun v3141 k0_hw473 => k0_hw473.2 (k0_off472_inb v3141 k0_hw473)

def k0_dev114 (v4 : BitVec 32) : Nat :=
  let c0_i32_3208 : BitVec 32 := 0#32
  let c1_i32_3207 : BitVec 32 := 1#32
  let v3144 : BitVec 32 := Scalar.muli v4 c1_i32_3207
  let v3145 : BitVec 32 := Scalar.addi c0_i32_3208 v3144
  v3145.toNat
def k0_off474 (v3153 : BitVec 32) : Fin 2 → Nat :=
  let c128_i32_3213 : BitVec 32 := 128#32
  let v3154 : BitVec 32 := Scalar.muli v3153 c128_i32_3213
  let v3155 : Index := Scalar.indexCast v3154
  let c0_3214 : Index := 0#32
  ![v3155.toNat, 0]

def k0_chk475 (v3153 : BitVec 32) : Prop :=
  (∀ a, (k0_off474 v3153) a + S128x4096.size a ≤ S4096x4096.size a)
theorem k0_off474_inb : ∀ (v3153 : BitVec 32) (k0_hw475 : k0_chk475 v3153), ∀ a, (k0_off474 v3153) a + S128x4096.size a ≤ S4096x4096.size a := fun v3153 k0_hw475 => k0_hw475

def k0_off475 (v3152 : BitVec 32) : Fin 2 → Nat :=
  let c128_i32_3218 : BitVec 32 := 128#32
  let v3163 : BitVec 32 := Scalar.muli v3152 c128_i32_3218
  let v3164 : Index := Scalar.indexCast v3163
  let c0_3219 : Index := 0#32
  ![v3164.toNat, 0]

def k0_chk476 (v3152 : BitVec 32) : Prop :=
  (∀ a, (k0_off475 v3152) a + S128x64.size a ≤ S4096x64.size a)
theorem k0_off475_inb : ∀ (v3152 : BitVec 32) (k0_hw476 : k0_chk476 v3152), ∀ a, (k0_off475 v3152) a + S128x64.size a ≤ S4096x64.size a := fun v3152 k0_hw476 => k0_hw476

def k0_off476 (v3167 : BitVec 32) : Fin 2 → Nat :=
  let c128_i32_3222 : BitVec 32 := 128#32
  let v3168 : BitVec 32 := Scalar.muli v3167 c128_i32_3222
  let v3169 : Index := Scalar.indexCast v3168
  let c0_3223 : Index := 0#32
  ![v3169.toNat, 0]

def k0_chk477 (v3167 : BitVec 32) : Prop :=
  (∀ a, (k0_off476 v3167) a + S128x4096.size a ≤ S4096x4096.size a)
theorem k0_off476_inb : ∀ (v3167 : BitVec 32) (k0_hw477 : k0_chk477 v3167), ∀ a, (k0_off476 v3167) a + S128x4096.size a ≤ S4096x4096.size a := fun v3167 k0_hw477 => k0_hw477

def k0_off477 (v3166 : BitVec 32) : Fin 2 → Nat :=
  let c128_i32_3227 : BitVec 32 := 128#32
  let v3177 : BitVec 32 := Scalar.muli v3166 c128_i32_3227
  let v3178 : Index := Scalar.indexCast v3177
  let c0_3228 : Index := 0#32
  ![v3178.toNat, 0]

def k0_chk478 (v3166 : BitVec 32) : Prop :=
  (∀ a, (k0_off477 v3166) a + S128x64.size a ≤ S4096x64.size a)
theorem k0_off477_inb : ∀ (v3166 : BitVec 32) (k0_hw478 : k0_chk478 v3166), ∀ a, (k0_off477 v3166) a + S128x64.size a ≤ S4096x64.size a := fun v3166 k0_hw478 => k0_hw478

def k0_off478 (v3183 : BitVec 32) : Fin 2 → Nat :=
  let c128_i32_3233 : BitVec 32 := 128#32
  let v3184 : BitVec 32 := Scalar.muli v3183 c128_i32_3233
  let c0_i32_3234 : BitVec 32 := 0#32
  let v3185 : BitVec 32 := Scalar.addi v3184 c0_i32_3234
  let c0_i32_3241 : BitVec 32 := 0#32
  ![v3185.toNat, 0]

def k0_off479 (v3180 : BitVec 32) : Fin 2 → Nat :=
  let c128_i32_3230 : BitVec 32 := 128#32
  let v3181 : BitVec 32 := Scalar.muli v3180 c128_i32_3230
  let c0_i32_3231 : BitVec 32 := 0#32
  let v3182 : BitVec 32 := Scalar.addi v3181 c0_i32_3231
  let c0_i32_3242 : BitVec 32 := 0#32
  ![v3182.toNat, 0]

def k0_chk480 (v3180 : BitVec 32) : Prop :=
  (∀ a, (k0_off479 v3180) a + S32x4096.size a ≤ S4096x4096.size a) ∧
  (∀ (hinb : ∀ a, (k0_off479 v3180) a + S32x4096.size a ≤ S4096x4096.size a), (Rect.unit (s := S4096x4096) (k0_off479 v3180) S32x4096.size hinb).WholeWords (EltTy.packing .i8))
theorem k0_off479_inb : ∀ (v3180 : BitVec 32) (k0_hw480 : k0_chk480 v3180), ∀ a, (k0_off479 v3180) a + S32x4096.size a ≤ S4096x4096.size a := fun v3180 k0_hw480 => k0_hw480.1
theorem k0_off479_wordsi8 : ∀ (v3180 : BitVec 32) (k0_hw480 : k0_chk480 v3180), (Rect.unit (s := S4096x4096) (k0_off479 v3180) S32x4096.size (k0_off479_inb v3180 k0_hw480)).WholeWords (EltTy.packing .i8) := fun v3180 k0_hw480 => k0_hw480.2 (k0_off479_inb v3180 k0_hw480)

def k0_chk479 (v3183 : BitVec 32) : Prop :=
  (∀ a, (k0_off478 v3183) a + S32x4096.size a ≤ S4096x4096.size a) ∧
  (∀ (hinb : ∀ a, (k0_off478 v3183) a + S32x4096.size a ≤ S4096x4096.size a), (Rect.unit (s := S4096x4096) (k0_off478 v3183) S32x4096.size hinb).WholeWords (EltTy.packing .i8))
theorem k0_off478_inb : ∀ (v3183 : BitVec 32) (k0_hw479 : k0_chk479 v3183), ∀ a, (k0_off478 v3183) a + S32x4096.size a ≤ S4096x4096.size a := fun v3183 k0_hw479 => k0_hw479.1
theorem k0_off478_wordsi8 : ∀ (v3183 : BitVec 32) (k0_hw479 : k0_chk479 v3183), (Rect.unit (s := S4096x4096) (k0_off478 v3183) S32x4096.size (k0_off478_inb v3183 k0_hw479)).WholeWords (EltTy.packing .i8) := fun v3183 k0_hw479 => k0_hw479.2 (k0_off478_inb v3183 k0_hw479)

def k0_off480 (v3195 : BitVec 32) : Fin 2 → Nat :=
  let c128_i32_3246 : BitVec 32 := 128#32
  let v3196 : BitVec 32 := Scalar.muli v3195 c128_i32_3246
  let c0_i32_3247 : BitVec 32 := 0#32
  let v3197 : BitVec 32 := Scalar.addi v3196 c0_i32_3247
  let c0_i32_3253 : BitVec 32 := 0#32
  ![v3197.toNat, 0]

def k0_off481 (v3192 : BitVec 32) : Fin 2 → Nat :=
  let c128_i32_3243 : BitVec 32 := 128#32
  let v3193 : BitVec 32 := Scalar.muli v3192 c128_i32_3243
  let c0_i32_3244 : BitVec 32 := 0#32
  let v3194 : BitVec 32 := Scalar.addi v3193 c0_i32_3244
  let c0_i32_3254 : BitVec 32 := 0#32
  ![v3194.toNat, 0]

def k0_chk482 (v3192 : BitVec 32) : Prop :=
  (∀ a, (k0_off481 v3192) a + S32x4096.size a ≤ S4096x4096.size a) ∧
  (∀ (hinb : ∀ a, (k0_off481 v3192) a + S32x4096.size a ≤ S4096x4096.size a), (Rect.unit (s := S4096x4096) (k0_off481 v3192) S32x4096.size hinb).WholeWords (EltTy.packing .i8))
theorem k0_off481_inb : ∀ (v3192 : BitVec 32) (k0_hw482 : k0_chk482 v3192), ∀ a, (k0_off481 v3192) a + S32x4096.size a ≤ S4096x4096.size a := fun v3192 k0_hw482 => k0_hw482.1
theorem k0_off481_wordsi8 : ∀ (v3192 : BitVec 32) (k0_hw482 : k0_chk482 v3192), (Rect.unit (s := S4096x4096) (k0_off481 v3192) S32x4096.size (k0_off481_inb v3192 k0_hw482)).WholeWords (EltTy.packing .i8) := fun v3192 k0_hw482 => k0_hw482.2 (k0_off481_inb v3192 k0_hw482)

def k0_chk481 (v3195 : BitVec 32) : Prop :=
  (∀ a, (k0_off480 v3195) a + S32x4096.size a ≤ S4096x4096.size a) ∧
  (∀ (hinb : ∀ a, (k0_off480 v3195) a + S32x4096.size a ≤ S4096x4096.size a), (Rect.unit (s := S4096x4096) (k0_off480 v3195) S32x4096.size hinb).WholeWords (EltTy.packing .i8))
theorem k0_off480_inb : ∀ (v3195 : BitVec 32) (k0_hw481 : k0_chk481 v3195), ∀ a, (k0_off480 v3195) a + S32x4096.size a ≤ S4096x4096.size a := fun v3195 k0_hw481 => k0_hw481.1
theorem k0_off480_wordsi8 : ∀ (v3195 : BitVec 32) (k0_hw481 : k0_chk481 v3195), (Rect.unit (s := S4096x4096) (k0_off480 v3195) S32x4096.size (k0_off480_inb v3195 k0_hw481)).WholeWords (EltTy.packing .i8) := fun v3195 k0_hw481 => k0_hw481.2 (k0_off480_inb v3195 k0_hw481)

def k0_dev115 (v3 : BitVec 32) : Nat :=
  let c0_i32_3252 : BitVec 32 := 0#32
  let c1_i32_3251 : BitVec 32 := 1#32
  let v3198 : BitVec 32 := Scalar.muli v3 c1_i32_3251
  let v3199 : BitVec 32 := Scalar.addi c0_i32_3252 v3198
  v3199.toNat
def k0_off482 (v3209 : BitVec 32) : Fin 2 → Nat :=
  let c128_i32_3259 : BitVec 32 := 128#32
  let v3210 : BitVec 32 := Scalar.muli v3209 c128_i32_3259
  let c0_i32_3260 : BitVec 32 := 0#32
  let v3211 : BitVec 32 := Scalar.addi v3210 c0_i32_3260
  let c0_i32_3267 : BitVec 32 := 0#32
  ![v3211.toNat, 0]

def k0_off483 (v3206 : BitVec 32) : Fin 2 → Nat :=
  let c128_i32_3256 : BitVec 32 := 128#32
  let v3207 : BitVec 32 := Scalar.muli v3206 c128_i32_3256
  let c0_i32_3257 : BitVec 32 := 0#32
  let v3208 : BitVec 32 := Scalar.addi v3207 c0_i32_3257
  let c0_i32_3268 : BitVec 32 := 0#32
  ![v3208.toNat, 0]

def k0_chk484 (v3206 : BitVec 32) : Prop :=
  (∀ a, (k0_off483 v3206) a + S32x4096.size a ≤ S4096x4096.size a) ∧
  (∀ (hinb : ∀ a, (k0_off483 v3206) a + S32x4096.size a ≤ S4096x4096.size a), (Rect.unit (s := S4096x4096) (k0_off483 v3206) S32x4096.size hinb).WholeWords (EltTy.packing .i8))
theorem k0_off483_inb : ∀ (v3206 : BitVec 32) (k0_hw484 : k0_chk484 v3206), ∀ a, (k0_off483 v3206) a + S32x4096.size a ≤ S4096x4096.size a := fun v3206 k0_hw484 => k0_hw484.1
theorem k0_off483_wordsi8 : ∀ (v3206 : BitVec 32) (k0_hw484 : k0_chk484 v3206), (Rect.unit (s := S4096x4096) (k0_off483 v3206) S32x4096.size (k0_off483_inb v3206 k0_hw484)).WholeWords (EltTy.packing .i8) := fun v3206 k0_hw484 => k0_hw484.2 (k0_off483_inb v3206 k0_hw484)

def k0_chk483 (v3209 : BitVec 32) : Prop :=
  (∀ a, (k0_off482 v3209) a + S32x4096.size a ≤ S4096x4096.size a) ∧
  (∀ (hinb : ∀ a, (k0_off482 v3209) a + S32x4096.size a ≤ S4096x4096.size a), (Rect.unit (s := S4096x4096) (k0_off482 v3209) S32x4096.size hinb).WholeWords (EltTy.packing .i8))
theorem k0_off482_inb : ∀ (v3209 : BitVec 32) (k0_hw483 : k0_chk483 v3209), ∀ a, (k0_off482 v3209) a + S32x4096.size a ≤ S4096x4096.size a := fun v3209 k0_hw483 => k0_hw483.1
theorem k0_off482_wordsi8 : ∀ (v3209 : BitVec 32) (k0_hw483 : k0_chk483 v3209), (Rect.unit (s := S4096x4096) (k0_off482 v3209) S32x4096.size (k0_off482_inb v3209 k0_hw483)).WholeWords (EltTy.packing .i8) := fun v3209 k0_hw483 => k0_hw483.2 (k0_off482_inb v3209 k0_hw483)

def k0_off484 (v3221 : BitVec 32) : Fin 2 → Nat :=
  let c128_i32_3273 : BitVec 32 := 128#32
  let v3222 : BitVec 32 := Scalar.muli v3221 c128_i32_3273
  let c0_i32_3274 : BitVec 32 := 0#32
  let v3223 : BitVec 32 := Scalar.addi v3222 c0_i32_3274
  let c0_i32_3281 : BitVec 32 := 0#32
  ![v3223.toNat, 0]

def k0_off485 (v3218 : BitVec 32) : Fin 2 → Nat :=
  let c128_i32_3270 : BitVec 32 := 128#32
  let v3219 : BitVec 32 := Scalar.muli v3218 c128_i32_3270
  let c0_i32_3271 : BitVec 32 := 0#32
  let v3220 : BitVec 32 := Scalar.addi v3219 c0_i32_3271
  let c0_i32_3282 : BitVec 32 := 0#32
  ![v3220.toNat, 0]

def k0_chk486 (v3218 : BitVec 32) : Prop :=
  (∀ a, (k0_off485 v3218) a + S32x4096.size a ≤ S4096x4096.size a) ∧
  (∀ (hinb : ∀ a, (k0_off485 v3218) a + S32x4096.size a ≤ S4096x4096.size a), (Rect.unit (s := S4096x4096) (k0_off485 v3218) S32x4096.size hinb).WholeWords (EltTy.packing .i8))
theorem k0_off485_inb : ∀ (v3218 : BitVec 32) (k0_hw486 : k0_chk486 v3218), ∀ a, (k0_off485 v3218) a + S32x4096.size a ≤ S4096x4096.size a := fun v3218 k0_hw486 => k0_hw486.1
theorem k0_off485_wordsi8 : ∀ (v3218 : BitVec 32) (k0_hw486 : k0_chk486 v3218), (Rect.unit (s := S4096x4096) (k0_off485 v3218) S32x4096.size (k0_off485_inb v3218 k0_hw486)).WholeWords (EltTy.packing .i8) := fun v3218 k0_hw486 => k0_hw486.2 (k0_off485_inb v3218 k0_hw486)

def k0_chk485 (v3221 : BitVec 32) : Prop :=
  (∀ a, (k0_off484 v3221) a + S32x4096.size a ≤ S4096x4096.size a) ∧
  (∀ (hinb : ∀ a, (k0_off484 v3221) a + S32x4096.size a ≤ S4096x4096.size a), (Rect.unit (s := S4096x4096) (k0_off484 v3221) S32x4096.size hinb).WholeWords (EltTy.packing .i8))
theorem k0_off484_inb : ∀ (v3221 : BitVec 32) (k0_hw485 : k0_chk485 v3221), ∀ a, (k0_off484 v3221) a + S32x4096.size a ≤ S4096x4096.size a := fun v3221 k0_hw485 => k0_hw485.1
theorem k0_off484_wordsi8 : ∀ (v3221 : BitVec 32) (k0_hw485 : k0_chk485 v3221), (Rect.unit (s := S4096x4096) (k0_off484 v3221) S32x4096.size (k0_off484_inb v3221 k0_hw485)).WholeWords (EltTy.packing .i8) := fun v3221 k0_hw485 => k0_hw485.2 (k0_off484_inb v3221 k0_hw485)

def k0_dev116 (v4 : BitVec 32) : Nat :=
  let c0_i32_3280 : BitVec 32 := 0#32
  let c1_i32_3279 : BitVec 32 := 1#32
  let v3224 : BitVec 32 := Scalar.muli v4 c1_i32_3279
  let v3225 : BitVec 32 := Scalar.addi c0_i32_3280 v3224
  v3225.toNat
def k0_off486 (v3235 : BitVec 32) : Fin 2 → Nat :=
  let c128_i32_3287 : BitVec 32 := 128#32
  let v3236 : BitVec 32 := Scalar.muli v3235 c128_i32_3287
  let c32_i32_3288 : BitVec 32 := 32#32
  let v3237 : BitVec 32 := Scalar.addi v3236 c32_i32_3288
  let c0_i32_3295 : BitVec 32 := 0#32
  ![v3237.toNat, 0]

def k0_off487 (v3232 : BitVec 32) : Fin 2 → Nat :=
  let c128_i32_3284 : BitVec 32 := 128#32
  let v3233 : BitVec 32 := Scalar.muli v3232 c128_i32_3284
  let c32_i32_3285 : BitVec 32 := 32#32
  let v3234 : BitVec 32 := Scalar.addi v3233 c32_i32_3285
  let c0_i32_3296 : BitVec 32 := 0#32
  ![v3234.toNat, 0]

def k0_chk488 (v3232 : BitVec 32) : Prop :=
  (∀ a, (k0_off487 v3232) a + S32x4096.size a ≤ S4096x4096.size a) ∧
  (∀ (hinb : ∀ a, (k0_off487 v3232) a + S32x4096.size a ≤ S4096x4096.size a), (Rect.unit (s := S4096x4096) (k0_off487 v3232) S32x4096.size hinb).WholeWords (EltTy.packing .i8))
theorem k0_off487_inb : ∀ (v3232 : BitVec 32) (k0_hw488 : k0_chk488 v3232), ∀ a, (k0_off487 v3232) a + S32x4096.size a ≤ S4096x4096.size a := fun v3232 k0_hw488 => k0_hw488.1
theorem k0_off487_wordsi8 : ∀ (v3232 : BitVec 32) (k0_hw488 : k0_chk488 v3232), (Rect.unit (s := S4096x4096) (k0_off487 v3232) S32x4096.size (k0_off487_inb v3232 k0_hw488)).WholeWords (EltTy.packing .i8) := fun v3232 k0_hw488 => k0_hw488.2 (k0_off487_inb v3232 k0_hw488)

def k0_chk487 (v3235 : BitVec 32) : Prop :=
  (∀ a, (k0_off486 v3235) a + S32x4096.size a ≤ S4096x4096.size a) ∧
  (∀ (hinb : ∀ a, (k0_off486 v3235) a + S32x4096.size a ≤ S4096x4096.size a), (Rect.unit (s := S4096x4096) (k0_off486 v3235) S32x4096.size hinb).WholeWords (EltTy.packing .i8))
theorem k0_off486_inb : ∀ (v3235 : BitVec 32) (k0_hw487 : k0_chk487 v3235), ∀ a, (k0_off486 v3235) a + S32x4096.size a ≤ S4096x4096.size a := fun v3235 k0_hw487 => k0_hw487.1
theorem k0_off486_wordsi8 : ∀ (v3235 : BitVec 32) (k0_hw487 : k0_chk487 v3235), (Rect.unit (s := S4096x4096) (k0_off486 v3235) S32x4096.size (k0_off486_inb v3235 k0_hw487)).WholeWords (EltTy.packing .i8) := fun v3235 k0_hw487 => k0_hw487.2 (k0_off486_inb v3235 k0_hw487)

def k0_off488 (v3247 : BitVec 32) : Fin 2 → Nat :=
  let c128_i32_3301 : BitVec 32 := 128#32
  let v3248 : BitVec 32 := Scalar.muli v3247 c128_i32_3301
  let c32_i32_3302 : BitVec 32 := 32#32
  let v3249 : BitVec 32 := Scalar.addi v3248 c32_i32_3302
  let c0_i32_3309 : BitVec 32 := 0#32
  ![v3249.toNat, 0]

def k0_off489 (v3244 : BitVec 32) : Fin 2 → Nat :=
  let c128_i32_3298 : BitVec 32 := 128#32
  let v3245 : BitVec 32 := Scalar.muli v3244 c128_i32_3298
  let c32_i32_3299 : BitVec 32 := 32#32
  let v3246 : BitVec 32 := Scalar.addi v3245 c32_i32_3299
  let c0_i32_3310 : BitVec 32 := 0#32
  ![v3246.toNat, 0]

def k0_chk490 (v3244 : BitVec 32) : Prop :=
  (∀ a, (k0_off489 v3244) a + S32x4096.size a ≤ S4096x4096.size a) ∧
  (∀ (hinb : ∀ a, (k0_off489 v3244) a + S32x4096.size a ≤ S4096x4096.size a), (Rect.unit (s := S4096x4096) (k0_off489 v3244) S32x4096.size hinb).WholeWords (EltTy.packing .i8))
theorem k0_off489_inb : ∀ (v3244 : BitVec 32) (k0_hw490 : k0_chk490 v3244), ∀ a, (k0_off489 v3244) a + S32x4096.size a ≤ S4096x4096.size a := fun v3244 k0_hw490 => k0_hw490.1
theorem k0_off489_wordsi8 : ∀ (v3244 : BitVec 32) (k0_hw490 : k0_chk490 v3244), (Rect.unit (s := S4096x4096) (k0_off489 v3244) S32x4096.size (k0_off489_inb v3244 k0_hw490)).WholeWords (EltTy.packing .i8) := fun v3244 k0_hw490 => k0_hw490.2 (k0_off489_inb v3244 k0_hw490)

def k0_chk489 (v3247 : BitVec 32) : Prop :=
  (∀ a, (k0_off488 v3247) a + S32x4096.size a ≤ S4096x4096.size a) ∧
  (∀ (hinb : ∀ a, (k0_off488 v3247) a + S32x4096.size a ≤ S4096x4096.size a), (Rect.unit (s := S4096x4096) (k0_off488 v3247) S32x4096.size hinb).WholeWords (EltTy.packing .i8))
theorem k0_off488_inb : ∀ (v3247 : BitVec 32) (k0_hw489 : k0_chk489 v3247), ∀ a, (k0_off488 v3247) a + S32x4096.size a ≤ S4096x4096.size a := fun v3247 k0_hw489 => k0_hw489.1
theorem k0_off488_wordsi8 : ∀ (v3247 : BitVec 32) (k0_hw489 : k0_chk489 v3247), (Rect.unit (s := S4096x4096) (k0_off488 v3247) S32x4096.size (k0_off488_inb v3247 k0_hw489)).WholeWords (EltTy.packing .i8) := fun v3247 k0_hw489 => k0_hw489.2 (k0_off488_inb v3247 k0_hw489)

def k0_dev117 (v3 : BitVec 32) : Nat :=
  let c0_i32_3308 : BitVec 32 := 0#32
  let c1_i32_3307 : BitVec 32 := 1#32
  let v3250 : BitVec 32 := Scalar.muli v3 c1_i32_3307
  let v3251 : BitVec 32 := Scalar.addi c0_i32_3308 v3250
  v3251.toNat
def k0_off490 (v3261 : BitVec 32) : Fin 2 → Nat :=
  let c128_i32_3315 : BitVec 32 := 128#32
  let v3262 : BitVec 32 := Scalar.muli v3261 c128_i32_3315
  let c32_i32_3316 : BitVec 32 := 32#32
  let v3263 : BitVec 32 := Scalar.addi v3262 c32_i32_3316
  let c0_i32_3323 : BitVec 32 := 0#32
  ![v3263.toNat, 0]

def k0_off491 (v3258 : BitVec 32) : Fin 2 → Nat :=
  let c128_i32_3312 : BitVec 32 := 128#32
  let v3259 : BitVec 32 := Scalar.muli v3258 c128_i32_3312
  let c32_i32_3313 : BitVec 32 := 32#32
  let v3260 : BitVec 32 := Scalar.addi v3259 c32_i32_3313
  let c0_i32_3324 : BitVec 32 := 0#32
  ![v3260.toNat, 0]

def k0_chk492 (v3258 : BitVec 32) : Prop :=
  (∀ a, (k0_off491 v3258) a + S32x4096.size a ≤ S4096x4096.size a) ∧
  (∀ (hinb : ∀ a, (k0_off491 v3258) a + S32x4096.size a ≤ S4096x4096.size a), (Rect.unit (s := S4096x4096) (k0_off491 v3258) S32x4096.size hinb).WholeWords (EltTy.packing .i8))
theorem k0_off491_inb : ∀ (v3258 : BitVec 32) (k0_hw492 : k0_chk492 v3258), ∀ a, (k0_off491 v3258) a + S32x4096.size a ≤ S4096x4096.size a := fun v3258 k0_hw492 => k0_hw492.1
theorem k0_off491_wordsi8 : ∀ (v3258 : BitVec 32) (k0_hw492 : k0_chk492 v3258), (Rect.unit (s := S4096x4096) (k0_off491 v3258) S32x4096.size (k0_off491_inb v3258 k0_hw492)).WholeWords (EltTy.packing .i8) := fun v3258 k0_hw492 => k0_hw492.2 (k0_off491_inb v3258 k0_hw492)

def k0_chk491 (v3261 : BitVec 32) : Prop :=
  (∀ a, (k0_off490 v3261) a + S32x4096.size a ≤ S4096x4096.size a) ∧
  (∀ (hinb : ∀ a, (k0_off490 v3261) a + S32x4096.size a ≤ S4096x4096.size a), (Rect.unit (s := S4096x4096) (k0_off490 v3261) S32x4096.size hinb).WholeWords (EltTy.packing .i8))
theorem k0_off490_inb : ∀ (v3261 : BitVec 32) (k0_hw491 : k0_chk491 v3261), ∀ a, (k0_off490 v3261) a + S32x4096.size a ≤ S4096x4096.size a := fun v3261 k0_hw491 => k0_hw491.1
theorem k0_off490_wordsi8 : ∀ (v3261 : BitVec 32) (k0_hw491 : k0_chk491 v3261), (Rect.unit (s := S4096x4096) (k0_off490 v3261) S32x4096.size (k0_off490_inb v3261 k0_hw491)).WholeWords (EltTy.packing .i8) := fun v3261 k0_hw491 => k0_hw491.2 (k0_off490_inb v3261 k0_hw491)

def k0_off492 (v3273 : BitVec 32) : Fin 2 → Nat :=
  let c128_i32_3329 : BitVec 32 := 128#32
  let v3274 : BitVec 32 := Scalar.muli v3273 c128_i32_3329
  let c32_i32_3330 : BitVec 32 := 32#32
  let v3275 : BitVec 32 := Scalar.addi v3274 c32_i32_3330
  let c0_i32_3337 : BitVec 32 := 0#32
  ![v3275.toNat, 0]

def k0_off493 (v3270 : BitVec 32) : Fin 2 → Nat :=
  let c128_i32_3326 : BitVec 32 := 128#32
  let v3271 : BitVec 32 := Scalar.muli v3270 c128_i32_3326
  let c32_i32_3327 : BitVec 32 := 32#32
  let v3272 : BitVec 32 := Scalar.addi v3271 c32_i32_3327
  let c0_i32_3338 : BitVec 32 := 0#32
  ![v3272.toNat, 0]

def k0_chk494 (v3270 : BitVec 32) : Prop :=
  (∀ a, (k0_off493 v3270) a + S32x4096.size a ≤ S4096x4096.size a) ∧
  (∀ (hinb : ∀ a, (k0_off493 v3270) a + S32x4096.size a ≤ S4096x4096.size a), (Rect.unit (s := S4096x4096) (k0_off493 v3270) S32x4096.size hinb).WholeWords (EltTy.packing .i8))
theorem k0_off493_inb : ∀ (v3270 : BitVec 32) (k0_hw494 : k0_chk494 v3270), ∀ a, (k0_off493 v3270) a + S32x4096.size a ≤ S4096x4096.size a := fun v3270 k0_hw494 => k0_hw494.1
theorem k0_off493_wordsi8 : ∀ (v3270 : BitVec 32) (k0_hw494 : k0_chk494 v3270), (Rect.unit (s := S4096x4096) (k0_off493 v3270) S32x4096.size (k0_off493_inb v3270 k0_hw494)).WholeWords (EltTy.packing .i8) := fun v3270 k0_hw494 => k0_hw494.2 (k0_off493_inb v3270 k0_hw494)

def k0_chk493 (v3273 : BitVec 32) : Prop :=
  (∀ a, (k0_off492 v3273) a + S32x4096.size a ≤ S4096x4096.size a) ∧
  (∀ (hinb : ∀ a, (k0_off492 v3273) a + S32x4096.size a ≤ S4096x4096.size a), (Rect.unit (s := S4096x4096) (k0_off492 v3273) S32x4096.size hinb).WholeWords (EltTy.packing .i8))
theorem k0_off492_inb : ∀ (v3273 : BitVec 32) (k0_hw493 : k0_chk493 v3273), ∀ a, (k0_off492 v3273) a + S32x4096.size a ≤ S4096x4096.size a := fun v3273 k0_hw493 => k0_hw493.1
theorem k0_off492_wordsi8 : ∀ (v3273 : BitVec 32) (k0_hw493 : k0_chk493 v3273), (Rect.unit (s := S4096x4096) (k0_off492 v3273) S32x4096.size (k0_off492_inb v3273 k0_hw493)).WholeWords (EltTy.packing .i8) := fun v3273 k0_hw493 => k0_hw493.2 (k0_off492_inb v3273 k0_hw493)

def k0_dev118 (v4 : BitVec 32) : Nat :=
  let c0_i32_3336 : BitVec 32 := 0#32
  let c1_i32_3335 : BitVec 32 := 1#32
  let v3276 : BitVec 32 := Scalar.muli v4 c1_i32_3335
  let v3277 : BitVec 32 := Scalar.addi c0_i32_3336 v3276
  v3277.toNat
def k0_off494 (v3287 : BitVec 32) : Fin 2 → Nat :=
  let c128_i32_3343 : BitVec 32 := 128#32
  let v3288 : BitVec 32 := Scalar.muli v3287 c128_i32_3343
  let c64_i32_3344 : BitVec 32 := 64#32
  let v3289 : BitVec 32 := Scalar.addi v3288 c64_i32_3344
  let c0_i32_3351 : BitVec 32 := 0#32
  ![v3289.toNat, 0]

def k0_off495 (v3284 : BitVec 32) : Fin 2 → Nat :=
  let c128_i32_3340 : BitVec 32 := 128#32
  let v3285 : BitVec 32 := Scalar.muli v3284 c128_i32_3340
  let c64_i32_3341 : BitVec 32 := 64#32
  let v3286 : BitVec 32 := Scalar.addi v3285 c64_i32_3341
  let c0_i32_3352 : BitVec 32 := 0#32
  ![v3286.toNat, 0]

def k0_chk496 (v3284 : BitVec 32) : Prop :=
  (∀ a, (k0_off495 v3284) a + S32x4096.size a ≤ S4096x4096.size a) ∧
  (∀ (hinb : ∀ a, (k0_off495 v3284) a + S32x4096.size a ≤ S4096x4096.size a), (Rect.unit (s := S4096x4096) (k0_off495 v3284) S32x4096.size hinb).WholeWords (EltTy.packing .i8))
theorem k0_off495_inb : ∀ (v3284 : BitVec 32) (k0_hw496 : k0_chk496 v3284), ∀ a, (k0_off495 v3284) a + S32x4096.size a ≤ S4096x4096.size a := fun v3284 k0_hw496 => k0_hw496.1
theorem k0_off495_wordsi8 : ∀ (v3284 : BitVec 32) (k0_hw496 : k0_chk496 v3284), (Rect.unit (s := S4096x4096) (k0_off495 v3284) S32x4096.size (k0_off495_inb v3284 k0_hw496)).WholeWords (EltTy.packing .i8) := fun v3284 k0_hw496 => k0_hw496.2 (k0_off495_inb v3284 k0_hw496)

def k0_chk495 (v3287 : BitVec 32) : Prop :=
  (∀ a, (k0_off494 v3287) a + S32x4096.size a ≤ S4096x4096.size a) ∧
  (∀ (hinb : ∀ a, (k0_off494 v3287) a + S32x4096.size a ≤ S4096x4096.size a), (Rect.unit (s := S4096x4096) (k0_off494 v3287) S32x4096.size hinb).WholeWords (EltTy.packing .i8))
theorem k0_off494_inb : ∀ (v3287 : BitVec 32) (k0_hw495 : k0_chk495 v3287), ∀ a, (k0_off494 v3287) a + S32x4096.size a ≤ S4096x4096.size a := fun v3287 k0_hw495 => k0_hw495.1
theorem k0_off494_wordsi8 : ∀ (v3287 : BitVec 32) (k0_hw495 : k0_chk495 v3287), (Rect.unit (s := S4096x4096) (k0_off494 v3287) S32x4096.size (k0_off494_inb v3287 k0_hw495)).WholeWords (EltTy.packing .i8) := fun v3287 k0_hw495 => k0_hw495.2 (k0_off494_inb v3287 k0_hw495)

def k0_off496 (v3299 : BitVec 32) : Fin 2 → Nat :=
  let c128_i32_3357 : BitVec 32 := 128#32
  let v3300 : BitVec 32 := Scalar.muli v3299 c128_i32_3357
  let c64_i32_3358 : BitVec 32 := 64#32
  let v3301 : BitVec 32 := Scalar.addi v3300 c64_i32_3358
  let c0_i32_3365 : BitVec 32 := 0#32
  ![v3301.toNat, 0]

def k0_off497 (v3296 : BitVec 32) : Fin 2 → Nat :=
  let c128_i32_3354 : BitVec 32 := 128#32
  let v3297 : BitVec 32 := Scalar.muli v3296 c128_i32_3354
  let c64_i32_3355 : BitVec 32 := 64#32
  let v3298 : BitVec 32 := Scalar.addi v3297 c64_i32_3355
  let c0_i32_3366 : BitVec 32 := 0#32
  ![v3298.toNat, 0]

def k0_chk498 (v3296 : BitVec 32) : Prop :=
  (∀ a, (k0_off497 v3296) a + S32x4096.size a ≤ S4096x4096.size a) ∧
  (∀ (hinb : ∀ a, (k0_off497 v3296) a + S32x4096.size a ≤ S4096x4096.size a), (Rect.unit (s := S4096x4096) (k0_off497 v3296) S32x4096.size hinb).WholeWords (EltTy.packing .i8))
theorem k0_off497_inb : ∀ (v3296 : BitVec 32) (k0_hw498 : k0_chk498 v3296), ∀ a, (k0_off497 v3296) a + S32x4096.size a ≤ S4096x4096.size a := fun v3296 k0_hw498 => k0_hw498.1
theorem k0_off497_wordsi8 : ∀ (v3296 : BitVec 32) (k0_hw498 : k0_chk498 v3296), (Rect.unit (s := S4096x4096) (k0_off497 v3296) S32x4096.size (k0_off497_inb v3296 k0_hw498)).WholeWords (EltTy.packing .i8) := fun v3296 k0_hw498 => k0_hw498.2 (k0_off497_inb v3296 k0_hw498)

def k0_chk497 (v3299 : BitVec 32) : Prop :=
  (∀ a, (k0_off496 v3299) a + S32x4096.size a ≤ S4096x4096.size a) ∧
  (∀ (hinb : ∀ a, (k0_off496 v3299) a + S32x4096.size a ≤ S4096x4096.size a), (Rect.unit (s := S4096x4096) (k0_off496 v3299) S32x4096.size hinb).WholeWords (EltTy.packing .i8))
theorem k0_off496_inb : ∀ (v3299 : BitVec 32) (k0_hw497 : k0_chk497 v3299), ∀ a, (k0_off496 v3299) a + S32x4096.size a ≤ S4096x4096.size a := fun v3299 k0_hw497 => k0_hw497.1
theorem k0_off496_wordsi8 : ∀ (v3299 : BitVec 32) (k0_hw497 : k0_chk497 v3299), (Rect.unit (s := S4096x4096) (k0_off496 v3299) S32x4096.size (k0_off496_inb v3299 k0_hw497)).WholeWords (EltTy.packing .i8) := fun v3299 k0_hw497 => k0_hw497.2 (k0_off496_inb v3299 k0_hw497)

def k0_dev119 (v3 : BitVec 32) : Nat :=
  let c0_i32_3364 : BitVec 32 := 0#32
  let c1_i32_3363 : BitVec 32 := 1#32
  let v3302 : BitVec 32 := Scalar.muli v3 c1_i32_3363
  let v3303 : BitVec 32 := Scalar.addi c0_i32_3364 v3302
  v3303.toNat
def k0_off498 (v3313 : BitVec 32) : Fin 2 → Nat :=
  let c128_i32_3371 : BitVec 32 := 128#32
  let v3314 : BitVec 32 := Scalar.muli v3313 c128_i32_3371
  let c64_i32_3372 : BitVec 32 := 64#32
  let v3315 : BitVec 32 := Scalar.addi v3314 c64_i32_3372
  let c0_i32_3379 : BitVec 32 := 0#32
  ![v3315.toNat, 0]

def k0_off499 (v3310 : BitVec 32) : Fin 2 → Nat :=
  let c128_i32_3368 : BitVec 32 := 128#32
  let v3311 : BitVec 32 := Scalar.muli v3310 c128_i32_3368
  let c64_i32_3369 : BitVec 32 := 64#32
  let v3312 : BitVec 32 := Scalar.addi v3311 c64_i32_3369
  let c0_i32_3380 : BitVec 32 := 0#32
  ![v3312.toNat, 0]

def k0_chk500 (v3310 : BitVec 32) : Prop :=
  (∀ a, (k0_off499 v3310) a + S32x4096.size a ≤ S4096x4096.size a) ∧
  (∀ (hinb : ∀ a, (k0_off499 v3310) a + S32x4096.size a ≤ S4096x4096.size a), (Rect.unit (s := S4096x4096) (k0_off499 v3310) S32x4096.size hinb).WholeWords (EltTy.packing .i8))
theorem k0_off499_inb : ∀ (v3310 : BitVec 32) (k0_hw500 : k0_chk500 v3310), ∀ a, (k0_off499 v3310) a + S32x4096.size a ≤ S4096x4096.size a := fun v3310 k0_hw500 => k0_hw500.1
theorem k0_off499_wordsi8 : ∀ (v3310 : BitVec 32) (k0_hw500 : k0_chk500 v3310), (Rect.unit (s := S4096x4096) (k0_off499 v3310) S32x4096.size (k0_off499_inb v3310 k0_hw500)).WholeWords (EltTy.packing .i8) := fun v3310 k0_hw500 => k0_hw500.2 (k0_off499_inb v3310 k0_hw500)

def k0_chk499 (v3313 : BitVec 32) : Prop :=
  (∀ a, (k0_off498 v3313) a + S32x4096.size a ≤ S4096x4096.size a) ∧
  (∀ (hinb : ∀ a, (k0_off498 v3313) a + S32x4096.size a ≤ S4096x4096.size a), (Rect.unit (s := S4096x4096) (k0_off498 v3313) S32x4096.size hinb).WholeWords (EltTy.packing .i8))
theorem k0_off498_inb : ∀ (v3313 : BitVec 32) (k0_hw499 : k0_chk499 v3313), ∀ a, (k0_off498 v3313) a + S32x4096.size a ≤ S4096x4096.size a := fun v3313 k0_hw499 => k0_hw499.1
theorem k0_off498_wordsi8 : ∀ (v3313 : BitVec 32) (k0_hw499 : k0_chk499 v3313), (Rect.unit (s := S4096x4096) (k0_off498 v3313) S32x4096.size (k0_off498_inb v3313 k0_hw499)).WholeWords (EltTy.packing .i8) := fun v3313 k0_hw499 => k0_hw499.2 (k0_off498_inb v3313 k0_hw499)

def k0_off500 (v3325 : BitVec 32) : Fin 2 → Nat :=
  let c128_i32_3385 : BitVec 32 := 128#32
  let v3326 : BitVec 32 := Scalar.muli v3325 c128_i32_3385
  let c64_i32_3386 : BitVec 32 := 64#32
  let v3327 : BitVec 32 := Scalar.addi v3326 c64_i32_3386
  let c0_i32_3393 : BitVec 32 := 0#32
  ![v3327.toNat, 0]

def k0_off501 (v3322 : BitVec 32) : Fin 2 → Nat :=
  let c128_i32_3382 : BitVec 32 := 128#32
  let v3323 : BitVec 32 := Scalar.muli v3322 c128_i32_3382
  let c64_i32_3383 : BitVec 32 := 64#32
  let v3324 : BitVec 32 := Scalar.addi v3323 c64_i32_3383
  let c0_i32_3394 : BitVec 32 := 0#32
  ![v3324.toNat, 0]

def k0_chk502 (v3322 : BitVec 32) : Prop :=
  (∀ a, (k0_off501 v3322) a + S32x4096.size a ≤ S4096x4096.size a) ∧
  (∀ (hinb : ∀ a, (k0_off501 v3322) a + S32x4096.size a ≤ S4096x4096.size a), (Rect.unit (s := S4096x4096) (k0_off501 v3322) S32x4096.size hinb).WholeWords (EltTy.packing .i8))
theorem k0_off501_inb : ∀ (v3322 : BitVec 32) (k0_hw502 : k0_chk502 v3322), ∀ a, (k0_off501 v3322) a + S32x4096.size a ≤ S4096x4096.size a := fun v3322 k0_hw502 => k0_hw502.1
theorem k0_off501_wordsi8 : ∀ (v3322 : BitVec 32) (k0_hw502 : k0_chk502 v3322), (Rect.unit (s := S4096x4096) (k0_off501 v3322) S32x4096.size (k0_off501_inb v3322 k0_hw502)).WholeWords (EltTy.packing .i8) := fun v3322 k0_hw502 => k0_hw502.2 (k0_off501_inb v3322 k0_hw502)

def k0_chk501 (v3325 : BitVec 32) : Prop :=
  (∀ a, (k0_off500 v3325) a + S32x4096.size a ≤ S4096x4096.size a) ∧
  (∀ (hinb : ∀ a, (k0_off500 v3325) a + S32x4096.size a ≤ S4096x4096.size a), (Rect.unit (s := S4096x4096) (k0_off500 v3325) S32x4096.size hinb).WholeWords (EltTy.packing .i8))
theorem k0_off500_inb : ∀ (v3325 : BitVec 32) (k0_hw501 : k0_chk501 v3325), ∀ a, (k0_off500 v3325) a + S32x4096.size a ≤ S4096x4096.size a := fun v3325 k0_hw501 => k0_hw501.1
theorem k0_off500_wordsi8 : ∀ (v3325 : BitVec 32) (k0_hw501 : k0_chk501 v3325), (Rect.unit (s := S4096x4096) (k0_off500 v3325) S32x4096.size (k0_off500_inb v3325 k0_hw501)).WholeWords (EltTy.packing .i8) := fun v3325 k0_hw501 => k0_hw501.2 (k0_off500_inb v3325 k0_hw501)

def k0_dev120 (v4 : BitVec 32) : Nat :=
  let c0_i32_3392 : BitVec 32 := 0#32
  let c1_i32_3391 : BitVec 32 := 1#32
  let v3328 : BitVec 32 := Scalar.muli v4 c1_i32_3391
  let v3329 : BitVec 32 := Scalar.addi c0_i32_3392 v3328
  v3329.toNat
def k0_off502 (v3339 : BitVec 32) : Fin 2 → Nat :=
  let c128_i32_3399 : BitVec 32 := 128#32
  let v3340 : BitVec 32 := Scalar.muli v3339 c128_i32_3399
  let c96_i32_3400 : BitVec 32 := 96#32
  let v3341 : BitVec 32 := Scalar.addi v3340 c96_i32_3400
  let c0_i32_3407 : BitVec 32 := 0#32
  ![v3341.toNat, 0]

def k0_off503 (v3336 : BitVec 32) : Fin 2 → Nat :=
  let c128_i32_3396 : BitVec 32 := 128#32
  let v3337 : BitVec 32 := Scalar.muli v3336 c128_i32_3396
  let c96_i32_3397 : BitVec 32 := 96#32
  let v3338 : BitVec 32 := Scalar.addi v3337 c96_i32_3397
  let c0_i32_3408 : BitVec 32 := 0#32
  ![v3338.toNat, 0]

def k0_chk504 (v3336 : BitVec 32) : Prop :=
  (∀ a, (k0_off503 v3336) a + S32x4096.size a ≤ S4096x4096.size a) ∧
  (∀ (hinb : ∀ a, (k0_off503 v3336) a + S32x4096.size a ≤ S4096x4096.size a), (Rect.unit (s := S4096x4096) (k0_off503 v3336) S32x4096.size hinb).WholeWords (EltTy.packing .i8))
theorem k0_off503_inb : ∀ (v3336 : BitVec 32) (k0_hw504 : k0_chk504 v3336), ∀ a, (k0_off503 v3336) a + S32x4096.size a ≤ S4096x4096.size a := fun v3336 k0_hw504 => k0_hw504.1
theorem k0_off503_wordsi8 : ∀ (v3336 : BitVec 32) (k0_hw504 : k0_chk504 v3336), (Rect.unit (s := S4096x4096) (k0_off503 v3336) S32x4096.size (k0_off503_inb v3336 k0_hw504)).WholeWords (EltTy.packing .i8) := fun v3336 k0_hw504 => k0_hw504.2 (k0_off503_inb v3336 k0_hw504)

def k0_chk503 (v3339 : BitVec 32) : Prop :=
  (∀ a, (k0_off502 v3339) a + S32x4096.size a ≤ S4096x4096.size a) ∧
  (∀ (hinb : ∀ a, (k0_off502 v3339) a + S32x4096.size a ≤ S4096x4096.size a), (Rect.unit (s := S4096x4096) (k0_off502 v3339) S32x4096.size hinb).WholeWords (EltTy.packing .i8))
theorem k0_off502_inb : ∀ (v3339 : BitVec 32) (k0_hw503 : k0_chk503 v3339), ∀ a, (k0_off502 v3339) a + S32x4096.size a ≤ S4096x4096.size a := fun v3339 k0_hw503 => k0_hw503.1
theorem k0_off502_wordsi8 : ∀ (v3339 : BitVec 32) (k0_hw503 : k0_chk503 v3339), (Rect.unit (s := S4096x4096) (k0_off502 v3339) S32x4096.size (k0_off502_inb v3339 k0_hw503)).WholeWords (EltTy.packing .i8) := fun v3339 k0_hw503 => k0_hw503.2 (k0_off502_inb v3339 k0_hw503)

def k0_off504 (v3351 : BitVec 32) : Fin 2 → Nat :=
  let c128_i32_3413 : BitVec 32 := 128#32
  let v3352 : BitVec 32 := Scalar.muli v3351 c128_i32_3413
  let c96_i32_3414 : BitVec 32 := 96#32
  let v3353 : BitVec 32 := Scalar.addi v3352 c96_i32_3414
  let c0_i32_3421 : BitVec 32 := 0#32
  ![v3353.toNat, 0]

def k0_off505 (v3348 : BitVec 32) : Fin 2 → Nat :=
  let c128_i32_3410 : BitVec 32 := 128#32
  let v3349 : BitVec 32 := Scalar.muli v3348 c128_i32_3410
  let c96_i32_3411 : BitVec 32 := 96#32
  let v3350 : BitVec 32 := Scalar.addi v3349 c96_i32_3411
  let c0_i32_3422 : BitVec 32 := 0#32
  ![v3350.toNat, 0]

def k0_chk506 (v3348 : BitVec 32) : Prop :=
  (∀ a, (k0_off505 v3348) a + S32x4096.size a ≤ S4096x4096.size a) ∧
  (∀ (hinb : ∀ a, (k0_off505 v3348) a + S32x4096.size a ≤ S4096x4096.size a), (Rect.unit (s := S4096x4096) (k0_off505 v3348) S32x4096.size hinb).WholeWords (EltTy.packing .i8))
theorem k0_off505_inb : ∀ (v3348 : BitVec 32) (k0_hw506 : k0_chk506 v3348), ∀ a, (k0_off505 v3348) a + S32x4096.size a ≤ S4096x4096.size a := fun v3348 k0_hw506 => k0_hw506.1
theorem k0_off505_wordsi8 : ∀ (v3348 : BitVec 32) (k0_hw506 : k0_chk506 v3348), (Rect.unit (s := S4096x4096) (k0_off505 v3348) S32x4096.size (k0_off505_inb v3348 k0_hw506)).WholeWords (EltTy.packing .i8) := fun v3348 k0_hw506 => k0_hw506.2 (k0_off505_inb v3348 k0_hw506)

def k0_chk505 (v3351 : BitVec 32) : Prop :=
  (∀ a, (k0_off504 v3351) a + S32x4096.size a ≤ S4096x4096.size a) ∧
  (∀ (hinb : ∀ a, (k0_off504 v3351) a + S32x4096.size a ≤ S4096x4096.size a), (Rect.unit (s := S4096x4096) (k0_off504 v3351) S32x4096.size hinb).WholeWords (EltTy.packing .i8))
theorem k0_off504_inb : ∀ (v3351 : BitVec 32) (k0_hw505 : k0_chk505 v3351), ∀ a, (k0_off504 v3351) a + S32x4096.size a ≤ S4096x4096.size a := fun v3351 k0_hw505 => k0_hw505.1
theorem k0_off504_wordsi8 : ∀ (v3351 : BitVec 32) (k0_hw505 : k0_chk505 v3351), (Rect.unit (s := S4096x4096) (k0_off504 v3351) S32x4096.size (k0_off504_inb v3351 k0_hw505)).WholeWords (EltTy.packing .i8) := fun v3351 k0_hw505 => k0_hw505.2 (k0_off504_inb v3351 k0_hw505)

def k0_dev121 (v3 : BitVec 32) : Nat :=
  let c0_i32_3420 : BitVec 32 := 0#32
  let c1_i32_3419 : BitVec 32 := 1#32
  let v3354 : BitVec 32 := Scalar.muli v3 c1_i32_3419
  let v3355 : BitVec 32 := Scalar.addi c0_i32_3420 v3354
  v3355.toNat
def k0_off506 (v3365 : BitVec 32) : Fin 2 → Nat :=
  let c128_i32_3427 : BitVec 32 := 128#32
  let v3366 : BitVec 32 := Scalar.muli v3365 c128_i32_3427
  let c96_i32_3428 : BitVec 32 := 96#32
  let v3367 : BitVec 32 := Scalar.addi v3366 c96_i32_3428
  let c0_i32_3435 : BitVec 32 := 0#32
  ![v3367.toNat, 0]

def k0_off507 (v3362 : BitVec 32) : Fin 2 → Nat :=
  let c128_i32_3424 : BitVec 32 := 128#32
  let v3363 : BitVec 32 := Scalar.muli v3362 c128_i32_3424
  let c96_i32_3425 : BitVec 32 := 96#32
  let v3364 : BitVec 32 := Scalar.addi v3363 c96_i32_3425
  let c0_i32_3436 : BitVec 32 := 0#32
  ![v3364.toNat, 0]

def k0_chk508 (v3362 : BitVec 32) : Prop :=
  (∀ a, (k0_off507 v3362) a + S32x4096.size a ≤ S4096x4096.size a) ∧
  (∀ (hinb : ∀ a, (k0_off507 v3362) a + S32x4096.size a ≤ S4096x4096.size a), (Rect.unit (s := S4096x4096) (k0_off507 v3362) S32x4096.size hinb).WholeWords (EltTy.packing .i8))
theorem k0_off507_inb : ∀ (v3362 : BitVec 32) (k0_hw508 : k0_chk508 v3362), ∀ a, (k0_off507 v3362) a + S32x4096.size a ≤ S4096x4096.size a := fun v3362 k0_hw508 => k0_hw508.1
theorem k0_off507_wordsi8 : ∀ (v3362 : BitVec 32) (k0_hw508 : k0_chk508 v3362), (Rect.unit (s := S4096x4096) (k0_off507 v3362) S32x4096.size (k0_off507_inb v3362 k0_hw508)).WholeWords (EltTy.packing .i8) := fun v3362 k0_hw508 => k0_hw508.2 (k0_off507_inb v3362 k0_hw508)

def k0_chk507 (v3365 : BitVec 32) : Prop :=
  (∀ a, (k0_off506 v3365) a + S32x4096.size a ≤ S4096x4096.size a) ∧
  (∀ (hinb : ∀ a, (k0_off506 v3365) a + S32x4096.size a ≤ S4096x4096.size a), (Rect.unit (s := S4096x4096) (k0_off506 v3365) S32x4096.size hinb).WholeWords (EltTy.packing .i8))
theorem k0_off506_inb : ∀ (v3365 : BitVec 32) (k0_hw507 : k0_chk507 v3365), ∀ a, (k0_off506 v3365) a + S32x4096.size a ≤ S4096x4096.size a := fun v3365 k0_hw507 => k0_hw507.1
theorem k0_off506_wordsi8 : ∀ (v3365 : BitVec 32) (k0_hw507 : k0_chk507 v3365), (Rect.unit (s := S4096x4096) (k0_off506 v3365) S32x4096.size (k0_off506_inb v3365 k0_hw507)).WholeWords (EltTy.packing .i8) := fun v3365 k0_hw507 => k0_hw507.2 (k0_off506_inb v3365 k0_hw507)

def k0_off508 (v3377 : BitVec 32) : Fin 2 → Nat :=
  let c128_i32_3441 : BitVec 32 := 128#32
  let v3378 : BitVec 32 := Scalar.muli v3377 c128_i32_3441
  let c96_i32_3442 : BitVec 32 := 96#32
  let v3379 : BitVec 32 := Scalar.addi v3378 c96_i32_3442
  let c0_i32_3449 : BitVec 32 := 0#32
  ![v3379.toNat, 0]

def k0_off509 (v3374 : BitVec 32) : Fin 2 → Nat :=
  let c128_i32_3438 : BitVec 32 := 128#32
  let v3375 : BitVec 32 := Scalar.muli v3374 c128_i32_3438
  let c96_i32_3439 : BitVec 32 := 96#32
  let v3376 : BitVec 32 := Scalar.addi v3375 c96_i32_3439
  let c0_i32_3450 : BitVec 32 := 0#32
  ![v3376.toNat, 0]

def k0_chk510 (v3374 : BitVec 32) : Prop :=
  (∀ a, (k0_off509 v3374) a + S32x4096.size a ≤ S4096x4096.size a) ∧
  (∀ (hinb : ∀ a, (k0_off509 v3374) a + S32x4096.size a ≤ S4096x4096.size a), (Rect.unit (s := S4096x4096) (k0_off509 v3374) S32x4096.size hinb).WholeWords (EltTy.packing .i8))
theorem k0_off509_inb : ∀ (v3374 : BitVec 32) (k0_hw510 : k0_chk510 v3374), ∀ a, (k0_off509 v3374) a + S32x4096.size a ≤ S4096x4096.size a := fun v3374 k0_hw510 => k0_hw510.1
theorem k0_off509_wordsi8 : ∀ (v3374 : BitVec 32) (k0_hw510 : k0_chk510 v3374), (Rect.unit (s := S4096x4096) (k0_off509 v3374) S32x4096.size (k0_off509_inb v3374 k0_hw510)).WholeWords (EltTy.packing .i8) := fun v3374 k0_hw510 => k0_hw510.2 (k0_off509_inb v3374 k0_hw510)

def k0_chk509 (v3377 : BitVec 32) : Prop :=
  (∀ a, (k0_off508 v3377) a + S32x4096.size a ≤ S4096x4096.size a) ∧
  (∀ (hinb : ∀ a, (k0_off508 v3377) a + S32x4096.size a ≤ S4096x4096.size a), (Rect.unit (s := S4096x4096) (k0_off508 v3377) S32x4096.size hinb).WholeWords (EltTy.packing .i8))
theorem k0_off508_inb : ∀ (v3377 : BitVec 32) (k0_hw509 : k0_chk509 v3377), ∀ a, (k0_off508 v3377) a + S32x4096.size a ≤ S4096x4096.size a := fun v3377 k0_hw509 => k0_hw509.1
theorem k0_off508_wordsi8 : ∀ (v3377 : BitVec 32) (k0_hw509 : k0_chk509 v3377), (Rect.unit (s := S4096x4096) (k0_off508 v3377) S32x4096.size (k0_off508_inb v3377 k0_hw509)).WholeWords (EltTy.packing .i8) := fun v3377 k0_hw509 => k0_hw509.2 (k0_off508_inb v3377 k0_hw509)

def k0_dev122 (v4 : BitVec 32) : Nat :=
  let c0_i32_3448 : BitVec 32 := 0#32
  let c1_i32_3447 : BitVec 32 := 1#32
  let v3380 : BitVec 32 := Scalar.muli v4 c1_i32_3447
  let v3381 : BitVec 32 := Scalar.addi c0_i32_3448 v3380
  v3381.toNat
def k0_off510 (v3389 : BitVec 32) : Fin 2 → Nat :=
  let c128_i32_3453 : BitVec 32 := 128#32
  let v3390 : BitVec 32 := Scalar.muli v3389 c128_i32_3453
  let v3391 : Index := Scalar.indexCast v3390
  let c0_3454 : Index := 0#32
  ![v3391.toNat, 0]

def k0_chk511 (v3389 : BitVec 32) : Prop :=
  (∀ a, (k0_off510 v3389) a + S128x4096.size a ≤ S4096x4096.size a)
theorem k0_off510_inb : ∀ (v3389 : BitVec 32) (k0_hw511 : k0_chk511 v3389), ∀ a, (k0_off510 v3389) a + S128x4096.size a ≤ S4096x4096.size a := fun v3389 k0_hw511 => k0_hw511

def k0_off511 (v3388 : BitVec 32) : Fin 2 → Nat :=
  let c128_i32_3458 : BitVec 32 := 128#32
  let v3399 : BitVec 32 := Scalar.muli v3388 c128_i32_3458
  let v3400 : Index := Scalar.indexCast v3399
  let c0_3459 : Index := 0#32
  ![v3400.toNat, 0]

def k0_chk512 (v3388 : BitVec 32) : Prop :=
  (∀ a, (k0_off511 v3388) a + S128x64.size a ≤ S4096x64.size a)
theorem k0_off511_inb : ∀ (v3388 : BitVec 32) (k0_hw512 : k0_chk512 v3388), ∀ a, (k0_off511 v3388) a + S128x64.size a ≤ S4096x64.size a := fun v3388 k0_hw512 => k0_hw512

def k0_off512 (v3403 : BitVec 32) : Fin 2 → Nat :=
  let c128_i32_3462 : BitVec 32 := 128#32
  let v3404 : BitVec 32 := Scalar.muli v3403 c128_i32_3462
  let v3405 : Index := Scalar.indexCast v3404
  let c0_3463 : Index := 0#32
  ![v3405.toNat, 0]

def k0_chk513 (v3403 : BitVec 32) : Prop :=
  (∀ a, (k0_off512 v3403) a + S128x4096.size a ≤ S4096x4096.size a)
theorem k0_off512_inb : ∀ (v3403 : BitVec 32) (k0_hw513 : k0_chk513 v3403), ∀ a, (k0_off512 v3403) a + S128x4096.size a ≤ S4096x4096.size a := fun v3403 k0_hw513 => k0_hw513

def k0_off513 (v3402 : BitVec 32) : Fin 2 → Nat :=
  let c128_i32_3467 : BitVec 32 := 128#32
  let v3413 : BitVec 32 := Scalar.muli v3402 c128_i32_3467
  let v3414 : Index := Scalar.indexCast v3413
  let c0_3468 : Index := 0#32
  ![v3414.toNat, 0]

def k0_chk514 (v3402 : BitVec 32) : Prop :=
  (∀ a, (k0_off513 v3402) a + S128x64.size a ≤ S4096x64.size a)
theorem k0_off513_inb : ∀ (v3402 : BitVec 32) (k0_hw514 : k0_chk514 v3402), ∀ a, (k0_off513 v3402) a + S128x64.size a ≤ S4096x64.size a := fun v3402 k0_hw514 => k0_hw514

def k0_off514 (v3419 : BitVec 32) : Fin 2 → Nat :=
  let c128_i32_3473 : BitVec 32 := 128#32
  let v3420 : BitVec 32 := Scalar.muli v3419 c128_i32_3473
  let c0_i32_3474 : BitVec 32 := 0#32
  let v3421 : BitVec 32 := Scalar.addi v3420 c0_i32_3474
  let c0_i32_3481 : BitVec 32 := 0#32
  ![v3421.toNat, 0]

def k0_off515 (v3416 : BitVec 32) : Fin 2 → Nat :=
  let c128_i32_3470 : BitVec 32 := 128#32
  let v3417 : BitVec 32 := Scalar.muli v3416 c128_i32_3470
  let c0_i32_3471 : BitVec 32 := 0#32
  let v3418 : BitVec 32 := Scalar.addi v3417 c0_i32_3471
  let c0_i32_3482 : BitVec 32 := 0#32
  ![v3418.toNat, 0]

def k0_chk516 (v3416 : BitVec 32) : Prop :=
  (∀ a, (k0_off515 v3416) a + S32x4096.size a ≤ S4096x4096.size a) ∧
  (∀ (hinb : ∀ a, (k0_off515 v3416) a + S32x4096.size a ≤ S4096x4096.size a), (Rect.unit (s := S4096x4096) (k0_off515 v3416) S32x4096.size hinb).WholeWords (EltTy.packing .i8))
theorem k0_off515_inb : ∀ (v3416 : BitVec 32) (k0_hw516 : k0_chk516 v3416), ∀ a, (k0_off515 v3416) a + S32x4096.size a ≤ S4096x4096.size a := fun v3416 k0_hw516 => k0_hw516.1
theorem k0_off515_wordsi8 : ∀ (v3416 : BitVec 32) (k0_hw516 : k0_chk516 v3416), (Rect.unit (s := S4096x4096) (k0_off515 v3416) S32x4096.size (k0_off515_inb v3416 k0_hw516)).WholeWords (EltTy.packing .i8) := fun v3416 k0_hw516 => k0_hw516.2 (k0_off515_inb v3416 k0_hw516)

def k0_chk515 (v3419 : BitVec 32) : Prop :=
  (∀ a, (k0_off514 v3419) a + S32x4096.size a ≤ S4096x4096.size a) ∧
  (∀ (hinb : ∀ a, (k0_off514 v3419) a + S32x4096.size a ≤ S4096x4096.size a), (Rect.unit (s := S4096x4096) (k0_off514 v3419) S32x4096.size hinb).WholeWords (EltTy.packing .i8))
theorem k0_off514_inb : ∀ (v3419 : BitVec 32) (k0_hw515 : k0_chk515 v3419), ∀ a, (k0_off514 v3419) a + S32x4096.size a ≤ S4096x4096.size a := fun v3419 k0_hw515 => k0_hw515.1
theorem k0_off514_wordsi8 : ∀ (v3419 : BitVec 32) (k0_hw515 : k0_chk515 v3419), (Rect.unit (s := S4096x4096) (k0_off514 v3419) S32x4096.size (k0_off514_inb v3419 k0_hw515)).WholeWords (EltTy.packing .i8) := fun v3419 k0_hw515 => k0_hw515.2 (k0_off514_inb v3419 k0_hw515)

def k0_off516 (v3431 : BitVec 32) : Fin 2 → Nat :=
  let c128_i32_3486 : BitVec 32 := 128#32
  let v3432 : BitVec 32 := Scalar.muli v3431 c128_i32_3486
  let c0_i32_3487 : BitVec 32 := 0#32
  let v3433 : BitVec 32 := Scalar.addi v3432 c0_i32_3487
  let c0_i32_3493 : BitVec 32 := 0#32
  ![v3433.toNat, 0]

def k0_off517 (v3428 : BitVec 32) : Fin 2 → Nat :=
  let c128_i32_3483 : BitVec 32 := 128#32
  let v3429 : BitVec 32 := Scalar.muli v3428 c128_i32_3483
  let c0_i32_3484 : BitVec 32 := 0#32
  let v3430 : BitVec 32 := Scalar.addi v3429 c0_i32_3484
  let c0_i32_3494 : BitVec 32 := 0#32
  ![v3430.toNat, 0]

def k0_chk518 (v3428 : BitVec 32) : Prop :=
  (∀ a, (k0_off517 v3428) a + S32x4096.size a ≤ S4096x4096.size a) ∧
  (∀ (hinb : ∀ a, (k0_off517 v3428) a + S32x4096.size a ≤ S4096x4096.size a), (Rect.unit (s := S4096x4096) (k0_off517 v3428) S32x4096.size hinb).WholeWords (EltTy.packing .i8))
theorem k0_off517_inb : ∀ (v3428 : BitVec 32) (k0_hw518 : k0_chk518 v3428), ∀ a, (k0_off517 v3428) a + S32x4096.size a ≤ S4096x4096.size a := fun v3428 k0_hw518 => k0_hw518.1
theorem k0_off517_wordsi8 : ∀ (v3428 : BitVec 32) (k0_hw518 : k0_chk518 v3428), (Rect.unit (s := S4096x4096) (k0_off517 v3428) S32x4096.size (k0_off517_inb v3428 k0_hw518)).WholeWords (EltTy.packing .i8) := fun v3428 k0_hw518 => k0_hw518.2 (k0_off517_inb v3428 k0_hw518)

def k0_chk517 (v3431 : BitVec 32) : Prop :=
  (∀ a, (k0_off516 v3431) a + S32x4096.size a ≤ S4096x4096.size a) ∧
  (∀ (hinb : ∀ a, (k0_off516 v3431) a + S32x4096.size a ≤ S4096x4096.size a), (Rect.unit (s := S4096x4096) (k0_off516 v3431) S32x4096.size hinb).WholeWords (EltTy.packing .i8))
theorem k0_off516_inb : ∀ (v3431 : BitVec 32) (k0_hw517 : k0_chk517 v3431), ∀ a, (k0_off516 v3431) a + S32x4096.size a ≤ S4096x4096.size a := fun v3431 k0_hw517 => k0_hw517.1
theorem k0_off516_wordsi8 : ∀ (v3431 : BitVec 32) (k0_hw517 : k0_chk517 v3431), (Rect.unit (s := S4096x4096) (k0_off516 v3431) S32x4096.size (k0_off516_inb v3431 k0_hw517)).WholeWords (EltTy.packing .i8) := fun v3431 k0_hw517 => k0_hw517.2 (k0_off516_inb v3431 k0_hw517)

def k0_dev123 (v3 : BitVec 32) : Nat :=
  let c0_i32_3492 : BitVec 32 := 0#32
  let c1_i32_3491 : BitVec 32 := 1#32
  let v3434 : BitVec 32 := Scalar.muli v3 c1_i32_3491
  let v3435 : BitVec 32 := Scalar.addi c0_i32_3492 v3434
  v3435.toNat
def k0_off518 (v3445 : BitVec 32) : Fin 2 → Nat :=
  let c128_i32_3499 : BitVec 32 := 128#32
  let v3446 : BitVec 32 := Scalar.muli v3445 c128_i32_3499
  let c0_i32_3500 : BitVec 32 := 0#32
  let v3447 : BitVec 32 := Scalar.addi v3446 c0_i32_3500
  let c0_i32_3507 : BitVec 32 := 0#32
  ![v3447.toNat, 0]

def k0_off519 (v3442 : BitVec 32) : Fin 2 → Nat :=
  let c128_i32_3496 : BitVec 32 := 128#32
  let v3443 : BitVec 32 := Scalar.muli v3442 c128_i32_3496
  let c0_i32_3497 : BitVec 32 := 0#32
  let v3444 : BitVec 32 := Scalar.addi v3443 c0_i32_3497
  let c0_i32_3508 : BitVec 32 := 0#32
  ![v3444.toNat, 0]

def k0_chk520 (v3442 : BitVec 32) : Prop :=
  (∀ a, (k0_off519 v3442) a + S32x4096.size a ≤ S4096x4096.size a) ∧
  (∀ (hinb : ∀ a, (k0_off519 v3442) a + S32x4096.size a ≤ S4096x4096.size a), (Rect.unit (s := S4096x4096) (k0_off519 v3442) S32x4096.size hinb).WholeWords (EltTy.packing .i8))
theorem k0_off519_inb : ∀ (v3442 : BitVec 32) (k0_hw520 : k0_chk520 v3442), ∀ a, (k0_off519 v3442) a + S32x4096.size a ≤ S4096x4096.size a := fun v3442 k0_hw520 => k0_hw520.1
theorem k0_off519_wordsi8 : ∀ (v3442 : BitVec 32) (k0_hw520 : k0_chk520 v3442), (Rect.unit (s := S4096x4096) (k0_off519 v3442) S32x4096.size (k0_off519_inb v3442 k0_hw520)).WholeWords (EltTy.packing .i8) := fun v3442 k0_hw520 => k0_hw520.2 (k0_off519_inb v3442 k0_hw520)

def k0_chk519 (v3445 : BitVec 32) : Prop :=
  (∀ a, (k0_off518 v3445) a + S32x4096.size a ≤ S4096x4096.size a) ∧
  (∀ (hinb : ∀ a, (k0_off518 v3445) a + S32x4096.size a ≤ S4096x4096.size a), (Rect.unit (s := S4096x4096) (k0_off518 v3445) S32x4096.size hinb).WholeWords (EltTy.packing .i8))
theorem k0_off518_inb : ∀ (v3445 : BitVec 32) (k0_hw519 : k0_chk519 v3445), ∀ a, (k0_off518 v3445) a + S32x4096.size a ≤ S4096x4096.size a := fun v3445 k0_hw519 => k0_hw519.1
theorem k0_off518_wordsi8 : ∀ (v3445 : BitVec 32) (k0_hw519 : k0_chk519 v3445), (Rect.unit (s := S4096x4096) (k0_off518 v3445) S32x4096.size (k0_off518_inb v3445 k0_hw519)).WholeWords (EltTy.packing .i8) := fun v3445 k0_hw519 => k0_hw519.2 (k0_off518_inb v3445 k0_hw519)

def k0_off520 (v3457 : BitVec 32) : Fin 2 → Nat :=
  let c128_i32_3513 : BitVec 32 := 128#32
  let v3458 : BitVec 32 := Scalar.muli v3457 c128_i32_3513
  let c32_i32_3514 : BitVec 32 := 32#32
  let v3459 : BitVec 32 := Scalar.addi v3458 c32_i32_3514
  let c0_i32_3521 : BitVec 32 := 0#32
  ![v3459.toNat, 0]

def k0_off521 (v3454 : BitVec 32) : Fin 2 → Nat :=
  let c128_i32_3510 : BitVec 32 := 128#32
  let v3455 : BitVec 32 := Scalar.muli v3454 c128_i32_3510
  let c32_i32_3511 : BitVec 32 := 32#32
  let v3456 : BitVec 32 := Scalar.addi v3455 c32_i32_3511
  let c0_i32_3522 : BitVec 32 := 0#32
  ![v3456.toNat, 0]

def k0_chk522 (v3454 : BitVec 32) : Prop :=
  (∀ a, (k0_off521 v3454) a + S32x4096.size a ≤ S4096x4096.size a) ∧
  (∀ (hinb : ∀ a, (k0_off521 v3454) a + S32x4096.size a ≤ S4096x4096.size a), (Rect.unit (s := S4096x4096) (k0_off521 v3454) S32x4096.size hinb).WholeWords (EltTy.packing .i8))
theorem k0_off521_inb : ∀ (v3454 : BitVec 32) (k0_hw522 : k0_chk522 v3454), ∀ a, (k0_off521 v3454) a + S32x4096.size a ≤ S4096x4096.size a := fun v3454 k0_hw522 => k0_hw522.1
theorem k0_off521_wordsi8 : ∀ (v3454 : BitVec 32) (k0_hw522 : k0_chk522 v3454), (Rect.unit (s := S4096x4096) (k0_off521 v3454) S32x4096.size (k0_off521_inb v3454 k0_hw522)).WholeWords (EltTy.packing .i8) := fun v3454 k0_hw522 => k0_hw522.2 (k0_off521_inb v3454 k0_hw522)

def k0_chk521 (v3457 : BitVec 32) : Prop :=
  (∀ a, (k0_off520 v3457) a + S32x4096.size a ≤ S4096x4096.size a) ∧
  (∀ (hinb : ∀ a, (k0_off520 v3457) a + S32x4096.size a ≤ S4096x4096.size a), (Rect.unit (s := S4096x4096) (k0_off520 v3457) S32x4096.size hinb).WholeWords (EltTy.packing .i8))
theorem k0_off520_inb : ∀ (v3457 : BitVec 32) (k0_hw521 : k0_chk521 v3457), ∀ a, (k0_off520 v3457) a + S32x4096.size a ≤ S4096x4096.size a := fun v3457 k0_hw521 => k0_hw521.1
theorem k0_off520_wordsi8 : ∀ (v3457 : BitVec 32) (k0_hw521 : k0_chk521 v3457), (Rect.unit (s := S4096x4096) (k0_off520 v3457) S32x4096.size (k0_off520_inb v3457 k0_hw521)).WholeWords (EltTy.packing .i8) := fun v3457 k0_hw521 => k0_hw521.2 (k0_off520_inb v3457 k0_hw521)

def k0_off522 (v3469 : BitVec 32) : Fin 2 → Nat :=
  let c128_i32_3527 : BitVec 32 := 128#32
  let v3470 : BitVec 32 := Scalar.muli v3469 c128_i32_3527
  let c32_i32_3528 : BitVec 32 := 32#32
  let v3471 : BitVec 32 := Scalar.addi v3470 c32_i32_3528
  let c0_i32_3535 : BitVec 32 := 0#32
  ![v3471.toNat, 0]

def k0_off523 (v3466 : BitVec 32) : Fin 2 → Nat :=
  let c128_i32_3524 : BitVec 32 := 128#32
  let v3467 : BitVec 32 := Scalar.muli v3466 c128_i32_3524
  let c32_i32_3525 : BitVec 32 := 32#32
  let v3468 : BitVec 32 := Scalar.addi v3467 c32_i32_3525
  let c0_i32_3536 : BitVec 32 := 0#32
  ![v3468.toNat, 0]

def k0_chk524 (v3466 : BitVec 32) : Prop :=
  (∀ a, (k0_off523 v3466) a + S32x4096.size a ≤ S4096x4096.size a) ∧
  (∀ (hinb : ∀ a, (k0_off523 v3466) a + S32x4096.size a ≤ S4096x4096.size a), (Rect.unit (s := S4096x4096) (k0_off523 v3466) S32x4096.size hinb).WholeWords (EltTy.packing .i8))
theorem k0_off523_inb : ∀ (v3466 : BitVec 32) (k0_hw524 : k0_chk524 v3466), ∀ a, (k0_off523 v3466) a + S32x4096.size a ≤ S4096x4096.size a := fun v3466 k0_hw524 => k0_hw524.1
theorem k0_off523_wordsi8 : ∀ (v3466 : BitVec 32) (k0_hw524 : k0_chk524 v3466), (Rect.unit (s := S4096x4096) (k0_off523 v3466) S32x4096.size (k0_off523_inb v3466 k0_hw524)).WholeWords (EltTy.packing .i8) := fun v3466 k0_hw524 => k0_hw524.2 (k0_off523_inb v3466 k0_hw524)

def k0_chk523 (v3469 : BitVec 32) : Prop :=
  (∀ a, (k0_off522 v3469) a + S32x4096.size a ≤ S4096x4096.size a) ∧
  (∀ (hinb : ∀ a, (k0_off522 v3469) a + S32x4096.size a ≤ S4096x4096.size a), (Rect.unit (s := S4096x4096) (k0_off522 v3469) S32x4096.size hinb).WholeWords (EltTy.packing .i8))
theorem k0_off522_inb : ∀ (v3469 : BitVec 32) (k0_hw523 : k0_chk523 v3469), ∀ a, (k0_off522 v3469) a + S32x4096.size a ≤ S4096x4096.size a := fun v3469 k0_hw523 => k0_hw523.1
theorem k0_off522_wordsi8 : ∀ (v3469 : BitVec 32) (k0_hw523 : k0_chk523 v3469), (Rect.unit (s := S4096x4096) (k0_off522 v3469) S32x4096.size (k0_off522_inb v3469 k0_hw523)).WholeWords (EltTy.packing .i8) := fun v3469 k0_hw523 => k0_hw523.2 (k0_off522_inb v3469 k0_hw523)

def k0_dev124 (v3 : BitVec 32) : Nat :=
  let c0_i32_3534 : BitVec 32 := 0#32
  let c1_i32_3533 : BitVec 32 := 1#32
  let v3472 : BitVec 32 := Scalar.muli v3 c1_i32_3533
  let v3473 : BitVec 32 := Scalar.addi c0_i32_3534 v3472
  v3473.toNat

def k0_chk2_0 (v3 : BitVec 32) : Prop :=
  ((k0_dev2 v3) < nD) ∧
  ((k0_dev3 v3) < nD) ∧
  ((k0_dev4 v3) < nD) ∧
  ((k0_dev5 v3) < nD) ∧
  ((k0_dev6 v3) < nD) ∧
  ((k0_dev11 v3) < nD) ∧
  ((k0_dev13 v3) < nD) ∧
  ((k0_dev15 v3) < nD) ∧
  ((k0_dev17 v3) < nD) ∧
  ((k0_dev19 v3) < nD) ∧
  ((k0_dev21 v3) < nD) ∧
  ((k0_dev23 v3) < nD) ∧
  ((k0_dev25 v3) < nD) ∧
  ((k0_dev27 v3) < nD) ∧
  ((k0_dev29 v3) < nD) ∧
  ((k0_dev31 v3) < nD) ∧
  ((k0_dev33 v3) < nD) ∧
  ((k0_dev35 v3) < nD) ∧
  ((k0_dev37 v3) < nD) ∧
  ((k0_dev39 v3) < nD) ∧
  ((k0_dev41 v3) < nD) ∧
  ((k0_dev43 v3) < nD) ∧
  ((k0_dev45 v3) < nD) ∧
  ((k0_dev47 v3) < nD) ∧
  ((k0_dev49 v3) < nD) ∧
  ((k0_dev51 v3) < nD) ∧
  ((k0_dev53 v3) < nD) ∧
  ((k0_dev55 v3) < nD) ∧
  ((k0_dev57 v3) < nD) ∧
  ((k0_dev59 v3) < nD) ∧
  ((k0_dev61 v3) < nD) ∧
  ((k0_dev63 v3) < nD)
def k0_chk2_1 (v3 : BitVec 32) : Prop :=
  ((k0_dev65 v3) < nD) ∧
  ((k0_dev67 v3) < nD) ∧
  ((k0_dev69 v3) < nD) ∧
  ((k0_dev71 v3) < nD) ∧
  ((k0_dev73 v3) < nD) ∧
  ((k0_dev75 v3) < nD) ∧
  ((k0_dev77 v3) < nD) ∧
  ((k0_dev79 v3) < nD) ∧
  ((k0_dev81 v3) < nD) ∧
  ((k0_dev83 v3) < nD) ∧
  ((k0_dev85 v3) < nD) ∧
  ((k0_dev87 v3) < nD) ∧
  ((k0_dev89 v3) < nD) ∧
  ((k0_dev91 v3) < nD) ∧
  ((k0_dev93 v3) < nD) ∧
  ((k0_dev95 v3) < nD) ∧
  ((k0_dev97 v3) < nD) ∧
  ((k0_dev99 v3) < nD) ∧
  ((k0_dev101 v3) < nD) ∧
  ((k0_dev103 v3) < nD) ∧
  ((k0_dev105 v3) < nD) ∧
  ((k0_dev107 v3) < nD) ∧
  ((k0_dev109 v3) < nD) ∧
  ((k0_dev111 v3) < nD) ∧
  ((k0_dev113 v3) < nD) ∧
  ((k0_dev115 v3) < nD) ∧
  ((k0_dev117 v3) < nD) ∧
  ((k0_dev119 v3) < nD) ∧
  ((k0_dev121 v3) < nD) ∧
  ((k0_dev123 v3) < nD) ∧
  ((k0_dev124 v3) < nD)
def k0_chk2 (v3 : BitVec 32) : Prop :=
  k0_chk2_0 v3 ∧
  k0_chk2_1 v3
theorem k0_dev2_lt : ∀ (v3 : BitVec 32) (k0_hw2 : k0_chk2 v3), (k0_dev2 v3) < nD := fun v3 k0_hw2 => k0_hw2.1.1
theorem k0_dev3_lt : ∀ (v3 : BitVec 32) (k0_hw2 : k0_chk2 v3), (k0_dev3 v3) < nD := fun v3 k0_hw2 => k0_hw2.1.2.1
theorem k0_dev4_lt : ∀ (v3 : BitVec 32) (k0_hw2 : k0_chk2 v3), (k0_dev4 v3) < nD := fun v3 k0_hw2 => k0_hw2.1.2.2.1
theorem k0_dev5_lt : ∀ (v3 : BitVec 32) (k0_hw2 : k0_chk2 v3), (k0_dev5 v3) < nD := fun v3 k0_hw2 => k0_hw2.1.2.2.2.1
theorem k0_dev6_lt : ∀ (v3 : BitVec 32) (k0_hw2 : k0_chk2 v3), (k0_dev6 v3) < nD := fun v3 k0_hw2 => k0_hw2.1.2.2.2.2.1
theorem k0_dev11_lt : ∀ (v3 : BitVec 32) (k0_hw2 : k0_chk2 v3), (k0_dev11 v3) < nD := fun v3 k0_hw2 => k0_hw2.1.2.2.2.2.2.1
theorem k0_dev13_lt : ∀ (v3 : BitVec 32) (k0_hw2 : k0_chk2 v3), (k0_dev13 v3) < nD := fun v3 k0_hw2 => k0_hw2.1.2.2.2.2.2.2.1
theorem k0_dev15_lt : ∀ (v3 : BitVec 32) (k0_hw2 : k0_chk2 v3), (k0_dev15 v3) < nD := fun v3 k0_hw2 => k0_hw2.1.2.2.2.2.2.2.2.1
theorem k0_dev17_lt : ∀ (v3 : BitVec 32) (k0_hw2 : k0_chk2 v3), (k0_dev17 v3) < nD := fun v3 k0_hw2 => k0_hw2.1.2.2.2.2.2.2.2.2.1
theorem k0_dev19_lt : ∀ (v3 : BitVec 32) (k0_hw2 : k0_chk2 v3), (k0_dev19 v3) < nD := fun v3 k0_hw2 => k0_hw2.1.2.2.2.2.2.2.2.2.2.1
theorem k0_dev21_lt : ∀ (v3 : BitVec 32) (k0_hw2 : k0_chk2 v3), (k0_dev21 v3) < nD := fun v3 k0_hw2 => k0_hw2.1.2.2.2.2.2.2.2.2.2.2.1
theorem k0_dev23_lt : ∀ (v3 : BitVec 32) (k0_hw2 : k0_chk2 v3), (k0_dev23 v3) < nD := fun v3 k0_hw2 => k0_hw2.1.2.2.2.2.2.2.2.2.2.2.2.1
theorem k0_dev25_lt : ∀ (v3 : BitVec 32) (k0_hw2 : k0_chk2 v3), (k0_dev25 v3) < nD := fun v3 k0_hw2 => k0_hw2.1.2.2.2.2.2.2.2.2.2.2.2.2.1
theorem k0_dev27_lt : ∀ (v3 : BitVec 32) (k0_hw2 : k0_chk2 v3), (k0_dev27 v3) < nD := fun v3 k0_hw2 => k0_hw2.1.2.2.2.2.2.2.2.2.2.2.2.2.2.1
theorem k0_dev29_lt : ∀ (v3 : BitVec 32) (k0_hw2 : k0_chk2 v3), (k0_dev29 v3) < nD := fun v3 k0_hw2 => k0_hw2.1.2.2.2.2.2.2.2.2.2.2.2.2.2.2.1
theorem k0_dev31_lt : ∀ (v3 : BitVec 32) (k0_hw2 : k0_chk2 v3), (k0_dev31 v3) < nD := fun v3 k0_hw2 => k0_hw2.1.2.2.2.2.2.2.2.2.2.2.2.2.2.2.2.1
theorem k0_dev33_lt : ∀ (v3 : BitVec 32) (k0_hw2 : k0_chk2 v3), (k0_dev33 v3) < nD := fun v3 k0_hw2 => k0_hw2.1.2.2.2.2.2.2.2.2.2.2.2.2.2.2.2.2.1
theorem k0_dev35_lt : ∀ (v3 : BitVec 32) (k0_hw2 : k0_chk2 v3), (k0_dev35 v3) < nD := fun v3 k0_hw2 => k0_hw2.1.2.2.2.2.2.2.2.2.2.2.2.2.2.2.2.2.2.1
theorem k0_dev37_lt : ∀ (v3 : BitVec 32) (k0_hw2 : k0_chk2 v3), (k0_dev37 v3) < nD := fun v3 k0_hw2 => k0_hw2.1.2.2.2.2.2.2.2.2.2.2.2.2.2.2.2.2.2.2.1
theorem k0_dev39_lt : ∀ (v3 : BitVec 32) (k0_hw2 : k0_chk2 v3), (k0_dev39 v3) < nD := fun v3 k0_hw2 => k0_hw2.1.2.2.2.2.2.2.2.2.2.2.2.2.2.2.2.2.2.2.2.1
theorem k0_dev41_lt : ∀ (v3 : BitVec 32) (k0_hw2 : k0_chk2 v3), (k0_dev41 v3) < nD := fun v3 k0_hw2 => k0_hw2.1.2.2.2.2.2.2.2.2.2.2.2.2.2.2.2.2.2.2.2.2.1
theorem k0_dev43_lt : ∀ (v3 : BitVec 32) (k0_hw2 : k0_chk2 v3), (k0_dev43 v3) < nD := fun v3 k0_hw2 => k0_hw2.1.2.2.2.2.2.2.2.2.2.2.2.2.2.2.2.2.2.2.2.2.2.1
theorem k0_dev45_lt : ∀ (v3 : BitVec 32) (k0_hw2 : k0_chk2 v3), (k0_dev45 v3) < nD := fun v3 k0_hw2 => k0_hw2.1.2.2.2.2.2.2.2.2.2.2.2.2.2.2.2.2.2.2.2.2.2.2.1
theorem k0_dev47_lt : ∀ (v3 : BitVec 32) (k0_hw2 : k0_chk2 v3), (k0_dev47 v3) < nD := fun v3 k0_hw2 => k0_hw2.1.2.2.2.2.2.2.2.2.2.2.2.2.2.2.2.2.2.2.2.2.2.2.2.1
theorem k0_dev49_lt : ∀ (v3 : BitVec 32) (k0_hw2 : k0_chk2 v3), (k0_dev49 v3) < nD := fun v3 k0_hw2 => k0_hw2.1.2.2.2.2.2.2.2.2.2.2.2.2.2.2.2.2.2.2.2.2.2.2.2.2.1
theorem k0_dev51_lt : ∀ (v3 : BitVec 32) (k0_hw2 : k0_chk2 v3), (k0_dev51 v3) < nD := fun v3 k0_hw2 => k0_hw2.1.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.1.2.2.2.2.2.2.2.2.2.2.2.2.2.2.2.2.2.2.2.2.2.2.2.2.2.2.1
theorem k0_dev55_lt : ∀ (v3 : BitVec 32) (k0_hw2 : k0_chk2 v3), (k0_dev55 v3) < nD := fun v3 k0_hw2 => k0_hw2.1.2.2.2.2.2.2.2.2.2.2.2.2.2.2.2.2.2.2.2.2.2.2.2.2.2.2.2.1
theorem k0_dev57_lt : ∀ (v3 : BitVec 32) (k0_hw2 : k0_chk2 v3), (k0_dev57 v3) < nD := fun v3 k0_hw2 => k0_hw2.1.2.2.2.2.2.2.2.2.2.2.2.2.2.2.2.2.2.2.2.2.2.2.2.2.2.2.2.2.1
theorem k0_dev59_lt : ∀ (v3 : BitVec 32) (k0_hw2 : k0_chk2 v3), (k0_dev59 v3) < nD := fun v3 k0_hw2 => k0_hw2.1.2.2.2.2.2.2.2.2.2.2.2.2.2.2.2.2.2.2.2.2.2.2.2.2.2.2.2.2.2.1
theorem k0_dev61_lt : ∀ (v3 : BitVec 32) (k0_hw2 : k0_chk2 v3), (k0_dev61 v3) < nD := fun v3 k0_hw2 => k0_hw2.1.2.2.2.2.2.2.2.2.2.2.2.2.2.2.2.2.2.2.2.2.2.2.2.2.2.2.2.2.2.2.1
theorem k0_dev63_lt : ∀ (v3 : BitVec 32) (k0_hw2 : k0_chk2 v3), (k0_dev63 v3) < nD := fun v3 k0_hw2 => k0_hw2.1.2.2.2.2.2.2.2.2.2.2.2.2.2.2.2.2.2.2.2.2.2.2.2.2.2.2.2.2.2.2.2
theorem k0_dev65_lt : ∀ (v3 : BitVec 32) (k0_hw2 : k0_chk2 v3), (k0_dev65 v3) < nD := fun v3 k0_hw2 => k0_hw2.2.1
theorem k0_dev67_lt : ∀ (v3 : BitVec 32) (k0_hw2 : k0_chk2 v3), (k0_dev67 v3) < nD := fun v3 k0_hw2 => k0_hw2.2.2.1
theorem k0_dev69_lt : ∀ (v3 : BitVec 32) (k0_hw2 : k0_chk2 v3), (k0_dev69 v3) < nD := fun v3 k0_hw2 => k0_hw2.2.2.2.1
theorem k0_dev71_lt : ∀ (v3 : BitVec 32) (k0_hw2 : k0_chk2 v3), (k0_dev71 v3) < nD := fun v3 k0_hw2 => k0_hw2.2.2.2.2.1
theorem k0_dev73_lt : ∀ (v3 : BitVec 32) (k0_hw2 : k0_chk2 v3), (k0_dev73 v3) < nD := fun v3 k0_hw2 => k0_hw2.2.2.2.2.2.1
theorem k0_dev75_lt : ∀ (v3 : BitVec 32) (k0_hw2 : k0_chk2 v3), (k0_dev75 v3) < nD := fun v3 k0_hw2 => k0_hw2.2.2.2.2.2.2.1
theorem k0_dev77_lt : ∀ (v3 : BitVec 32) (k0_hw2 : k0_chk2 v3), (k0_dev77 v3) < nD := fun v3 k0_hw2 => k0_hw2.2.2.2.2.2.2.2.1
theorem k0_dev79_lt : ∀ (v3 : BitVec 32) (k0_hw2 : k0_chk2 v3), (k0_dev79 v3) < nD := fun v3 k0_hw2 => k0_hw2.2.2.2.2.2.2.2.2.1
theorem k0_dev81_lt : ∀ (v3 : BitVec 32) (k0_hw2 : k0_chk2 v3), (k0_dev81 v3) < nD := fun v3 k0_hw2 => k0_hw2.2.2.2.2.2.2.2.2.2.1
theorem k0_dev83_lt : ∀ (v3 : BitVec 32) (k0_hw2 : k0_chk2 v3), (k0_dev83 v3) < nD := fun v3 k0_hw2 => k0_hw2.2.2.2.2.2.2.2.2.2.2.1
theorem k0_dev85_lt : ∀ (v3 : BitVec 32) (k0_hw2 : k0_chk2 v3), (k0_dev85 v3) < nD := fun v3 k0_hw2 => k0_hw2.2.2.2.2.2.2.2.2.2.2.2.1
theorem k0_dev87_lt : ∀ (v3 : BitVec 32) (k0_hw2 : k0_chk2 v3), (k0_dev87 v3) < nD := fun v3 k0_hw2 => k0_hw2.2.2.2.2.2.2.2.2.2.2.2.2.1
theorem k0_dev89_lt : ∀ (v3 : BitVec 32) (k0_hw2 : k0_chk2 v3), (k0_dev89 v3) < nD := fun v3 k0_hw2 => k0_hw2.2.2.2.2.2.2.2.2.2.2.2.2.2.1
theorem k0_dev91_lt : ∀ (v3 : BitVec 32) (k0_hw2 : k0_chk2 v3), (k0_dev91 v3) < nD := fun v3 k0_hw2 => k0_hw2.2.2.2.2.2.2.2.2.2.2.2.2.2.2.1
theorem k0_dev93_lt : ∀ (v3 : BitVec 32) (k0_hw2 : k0_chk2 v3), (k0_dev93 v3) < nD := fun v3 k0_hw2 => k0_hw2.2.2.2.2.2.2.2.2.2.2.2.2.2.2.2.1
theorem k0_dev95_lt : ∀ (v3 : BitVec 32) (k0_hw2 : k0_chk2 v3), (k0_dev95 v3) < nD := fun v3 k0_hw2 => k0_hw2.2.2.2.2.2.2.2.2.2.2.2.2.2.2.2.2.1
theorem k0_dev97_lt : ∀ (v3 : BitVec 32) (k0_hw2 : k0_chk2 v3), (k0_dev97 v3) < nD := fun v3 k0_hw2 => k0_hw2.2.2.2.2.2.2.2.2.2.2.2.2.2.2.2.2.2.1
theorem k0_dev99_lt : ∀ (v3 : BitVec 32) (k0_hw2 : k0_chk2 v3), (k0_dev99 v3) < nD := fun v3 k0_hw2 => k0_hw2.2.2.2.2.2.2.2.2.2.2.2.2.2.2.2.2.2.2.1
theorem k0_dev101_lt : ∀ (v3 : BitVec 32) (k0_hw2 : k0_chk2 v3), (k0_dev101 v3) < nD := fun v3 k0_hw2 => k0_hw2.2.2.2.2.2.2.2.2.2.2.2.2.2.2.2.2.2.2.2.1
theorem k0_dev103_lt : ∀ (v3 : BitVec 32) (k0_hw2 : k0_chk2 v3), (k0_dev103 v3) < nD := fun v3 k0_hw2 => k0_hw2.2.2.2.2.2.2.2.2.2.2.2.2.2.2.2.2.2.2.2.2.1
theorem k0_dev105_lt : ∀ (v3 : BitVec 32) (k0_hw2 : k0_chk2 v3), (k0_dev105 v3) < nD := fun v3 k0_hw2 => k0_hw2.2.2.2.2.2.2.2.2.2.2.2.2.2.2.2.2.2.2.2.2.2.1
theorem k0_dev107_lt : ∀ (v3 : BitVec 32) (k0_hw2 : k0_chk2 v3), (k0_dev107 v3) < nD := fun v3 k0_hw2 => k0_hw2.2.2.2.2.2.2.2.2.2.2.2.2.2.2.2.2.2.2.2.2.2.2.1
theorem k0_dev109_lt : ∀ (v3 : BitVec 32) (k0_hw2 : k0_chk2 v3), (k0_dev109 v3) < nD := fun v3 k0_hw2 => k0_hw2.2.2.2.2.2.2.2.2.2.2.2.2.2.2.2.2.2.2.2.2.2.2.2.1
theorem k0_dev111_lt : ∀ (v3 : BitVec 32) (k0_hw2 : k0_chk2 v3), (k0_dev111 v3) < nD := fun v3 k0_hw2 => k0_hw2.2.2.2.2.2.2.2.2.2.2.2.2.2.2.2.2.2.2.2.2.2.2.2.2.1
theorem k0_dev113_lt : ∀ (v3 : BitVec 32) (k0_hw2 : k0_chk2 v3), (k0_dev113 v3) < nD := fun v3 k0_hw2 => k0_hw2.2.2.2.2.2.2.2.2.2.2.2.2.2.2.2.2.2.2.2.2.2.2.2.2.2.1
theorem k0_dev115_lt : ∀ (v3 : BitVec 32) (k0_hw2 : k0_chk2 v3), (k0_dev115 v3) < nD := fun v3 k0_hw2 => k0_hw2.2.2.2.2.2.2.2.2.2.2.2.2.2.2.2.2.2.2.2.2.2.2.2.2.2.2.1
theorem k0_dev117_lt : ∀ (v3 : BitVec 32) (k0_hw2 : k0_chk2 v3), (k0_dev117 v3) < nD := fun v3 k0_hw2 => k0_hw2.2.2.2.2.2.2.2.2.2.2.2.2.2.2.2.2.2.2.2.2.2.2.2.2.2.2.2.1
theorem k0_dev119_lt : ∀ (v3 : BitVec 32) (k0_hw2 : k0_chk2 v3), (k0_dev119 v3) < nD := fun v3 k0_hw2 => k0_hw2.2.2.2.2.2.2.2.2.2.2.2.2.2.2.2.2.2.2.2.2.2.2.2.2.2.2.2.2.1
theorem k0_dev121_lt : ∀ (v3 : BitVec 32) (k0_hw2 : k0_chk2 v3), (k0_dev121 v3) < nD := fun v3 k0_hw2 => k0_hw2.2.2.2.2.2.2.2.2.2.2.2.2.2.2.2.2.2.2.2.2.2.2.2.2.2.2.2.2.2.1
theorem k0_dev123_lt : ∀ (v3 : BitVec 32) (k0_hw2 : k0_chk2 v3), (k0_dev123 v3) < nD := fun v3 k0_hw2 => k0_hw2.2.2.2.2.2.2.2.2.2.2.2.2.2.2.2.2.2.2.2.2.2.2.2.2.2.2.2.2.2.2.1
theorem k0_dev124_lt : ∀ (v3 : BitVec 32) (k0_hw2 : k0_chk2 v3), (k0_dev124 v3) < nD := fun v3 k0_hw2 => k0_hw2.2.2.2.2.2.2.2.2.2.2.2.2.2.2.2.2.2.2.2.2.2.2.2.2.2.2.2.2.2.2.2

def k0_off524 (v3483 : BitVec 32) : Fin 2 → Nat :=
  let c128_i32_3541 : BitVec 32 := 128#32
  let v3484 : BitVec 32 := Scalar.muli v3483 c128_i32_3541
  let c32_i32_3542 : BitVec 32 := 32#32
  let v3485 : BitVec 32 := Scalar.addi v3484 c32_i32_3542
  let c0_i32_3549 : BitVec 32 := 0#32
  ![v3485.toNat, 0]

def k0_off525 (v3480 : BitVec 32) : Fin 2 → Nat :=
  let c128_i32_3538 : BitVec 32 := 128#32
  let v3481 : BitVec 32 := Scalar.muli v3480 c128_i32_3538
  let c32_i32_3539 : BitVec 32 := 32#32
  let v3482 : BitVec 32 := Scalar.addi v3481 c32_i32_3539
  let c0_i32_3550 : BitVec 32 := 0#32
  ![v3482.toNat, 0]

def k0_chk526 (v3480 : BitVec 32) : Prop :=
  (∀ a, (k0_off525 v3480) a + S32x4096.size a ≤ S4096x4096.size a) ∧
  (∀ (hinb : ∀ a, (k0_off525 v3480) a + S32x4096.size a ≤ S4096x4096.size a), (Rect.unit (s := S4096x4096) (k0_off525 v3480) S32x4096.size hinb).WholeWords (EltTy.packing .i8))
theorem k0_off525_inb : ∀ (v3480 : BitVec 32) (k0_hw526 : k0_chk526 v3480), ∀ a, (k0_off525 v3480) a + S32x4096.size a ≤ S4096x4096.size a := fun v3480 k0_hw526 => k0_hw526.1
theorem k0_off525_wordsi8 : ∀ (v3480 : BitVec 32) (k0_hw526 : k0_chk526 v3480), (Rect.unit (s := S4096x4096) (k0_off525 v3480) S32x4096.size (k0_off525_inb v3480 k0_hw526)).WholeWords (EltTy.packing .i8) := fun v3480 k0_hw526 => k0_hw526.2 (k0_off525_inb v3480 k0_hw526)

def k0_chk525 (v3483 : BitVec 32) : Prop :=
  (∀ a, (k0_off524 v3483) a + S32x4096.size a ≤ S4096x4096.size a) ∧
  (∀ (hinb : ∀ a, (k0_off524 v3483) a + S32x4096.size a ≤ S4096x4096.size a), (Rect.unit (s := S4096x4096) (k0_off524 v3483) S32x4096.size hinb).WholeWords (EltTy.packing .i8))
theorem k0_off524_inb : ∀ (v3483 : BitVec 32) (k0_hw525 : k0_chk525 v3483), ∀ a, (k0_off524 v3483) a + S32x4096.size a ≤ S4096x4096.size a := fun v3483 k0_hw525 => k0_hw525.1
theorem k0_off524_wordsi8 : ∀ (v3483 : BitVec 32) (k0_hw525 : k0_chk525 v3483), (Rect.unit (s := S4096x4096) (k0_off524 v3483) S32x4096.size (k0_off524_inb v3483 k0_hw525)).WholeWords (EltTy.packing .i8) := fun v3483 k0_hw525 => k0_hw525.2 (k0_off524_inb v3483 k0_hw525)

def k0_off526 (v3495 : BitVec 32) : Fin 2 → Nat :=
  let c128_i32_3555 : BitVec 32 := 128#32
  let v3496 : BitVec 32 := Scalar.muli v3495 c128_i32_3555
  let c64_i32_3556 : BitVec 32 := 64#32
  let v3497 : BitVec 32 := Scalar.addi v3496 c64_i32_3556
  let c0_i32_3563 : BitVec 32 := 0#32
  ![v3497.toNat, 0]

def k0_off527 (v3492 : BitVec 32) : Fin 2 → Nat :=
  let c128_i32_3552 : BitVec 32 := 128#32
  let v3493 : BitVec 32 := Scalar.muli v3492 c128_i32_3552
  let c64_i32_3553 : BitVec 32 := 64#32
  let v3494 : BitVec 32 := Scalar.addi v3493 c64_i32_3553
  let c0_i32_3564 : BitVec 32 := 0#32
  ![v3494.toNat, 0]

def k0_chk528 (v3492 : BitVec 32) : Prop :=
  (∀ a, (k0_off527 v3492) a + S32x4096.size a ≤ S4096x4096.size a) ∧
  (∀ (hinb : ∀ a, (k0_off527 v3492) a + S32x4096.size a ≤ S4096x4096.size a), (Rect.unit (s := S4096x4096) (k0_off527 v3492) S32x4096.size hinb).WholeWords (EltTy.packing .i8))
theorem k0_off527_inb : ∀ (v3492 : BitVec 32) (k0_hw528 : k0_chk528 v3492), ∀ a, (k0_off527 v3492) a + S32x4096.size a ≤ S4096x4096.size a := fun v3492 k0_hw528 => k0_hw528.1
theorem k0_off527_wordsi8 : ∀ (v3492 : BitVec 32) (k0_hw528 : k0_chk528 v3492), (Rect.unit (s := S4096x4096) (k0_off527 v3492) S32x4096.size (k0_off527_inb v3492 k0_hw528)).WholeWords (EltTy.packing .i8) := fun v3492 k0_hw528 => k0_hw528.2 (k0_off527_inb v3492 k0_hw528)

def k0_chk527 (v3495 : BitVec 32) : Prop :=
  (∀ a, (k0_off526 v3495) a + S32x4096.size a ≤ S4096x4096.size a) ∧
  (∀ (hinb : ∀ a, (k0_off526 v3495) a + S32x4096.size a ≤ S4096x4096.size a), (Rect.unit (s := S4096x4096) (k0_off526 v3495) S32x4096.size hinb).WholeWords (EltTy.packing .i8))
theorem k0_off526_inb : ∀ (v3495 : BitVec 32) (k0_hw527 : k0_chk527 v3495), ∀ a, (k0_off526 v3495) a + S32x4096.size a ≤ S4096x4096.size a := fun v3495 k0_hw527 => k0_hw527.1
theorem k0_off526_wordsi8 : ∀ (v3495 : BitVec 32) (k0_hw527 : k0_chk527 v3495), (Rect.unit (s := S4096x4096) (k0_off526 v3495) S32x4096.size (k0_off526_inb v3495 k0_hw527)).WholeWords (EltTy.packing .i8) := fun v3495 k0_hw527 => k0_hw527.2 (k0_off526_inb v3495 k0_hw527)

def k0_off528 (v3507 : BitVec 32) : Fin 2 → Nat :=
  let c128_i32_3569 : BitVec 32 := 128#32
  let v3508 : BitVec 32 := Scalar.muli v3507 c128_i32_3569
  let c64_i32_3570 : BitVec 32 := 64#32
  let v3509 : BitVec 32 := Scalar.addi v3508 c64_i32_3570
  let c0_i32_3577 : BitVec 32 := 0#32
  ![v3509.toNat, 0]

def k0_off529 (v3504 : BitVec 32) : Fin 2 → Nat :=
  let c128_i32_3566 : BitVec 32 := 128#32
  let v3505 : BitVec 32 := Scalar.muli v3504 c128_i32_3566
  let c64_i32_3567 : BitVec 32 := 64#32
  let v3506 : BitVec 32 := Scalar.addi v3505 c64_i32_3567
  let c0_i32_3578 : BitVec 32 := 0#32
  ![v3506.toNat, 0]

def k0_chk530 (v3504 : BitVec 32) : Prop :=
  (∀ a, (k0_off529 v3504) a + S32x4096.size a ≤ S4096x4096.size a) ∧
  (∀ (hinb : ∀ a, (k0_off529 v3504) a + S32x4096.size a ≤ S4096x4096.size a), (Rect.unit (s := S4096x4096) (k0_off529 v3504) S32x4096.size hinb).WholeWords (EltTy.packing .i8))
theorem k0_off529_inb : ∀ (v3504 : BitVec 32) (k0_hw530 : k0_chk530 v3504), ∀ a, (k0_off529 v3504) a + S32x4096.size a ≤ S4096x4096.size a := fun v3504 k0_hw530 => k0_hw530.1
theorem k0_off529_wordsi8 : ∀ (v3504 : BitVec 32) (k0_hw530 : k0_chk530 v3504), (Rect.unit (s := S4096x4096) (k0_off529 v3504) S32x4096.size (k0_off529_inb v3504 k0_hw530)).WholeWords (EltTy.packing .i8) := fun v3504 k0_hw530 => k0_hw530.2 (k0_off529_inb v3504 k0_hw530)

def k0_chk529 (v3507 : BitVec 32) : Prop :=
  (∀ a, (k0_off528 v3507) a + S32x4096.size a ≤ S4096x4096.size a) ∧
  (∀ (hinb : ∀ a, (k0_off528 v3507) a + S32x4096.size a ≤ S4096x4096.size a), (Rect.unit (s := S4096x4096) (k0_off528 v3507) S32x4096.size hinb).WholeWords (EltTy.packing .i8))
theorem k0_off528_inb : ∀ (v3507 : BitVec 32) (k0_hw529 : k0_chk529 v3507), ∀ a, (k0_off528 v3507) a + S32x4096.size a ≤ S4096x4096.size a := fun v3507 k0_hw529 => k0_hw529.1
theorem k0_off528_wordsi8 : ∀ (v3507 : BitVec 32) (k0_hw529 : k0_chk529 v3507), (Rect.unit (s := S4096x4096) (k0_off528 v3507) S32x4096.size (k0_off528_inb v3507 k0_hw529)).WholeWords (EltTy.packing .i8) := fun v3507 k0_hw529 => k0_hw529.2 (k0_off528_inb v3507 k0_hw529)

def k0_off530 (v3519 : BitVec 32) : Fin 2 → Nat :=
  let c128_i32_3583 : BitVec 32 := 128#32
  let v3520 : BitVec 32 := Scalar.muli v3519 c128_i32_3583
  let c64_i32_3584 : BitVec 32 := 64#32
  let v3521 : BitVec 32 := Scalar.addi v3520 c64_i32_3584
  let c0_i32_3591 : BitVec 32 := 0#32
  ![v3521.toNat, 0]

def k0_off531 (v3516 : BitVec 32) : Fin 2 → Nat :=
  let c128_i32_3580 : BitVec 32 := 128#32
  let v3517 : BitVec 32 := Scalar.muli v3516 c128_i32_3580
  let c64_i32_3581 : BitVec 32 := 64#32
  let v3518 : BitVec 32 := Scalar.addi v3517 c64_i32_3581
  let c0_i32_3592 : BitVec 32 := 0#32
  ![v3518.toNat, 0]

def k0_chk532 (v3516 : BitVec 32) : Prop :=
  (∀ a, (k0_off531 v3516) a + S32x4096.size a ≤ S4096x4096.size a) ∧
  (∀ (hinb : ∀ a, (k0_off531 v3516) a + S32x4096.size a ≤ S4096x4096.size a), (Rect.unit (s := S4096x4096) (k0_off531 v3516) S32x4096.size hinb).WholeWords (EltTy.packing .i8))
theorem k0_off531_inb : ∀ (v3516 : BitVec 32) (k0_hw532 : k0_chk532 v3516), ∀ a, (k0_off531 v3516) a + S32x4096.size a ≤ S4096x4096.size a := fun v3516 k0_hw532 => k0_hw532.1
theorem k0_off531_wordsi8 : ∀ (v3516 : BitVec 32) (k0_hw532 : k0_chk532 v3516), (Rect.unit (s := S4096x4096) (k0_off531 v3516) S32x4096.size (k0_off531_inb v3516 k0_hw532)).WholeWords (EltTy.packing .i8) := fun v3516 k0_hw532 => k0_hw532.2 (k0_off531_inb v3516 k0_hw532)

def k0_chk531 (v3519 : BitVec 32) : Prop :=
  (∀ a, (k0_off530 v3519) a + S32x4096.size a ≤ S4096x4096.size a) ∧
  (∀ (hinb : ∀ a, (k0_off530 v3519) a + S32x4096.size a ≤ S4096x4096.size a), (Rect.unit (s := S4096x4096) (k0_off530 v3519) S32x4096.size hinb).WholeWords (EltTy.packing .i8))
theorem k0_off530_inb : ∀ (v3519 : BitVec 32) (k0_hw531 : k0_chk531 v3519), ∀ a, (k0_off530 v3519) a + S32x4096.size a ≤ S4096x4096.size a := fun v3519 k0_hw531 => k0_hw531.1
theorem k0_off530_wordsi8 : ∀ (v3519 : BitVec 32) (k0_hw531 : k0_chk531 v3519), (Rect.unit (s := S4096x4096) (k0_off530 v3519) S32x4096.size (k0_off530_inb v3519 k0_hw531)).WholeWords (EltTy.packing .i8) := fun v3519 k0_hw531 => k0_hw531.2 (k0_off530_inb v3519 k0_hw531)

def k0_dev125 (v4 : BitVec 32) : Nat :=
  let c0_i32_3590 : BitVec 32 := 0#32
  let c1_i32_3589 : BitVec 32 := 1#32
  let v3522 : BitVec 32 := Scalar.muli v4 c1_i32_3589
  let v3523 : BitVec 32 := Scalar.addi c0_i32_3590 v3522
  v3523.toNat
def k0_off532 (v3533 : BitVec 32) : Fin 2 → Nat :=
  let c128_i32_3597 : BitVec 32 := 128#32
  let v3534 : BitVec 32 := Scalar.muli v3533 c128_i32_3597
  let c96_i32_3598 : BitVec 32 := 96#32
  let v3535 : BitVec 32 := Scalar.addi v3534 c96_i32_3598
  let c0_i32_3605 : BitVec 32 := 0#32
  ![v3535.toNat, 0]

def k0_off533 (v3530 : BitVec 32) : Fin 2 → Nat :=
  let c128_i32_3594 : BitVec 32 := 128#32
  let v3531 : BitVec 32 := Scalar.muli v3530 c128_i32_3594
  let c96_i32_3595 : BitVec 32 := 96#32
  let v3532 : BitVec 32 := Scalar.addi v3531 c96_i32_3595
  let c0_i32_3606 : BitVec 32 := 0#32
  ![v3532.toNat, 0]

def k0_chk534 (v3530 : BitVec 32) : Prop :=
  (∀ a, (k0_off533 v3530) a + S32x4096.size a ≤ S4096x4096.size a) ∧
  (∀ (hinb : ∀ a, (k0_off533 v3530) a + S32x4096.size a ≤ S4096x4096.size a), (Rect.unit (s := S4096x4096) (k0_off533 v3530) S32x4096.size hinb).WholeWords (EltTy.packing .i8))
theorem k0_off533_inb : ∀ (v3530 : BitVec 32) (k0_hw534 : k0_chk534 v3530), ∀ a, (k0_off533 v3530) a + S32x4096.size a ≤ S4096x4096.size a := fun v3530 k0_hw534 => k0_hw534.1
theorem k0_off533_wordsi8 : ∀ (v3530 : BitVec 32) (k0_hw534 : k0_chk534 v3530), (Rect.unit (s := S4096x4096) (k0_off533 v3530) S32x4096.size (k0_off533_inb v3530 k0_hw534)).WholeWords (EltTy.packing .i8) := fun v3530 k0_hw534 => k0_hw534.2 (k0_off533_inb v3530 k0_hw534)

def k0_chk533 (v3533 : BitVec 32) : Prop :=
  (∀ a, (k0_off532 v3533) a + S32x4096.size a ≤ S4096x4096.size a) ∧
  (∀ (hinb : ∀ a, (k0_off532 v3533) a + S32x4096.size a ≤ S4096x4096.size a), (Rect.unit (s := S4096x4096) (k0_off532 v3533) S32x4096.size hinb).WholeWords (EltTy.packing .i8))
theorem k0_off532_inb : ∀ (v3533 : BitVec 32) (k0_hw533 : k0_chk533 v3533), ∀ a, (k0_off532 v3533) a + S32x4096.size a ≤ S4096x4096.size a := fun v3533 k0_hw533 => k0_hw533.1
theorem k0_off532_wordsi8 : ∀ (v3533 : BitVec 32) (k0_hw533 : k0_chk533 v3533), (Rect.unit (s := S4096x4096) (k0_off532 v3533) S32x4096.size (k0_off532_inb v3533 k0_hw533)).WholeWords (EltTy.packing .i8) := fun v3533 k0_hw533 => k0_hw533.2 (k0_off532_inb v3533 k0_hw533)

def k0_off534 (v3545 : BitVec 32) : Fin 2 → Nat :=
  let c128_i32_3611 : BitVec 32 := 128#32
  let v3546 : BitVec 32 := Scalar.muli v3545 c128_i32_3611
  let c96_i32_3612 : BitVec 32 := 96#32
  let v3547 : BitVec 32 := Scalar.addi v3546 c96_i32_3612
  let c0_i32_3619 : BitVec 32 := 0#32
  ![v3547.toNat, 0]

def k0_off535 (v3542 : BitVec 32) : Fin 2 → Nat :=
  let c128_i32_3608 : BitVec 32 := 128#32
  let v3543 : BitVec 32 := Scalar.muli v3542 c128_i32_3608
  let c96_i32_3609 : BitVec 32 := 96#32
  let v3544 : BitVec 32 := Scalar.addi v3543 c96_i32_3609
  let c0_i32_3620 : BitVec 32 := 0#32
  ![v3544.toNat, 0]

def k0_chk536 (v3542 : BitVec 32) : Prop :=
  (∀ a, (k0_off535 v3542) a + S32x4096.size a ≤ S4096x4096.size a) ∧
  (∀ (hinb : ∀ a, (k0_off535 v3542) a + S32x4096.size a ≤ S4096x4096.size a), (Rect.unit (s := S4096x4096) (k0_off535 v3542) S32x4096.size hinb).WholeWords (EltTy.packing .i8))
theorem k0_off535_inb : ∀ (v3542 : BitVec 32) (k0_hw536 : k0_chk536 v3542), ∀ a, (k0_off535 v3542) a + S32x4096.size a ≤ S4096x4096.size a := fun v3542 k0_hw536 => k0_hw536.1
theorem k0_off535_wordsi8 : ∀ (v3542 : BitVec 32) (k0_hw536 : k0_chk536 v3542), (Rect.unit (s := S4096x4096) (k0_off535 v3542) S32x4096.size (k0_off535_inb v3542 k0_hw536)).WholeWords (EltTy.packing .i8) := fun v3542 k0_hw536 => k0_hw536.2 (k0_off535_inb v3542 k0_hw536)

def k0_chk535 (v3545 : BitVec 32) : Prop :=
  (∀ a, (k0_off534 v3545) a + S32x4096.size a ≤ S4096x4096.size a) ∧
  (∀ (hinb : ∀ a, (k0_off534 v3545) a + S32x4096.size a ≤ S4096x4096.size a), (Rect.unit (s := S4096x4096) (k0_off534 v3545) S32x4096.size hinb).WholeWords (EltTy.packing .i8))
theorem k0_off534_inb : ∀ (v3545 : BitVec 32) (k0_hw535 : k0_chk535 v3545), ∀ a, (k0_off534 v3545) a + S32x4096.size a ≤ S4096x4096.size a := fun v3545 k0_hw535 => k0_hw535.1
theorem k0_off534_wordsi8 : ∀ (v3545 : BitVec 32) (k0_hw535 : k0_chk535 v3545), (Rect.unit (s := S4096x4096) (k0_off534 v3545) S32x4096.size (k0_off534_inb v3545 k0_hw535)).WholeWords (EltTy.packing .i8) := fun v3545 k0_hw535 => k0_hw535.2 (k0_off534_inb v3545 k0_hw535)

def k0_off536 (v3557 : BitVec 32) : Fin 2 → Nat :=
  let c128_i32_3625 : BitVec 32 := 128#32
  let v3558 : BitVec 32 := Scalar.muli v3557 c128_i32_3625
  let c96_i32_3626 : BitVec 32 := 96#32
  let v3559 : BitVec 32 := Scalar.addi v3558 c96_i32_3626
  let c0_i32_3633 : BitVec 32 := 0#32
  ![v3559.toNat, 0]

def k0_off537 (v3554 : BitVec 32) : Fin 2 → Nat :=
  let c128_i32_3622 : BitVec 32 := 128#32
  let v3555 : BitVec 32 := Scalar.muli v3554 c128_i32_3622
  let c96_i32_3623 : BitVec 32 := 96#32
  let v3556 : BitVec 32 := Scalar.addi v3555 c96_i32_3623
  let c0_i32_3634 : BitVec 32 := 0#32
  ![v3556.toNat, 0]

def k0_chk538 (v3554 : BitVec 32) : Prop :=
  (∀ a, (k0_off537 v3554) a + S32x4096.size a ≤ S4096x4096.size a) ∧
  (∀ (hinb : ∀ a, (k0_off537 v3554) a + S32x4096.size a ≤ S4096x4096.size a), (Rect.unit (s := S4096x4096) (k0_off537 v3554) S32x4096.size hinb).WholeWords (EltTy.packing .i8))
theorem k0_off537_inb : ∀ (v3554 : BitVec 32) (k0_hw538 : k0_chk538 v3554), ∀ a, (k0_off537 v3554) a + S32x4096.size a ≤ S4096x4096.size a := fun v3554 k0_hw538 => k0_hw538.1
theorem k0_off537_wordsi8 : ∀ (v3554 : BitVec 32) (k0_hw538 : k0_chk538 v3554), (Rect.unit (s := S4096x4096) (k0_off537 v3554) S32x4096.size (k0_off537_inb v3554 k0_hw538)).WholeWords (EltTy.packing .i8) := fun v3554 k0_hw538 => k0_hw538.2 (k0_off537_inb v3554 k0_hw538)

def k0_chk537 (v3557 : BitVec 32) : Prop :=
  (∀ a, (k0_off536 v3557) a + S32x4096.size a ≤ S4096x4096.size a) ∧
  (∀ (hinb : ∀ a, (k0_off536 v3557) a + S32x4096.size a ≤ S4096x4096.size a), (Rect.unit (s := S4096x4096) (k0_off536 v3557) S32x4096.size hinb).WholeWords (EltTy.packing .i8))
theorem k0_off536_inb : ∀ (v3557 : BitVec 32) (k0_hw537 : k0_chk537 v3557), ∀ a, (k0_off536 v3557) a + S32x4096.size a ≤ S4096x4096.size a := fun v3557 k0_hw537 => k0_hw537.1
theorem k0_off536_wordsi8 : ∀ (v3557 : BitVec 32) (k0_hw537 : k0_chk537 v3557), (Rect.unit (s := S4096x4096) (k0_off536 v3557) S32x4096.size (k0_off536_inb v3557 k0_hw537)).WholeWords (EltTy.packing .i8) := fun v3557 k0_hw537 => k0_hw537.2 (k0_off536_inb v3557 k0_hw537)

def k0_dev126 (v4 : BitVec 32) : Nat :=
  let c0_i32_3632 : BitVec 32 := 0#32
  let c1_i32_3631 : BitVec 32 := 1#32
  let v3560 : BitVec 32 := Scalar.muli v4 c1_i32_3631
  let v3561 : BitVec 32 := Scalar.addi c0_i32_3632 v3560
  v3561.toNat

def k0_chk1_0 (v4 : BitVec 32) : Prop :=
  ((k0_dev1 v4) < nD) ∧
  ((k0_dev7 v4) < nD) ∧
  ((k0_dev8 v4) < nD) ∧
  ((k0_dev9 v4) < nD) ∧
  ((k0_dev10 v4) < nD) ∧
  ((k0_dev12 v4) < nD) ∧
  ((k0_dev14 v4) < nD) ∧
  ((k0_dev16 v4) < nD) ∧
  ((k0_dev18 v4) < nD) ∧
  ((k0_dev20 v4) < nD) ∧
  ((k0_dev22 v4) < nD) ∧
  ((k0_dev24 v4) < nD) ∧
  ((k0_dev26 v4) < nD) ∧
  ((k0_dev28 v4) < nD) ∧
  ((k0_dev30 v4) < nD) ∧
  ((k0_dev32 v4) < nD) ∧
  ((k0_dev34 v4) < nD) ∧
  ((k0_dev36 v4) < nD) ∧
  ((k0_dev38 v4) < nD) ∧
  ((k0_dev40 v4) < nD) ∧
  ((k0_dev42 v4) < nD) ∧
  ((k0_dev44 v4) < nD) ∧
  ((k0_dev46 v4) < nD) ∧
  ((k0_dev48 v4) < nD) ∧
  ((k0_dev50 v4) < nD) ∧
  ((k0_dev52 v4) < nD) ∧
  ((k0_dev54 v4) < nD) ∧
  ((k0_dev56 v4) < nD) ∧
  ((k0_dev58 v4) < nD) ∧
  ((k0_dev60 v4) < nD) ∧
  ((k0_dev62 v4) < nD) ∧
  ((k0_dev64 v4) < nD)
def k0_chk1_1 (v4 : BitVec 32) : Prop :=
  ((k0_dev66 v4) < nD) ∧
  ((k0_dev68 v4) < nD) ∧
  ((k0_dev70 v4) < nD) ∧
  ((k0_dev72 v4) < nD) ∧
  ((k0_dev74 v4) < nD) ∧
  ((k0_dev76 v4) < nD) ∧
  ((k0_dev78 v4) < nD) ∧
  ((k0_dev80 v4) < nD) ∧
  ((k0_dev82 v4) < nD) ∧
  ((k0_dev84 v4) < nD) ∧
  ((k0_dev86 v4) < nD) ∧
  ((k0_dev88 v4) < nD) ∧
  ((k0_dev90 v4) < nD) ∧
  ((k0_dev92 v4) < nD) ∧
  ((k0_dev94 v4) < nD) ∧
  ((k0_dev96 v4) < nD) ∧
  ((k0_dev98 v4) < nD) ∧
  ((k0_dev100 v4) < nD) ∧
  ((k0_dev102 v4) < nD) ∧
  ((k0_dev104 v4) < nD) ∧
  ((k0_dev106 v4) < nD) ∧
  ((k0_dev108 v4) < nD) ∧
  ((k0_dev110 v4) < nD) ∧
  ((k0_dev112 v4) < nD) ∧
  ((k0_dev114 v4) < nD) ∧
  ((k0_dev116 v4) < nD) ∧
  ((k0_dev118 v4) < nD) ∧
  ((k0_dev120 v4) < nD) ∧
  ((k0_dev122 v4) < nD) ∧
  ((k0_dev125 v4) < nD) ∧
  ((k0_dev126 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev7_lt : ∀ (v4 : BitVec 32) (k0_hw1 : k0_chk1 v4), (k0_dev7 v4) < nD := fun v4 k0_hw1 => k0_hw1.1.2.1
theorem k0_dev8_lt : ∀ (v4 : BitVec 32) (k0_hw1 : k0_chk1 v4), (k0_dev8 v4) < nD := fun v4 k0_hw1 => k0_hw1.1.2.2.1
theorem k0_dev9_lt : ∀ (v4 : BitVec 32) (k0_hw1 : k0_chk1 v4), (k0_dev9 v4) < nD := fun v4 k0_hw1 => k0_hw1.1.2.2.2.1
theorem k0_dev10_lt : ∀ (v4 : BitVec 32) (k0_hw1 : k0_chk1 v4), (k0_dev10 v4) < nD := fun v4 k0_hw1 => k0_hw1.1.2.2.2.2.1
theorem k0_dev12_lt : ∀ (v4 : BitVec 32) (k0_hw1 : k0_chk1 v4), (k0_dev12 v4) < nD := fun v4 k0_hw1 => k0_hw1.1.2.2.2.2.2.1
theorem k0_dev14_lt : ∀ (v4 : BitVec 32) (k0_hw1 : k0_chk1 v4), (k0_dev14 v4) < nD := fun v4 k0_hw1 => k0_hw1.1.2.2.2.2.2.2.1
theorem k0_dev16_lt : ∀ (v4 : BitVec 32) (k0_hw1 : k0_chk1 v4), (k0_dev16 v4) < nD := fun v4 k0_hw1 => k0_hw1.1.2.2.2.2.2.2.2.1
theorem k0_dev18_lt : ∀ (v4 : BitVec 32) (k0_hw1 : k0_chk1 v4), (k0_dev18 v4) < nD := fun v4 k0_hw1 => k0_hw1.1.2.2.2.2.2.2.2.2.1
theorem k0_dev20_lt : ∀ (v4 : BitVec 32) (k0_hw1 : k0_chk1 v4), (k0_dev20 v4) < nD := fun v4 k0_hw1 => k0_hw1.1.2.2.2.2.2.2.2.2.2.1
theorem k0_dev22_lt : ∀ (v4 : BitVec 32) (k0_hw1 : k0_chk1 v4), (k0_dev22 v4) < nD := fun v4 k0_hw1 => k0_hw1.1.2.2.2.2.2.2.2.2.2.2.1
theorem k0_dev24_lt : ∀ (v4 : BitVec 32) (k0_hw1 : k0_chk1 v4), (k0_dev24 v4) < nD := fun v4 k0_hw1 => k0_hw1.1.2.2.2.2.2.2.2.2.2.2.2.1
theorem k0_dev26_lt : ∀ (v4 : BitVec 32) (k0_hw1 : k0_chk1 v4), (k0_dev26 v4) < nD := fun v4 k0_hw1 => k0_hw1.1.2.2.2.2.2.2.2.2.2.2.2.2.1
theorem k0_dev28_lt : ∀ (v4 : BitVec 32) (k0_hw1 : k0_chk1 v4), (k0_dev28 v4) < nD := fun v4 k0_hw1 => k0_hw1.1.2.2.2.2.2.2.2.2.2.2.2.2.2.1
theorem k0_dev30_lt : ∀ (v4 : BitVec 32) (k0_hw1 : k0_chk1 v4), (k0_dev30 v4) < nD := fun v4 k0_hw1 => k0_hw1.1.2.2.2.2.2.2.2.2.2.2.2.2.2.2.1
theorem k0_dev32_lt : ∀ (v4 : BitVec 32) (k0_hw1 : k0_chk1 v4), (k0_dev32 v4) < nD := fun v4 k0_hw1 => k0_hw1.1.2.2.2.2.2.2.2.2.2.2.2.2.2.2.2.1
theorem k0_dev34_lt : ∀ (v4 : BitVec 32) (k0_hw1 : k0_chk1 v4), (k0_dev34 v4) < nD := fun v4 k0_hw1 => k0_hw1.1.2.2.2.2.2.2.2.2.2.2.2.2.2.2.2.2.1
theorem k0_dev36_lt : ∀ (v4 : BitVec 32) (k0_hw1 : k0_chk1 v4), (k0_dev36 v4) < nD := fun v4 k0_hw1 => k0_hw1.1.2.2.2.2.2.2.2.2.2.2.2.2.2.2.2.2.2.1
theorem k0_dev38_lt : ∀ (v4 : BitVec 32) (k0_hw1 : k0_chk1 v4), (k0_dev38 v4) < nD := fun v4 k0_hw1 => k0_hw1.1.2.2.2.2.2.2.2.2.2.2.2.2.2.2.2.2.2.2.1
theorem k0_dev40_lt : ∀ (v4 : BitVec 32) (k0_hw1 : k0_chk1 v4), (k0_dev40 v4) < nD := fun v4 k0_hw1 => k0_hw1.1.2.2.2.2.2.2.2.2.2.2.2.2.2.2.2.2.2.2.2.1
theorem k0_dev42_lt : ∀ (v4 : BitVec 32) (k0_hw1 : k0_chk1 v4), (k0_dev42 v4) < nD := fun v4 k0_hw1 => k0_hw1.1.2.2.2.2.2.2.2.2.2.2.2.2.2.2.2.2.2.2.2.2.1
theorem k0_dev44_lt : ∀ (v4 : BitVec 32) (k0_hw1 : k0_chk1 v4), (k0_dev44 v4) < nD := fun v4 k0_hw1 => k0_hw1.1.2.2.2.2.2.2.2.2.2.2.2.2.2.2.2.2.2.2.2.2.2.1
theorem k0_dev46_lt : ∀ (v4 : BitVec 32) (k0_hw1 : k0_chk1 v4), (k0_dev46 v4) < nD := fun v4 k0_hw1 => k0_hw1.1.2.2.2.2.2.2.2.2.2.2.2.2.2.2.2.2.2.2.2.2.2.2.1
theorem k0_dev48_lt : ∀ (v4 : BitVec 32) (k0_hw1 : k0_chk1 v4), (k0_dev48 v4) < nD := fun v4 k0_hw1 => k0_hw1.1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.1.2.2.2.2.2.2.2.2.2.2.2.2.2.2.2.2.2.2.2.2.2.2.2.2.1
theorem k0_dev52_lt : ∀ (v4 : BitVec 32) (k0_hw1 : k0_chk1 v4), (k0_dev52 v4) < nD := fun v4 k0_hw1 => k0_hw1.1.2.2.2.2.2.2.2.2.2.2.2.2.2.2.2.2.2.2.2.2.2.2.2.2.2.1
theorem k0_dev54_lt : ∀ (v4 : BitVec 32) (k0_hw1 : k0_chk1 v4), (k0_dev54 v4) < nD := fun v4 k0_hw1 => k0_hw1.1.2.2.2.2.2.2.2.2.2.2.2.2.2.2.2.2.2.2.2.2.2.2.2.2.2.2.1
theorem k0_dev56_lt : ∀ (v4 : BitVec 32) (k0_hw1 : k0_chk1 v4), (k0_dev56 v4) < nD := fun v4 k0_hw1 => k0_hw1.1.2.2.2.2.2.2.2.2.2.2.2.2.2.2.2.2.2.2.2.2.2.2.2.2.2.2.2.1
theorem k0_dev58_lt : ∀ (v4 : BitVec 32) (k0_hw1 : k0_chk1 v4), (k0_dev58 v4) < nD := fun v4 k0_hw1 => k0_hw1.1.2.2.2.2.2.2.2.2.2.2.2.2.2.2.2.2.2.2.2.2.2.2.2.2.2.2.2.2.1
theorem k0_dev60_lt : ∀ (v4 : BitVec 32) (k0_hw1 : k0_chk1 v4), (k0_dev60 v4) < nD := fun v4 k0_hw1 => k0_hw1.1.2.2.2.2.2.2.2.2.2.2.2.2.2.2.2.2.2.2.2.2.2.2.2.2.2.2.2.2.2.1
theorem k0_dev62_lt : ∀ (v4 : BitVec 32) (k0_hw1 : k0_chk1 v4), (k0_dev62 v4) < nD := fun v4 k0_hw1 => k0_hw1.1.2.2.2.2.2.2.2.2.2.2.2.2.2.2.2.2.2.2.2.2.2.2.2.2.2.2.2.2.2.2.1
theorem k0_dev64_lt : ∀ (v4 : BitVec 32) (k0_hw1 : k0_chk1 v4), (k0_dev64 v4) < nD := fun v4 k0_hw1 => k0_hw1.1.2.2.2.2.2.2.2.2.2.2.2.2.2.2.2.2.2.2.2.2.2.2.2.2.2.2.2.2.2.2.2
theorem k0_dev66_lt : ∀ (v4 : BitVec 32) (k0_hw1 : k0_chk1 v4), (k0_dev66 v4) < nD := fun v4 k0_hw1 => k0_hw1.2.1
theorem k0_dev68_lt : ∀ (v4 : BitVec 32) (k0_hw1 : k0_chk1 v4), (k0_dev68 v4) < nD := fun v4 k0_hw1 => k0_hw1.2.2.1
theorem k0_dev70_lt : ∀ (v4 : BitVec 32) (k0_hw1 : k0_chk1 v4), (k0_dev70 v4) < nD := fun v4 k0_hw1 => k0_hw1.2.2.2.1
theorem k0_dev72_lt : ∀ (v4 : BitVec 32) (k0_hw1 : k0_chk1 v4), (k0_dev72 v4) < nD := fun v4 k0_hw1 => k0_hw1.2.2.2.2.1
theorem k0_dev74_lt : ∀ (v4 : BitVec 32) (k0_hw1 : k0_chk1 v4), (k0_dev74 v4) < nD := fun v4 k0_hw1 => k0_hw1.2.2.2.2.2.1
theorem k0_dev76_lt : ∀ (v4 : BitVec 32) (k0_hw1 : k0_chk1 v4), (k0_dev76 v4) < nD := fun v4 k0_hw1 => k0_hw1.2.2.2.2.2.2.1
theorem k0_dev78_lt : ∀ (v4 : BitVec 32) (k0_hw1 : k0_chk1 v4), (k0_dev78 v4) < nD := fun v4 k0_hw1 => k0_hw1.2.2.2.2.2.2.2.1
theorem k0_dev80_lt : ∀ (v4 : BitVec 32) (k0_hw1 : k0_chk1 v4), (k0_dev80 v4) < nD := fun v4 k0_hw1 => k0_hw1.2.2.2.2.2.2.2.2.1
theorem k0_dev82_lt : ∀ (v4 : BitVec 32) (k0_hw1 : k0_chk1 v4), (k0_dev82 v4) < nD := fun v4 k0_hw1 => k0_hw1.2.2.2.2.2.2.2.2.2.1
theorem k0_dev84_lt : ∀ (v4 : BitVec 32) (k0_hw1 : k0_chk1 v4), (k0_dev84 v4) < nD := fun v4 k0_hw1 => k0_hw1.2.2.2.2.2.2.2.2.2.2.1
theorem k0_dev86_lt : ∀ (v4 : BitVec 32) (k0_hw1 : k0_chk1 v4), (k0_dev86 v4) < nD := fun v4 k0_hw1 => k0_hw1.2.2.2.2.2.2.2.2.2.2.2.1
theorem k0_dev88_lt : ∀ (v4 : BitVec 32) (k0_hw1 : k0_chk1 v4), (k0_dev88 v4) < nD := fun v4 k0_hw1 => k0_hw1.2.2.2.2.2.2.2.2.2.2.2.2.1
theorem k0_dev90_lt : ∀ (v4 : BitVec 32) (k0_hw1 : k0_chk1 v4), (k0_dev90 v4) < nD := fun v4 k0_hw1 => k0_hw1.2.2.2.2.2.2.2.2.2.2.2.2.2.1
theorem k0_dev92_lt : ∀ (v4 : BitVec 32) (k0_hw1 : k0_chk1 v4), (k0_dev92 v4) < nD := fun v4 k0_hw1 => k0_hw1.2.2.2.2.2.2.2.2.2.2.2.2.2.2.1
theorem k0_dev94_lt : ∀ (v4 : BitVec 32) (k0_hw1 : k0_chk1 v4), (k0_dev94 v4) < nD := fun v4 k0_hw1 => k0_hw1.2.2.2.2.2.2.2.2.2.2.2.2.2.2.2.1
theorem k0_dev96_lt : ∀ (v4 : BitVec 32) (k0_hw1 : k0_chk1 v4), (k0_dev96 v4) < nD := fun v4 k0_hw1 => k0_hw1.2.2.2.2.2.2.2.2.2.2.2.2.2.2.2.2.1
theorem k0_dev98_lt : ∀ (v4 : BitVec 32) (k0_hw1 : k0_chk1 v4), (k0_dev98 v4) < nD := fun v4 k0_hw1 => k0_hw1.2.2.2.2.2.2.2.2.2.2.2.2.2.2.2.2.2.1
theorem k0_dev100_lt : ∀ (v4 : BitVec 32) (k0_hw1 : k0_chk1 v4), (k0_dev100 v4) < nD := fun v4 k0_hw1 => k0_hw1.2.2.2.2.2.2.2.2.2.2.2.2.2.2.2.2.2.2.1
theorem k0_dev102_lt : ∀ (v4 : BitVec 32) (k0_hw1 : k0_chk1 v4), (k0_dev102 v4) < nD := fun v4 k0_hw1 => k0_hw1.2.2.2.2.2.2.2.2.2.2.2.2.2.2.2.2.2.2.2.1
theorem k0_dev104_lt : ∀ (v4 : BitVec 32) (k0_hw1 : k0_chk1 v4), (k0_dev104 v4) < nD := fun v4 k0_hw1 => k0_hw1.2.2.2.2.2.2.2.2.2.2.2.2.2.2.2.2.2.2.2.2.1
theorem k0_dev106_lt : ∀ (v4 : BitVec 32) (k0_hw1 : k0_chk1 v4), (k0_dev106 v4) < nD := fun v4 k0_hw1 => k0_hw1.2.2.2.2.2.2.2.2.2.2.2.2.2.2.2.2.2.2.2.2.2.1
theorem k0_dev108_lt : ∀ (v4 : BitVec 32) (k0_hw1 : k0_chk1 v4), (k0_dev108 v4) < nD := fun v4 k0_hw1 => k0_hw1.2.2.2.2.2.2.2.2.2.2.2.2.2.2.2.2.2.2.2.2.2.2.1
theorem k0_dev110_lt : ∀ (v4 : BitVec 32) (k0_hw1 : k0_chk1 v4), (k0_dev110 v4) < nD := fun v4 k0_hw1 => k0_hw1.2.2.2.2.2.2.2.2.2.2.2.2.2.2.2.2.2.2.2.2.2.2.2.1
theorem k0_dev112_lt : ∀ (v4 : BitVec 32) (k0_hw1 : k0_chk1 v4), (k0_dev112 v4) < nD := fun v4 k0_hw1 => k0_hw1.2.2.2.2.2.2.2.2.2.2.2.2.2.2.2.2.2.2.2.2.2.2.2.2.1
theorem k0_dev114_lt : ∀ (v4 : BitVec 32) (k0_hw1 : k0_chk1 v4), (k0_dev114 v4) < nD := fun v4 k0_hw1 => k0_hw1.2.2.2.2.2.2.2.2.2.2.2.2.2.2.2.2.2.2.2.2.2.2.2.2.2.1
theorem k0_dev116_lt : ∀ (v4 : BitVec 32) (k0_hw1 : k0_chk1 v4), (k0_dev116 v4) < nD := fun v4 k0_hw1 => k0_hw1.2.2.2.2.2.2.2.2.2.2.2.2.2.2.2.2.2.2.2.2.2.2.2.2.2.2.1
theorem k0_dev118_lt : ∀ (v4 : BitVec 32) (k0_hw1 : k0_chk1 v4), (k0_dev118 v4) < nD := fun v4 k0_hw1 => k0_hw1.2.2.2.2.2.2.2.2.2.2.2.2.2.2.2.2.2.2.2.2.2.2.2.2.2.2.2.1
theorem k0_dev120_lt : ∀ (v4 : BitVec 32) (k0_hw1 : k0_chk1 v4), (k0_dev120 v4) < nD := fun v4 k0_hw1 => k0_hw1.2.2.2.2.2.2.2.2.2.2.2.2.2.2.2.2.2.2.2.2.2.2.2.2.2.2.2.2.1
theorem k0_dev122_lt : ∀ (v4 : BitVec 32) (k0_hw1 : k0_chk1 v4), (k0_dev122 v4) < nD := fun v4 k0_hw1 => k0_hw1.2.2.2.2.2.2.2.2.2.2.2.2.2.2.2.2.2.2.2.2.2.2.2.2.2.2.2.2.2.1
theorem k0_dev125_lt : ∀ (v4 : BitVec 32) (k0_hw1 : k0_chk1 v4), (k0_dev125 v4) < nD := fun v4 k0_hw1 => k0_hw1.2.2.2.2.2.2.2.2.2.2.2.2.2.2.2.2.2.2.2.2.2.2.2.2.2.2.2.2.2.2.1
theorem k0_dev126_lt : ∀ (v4 : BitVec 32) (k0_hw1 : k0_chk1 v4), (k0_dev126 v4) < nD := fun v4 k0_hw1 => k0_hw1.2.2.2.2.2.2.2.2.2.2.2.2.2.2.2.2.2.2.2.2.2.2.2.2.2.2.2.2.2.2.2

def k0_off538 (v3569 : BitVec 32) : Fin 2 → Nat :=
  let c128_i32_3637 : BitVec 32 := 128#32
  let v3570 : BitVec 32 := Scalar.muli v3569 c128_i32_3637
  let v3571 : Index := Scalar.indexCast v3570
  let c0_3638 : Index := 0#32
  ![v3571.toNat, 0]

def k0_chk539 (v3569 : BitVec 32) : Prop :=
  (∀ a, (k0_off538 v3569) a + S128x4096.size a ≤ S4096x4096.size a)
theorem k0_off538_inb : ∀ (v3569 : BitVec 32) (k0_hw539 : k0_chk539 v3569), ∀ a, (k0_off538 v3569) a + S128x4096.size a ≤ S4096x4096.size a := fun v3569 k0_hw539 => k0_hw539

def k0_off539 (v3568 : BitVec 32) : Fin 2 → Nat :=
  let c128_i32_3642 : BitVec 32 := 128#32
  let v3579 : BitVec 32 := Scalar.muli v3568 c128_i32_3642
  let v3580 : Index := Scalar.indexCast v3579
  let c0_3643 : Index := 0#32
  ![v3580.toNat, 0]

def k0_chk540 (v3568 : BitVec 32) : Prop :=
  (∀ a, (k0_off539 v3568) a + S128x64.size a ≤ S4096x64.size a)
theorem k0_off539_inb : ∀ (v3568 : BitVec 32) (k0_hw540 : k0_chk540 v3568), ∀ a, (k0_off539 v3568) a + S128x64.size a ≤ S4096x64.size a := fun v3568 k0_hw540 => k0_hw540

def k0_off540 (v3583 : BitVec 32) : Fin 2 → Nat :=
  let c128_i32_3646 : BitVec 32 := 128#32
  let v3584 : BitVec 32 := Scalar.muli v3583 c128_i32_3646
  let v3585 : Index := Scalar.indexCast v3584
  let c0_3647 : Index := 0#32
  ![v3585.toNat, 0]

def k0_chk541 (v3583 : BitVec 32) : Prop :=
  (∀ a, (k0_off540 v3583) a + S128x4096.size a ≤ S4096x4096.size a)
theorem k0_off540_inb : ∀ (v3583 : BitVec 32) (k0_hw541 : k0_chk541 v3583), ∀ a, (k0_off540 v3583) a + S128x4096.size a ≤ S4096x4096.size a := fun v3583 k0_hw541 => k0_hw541

def k0_off541 (v3582 : BitVec 32) : Fin 2 → Nat :=
  let c128_i32_3651 : BitVec 32 := 128#32
  let v3593 : BitVec 32 := Scalar.muli v3582 c128_i32_3651
  let v3594 : Index := Scalar.indexCast v3593
  let c0_3652 : Index := 0#32
  ![v3594.toNat, 0]

def k0_chk542 (v3582 : BitVec 32) : Prop :=
  (∀ a, (k0_off541 v3582) a + S128x64.size a ≤ S4096x64.size a)
theorem k0_off541_inb : ∀ (v3582 : BitVec 32) (k0_hw542 : k0_chk542 v3582), ∀ a, (k0_off541 v3582) a + S128x64.size a ≤ S4096x64.size a := fun v3582 k0_hw542 => k0_hw542

def k0_off542 (v3599 : BitVec 32) : Fin 2 → Nat :=
  let c128_i32_3657 : BitVec 32 := 128#32
  let v3600 : BitVec 32 := Scalar.muli v3599 c128_i32_3657
  let c0_i32_3658 : BitVec 32 := 0#32
  let v3601 : BitVec 32 := Scalar.addi v3600 c0_i32_3658
  let c0_i32_3665 : BitVec 32 := 0#32
  ![v3601.toNat, 0]

def k0_off543 (v3596 : BitVec 32) : Fin 2 → Nat :=
  let c128_i32_3654 : BitVec 32 := 128#32
  let v3597 : BitVec 32 := Scalar.muli v3596 c128_i32_3654
  let c0_i32_3655 : BitVec 32 := 0#32
  let v3598 : BitVec 32 := Scalar.addi v3597 c0_i32_3655
  let c0_i32_3666 : BitVec 32 := 0#32
  ![v3598.toNat, 0]

def k0_chk544 (v3596 : BitVec 32) : Prop :=
  (∀ a, (k0_off543 v3596) a + S32x4096.size a ≤ S4096x4096.size a) ∧
  (∀ (hinb : ∀ a, (k0_off543 v3596) a + S32x4096.size a ≤ S4096x4096.size a), (Rect.unit (s := S4096x4096) (k0_off543 v3596) S32x4096.size hinb).WholeWords (EltTy.packing .i8))
theorem k0_off543_inb : ∀ (v3596 : BitVec 32) (k0_hw544 : k0_chk544 v3596), ∀ a, (k0_off543 v3596) a + S32x4096.size a ≤ S4096x4096.size a := fun v3596 k0_hw544 => k0_hw544.1
theorem k0_off543_wordsi8 : ∀ (v3596 : BitVec 32) (k0_hw544 : k0_chk544 v3596), (Rect.unit (s := S4096x4096) (k0_off543 v3596) S32x4096.size (k0_off543_inb v3596 k0_hw544)).WholeWords (EltTy.packing .i8) := fun v3596 k0_hw544 => k0_hw544.2 (k0_off543_inb v3596 k0_hw544)

def k0_chk543 (v3599 : BitVec 32) : Prop :=
  (∀ a, (k0_off542 v3599) a + S32x4096.size a ≤ S4096x4096.size a) ∧
  (∀ (hinb : ∀ a, (k0_off542 v3599) a + S32x4096.size a ≤ S4096x4096.size a), (Rect.unit (s := S4096x4096) (k0_off542 v3599) S32x4096.size hinb).WholeWords (EltTy.packing .i8))
theorem k0_off542_inb : ∀ (v3599 : BitVec 32) (k0_hw543 : k0_chk543 v3599), ∀ a, (k0_off542 v3599) a + S32x4096.size a ≤ S4096x4096.size a := fun v3599 k0_hw543 => k0_hw543.1
theorem k0_off542_wordsi8 : ∀ (v3599 : BitVec 32) (k0_hw543 : k0_chk543 v3599), (Rect.unit (s := S4096x4096) (k0_off542 v3599) S32x4096.size (k0_off542_inb v3599 k0_hw543)).WholeWords (EltTy.packing .i8) := fun v3599 k0_hw543 => k0_hw543.2 (k0_off542_inb v3599 k0_hw543)

def k0_off544 (v3611 : BitVec 32) : Fin 2 → Nat :=
  let c128_i32_3671 : BitVec 32 := 128#32
  let v3612 : BitVec 32 := Scalar.muli v3611 c128_i32_3671
  let c32_i32_3672 : BitVec 32 := 32#32
  let v3613 : BitVec 32 := Scalar.addi v3612 c32_i32_3672
  let c0_i32_3679 : BitVec 32 := 0#32
  ![v3613.toNat, 0]

def k0_off545 (v3608 : BitVec 32) : Fin 2 → Nat :=
  let c128_i32_3668 : BitVec 32 := 128#32
  let v3609 : BitVec 32 := Scalar.muli v3608 c128_i32_3668
  let c32_i32_3669 : BitVec 32 := 32#32
  let v3610 : BitVec 32 := Scalar.addi v3609 c32_i32_3669
  let c0_i32_3680 : BitVec 32 := 0#32
  ![v3610.toNat, 0]

def k0_chk546 (v3608 : BitVec 32) : Prop :=
  (∀ a, (k0_off545 v3608) a + S32x4096.size a ≤ S4096x4096.size a) ∧
  (∀ (hinb : ∀ a, (k0_off545 v3608) a + S32x4096.size a ≤ S4096x4096.size a), (Rect.unit (s := S4096x4096) (k0_off545 v3608) S32x4096.size hinb).WholeWords (EltTy.packing .i8))
theorem k0_off545_inb : ∀ (v3608 : BitVec 32) (k0_hw546 : k0_chk546 v3608), ∀ a, (k0_off545 v3608) a + S32x4096.size a ≤ S4096x4096.size a := fun v3608 k0_hw546 => k0_hw546.1
theorem k0_off545_wordsi8 : ∀ (v3608 : BitVec 32) (k0_hw546 : k0_chk546 v3608), (Rect.unit (s := S4096x4096) (k0_off545 v3608) S32x4096.size (k0_off545_inb v3608 k0_hw546)).WholeWords (EltTy.packing .i8) := fun v3608 k0_hw546 => k0_hw546.2 (k0_off545_inb v3608 k0_hw546)

def k0_chk545 (v3611 : BitVec 32) : Prop :=
  (∀ a, (k0_off544 v3611) a + S32x4096.size a ≤ S4096x4096.size a) ∧
  (∀ (hinb : ∀ a, (k0_off544 v3611) a + S32x4096.size a ≤ S4096x4096.size a), (Rect.unit (s := S4096x4096) (k0_off544 v3611) S32x4096.size hinb).WholeWords (EltTy.packing .i8))
theorem k0_off544_inb : ∀ (v3611 : BitVec 32) (k0_hw545 : k0_chk545 v3611), ∀ a, (k0_off544 v3611) a + S32x4096.size a ≤ S4096x4096.size a := fun v3611 k0_hw545 => k0_hw545.1
theorem k0_off544_wordsi8 : ∀ (v3611 : BitVec 32) (k0_hw545 : k0_chk545 v3611), (Rect.unit (s := S4096x4096) (k0_off544 v3611) S32x4096.size (k0_off544_inb v3611 k0_hw545)).WholeWords (EltTy.packing .i8) := fun v3611 k0_hw545 => k0_hw545.2 (k0_off544_inb v3611 k0_hw545)

def k0_off546 (v3623 : BitVec 32) : Fin 2 → Nat :=
  let c128_i32_3685 : BitVec 32 := 128#32
  let v3624 : BitVec 32 := Scalar.muli v3623 c128_i32_3685
  let c64_i32_3686 : BitVec 32 := 64#32
  let v3625 : BitVec 32 := Scalar.addi v3624 c64_i32_3686
  let c0_i32_3693 : BitVec 32 := 0#32
  ![v3625.toNat, 0]

def k0_off547 (v3620 : BitVec 32) : Fin 2 → Nat :=
  let c128_i32_3682 : BitVec 32 := 128#32
  let v3621 : BitVec 32 := Scalar.muli v3620 c128_i32_3682
  let c64_i32_3683 : BitVec 32 := 64#32
  let v3622 : BitVec 32 := Scalar.addi v3621 c64_i32_3683
  let c0_i32_3694 : BitVec 32 := 0#32
  ![v3622.toNat, 0]

def k0_chk548 (v3620 : BitVec 32) : Prop :=
  (∀ a, (k0_off547 v3620) a + S32x4096.size a ≤ S4096x4096.size a) ∧
  (∀ (hinb : ∀ a, (k0_off547 v3620) a + S32x4096.size a ≤ S4096x4096.size a), (Rect.unit (s := S4096x4096) (k0_off547 v3620) S32x4096.size hinb).WholeWords (EltTy.packing .i8))
theorem k0_off547_inb : ∀ (v3620 : BitVec 32) (k0_hw548 : k0_chk548 v3620), ∀ a, (k0_off547 v3620) a + S32x4096.size a ≤ S4096x4096.size a := fun v3620 k0_hw548 => k0_hw548.1
theorem k0_off547_wordsi8 : ∀ (v3620 : BitVec 32) (k0_hw548 : k0_chk548 v3620), (Rect.unit (s := S4096x4096) (k0_off547 v3620) S32x4096.size (k0_off547_inb v3620 k0_hw548)).WholeWords (EltTy.packing .i8) := fun v3620 k0_hw548 => k0_hw548.2 (k0_off547_inb v3620 k0_hw548)

def k0_chk547 (v3623 : BitVec 32) : Prop :=
  (∀ a, (k0_off546 v3623) a + S32x4096.size a ≤ S4096x4096.size a) ∧
  (∀ (hinb : ∀ a, (k0_off546 v3623) a + S32x4096.size a ≤ S4096x4096.size a), (Rect.unit (s := S4096x4096) (k0_off546 v3623) S32x4096.size hinb).WholeWords (EltTy.packing .i8))
theorem k0_off546_inb : ∀ (v3623 : BitVec 32) (k0_hw547 : k0_chk547 v3623), ∀ a, (k0_off546 v3623) a + S32x4096.size a ≤ S4096x4096.size a := fun v3623 k0_hw547 => k0_hw547.1
theorem k0_off546_wordsi8 : ∀ (v3623 : BitVec 32) (k0_hw547 : k0_chk547 v3623), (Rect.unit (s := S4096x4096) (k0_off546 v3623) S32x4096.size (k0_off546_inb v3623 k0_hw547)).WholeWords (EltTy.packing .i8) := fun v3623 k0_hw547 => k0_hw547.2 (k0_off546_inb v3623 k0_hw547)

def k0_off548 (v3635 : BitVec 32) : Fin 2 → Nat :=
  let c128_i32_3699 : BitVec 32 := 128#32
  let v3636 : BitVec 32 := Scalar.muli v3635 c128_i32_3699
  let c96_i32_3700 : BitVec 32 := 96#32
  let v3637 : BitVec 32 := Scalar.addi v3636 c96_i32_3700
  let c0_i32_3707 : BitVec 32 := 0#32
  ![v3637.toNat, 0]

def k0_off549 (v3632 : BitVec 32) : Fin 2 → Nat :=
  let c128_i32_3696 : BitVec 32 := 128#32
  let v3633 : BitVec 32 := Scalar.muli v3632 c128_i32_3696
  let c96_i32_3697 : BitVec 32 := 96#32
  let v3634 : BitVec 32 := Scalar.addi v3633 c96_i32_3697
  let c0_i32_3708 : BitVec 32 := 0#32
  ![v3634.toNat, 0]

def k0_chk550 (v3632 : BitVec 32) : Prop :=
  (∀ a, (k0_off549 v3632) a + S32x4096.size a ≤ S4096x4096.size a) ∧
  (∀ (hinb : ∀ a, (k0_off549 v3632) a + S32x4096.size a ≤ S4096x4096.size a), (Rect.unit (s := S4096x4096) (k0_off549 v3632) S32x4096.size hinb).WholeWords (EltTy.packing .i8))
theorem k0_off549_inb : ∀ (v3632 : BitVec 32) (k0_hw550 : k0_chk550 v3632), ∀ a, (k0_off549 v3632) a + S32x4096.size a ≤ S4096x4096.size a := fun v3632 k0_hw550 => k0_hw550.1
theorem k0_off549_wordsi8 : ∀ (v3632 : BitVec 32) (k0_hw550 : k0_chk550 v3632), (Rect.unit (s := S4096x4096) (k0_off549 v3632) S32x4096.size (k0_off549_inb v3632 k0_hw550)).WholeWords (EltTy.packing .i8) := fun v3632 k0_hw550 => k0_hw550.2 (k0_off549_inb v3632 k0_hw550)

def k0_chk549 (v3635 : BitVec 32) : Prop :=
  (∀ a, (k0_off548 v3635) a + S32x4096.size a ≤ S4096x4096.size a) ∧
  (∀ (hinb : ∀ a, (k0_off548 v3635) a + S32x4096.size a ≤ S4096x4096.size a), (Rect.unit (s := S4096x4096) (k0_off548 v3635) S32x4096.size hinb).WholeWords (EltTy.packing .i8))
theorem k0_off548_inb : ∀ (v3635 : BitVec 32) (k0_hw549 : k0_chk549 v3635), ∀ a, (k0_off548 v3635) a + S32x4096.size a ≤ S4096x4096.size a := fun v3635 k0_hw549 => k0_hw549.1
theorem k0_off548_wordsi8 : ∀ (v3635 : BitVec 32) (k0_hw549 : k0_chk549 v3635), (Rect.unit (s := S4096x4096) (k0_off548 v3635) S32x4096.size (k0_off548_inb v3635 k0_hw549)).WholeWords (EltTy.packing .i8) := fun v3635 k0_hw549 => k0_hw549.2 (k0_off548_inb v3635 k0_hw549)

def k0_off550 (v3645 : BitVec 32) : Fin 2 → Nat :=
  let c128_i32_3711 : BitVec 32 := 128#32
  let v3646 : BitVec 32 := Scalar.muli v3645 c128_i32_3711
  let v3647 : Index := Scalar.indexCast v3646
  let c0_3712 : Index := 0#32
  ![v3647.toNat, 0]

def k0_chk551 (v3645 : BitVec 32) : Prop :=
  (∀ a, (k0_off550 v3645) a + S128x4096.size a ≤ S4096x4096.size a)
theorem k0_off550_inb : ∀ (v3645 : BitVec 32) (k0_hw551 : k0_chk551 v3645), ∀ a, (k0_off550 v3645) a + S128x4096.size a ≤ S4096x4096.size a := fun v3645 k0_hw551 => k0_hw551

def k0_off551 (v3644 : BitVec 32) : Fin 2 → Nat :=
  let c128_i32_3716 : BitVec 32 := 128#32
  let v3655 : BitVec 32 := Scalar.muli v3644 c128_i32_3716
  let v3656 : Index := Scalar.indexCast v3655
  let c0_3717 : Index := 0#32
  ![v3656.toNat, 0]

def k0_chk552 (v3644 : BitVec 32) : Prop :=
  (∀ a, (k0_off551 v3644) a + S128x64.size a ≤ S4096x64.size a)
theorem k0_off551_inb : ∀ (v3644 : BitVec 32) (k0_hw552 : k0_chk552 v3644), ∀ a, (k0_off551 v3644) a + S128x64.size a ≤ S4096x64.size a := fun v3644 k0_hw552 => k0_hw552

def k0_off552 (v3658 : BitVec 32) : Fin 2 → Nat :=
  let c128_i32_3719 : BitVec 32 := 128#32
  let v3659 : BitVec 32 := Scalar.muli v3658 c128_i32_3719
  let c0_i32_3720 : BitVec 32 := 0#32
  let v3660 : BitVec 32 := Scalar.addi v3659 c0_i32_3720
  let c0_i32_3728 : BitVec 32 := 0#32
  ![v3660.toNat, 0]

def k0_chk553 (v3658 : BitVec 32) : Prop :=
  (∀ a, (k0_off552 v3658) a + S32x4096.size a ≤ S4096x4096.size a) ∧
  (∀ (hinb : ∀ a, (k0_off552 v3658) a + S32x4096.size a ≤ S4096x4096.size a), (Rect.unit (s := S4096x4096) (k0_off552 v3658) S32x4096.size hinb).WholeWords (EltTy.packing .i8))
theorem k0_off552_inb : ∀ (v3658 : BitVec 32) (k0_hw553 : k0_chk553 v3658), ∀ a, (k0_off552 v3658) a + S32x4096.size a ≤ S4096x4096.size a := fun v3658 k0_hw553 => k0_hw553.1
theorem k0_off552_wordsi8 : ∀ (v3658 : BitVec 32) (k0_hw553 : k0_chk553 v3658), (Rect.unit (s := S4096x4096) (k0_off552 v3658) S32x4096.size (k0_off552_inb v3658 k0_hw553)).WholeWords (EltTy.packing .i8) := fun v3658 k0_hw553 => k0_hw553.2 (k0_off552_inb v3658 k0_hw553)

def k0_off553 (v3665 : BitVec 32) : Fin 2 → Nat :=
  let c128_i32_3730 : BitVec 32 := 128#32
  let v3666 : BitVec 32 := Scalar.muli v3665 c128_i32_3730
  let c0_i32_3731 : BitVec 32 := 0#32
  let v3667 : BitVec 32 := Scalar.addi v3666 c0_i32_3731
  let c0_i32_3739 : BitVec 32 := 0#32
  ![v3667.toNat, 0]

def k0_chk554 (v3665 : BitVec 32) : Prop :=
  (∀ a, (k0_off553 v3665) a + S32x4096.size a ≤ S4096x4096.size a) ∧
  (∀ (hinb : ∀ a, (k0_off553 v3665) a + S32x4096.size a ≤ S4096x4096.size a), (Rect.unit (s := S4096x4096) (k0_off553 v3665) S32x4096.size hinb).WholeWords (EltTy.packing .i8))
theorem k0_off553_inb : ∀ (v3665 : BitVec 32) (k0_hw554 : k0_chk554 v3665), ∀ a, (k0_off553 v3665) a + S32x4096.size a ≤ S4096x4096.size a := fun v3665 k0_hw554 => k0_hw554.1
theorem k0_off553_wordsi8 : ∀ (v3665 : BitVec 32) (k0_hw554 : k0_chk554 v3665), (Rect.unit (s := S4096x4096) (k0_off553 v3665) S32x4096.size (k0_off553_inb v3665 k0_hw554)).WholeWords (EltTy.packing .i8) := fun v3665 k0_hw554 => k0_hw554.2 (k0_off553_inb v3665 k0_hw554)

def k0_off554 (v3672 : BitVec 32) : Fin 2 → Nat :=
  let c128_i32_3741 : BitVec 32 := 128#32
  let v3673 : BitVec 32 := Scalar.muli v3672 c128_i32_3741
  let c32_i32_3742 : BitVec 32 := 32#32
  let v3674 : BitVec 32 := Scalar.addi v3673 c32_i32_3742
  let c0_i32_3750 : BitVec 32 := 0#32
  ![v3674.toNat, 0]

def k0_chk555 (v3672 : BitVec 32) : Prop :=
  (∀ a, (k0_off554 v3672) a + S32x4096.size a ≤ S4096x4096.size a) ∧
  (∀ (hinb : ∀ a, (k0_off554 v3672) a + S32x4096.size a ≤ S4096x4096.size a), (Rect.unit (s := S4096x4096) (k0_off554 v3672) S32x4096.size hinb).WholeWords (EltTy.packing .i8))
theorem k0_off554_inb : ∀ (v3672 : BitVec 32) (k0_hw555 : k0_chk555 v3672), ∀ a, (k0_off554 v3672) a + S32x4096.size a ≤ S4096x4096.size a := fun v3672 k0_hw555 => k0_hw555.1
theorem k0_off554_wordsi8 : ∀ (v3672 : BitVec 32) (k0_hw555 : k0_chk555 v3672), (Rect.unit (s := S4096x4096) (k0_off554 v3672) S32x4096.size (k0_off554_inb v3672 k0_hw555)).WholeWords (EltTy.packing .i8) := fun v3672 k0_hw555 => k0_hw555.2 (k0_off554_inb v3672 k0_hw555)

def k0_off555 (v3679 : BitVec 32) : Fin 2 → Nat :=
  let c128_i32_3752 : BitVec 32 := 128#32
  let v3680 : BitVec 32 := Scalar.muli v3679 c128_i32_3752
  let c32_i32_3753 : BitVec 32 := 32#32
  let v3681 : BitVec 32 := Scalar.addi v3680 c32_i32_3753
  let c0_i32_3761 : BitVec 32 := 0#32
  ![v3681.toNat, 0]

def k0_chk556 (v3679 : BitVec 32) : Prop :=
  (∀ a, (k0_off555 v3679) a + S32x4096.size a ≤ S4096x4096.size a) ∧
  (∀ (hinb : ∀ a, (k0_off555 v3679) a + S32x4096.size a ≤ S4096x4096.size a), (Rect.unit (s := S4096x4096) (k0_off555 v3679) S32x4096.size hinb).WholeWords (EltTy.packing .i8))
theorem k0_off555_inb : ∀ (v3679 : BitVec 32) (k0_hw556 : k0_chk556 v3679), ∀ a, (k0_off555 v3679) a + S32x4096.size a ≤ S4096x4096.size a := fun v3679 k0_hw556 => k0_hw556.1
theorem k0_off555_wordsi8 : ∀ (v3679 : BitVec 32) (k0_hw556 : k0_chk556 v3679), (Rect.unit (s := S4096x4096) (k0_off555 v3679) S32x4096.size (k0_off555_inb v3679 k0_hw556)).WholeWords (EltTy.packing .i8) := fun v3679 k0_hw556 => k0_hw556.2 (k0_off555_inb v3679 k0_hw556)

def k0_off556 (v3686 : BitVec 32) : Fin 2 → Nat :=
  let c128_i32_3763 : BitVec 32 := 128#32
  let v3687 : BitVec 32 := Scalar.muli v3686 c128_i32_3763
  let c64_i32_3764 : BitVec 32 := 64#32
  let v3688 : BitVec 32 := Scalar.addi v3687 c64_i32_3764
  let c0_i32_3772 : BitVec 32 := 0#32
  ![v3688.toNat, 0]

def k0_chk557 (v3686 : BitVec 32) : Prop :=
  (∀ a, (k0_off556 v3686) a + S32x4096.size a ≤ S4096x4096.size a) ∧
  (∀ (hinb : ∀ a, (k0_off556 v3686) a + S32x4096.size a ≤ S4096x4096.size a), (Rect.unit (s := S4096x4096) (k0_off556 v3686) S32x4096.size hinb).WholeWords (EltTy.packing .i8))
theorem k0_off556_inb : ∀ (v3686 : BitVec 32) (k0_hw557 : k0_chk557 v3686), ∀ a, (k0_off556 v3686) a + S32x4096.size a ≤ S4096x4096.size a := fun v3686 k0_hw557 => k0_hw557.1
theorem k0_off556_wordsi8 : ∀ (v3686 : BitVec 32) (k0_hw557 : k0_chk557 v3686), (Rect.unit (s := S4096x4096) (k0_off556 v3686) S32x4096.size (k0_off556_inb v3686 k0_hw557)).WholeWords (EltTy.packing .i8) := fun v3686 k0_hw557 => k0_hw557.2 (k0_off556_inb v3686 k0_hw557)

def k0_off557 (v3693 : BitVec 32) : Fin 2 → Nat :=
  let c128_i32_3774 : BitVec 32 := 128#32
  let v3694 : BitVec 32 := Scalar.muli v3693 c128_i32_3774
  let c64_i32_3775 : BitVec 32 := 64#32
  let v3695 : BitVec 32 := Scalar.addi v3694 c64_i32_3775
  let c0_i32_3783 : BitVec 32 := 0#32
  ![v3695.toNat, 0]

def k0_chk558 (v3693 : BitVec 32) : Prop :=
  (∀ a, (k0_off557 v3693) a + S32x4096.size a ≤ S4096x4096.size a) ∧
  (∀ (hinb : ∀ a, (k0_off557 v3693) a + S32x4096.size a ≤ S4096x4096.size a), (Rect.unit (s := S4096x4096) (k0_off557 v3693) S32x4096.size hinb).WholeWords (EltTy.packing .i8))
theorem k0_off557_inb : ∀ (v3693 : BitVec 32) (k0_hw558 : k0_chk558 v3693), ∀ a, (k0_off557 v3693) a + S32x4096.size a ≤ S4096x4096.size a := fun v3693 k0_hw558 => k0_hw558.1
theorem k0_off557_wordsi8 : ∀ (v3693 : BitVec 32) (k0_hw558 : k0_chk558 v3693), (Rect.unit (s := S4096x4096) (k0_off557 v3693) S32x4096.size (k0_off557_inb v3693 k0_hw558)).WholeWords (EltTy.packing .i8) := fun v3693 k0_hw558 => k0_hw558.2 (k0_off557_inb v3693 k0_hw558)

def k0_off558 (v3700 : BitVec 32) : Fin 2 → Nat :=
  let c128_i32_3785 : BitVec 32 := 128#32
  let v3701 : BitVec 32 := Scalar.muli v3700 c128_i32_3785
  let c96_i32_3786 : BitVec 32 := 96#32
  let v3702 : BitVec 32 := Scalar.addi v3701 c96_i32_3786
  let c0_i32_3794 : BitVec 32 := 0#32
  ![v3702.toNat, 0]

def k0_chk559 (v3700 : BitVec 32) : Prop :=
  (∀ a, (k0_off558 v3700) a + S32x4096.size a ≤ S4096x4096.size a) ∧
  (∀ (hinb : ∀ a, (k0_off558 v3700) a + S32x4096.size a ≤ S4096x4096.size a), (Rect.unit (s := S4096x4096) (k0_off558 v3700) S32x4096.size hinb).WholeWords (EltTy.packing .i8))
theorem k0_off558_inb : ∀ (v3700 : BitVec 32) (k0_hw559 : k0_chk559 v3700), ∀ a, (k0_off558 v3700) a + S32x4096.size a ≤ S4096x4096.size a := fun v3700 k0_hw559 => k0_hw559.1
theorem k0_off558_wordsi8 : ∀ (v3700 : BitVec 32) (k0_hw559 : k0_chk559 v3700), (Rect.unit (s := S4096x4096) (k0_off558 v3700) S32x4096.size (k0_off558_inb v3700 k0_hw559)).WholeWords (EltTy.packing .i8) := fun v3700 k0_hw559 => k0_hw559.2 (k0_off558_inb v3700 k0_hw559)

def k0_off559 (v3707 : BitVec 32) : Fin 2 → Nat :=
  let c128_i32_3796 : BitVec 32 := 128#32
  let v3708 : BitVec 32 := Scalar.muli v3707 c128_i32_3796
  let c96_i32_3797 : BitVec 32 := 96#32
  let v3709 : BitVec 32 := Scalar.addi v3708 c96_i32_3797
  let c0_i32_3805 : BitVec 32 := 0#32
  ![v3709.toNat, 0]

def k0_chk560 (v3707 : BitVec 32) : Prop :=
  (∀ a, (k0_off559 v3707) a + S32x4096.size a ≤ S4096x4096.size a) ∧
  (∀ (hinb : ∀ a, (k0_off559 v3707) a + S32x4096.size a ≤ S4096x4096.size a), (Rect.unit (s := S4096x4096) (k0_off559 v3707) S32x4096.size hinb).WholeWords (EltTy.packing .i8))
theorem k0_off559_inb : ∀ (v3707 : BitVec 32) (k0_hw560 : k0_chk560 v3707), ∀ a, (k0_off559 v3707) a + S32x4096.size a ≤ S4096x4096.size a := fun v3707 k0_hw560 => k0_hw560.1
theorem k0_off559_wordsi8 : ∀ (v3707 : BitVec 32) (k0_hw560 : k0_chk560 v3707), (Rect.unit (s := S4096x4096) (k0_off559 v3707) S32x4096.size (k0_off559_inb v3707 k0_hw560)).WholeWords (EltTy.packing .i8) := fun v3707 k0_hw560 => k0_hw560.2 (k0_off559_inb v3707 k0_hw560)

def k0_off560 (v3714 : BitVec 32) : Fin 2 → Nat :=
  let c128_i32_3807 : BitVec 32 := 128#32
  let v3715 : BitVec 32 := Scalar.muli v3714 c128_i32_3807
  let c0_i32_3808 : BitVec 32 := 0#32
  let v3716 : BitVec 32 := Scalar.addi v3715 c0_i32_3808
  let c0_i32_3817 : BitVec 32 := 0#32
  ![v3716.toNat, 0]

def k0_off561 (v3717 : BitVec 32) : Fin 2 → Nat :=
  let c128_i32_3810 : BitVec 32 := 128#32
  let v3718 : BitVec 32 := Scalar.muli v3717 c128_i32_3810
  let c0_i32_3811 : BitVec 32 := 0#32
  let v3719 : BitVec 32 := Scalar.addi v3718 c0_i32_3811
  let c0_i32_3818 : BitVec 32 := 0#32
  ![v3719.toNat, 0]

def k0_chk562 (v3717 : BitVec 32) : Prop :=
  (∀ a, (k0_off561 v3717) a + S32x4096.size a ≤ S4096x4096.size a) ∧
  (∀ (hinb : ∀ a, (k0_off561 v3717) a + S32x4096.size a ≤ S4096x4096.size a), (Rect.unit (s := S4096x4096) (k0_off561 v3717) S32x4096.size hinb).WholeWords (EltTy.packing .i8))
theorem k0_off561_inb : ∀ (v3717 : BitVec 32) (k0_hw562 : k0_chk562 v3717), ∀ a, (k0_off561 v3717) a + S32x4096.size a ≤ S4096x4096.size a := fun v3717 k0_hw562 => k0_hw562.1
theorem k0_off561_wordsi8 : ∀ (v3717 : BitVec 32) (k0_hw562 : k0_chk562 v3717), (Rect.unit (s := S4096x4096) (k0_off561 v3717) S32x4096.size (k0_off561_inb v3717 k0_hw562)).WholeWords (EltTy.packing .i8) := fun v3717 k0_hw562 => k0_hw562.2 (k0_off561_inb v3717 k0_hw562)

def k0_chk561 (v3714 : BitVec 32) : Prop :=
  (∀ a, (k0_off560 v3714) a + S32x4096.size a ≤ S4096x4096.size a) ∧
  (∀ (hinb : ∀ a, (k0_off560 v3714) a + S32x4096.size a ≤ S4096x4096.size a), (Rect.unit (s := S4096x4096) (k0_off560 v3714) S32x4096.size hinb).WholeWords (EltTy.packing .i8))
theorem k0_off560_inb : ∀ (v3714 : BitVec 32) (k0_hw561 : k0_chk561 v3714), ∀ a, (k0_off560 v3714) a + S32x4096.size a ≤ S4096x4096.size a := fun v3714 k0_hw561 => k0_hw561.1
theorem k0_off560_wordsi8 : ∀ (v3714 : BitVec 32) (k0_hw561 : k0_chk561 v3714), (Rect.unit (s := S4096x4096) (k0_off560 v3714) S32x4096.size (k0_off560_inb v3714 k0_hw561)).WholeWords (EltTy.packing .i8) := fun v3714 k0_hw561 => k0_hw561.2 (k0_off560_inb v3714 k0_hw561)

def k0_off562 (v3724 : BitVec 32) : Fin 2 → Nat :=
  let c128_i32_3820 : BitVec 32 := 128#32
  let v3725 : BitVec 32 := Scalar.muli v3724 c128_i32_3820
  let c0_i32_3821 : BitVec 32 := 0#32
  let v3726 : BitVec 32 := Scalar.addi v3725 c0_i32_3821
  let c0_i32_3830 : BitVec 32 := 0#32
  ![v3726.toNat, 0]

def k0_off563 (v3727 : BitVec 32) : Fin 2 → Nat :=
  let c128_i32_3823 : BitVec 32 := 128#32
  let v3728 : BitVec 32 := Scalar.muli v3727 c128_i32_3823
  let c0_i32_3824 : BitVec 32 := 0#32
  let v3729 : BitVec 32 := Scalar.addi v3728 c0_i32_3824
  let c0_i32_3831 : BitVec 32 := 0#32
  ![v3729.toNat, 0]

def k0_chk564 (v3727 : BitVec 32) : Prop :=
  (∀ a, (k0_off563 v3727) a + S32x4096.size a ≤ S4096x4096.size a) ∧
  (∀ (hinb : ∀ a, (k0_off563 v3727) a + S32x4096.size a ≤ S4096x4096.size a), (Rect.unit (s := S4096x4096) (k0_off563 v3727) S32x4096.size hinb).WholeWords (EltTy.packing .i8))
theorem k0_off563_inb : ∀ (v3727 : BitVec 32) (k0_hw564 : k0_chk564 v3727), ∀ a, (k0_off563 v3727) a + S32x4096.size a ≤ S4096x4096.size a := fun v3727 k0_hw564 => k0_hw564.1
theorem k0_off563_wordsi8 : ∀ (v3727 : BitVec 32) (k0_hw564 : k0_chk564 v3727), (Rect.unit (s := S4096x4096) (k0_off563 v3727) S32x4096.size (k0_off563_inb v3727 k0_hw564)).WholeWords (EltTy.packing .i8) := fun v3727 k0_hw564 => k0_hw564.2 (k0_off563_inb v3727 k0_hw564)

def k0_chk563 (v3724 : BitVec 32) : Prop :=
  (∀ a, (k0_off562 v3724) a + S32x4096.size a ≤ S4096x4096.size a) ∧
  (∀ (hinb : ∀ a, (k0_off562 v3724) a + S32x4096.size a ≤ S4096x4096.size a), (Rect.unit (s := S4096x4096) (k0_off562 v3724) S32x4096.size hinb).WholeWords (EltTy.packing .i8))
theorem k0_off562_inb : ∀ (v3724 : BitVec 32) (k0_hw563 : k0_chk563 v3724), ∀ a, (k0_off562 v3724) a + S32x4096.size a ≤ S4096x4096.size a := fun v3724 k0_hw563 => k0_hw563.1
theorem k0_off562_wordsi8 : ∀ (v3724 : BitVec 32) (k0_hw563 : k0_chk563 v3724), (Rect.unit (s := S4096x4096) (k0_off562 v3724) S32x4096.size (k0_off562_inb v3724 k0_hw563)).WholeWords (EltTy.packing .i8) := fun v3724 k0_hw563 => k0_hw563.2 (k0_off562_inb v3724 k0_hw563)

def k0_off564 (v3734 : BitVec 32) : Fin 2 → Nat :=
  let c128_i32_3833 : BitVec 32 := 128#32
  let v3735 : BitVec 32 := Scalar.muli v3734 c128_i32_3833
  let c32_i32_3834 : BitVec 32 := 32#32
  let v3736 : BitVec 32 := Scalar.addi v3735 c32_i32_3834
  let c0_i32_3843 : BitVec 32 := 0#32
  ![v3736.toNat, 0]

def k0_off565 (v3737 : BitVec 32) : Fin 2 → Nat :=
  let c128_i32_3836 : BitVec 32 := 128#32
  let v3738 : BitVec 32 := Scalar.muli v3737 c128_i32_3836
  let c32_i32_3837 : BitVec 32 := 32#32
  let v3739 : BitVec 32 := Scalar.addi v3738 c32_i32_3837
  let c0_i32_3844 : BitVec 32 := 0#32
  ![v3739.toNat, 0]

def k0_chk566 (v3737 : BitVec 32) : Prop :=
  (∀ a, (k0_off565 v3737) a + S32x4096.size a ≤ S4096x4096.size a) ∧
  (∀ (hinb : ∀ a, (k0_off565 v3737) a + S32x4096.size a ≤ S4096x4096.size a), (Rect.unit (s := S4096x4096) (k0_off565 v3737) S32x4096.size hinb).WholeWords (EltTy.packing .i8))
theorem k0_off565_inb : ∀ (v3737 : BitVec 32) (k0_hw566 : k0_chk566 v3737), ∀ a, (k0_off565 v3737) a + S32x4096.size a ≤ S4096x4096.size a := fun v3737 k0_hw566 => k0_hw566.1
theorem k0_off565_wordsi8 : ∀ (v3737 : BitVec 32) (k0_hw566 : k0_chk566 v3737), (Rect.unit (s := S4096x4096) (k0_off565 v3737) S32x4096.size (k0_off565_inb v3737 k0_hw566)).WholeWords (EltTy.packing .i8) := fun v3737 k0_hw566 => k0_hw566.2 (k0_off565_inb v3737 k0_hw566)

def k0_chk565 (v3734 : BitVec 32) : Prop :=
  (∀ a, (k0_off564 v3734) a + S32x4096.size a ≤ S4096x4096.size a) ∧
  (∀ (hinb : ∀ a, (k0_off564 v3734) a + S32x4096.size a ≤ S4096x4096.size a), (Rect.unit (s := S4096x4096) (k0_off564 v3734) S32x4096.size hinb).WholeWords (EltTy.packing .i8))
theorem k0_off564_inb : ∀ (v3734 : BitVec 32) (k0_hw565 : k0_chk565 v3734), ∀ a, (k0_off564 v3734) a + S32x4096.size a ≤ S4096x4096.size a := fun v3734 k0_hw565 => k0_hw565.1
theorem k0_off564_wordsi8 : ∀ (v3734 : BitVec 32) (k0_hw565 : k0_chk565 v3734), (Rect.unit (s := S4096x4096) (k0_off564 v3734) S32x4096.size (k0_off564_inb v3734 k0_hw565)).WholeWords (EltTy.packing .i8) := fun v3734 k0_hw565 => k0_hw565.2 (k0_off564_inb v3734 k0_hw565)

def k0_off566 (v3744 : BitVec 32) : Fin 2 → Nat :=
  let c128_i32_3846 : BitVec 32 := 128#32
  let v3745 : BitVec 32 := Scalar.muli v3744 c128_i32_3846
  let c32_i32_3847 : BitVec 32 := 32#32
  let v3746 : BitVec 32 := Scalar.addi v3745 c32_i32_3847
  let c0_i32_3856 : BitVec 32 := 0#32
  ![v3746.toNat, 0]

def k0_off567 (v3747 : BitVec 32) : Fin 2 → Nat :=
  let c128_i32_3849 : BitVec 32 := 128#32
  let v3748 : BitVec 32 := Scalar.muli v3747 c128_i32_3849
  let c32_i32_3850 : BitVec 32 := 32#32
  let v3749 : BitVec 32 := Scalar.addi v3748 c32_i32_3850
  let c0_i32_3857 : BitVec 32 := 0#32
  ![v3749.toNat, 0]

def k0_chk568 (v3747 : BitVec 32) : Prop :=
  (∀ a, (k0_off567 v3747) a + S32x4096.size a ≤ S4096x4096.size a) ∧
  (∀ (hinb : ∀ a, (k0_off567 v3747) a + S32x4096.size a ≤ S4096x4096.size a), (Rect.unit (s := S4096x4096) (k0_off567 v3747) S32x4096.size hinb).WholeWords (EltTy.packing .i8))
theorem k0_off567_inb : ∀ (v3747 : BitVec 32) (k0_hw568 : k0_chk568 v3747), ∀ a, (k0_off567 v3747) a + S32x4096.size a ≤ S4096x4096.size a := fun v3747 k0_hw568 => k0_hw568.1
theorem k0_off567_wordsi8 : ∀ (v3747 : BitVec 32) (k0_hw568 : k0_chk568 v3747), (Rect.unit (s := S4096x4096) (k0_off567 v3747) S32x4096.size (k0_off567_inb v3747 k0_hw568)).WholeWords (EltTy.packing .i8) := fun v3747 k0_hw568 => k0_hw568.2 (k0_off567_inb v3747 k0_hw568)

def k0_chk567 (v3744 : BitVec 32) : Prop :=
  (∀ a, (k0_off566 v3744) a + S32x4096.size a ≤ S4096x4096.size a) ∧
  (∀ (hinb : ∀ a, (k0_off566 v3744) a + S32x4096.size a ≤ S4096x4096.size a), (Rect.unit (s := S4096x4096) (k0_off566 v3744) S32x4096.size hinb).WholeWords (EltTy.packing .i8))
theorem k0_off566_inb : ∀ (v3744 : BitVec 32) (k0_hw567 : k0_chk567 v3744), ∀ a, (k0_off566 v3744) a + S32x4096.size a ≤ S4096x4096.size a := fun v3744 k0_hw567 => k0_hw567.1
theorem k0_off566_wordsi8 : ∀ (v3744 : BitVec 32) (k0_hw567 : k0_chk567 v3744), (Rect.unit (s := S4096x4096) (k0_off566 v3744) S32x4096.size (k0_off566_inb v3744 k0_hw567)).WholeWords (EltTy.packing .i8) := fun v3744 k0_hw567 => k0_hw567.2 (k0_off566_inb v3744 k0_hw567)

def k0_off568 (v3754 : BitVec 32) : Fin 2 → Nat :=
  let c128_i32_3859 : BitVec 32 := 128#32
  let v3755 : BitVec 32 := Scalar.muli v3754 c128_i32_3859
  let c64_i32_3860 : BitVec 32 := 64#32
  let v3756 : BitVec 32 := Scalar.addi v3755 c64_i32_3860
  let c0_i32_3869 : BitVec 32 := 0#32
  ![v3756.toNat, 0]

def k0_off569 (v3757 : BitVec 32) : Fin 2 → Nat :=
  let c128_i32_3862 : BitVec 32 := 128#32
  let v3758 : BitVec 32 := Scalar.muli v3757 c128_i32_3862
  let c64_i32_3863 : BitVec 32 := 64#32
  let v3759 : BitVec 32 := Scalar.addi v3758 c64_i32_3863
  let c0_i32_3870 : BitVec 32 := 0#32
  ![v3759.toNat, 0]

def k0_chk570 (v3757 : BitVec 32) : Prop :=
  (∀ a, (k0_off569 v3757) a + S32x4096.size a ≤ S4096x4096.size a) ∧
  (∀ (hinb : ∀ a, (k0_off569 v3757) a + S32x4096.size a ≤ S4096x4096.size a), (Rect.unit (s := S4096x4096) (k0_off569 v3757) S32x4096.size hinb).WholeWords (EltTy.packing .i8))
theorem k0_off569_inb : ∀ (v3757 : BitVec 32) (k0_hw570 : k0_chk570 v3757), ∀ a, (k0_off569 v3757) a + S32x4096.size a ≤ S4096x4096.size a := fun v3757 k0_hw570 => k0_hw570.1
theorem k0_off569_wordsi8 : ∀ (v3757 : BitVec 32) (k0_hw570 : k0_chk570 v3757), (Rect.unit (s := S4096x4096) (k0_off569 v3757) S32x4096.size (k0_off569_inb v3757 k0_hw570)).WholeWords (EltTy.packing .i8) := fun v3757 k0_hw570 => k0_hw570.2 (k0_off569_inb v3757 k0_hw570)

def k0_chk569 (v3754 : BitVec 32) : Prop :=
  (∀ a, (k0_off568 v3754) a + S32x4096.size a ≤ S4096x4096.size a) ∧
  (∀ (hinb : ∀ a, (k0_off568 v3754) a + S32x4096.size a ≤ S4096x4096.size a), (Rect.unit (s := S4096x4096) (k0_off568 v3754) S32x4096.size hinb).WholeWords (EltTy.packing .i8))
theorem k0_off568_inb : ∀ (v3754 : BitVec 32) (k0_hw569 : k0_chk569 v3754), ∀ a, (k0_off568 v3754) a + S32x4096.size a ≤ S4096x4096.size a := fun v3754 k0_hw569 => k0_hw569.1
theorem k0_off568_wordsi8 : ∀ (v3754 : BitVec 32) (k0_hw569 : k0_chk569 v3754), (Rect.unit (s := S4096x4096) (k0_off568 v3754) S32x4096.size (k0_off568_inb v3754 k0_hw569)).WholeWords (EltTy.packing .i8) := fun v3754 k0_hw569 => k0_hw569.2 (k0_off568_inb v3754 k0_hw569)

def k0_off570 (v3764 : BitVec 32) : Fin 2 → Nat :=
  let c128_i32_3872 : BitVec 32 := 128#32
  let v3765 : BitVec 32 := Scalar.muli v3764 c128_i32_3872
  let c64_i32_3873 : BitVec 32 := 64#32
  let v3766 : BitVec 32 := Scalar.addi v3765 c64_i32_3873
  let c0_i32_3882 : BitVec 32 := 0#32
  ![v3766.toNat, 0]

def k0_off571 (v3767 : BitVec 32) : Fin 2 → Nat :=
  let c128_i32_3875 : BitVec 32 := 128#32
  let v3768 : BitVec 32 := Scalar.muli v3767 c128_i32_3875
  let c64_i32_3876 : BitVec 32 := 64#32
  let v3769 : BitVec 32 := Scalar.addi v3768 c64_i32_3876
  let c0_i32_3883 : BitVec 32 := 0#32
  ![v3769.toNat, 0]

def k0_chk572 (v3767 : BitVec 32) : Prop :=
  (∀ a, (k0_off571 v3767) a + S32x4096.size a ≤ S4096x4096.size a) ∧
  (∀ (hinb : ∀ a, (k0_off571 v3767) a + S32x4096.size a ≤ S4096x4096.size a), (Rect.unit (s := S4096x4096) (k0_off571 v3767) S32x4096.size hinb).WholeWords (EltTy.packing .i8))
theorem k0_off571_inb : ∀ (v3767 : BitVec 32) (k0_hw572 : k0_chk572 v3767), ∀ a, (k0_off571 v3767) a + S32x4096.size a ≤ S4096x4096.size a := fun v3767 k0_hw572 => k0_hw572.1
theorem k0_off571_wordsi8 : ∀ (v3767 : BitVec 32) (k0_hw572 : k0_chk572 v3767), (Rect.unit (s := S4096x4096) (k0_off571 v3767) S32x4096.size (k0_off571_inb v3767 k0_hw572)).WholeWords (EltTy.packing .i8) := fun v3767 k0_hw572 => k0_hw572.2 (k0_off571_inb v3767 k0_hw572)

def k0_chk571 (v3764 : BitVec 32) : Prop :=
  (∀ a, (k0_off570 v3764) a + S32x4096.size a ≤ S4096x4096.size a) ∧
  (∀ (hinb : ∀ a, (k0_off570 v3764) a + S32x4096.size a ≤ S4096x4096.size a), (Rect.unit (s := S4096x4096) (k0_off570 v3764) S32x4096.size hinb).WholeWords (EltTy.packing .i8))
theorem k0_off570_inb : ∀ (v3764 : BitVec 32) (k0_hw571 : k0_chk571 v3764), ∀ a, (k0_off570 v3764) a + S32x4096.size a ≤ S4096x4096.size a := fun v3764 k0_hw571 => k0_hw571.1
theorem k0_off570_wordsi8 : ∀ (v3764 : BitVec 32) (k0_hw571 : k0_chk571 v3764), (Rect.unit (s := S4096x4096) (k0_off570 v3764) S32x4096.size (k0_off570_inb v3764 k0_hw571)).WholeWords (EltTy.packing .i8) := fun v3764 k0_hw571 => k0_hw571.2 (k0_off570_inb v3764 k0_hw571)

def k0_off572 (v3774 : BitVec 32) : Fin 2 → Nat :=
  let c128_i32_3885 : BitVec 32 := 128#32
  let v3775 : BitVec 32 := Scalar.muli v3774 c128_i32_3885
  let c96_i32_3886 : BitVec 32 := 96#32
  let v3776 : BitVec 32 := Scalar.addi v3775 c96_i32_3886
  let c0_i32_3895 : BitVec 32 := 0#32
  ![v3776.toNat, 0]

def k0_off573 (v3777 : BitVec 32) : Fin 2 → Nat :=
  let c128_i32_3888 : BitVec 32 := 128#32
  let v3778 : BitVec 32 := Scalar.muli v3777 c128_i32_3888
  let c96_i32_3889 : BitVec 32 := 96#32
  let v3779 : BitVec 32 := Scalar.addi v3778 c96_i32_3889
  let c0_i32_3896 : BitVec 32 := 0#32
  ![v3779.toNat, 0]

def k0_chk574 (v3777 : BitVec 32) : Prop :=
  (∀ a, (k0_off573 v3777) a + S32x4096.size a ≤ S4096x4096.size a) ∧
  (∀ (hinb : ∀ a, (k0_off573 v3777) a + S32x4096.size a ≤ S4096x4096.size a), (Rect.unit (s := S4096x4096) (k0_off573 v3777) S32x4096.size hinb).WholeWords (EltTy.packing .i8))
theorem k0_off573_inb : ∀ (v3777 : BitVec 32) (k0_hw574 : k0_chk574 v3777), ∀ a, (k0_off573 v3777) a + S32x4096.size a ≤ S4096x4096.size a := fun v3777 k0_hw574 => k0_hw574.1
theorem k0_off573_wordsi8 : ∀ (v3777 : BitVec 32) (k0_hw574 : k0_chk574 v3777), (Rect.unit (s := S4096x4096) (k0_off573 v3777) S32x4096.size (k0_off573_inb v3777 k0_hw574)).WholeWords (EltTy.packing .i8) := fun v3777 k0_hw574 => k0_hw574.2 (k0_off573_inb v3777 k0_hw574)

def k0_chk573 (v3774 : BitVec 32) : Prop :=
  (∀ a, (k0_off572 v3774) a + S32x4096.size a ≤ S4096x4096.size a) ∧
  (∀ (hinb : ∀ a, (k0_off572 v3774) a + S32x4096.size a ≤ S4096x4096.size a), (Rect.unit (s := S4096x4096) (k0_off572 v3774) S32x4096.size hinb).WholeWords (EltTy.packing .i8))
theorem k0_off572_inb : ∀ (v3774 : BitVec 32) (k0_hw573 : k0_chk573 v3774), ∀ a, (k0_off572 v3774) a + S32x4096.size a ≤ S4096x4096.size a := fun v3774 k0_hw573 => k0_hw573.1
theorem k0_off572_wordsi8 : ∀ (v3774 : BitVec 32) (k0_hw573 : k0_chk573 v3774), (Rect.unit (s := S4096x4096) (k0_off572 v3774) S32x4096.size (k0_off572_inb v3774 k0_hw573)).WholeWords (EltTy.packing .i8) := fun v3774 k0_hw573 => k0_hw573.2 (k0_off572_inb v3774 k0_hw573)

def k0_off574 (v3784 : BitVec 32) : Fin 2 → Nat :=
  let c128_i32_3898 : BitVec 32 := 128#32
  let v3785 : BitVec 32 := Scalar.muli v3784 c128_i32_3898
  let c96_i32_3899 : BitVec 32 := 96#32
  let v3786 : BitVec 32 := Scalar.addi v3785 c96_i32_3899
  let c0_i32_3908 : BitVec 32 := 0#32
  ![v3786.toNat, 0]

def k0_off575 (v3787 : BitVec 32) : Fin 2 → Nat :=
  let c128_i32_3901 : BitVec 32 := 128#32
  let v3788 : BitVec 32 := Scalar.muli v3787 c128_i32_3901
  let c96_i32_3902 : BitVec 32 := 96#32
  let v3789 : BitVec 32 := Scalar.addi v3788 c96_i32_3902
  let c0_i32_3909 : BitVec 32 := 0#32
  ![v3789.toNat, 0]

def k0_chk576 (v3787 : BitVec 32) : Prop :=
  (∀ a, (k0_off575 v3787) a + S32x4096.size a ≤ S4096x4096.size a) ∧
  (∀ (hinb : ∀ a, (k0_off575 v3787) a + S32x4096.size a ≤ S4096x4096.size a), (Rect.unit (s := S4096x4096) (k0_off575 v3787) S32x4096.size hinb).WholeWords (EltTy.packing .i8))
theorem k0_off575_inb : ∀ (v3787 : BitVec 32) (k0_hw576 : k0_chk576 v3787), ∀ a, (k0_off575 v3787) a + S32x4096.size a ≤ S4096x4096.size a := fun v3787 k0_hw576 => k0_hw576.1
theorem k0_off575_wordsi8 : ∀ (v3787 : BitVec 32) (k0_hw576 : k0_chk576 v3787), (Rect.unit (s := S4096x4096) (k0_off575 v3787) S32x4096.size (k0_off575_inb v3787 k0_hw576)).WholeWords (EltTy.packing .i8) := fun v3787 k0_hw576 => k0_hw576.2 (k0_off575_inb v3787 k0_hw576)

def k0_chk575 (v3784 : BitVec 32) : Prop :=
  (∀ a, (k0_off574 v3784) a + S32x4096.size a ≤ S4096x4096.size a) ∧
  (∀ (hinb : ∀ a, (k0_off574 v3784) a + S32x4096.size a ≤ S4096x4096.size a), (Rect.unit (s := S4096x4096) (k0_off574 v3784) S32x4096.size hinb).WholeWords (EltTy.packing .i8))
theorem k0_off574_inb : ∀ (v3784 : BitVec 32) (k0_hw575 : k0_chk575 v3784), ∀ a, (k0_off574 v3784) a + S32x4096.size a ≤ S4096x4096.size a := fun v3784 k0_hw575 => k0_hw575.1
theorem k0_off574_wordsi8 : ∀ (v3784 : BitVec 32) (k0_hw575 : k0_chk575 v3784), (Rect.unit (s := S4096x4096) (k0_off574 v3784) S32x4096.size (k0_off574_inb v3784 k0_hw575)).WholeWords (EltTy.packing .i8) := fun v3784 k0_hw575 => k0_hw575.2 (k0_off574_inb v3784 k0_hw575)

def k0_off576 (v3794 : BitVec 32) : Fin 2 → Nat :=
  let c128_i32_3911 : BitVec 32 := 128#32
  let v3795 : BitVec 32 := Scalar.muli v3794 c128_i32_3911
  let c0_i32_3912 : BitVec 32 := 0#32
  let v3796 : BitVec 32 := Scalar.addi v3795 c0_i32_3912
  let c0_i32_3921 : BitVec 32 := 0#32
  ![v3796.toNat, 0]

def k0_off577 (v3797 : BitVec 32) : Fin 2 → Nat :=
  let c128_i32_3914 : BitVec 32 := 128#32
  let v3798 : BitVec 32 := Scalar.muli v3797 c128_i32_3914
  let c0_i32_3915 : BitVec 32 := 0#32
  let v3799 : BitVec 32 := Scalar.addi v3798 c0_i32_3915
  let c0_i32_3922 : BitVec 32 := 0#32
  ![v3799.toNat, 0]

def k0_chk578 (v3797 : BitVec 32) : Prop :=
  (∀ a, (k0_off577 v3797) a + S32x4096.size a ≤ S4096x4096.size a) ∧
  (∀ (hinb : ∀ a, (k0_off577 v3797) a + S32x4096.size a ≤ S4096x4096.size a), (Rect.unit (s := S4096x4096) (k0_off577 v3797) S32x4096.size hinb).WholeWords (EltTy.packing .i8))
theorem k0_off577_inb : ∀ (v3797 : BitVec 32) (k0_hw578 : k0_chk578 v3797), ∀ a, (k0_off577 v3797) a + S32x4096.size a ≤ S4096x4096.size a := fun v3797 k0_hw578 => k0_hw578.1
theorem k0_off577_wordsi8 : ∀ (v3797 : BitVec 32) (k0_hw578 : k0_chk578 v3797), (Rect.unit (s := S4096x4096) (k0_off577 v3797) S32x4096.size (k0_off577_inb v3797 k0_hw578)).WholeWords (EltTy.packing .i8) := fun v3797 k0_hw578 => k0_hw578.2 (k0_off577_inb v3797 k0_hw578)

def k0_chk577 (v3794 : BitVec 32) : Prop :=
  (∀ a, (k0_off576 v3794) a + S32x4096.size a ≤ S4096x4096.size a) ∧
  (∀ (hinb : ∀ a, (k0_off576 v3794) a + S32x4096.size a ≤ S4096x4096.size a), (Rect.unit (s := S4096x4096) (k0_off576 v3794) S32x4096.size hinb).WholeWords (EltTy.packing .i8))
theorem k0_off576_inb : ∀ (v3794 : BitVec 32) (k0_hw577 : k0_chk577 v3794), ∀ a, (k0_off576 v3794) a + S32x4096.size a ≤ S4096x4096.size a := fun v3794 k0_hw577 => k0_hw577.1
theorem k0_off576_wordsi8 : ∀ (v3794 : BitVec 32) (k0_hw577 : k0_chk577 v3794), (Rect.unit (s := S4096x4096) (k0_off576 v3794) S32x4096.size (k0_off576_inb v3794 k0_hw577)).WholeWords (EltTy.packing .i8) := fun v3794 k0_hw577 => k0_hw577.2 (k0_off576_inb v3794 k0_hw577)

def k0_off578 (v3804 : BitVec 32) : Fin 2 → Nat :=
  let c128_i32_3924 : BitVec 32 := 128#32
  let v3805 : BitVec 32 := Scalar.muli v3804 c128_i32_3924
  let c0_i32_3925 : BitVec 32 := 0#32
  let v3806 : BitVec 32 := Scalar.addi v3805 c0_i32_3925
  let c0_i32_3934 : BitVec 32 := 0#32
  ![v3806.toNat, 0]

def k0_off579 (v3807 : BitVec 32) : Fin 2 → Nat :=
  let c128_i32_3927 : BitVec 32 := 128#32
  let v3808 : BitVec 32 := Scalar.muli v3807 c128_i32_3927
  let c0_i32_3928 : BitVec 32 := 0#32
  let v3809 : BitVec 32 := Scalar.addi v3808 c0_i32_3928
  let c0_i32_3935 : BitVec 32 := 0#32
  ![v3809.toNat, 0]

def k0_chk580 (v3807 : BitVec 32) : Prop :=
  (∀ a, (k0_off579 v3807) a + S32x4096.size a ≤ S4096x4096.size a) ∧
  (∀ (hinb : ∀ a, (k0_off579 v3807) a + S32x4096.size a ≤ S4096x4096.size a), (Rect.unit (s := S4096x4096) (k0_off579 v3807) S32x4096.size hinb).WholeWords (EltTy.packing .i8))
theorem k0_off579_inb : ∀ (v3807 : BitVec 32) (k0_hw580 : k0_chk580 v3807), ∀ a, (k0_off579 v3807) a + S32x4096.size a ≤ S4096x4096.size a := fun v3807 k0_hw580 => k0_hw580.1
theorem k0_off579_wordsi8 : ∀ (v3807 : BitVec 32) (k0_hw580 : k0_chk580 v3807), (Rect.unit (s := S4096x4096) (k0_off579 v3807) S32x4096.size (k0_off579_inb v3807 k0_hw580)).WholeWords (EltTy.packing .i8) := fun v3807 k0_hw580 => k0_hw580.2 (k0_off579_inb v3807 k0_hw580)

def k0_chk579 (v3804 : BitVec 32) : Prop :=
  (∀ a, (k0_off578 v3804) a + S32x4096.size a ≤ S4096x4096.size a) ∧
  (∀ (hinb : ∀ a, (k0_off578 v3804) a + S32x4096.size a ≤ S4096x4096.size a), (Rect.unit (s := S4096x4096) (k0_off578 v3804) S32x4096.size hinb).WholeWords (EltTy.packing .i8))
theorem k0_off578_inb : ∀ (v3804 : BitVec 32) (k0_hw579 : k0_chk579 v3804), ∀ a, (k0_off578 v3804) a + S32x4096.size a ≤ S4096x4096.size a := fun v3804 k0_hw579 => k0_hw579.1
theorem k0_off578_wordsi8 : ∀ (v3804 : BitVec 32) (k0_hw579 : k0_chk579 v3804), (Rect.unit (s := S4096x4096) (k0_off578 v3804) S32x4096.size (k0_off578_inb v3804 k0_hw579)).WholeWords (EltTy.packing .i8) := fun v3804 k0_hw579 => k0_hw579.2 (k0_off578_inb v3804 k0_hw579)

def k0_off580 (v3814 : BitVec 32) : Fin 2 → Nat :=
  let c128_i32_3937 : BitVec 32 := 128#32
  let v3815 : BitVec 32 := Scalar.muli v3814 c128_i32_3937
  let c32_i32_3938 : BitVec 32 := 32#32
  let v3816 : BitVec 32 := Scalar.addi v3815 c32_i32_3938
  let c0_i32_3947 : BitVec 32 := 0#32
  ![v3816.toNat, 0]

def k0_off581 (v3817 : BitVec 32) : Fin 2 → Nat :=
  let c128_i32_3940 : BitVec 32 := 128#32
  let v3818 : BitVec 32 := Scalar.muli v3817 c128_i32_3940
  let c32_i32_3941 : BitVec 32 := 32#32
  let v3819 : BitVec 32 := Scalar.addi v3818 c32_i32_3941
  let c0_i32_3948 : BitVec 32 := 0#32
  ![v3819.toNat, 0]

def k0_chk582 (v3817 : BitVec 32) : Prop :=
  (∀ a, (k0_off581 v3817) a + S32x4096.size a ≤ S4096x4096.size a) ∧
  (∀ (hinb : ∀ a, (k0_off581 v3817) a + S32x4096.size a ≤ S4096x4096.size a), (Rect.unit (s := S4096x4096) (k0_off581 v3817) S32x4096.size hinb).WholeWords (EltTy.packing .i8))
theorem k0_off581_inb : ∀ (v3817 : BitVec 32) (k0_hw582 : k0_chk582 v3817), ∀ a, (k0_off581 v3817) a + S32x4096.size a ≤ S4096x4096.size a := fun v3817 k0_hw582 => k0_hw582.1
theorem k0_off581_wordsi8 : ∀ (v3817 : BitVec 32) (k0_hw582 : k0_chk582 v3817), (Rect.unit (s := S4096x4096) (k0_off581 v3817) S32x4096.size (k0_off581_inb v3817 k0_hw582)).WholeWords (EltTy.packing .i8) := fun v3817 k0_hw582 => k0_hw582.2 (k0_off581_inb v3817 k0_hw582)

def k0_chk581 (v3814 : BitVec 32) : Prop :=
  (∀ a, (k0_off580 v3814) a + S32x4096.size a ≤ S4096x4096.size a) ∧
  (∀ (hinb : ∀ a, (k0_off580 v3814) a + S32x4096.size a ≤ S4096x4096.size a), (Rect.unit (s := S4096x4096) (k0_off580 v3814) S32x4096.size hinb).WholeWords (EltTy.packing .i8))
theorem k0_off580_inb : ∀ (v3814 : BitVec 32) (k0_hw581 : k0_chk581 v3814), ∀ a, (k0_off580 v3814) a + S32x4096.size a ≤ S4096x4096.size a := fun v3814 k0_hw581 => k0_hw581.1
theorem k0_off580_wordsi8 : ∀ (v3814 : BitVec 32) (k0_hw581 : k0_chk581 v3814), (Rect.unit (s := S4096x4096) (k0_off580 v3814) S32x4096.size (k0_off580_inb v3814 k0_hw581)).WholeWords (EltTy.packing .i8) := fun v3814 k0_hw581 => k0_hw581.2 (k0_off580_inb v3814 k0_hw581)

def k0_off582 (v3824 : BitVec 32) : Fin 2 → Nat :=
  let c128_i32_3950 : BitVec 32 := 128#32
  let v3825 : BitVec 32 := Scalar.muli v3824 c128_i32_3950
  let c32_i32_3951 : BitVec 32 := 32#32
  let v3826 : BitVec 32 := Scalar.addi v3825 c32_i32_3951
  let c0_i32_3960 : BitVec 32 := 0#32
  ![v3826.toNat, 0]

def k0_off583 (v3827 : BitVec 32) : Fin 2 → Nat :=
  let c128_i32_3953 : BitVec 32 := 128#32
  let v3828 : BitVec 32 := Scalar.muli v3827 c128_i32_3953
  let c32_i32_3954 : BitVec 32 := 32#32
  let v3829 : BitVec 32 := Scalar.addi v3828 c32_i32_3954
  let c0_i32_3961 : BitVec 32 := 0#32
  ![v3829.toNat, 0]

def k0_chk584 (v3827 : BitVec 32) : Prop :=
  (∀ a, (k0_off583 v3827) a + S32x4096.size a ≤ S4096x4096.size a) ∧
  (∀ (hinb : ∀ a, (k0_off583 v3827) a + S32x4096.size a ≤ S4096x4096.size a), (Rect.unit (s := S4096x4096) (k0_off583 v3827) S32x4096.size hinb).WholeWords (EltTy.packing .i8))
theorem k0_off583_inb : ∀ (v3827 : BitVec 32) (k0_hw584 : k0_chk584 v3827), ∀ a, (k0_off583 v3827) a + S32x4096.size a ≤ S4096x4096.size a := fun v3827 k0_hw584 => k0_hw584.1
theorem k0_off583_wordsi8 : ∀ (v3827 : BitVec 32) (k0_hw584 : k0_chk584 v3827), (Rect.unit (s := S4096x4096) (k0_off583 v3827) S32x4096.size (k0_off583_inb v3827 k0_hw584)).WholeWords (EltTy.packing .i8) := fun v3827 k0_hw584 => k0_hw584.2 (k0_off583_inb v3827 k0_hw584)

def k0_chk583 (v3824 : BitVec 32) : Prop :=
  (∀ a, (k0_off582 v3824) a + S32x4096.size a ≤ S4096x4096.size a) ∧
  (∀ (hinb : ∀ a, (k0_off582 v3824) a + S32x4096.size a ≤ S4096x4096.size a), (Rect.unit (s := S4096x4096) (k0_off582 v3824) S32x4096.size hinb).WholeWords (EltTy.packing .i8))
theorem k0_off582_inb : ∀ (v3824 : BitVec 32) (k0_hw583 : k0_chk583 v3824), ∀ a, (k0_off582 v3824) a + S32x4096.size a ≤ S4096x4096.size a := fun v3824 k0_hw583 => k0_hw583.1
theorem k0_off582_wordsi8 : ∀ (v3824 : BitVec 32) (k0_hw583 : k0_chk583 v3824), (Rect.unit (s := S4096x4096) (k0_off582 v3824) S32x4096.size (k0_off582_inb v3824 k0_hw583)).WholeWords (EltTy.packing .i8) := fun v3824 k0_hw583 => k0_hw583.2 (k0_off582_inb v3824 k0_hw583)

def k0_off584 (v3834 : BitVec 32) : Fin 2 → Nat :=
  let c128_i32_3963 : BitVec 32 := 128#32
  let v3835 : BitVec 32 := Scalar.muli v3834 c128_i32_3963
  let c64_i32_3964 : BitVec 32 := 64#32
  let v3836 : BitVec 32 := Scalar.addi v3835 c64_i32_3964
  let c0_i32_3973 : BitVec 32 := 0#32
  ![v3836.toNat, 0]

def k0_off585 (v3837 : BitVec 32) : Fin 2 → Nat :=
  let c128_i32_3966 : BitVec 32 := 128#32
  let v3838 : BitVec 32 := Scalar.muli v3837 c128_i32_3966
  let c64_i32_3967 : BitVec 32 := 64#32
  let v3839 : BitVec 32 := Scalar.addi v3838 c64_i32_3967
  let c0_i32_3974 : BitVec 32 := 0#32
  ![v3839.toNat, 0]

def k0_chk586 (v3837 : BitVec 32) : Prop :=
  (∀ a, (k0_off585 v3837) a + S32x4096.size a ≤ S4096x4096.size a) ∧
  (∀ (hinb : ∀ a, (k0_off585 v3837) a + S32x4096.size a ≤ S4096x4096.size a), (Rect.unit (s := S4096x4096) (k0_off585 v3837) S32x4096.size hinb).WholeWords (EltTy.packing .i8))
theorem k0_off585_inb : ∀ (v3837 : BitVec 32) (k0_hw586 : k0_chk586 v3837), ∀ a, (k0_off585 v3837) a + S32x4096.size a ≤ S4096x4096.size a := fun v3837 k0_hw586 => k0_hw586.1
theorem k0_off585_wordsi8 : ∀ (v3837 : BitVec 32) (k0_hw586 : k0_chk586 v3837), (Rect.unit (s := S4096x4096) (k0_off585 v3837) S32x4096.size (k0_off585_inb v3837 k0_hw586)).WholeWords (EltTy.packing .i8) := fun v3837 k0_hw586 => k0_hw586.2 (k0_off585_inb v3837 k0_hw586)

def k0_chk585 (v3834 : BitVec 32) : Prop :=
  (∀ a, (k0_off584 v3834) a + S32x4096.size a ≤ S4096x4096.size a) ∧
  (∀ (hinb : ∀ a, (k0_off584 v3834) a + S32x4096.size a ≤ S4096x4096.size a), (Rect.unit (s := S4096x4096) (k0_off584 v3834) S32x4096.size hinb).WholeWords (EltTy.packing .i8))
theorem k0_off584_inb : ∀ (v3834 : BitVec 32) (k0_hw585 : k0_chk585 v3834), ∀ a, (k0_off584 v3834) a + S32x4096.size a ≤ S4096x4096.size a := fun v3834 k0_hw585 => k0_hw585.1
theorem k0_off584_wordsi8 : ∀ (v3834 : BitVec 32) (k0_hw585 : k0_chk585 v3834), (Rect.unit (s := S4096x4096) (k0_off584 v3834) S32x4096.size (k0_off584_inb v3834 k0_hw585)).WholeWords (EltTy.packing .i8) := fun v3834 k0_hw585 => k0_hw585.2 (k0_off584_inb v3834 k0_hw585)

def k0_off586 (v3844 : BitVec 32) : Fin 2 → Nat :=
  let c128_i32_3976 : BitVec 32 := 128#32
  let v3845 : BitVec 32 := Scalar.muli v3844 c128_i32_3976
  let c64_i32_3977 : BitVec 32 := 64#32
  let v3846 : BitVec 32 := Scalar.addi v3845 c64_i32_3977
  let c0_i32_3986 : BitVec 32 := 0#32
  ![v3846.toNat, 0]

def k0_off587 (v3847 : BitVec 32) : Fin 2 → Nat :=
  let c128_i32_3979 : BitVec 32 := 128#32
  let v3848 : BitVec 32 := Scalar.muli v3847 c128_i32_3979
  let c64_i32_3980 : BitVec 32 := 64#32
  let v3849 : BitVec 32 := Scalar.addi v3848 c64_i32_3980
  let c0_i32_3987 : BitVec 32 := 0#32
  ![v3849.toNat, 0]

def k0_chk588 (v3847 : BitVec 32) : Prop :=
  (∀ a, (k0_off587 v3847) a + S32x4096.size a ≤ S4096x4096.size a) ∧
  (∀ (hinb : ∀ a, (k0_off587 v3847) a + S32x4096.size a ≤ S4096x4096.size a), (Rect.unit (s := S4096x4096) (k0_off587 v3847) S32x4096.size hinb).WholeWords (EltTy.packing .i8))
theorem k0_off587_inb : ∀ (v3847 : BitVec 32) (k0_hw588 : k0_chk588 v3847), ∀ a, (k0_off587 v3847) a + S32x4096.size a ≤ S4096x4096.size a := fun v3847 k0_hw588 => k0_hw588.1
theorem k0_off587_wordsi8 : ∀ (v3847 : BitVec 32) (k0_hw588 : k0_chk588 v3847), (Rect.unit (s := S4096x4096) (k0_off587 v3847) S32x4096.size (k0_off587_inb v3847 k0_hw588)).WholeWords (EltTy.packing .i8) := fun v3847 k0_hw588 => k0_hw588.2 (k0_off587_inb v3847 k0_hw588)

def k0_chk587 (v3844 : BitVec 32) : Prop :=
  (∀ a, (k0_off586 v3844) a + S32x4096.size a ≤ S4096x4096.size a) ∧
  (∀ (hinb : ∀ a, (k0_off586 v3844) a + S32x4096.size a ≤ S4096x4096.size a), (Rect.unit (s := S4096x4096) (k0_off586 v3844) S32x4096.size hinb).WholeWords (EltTy.packing .i8))
theorem k0_off586_inb : ∀ (v3844 : BitVec 32) (k0_hw587 : k0_chk587 v3844), ∀ a, (k0_off586 v3844) a + S32x4096.size a ≤ S4096x4096.size a := fun v3844 k0_hw587 => k0_hw587.1
theorem k0_off586_wordsi8 : ∀ (v3844 : BitVec 32) (k0_hw587 : k0_chk587 v3844), (Rect.unit (s := S4096x4096) (k0_off586 v3844) S32x4096.size (k0_off586_inb v3844 k0_hw587)).WholeWords (EltTy.packing .i8) := fun v3844 k0_hw587 => k0_hw587.2 (k0_off586_inb v3844 k0_hw587)

def k0_off588 (v3854 : BitVec 32) : Fin 2 → Nat :=
  let c128_i32_3989 : BitVec 32 := 128#32
  let v3855 : BitVec 32 := Scalar.muli v3854 c128_i32_3989
  let c96_i32_3990 : BitVec 32 := 96#32
  let v3856 : BitVec 32 := Scalar.addi v3855 c96_i32_3990
  let c0_i32_3999 : BitVec 32 := 0#32
  ![v3856.toNat, 0]

def k0_off589 (v3857 : BitVec 32) : Fin 2 → Nat :=
  let c128_i32_3992 : BitVec 32 := 128#32
  let v3858 : BitVec 32 := Scalar.muli v3857 c128_i32_3992
  let c96_i32_3993 : BitVec 32 := 96#32
  let v3859 : BitVec 32 := Scalar.addi v3858 c96_i32_3993
  let c0_i32_4000 : BitVec 32 := 0#32
  ![v3859.toNat, 0]

def k0_chk590 (v3857 : BitVec 32) : Prop :=
  (∀ a, (k0_off589 v3857) a + S32x4096.size a ≤ S4096x4096.size a) ∧
  (∀ (hinb : ∀ a, (k0_off589 v3857) a + S32x4096.size a ≤ S4096x4096.size a), (Rect.unit (s := S4096x4096) (k0_off589 v3857) S32x4096.size hinb).WholeWords (EltTy.packing .i8))
theorem k0_off589_inb : ∀ (v3857 : BitVec 32) (k0_hw590 : k0_chk590 v3857), ∀ a, (k0_off589 v3857) a + S32x4096.size a ≤ S4096x4096.size a := fun v3857 k0_hw590 => k0_hw590.1
theorem k0_off589_wordsi8 : ∀ (v3857 : BitVec 32) (k0_hw590 : k0_chk590 v3857), (Rect.unit (s := S4096x4096) (k0_off589 v3857) S32x4096.size (k0_off589_inb v3857 k0_hw590)).WholeWords (EltTy.packing .i8) := fun v3857 k0_hw590 => k0_hw590.2 (k0_off589_inb v3857 k0_hw590)

def k0_chk589 (v3854 : BitVec 32) : Prop :=
  (∀ a, (k0_off588 v3854) a + S32x4096.size a ≤ S4096x4096.size a) ∧
  (∀ (hinb : ∀ a, (k0_off588 v3854) a + S32x4096.size a ≤ S4096x4096.size a), (Rect.unit (s := S4096x4096) (k0_off588 v3854) S32x4096.size hinb).WholeWords (EltTy.packing .i8))
theorem k0_off588_inb : ∀ (v3854 : BitVec 32) (k0_hw589 : k0_chk589 v3854), ∀ a, (k0_off588 v3854) a + S32x4096.size a ≤ S4096x4096.size a := fun v3854 k0_hw589 => k0_hw589.1
theorem k0_off588_wordsi8 : ∀ (v3854 : BitVec 32) (k0_hw589 : k0_chk589 v3854), (Rect.unit (s := S4096x4096) (k0_off588 v3854) S32x4096.size (k0_off588_inb v3854 k0_hw589)).WholeWords (EltTy.packing .i8) := fun v3854 k0_hw589 => k0_hw589.2 (k0_off588_inb v3854 k0_hw589)

def k0_off590 (v3864 : BitVec 32) : Fin 2 → Nat :=
  let c128_i32_4002 : BitVec 32 := 128#32
  let v3865 : BitVec 32 := Scalar.muli v3864 c128_i32_4002
  let c96_i32_4003 : BitVec 32 := 96#32
  let v3866 : BitVec 32 := Scalar.addi v3865 c96_i32_4003
  let c0_i32_4012 : BitVec 32 := 0#32
  ![v3866.toNat, 0]

def k0_off591 (v3867 : BitVec 32) : Fin 2 → Nat :=
  let c128_i32_4005 : BitVec 32 := 128#32
  let v3868 : BitVec 32 := Scalar.muli v3867 c128_i32_4005
  let c96_i32_4006 : BitVec 32 := 96#32
  let v3869 : BitVec 32 := Scalar.addi v3868 c96_i32_4006
  let c0_i32_4013 : BitVec 32 := 0#32
  ![v3869.toNat, 0]

def k0_chk592 (v3867 : BitVec 32) : Prop :=
  (∀ a, (k0_off591 v3867) a + S32x4096.size a ≤ S4096x4096.size a) ∧
  (∀ (hinb : ∀ a, (k0_off591 v3867) a + S32x4096.size a ≤ S4096x4096.size a), (Rect.unit (s := S4096x4096) (k0_off591 v3867) S32x4096.size hinb).WholeWords (EltTy.packing .i8))
theorem k0_off591_inb : ∀ (v3867 : BitVec 32) (k0_hw592 : k0_chk592 v3867), ∀ a, (k0_off591 v3867) a + S32x4096.size a ≤ S4096x4096.size a := fun v3867 k0_hw592 => k0_hw592.1
theorem k0_off591_wordsi8 : ∀ (v3867 : BitVec 32) (k0_hw592 : k0_chk592 v3867), (Rect.unit (s := S4096x4096) (k0_off591 v3867) S32x4096.size (k0_off591_inb v3867 k0_hw592)).WholeWords (EltTy.packing .i8) := fun v3867 k0_hw592 => k0_hw592.2 (k0_off591_inb v3867 k0_hw592)

def k0_chk591 (v3864 : BitVec 32) : Prop :=
  (∀ a, (k0_off590 v3864) a + S32x4096.size a ≤ S4096x4096.size a) ∧
  (∀ (hinb : ∀ a, (k0_off590 v3864) a + S32x4096.size a ≤ S4096x4096.size a), (Rect.unit (s := S4096x4096) (k0_off590 v3864) S32x4096.size hinb).WholeWords (EltTy.packing .i8))
theorem k0_off590_inb : ∀ (v3864 : BitVec 32) (k0_hw591 : k0_chk591 v3864), ∀ a, (k0_off590 v3864) a + S32x4096.size a ≤ S4096x4096.size a := fun v3864 k0_hw591 => k0_hw591.1
theorem k0_off590_wordsi8 : ∀ (v3864 : BitVec 32) (k0_hw591 : k0_chk591 v3864), (Rect.unit (s := S4096x4096) (k0_off590 v3864) S32x4096.size (k0_off590_inb v3864 k0_hw591)).WholeWords (EltTy.packing .i8) := fun v3864 k0_hw591 => k0_hw591.2 (k0_off590_inb v3864 k0_hw591)

def k0_off592 (v3874 : BitVec 32) : Fin 2 → Nat :=
  let c128_i32_4015 : BitVec 32 := 128#32
  let v3875 : BitVec 32 := Scalar.muli v3874 c128_i32_4015
  let c0_i32_4016 : BitVec 32 := 0#32
  let v3876 : BitVec 32 := Scalar.addi v3875 c0_i32_4016
  let c0_i32_4025 : BitVec 32 := 0#32
  ![v3876.toNat, 0]

def k0_off593 (v3877 : BitVec 32) : Fin 2 → Nat :=
  let c128_i32_4018 : BitVec 32 := 128#32
  let v3878 : BitVec 32 := Scalar.muli v3877 c128_i32_4018
  let c0_i32_4019 : BitVec 32 := 0#32
  let v3879 : BitVec 32 := Scalar.addi v3878 c0_i32_4019
  let c0_i32_4026 : BitVec 32 := 0#32
  ![v3879.toNat, 0]

def k0_chk594 (v3877 : BitVec 32) : Prop :=
  (∀ a, (k0_off593 v3877) a + S32x4096.size a ≤ S4096x4096.size a) ∧
  (∀ (hinb : ∀ a, (k0_off593 v3877) a + S32x4096.size a ≤ S4096x4096.size a), (Rect.unit (s := S4096x4096) (k0_off593 v3877) S32x4096.size hinb).WholeWords (EltTy.packing .i8))
theorem k0_off593_inb : ∀ (v3877 : BitVec 32) (k0_hw594 : k0_chk594 v3877), ∀ a, (k0_off593 v3877) a + S32x4096.size a ≤ S4096x4096.size a := fun v3877 k0_hw594 => k0_hw594.1
theorem k0_off593_wordsi8 : ∀ (v3877 : BitVec 32) (k0_hw594 : k0_chk594 v3877), (Rect.unit (s := S4096x4096) (k0_off593 v3877) S32x4096.size (k0_off593_inb v3877 k0_hw594)).WholeWords (EltTy.packing .i8) := fun v3877 k0_hw594 => k0_hw594.2 (k0_off593_inb v3877 k0_hw594)

def k0_chk593 (v3874 : BitVec 32) : Prop :=
  (∀ a, (k0_off592 v3874) a + S32x4096.size a ≤ S4096x4096.size a) ∧
  (∀ (hinb : ∀ a, (k0_off592 v3874) a + S32x4096.size a ≤ S4096x4096.size a), (Rect.unit (s := S4096x4096) (k0_off592 v3874) S32x4096.size hinb).WholeWords (EltTy.packing .i8))
theorem k0_off592_inb : ∀ (v3874 : BitVec 32) (k0_hw593 : k0_chk593 v3874), ∀ a, (k0_off592 v3874) a + S32x4096.size a ≤ S4096x4096.size a := fun v3874 k0_hw593 => k0_hw593.1
theorem k0_off592_wordsi8 : ∀ (v3874 : BitVec 32) (k0_hw593 : k0_chk593 v3874), (Rect.unit (s := S4096x4096) (k0_off592 v3874) S32x4096.size (k0_off592_inb v3874 k0_hw593)).WholeWords (EltTy.packing .i8) := fun v3874 k0_hw593 => k0_hw593.2 (k0_off592_inb v3874 k0_hw593)

def k0_off594 (v3884 : BitVec 32) : Fin 2 → Nat :=
  let c128_i32_4028 : BitVec 32 := 128#32
  let v3885 : BitVec 32 := Scalar.muli v3884 c128_i32_4028
  let c0_i32_4029 : BitVec 32 := 0#32
  let v3886 : BitVec 32 := Scalar.addi v3885 c0_i32_4029
  let c0_i32_4038 : BitVec 32 := 0#32
  ![v3886.toNat, 0]

def k0_off595 (v3887 : BitVec 32) : Fin 2 → Nat :=
  let c128_i32_4031 : BitVec 32 := 128#32
  let v3888 : BitVec 32 := Scalar.muli v3887 c128_i32_4031
  let c0_i32_4032 : BitVec 32 := 0#32
  let v3889 : BitVec 32 := Scalar.addi v3888 c0_i32_4032
  let c0_i32_4039 : BitVec 32 := 0#32
  ![v3889.toNat, 0]

def k0_chk596 (v3887 : BitVec 32) : Prop :=
  (∀ a, (k0_off595 v3887) a + S32x4096.size a ≤ S4096x4096.size a) ∧
  (∀ (hinb : ∀ a, (k0_off595 v3887) a + S32x4096.size a ≤ S4096x4096.size a), (Rect.unit (s := S4096x4096) (k0_off595 v3887) S32x4096.size hinb).WholeWords (EltTy.packing .i8))
theorem k0_off595_inb : ∀ (v3887 : BitVec 32) (k0_hw596 : k0_chk596 v3887), ∀ a, (k0_off595 v3887) a + S32x4096.size a ≤ S4096x4096.size a := fun v3887 k0_hw596 => k0_hw596.1
theorem k0_off595_wordsi8 : ∀ (v3887 : BitVec 32) (k0_hw596 : k0_chk596 v3887), (Rect.unit (s := S4096x4096) (k0_off595 v3887) S32x4096.size (k0_off595_inb v3887 k0_hw596)).WholeWords (EltTy.packing .i8) := fun v3887 k0_hw596 => k0_hw596.2 (k0_off595_inb v3887 k0_hw596)

def k0_chk595 (v3884 : BitVec 32) : Prop :=
  (∀ a, (k0_off594 v3884) a + S32x4096.size a ≤ S4096x4096.size a) ∧
  (∀ (hinb : ∀ a, (k0_off594 v3884) a + S32x4096.size a ≤ S4096x4096.size a), (Rect.unit (s := S4096x4096) (k0_off594 v3884) S32x4096.size hinb).WholeWords (EltTy.packing .i8))
theorem k0_off594_inb : ∀ (v3884 : BitVec 32) (k0_hw595 : k0_chk595 v3884), ∀ a, (k0_off594 v3884) a + S32x4096.size a ≤ S4096x4096.size a := fun v3884 k0_hw595 => k0_hw595.1
theorem k0_off594_wordsi8 : ∀ (v3884 : BitVec 32) (k0_hw595 : k0_chk595 v3884), (Rect.unit (s := S4096x4096) (k0_off594 v3884) S32x4096.size (k0_off594_inb v3884 k0_hw595)).WholeWords (EltTy.packing .i8) := fun v3884 k0_hw595 => k0_hw595.2 (k0_off594_inb v3884 k0_hw595)

def k0_off596 (v3894 : BitVec 32) : Fin 2 → Nat :=
  let c128_i32_4041 : BitVec 32 := 128#32
  let v3895 : BitVec 32 := Scalar.muli v3894 c128_i32_4041
  let c32_i32_4042 : BitVec 32 := 32#32
  let v3896 : BitVec 32 := Scalar.addi v3895 c32_i32_4042
  let c0_i32_4051 : BitVec 32 := 0#32
  ![v3896.toNat, 0]

def k0_off597 (v3897 : BitVec 32) : Fin 2 → Nat :=
  let c128_i32_4044 : BitVec 32 := 128#32
  let v3898 : BitVec 32 := Scalar.muli v3897 c128_i32_4044
  let c32_i32_4045 : BitVec 32 := 32#32
  let v3899 : BitVec 32 := Scalar.addi v3898 c32_i32_4045
  let c0_i32_4052 : BitVec 32 := 0#32
  ![v3899.toNat, 0]

def k0_chk598 (v3897 : BitVec 32) : Prop :=
  (∀ a, (k0_off597 v3897) a + S32x4096.size a ≤ S4096x4096.size a) ∧
  (∀ (hinb : ∀ a, (k0_off597 v3897) a + S32x4096.size a ≤ S4096x4096.size a), (Rect.unit (s := S4096x4096) (k0_off597 v3897) S32x4096.size hinb).WholeWords (EltTy.packing .i8))
theorem k0_off597_inb : ∀ (v3897 : BitVec 32) (k0_hw598 : k0_chk598 v3897), ∀ a, (k0_off597 v3897) a + S32x4096.size a ≤ S4096x4096.size a := fun v3897 k0_hw598 => k0_hw598.1
theorem k0_off597_wordsi8 : ∀ (v3897 : BitVec 32) (k0_hw598 : k0_chk598 v3897), (Rect.unit (s := S4096x4096) (k0_off597 v3897) S32x4096.size (k0_off597_inb v3897 k0_hw598)).WholeWords (EltTy.packing .i8) := fun v3897 k0_hw598 => k0_hw598.2 (k0_off597_inb v3897 k0_hw598)

def k0_chk597 (v3894 : BitVec 32) : Prop :=
  (∀ a, (k0_off596 v3894) a + S32x4096.size a ≤ S4096x4096.size a) ∧
  (∀ (hinb : ∀ a, (k0_off596 v3894) a + S32x4096.size a ≤ S4096x4096.size a), (Rect.unit (s := S4096x4096) (k0_off596 v3894) S32x4096.size hinb).WholeWords (EltTy.packing .i8))
theorem k0_off596_inb : ∀ (v3894 : BitVec 32) (k0_hw597 : k0_chk597 v3894), ∀ a, (k0_off596 v3894) a + S32x4096.size a ≤ S4096x4096.size a := fun v3894 k0_hw597 => k0_hw597.1
theorem k0_off596_wordsi8 : ∀ (v3894 : BitVec 32) (k0_hw597 : k0_chk597 v3894), (Rect.unit (s := S4096x4096) (k0_off596 v3894) S32x4096.size (k0_off596_inb v3894 k0_hw597)).WholeWords (EltTy.packing .i8) := fun v3894 k0_hw597 => k0_hw597.2 (k0_off596_inb v3894 k0_hw597)

def k0_off598 (v3904 : BitVec 32) : Fin 2 → Nat :=
  let c128_i32_4054 : BitVec 32 := 128#32
  let v3905 : BitVec 32 := Scalar.muli v3904 c128_i32_4054
  let c32_i32_4055 : BitVec 32 := 32#32
  let v3906 : BitVec 32 := Scalar.addi v3905 c32_i32_4055
  let c0_i32_4064 : BitVec 32 := 0#32
  ![v3906.toNat, 0]

def k0_off599 (v3907 : BitVec 32) : Fin 2 → Nat :=
  let c128_i32_4057 : BitVec 32 := 128#32
  let v3908 : BitVec 32 := Scalar.muli v3907 c128_i32_4057
  let c32_i32_4058 : BitVec 32 := 32#32
  let v3909 : BitVec 32 := Scalar.addi v3908 c32_i32_4058
  let c0_i32_4065 : BitVec 32 := 0#32
  ![v3909.toNat, 0]

def k0_chk600 (v3907 : BitVec 32) : Prop :=
  (∀ a, (k0_off599 v3907) a + S32x4096.size a ≤ S4096x4096.size a) ∧
  (∀ (hinb : ∀ a, (k0_off599 v3907) a + S32x4096.size a ≤ S4096x4096.size a), (Rect.unit (s := S4096x4096) (k0_off599 v3907) S32x4096.size hinb).WholeWords (EltTy.packing .i8))
theorem k0_off599_inb : ∀ (v3907 : BitVec 32) (k0_hw600 : k0_chk600 v3907), ∀ a, (k0_off599 v3907) a + S32x4096.size a ≤ S4096x4096.size a := fun v3907 k0_hw600 => k0_hw600.1
theorem k0_off599_wordsi8 : ∀ (v3907 : BitVec 32) (k0_hw600 : k0_chk600 v3907), (Rect.unit (s := S4096x4096) (k0_off599 v3907) S32x4096.size (k0_off599_inb v3907 k0_hw600)).WholeWords (EltTy.packing .i8) := fun v3907 k0_hw600 => k0_hw600.2 (k0_off599_inb v3907 k0_hw600)

def k0_chk599 (v3904 : BitVec 32) : Prop :=
  (∀ a, (k0_off598 v3904) a + S32x4096.size a ≤ S4096x4096.size a) ∧
  (∀ (hinb : ∀ a, (k0_off598 v3904) a + S32x4096.size a ≤ S4096x4096.size a), (Rect.unit (s := S4096x4096) (k0_off598 v3904) S32x4096.size hinb).WholeWords (EltTy.packing .i8))
theorem k0_off598_inb : ∀ (v3904 : BitVec 32) (k0_hw599 : k0_chk599 v3904), ∀ a, (k0_off598 v3904) a + S32x4096.size a ≤ S4096x4096.size a := fun v3904 k0_hw599 => k0_hw599.1
theorem k0_off598_wordsi8 : ∀ (v3904 : BitVec 32) (k0_hw599 : k0_chk599 v3904), (Rect.unit (s := S4096x4096) (k0_off598 v3904) S32x4096.size (k0_off598_inb v3904 k0_hw599)).WholeWords (EltTy.packing .i8) := fun v3904 k0_hw599 => k0_hw599.2 (k0_off598_inb v3904 k0_hw599)

def k0_off600 (v3914 : BitVec 32) : Fin 2 → Nat :=
  let c128_i32_4067 : BitVec 32 := 128#32
  let v3915 : BitVec 32 := Scalar.muli v3914 c128_i32_4067
  let c64_i32_4068 : BitVec 32 := 64#32
  let v3916 : BitVec 32 := Scalar.addi v3915 c64_i32_4068
  let c0_i32_4077 : BitVec 32 := 0#32
  ![v3916.toNat, 0]

def k0_off601 (v3917 : BitVec 32) : Fin 2 → Nat :=
  let c128_i32_4070 : BitVec 32 := 128#32
  let v3918 : BitVec 32 := Scalar.muli v3917 c128_i32_4070
  let c64_i32_4071 : BitVec 32 := 64#32
  let v3919 : BitVec 32 := Scalar.addi v3918 c64_i32_4071
  let c0_i32_4078 : BitVec 32 := 0#32
  ![v3919.toNat, 0]

def k0_chk602 (v3917 : BitVec 32) : Prop :=
  (∀ a, (k0_off601 v3917) a + S32x4096.size a ≤ S4096x4096.size a) ∧
  (∀ (hinb : ∀ a, (k0_off601 v3917) a + S32x4096.size a ≤ S4096x4096.size a), (Rect.unit (s := S4096x4096) (k0_off601 v3917) S32x4096.size hinb).WholeWords (EltTy.packing .i8))
theorem k0_off601_inb : ∀ (v3917 : BitVec 32) (k0_hw602 : k0_chk602 v3917), ∀ a, (k0_off601 v3917) a + S32x4096.size a ≤ S4096x4096.size a := fun v3917 k0_hw602 => k0_hw602.1
theorem k0_off601_wordsi8 : ∀ (v3917 : BitVec 32) (k0_hw602 : k0_chk602 v3917), (Rect.unit (s := S4096x4096) (k0_off601 v3917) S32x4096.size (k0_off601_inb v3917 k0_hw602)).WholeWords (EltTy.packing .i8) := fun v3917 k0_hw602 => k0_hw602.2 (k0_off601_inb v3917 k0_hw602)

def k0_chk601 (v3914 : BitVec 32) : Prop :=
  (∀ a, (k0_off600 v3914) a + S32x4096.size a ≤ S4096x4096.size a) ∧
  (∀ (hinb : ∀ a, (k0_off600 v3914) a + S32x4096.size a ≤ S4096x4096.size a), (Rect.unit (s := S4096x4096) (k0_off600 v3914) S32x4096.size hinb).WholeWords (EltTy.packing .i8))
theorem k0_off600_inb : ∀ (v3914 : BitVec 32) (k0_hw601 : k0_chk601 v3914), ∀ a, (k0_off600 v3914) a + S32x4096.size a ≤ S4096x4096.size a := fun v3914 k0_hw601 => k0_hw601.1
theorem k0_off600_wordsi8 : ∀ (v3914 : BitVec 32) (k0_hw601 : k0_chk601 v3914), (Rect.unit (s := S4096x4096) (k0_off600 v3914) S32x4096.size (k0_off600_inb v3914 k0_hw601)).WholeWords (EltTy.packing .i8) := fun v3914 k0_hw601 => k0_hw601.2 (k0_off600_inb v3914 k0_hw601)

def k0_off602 (v3924 : BitVec 32) : Fin 2 → Nat :=
  let c128_i32_4080 : BitVec 32 := 128#32
  let v3925 : BitVec 32 := Scalar.muli v3924 c128_i32_4080
  let c64_i32_4081 : BitVec 32 := 64#32
  let v3926 : BitVec 32 := Scalar.addi v3925 c64_i32_4081
  let c0_i32_4090 : BitVec 32 := 0#32
  ![v3926.toNat, 0]

def k0_off603 (v3927 : BitVec 32) : Fin 2 → Nat :=
  let c128_i32_4083 : BitVec 32 := 128#32
  let v3928 : BitVec 32 := Scalar.muli v3927 c128_i32_4083
  let c64_i32_4084 : BitVec 32 := 64#32
  let v3929 : BitVec 32 := Scalar.addi v3928 c64_i32_4084
  let c0_i32_4091 : BitVec 32 := 0#32
  ![v3929.toNat, 0]

def k0_chk604 (v3927 : BitVec 32) : Prop :=
  (∀ a, (k0_off603 v3927) a + S32x4096.size a ≤ S4096x4096.size a) ∧
  (∀ (hinb : ∀ a, (k0_off603 v3927) a + S32x4096.size a ≤ S4096x4096.size a), (Rect.unit (s := S4096x4096) (k0_off603 v3927) S32x4096.size hinb).WholeWords (EltTy.packing .i8))
theorem k0_off603_inb : ∀ (v3927 : BitVec 32) (k0_hw604 : k0_chk604 v3927), ∀ a, (k0_off603 v3927) a + S32x4096.size a ≤ S4096x4096.size a := fun v3927 k0_hw604 => k0_hw604.1
theorem k0_off603_wordsi8 : ∀ (v3927 : BitVec 32) (k0_hw604 : k0_chk604 v3927), (Rect.unit (s := S4096x4096) (k0_off603 v3927) S32x4096.size (k0_off603_inb v3927 k0_hw604)).WholeWords (EltTy.packing .i8) := fun v3927 k0_hw604 => k0_hw604.2 (k0_off603_inb v3927 k0_hw604)

def k0_chk603 (v3924 : BitVec 32) : Prop :=
  (∀ a, (k0_off602 v3924) a + S32x4096.size a ≤ S4096x4096.size a) ∧
  (∀ (hinb : ∀ a, (k0_off602 v3924) a + S32x4096.size a ≤ S4096x4096.size a), (Rect.unit (s := S4096x4096) (k0_off602 v3924) S32x4096.size hinb).WholeWords (EltTy.packing .i8))
theorem k0_off602_inb : ∀ (v3924 : BitVec 32) (k0_hw603 : k0_chk603 v3924), ∀ a, (k0_off602 v3924) a + S32x4096.size a ≤ S4096x4096.size a := fun v3924 k0_hw603 => k0_hw603.1
theorem k0_off602_wordsi8 : ∀ (v3924 : BitVec 32) (k0_hw603 : k0_chk603 v3924), (Rect.unit (s := S4096x4096) (k0_off602 v3924) S32x4096.size (k0_off602_inb v3924 k0_hw603)).WholeWords (EltTy.packing .i8) := fun v3924 k0_hw603 => k0_hw603.2 (k0_off602_inb v3924 k0_hw603)

def k0_off604 (v3934 : BitVec 32) : Fin 2 → Nat :=
  let c128_i32_4093 : BitVec 32 := 128#32
  let v3935 : BitVec 32 := Scalar.muli v3934 c128_i32_4093
  let c96_i32_4094 : BitVec 32 := 96#32
  let v3936 : BitVec 32 := Scalar.addi v3935 c96_i32_4094
  let c0_i32_4103 : BitVec 32 := 0#32
  ![v3936.toNat, 0]

def k0_off605 (v3937 : BitVec 32) : Fin 2 → Nat :=
  let c128_i32_4096 : BitVec 32 := 128#32
  let v3938 : BitVec 32 := Scalar.muli v3937 c128_i32_4096
  let c96_i32_4097 : BitVec 32 := 96#32
  let v3939 : BitVec 32 := Scalar.addi v3938 c96_i32_4097
  let c0_i32_4104 : BitVec 32 := 0#32
  ![v3939.toNat, 0]

def k0_chk606 (v3937 : BitVec 32) : Prop :=
  (∀ a, (k0_off605 v3937) a + S32x4096.size a ≤ S4096x4096.size a) ∧
  (∀ (hinb : ∀ a, (k0_off605 v3937) a + S32x4096.size a ≤ S4096x4096.size a), (Rect.unit (s := S4096x4096) (k0_off605 v3937) S32x4096.size hinb).WholeWords (EltTy.packing .i8))
theorem k0_off605_inb : ∀ (v3937 : BitVec 32) (k0_hw606 : k0_chk606 v3937), ∀ a, (k0_off605 v3937) a + S32x4096.size a ≤ S4096x4096.size a := fun v3937 k0_hw606 => k0_hw606.1
theorem k0_off605_wordsi8 : ∀ (v3937 : BitVec 32) (k0_hw606 : k0_chk606 v3937), (Rect.unit (s := S4096x4096) (k0_off605 v3937) S32x4096.size (k0_off605_inb v3937 k0_hw606)).WholeWords (EltTy.packing .i8) := fun v3937 k0_hw606 => k0_hw606.2 (k0_off605_inb v3937 k0_hw606)

def k0_chk605 (v3934 : BitVec 32) : Prop :=
  (∀ a, (k0_off604 v3934) a + S32x4096.size a ≤ S4096x4096.size a) ∧
  (∀ (hinb : ∀ a, (k0_off604 v3934) a + S32x4096.size a ≤ S4096x4096.size a), (Rect.unit (s := S4096x4096) (k0_off604 v3934) S32x4096.size hinb).WholeWords (EltTy.packing .i8))
theorem k0_off604_inb : ∀ (v3934 : BitVec 32) (k0_hw605 : k0_chk605 v3934), ∀ a, (k0_off604 v3934) a + S32x4096.size a ≤ S4096x4096.size a := fun v3934 k0_hw605 => k0_hw605.1
theorem k0_off604_wordsi8 : ∀ (v3934 : BitVec 32) (k0_hw605 : k0_chk605 v3934), (Rect.unit (s := S4096x4096) (k0_off604 v3934) S32x4096.size (k0_off604_inb v3934 k0_hw605)).WholeWords (EltTy.packing .i8) := fun v3934 k0_hw605 => k0_hw605.2 (k0_off604_inb v3934 k0_hw605)

def k0_off606 (v3944 : BitVec 32) : Fin 2 → Nat :=
  let c128_i32_4106 : BitVec 32 := 128#32
  let v3945 : BitVec 32 := Scalar.muli v3944 c128_i32_4106
  let c96_i32_4107 : BitVec 32 := 96#32
  let v3946 : BitVec 32 := Scalar.addi v3945 c96_i32_4107
  let c0_i32_4116 : BitVec 32 := 0#32
  ![v3946.toNat, 0]

def k0_off607 (v3947 : BitVec 32) : Fin 2 → Nat :=
  let c128_i32_4109 : BitVec 32 := 128#32
  let v3948 : BitVec 32 := Scalar.muli v3947 c128_i32_4109
  let c96_i32_4110 : BitVec 32 := 96#32
  let v3949 : BitVec 32 := Scalar.addi v3948 c96_i32_4110
  let c0_i32_4117 : BitVec 32 := 0#32
  ![v3949.toNat, 0]

def k0_chk608 (v3947 : BitVec 32) : Prop :=
  (∀ a, (k0_off607 v3947) a + S32x4096.size a ≤ S4096x4096.size a) ∧
  (∀ (hinb : ∀ a, (k0_off607 v3947) a + S32x4096.size a ≤ S4096x4096.size a), (Rect.unit (s := S4096x4096) (k0_off607 v3947) S32x4096.size hinb).WholeWords (EltTy.packing .i8))
theorem k0_off607_inb : ∀ (v3947 : BitVec 32) (k0_hw608 : k0_chk608 v3947), ∀ a, (k0_off607 v3947) a + S32x4096.size a ≤ S4096x4096.size a := fun v3947 k0_hw608 => k0_hw608.1
theorem k0_off607_wordsi8 : ∀ (v3947 : BitVec 32) (k0_hw608 : k0_chk608 v3947), (Rect.unit (s := S4096x4096) (k0_off607 v3947) S32x4096.size (k0_off607_inb v3947 k0_hw608)).WholeWords (EltTy.packing .i8) := fun v3947 k0_hw608 => k0_hw608.2 (k0_off607_inb v3947 k0_hw608)

def k0_chk607 (v3944 : BitVec 32) : Prop :=
  (∀ a, (k0_off606 v3944) a + S32x4096.size a ≤ S4096x4096.size a) ∧
  (∀ (hinb : ∀ a, (k0_off606 v3944) a + S32x4096.size a ≤ S4096x4096.size a), (Rect.unit (s := S4096x4096) (k0_off606 v3944) S32x4096.size hinb).WholeWords (EltTy.packing .i8))
theorem k0_off606_inb : ∀ (v3944 : BitVec 32) (k0_hw607 : k0_chk607 v3944), ∀ a, (k0_off606 v3944) a + S32x4096.size a ≤ S4096x4096.size a := fun v3944 k0_hw607 => k0_hw607.1
theorem k0_off606_wordsi8 : ∀ (v3944 : BitVec 32) (k0_hw607 : k0_chk607 v3944), (Rect.unit (s := S4096x4096) (k0_off606 v3944) S32x4096.size (k0_off606_inb v3944 k0_hw607)).WholeWords (EltTy.packing .i8) := fun v3944 k0_hw607 => k0_hw607.2 (k0_off606_inb v3944 k0_hw607)

def k0_off608 (v3954 : BitVec 32) : Fin 2 → Nat :=
  let c128_i32_4119 : BitVec 32 := 128#32
  let v3955 : BitVec 32 := Scalar.muli v3954 c128_i32_4119
  let c0_i32_4120 : BitVec 32 := 0#32
  let v3956 : BitVec 32 := Scalar.addi v3955 c0_i32_4120
  let c0_i32_4129 : BitVec 32 := 0#32
  ![v3956.toNat, 0]

def k0_off609 (v3957 : BitVec 32) : Fin 2 → Nat :=
  let c128_i32_4122 : BitVec 32 := 128#32
  let v3958 : BitVec 32 := Scalar.muli v3957 c128_i32_4122
  let c0_i32_4123 : BitVec 32 := 0#32
  let v3959 : BitVec 32 := Scalar.addi v3958 c0_i32_4123
  let c0_i32_4130 : BitVec 32 := 0#32
  ![v3959.toNat, 0]

def k0_chk610 (v3957 : BitVec 32) : Prop :=
  (∀ a, (k0_off609 v3957) a + S32x4096.size a ≤ S4096x4096.size a) ∧
  (∀ (hinb : ∀ a, (k0_off609 v3957) a + S32x4096.size a ≤ S4096x4096.size a), (Rect.unit (s := S4096x4096) (k0_off609 v3957) S32x4096.size hinb).WholeWords (EltTy.packing .i8))
theorem k0_off609_inb : ∀ (v3957 : BitVec 32) (k0_hw610 : k0_chk610 v3957), ∀ a, (k0_off609 v3957) a + S32x4096.size a ≤ S4096x4096.size a := fun v3957 k0_hw610 => k0_hw610.1
theorem k0_off609_wordsi8 : ∀ (v3957 : BitVec 32) (k0_hw610 : k0_chk610 v3957), (Rect.unit (s := S4096x4096) (k0_off609 v3957) S32x4096.size (k0_off609_inb v3957 k0_hw610)).WholeWords (EltTy.packing .i8) := fun v3957 k0_hw610 => k0_hw610.2 (k0_off609_inb v3957 k0_hw610)

def k0_chk609 (v3954 : BitVec 32) : Prop :=
  (∀ a, (k0_off608 v3954) a + S32x4096.size a ≤ S4096x4096.size a) ∧
  (∀ (hinb : ∀ a, (k0_off608 v3954) a + S32x4096.size a ≤ S4096x4096.size a), (Rect.unit (s := S4096x4096) (k0_off608 v3954) S32x4096.size hinb).WholeWords (EltTy.packing .i8))
theorem k0_off608_inb : ∀ (v3954 : BitVec 32) (k0_hw609 : k0_chk609 v3954), ∀ a, (k0_off608 v3954) a + S32x4096.size a ≤ S4096x4096.size a := fun v3954 k0_hw609 => k0_hw609.1
theorem k0_off608_wordsi8 : ∀ (v3954 : BitVec 32) (k0_hw609 : k0_chk609 v3954), (Rect.unit (s := S4096x4096) (k0_off608 v3954) S32x4096.size (k0_off608_inb v3954 k0_hw609)).WholeWords (EltTy.packing .i8) := fun v3954 k0_hw609 => k0_hw609.2 (k0_off608_inb v3954 k0_hw609)

def k0_off610 (v3964 : BitVec 32) : Fin 2 → Nat :=
  let c128_i32_4132 : BitVec 32 := 128#32
  let v3965 : BitVec 32 := Scalar.muli v3964 c128_i32_4132
  let c0_i32_4133 : BitVec 32 := 0#32
  let v3966 : BitVec 32 := Scalar.addi v3965 c0_i32_4133
  let c0_i32_4142 : BitVec 32 := 0#32
  ![v3966.toNat, 0]

def k0_off611 (v3967 : BitVec 32) : Fin 2 → Nat :=
  let c128_i32_4135 : BitVec 32 := 128#32
  let v3968 : BitVec 32 := Scalar.muli v3967 c128_i32_4135
  let c0_i32_4136 : BitVec 32 := 0#32
  let v3969 : BitVec 32 := Scalar.addi v3968 c0_i32_4136
  let c0_i32_4143 : BitVec 32 := 0#32
  ![v3969.toNat, 0]

def k0_chk612 (v3967 : BitVec 32) : Prop :=
  (∀ a, (k0_off611 v3967) a + S32x4096.size a ≤ S4096x4096.size a) ∧
  (∀ (hinb : ∀ a, (k0_off611 v3967) a + S32x4096.size a ≤ S4096x4096.size a), (Rect.unit (s := S4096x4096) (k0_off611 v3967) S32x4096.size hinb).WholeWords (EltTy.packing .i8))
theorem k0_off611_inb : ∀ (v3967 : BitVec 32) (k0_hw612 : k0_chk612 v3967), ∀ a, (k0_off611 v3967) a + S32x4096.size a ≤ S4096x4096.size a := fun v3967 k0_hw612 => k0_hw612.1
theorem k0_off611_wordsi8 : ∀ (v3967 : BitVec 32) (k0_hw612 : k0_chk612 v3967), (Rect.unit (s := S4096x4096) (k0_off611 v3967) S32x4096.size (k0_off611_inb v3967 k0_hw612)).WholeWords (EltTy.packing .i8) := fun v3967 k0_hw612 => k0_hw612.2 (k0_off611_inb v3967 k0_hw612)

def k0_chk611 (v3964 : BitVec 32) : Prop :=
  (∀ a, (k0_off610 v3964) a + S32x4096.size a ≤ S4096x4096.size a) ∧
  (∀ (hinb : ∀ a, (k0_off610 v3964) a + S32x4096.size a ≤ S4096x4096.size a), (Rect.unit (s := S4096x4096) (k0_off610 v3964) S32x4096.size hinb).WholeWords (EltTy.packing .i8))
theorem k0_off610_inb : ∀ (v3964 : BitVec 32) (k0_hw611 : k0_chk611 v3964), ∀ a, (k0_off610 v3964) a + S32x4096.size a ≤ S4096x4096.size a := fun v3964 k0_hw611 => k0_hw611.1
theorem k0_off610_wordsi8 : ∀ (v3964 : BitVec 32) (k0_hw611 : k0_chk611 v3964), (Rect.unit (s := S4096x4096) (k0_off610 v3964) S32x4096.size (k0_off610_inb v3964 k0_hw611)).WholeWords (EltTy.packing .i8) := fun v3964 k0_hw611 => k0_hw611.2 (k0_off610_inb v3964 k0_hw611)

def k0_off612 (v3974 : BitVec 32) : Fin 2 → Nat :=
  let c128_i32_4145 : BitVec 32 := 128#32
  let v3975 : BitVec 32 := Scalar.muli v3974 c128_i32_4145
  let c32_i32_4146 : BitVec 32 := 32#32
  let v3976 : BitVec 32 := Scalar.addi v3975 c32_i32_4146
  let c0_i32_4155 : BitVec 32 := 0#32
  ![v3976.toNat, 0]

def k0_off613 (v3977 : BitVec 32) : Fin 2 → Nat :=
  let c128_i32_4148 : BitVec 32 := 128#32
  let v3978 : BitVec 32 := Scalar.muli v3977 c128_i32_4148
  let c32_i32_4149 : BitVec 32 := 32#32
  let v3979 : BitVec 32 := Scalar.addi v3978 c32_i32_4149
  let c0_i32_4156 : BitVec 32 := 0#32
  ![v3979.toNat, 0]

def k0_chk614 (v3977 : BitVec 32) : Prop :=
  (∀ a, (k0_off613 v3977) a + S32x4096.size a ≤ S4096x4096.size a) ∧
  (∀ (hinb : ∀ a, (k0_off613 v3977) a + S32x4096.size a ≤ S4096x4096.size a), (Rect.unit (s := S4096x4096) (k0_off613 v3977) S32x4096.size hinb).WholeWords (EltTy.packing .i8))
theorem k0_off613_inb : ∀ (v3977 : BitVec 32) (k0_hw614 : k0_chk614 v3977), ∀ a, (k0_off613 v3977) a + S32x4096.size a ≤ S4096x4096.size a := fun v3977 k0_hw614 => k0_hw614.1
theorem k0_off613_wordsi8 : ∀ (v3977 : BitVec 32) (k0_hw614 : k0_chk614 v3977), (Rect.unit (s := S4096x4096) (k0_off613 v3977) S32x4096.size (k0_off613_inb v3977 k0_hw614)).WholeWords (EltTy.packing .i8) := fun v3977 k0_hw614 => k0_hw614.2 (k0_off613_inb v3977 k0_hw614)

def k0_chk613 (v3974 : BitVec 32) : Prop :=
  (∀ a, (k0_off612 v3974) a + S32x4096.size a ≤ S4096x4096.size a) ∧
  (∀ (hinb : ∀ a, (k0_off612 v3974) a + S32x4096.size a ≤ S4096x4096.size a), (Rect.unit (s := S4096x4096) (k0_off612 v3974) S32x4096.size hinb).WholeWords (EltTy.packing .i8))
theorem k0_off612_inb : ∀ (v3974 : BitVec 32) (k0_hw613 : k0_chk613 v3974), ∀ a, (k0_off612 v3974) a + S32x4096.size a ≤ S4096x4096.size a := fun v3974 k0_hw613 => k0_hw613.1
theorem k0_off612_wordsi8 : ∀ (v3974 : BitVec 32) (k0_hw613 : k0_chk613 v3974), (Rect.unit (s := S4096x4096) (k0_off612 v3974) S32x4096.size (k0_off612_inb v3974 k0_hw613)).WholeWords (EltTy.packing .i8) := fun v3974 k0_hw613 => k0_hw613.2 (k0_off612_inb v3974 k0_hw613)

def k0_off614 (v3984 : BitVec 32) : Fin 2 → Nat :=
  let c128_i32_4158 : BitVec 32 := 128#32
  let v3985 : BitVec 32 := Scalar.muli v3984 c128_i32_4158
  let c32_i32_4159 : BitVec 32 := 32#32
  let v3986 : BitVec 32 := Scalar.addi v3985 c32_i32_4159
  let c0_i32_4168 : BitVec 32 := 0#32
  ![v3986.toNat, 0]

def k0_off615 (v3987 : BitVec 32) : Fin 2 → Nat :=
  let c128_i32_4161 : BitVec 32 := 128#32
  let v3988 : BitVec 32 := Scalar.muli v3987 c128_i32_4161
  let c32_i32_4162 : BitVec 32 := 32#32
  let v3989 : BitVec 32 := Scalar.addi v3988 c32_i32_4162
  let c0_i32_4169 : BitVec 32 := 0#32
  ![v3989.toNat, 0]

def k0_chk616 (v3987 : BitVec 32) : Prop :=
  (∀ a, (k0_off615 v3987) a + S32x4096.size a ≤ S4096x4096.size a) ∧
  (∀ (hinb : ∀ a, (k0_off615 v3987) a + S32x4096.size a ≤ S4096x4096.size a), (Rect.unit (s := S4096x4096) (k0_off615 v3987) S32x4096.size hinb).WholeWords (EltTy.packing .i8))
theorem k0_off615_inb : ∀ (v3987 : BitVec 32) (k0_hw616 : k0_chk616 v3987), ∀ a, (k0_off615 v3987) a + S32x4096.size a ≤ S4096x4096.size a := fun v3987 k0_hw616 => k0_hw616.1
theorem k0_off615_wordsi8 : ∀ (v3987 : BitVec 32) (k0_hw616 : k0_chk616 v3987), (Rect.unit (s := S4096x4096) (k0_off615 v3987) S32x4096.size (k0_off615_inb v3987 k0_hw616)).WholeWords (EltTy.packing .i8) := fun v3987 k0_hw616 => k0_hw616.2 (k0_off615_inb v3987 k0_hw616)

def k0_chk615 (v3984 : BitVec 32) : Prop :=
  (∀ a, (k0_off614 v3984) a + S32x4096.size a ≤ S4096x4096.size a) ∧
  (∀ (hinb : ∀ a, (k0_off614 v3984) a + S32x4096.size a ≤ S4096x4096.size a), (Rect.unit (s := S4096x4096) (k0_off614 v3984) S32x4096.size hinb).WholeWords (EltTy.packing .i8))
theorem k0_off614_inb : ∀ (v3984 : BitVec 32) (k0_hw615 : k0_chk615 v3984), ∀ a, (k0_off614 v3984) a + S32x4096.size a ≤ S4096x4096.size a := fun v3984 k0_hw615 => k0_hw615.1
theorem k0_off614_wordsi8 : ∀ (v3984 : BitVec 32) (k0_hw615 : k0_chk615 v3984), (Rect.unit (s := S4096x4096) (k0_off614 v3984) S32x4096.size (k0_off614_inb v3984 k0_hw615)).WholeWords (EltTy.packing .i8) := fun v3984 k0_hw615 => k0_hw615.2 (k0_off614_inb v3984 k0_hw615)

def k0_off616 (v3994 : BitVec 32) : Fin 2 → Nat :=
  let c128_i32_4171 : BitVec 32 := 128#32
  let v3995 : BitVec 32 := Scalar.muli v3994 c128_i32_4171
  let c64_i32_4172 : BitVec 32 := 64#32
  let v3996 : BitVec 32 := Scalar.addi v3995 c64_i32_4172
  let c0_i32_4181 : BitVec 32 := 0#32
  ![v3996.toNat, 0]

def k0_off617 (v3997 : BitVec 32) : Fin 2 → Nat :=
  let c128_i32_4174 : BitVec 32 := 128#32
  let v3998 : BitVec 32 := Scalar.muli v3997 c128_i32_4174
  let c64_i32_4175 : BitVec 32 := 64#32
  let v3999 : BitVec 32 := Scalar.addi v3998 c64_i32_4175
  let c0_i32_4182 : BitVec 32 := 0#32
  ![v3999.toNat, 0]

def k0_chk618 (v3997 : BitVec 32) : Prop :=
  (∀ a, (k0_off617 v3997) a + S32x4096.size a ≤ S4096x4096.size a) ∧
  (∀ (hinb : ∀ a, (k0_off617 v3997) a + S32x4096.size a ≤ S4096x4096.size a), (Rect.unit (s := S4096x4096) (k0_off617 v3997) S32x4096.size hinb).WholeWords (EltTy.packing .i8))
theorem k0_off617_inb : ∀ (v3997 : BitVec 32) (k0_hw618 : k0_chk618 v3997), ∀ a, (k0_off617 v3997) a + S32x4096.size a ≤ S4096x4096.size a := fun v3997 k0_hw618 => k0_hw618.1
theorem k0_off617_wordsi8 : ∀ (v3997 : BitVec 32) (k0_hw618 : k0_chk618 v3997), (Rect.unit (s := S4096x4096) (k0_off617 v3997) S32x4096.size (k0_off617_inb v3997 k0_hw618)).WholeWords (EltTy.packing .i8) := fun v3997 k0_hw618 => k0_hw618.2 (k0_off617_inb v3997 k0_hw618)

def k0_chk617 (v3994 : BitVec 32) : Prop :=
  (∀ a, (k0_off616 v3994) a + S32x4096.size a ≤ S4096x4096.size a) ∧
  (∀ (hinb : ∀ a, (k0_off616 v3994) a + S32x4096.size a ≤ S4096x4096.size a), (Rect.unit (s := S4096x4096) (k0_off616 v3994) S32x4096.size hinb).WholeWords (EltTy.packing .i8))
theorem k0_off616_inb : ∀ (v3994 : BitVec 32) (k0_hw617 : k0_chk617 v3994), ∀ a, (k0_off616 v3994) a + S32x4096.size a ≤ S4096x4096.size a := fun v3994 k0_hw617 => k0_hw617.1
theorem k0_off616_wordsi8 : ∀ (v3994 : BitVec 32) (k0_hw617 : k0_chk617 v3994), (Rect.unit (s := S4096x4096) (k0_off616 v3994) S32x4096.size (k0_off616_inb v3994 k0_hw617)).WholeWords (EltTy.packing .i8) := fun v3994 k0_hw617 => k0_hw617.2 (k0_off616_inb v3994 k0_hw617)

def k0_off618 (v4004 : BitVec 32) : Fin 2 → Nat :=
  let c128_i32_4184 : BitVec 32 := 128#32
  let v4005 : BitVec 32 := Scalar.muli v4004 c128_i32_4184
  let c64_i32_4185 : BitVec 32 := 64#32
  let v4006 : BitVec 32 := Scalar.addi v4005 c64_i32_4185
  let c0_i32_4194 : BitVec 32 := 0#32
  ![v4006.toNat, 0]

def k0_off619 (v4007 : BitVec 32) : Fin 2 → Nat :=
  let c128_i32_4187 : BitVec 32 := 128#32
  let v4008 : BitVec 32 := Scalar.muli v4007 c128_i32_4187
  let c64_i32_4188 : BitVec 32 := 64#32
  let v4009 : BitVec 32 := Scalar.addi v4008 c64_i32_4188
  let c0_i32_4195 : BitVec 32 := 0#32
  ![v4009.toNat, 0]

def k0_chk620 (v4007 : BitVec 32) : Prop :=
  (∀ a, (k0_off619 v4007) a + S32x4096.size a ≤ S4096x4096.size a) ∧
  (∀ (hinb : ∀ a, (k0_off619 v4007) a + S32x4096.size a ≤ S4096x4096.size a), (Rect.unit (s := S4096x4096) (k0_off619 v4007) S32x4096.size hinb).WholeWords (EltTy.packing .i8))
theorem k0_off619_inb : ∀ (v4007 : BitVec 32) (k0_hw620 : k0_chk620 v4007), ∀ a, (k0_off619 v4007) a + S32x4096.size a ≤ S4096x4096.size a := fun v4007 k0_hw620 => k0_hw620.1
theorem k0_off619_wordsi8 : ∀ (v4007 : BitVec 32) (k0_hw620 : k0_chk620 v4007), (Rect.unit (s := S4096x4096) (k0_off619 v4007) S32x4096.size (k0_off619_inb v4007 k0_hw620)).WholeWords (EltTy.packing .i8) := fun v4007 k0_hw620 => k0_hw620.2 (k0_off619_inb v4007 k0_hw620)

def k0_chk619 (v4004 : BitVec 32) : Prop :=
  (∀ a, (k0_off618 v4004) a + S32x4096.size a ≤ S4096x4096.size a) ∧
  (∀ (hinb : ∀ a, (k0_off618 v4004) a + S32x4096.size a ≤ S4096x4096.size a), (Rect.unit (s := S4096x4096) (k0_off618 v4004) S32x4096.size hinb).WholeWords (EltTy.packing .i8))
theorem k0_off618_inb : ∀ (v4004 : BitVec 32) (k0_hw619 : k0_chk619 v4004), ∀ a, (k0_off618 v4004) a + S32x4096.size a ≤ S4096x4096.size a := fun v4004 k0_hw619 => k0_hw619.1
theorem k0_off618_wordsi8 : ∀ (v4004 : BitVec 32) (k0_hw619 : k0_chk619 v4004), (Rect.unit (s := S4096x4096) (k0_off618 v4004) S32x4096.size (k0_off618_inb v4004 k0_hw619)).WholeWords (EltTy.packing .i8) := fun v4004 k0_hw619 => k0_hw619.2 (k0_off618_inb v4004 k0_hw619)

def k0_off620 (v4014 : BitVec 32) : Fin 2 → Nat :=
  let c128_i32_4197 : BitVec 32 := 128#32
  let v4015 : BitVec 32 := Scalar.muli v4014 c128_i32_4197
  let c96_i32_4198 : BitVec 32 := 96#32
  let v4016 : BitVec 32 := Scalar.addi v4015 c96_i32_4198
  let c0_i32_4207 : BitVec 32 := 0#32
  ![v4016.toNat, 0]

def k0_off621 (v4017 : BitVec 32) : Fin 2 → Nat :=
  let c128_i32_4200 : BitVec 32 := 128#32
  let v4018 : BitVec 32 := Scalar.muli v4017 c128_i32_4200
  let c96_i32_4201 : BitVec 32 := 96#32
  let v4019 : BitVec 32 := Scalar.addi v4018 c96_i32_4201
  let c0_i32_4208 : BitVec 32 := 0#32
  ![v4019.toNat, 0]

def k0_chk622 (v4017 : BitVec 32) : Prop :=
  (∀ a, (k0_off621 v4017) a + S32x4096.size a ≤ S4096x4096.size a) ∧
  (∀ (hinb : ∀ a, (k0_off621 v4017) a + S32x4096.size a ≤ S4096x4096.size a), (Rect.unit (s := S4096x4096) (k0_off621 v4017) S32x4096.size hinb).WholeWords (EltTy.packing .i8))
theorem k0_off621_inb : ∀ (v4017 : BitVec 32) (k0_hw622 : k0_chk622 v4017), ∀ a, (k0_off621 v4017) a + S32x4096.size a ≤ S4096x4096.size a := fun v4017 k0_hw622 => k0_hw622.1
theorem k0_off621_wordsi8 : ∀ (v4017 : BitVec 32) (k0_hw622 : k0_chk622 v4017), (Rect.unit (s := S4096x4096) (k0_off621 v4017) S32x4096.size (k0_off621_inb v4017 k0_hw622)).WholeWords (EltTy.packing .i8) := fun v4017 k0_hw622 => k0_hw622.2 (k0_off621_inb v4017 k0_hw622)

def k0_chk621 (v4014 : BitVec 32) : Prop :=
  (∀ a, (k0_off620 v4014) a + S32x4096.size a ≤ S4096x4096.size a) ∧
  (∀ (hinb : ∀ a, (k0_off620 v4014) a + S32x4096.size a ≤ S4096x4096.size a), (Rect.unit (s := S4096x4096) (k0_off620 v4014) S32x4096.size hinb).WholeWords (EltTy.packing .i8))
theorem k0_off620_inb : ∀ (v4014 : BitVec 32) (k0_hw621 : k0_chk621 v4014), ∀ a, (k0_off620 v4014) a + S32x4096.size a ≤ S4096x4096.size a := fun v4014 k0_hw621 => k0_hw621.1
theorem k0_off620_wordsi8 : ∀ (v4014 : BitVec 32) (k0_hw621 : k0_chk621 v4014), (Rect.unit (s := S4096x4096) (k0_off620 v4014) S32x4096.size (k0_off620_inb v4014 k0_hw621)).WholeWords (EltTy.packing .i8) := fun v4014 k0_hw621 => k0_hw621.2 (k0_off620_inb v4014 k0_hw621)

def k0_off622 (v4024 : BitVec 32) : Fin 2 → Nat :=
  let c128_i32_4210 : BitVec 32 := 128#32
  let v4025 : BitVec 32 := Scalar.muli v4024 c128_i32_4210
  let c96_i32_4211 : BitVec 32 := 96#32
  let v4026 : BitVec 32 := Scalar.addi v4025 c96_i32_4211
  let c0_i32_4220 : BitVec 32 := 0#32
  ![v4026.toNat, 0]

def k0_off623 (v4027 : BitVec 32) : Fin 2 → Nat :=
  let c128_i32_4213 : BitVec 32 := 128#32
  let v4028 : BitVec 32 := Scalar.muli v4027 c128_i32_4213
  let c96_i32_4214 : BitVec 32 := 96#32
  let v4029 : BitVec 32 := Scalar.addi v4028 c96_i32_4214
  let c0_i32_4221 : BitVec 32 := 0#32
  ![v4029.toNat, 0]

def k0_chk624 (v4027 : BitVec 32) : Prop :=
  (∀ a, (k0_off623 v4027) a + S32x4096.size a ≤ S4096x4096.size a) ∧
  (∀ (hinb : ∀ a, (k0_off623 v4027) a + S32x4096.size a ≤ S4096x4096.size a), (Rect.unit (s := S4096x4096) (k0_off623 v4027) S32x4096.size hinb).WholeWords (EltTy.packing .i8))
theorem k0_off623_inb : ∀ (v4027 : BitVec 32) (k0_hw624 : k0_chk624 v4027), ∀ a, (k0_off623 v4027) a + S32x4096.size a ≤ S4096x4096.size a := fun v4027 k0_hw624 => k0_hw624.1
theorem k0_off623_wordsi8 : ∀ (v4027 : BitVec 32) (k0_hw624 : k0_chk624 v4027), (Rect.unit (s := S4096x4096) (k0_off623 v4027) S32x4096.size (k0_off623_inb v4027 k0_hw624)).WholeWords (EltTy.packing .i8) := fun v4027 k0_hw624 => k0_hw624.2 (k0_off623_inb v4027 k0_hw624)

def k0_chk623 (v4024 : BitVec 32) : Prop :=
  (∀ a, (k0_off622 v4024) a + S32x4096.size a ≤ S4096x4096.size a) ∧
  (∀ (hinb : ∀ a, (k0_off622 v4024) a + S32x4096.size a ≤ S4096x4096.size a), (Rect.unit (s := S4096x4096) (k0_off622 v4024) S32x4096.size hinb).WholeWords (EltTy.packing .i8))
theorem k0_off622_inb : ∀ (v4024 : BitVec 32) (k0_hw623 : k0_chk623 v4024), ∀ a, (k0_off622 v4024) a + S32x4096.size a ≤ S4096x4096.size a := fun v4024 k0_hw623 => k0_hw623.1
theorem k0_off622_wordsi8 : ∀ (v4024 : BitVec 32) (k0_hw623 : k0_chk623 v4024), (Rect.unit (s := S4096x4096) (k0_off622 v4024) S32x4096.size (k0_off622_inb v4024 k0_hw623)).WholeWords (EltTy.packing .i8) := fun v4024 k0_hw623 => k0_hw623.2 (k0_off622_inb v4024 k0_hw623)

def k0_off624 (v4034 : BitVec 32) : Fin 2 → Nat :=
  let c128_i32_4223 : BitVec 32 := 128#32
  let v4035 : BitVec 32 := Scalar.muli v4034 c128_i32_4223
  let c0_i32_4224 : BitVec 32 := 0#32
  let v4036 : BitVec 32 := Scalar.addi v4035 c0_i32_4224
  let c0_i32_4233 : BitVec 32 := 0#32
  ![v4036.toNat, 0]

def k0_off625 (v4037 : BitVec 32) : Fin 2 → Nat :=
  let c128_i32_4226 : BitVec 32 := 128#32
  let v4038 : BitVec 32 := Scalar.muli v4037 c128_i32_4226
  let c0_i32_4227 : BitVec 32 := 0#32
  let v4039 : BitVec 32 := Scalar.addi v4038 c0_i32_4227
  let c0_i32_4234 : BitVec 32 := 0#32
  ![v4039.toNat, 0]

def k0_chk626 (v4037 : BitVec 32) : Prop :=
  (∀ a, (k0_off625 v4037) a + S32x4096.size a ≤ S4096x4096.size a) ∧
  (∀ (hinb : ∀ a, (k0_off625 v4037) a + S32x4096.size a ≤ S4096x4096.size a), (Rect.unit (s := S4096x4096) (k0_off625 v4037) S32x4096.size hinb).WholeWords (EltTy.packing .i8))
theorem k0_off625_inb : ∀ (v4037 : BitVec 32) (k0_hw626 : k0_chk626 v4037), ∀ a, (k0_off625 v4037) a + S32x4096.size a ≤ S4096x4096.size a := fun v4037 k0_hw626 => k0_hw626.1
theorem k0_off625_wordsi8 : ∀ (v4037 : BitVec 32) (k0_hw626 : k0_chk626 v4037), (Rect.unit (s := S4096x4096) (k0_off625 v4037) S32x4096.size (k0_off625_inb v4037 k0_hw626)).WholeWords (EltTy.packing .i8) := fun v4037 k0_hw626 => k0_hw626.2 (k0_off625_inb v4037 k0_hw626)

def k0_chk625 (v4034 : BitVec 32) : Prop :=
  (∀ a, (k0_off624 v4034) a + S32x4096.size a ≤ S4096x4096.size a) ∧
  (∀ (hinb : ∀ a, (k0_off624 v4034) a + S32x4096.size a ≤ S4096x4096.size a), (Rect.unit (s := S4096x4096) (k0_off624 v4034) S32x4096.size hinb).WholeWords (EltTy.packing .i8))
theorem k0_off624_inb : ∀ (v4034 : BitVec 32) (k0_hw625 : k0_chk625 v4034), ∀ a, (k0_off624 v4034) a + S32x4096.size a ≤ S4096x4096.size a := fun v4034 k0_hw625 => k0_hw625.1
theorem k0_off624_wordsi8 : ∀ (v4034 : BitVec 32) (k0_hw625 : k0_chk625 v4034), (Rect.unit (s := S4096x4096) (k0_off624 v4034) S32x4096.size (k0_off624_inb v4034 k0_hw625)).WholeWords (EltTy.packing .i8) := fun v4034 k0_hw625 => k0_hw625.2 (k0_off624_inb v4034 k0_hw625)

def k0_off626 (v4044 : BitVec 32) : Fin 2 → Nat :=
  let c128_i32_4236 : BitVec 32 := 128#32
  let v4045 : BitVec 32 := Scalar.muli v4044 c128_i32_4236
  let c0_i32_4237 : BitVec 32 := 0#32
  let v4046 : BitVec 32 := Scalar.addi v4045 c0_i32_4237
  let c0_i32_4246 : BitVec 32 := 0#32
  ![v4046.toNat, 0]

def k0_off627 (v4047 : BitVec 32) : Fin 2 → Nat :=
  let c128_i32_4239 : BitVec 32 := 128#32
  let v4048 : BitVec 32 := Scalar.muli v4047 c128_i32_4239
  let c0_i32_4240 : BitVec 32 := 0#32
  let v4049 : BitVec 32 := Scalar.addi v4048 c0_i32_4240
  let c0_i32_4247 : BitVec 32 := 0#32
  ![v4049.toNat, 0]

def k0_chk628 (v4047 : BitVec 32) : Prop :=
  (∀ a, (k0_off627 v4047) a + S32x4096.size a ≤ S4096x4096.size a) ∧
  (∀ (hinb : ∀ a, (k0_off627 v4047) a + S32x4096.size a ≤ S4096x4096.size a), (Rect.unit (s := S4096x4096) (k0_off627 v4047) S32x4096.size hinb).WholeWords (EltTy.packing .i8))
theorem k0_off627_inb : ∀ (v4047 : BitVec 32) (k0_hw628 : k0_chk628 v4047), ∀ a, (k0_off627 v4047) a + S32x4096.size a ≤ S4096x4096.size a := fun v4047 k0_hw628 => k0_hw628.1
theorem k0_off627_wordsi8 : ∀ (v4047 : BitVec 32) (k0_hw628 : k0_chk628 v4047), (Rect.unit (s := S4096x4096) (k0_off627 v4047) S32x4096.size (k0_off627_inb v4047 k0_hw628)).WholeWords (EltTy.packing .i8) := fun v4047 k0_hw628 => k0_hw628.2 (k0_off627_inb v4047 k0_hw628)

def k0_chk627 (v4044 : BitVec 32) : Prop :=
  (∀ a, (k0_off626 v4044) a + S32x4096.size a ≤ S4096x4096.size a) ∧
  (∀ (hinb : ∀ a, (k0_off626 v4044) a + S32x4096.size a ≤ S4096x4096.size a), (Rect.unit (s := S4096x4096) (k0_off626 v4044) S32x4096.size hinb).WholeWords (EltTy.packing .i8))
theorem k0_off626_inb : ∀ (v4044 : BitVec 32) (k0_hw627 : k0_chk627 v4044), ∀ a, (k0_off626 v4044) a + S32x4096.size a ≤ S4096x4096.size a := fun v4044 k0_hw627 => k0_hw627.1
theorem k0_off626_wordsi8 : ∀ (v4044 : BitVec 32) (k0_hw627 : k0_chk627 v4044), (Rect.unit (s := S4096x4096) (k0_off626 v4044) S32x4096.size (k0_off626_inb v4044 k0_hw627)).WholeWords (EltTy.packing .i8) := fun v4044 k0_hw627 => k0_hw627.2 (k0_off626_inb v4044 k0_hw627)

def k0_off628 (v4054 : BitVec 32) : Fin 2 → Nat :=
  let c128_i32_4249 : BitVec 32 := 128#32
  let v4055 : BitVec 32 := Scalar.muli v4054 c128_i32_4249
  let c32_i32_4250 : BitVec 32 := 32#32
  let v4056 : BitVec 32 := Scalar.addi v4055 c32_i32_4250
  let c0_i32_4259 : BitVec 32 := 0#32
  ![v4056.toNat, 0]

def k0_off629 (v4057 : BitVec 32) : Fin 2 → Nat :=
  let c128_i32_4252 : BitVec 32 := 128#32
  let v4058 : BitVec 32 := Scalar.muli v4057 c128_i32_4252
  let c32_i32_4253 : BitVec 32 := 32#32
  let v4059 : BitVec 32 := Scalar.addi v4058 c32_i32_4253
  let c0_i32_4260 : BitVec 32 := 0#32
  ![v4059.toNat, 0]

def k0_chk630 (v4057 : BitVec 32) : Prop :=
  (∀ a, (k0_off629 v4057) a + S32x4096.size a ≤ S4096x4096.size a) ∧
  (∀ (hinb : ∀ a, (k0_off629 v4057) a + S32x4096.size a ≤ S4096x4096.size a), (Rect.unit (s := S4096x4096) (k0_off629 v4057) S32x4096.size hinb).WholeWords (EltTy.packing .i8))
theorem k0_off629_inb : ∀ (v4057 : BitVec 32) (k0_hw630 : k0_chk630 v4057), ∀ a, (k0_off629 v4057) a + S32x4096.size a ≤ S4096x4096.size a := fun v4057 k0_hw630 => k0_hw630.1
theorem k0_off629_wordsi8 : ∀ (v4057 : BitVec 32) (k0_hw630 : k0_chk630 v4057), (Rect.unit (s := S4096x4096) (k0_off629 v4057) S32x4096.size (k0_off629_inb v4057 k0_hw630)).WholeWords (EltTy.packing .i8) := fun v4057 k0_hw630 => k0_hw630.2 (k0_off629_inb v4057 k0_hw630)

def k0_chk629 (v4054 : BitVec 32) : Prop :=
  (∀ a, (k0_off628 v4054) a + S32x4096.size a ≤ S4096x4096.size a) ∧
  (∀ (hinb : ∀ a, (k0_off628 v4054) a + S32x4096.size a ≤ S4096x4096.size a), (Rect.unit (s := S4096x4096) (k0_off628 v4054) S32x4096.size hinb).WholeWords (EltTy.packing .i8))
theorem k0_off628_inb : ∀ (v4054 : BitVec 32) (k0_hw629 : k0_chk629 v4054), ∀ a, (k0_off628 v4054) a + S32x4096.size a ≤ S4096x4096.size a := fun v4054 k0_hw629 => k0_hw629.1
theorem k0_off628_wordsi8 : ∀ (v4054 : BitVec 32) (k0_hw629 : k0_chk629 v4054), (Rect.unit (s := S4096x4096) (k0_off628 v4054) S32x4096.size (k0_off628_inb v4054 k0_hw629)).WholeWords (EltTy.packing .i8) := fun v4054 k0_hw629 => k0_hw629.2 (k0_off628_inb v4054 k0_hw629)

def k0_off630 (v4064 : BitVec 32) : Fin 2 → Nat :=
  let c128_i32_4262 : BitVec 32 := 128#32
  let v4065 : BitVec 32 := Scalar.muli v4064 c128_i32_4262
  let c32_i32_4263 : BitVec 32 := 32#32
  let v4066 : BitVec 32 := Scalar.addi v4065 c32_i32_4263
  let c0_i32_4272 : BitVec 32 := 0#32
  ![v4066.toNat, 0]

def k0_off631 (v4067 : BitVec 32) : Fin 2 → Nat :=
  let c128_i32_4265 : BitVec 32 := 128#32
  let v4068 : BitVec 32 := Scalar.muli v4067 c128_i32_4265
  let c32_i32_4266 : BitVec 32 := 32#32
  let v4069 : BitVec 32 := Scalar.addi v4068 c32_i32_4266
  let c0_i32_4273 : BitVec 32 := 0#32
  ![v4069.toNat, 0]

def k0_chk632 (v4067 : BitVec 32) : Prop :=
  (∀ a, (k0_off631 v4067) a + S32x4096.size a ≤ S4096x4096.size a) ∧
  (∀ (hinb : ∀ a, (k0_off631 v4067) a + S32x4096.size a ≤ S4096x4096.size a), (Rect.unit (s := S4096x4096) (k0_off631 v4067) S32x4096.size hinb).WholeWords (EltTy.packing .i8))
theorem k0_off631_inb : ∀ (v4067 : BitVec 32) (k0_hw632 : k0_chk632 v4067), ∀ a, (k0_off631 v4067) a + S32x4096.size a ≤ S4096x4096.size a := fun v4067 k0_hw632 => k0_hw632.1
theorem k0_off631_wordsi8 : ∀ (v4067 : BitVec 32) (k0_hw632 : k0_chk632 v4067), (Rect.unit (s := S4096x4096) (k0_off631 v4067) S32x4096.size (k0_off631_inb v4067 k0_hw632)).WholeWords (EltTy.packing .i8) := fun v4067 k0_hw632 => k0_hw632.2 (k0_off631_inb v4067 k0_hw632)

def k0_chk631 (v4064 : BitVec 32) : Prop :=
  (∀ a, (k0_off630 v4064) a + S32x4096.size a ≤ S4096x4096.size a) ∧
  (∀ (hinb : ∀ a, (k0_off630 v4064) a + S32x4096.size a ≤ S4096x4096.size a), (Rect.unit (s := S4096x4096) (k0_off630 v4064) S32x4096.size hinb).WholeWords (EltTy.packing .i8))
theorem k0_off630_inb : ∀ (v4064 : BitVec 32) (k0_hw631 : k0_chk631 v4064), ∀ a, (k0_off630 v4064) a + S32x4096.size a ≤ S4096x4096.size a := fun v4064 k0_hw631 => k0_hw631.1
theorem k0_off630_wordsi8 : ∀ (v4064 : BitVec 32) (k0_hw631 : k0_chk631 v4064), (Rect.unit (s := S4096x4096) (k0_off630 v4064) S32x4096.size (k0_off630_inb v4064 k0_hw631)).WholeWords (EltTy.packing .i8) := fun v4064 k0_hw631 => k0_hw631.2 (k0_off630_inb v4064 k0_hw631)

def k0_off632 (v4074 : BitVec 32) : Fin 2 → Nat :=
  let c128_i32_4275 : BitVec 32 := 128#32
  let v4075 : BitVec 32 := Scalar.muli v4074 c128_i32_4275
  let c64_i32_4276 : BitVec 32 := 64#32
  let v4076 : BitVec 32 := Scalar.addi v4075 c64_i32_4276
  let c0_i32_4285 : BitVec 32 := 0#32
  ![v4076.toNat, 0]

def k0_off633 (v4077 : BitVec 32) : Fin 2 → Nat :=
  let c128_i32_4278 : BitVec 32 := 128#32
  let v4078 : BitVec 32 := Scalar.muli v4077 c128_i32_4278
  let c64_i32_4279 : BitVec 32 := 64#32
  let v4079 : BitVec 32 := Scalar.addi v4078 c64_i32_4279
  let c0_i32_4286 : BitVec 32 := 0#32
  ![v4079.toNat, 0]

def k0_chk634 (v4077 : BitVec 32) : Prop :=
  (∀ a, (k0_off633 v4077) a + S32x4096.size a ≤ S4096x4096.size a) ∧
  (∀ (hinb : ∀ a, (k0_off633 v4077) a + S32x4096.size a ≤ S4096x4096.size a), (Rect.unit (s := S4096x4096) (k0_off633 v4077) S32x4096.size hinb).WholeWords (EltTy.packing .i8))
theorem k0_off633_inb : ∀ (v4077 : BitVec 32) (k0_hw634 : k0_chk634 v4077), ∀ a, (k0_off633 v4077) a + S32x4096.size a ≤ S4096x4096.size a := fun v4077 k0_hw634 => k0_hw634.1
theorem k0_off633_wordsi8 : ∀ (v4077 : BitVec 32) (k0_hw634 : k0_chk634 v4077), (Rect.unit (s := S4096x4096) (k0_off633 v4077) S32x4096.size (k0_off633_inb v4077 k0_hw634)).WholeWords (EltTy.packing .i8) := fun v4077 k0_hw634 => k0_hw634.2 (k0_off633_inb v4077 k0_hw634)

def k0_chk633 (v4074 : BitVec 32) : Prop :=
  (∀ a, (k0_off632 v4074) a + S32x4096.size a ≤ S4096x4096.size a) ∧
  (∀ (hinb : ∀ a, (k0_off632 v4074) a + S32x4096.size a ≤ S4096x4096.size a), (Rect.unit (s := S4096x4096) (k0_off632 v4074) S32x4096.size hinb).WholeWords (EltTy.packing .i8))
theorem k0_off632_inb : ∀ (v4074 : BitVec 32) (k0_hw633 : k0_chk633 v4074), ∀ a, (k0_off632 v4074) a + S32x4096.size a ≤ S4096x4096.size a := fun v4074 k0_hw633 => k0_hw633.1
theorem k0_off632_wordsi8 : ∀ (v4074 : BitVec 32) (k0_hw633 : k0_chk633 v4074), (Rect.unit (s := S4096x4096) (k0_off632 v4074) S32x4096.size (k0_off632_inb v4074 k0_hw633)).WholeWords (EltTy.packing .i8) := fun v4074 k0_hw633 => k0_hw633.2 (k0_off632_inb v4074 k0_hw633)

def k0_off634 (v4084 : BitVec 32) : Fin 2 → Nat :=
  let c128_i32_4288 : BitVec 32 := 128#32
  let v4085 : BitVec 32 := Scalar.muli v4084 c128_i32_4288
  let c64_i32_4289 : BitVec 32 := 64#32
  let v4086 : BitVec 32 := Scalar.addi v4085 c64_i32_4289
  let c0_i32_4298 : BitVec 32 := 0#32
  ![v4086.toNat, 0]

def k0_off635 (v4087 : BitVec 32) : Fin 2 → Nat :=
  let c128_i32_4291 : BitVec 32 := 128#32
  let v4088 : BitVec 32 := Scalar.muli v4087 c128_i32_4291
  let c64_i32_4292 : BitVec 32 := 64#32
  let v4089 : BitVec 32 := Scalar.addi v4088 c64_i32_4292
  let c0_i32_4299 : BitVec 32 := 0#32
  ![v4089.toNat, 0]

def k0_chk636 (v4087 : BitVec 32) : Prop :=
  (∀ a, (k0_off635 v4087) a + S32x4096.size a ≤ S4096x4096.size a) ∧
  (∀ (hinb : ∀ a, (k0_off635 v4087) a + S32x4096.size a ≤ S4096x4096.size a), (Rect.unit (s := S4096x4096) (k0_off635 v4087) S32x4096.size hinb).WholeWords (EltTy.packing .i8))
theorem k0_off635_inb : ∀ (v4087 : BitVec 32) (k0_hw636 : k0_chk636 v4087), ∀ a, (k0_off635 v4087) a + S32x4096.size a ≤ S4096x4096.size a := fun v4087 k0_hw636 => k0_hw636.1
theorem k0_off635_wordsi8 : ∀ (v4087 : BitVec 32) (k0_hw636 : k0_chk636 v4087), (Rect.unit (s := S4096x4096) (k0_off635 v4087) S32x4096.size (k0_off635_inb v4087 k0_hw636)).WholeWords (EltTy.packing .i8) := fun v4087 k0_hw636 => k0_hw636.2 (k0_off635_inb v4087 k0_hw636)

def k0_chk635 (v4084 : BitVec 32) : Prop :=
  (∀ a, (k0_off634 v4084) a + S32x4096.size a ≤ S4096x4096.size a) ∧
  (∀ (hinb : ∀ a, (k0_off634 v4084) a + S32x4096.size a ≤ S4096x4096.size a), (Rect.unit (s := S4096x4096) (k0_off634 v4084) S32x4096.size hinb).WholeWords (EltTy.packing .i8))
theorem k0_off634_inb : ∀ (v4084 : BitVec 32) (k0_hw635 : k0_chk635 v4084), ∀ a, (k0_off634 v4084) a + S32x4096.size a ≤ S4096x4096.size a := fun v4084 k0_hw635 => k0_hw635.1
theorem k0_off634_wordsi8 : ∀ (v4084 : BitVec 32) (k0_hw635 : k0_chk635 v4084), (Rect.unit (s := S4096x4096) (k0_off634 v4084) S32x4096.size (k0_off634_inb v4084 k0_hw635)).WholeWords (EltTy.packing .i8) := fun v4084 k0_hw635 => k0_hw635.2 (k0_off634_inb v4084 k0_hw635)

def k0_off636 (v4094 : BitVec 32) : Fin 2 → Nat :=
  let c128_i32_4301 : BitVec 32 := 128#32
  let v4095 : BitVec 32 := Scalar.muli v4094 c128_i32_4301
  let c96_i32_4302 : BitVec 32 := 96#32
  let v4096 : BitVec 32 := Scalar.addi v4095 c96_i32_4302
  let c0_i32_4311 : BitVec 32 := 0#32
  ![v4096.toNat, 0]

def k0_off637 (v4097 : BitVec 32) : Fin 2 → Nat :=
  let c128_i32_4304 : BitVec 32 := 128#32
  let v4098 : BitVec 32 := Scalar.muli v4097 c128_i32_4304
  let c96_i32_4305 : BitVec 32 := 96#32
  let v4099 : BitVec 32 := Scalar.addi v4098 c96_i32_4305
  let c0_i32_4312 : BitVec 32 := 0#32
  ![v4099.toNat, 0]

def k0_chk638 (v4097 : BitVec 32) : Prop :=
  (∀ a, (k0_off637 v4097) a + S32x4096.size a ≤ S4096x4096.size a) ∧
  (∀ (hinb : ∀ a, (k0_off637 v4097) a + S32x4096.size a ≤ S4096x4096.size a), (Rect.unit (s := S4096x4096) (k0_off637 v4097) S32x4096.size hinb).WholeWords (EltTy.packing .i8))
theorem k0_off637_inb : ∀ (v4097 : BitVec 32) (k0_hw638 : k0_chk638 v4097), ∀ a, (k0_off637 v4097) a + S32x4096.size a ≤ S4096x4096.size a := fun v4097 k0_hw638 => k0_hw638.1
theorem k0_off637_wordsi8 : ∀ (v4097 : BitVec 32) (k0_hw638 : k0_chk638 v4097), (Rect.unit (s := S4096x4096) (k0_off637 v4097) S32x4096.size (k0_off637_inb v4097 k0_hw638)).WholeWords (EltTy.packing .i8) := fun v4097 k0_hw638 => k0_hw638.2 (k0_off637_inb v4097 k0_hw638)

def k0_chk637 (v4094 : BitVec 32) : Prop :=
  (∀ a, (k0_off636 v4094) a + S32x4096.size a ≤ S4096x4096.size a) ∧
  (∀ (hinb : ∀ a, (k0_off636 v4094) a + S32x4096.size a ≤ S4096x4096.size a), (Rect.unit (s := S4096x4096) (k0_off636 v4094) S32x4096.size hinb).WholeWords (EltTy.packing .i8))
theorem k0_off636_inb : ∀ (v4094 : BitVec 32) (k0_hw637 : k0_chk637 v4094), ∀ a, (k0_off636 v4094) a + S32x4096.size a ≤ S4096x4096.size a := fun v4094 k0_hw637 => k0_hw637.1
theorem k0_off636_wordsi8 : ∀ (v4094 : BitVec 32) (k0_hw637 : k0_chk637 v4094), (Rect.unit (s := S4096x4096) (k0_off636 v4094) S32x4096.size (k0_off636_inb v4094 k0_hw637)).WholeWords (EltTy.packing .i8) := fun v4094 k0_hw637 => k0_hw637.2 (k0_off636_inb v4094 k0_hw637)

def k0_off638 (v4104 : BitVec 32) : Fin 2 → Nat :=
  let c128_i32_4314 : BitVec 32 := 128#32
  let v4105 : BitVec 32 := Scalar.muli v4104 c128_i32_4314
  let c96_i32_4315 : BitVec 32 := 96#32
  let v4106 : BitVec 32 := Scalar.addi v4105 c96_i32_4315
  let c0_i32_4324 : BitVec 32 := 0#32
  ![v4106.toNat, 0]

def k0_off639 (v4107 : BitVec 32) : Fin 2 → Nat :=
  let c128_i32_4317 : BitVec 32 := 128#32
  let v4108 : BitVec 32 := Scalar.muli v4107 c128_i32_4317
  let c96_i32_4318 : BitVec 32 := 96#32
  let v4109 : BitVec 32 := Scalar.addi v4108 c96_i32_4318
  let c0_i32_4325 : BitVec 32 := 0#32
  ![v4109.toNat, 0]

def k0_chk640 (v4107 : BitVec 32) : Prop :=
  (∀ a, (k0_off639 v4107) a + S32x4096.size a ≤ S4096x4096.size a) ∧
  (∀ (hinb : ∀ a, (k0_off639 v4107) a + S32x4096.size a ≤ S4096x4096.size a), (Rect.unit (s := S4096x4096) (k0_off639 v4107) S32x4096.size hinb).WholeWords (EltTy.packing .i8))
theorem k0_off639_inb : ∀ (v4107 : BitVec 32) (k0_hw640 : k0_chk640 v4107), ∀ a, (k0_off639 v4107) a + S32x4096.size a ≤ S4096x4096.size a := fun v4107 k0_hw640 => k0_hw640.1
theorem k0_off639_wordsi8 : ∀ (v4107 : BitVec 32) (k0_hw640 : k0_chk640 v4107), (Rect.unit (s := S4096x4096) (k0_off639 v4107) S32x4096.size (k0_off639_inb v4107 k0_hw640)).WholeWords (EltTy.packing .i8) := fun v4107 k0_hw640 => k0_hw640.2 (k0_off639_inb v4107 k0_hw640)

def k0_chk639 (v4104 : BitVec 32) : Prop :=
  (∀ a, (k0_off638 v4104) a + S32x4096.size a ≤ S4096x4096.size a) ∧
  (∀ (hinb : ∀ a, (k0_off638 v4104) a + S32x4096.size a ≤ S4096x4096.size a), (Rect.unit (s := S4096x4096) (k0_off638 v4104) S32x4096.size hinb).WholeWords (EltTy.packing .i8))
theorem k0_off638_inb : ∀ (v4104 : BitVec 32) (k0_hw639 : k0_chk639 v4104), ∀ a, (k0_off638 v4104) a + S32x4096.size a ≤ S4096x4096.size a := fun v4104 k0_hw639 => k0_hw639.1
theorem k0_off638_wordsi8 : ∀ (v4104 : BitVec 32) (k0_hw639 : k0_chk639 v4104), (Rect.unit (s := S4096x4096) (k0_off638 v4104) S32x4096.size (k0_off638_inb v4104 k0_hw639)).WholeWords (EltTy.packing .i8) := fun v4104 k0_hw639 => k0_hw639.2 (k0_off638_inb v4104 k0_hw639)

def k0_off640 (v4114 : BitVec 32) : Fin 2 → Nat :=
  let c128_i32_4327 : BitVec 32 := 128#32
  let v4115 : BitVec 32 := Scalar.muli v4114 c128_i32_4327
  let c0_i32_4328 : BitVec 32 := 0#32
  let v4116 : BitVec 32 := Scalar.addi v4115 c0_i32_4328
  let c0_i32_4337 : BitVec 32 := 0#32
  ![v4116.toNat, 0]

def k0_off641 (v4117 : BitVec 32) : Fin 2 → Nat :=
  let c128_i32_4330 : BitVec 32 := 128#32
  let v4118 : BitVec 32 := Scalar.muli v4117 c128_i32_4330
  let c0_i32_4331 : BitVec 32 := 0#32
  let v4119 : BitVec 32 := Scalar.addi v4118 c0_i32_4331
  let c0_i32_4338 : BitVec 32 := 0#32
  ![v4119.toNat, 0]

def k0_chk642 (v4117 : BitVec 32) : Prop :=
  (∀ a, (k0_off641 v4117) a + S32x4096.size a ≤ S4096x4096.size a) ∧
  (∀ (hinb : ∀ a, (k0_off641 v4117) a + S32x4096.size a ≤ S4096x4096.size a), (Rect.unit (s := S4096x4096) (k0_off641 v4117) S32x4096.size hinb).WholeWords (EltTy.packing .i8))
theorem k0_off641_inb : ∀ (v4117 : BitVec 32) (k0_hw642 : k0_chk642 v4117), ∀ a, (k0_off641 v4117) a + S32x4096.size a ≤ S4096x4096.size a := fun v4117 k0_hw642 => k0_hw642.1
theorem k0_off641_wordsi8 : ∀ (v4117 : BitVec 32) (k0_hw642 : k0_chk642 v4117), (Rect.unit (s := S4096x4096) (k0_off641 v4117) S32x4096.size (k0_off641_inb v4117 k0_hw642)).WholeWords (EltTy.packing .i8) := fun v4117 k0_hw642 => k0_hw642.2 (k0_off641_inb v4117 k0_hw642)

def k0_chk641 (v4114 : BitVec 32) : Prop :=
  (∀ a, (k0_off640 v4114) a + S32x4096.size a ≤ S4096x4096.size a) ∧
  (∀ (hinb : ∀ a, (k0_off640 v4114) a + S32x4096.size a ≤ S4096x4096.size a), (Rect.unit (s := S4096x4096) (k0_off640 v4114) S32x4096.size hinb).WholeWords (EltTy.packing .i8))
theorem k0_off640_inb : ∀ (v4114 : BitVec 32) (k0_hw641 : k0_chk641 v4114), ∀ a, (k0_off640 v4114) a + S32x4096.size a ≤ S4096x4096.size a := fun v4114 k0_hw641 => k0_hw641.1
theorem k0_off640_wordsi8 : ∀ (v4114 : BitVec 32) (k0_hw641 : k0_chk641 v4114), (Rect.unit (s := S4096x4096) (k0_off640 v4114) S32x4096.size (k0_off640_inb v4114 k0_hw641)).WholeWords (EltTy.packing .i8) := fun v4114 k0_hw641 => k0_hw641.2 (k0_off640_inb v4114 k0_hw641)

def k0_off642 (v4124 : BitVec 32) : Fin 2 → Nat :=
  let c128_i32_4340 : BitVec 32 := 128#32
  let v4125 : BitVec 32 := Scalar.muli v4124 c128_i32_4340
  let c0_i32_4341 : BitVec 32 := 0#32
  let v4126 : BitVec 32 := Scalar.addi v4125 c0_i32_4341
  let c0_i32_4350 : BitVec 32 := 0#32
  ![v4126.toNat, 0]

def k0_off643 (v4127 : BitVec 32) : Fin 2 → Nat :=
  let c128_i32_4343 : BitVec 32 := 128#32
  let v4128 : BitVec 32 := Scalar.muli v4127 c128_i32_4343
  let c0_i32_4344 : BitVec 32 := 0#32
  let v4129 : BitVec 32 := Scalar.addi v4128 c0_i32_4344
  let c0_i32_4351 : BitVec 32 := 0#32
  ![v4129.toNat, 0]

def k0_chk644 (v4127 : BitVec 32) : Prop :=
  (∀ a, (k0_off643 v4127) a + S32x4096.size a ≤ S4096x4096.size a) ∧
  (∀ (hinb : ∀ a, (k0_off643 v4127) a + S32x4096.size a ≤ S4096x4096.size a), (Rect.unit (s := S4096x4096) (k0_off643 v4127) S32x4096.size hinb).WholeWords (EltTy.packing .i8))
theorem k0_off643_inb : ∀ (v4127 : BitVec 32) (k0_hw644 : k0_chk644 v4127), ∀ a, (k0_off643 v4127) a + S32x4096.size a ≤ S4096x4096.size a := fun v4127 k0_hw644 => k0_hw644.1
theorem k0_off643_wordsi8 : ∀ (v4127 : BitVec 32) (k0_hw644 : k0_chk644 v4127), (Rect.unit (s := S4096x4096) (k0_off643 v4127) S32x4096.size (k0_off643_inb v4127 k0_hw644)).WholeWords (EltTy.packing .i8) := fun v4127 k0_hw644 => k0_hw644.2 (k0_off643_inb v4127 k0_hw644)

def k0_chk643 (v4124 : BitVec 32) : Prop :=
  (∀ a, (k0_off642 v4124) a + S32x4096.size a ≤ S4096x4096.size a) ∧
  (∀ (hinb : ∀ a, (k0_off642 v4124) a + S32x4096.size a ≤ S4096x4096.size a), (Rect.unit (s := S4096x4096) (k0_off642 v4124) S32x4096.size hinb).WholeWords (EltTy.packing .i8))
theorem k0_off642_inb : ∀ (v4124 : BitVec 32) (k0_hw643 : k0_chk643 v4124), ∀ a, (k0_off642 v4124) a + S32x4096.size a ≤ S4096x4096.size a := fun v4124 k0_hw643 => k0_hw643.1
theorem k0_off642_wordsi8 : ∀ (v4124 : BitVec 32) (k0_hw643 : k0_chk643 v4124), (Rect.unit (s := S4096x4096) (k0_off642 v4124) S32x4096.size (k0_off642_inb v4124 k0_hw643)).WholeWords (EltTy.packing .i8) := fun v4124 k0_hw643 => k0_hw643.2 (k0_off642_inb v4124 k0_hw643)

def k0_off644 (v4134 : BitVec 32) : Fin 2 → Nat :=
  let c128_i32_4353 : BitVec 32 := 128#32
  let v4135 : BitVec 32 := Scalar.muli v4134 c128_i32_4353
  let c32_i32_4354 : BitVec 32 := 32#32
  let v4136 : BitVec 32 := Scalar.addi v4135 c32_i32_4354
  let c0_i32_4363 : BitVec 32 := 0#32
  ![v4136.toNat, 0]

def k0_off645 (v4137 : BitVec 32) : Fin 2 → Nat :=
  let c128_i32_4356 : BitVec 32 := 128#32
  let v4138 : BitVec 32 := Scalar.muli v4137 c128_i32_4356
  let c32_i32_4357 : BitVec 32 := 32#32
  let v4139 : BitVec 32 := Scalar.addi v4138 c32_i32_4357
  let c0_i32_4364 : BitVec 32 := 0#32
  ![v4139.toNat, 0]

def k0_chk646 (v4137 : BitVec 32) : Prop :=
  (∀ a, (k0_off645 v4137) a + S32x4096.size a ≤ S4096x4096.size a) ∧
  (∀ (hinb : ∀ a, (k0_off645 v4137) a + S32x4096.size a ≤ S4096x4096.size a), (Rect.unit (s := S4096x4096) (k0_off645 v4137) S32x4096.size hinb).WholeWords (EltTy.packing .i8))
theorem k0_off645_inb : ∀ (v4137 : BitVec 32) (k0_hw646 : k0_chk646 v4137), ∀ a, (k0_off645 v4137) a + S32x4096.size a ≤ S4096x4096.size a := fun v4137 k0_hw646 => k0_hw646.1
theorem k0_off645_wordsi8 : ∀ (v4137 : BitVec 32) (k0_hw646 : k0_chk646 v4137), (Rect.unit (s := S4096x4096) (k0_off645 v4137) S32x4096.size (k0_off645_inb v4137 k0_hw646)).WholeWords (EltTy.packing .i8) := fun v4137 k0_hw646 => k0_hw646.2 (k0_off645_inb v4137 k0_hw646)

def k0_chk645 (v4134 : BitVec 32) : Prop :=
  (∀ a, (k0_off644 v4134) a + S32x4096.size a ≤ S4096x4096.size a) ∧
  (∀ (hinb : ∀ a, (k0_off644 v4134) a + S32x4096.size a ≤ S4096x4096.size a), (Rect.unit (s := S4096x4096) (k0_off644 v4134) S32x4096.size hinb).WholeWords (EltTy.packing .i8))
theorem k0_off644_inb : ∀ (v4134 : BitVec 32) (k0_hw645 : k0_chk645 v4134), ∀ a, (k0_off644 v4134) a + S32x4096.size a ≤ S4096x4096.size a := fun v4134 k0_hw645 => k0_hw645.1
theorem k0_off644_wordsi8 : ∀ (v4134 : BitVec 32) (k0_hw645 : k0_chk645 v4134), (Rect.unit (s := S4096x4096) (k0_off644 v4134) S32x4096.size (k0_off644_inb v4134 k0_hw645)).WholeWords (EltTy.packing .i8) := fun v4134 k0_hw645 => k0_hw645.2 (k0_off644_inb v4134 k0_hw645)

def k0_off646 (v4144 : BitVec 32) : Fin 2 → Nat :=
  let c128_i32_4366 : BitVec 32 := 128#32
  let v4145 : BitVec 32 := Scalar.muli v4144 c128_i32_4366
  let c32_i32_4367 : BitVec 32 := 32#32
  let v4146 : BitVec 32 := Scalar.addi v4145 c32_i32_4367
  let c0_i32_4376 : BitVec 32 := 0#32
  ![v4146.toNat, 0]

def k0_off647 (v4147 : BitVec 32) : Fin 2 → Nat :=
  let c128_i32_4369 : BitVec 32 := 128#32
  let v4148 : BitVec 32 := Scalar.muli v4147 c128_i32_4369
  let c32_i32_4370 : BitVec 32 := 32#32
  let v4149 : BitVec 32 := Scalar.addi v4148 c32_i32_4370
  let c0_i32_4377 : BitVec 32 := 0#32
  ![v4149.toNat, 0]

def k0_chk648 (v4147 : BitVec 32) : Prop :=
  (∀ a, (k0_off647 v4147) a + S32x4096.size a ≤ S4096x4096.size a) ∧
  (∀ (hinb : ∀ a, (k0_off647 v4147) a + S32x4096.size a ≤ S4096x4096.size a), (Rect.unit (s := S4096x4096) (k0_off647 v4147) S32x4096.size hinb).WholeWords (EltTy.packing .i8))
theorem k0_off647_inb : ∀ (v4147 : BitVec 32) (k0_hw648 : k0_chk648 v4147), ∀ a, (k0_off647 v4147) a + S32x4096.size a ≤ S4096x4096.size a := fun v4147 k0_hw648 => k0_hw648.1
theorem k0_off647_wordsi8 : ∀ (v4147 : BitVec 32) (k0_hw648 : k0_chk648 v4147), (Rect.unit (s := S4096x4096) (k0_off647 v4147) S32x4096.size (k0_off647_inb v4147 k0_hw648)).WholeWords (EltTy.packing .i8) := fun v4147 k0_hw648 => k0_hw648.2 (k0_off647_inb v4147 k0_hw648)

def k0_chk647 (v4144 : BitVec 32) : Prop :=
  (∀ a, (k0_off646 v4144) a + S32x4096.size a ≤ S4096x4096.size a) ∧
  (∀ (hinb : ∀ a, (k0_off646 v4144) a + S32x4096.size a ≤ S4096x4096.size a), (Rect.unit (s := S4096x4096) (k0_off646 v4144) S32x4096.size hinb).WholeWords (EltTy.packing .i8))
theorem k0_off646_inb : ∀ (v4144 : BitVec 32) (k0_hw647 : k0_chk647 v4144), ∀ a, (k0_off646 v4144) a + S32x4096.size a ≤ S4096x4096.size a := fun v4144 k0_hw647 => k0_hw647.1
theorem k0_off646_wordsi8 : ∀ (v4144 : BitVec 32) (k0_hw647 : k0_chk647 v4144), (Rect.unit (s := S4096x4096) (k0_off646 v4144) S32x4096.size (k0_off646_inb v4144 k0_hw647)).WholeWords (EltTy.packing .i8) := fun v4144 k0_hw647 => k0_hw647.2 (k0_off646_inb v4144 k0_hw647)

def k0_off648 (v4154 : BitVec 32) : Fin 2 → Nat :=
  let c128_i32_4379 : BitVec 32 := 128#32
  let v4155 : BitVec 32 := Scalar.muli v4154 c128_i32_4379
  let c64_i32_4380 : BitVec 32 := 64#32
  let v4156 : BitVec 32 := Scalar.addi v4155 c64_i32_4380
  let c0_i32_4389 : BitVec 32 := 0#32
  ![v4156.toNat, 0]

def k0_off649 (v4157 : BitVec 32) : Fin 2 → Nat :=
  let c128_i32_4382 : BitVec 32 := 128#32
  let v4158 : BitVec 32 := Scalar.muli v4157 c128_i32_4382
  let c64_i32_4383 : BitVec 32 := 64#32
  let v4159 : BitVec 32 := Scalar.addi v4158 c64_i32_4383
  let c0_i32_4390 : BitVec 32 := 0#32
  ![v4159.toNat, 0]

def k0_chk650 (v4157 : BitVec 32) : Prop :=
  (∀ a, (k0_off649 v4157) a + S32x4096.size a ≤ S4096x4096.size a) ∧
  (∀ (hinb : ∀ a, (k0_off649 v4157) a + S32x4096.size a ≤ S4096x4096.size a), (Rect.unit (s := S4096x4096) (k0_off649 v4157) S32x4096.size hinb).WholeWords (EltTy.packing .i8))
theorem k0_off649_inb : ∀ (v4157 : BitVec 32) (k0_hw650 : k0_chk650 v4157), ∀ a, (k0_off649 v4157) a + S32x4096.size a ≤ S4096x4096.size a := fun v4157 k0_hw650 => k0_hw650.1
theorem k0_off649_wordsi8 : ∀ (v4157 : BitVec 32) (k0_hw650 : k0_chk650 v4157), (Rect.unit (s := S4096x4096) (k0_off649 v4157) S32x4096.size (k0_off649_inb v4157 k0_hw650)).WholeWords (EltTy.packing .i8) := fun v4157 k0_hw650 => k0_hw650.2 (k0_off649_inb v4157 k0_hw650)

def k0_chk649 (v4154 : BitVec 32) : Prop :=
  (∀ a, (k0_off648 v4154) a + S32x4096.size a ≤ S4096x4096.size a) ∧
  (∀ (hinb : ∀ a, (k0_off648 v4154) a + S32x4096.size a ≤ S4096x4096.size a), (Rect.unit (s := S4096x4096) (k0_off648 v4154) S32x4096.size hinb).WholeWords (EltTy.packing .i8))
theorem k0_off648_inb : ∀ (v4154 : BitVec 32) (k0_hw649 : k0_chk649 v4154), ∀ a, (k0_off648 v4154) a + S32x4096.size a ≤ S4096x4096.size a := fun v4154 k0_hw649 => k0_hw649.1
theorem k0_off648_wordsi8 : ∀ (v4154 : BitVec 32) (k0_hw649 : k0_chk649 v4154), (Rect.unit (s := S4096x4096) (k0_off648 v4154) S32x4096.size (k0_off648_inb v4154 k0_hw649)).WholeWords (EltTy.packing .i8) := fun v4154 k0_hw649 => k0_hw649.2 (k0_off648_inb v4154 k0_hw649)

def k0_off650 (v4164 : BitVec 32) : Fin 2 → Nat :=
  let c128_i32_4392 : BitVec 32 := 128#32
  let v4165 : BitVec 32 := Scalar.muli v4164 c128_i32_4392
  let c64_i32_4393 : BitVec 32 := 64#32
  let v4166 : BitVec 32 := Scalar.addi v4165 c64_i32_4393
  let c0_i32_4402 : BitVec 32 := 0#32
  ![v4166.toNat, 0]

def k0_off651 (v4167 : BitVec 32) : Fin 2 → Nat :=
  let c128_i32_4395 : BitVec 32 := 128#32
  let v4168 : BitVec 32 := Scalar.muli v4167 c128_i32_4395
  let c64_i32_4396 : BitVec 32 := 64#32
  let v4169 : BitVec 32 := Scalar.addi v4168 c64_i32_4396
  let c0_i32_4403 : BitVec 32 := 0#32
  ![v4169.toNat, 0]

def k0_chk652 (v4167 : BitVec 32) : Prop :=
  (∀ a, (k0_off651 v4167) a + S32x4096.size a ≤ S4096x4096.size a) ∧
  (∀ (hinb : ∀ a, (k0_off651 v4167) a + S32x4096.size a ≤ S4096x4096.size a), (Rect.unit (s := S4096x4096) (k0_off651 v4167) S32x4096.size hinb).WholeWords (EltTy.packing .i8))
theorem k0_off651_inb : ∀ (v4167 : BitVec 32) (k0_hw652 : k0_chk652 v4167), ∀ a, (k0_off651 v4167) a + S32x4096.size a ≤ S4096x4096.size a := fun v4167 k0_hw652 => k0_hw652.1
theorem k0_off651_wordsi8 : ∀ (v4167 : BitVec 32) (k0_hw652 : k0_chk652 v4167), (Rect.unit (s := S4096x4096) (k0_off651 v4167) S32x4096.size (k0_off651_inb v4167 k0_hw652)).WholeWords (EltTy.packing .i8) := fun v4167 k0_hw652 => k0_hw652.2 (k0_off651_inb v4167 k0_hw652)

def k0_chk651 (v4164 : BitVec 32) : Prop :=
  (∀ a, (k0_off650 v4164) a + S32x4096.size a ≤ S4096x4096.size a) ∧
  (∀ (hinb : ∀ a, (k0_off650 v4164) a + S32x4096.size a ≤ S4096x4096.size a), (Rect.unit (s := S4096x4096) (k0_off650 v4164) S32x4096.size hinb).WholeWords (EltTy.packing .i8))
theorem k0_off650_inb : ∀ (v4164 : BitVec 32) (k0_hw651 : k0_chk651 v4164), ∀ a, (k0_off650 v4164) a + S32x4096.size a ≤ S4096x4096.size a := fun v4164 k0_hw651 => k0_hw651.1
theorem k0_off650_wordsi8 : ∀ (v4164 : BitVec 32) (k0_hw651 : k0_chk651 v4164), (Rect.unit (s := S4096x4096) (k0_off650 v4164) S32x4096.size (k0_off650_inb v4164 k0_hw651)).WholeWords (EltTy.packing .i8) := fun v4164 k0_hw651 => k0_hw651.2 (k0_off650_inb v4164 k0_hw651)

def k0_off652 (v4174 : BitVec 32) : Fin 2 → Nat :=
  let c128_i32_4405 : BitVec 32 := 128#32
  let v4175 : BitVec 32 := Scalar.muli v4174 c128_i32_4405
  let c96_i32_4406 : BitVec 32 := 96#32
  let v4176 : BitVec 32 := Scalar.addi v4175 c96_i32_4406
  let c0_i32_4415 : BitVec 32 := 0#32
  ![v4176.toNat, 0]

def k0_off653 (v4177 : BitVec 32) : Fin 2 → Nat :=
  let c128_i32_4408 : BitVec 32 := 128#32
  let v4178 : BitVec 32 := Scalar.muli v4177 c128_i32_4408
  let c96_i32_4409 : BitVec 32 := 96#32
  let v4179 : BitVec 32 := Scalar.addi v4178 c96_i32_4409
  let c0_i32_4416 : BitVec 32 := 0#32
  ![v4179.toNat, 0]

def k0_chk654 (v4177 : BitVec 32) : Prop :=
  (∀ a, (k0_off653 v4177) a + S32x4096.size a ≤ S4096x4096.size a) ∧
  (∀ (hinb : ∀ a, (k0_off653 v4177) a + S32x4096.size a ≤ S4096x4096.size a), (Rect.unit (s := S4096x4096) (k0_off653 v4177) S32x4096.size hinb).WholeWords (EltTy.packing .i8))
theorem k0_off653_inb : ∀ (v4177 : BitVec 32) (k0_hw654 : k0_chk654 v4177), ∀ a, (k0_off653 v4177) a + S32x4096.size a ≤ S4096x4096.size a := fun v4177 k0_hw654 => k0_hw654.1
theorem k0_off653_wordsi8 : ∀ (v4177 : BitVec 32) (k0_hw654 : k0_chk654 v4177), (Rect.unit (s := S4096x4096) (k0_off653 v4177) S32x4096.size (k0_off653_inb v4177 k0_hw654)).WholeWords (EltTy.packing .i8) := fun v4177 k0_hw654 => k0_hw654.2 (k0_off653_inb v4177 k0_hw654)

def k0_chk653 (v4174 : BitVec 32) : Prop :=
  (∀ a, (k0_off652 v4174) a + S32x4096.size a ≤ S4096x4096.size a) ∧
  (∀ (hinb : ∀ a, (k0_off652 v4174) a + S32x4096.size a ≤ S4096x4096.size a), (Rect.unit (s := S4096x4096) (k0_off652 v4174) S32x4096.size hinb).WholeWords (EltTy.packing .i8))
theorem k0_off652_inb : ∀ (v4174 : BitVec 32) (k0_hw653 : k0_chk653 v4174), ∀ a, (k0_off652 v4174) a + S32x4096.size a ≤ S4096x4096.size a := fun v4174 k0_hw653 => k0_hw653.1
theorem k0_off652_wordsi8 : ∀ (v4174 : BitVec 32) (k0_hw653 : k0_chk653 v4174), (Rect.unit (s := S4096x4096) (k0_off652 v4174) S32x4096.size (k0_off652_inb v4174 k0_hw653)).WholeWords (EltTy.packing .i8) := fun v4174 k0_hw653 => k0_hw653.2 (k0_off652_inb v4174 k0_hw653)

def k0_off654 (v4184 : BitVec 32) : Fin 2 → Nat :=
  let c128_i32_4418 : BitVec 32 := 128#32
  let v4185 : BitVec 32 := Scalar.muli v4184 c128_i32_4418
  let c96_i32_4419 : BitVec 32 := 96#32
  let v4186 : BitVec 32 := Scalar.addi v4185 c96_i32_4419
  let c0_i32_4428 : BitVec 32 := 0#32
  ![v4186.toNat, 0]

def k0_off655 (v4187 : BitVec 32) : Fin 2 → Nat :=
  let c128_i32_4421 : BitVec 32 := 128#32
  let v4188 : BitVec 32 := Scalar.muli v4187 c128_i32_4421
  let c96_i32_4422 : BitVec 32 := 96#32
  let v4189 : BitVec 32 := Scalar.addi v4188 c96_i32_4422
  let c0_i32_4429 : BitVec 32 := 0#32
  ![v4189.toNat, 0]

def k0_chk656 (v4187 : BitVec 32) : Prop :=
  (∀ a, (k0_off655 v4187) a + S32x4096.size a ≤ S4096x4096.size a) ∧
  (∀ (hinb : ∀ a, (k0_off655 v4187) a + S32x4096.size a ≤ S4096x4096.size a), (Rect.unit (s := S4096x4096) (k0_off655 v4187) S32x4096.size hinb).WholeWords (EltTy.packing .i8))
theorem k0_off655_inb : ∀ (v4187 : BitVec 32) (k0_hw656 : k0_chk656 v4187), ∀ a, (k0_off655 v4187) a + S32x4096.size a ≤ S4096x4096.size a := fun v4187 k0_hw656 => k0_hw656.1
theorem k0_off655_wordsi8 : ∀ (v4187 : BitVec 32) (k0_hw656 : k0_chk656 v4187), (Rect.unit (s := S4096x4096) (k0_off655 v4187) S32x4096.size (k0_off655_inb v4187 k0_hw656)).WholeWords (EltTy.packing .i8) := fun v4187 k0_hw656 => k0_hw656.2 (k0_off655_inb v4187 k0_hw656)

def k0_chk655 (v4184 : BitVec 32) : Prop :=
  (∀ a, (k0_off654 v4184) a + S32x4096.size a ≤ S4096x4096.size a) ∧
  (∀ (hinb : ∀ a, (k0_off654 v4184) a + S32x4096.size a ≤ S4096x4096.size a), (Rect.unit (s := S4096x4096) (k0_off654 v4184) S32x4096.size hinb).WholeWords (EltTy.packing .i8))
theorem k0_off654_inb : ∀ (v4184 : BitVec 32) (k0_hw655 : k0_chk655 v4184), ∀ a, (k0_off654 v4184) a + S32x4096.size a ≤ S4096x4096.size a := fun v4184 k0_hw655 => k0_hw655.1
theorem k0_off654_wordsi8 : ∀ (v4184 : BitVec 32) (k0_hw655 : k0_chk655 v4184), (Rect.unit (s := S4096x4096) (k0_off654 v4184) S32x4096.size (k0_off654_inb v4184 k0_hw655)).WholeWords (EltTy.packing .i8) := fun v4184 k0_hw655 => k0_hw655.2 (k0_off654_inb v4184 k0_hw655)

def k0_off656 (v4194 : BitVec 32) : Fin 2 → Nat :=
  let c128_i32_4431 : BitVec 32 := 128#32
  let v4195 : BitVec 32 := Scalar.muli v4194 c128_i32_4431
  let c0_i32_4432 : BitVec 32 := 0#32
  let v4196 : BitVec 32 := Scalar.addi v4195 c0_i32_4432
  let c0_i32_4441 : BitVec 32 := 0#32
  ![v4196.toNat, 0]

def k0_off657 (v4197 : BitVec 32) : Fin 2 → Nat :=
  let c128_i32_4434 : BitVec 32 := 128#32
  let v4198 : BitVec 32 := Scalar.muli v4197 c128_i32_4434
  let c0_i32_4435 : BitVec 32 := 0#32
  let v4199 : BitVec 32 := Scalar.addi v4198 c0_i32_4435
  let c0_i32_4442 : BitVec 32 := 0#32
  ![v4199.toNat, 0]

def k0_chk658 (v4197 : BitVec 32) : Prop :=
  (∀ a, (k0_off657 v4197) a + S32x4096.size a ≤ S4096x4096.size a) ∧
  (∀ (hinb : ∀ a, (k0_off657 v4197) a + S32x4096.size a ≤ S4096x4096.size a), (Rect.unit (s := S4096x4096) (k0_off657 v4197) S32x4096.size hinb).WholeWords (EltTy.packing .i8))
theorem k0_off657_inb : ∀ (v4197 : BitVec 32) (k0_hw658 : k0_chk658 v4197), ∀ a, (k0_off657 v4197) a + S32x4096.size a ≤ S4096x4096.size a := fun v4197 k0_hw658 => k0_hw658.1
theorem k0_off657_wordsi8 : ∀ (v4197 : BitVec 32) (k0_hw658 : k0_chk658 v4197), (Rect.unit (s := S4096x4096) (k0_off657 v4197) S32x4096.size (k0_off657_inb v4197 k0_hw658)).WholeWords (EltTy.packing .i8) := fun v4197 k0_hw658 => k0_hw658.2 (k0_off657_inb v4197 k0_hw658)

def k0_chk657 (v4194 : BitVec 32) : Prop :=
  (∀ a, (k0_off656 v4194) a + S32x4096.size a ≤ S4096x4096.size a) ∧
  (∀ (hinb : ∀ a, (k0_off656 v4194) a + S32x4096.size a ≤ S4096x4096.size a), (Rect.unit (s := S4096x4096) (k0_off656 v4194) S32x4096.size hinb).WholeWords (EltTy.packing .i8))
theorem k0_off656_inb : ∀ (v4194 : BitVec 32) (k0_hw657 : k0_chk657 v4194), ∀ a, (k0_off656 v4194) a + S32x4096.size a ≤ S4096x4096.size a := fun v4194 k0_hw657 => k0_hw657.1
theorem k0_off656_wordsi8 : ∀ (v4194 : BitVec 32) (k0_hw657 : k0_chk657 v4194), (Rect.unit (s := S4096x4096) (k0_off656 v4194) S32x4096.size (k0_off656_inb v4194 k0_hw657)).WholeWords (EltTy.packing .i8) := fun v4194 k0_hw657 => k0_hw657.2 (k0_off656_inb v4194 k0_hw657)

def k0_off658 (v4204 : BitVec 32) : Fin 2 → Nat :=
  let c128_i32_4444 : BitVec 32 := 128#32
  let v4205 : BitVec 32 := Scalar.muli v4204 c128_i32_4444
  let c0_i32_4445 : BitVec 32 := 0#32
  let v4206 : BitVec 32 := Scalar.addi v4205 c0_i32_4445
  let c0_i32_4454 : BitVec 32 := 0#32
  ![v4206.toNat, 0]

def k0_off659 (v4207 : BitVec 32) : Fin 2 → Nat :=
  let c128_i32_4447 : BitVec 32 := 128#32
  let v4208 : BitVec 32 := Scalar.muli v4207 c128_i32_4447
  let c0_i32_4448 : BitVec 32 := 0#32
  let v4209 : BitVec 32 := Scalar.addi v4208 c0_i32_4448
  let c0_i32_4455 : BitVec 32 := 0#32
  ![v4209.toNat, 0]

def k0_chk660 (v4207 : BitVec 32) : Prop :=
  (∀ a, (k0_off659 v4207) a + S32x4096.size a ≤ S4096x4096.size a) ∧
  (∀ (hinb : ∀ a, (k0_off659 v4207) a + S32x4096.size a ≤ S4096x4096.size a), (Rect.unit (s := S4096x4096) (k0_off659 v4207) S32x4096.size hinb).WholeWords (EltTy.packing .i8))
theorem k0_off659_inb : ∀ (v4207 : BitVec 32) (k0_hw660 : k0_chk660 v4207), ∀ a, (k0_off659 v4207) a + S32x4096.size a ≤ S4096x4096.size a := fun v4207 k0_hw660 => k0_hw660.1
theorem k0_off659_wordsi8 : ∀ (v4207 : BitVec 32) (k0_hw660 : k0_chk660 v4207), (Rect.unit (s := S4096x4096) (k0_off659 v4207) S32x4096.size (k0_off659_inb v4207 k0_hw660)).WholeWords (EltTy.packing .i8) := fun v4207 k0_hw660 => k0_hw660.2 (k0_off659_inb v4207 k0_hw660)

def k0_chk659 (v4204 : BitVec 32) : Prop :=
  (∀ a, (k0_off658 v4204) a + S32x4096.size a ≤ S4096x4096.size a) ∧
  (∀ (hinb : ∀ a, (k0_off658 v4204) a + S32x4096.size a ≤ S4096x4096.size a), (Rect.unit (s := S4096x4096) (k0_off658 v4204) S32x4096.size hinb).WholeWords (EltTy.packing .i8))
theorem k0_off658_inb : ∀ (v4204 : BitVec 32) (k0_hw659 : k0_chk659 v4204), ∀ a, (k0_off658 v4204) a + S32x4096.size a ≤ S4096x4096.size a := fun v4204 k0_hw659 => k0_hw659.1
theorem k0_off658_wordsi8 : ∀ (v4204 : BitVec 32) (k0_hw659 : k0_chk659 v4204), (Rect.unit (s := S4096x4096) (k0_off658 v4204) S32x4096.size (k0_off658_inb v4204 k0_hw659)).WholeWords (EltTy.packing .i8) := fun v4204 k0_hw659 => k0_hw659.2 (k0_off658_inb v4204 k0_hw659)

def k0_off660 (v4214 : BitVec 32) : Fin 2 → Nat :=
  let c128_i32_4457 : BitVec 32 := 128#32
  let v4215 : BitVec 32 := Scalar.muli v4214 c128_i32_4457
  let c32_i32_4458 : BitVec 32 := 32#32
  let v4216 : BitVec 32 := Scalar.addi v4215 c32_i32_4458
  let c0_i32_4467 : BitVec 32 := 0#32
  ![v4216.toNat, 0]

def k0_off661 (v4217 : BitVec 32) : Fin 2 → Nat :=
  let c128_i32_4460 : BitVec 32 := 128#32
  let v4218 : BitVec 32 := Scalar.muli v4217 c128_i32_4460
  let c32_i32_4461 : BitVec 32 := 32#32
  let v4219 : BitVec 32 := Scalar.addi v4218 c32_i32_4461
  let c0_i32_4468 : BitVec 32 := 0#32
  ![v4219.toNat, 0]

def k0_chk662 (v4217 : BitVec 32) : Prop :=
  (∀ a, (k0_off661 v4217) a + S32x4096.size a ≤ S4096x4096.size a) ∧
  (∀ (hinb : ∀ a, (k0_off661 v4217) a + S32x4096.size a ≤ S4096x4096.size a), (Rect.unit (s := S4096x4096) (k0_off661 v4217) S32x4096.size hinb).WholeWords (EltTy.packing .i8))
theorem k0_off661_inb : ∀ (v4217 : BitVec 32) (k0_hw662 : k0_chk662 v4217), ∀ a, (k0_off661 v4217) a + S32x4096.size a ≤ S4096x4096.size a := fun v4217 k0_hw662 => k0_hw662.1
theorem k0_off661_wordsi8 : ∀ (v4217 : BitVec 32) (k0_hw662 : k0_chk662 v4217), (Rect.unit (s := S4096x4096) (k0_off661 v4217) S32x4096.size (k0_off661_inb v4217 k0_hw662)).WholeWords (EltTy.packing .i8) := fun v4217 k0_hw662 => k0_hw662.2 (k0_off661_inb v4217 k0_hw662)

def k0_chk661 (v4214 : BitVec 32) : Prop :=
  (∀ a, (k0_off660 v4214) a + S32x4096.size a ≤ S4096x4096.size a) ∧
  (∀ (hinb : ∀ a, (k0_off660 v4214) a + S32x4096.size a ≤ S4096x4096.size a), (Rect.unit (s := S4096x4096) (k0_off660 v4214) S32x4096.size hinb).WholeWords (EltTy.packing .i8))
theorem k0_off660_inb : ∀ (v4214 : BitVec 32) (k0_hw661 : k0_chk661 v4214), ∀ a, (k0_off660 v4214) a + S32x4096.size a ≤ S4096x4096.size a := fun v4214 k0_hw661 => k0_hw661.1
theorem k0_off660_wordsi8 : ∀ (v4214 : BitVec 32) (k0_hw661 : k0_chk661 v4214), (Rect.unit (s := S4096x4096) (k0_off660 v4214) S32x4096.size (k0_off660_inb v4214 k0_hw661)).WholeWords (EltTy.packing .i8) := fun v4214 k0_hw661 => k0_hw661.2 (k0_off660_inb v4214 k0_hw661)

def k0_off662 (v4224 : BitVec 32) : Fin 2 → Nat :=
  let c128_i32_4470 : BitVec 32 := 128#32
  let v4225 : BitVec 32 := Scalar.muli v4224 c128_i32_4470
  let c32_i32_4471 : BitVec 32 := 32#32
  let v4226 : BitVec 32 := Scalar.addi v4225 c32_i32_4471
  let c0_i32_4480 : BitVec 32 := 0#32
  ![v4226.toNat, 0]

def k0_off663 (v4227 : BitVec 32) : Fin 2 → Nat :=
  let c128_i32_4473 : BitVec 32 := 128#32
  let v4228 : BitVec 32 := Scalar.muli v4227 c128_i32_4473
  let c32_i32_4474 : BitVec 32 := 32#32
  let v4229 : BitVec 32 := Scalar.addi v4228 c32_i32_4474
  let c0_i32_4481 : BitVec 32 := 0#32
  ![v4229.toNat, 0]

def k0_chk664 (v4227 : BitVec 32) : Prop :=
  (∀ a, (k0_off663 v4227) a + S32x4096.size a ≤ S4096x4096.size a) ∧
  (∀ (hinb : ∀ a, (k0_off663 v4227) a + S32x4096.size a ≤ S4096x4096.size a), (Rect.unit (s := S4096x4096) (k0_off663 v4227) S32x4096.size hinb).WholeWords (EltTy.packing .i8))
theorem k0_off663_inb : ∀ (v4227 : BitVec 32) (k0_hw664 : k0_chk664 v4227), ∀ a, (k0_off663 v4227) a + S32x4096.size a ≤ S4096x4096.size a := fun v4227 k0_hw664 => k0_hw664.1
theorem k0_off663_wordsi8 : ∀ (v4227 : BitVec 32) (k0_hw664 : k0_chk664 v4227), (Rect.unit (s := S4096x4096) (k0_off663 v4227) S32x4096.size (k0_off663_inb v4227 k0_hw664)).WholeWords (EltTy.packing .i8) := fun v4227 k0_hw664 => k0_hw664.2 (k0_off663_inb v4227 k0_hw664)

def k0_chk663 (v4224 : BitVec 32) : Prop :=
  (∀ a, (k0_off662 v4224) a + S32x4096.size a ≤ S4096x4096.size a) ∧
  (∀ (hinb : ∀ a, (k0_off662 v4224) a + S32x4096.size a ≤ S4096x4096.size a), (Rect.unit (s := S4096x4096) (k0_off662 v4224) S32x4096.size hinb).WholeWords (EltTy.packing .i8))
theorem k0_off662_inb : ∀ (v4224 : BitVec 32) (k0_hw663 : k0_chk663 v4224), ∀ a, (k0_off662 v4224) a + S32x4096.size a ≤ S4096x4096.size a := fun v4224 k0_hw663 => k0_hw663.1
theorem k0_off662_wordsi8 : ∀ (v4224 : BitVec 32) (k0_hw663 : k0_chk663 v4224), (Rect.unit (s := S4096x4096) (k0_off662 v4224) S32x4096.size (k0_off662_inb v4224 k0_hw663)).WholeWords (EltTy.packing .i8) := fun v4224 k0_hw663 => k0_hw663.2 (k0_off662_inb v4224 k0_hw663)

def k0_off664 (v4234 : BitVec 32) : Fin 2 → Nat :=
  let c128_i32_4483 : BitVec 32 := 128#32
  let v4235 : BitVec 32 := Scalar.muli v4234 c128_i32_4483
  let c64_i32_4484 : BitVec 32 := 64#32
  let v4236 : BitVec 32 := Scalar.addi v4235 c64_i32_4484
  let c0_i32_4493 : BitVec 32 := 0#32
  ![v4236.toNat, 0]

def k0_off665 (v4237 : BitVec 32) : Fin 2 → Nat :=
  let c128_i32_4486 : BitVec 32 := 128#32
  let v4238 : BitVec 32 := Scalar.muli v4237 c128_i32_4486
  let c64_i32_4487 : BitVec 32 := 64#32
  let v4239 : BitVec 32 := Scalar.addi v4238 c64_i32_4487
  let c0_i32_4494 : BitVec 32 := 0#32
  ![v4239.toNat, 0]

def k0_chk666 (v4237 : BitVec 32) : Prop :=
  (∀ a, (k0_off665 v4237) a + S32x4096.size a ≤ S4096x4096.size a) ∧
  (∀ (hinb : ∀ a, (k0_off665 v4237) a + S32x4096.size a ≤ S4096x4096.size a), (Rect.unit (s := S4096x4096) (k0_off665 v4237) S32x4096.size hinb).WholeWords (EltTy.packing .i8))
theorem k0_off665_inb : ∀ (v4237 : BitVec 32) (k0_hw666 : k0_chk666 v4237), ∀ a, (k0_off665 v4237) a + S32x4096.size a ≤ S4096x4096.size a := fun v4237 k0_hw666 => k0_hw666.1
theorem k0_off665_wordsi8 : ∀ (v4237 : BitVec 32) (k0_hw666 : k0_chk666 v4237), (Rect.unit (s := S4096x4096) (k0_off665 v4237) S32x4096.size (k0_off665_inb v4237 k0_hw666)).WholeWords (EltTy.packing .i8) := fun v4237 k0_hw666 => k0_hw666.2 (k0_off665_inb v4237 k0_hw666)

def k0_chk665 (v4234 : BitVec 32) : Prop :=
  (∀ a, (k0_off664 v4234) a + S32x4096.size a ≤ S4096x4096.size a) ∧
  (∀ (hinb : ∀ a, (k0_off664 v4234) a + S32x4096.size a ≤ S4096x4096.size a), (Rect.unit (s := S4096x4096) (k0_off664 v4234) S32x4096.size hinb).WholeWords (EltTy.packing .i8))
theorem k0_off664_inb : ∀ (v4234 : BitVec 32) (k0_hw665 : k0_chk665 v4234), ∀ a, (k0_off664 v4234) a + S32x4096.size a ≤ S4096x4096.size a := fun v4234 k0_hw665 => k0_hw665.1
theorem k0_off664_wordsi8 : ∀ (v4234 : BitVec 32) (k0_hw665 : k0_chk665 v4234), (Rect.unit (s := S4096x4096) (k0_off664 v4234) S32x4096.size (k0_off664_inb v4234 k0_hw665)).WholeWords (EltTy.packing .i8) := fun v4234 k0_hw665 => k0_hw665.2 (k0_off664_inb v4234 k0_hw665)

def k0_off666 (v4244 : BitVec 32) : Fin 2 → Nat :=
  let c128_i32_4496 : BitVec 32 := 128#32
  let v4245 : BitVec 32 := Scalar.muli v4244 c128_i32_4496
  let c64_i32_4497 : BitVec 32 := 64#32
  let v4246 : BitVec 32 := Scalar.addi v4245 c64_i32_4497
  let c0_i32_4506 : BitVec 32 := 0#32
  ![v4246.toNat, 0]

def k0_off667 (v4247 : BitVec 32) : Fin 2 → Nat :=
  let c128_i32_4499 : BitVec 32 := 128#32
  let v4248 : BitVec 32 := Scalar.muli v4247 c128_i32_4499
  let c64_i32_4500 : BitVec 32 := 64#32
  let v4249 : BitVec 32 := Scalar.addi v4248 c64_i32_4500
  let c0_i32_4507 : BitVec 32 := 0#32
  ![v4249.toNat, 0]

def k0_chk668 (v4247 : BitVec 32) : Prop :=
  (∀ a, (k0_off667 v4247) a + S32x4096.size a ≤ S4096x4096.size a) ∧
  (∀ (hinb : ∀ a, (k0_off667 v4247) a + S32x4096.size a ≤ S4096x4096.size a), (Rect.unit (s := S4096x4096) (k0_off667 v4247) S32x4096.size hinb).WholeWords (EltTy.packing .i8))
theorem k0_off667_inb : ∀ (v4247 : BitVec 32) (k0_hw668 : k0_chk668 v4247), ∀ a, (k0_off667 v4247) a + S32x4096.size a ≤ S4096x4096.size a := fun v4247 k0_hw668 => k0_hw668.1
theorem k0_off667_wordsi8 : ∀ (v4247 : BitVec 32) (k0_hw668 : k0_chk668 v4247), (Rect.unit (s := S4096x4096) (k0_off667 v4247) S32x4096.size (k0_off667_inb v4247 k0_hw668)).WholeWords (EltTy.packing .i8) := fun v4247 k0_hw668 => k0_hw668.2 (k0_off667_inb v4247 k0_hw668)

def k0_chk667 (v4244 : BitVec 32) : Prop :=
  (∀ a, (k0_off666 v4244) a + S32x4096.size a ≤ S4096x4096.size a) ∧
  (∀ (hinb : ∀ a, (k0_off666 v4244) a + S32x4096.size a ≤ S4096x4096.size a), (Rect.unit (s := S4096x4096) (k0_off666 v4244) S32x4096.size hinb).WholeWords (EltTy.packing .i8))
theorem k0_off666_inb : ∀ (v4244 : BitVec 32) (k0_hw667 : k0_chk667 v4244), ∀ a, (k0_off666 v4244) a + S32x4096.size a ≤ S4096x4096.size a := fun v4244 k0_hw667 => k0_hw667.1
theorem k0_off666_wordsi8 : ∀ (v4244 : BitVec 32) (k0_hw667 : k0_chk667 v4244), (Rect.unit (s := S4096x4096) (k0_off666 v4244) S32x4096.size (k0_off666_inb v4244 k0_hw667)).WholeWords (EltTy.packing .i8) := fun v4244 k0_hw667 => k0_hw667.2 (k0_off666_inb v4244 k0_hw667)

def k0_off668 (v4254 : BitVec 32) : Fin 2 → Nat :=
  let c128_i32_4509 : BitVec 32 := 128#32
  let v4255 : BitVec 32 := Scalar.muli v4254 c128_i32_4509
  let c96_i32_4510 : BitVec 32 := 96#32
  let v4256 : BitVec 32 := Scalar.addi v4255 c96_i32_4510
  let c0_i32_4519 : BitVec 32 := 0#32
  ![v4256.toNat, 0]

def k0_off669 (v4257 : BitVec 32) : Fin 2 → Nat :=
  let c128_i32_4512 : BitVec 32 := 128#32
  let v4258 : BitVec 32 := Scalar.muli v4257 c128_i32_4512
  let c96_i32_4513 : BitVec 32 := 96#32
  let v4259 : BitVec 32 := Scalar.addi v4258 c96_i32_4513
  let c0_i32_4520 : BitVec 32 := 0#32
  ![v4259.toNat, 0]

def k0_chk670 (v4257 : BitVec 32) : Prop :=
  (∀ a, (k0_off669 v4257) a + S32x4096.size a ≤ S4096x4096.size a) ∧
  (∀ (hinb : ∀ a, (k0_off669 v4257) a + S32x4096.size a ≤ S4096x4096.size a), (Rect.unit (s := S4096x4096) (k0_off669 v4257) S32x4096.size hinb).WholeWords (EltTy.packing .i8))
theorem k0_off669_inb : ∀ (v4257 : BitVec 32) (k0_hw670 : k0_chk670 v4257), ∀ a, (k0_off669 v4257) a + S32x4096.size a ≤ S4096x4096.size a := fun v4257 k0_hw670 => k0_hw670.1
theorem k0_off669_wordsi8 : ∀ (v4257 : BitVec 32) (k0_hw670 : k0_chk670 v4257), (Rect.unit (s := S4096x4096) (k0_off669 v4257) S32x4096.size (k0_off669_inb v4257 k0_hw670)).WholeWords (EltTy.packing .i8) := fun v4257 k0_hw670 => k0_hw670.2 (k0_off669_inb v4257 k0_hw670)

def k0_chk669 (v4254 : BitVec 32) : Prop :=
  (∀ a, (k0_off668 v4254) a + S32x4096.size a ≤ S4096x4096.size a) ∧
  (∀ (hinb : ∀ a, (k0_off668 v4254) a + S32x4096.size a ≤ S4096x4096.size a), (Rect.unit (s := S4096x4096) (k0_off668 v4254) S32x4096.size hinb).WholeWords (EltTy.packing .i8))
theorem k0_off668_inb : ∀ (v4254 : BitVec 32) (k0_hw669 : k0_chk669 v4254), ∀ a, (k0_off668 v4254) a + S32x4096.size a ≤ S4096x4096.size a := fun v4254 k0_hw669 => k0_hw669.1
theorem k0_off668_wordsi8 : ∀ (v4254 : BitVec 32) (k0_hw669 : k0_chk669 v4254), (Rect.unit (s := S4096x4096) (k0_off668 v4254) S32x4096.size (k0_off668_inb v4254 k0_hw669)).WholeWords (EltTy.packing .i8) := fun v4254 k0_hw669 => k0_hw669.2 (k0_off668_inb v4254 k0_hw669)

def k0_off670 (v4264 : BitVec 32) : Fin 2 → Nat :=
  let c128_i32_4522 : BitVec 32 := 128#32
  let v4265 : BitVec 32 := Scalar.muli v4264 c128_i32_4522
  let c96_i32_4523 : BitVec 32 := 96#32
  let v4266 : BitVec 32 := Scalar.addi v4265 c96_i32_4523
  let c0_i32_4532 : BitVec 32 := 0#32
  ![v4266.toNat, 0]

def k0_off671 (v4267 : BitVec 32) : Fin 2 → Nat :=
  let c128_i32_4525 : BitVec 32 := 128#32
  let v4268 : BitVec 32 := Scalar.muli v4267 c128_i32_4525
  let c96_i32_4526 : BitVec 32 := 96#32
  let v4269 : BitVec 32 := Scalar.addi v4268 c96_i32_4526
  let c0_i32_4533 : BitVec 32 := 0#32
  ![v4269.toNat, 0]

def k0_chk672 (v4267 : BitVec 32) : Prop :=
  (∀ a, (k0_off671 v4267) a + S32x4096.size a ≤ S4096x4096.size a) ∧
  (∀ (hinb : ∀ a, (k0_off671 v4267) a + S32x4096.size a ≤ S4096x4096.size a), (Rect.unit (s := S4096x4096) (k0_off671 v4267) S32x4096.size hinb).WholeWords (EltTy.packing .i8))
theorem k0_off671_inb : ∀ (v4267 : BitVec 32) (k0_hw672 : k0_chk672 v4267), ∀ a, (k0_off671 v4267) a + S32x4096.size a ≤ S4096x4096.size a := fun v4267 k0_hw672 => k0_hw672.1
theorem k0_off671_wordsi8 : ∀ (v4267 : BitVec 32) (k0_hw672 : k0_chk672 v4267), (Rect.unit (s := S4096x4096) (k0_off671 v4267) S32x4096.size (k0_off671_inb v4267 k0_hw672)).WholeWords (EltTy.packing .i8) := fun v4267 k0_hw672 => k0_hw672.2 (k0_off671_inb v4267 k0_hw672)

def k0_chk671 (v4264 : BitVec 32) : Prop :=
  (∀ a, (k0_off670 v4264) a + S32x4096.size a ≤ S4096x4096.size a) ∧
  (∀ (hinb : ∀ a, (k0_off670 v4264) a + S32x4096.size a ≤ S4096x4096.size a), (Rect.unit (s := S4096x4096) (k0_off670 v4264) S32x4096.size hinb).WholeWords (EltTy.packing .i8))
theorem k0_off670_inb : ∀ (v4264 : BitVec 32) (k0_hw671 : k0_chk671 v4264), ∀ a, (k0_off670 v4264) a + S32x4096.size a ≤ S4096x4096.size a := fun v4264 k0_hw671 => k0_hw671.1
theorem k0_off670_wordsi8 : ∀ (v4264 : BitVec 32) (k0_hw671 : k0_chk671 v4264), (Rect.unit (s := S4096x4096) (k0_off670 v4264) S32x4096.size (k0_off670_inb v4264 k0_hw671)).WholeWords (EltTy.packing .i8) := fun v4264 k0_hw671 => k0_hw671.2 (k0_off670_inb v4264 k0_hw671)

def k0_off672 (v4274 : BitVec 32) : Fin 2 → Nat :=
  let c128_i32_4535 : BitVec 32 := 128#32
  let v4275 : BitVec 32 := Scalar.muli v4274 c128_i32_4535
  let c0_i32_4536 : BitVec 32 := 0#32
  let v4276 : BitVec 32 := Scalar.addi v4275 c0_i32_4536
  let c0_i32_4545 : BitVec 32 := 0#32
  ![v4276.toNat, 0]

def k0_off673 (v4277 : BitVec 32) : Fin 2 → Nat :=
  let c128_i32_4538 : BitVec 32 := 128#32
  let v4278 : BitVec 32 := Scalar.muli v4277 c128_i32_4538
  let c0_i32_4539 : BitVec 32 := 0#32
  let v4279 : BitVec 32 := Scalar.addi v4278 c0_i32_4539
  let c0_i32_4546 : BitVec 32 := 0#32
  ![v4279.toNat, 0]

def k0_chk674 (v4277 : BitVec 32) : Prop :=
  (∀ a, (k0_off673 v4277) a + S32x4096.size a ≤ S4096x4096.size a) ∧
  (∀ (hinb : ∀ a, (k0_off673 v4277) a + S32x4096.size a ≤ S4096x4096.size a), (Rect.unit (s := S4096x4096) (k0_off673 v4277) S32x4096.size hinb).WholeWords (EltTy.packing .i8))
theorem k0_off673_inb : ∀ (v4277 : BitVec 32) (k0_hw674 : k0_chk674 v4277), ∀ a, (k0_off673 v4277) a + S32x4096.size a ≤ S4096x4096.size a := fun v4277 k0_hw674 => k0_hw674.1
theorem k0_off673_wordsi8 : ∀ (v4277 : BitVec 32) (k0_hw674 : k0_chk674 v4277), (Rect.unit (s := S4096x4096) (k0_off673 v4277) S32x4096.size (k0_off673_inb v4277 k0_hw674)).WholeWords (EltTy.packing .i8) := fun v4277 k0_hw674 => k0_hw674.2 (k0_off673_inb v4277 k0_hw674)

def k0_chk673 (v4274 : BitVec 32) : Prop :=
  (∀ a, (k0_off672 v4274) a + S32x4096.size a ≤ S4096x4096.size a) ∧
  (∀ (hinb : ∀ a, (k0_off672 v4274) a + S32x4096.size a ≤ S4096x4096.size a), (Rect.unit (s := S4096x4096) (k0_off672 v4274) S32x4096.size hinb).WholeWords (EltTy.packing .i8))
theorem k0_off672_inb : ∀ (v4274 : BitVec 32) (k0_hw673 : k0_chk673 v4274), ∀ a, (k0_off672 v4274) a + S32x4096.size a ≤ S4096x4096.size a := fun v4274 k0_hw673 => k0_hw673.1
theorem k0_off672_wordsi8 : ∀ (v4274 : BitVec 32) (k0_hw673 : k0_chk673 v4274), (Rect.unit (s := S4096x4096) (k0_off672 v4274) S32x4096.size (k0_off672_inb v4274 k0_hw673)).WholeWords (EltTy.packing .i8) := fun v4274 k0_hw673 => k0_hw673.2 (k0_off672_inb v4274 k0_hw673)

def k0_off674 (v4284 : BitVec 32) : Fin 2 → Nat :=
  let c128_i32_4548 : BitVec 32 := 128#32
  let v4285 : BitVec 32 := Scalar.muli v4284 c128_i32_4548
  let c0_i32_4549 : BitVec 32 := 0#32
  let v4286 : BitVec 32 := Scalar.addi v4285 c0_i32_4549
  let c0_i32_4558 : BitVec 32 := 0#32
  ![v4286.toNat, 0]

def k0_off675 (v4287 : BitVec 32) : Fin 2 → Nat :=
  let c128_i32_4551 : BitVec 32 := 128#32
  let v4288 : BitVec 32 := Scalar.muli v4287 c128_i32_4551
  let c0_i32_4552 : BitVec 32 := 0#32
  let v4289 : BitVec 32 := Scalar.addi v4288 c0_i32_4552
  let c0_i32_4559 : BitVec 32 := 0#32
  ![v4289.toNat, 0]

def k0_chk676 (v4287 : BitVec 32) : Prop :=
  (∀ a, (k0_off675 v4287) a + S32x4096.size a ≤ S4096x4096.size a) ∧
  (∀ (hinb : ∀ a, (k0_off675 v4287) a + S32x4096.size a ≤ S4096x4096.size a), (Rect.unit (s := S4096x4096) (k0_off675 v4287) S32x4096.size hinb).WholeWords (EltTy.packing .i8))
theorem k0_off675_inb : ∀ (v4287 : BitVec 32) (k0_hw676 : k0_chk676 v4287), ∀ a, (k0_off675 v4287) a + S32x4096.size a ≤ S4096x4096.size a := fun v4287 k0_hw676 => k0_hw676.1
theorem k0_off675_wordsi8 : ∀ (v4287 : BitVec 32) (k0_hw676 : k0_chk676 v4287), (Rect.unit (s := S4096x4096) (k0_off675 v4287) S32x4096.size (k0_off675_inb v4287 k0_hw676)).WholeWords (EltTy.packing .i8) := fun v4287 k0_hw676 => k0_hw676.2 (k0_off675_inb v4287 k0_hw676)

def k0_chk675 (v4284 : BitVec 32) : Prop :=
  (∀ a, (k0_off674 v4284) a + S32x4096.size a ≤ S4096x4096.size a) ∧
  (∀ (hinb : ∀ a, (k0_off674 v4284) a + S32x4096.size a ≤ S4096x4096.size a), (Rect.unit (s := S4096x4096) (k0_off674 v4284) S32x4096.size hinb).WholeWords (EltTy.packing .i8))
theorem k0_off674_inb : ∀ (v4284 : BitVec 32) (k0_hw675 : k0_chk675 v4284), ∀ a, (k0_off674 v4284) a + S32x4096.size a ≤ S4096x4096.size a := fun v4284 k0_hw675 => k0_hw675.1
theorem k0_off674_wordsi8 : ∀ (v4284 : BitVec 32) (k0_hw675 : k0_chk675 v4284), (Rect.unit (s := S4096x4096) (k0_off674 v4284) S32x4096.size (k0_off674_inb v4284 k0_hw675)).WholeWords (EltTy.packing .i8) := fun v4284 k0_hw675 => k0_hw675.2 (k0_off674_inb v4284 k0_hw675)

def k0_off676 (v4294 : BitVec 32) : Fin 2 → Nat :=
  let c128_i32_4561 : BitVec 32 := 128#32
  let v4295 : BitVec 32 := Scalar.muli v4294 c128_i32_4561
  let c32_i32_4562 : BitVec 32 := 32#32
  let v4296 : BitVec 32 := Scalar.addi v4295 c32_i32_4562
  let c0_i32_4571 : BitVec 32 := 0#32
  ![v4296.toNat, 0]

def k0_off677 (v4297 : BitVec 32) : Fin 2 → Nat :=
  let c128_i32_4564 : BitVec 32 := 128#32
  let v4298 : BitVec 32 := Scalar.muli v4297 c128_i32_4564
  let c32_i32_4565 : BitVec 32 := 32#32
  let v4299 : BitVec 32 := Scalar.addi v4298 c32_i32_4565
  let c0_i32_4572 : BitVec 32 := 0#32
  ![v4299.toNat, 0]

def k0_chk678 (v4297 : BitVec 32) : Prop :=
  (∀ a, (k0_off677 v4297) a + S32x4096.size a ≤ S4096x4096.size a) ∧
  (∀ (hinb : ∀ a, (k0_off677 v4297) a + S32x4096.size a ≤ S4096x4096.size a), (Rect.unit (s := S4096x4096) (k0_off677 v4297) S32x4096.size hinb).WholeWords (EltTy.packing .i8))
theorem k0_off677_inb : ∀ (v4297 : BitVec 32) (k0_hw678 : k0_chk678 v4297), ∀ a, (k0_off677 v4297) a + S32x4096.size a ≤ S4096x4096.size a := fun v4297 k0_hw678 => k0_hw678.1
theorem k0_off677_wordsi8 : ∀ (v4297 : BitVec 32) (k0_hw678 : k0_chk678 v4297), (Rect.unit (s := S4096x4096) (k0_off677 v4297) S32x4096.size (k0_off677_inb v4297 k0_hw678)).WholeWords (EltTy.packing .i8) := fun v4297 k0_hw678 => k0_hw678.2 (k0_off677_inb v4297 k0_hw678)

def k0_chk677 (v4294 : BitVec 32) : Prop :=
  (∀ a, (k0_off676 v4294) a + S32x4096.size a ≤ S4096x4096.size a) ∧
  (∀ (hinb : ∀ a, (k0_off676 v4294) a + S32x4096.size a ≤ S4096x4096.size a), (Rect.unit (s := S4096x4096) (k0_off676 v4294) S32x4096.size hinb).WholeWords (EltTy.packing .i8))
theorem k0_off676_inb : ∀ (v4294 : BitVec 32) (k0_hw677 : k0_chk677 v4294), ∀ a, (k0_off676 v4294) a + S32x4096.size a ≤ S4096x4096.size a := fun v4294 k0_hw677 => k0_hw677.1
theorem k0_off676_wordsi8 : ∀ (v4294 : BitVec 32) (k0_hw677 : k0_chk677 v4294), (Rect.unit (s := S4096x4096) (k0_off676 v4294) S32x4096.size (k0_off676_inb v4294 k0_hw677)).WholeWords (EltTy.packing .i8) := fun v4294 k0_hw677 => k0_hw677.2 (k0_off676_inb v4294 k0_hw677)

def k0_off678 (v4304 : BitVec 32) : Fin 2 → Nat :=
  let c128_i32_4574 : BitVec 32 := 128#32
  let v4305 : BitVec 32 := Scalar.muli v4304 c128_i32_4574
  let c32_i32_4575 : BitVec 32 := 32#32
  let v4306 : BitVec 32 := Scalar.addi v4305 c32_i32_4575
  let c0_i32_4584 : BitVec 32 := 0#32
  ![v4306.toNat, 0]

def k0_off679 (v4307 : BitVec 32) : Fin 2 → Nat :=
  let c128_i32_4577 : BitVec 32 := 128#32
  let v4308 : BitVec 32 := Scalar.muli v4307 c128_i32_4577
  let c32_i32_4578 : BitVec 32 := 32#32
  let v4309 : BitVec 32 := Scalar.addi v4308 c32_i32_4578
  let c0_i32_4585 : BitVec 32 := 0#32
  ![v4309.toNat, 0]

def k0_chk680 (v4307 : BitVec 32) : Prop :=
  (∀ a, (k0_off679 v4307) a + S32x4096.size a ≤ S4096x4096.size a) ∧
  (∀ (hinb : ∀ a, (k0_off679 v4307) a + S32x4096.size a ≤ S4096x4096.size a), (Rect.unit (s := S4096x4096) (k0_off679 v4307) S32x4096.size hinb).WholeWords (EltTy.packing .i8))
theorem k0_off679_inb : ∀ (v4307 : BitVec 32) (k0_hw680 : k0_chk680 v4307), ∀ a, (k0_off679 v4307) a + S32x4096.size a ≤ S4096x4096.size a := fun v4307 k0_hw680 => k0_hw680.1
theorem k0_off679_wordsi8 : ∀ (v4307 : BitVec 32) (k0_hw680 : k0_chk680 v4307), (Rect.unit (s := S4096x4096) (k0_off679 v4307) S32x4096.size (k0_off679_inb v4307 k0_hw680)).WholeWords (EltTy.packing .i8) := fun v4307 k0_hw680 => k0_hw680.2 (k0_off679_inb v4307 k0_hw680)

def k0_chk679 (v4304 : BitVec 32) : Prop :=
  (∀ a, (k0_off678 v4304) a + S32x4096.size a ≤ S4096x4096.size a) ∧
  (∀ (hinb : ∀ a, (k0_off678 v4304) a + S32x4096.size a ≤ S4096x4096.size a), (Rect.unit (s := S4096x4096) (k0_off678 v4304) S32x4096.size hinb).WholeWords (EltTy.packing .i8))
theorem k0_off678_inb : ∀ (v4304 : BitVec 32) (k0_hw679 : k0_chk679 v4304), ∀ a, (k0_off678 v4304) a + S32x4096.size a ≤ S4096x4096.size a := fun v4304 k0_hw679 => k0_hw679.1
theorem k0_off678_wordsi8 : ∀ (v4304 : BitVec 32) (k0_hw679 : k0_chk679 v4304), (Rect.unit (s := S4096x4096) (k0_off678 v4304) S32x4096.size (k0_off678_inb v4304 k0_hw679)).WholeWords (EltTy.packing .i8) := fun v4304 k0_hw679 => k0_hw679.2 (k0_off678_inb v4304 k0_hw679)

def k0_off680 (v4314 : BitVec 32) : Fin 2 → Nat :=
  let c128_i32_4587 : BitVec 32 := 128#32
  let v4315 : BitVec 32 := Scalar.muli v4314 c128_i32_4587
  let c64_i32_4588 : BitVec 32 := 64#32
  let v4316 : BitVec 32 := Scalar.addi v4315 c64_i32_4588
  let c0_i32_4597 : BitVec 32 := 0#32
  ![v4316.toNat, 0]

def k0_off681 (v4317 : BitVec 32) : Fin 2 → Nat :=
  let c128_i32_4590 : BitVec 32 := 128#32
  let v4318 : BitVec 32 := Scalar.muli v4317 c128_i32_4590
  let c64_i32_4591 : BitVec 32 := 64#32
  let v4319 : BitVec 32 := Scalar.addi v4318 c64_i32_4591
  let c0_i32_4598 : BitVec 32 := 0#32
  ![v4319.toNat, 0]

def k0_chk682 (v4317 : BitVec 32) : Prop :=
  (∀ a, (k0_off681 v4317) a + S32x4096.size a ≤ S4096x4096.size a) ∧
  (∀ (hinb : ∀ a, (k0_off681 v4317) a + S32x4096.size a ≤ S4096x4096.size a), (Rect.unit (s := S4096x4096) (k0_off681 v4317) S32x4096.size hinb).WholeWords (EltTy.packing .i8))
theorem k0_off681_inb : ∀ (v4317 : BitVec 32) (k0_hw682 : k0_chk682 v4317), ∀ a, (k0_off681 v4317) a + S32x4096.size a ≤ S4096x4096.size a := fun v4317 k0_hw682 => k0_hw682.1
theorem k0_off681_wordsi8 : ∀ (v4317 : BitVec 32) (k0_hw682 : k0_chk682 v4317), (Rect.unit (s := S4096x4096) (k0_off681 v4317) S32x4096.size (k0_off681_inb v4317 k0_hw682)).WholeWords (EltTy.packing .i8) := fun v4317 k0_hw682 => k0_hw682.2 (k0_off681_inb v4317 k0_hw682)

def k0_chk681 (v4314 : BitVec 32) : Prop :=
  (∀ a, (k0_off680 v4314) a + S32x4096.size a ≤ S4096x4096.size a) ∧
  (∀ (hinb : ∀ a, (k0_off680 v4314) a + S32x4096.size a ≤ S4096x4096.size a), (Rect.unit (s := S4096x4096) (k0_off680 v4314) S32x4096.size hinb).WholeWords (EltTy.packing .i8))
theorem k0_off680_inb : ∀ (v4314 : BitVec 32) (k0_hw681 : k0_chk681 v4314), ∀ a, (k0_off680 v4314) a + S32x4096.size a ≤ S4096x4096.size a := fun v4314 k0_hw681 => k0_hw681.1
theorem k0_off680_wordsi8 : ∀ (v4314 : BitVec 32) (k0_hw681 : k0_chk681 v4314), (Rect.unit (s := S4096x4096) (k0_off680 v4314) S32x4096.size (k0_off680_inb v4314 k0_hw681)).WholeWords (EltTy.packing .i8) := fun v4314 k0_hw681 => k0_hw681.2 (k0_off680_inb v4314 k0_hw681)

def k0_off682 (v4324 : BitVec 32) : Fin 2 → Nat :=
  let c128_i32_4600 : BitVec 32 := 128#32
  let v4325 : BitVec 32 := Scalar.muli v4324 c128_i32_4600
  let c64_i32_4601 : BitVec 32 := 64#32
  let v4326 : BitVec 32 := Scalar.addi v4325 c64_i32_4601
  let c0_i32_4610 : BitVec 32 := 0#32
  ![v4326.toNat, 0]

def k0_off683 (v4327 : BitVec 32) : Fin 2 → Nat :=
  let c128_i32_4603 : BitVec 32 := 128#32
  let v4328 : BitVec 32 := Scalar.muli v4327 c128_i32_4603
  let c64_i32_4604 : BitVec 32 := 64#32
  let v4329 : BitVec 32 := Scalar.addi v4328 c64_i32_4604
  let c0_i32_4611 : BitVec 32 := 0#32
  ![v4329.toNat, 0]

def k0_chk684 (v4327 : BitVec 32) : Prop :=
  (∀ a, (k0_off683 v4327) a + S32x4096.size a ≤ S4096x4096.size a) ∧
  (∀ (hinb : ∀ a, (k0_off683 v4327) a + S32x4096.size a ≤ S4096x4096.size a), (Rect.unit (s := S4096x4096) (k0_off683 v4327) S32x4096.size hinb).WholeWords (EltTy.packing .i8))
theorem k0_off683_inb : ∀ (v4327 : BitVec 32) (k0_hw684 : k0_chk684 v4327), ∀ a, (k0_off683 v4327) a + S32x4096.size a ≤ S4096x4096.size a := fun v4327 k0_hw684 => k0_hw684.1
theorem k0_off683_wordsi8 : ∀ (v4327 : BitVec 32) (k0_hw684 : k0_chk684 v4327), (Rect.unit (s := S4096x4096) (k0_off683 v4327) S32x4096.size (k0_off683_inb v4327 k0_hw684)).WholeWords (EltTy.packing .i8) := fun v4327 k0_hw684 => k0_hw684.2 (k0_off683_inb v4327 k0_hw684)

def k0_chk683 (v4324 : BitVec 32) : Prop :=
  (∀ a, (k0_off682 v4324) a + S32x4096.size a ≤ S4096x4096.size a) ∧
  (∀ (hinb : ∀ a, (k0_off682 v4324) a + S32x4096.size a ≤ S4096x4096.size a), (Rect.unit (s := S4096x4096) (k0_off682 v4324) S32x4096.size hinb).WholeWords (EltTy.packing .i8))
theorem k0_off682_inb : ∀ (v4324 : BitVec 32) (k0_hw683 : k0_chk683 v4324), ∀ a, (k0_off682 v4324) a + S32x4096.size a ≤ S4096x4096.size a := fun v4324 k0_hw683 => k0_hw683.1
theorem k0_off682_wordsi8 : ∀ (v4324 : BitVec 32) (k0_hw683 : k0_chk683 v4324), (Rect.unit (s := S4096x4096) (k0_off682 v4324) S32x4096.size (k0_off682_inb v4324 k0_hw683)).WholeWords (EltTy.packing .i8) := fun v4324 k0_hw683 => k0_hw683.2 (k0_off682_inb v4324 k0_hw683)

def k0_off684 (v4334 : BitVec 32) : Fin 2 → Nat :=
  let c128_i32_4613 : BitVec 32 := 128#32
  let v4335 : BitVec 32 := Scalar.muli v4334 c128_i32_4613
  let c96_i32_4614 : BitVec 32 := 96#32
  let v4336 : BitVec 32 := Scalar.addi v4335 c96_i32_4614
  let c0_i32_4623 : BitVec 32 := 0#32
  ![v4336.toNat, 0]

def k0_off685 (v4337 : BitVec 32) : Fin 2 → Nat :=
  let c128_i32_4616 : BitVec 32 := 128#32
  let v4338 : BitVec 32 := Scalar.muli v4337 c128_i32_4616
  let c96_i32_4617 : BitVec 32 := 96#32
  let v4339 : BitVec 32 := Scalar.addi v4338 c96_i32_4617
  let c0_i32_4624 : BitVec 32 := 0#32
  ![v4339.toNat, 0]

def k0_chk686 (v4337 : BitVec 32) : Prop :=
  (∀ a, (k0_off685 v4337) a + S32x4096.size a ≤ S4096x4096.size a) ∧
  (∀ (hinb : ∀ a, (k0_off685 v4337) a + S32x4096.size a ≤ S4096x4096.size a), (Rect.unit (s := S4096x4096) (k0_off685 v4337) S32x4096.size hinb).WholeWords (EltTy.packing .i8))
theorem k0_off685_inb : ∀ (v4337 : BitVec 32) (k0_hw686 : k0_chk686 v4337), ∀ a, (k0_off685 v4337) a + S32x4096.size a ≤ S4096x4096.size a := fun v4337 k0_hw686 => k0_hw686.1
theorem k0_off685_wordsi8 : ∀ (v4337 : BitVec 32) (k0_hw686 : k0_chk686 v4337), (Rect.unit (s := S4096x4096) (k0_off685 v4337) S32x4096.size (k0_off685_inb v4337 k0_hw686)).WholeWords (EltTy.packing .i8) := fun v4337 k0_hw686 => k0_hw686.2 (k0_off685_inb v4337 k0_hw686)

def k0_chk685 (v4334 : BitVec 32) : Prop :=
  (∀ a, (k0_off684 v4334) a + S32x4096.size a ≤ S4096x4096.size a) ∧
  (∀ (hinb : ∀ a, (k0_off684 v4334) a + S32x4096.size a ≤ S4096x4096.size a), (Rect.unit (s := S4096x4096) (k0_off684 v4334) S32x4096.size hinb).WholeWords (EltTy.packing .i8))
theorem k0_off684_inb : ∀ (v4334 : BitVec 32) (k0_hw685 : k0_chk685 v4334), ∀ a, (k0_off684 v4334) a + S32x4096.size a ≤ S4096x4096.size a := fun v4334 k0_hw685 => k0_hw685.1
theorem k0_off684_wordsi8 : ∀ (v4334 : BitVec 32) (k0_hw685 : k0_chk685 v4334), (Rect.unit (s := S4096x4096) (k0_off684 v4334) S32x4096.size (k0_off684_inb v4334 k0_hw685)).WholeWords (EltTy.packing .i8) := fun v4334 k0_hw685 => k0_hw685.2 (k0_off684_inb v4334 k0_hw685)

def k0_off686 (v4344 : BitVec 32) : Fin 2 → Nat :=
  let c128_i32_4626 : BitVec 32 := 128#32
  let v4345 : BitVec 32 := Scalar.muli v4344 c128_i32_4626
  let c96_i32_4627 : BitVec 32 := 96#32
  let v4346 : BitVec 32 := Scalar.addi v4345 c96_i32_4627
  let c0_i32_4636 : BitVec 32 := 0#32
  ![v4346.toNat, 0]

def k0_off687 (v4347 : BitVec 32) : Fin 2 → Nat :=
  let c128_i32_4629 : BitVec 32 := 128#32
  let v4348 : BitVec 32 := Scalar.muli v4347 c128_i32_4629
  let c96_i32_4630 : BitVec 32 := 96#32
  let v4349 : BitVec 32 := Scalar.addi v4348 c96_i32_4630
  let c0_i32_4637 : BitVec 32 := 0#32
  ![v4349.toNat, 0]

def k0_chk688 (v4347 : BitVec 32) : Prop :=
  (∀ a, (k0_off687 v4347) a + S32x4096.size a ≤ S4096x4096.size a) ∧
  (∀ (hinb : ∀ a, (k0_off687 v4347) a + S32x4096.size a ≤ S4096x4096.size a), (Rect.unit (s := S4096x4096) (k0_off687 v4347) S32x4096.size hinb).WholeWords (EltTy.packing .i8))
theorem k0_off687_inb : ∀ (v4347 : BitVec 32) (k0_hw688 : k0_chk688 v4347), ∀ a, (k0_off687 v4347) a + S32x4096.size a ≤ S4096x4096.size a := fun v4347 k0_hw688 => k0_hw688.1
theorem k0_off687_wordsi8 : ∀ (v4347 : BitVec 32) (k0_hw688 : k0_chk688 v4347), (Rect.unit (s := S4096x4096) (k0_off687 v4347) S32x4096.size (k0_off687_inb v4347 k0_hw688)).WholeWords (EltTy.packing .i8) := fun v4347 k0_hw688 => k0_hw688.2 (k0_off687_inb v4347 k0_hw688)

def k0_chk687 (v4344 : BitVec 32) : Prop :=
  (∀ a, (k0_off686 v4344) a + S32x4096.size a ≤ S4096x4096.size a) ∧
  (∀ (hinb : ∀ a, (k0_off686 v4344) a + S32x4096.size a ≤ S4096x4096.size a), (Rect.unit (s := S4096x4096) (k0_off686 v4344) S32x4096.size hinb).WholeWords (EltTy.packing .i8))
theorem k0_off686_inb : ∀ (v4344 : BitVec 32) (k0_hw687 : k0_chk687 v4344), ∀ a, (k0_off686 v4344) a + S32x4096.size a ≤ S4096x4096.size a := fun v4344 k0_hw687 => k0_hw687.1
theorem k0_off686_wordsi8 : ∀ (v4344 : BitVec 32) (k0_hw687 : k0_chk687 v4344), (Rect.unit (s := S4096x4096) (k0_off686 v4344) S32x4096.size (k0_off686_inb v4344 k0_hw687)).WholeWords (EltTy.packing .i8) := fun v4344 k0_hw687 => k0_hw687.2 (k0_off686_inb v4344 k0_hw687)

def k0_off688 (v4354 : BitVec 32) : Fin 2 → Nat :=
  let c128_i32_4639 : BitVec 32 := 128#32
  let v4355 : BitVec 32 := Scalar.muli v4354 c128_i32_4639
  let c0_i32_4640 : BitVec 32 := 0#32
  let v4356 : BitVec 32 := Scalar.addi v4355 c0_i32_4640
  let c0_i32_4649 : BitVec 32 := 0#32
  ![v4356.toNat, 0]

def k0_off689 (v4357 : BitVec 32) : Fin 2 → Nat :=
  let c128_i32_4642 : BitVec 32 := 128#32
  let v4358 : BitVec 32 := Scalar.muli v4357 c128_i32_4642
  let c0_i32_4643 : BitVec 32 := 0#32
  let v4359 : BitVec 32 := Scalar.addi v4358 c0_i32_4643
  let c0_i32_4650 : BitVec 32 := 0#32
  ![v4359.toNat, 0]

def k0_chk690 (v4357 : BitVec 32) : Prop :=
  (∀ a, (k0_off689 v4357) a + S32x4096.size a ≤ S4096x4096.size a) ∧
  (∀ (hinb : ∀ a, (k0_off689 v4357) a + S32x4096.size a ≤ S4096x4096.size a), (Rect.unit (s := S4096x4096) (k0_off689 v4357) S32x4096.size hinb).WholeWords (EltTy.packing .i8))
theorem k0_off689_inb : ∀ (v4357 : BitVec 32) (k0_hw690 : k0_chk690 v4357), ∀ a, (k0_off689 v4357) a + S32x4096.size a ≤ S4096x4096.size a := fun v4357 k0_hw690 => k0_hw690.1
theorem k0_off689_wordsi8 : ∀ (v4357 : BitVec 32) (k0_hw690 : k0_chk690 v4357), (Rect.unit (s := S4096x4096) (k0_off689 v4357) S32x4096.size (k0_off689_inb v4357 k0_hw690)).WholeWords (EltTy.packing .i8) := fun v4357 k0_hw690 => k0_hw690.2 (k0_off689_inb v4357 k0_hw690)

def k0_chk689 (v4354 : BitVec 32) : Prop :=
  (∀ a, (k0_off688 v4354) a + S32x4096.size a ≤ S4096x4096.size a) ∧
  (∀ (hinb : ∀ a, (k0_off688 v4354) a + S32x4096.size a ≤ S4096x4096.size a), (Rect.unit (s := S4096x4096) (k0_off688 v4354) S32x4096.size hinb).WholeWords (EltTy.packing .i8))
theorem k0_off688_inb : ∀ (v4354 : BitVec 32) (k0_hw689 : k0_chk689 v4354), ∀ a, (k0_off688 v4354) a + S32x4096.size a ≤ S4096x4096.size a := fun v4354 k0_hw689 => k0_hw689.1
theorem k0_off688_wordsi8 : ∀ (v4354 : BitVec 32) (k0_hw689 : k0_chk689 v4354), (Rect.unit (s := S4096x4096) (k0_off688 v4354) S32x4096.size (k0_off688_inb v4354 k0_hw689)).WholeWords (EltTy.packing .i8) := fun v4354 k0_hw689 => k0_hw689.2 (k0_off688_inb v4354 k0_hw689)

def k0_off690 (v4364 : BitVec 32) : Fin 2 → Nat :=
  let c128_i32_4652 : BitVec 32 := 128#32
  let v4365 : BitVec 32 := Scalar.muli v4364 c128_i32_4652
  let c0_i32_4653 : BitVec 32 := 0#32
  let v4366 : BitVec 32 := Scalar.addi v4365 c0_i32_4653
  let c0_i32_4662 : BitVec 32 := 0#32
  ![v4366.toNat, 0]

def k0_off691 (v4367 : BitVec 32) : Fin 2 → Nat :=
  let c128_i32_4655 : BitVec 32 := 128#32
  let v4368 : BitVec 32 := Scalar.muli v4367 c128_i32_4655
  let c0_i32_4656 : BitVec 32 := 0#32
  let v4369 : BitVec 32 := Scalar.addi v4368 c0_i32_4656
  let c0_i32_4663 : BitVec 32 := 0#32
  ![v4369.toNat, 0]

def k0_chk692 (v4367 : BitVec 32) : Prop :=
  (∀ a, (k0_off691 v4367) a + S32x4096.size a ≤ S4096x4096.size a) ∧
  (∀ (hinb : ∀ a, (k0_off691 v4367) a + S32x4096.size a ≤ S4096x4096.size a), (Rect.unit (s := S4096x4096) (k0_off691 v4367) S32x4096.size hinb).WholeWords (EltTy.packing .i8))
theorem k0_off691_inb : ∀ (v4367 : BitVec 32) (k0_hw692 : k0_chk692 v4367), ∀ a, (k0_off691 v4367) a + S32x4096.size a ≤ S4096x4096.size a := fun v4367 k0_hw692 => k0_hw692.1
theorem k0_off691_wordsi8 : ∀ (v4367 : BitVec 32) (k0_hw692 : k0_chk692 v4367), (Rect.unit (s := S4096x4096) (k0_off691 v4367) S32x4096.size (k0_off691_inb v4367 k0_hw692)).WholeWords (EltTy.packing .i8) := fun v4367 k0_hw692 => k0_hw692.2 (k0_off691_inb v4367 k0_hw692)

def k0_chk691 (v4364 : BitVec 32) : Prop :=
  (∀ a, (k0_off690 v4364) a + S32x4096.size a ≤ S4096x4096.size a) ∧
  (∀ (hinb : ∀ a, (k0_off690 v4364) a + S32x4096.size a ≤ S4096x4096.size a), (Rect.unit (s := S4096x4096) (k0_off690 v4364) S32x4096.size hinb).WholeWords (EltTy.packing .i8))
theorem k0_off690_inb : ∀ (v4364 : BitVec 32) (k0_hw691 : k0_chk691 v4364), ∀ a, (k0_off690 v4364) a + S32x4096.size a ≤ S4096x4096.size a := fun v4364 k0_hw691 => k0_hw691.1
theorem k0_off690_wordsi8 : ∀ (v4364 : BitVec 32) (k0_hw691 : k0_chk691 v4364), (Rect.unit (s := S4096x4096) (k0_off690 v4364) S32x4096.size (k0_off690_inb v4364 k0_hw691)).WholeWords (EltTy.packing .i8) := fun v4364 k0_hw691 => k0_hw691.2 (k0_off690_inb v4364 k0_hw691)

def k0_off692 (v4374 : BitVec 32) : Fin 2 → Nat :=
  let c128_i32_4665 : BitVec 32 := 128#32
  let v4375 : BitVec 32 := Scalar.muli v4374 c128_i32_4665
  let c32_i32_4666 : BitVec 32 := 32#32
  let v4376 : BitVec 32 := Scalar.addi v4375 c32_i32_4666
  let c0_i32_4675 : BitVec 32 := 0#32
  ![v4376.toNat, 0]

def k0_off693 (v4377 : BitVec 32) : Fin 2 → Nat :=
  let c128_i32_4668 : BitVec 32 := 128#32
  let v4378 : BitVec 32 := Scalar.muli v4377 c128_i32_4668
  let c32_i32_4669 : BitVec 32 := 32#32
  let v4379 : BitVec 32 := Scalar.addi v4378 c32_i32_4669
  let c0_i32_4676 : BitVec 32 := 0#32
  ![v4379.toNat, 0]

def k0_chk694 (v4377 : BitVec 32) : Prop :=
  (∀ a, (k0_off693 v4377) a + S32x4096.size a ≤ S4096x4096.size a) ∧
  (∀ (hinb : ∀ a, (k0_off693 v4377) a + S32x4096.size a ≤ S4096x4096.size a), (Rect.unit (s := S4096x4096) (k0_off693 v4377) S32x4096.size hinb).WholeWords (EltTy.packing .i8))
theorem k0_off693_inb : ∀ (v4377 : BitVec 32) (k0_hw694 : k0_chk694 v4377), ∀ a, (k0_off693 v4377) a + S32x4096.size a ≤ S4096x4096.size a := fun v4377 k0_hw694 => k0_hw694.1
theorem k0_off693_wordsi8 : ∀ (v4377 : BitVec 32) (k0_hw694 : k0_chk694 v4377), (Rect.unit (s := S4096x4096) (k0_off693 v4377) S32x4096.size (k0_off693_inb v4377 k0_hw694)).WholeWords (EltTy.packing .i8) := fun v4377 k0_hw694 => k0_hw694.2 (k0_off693_inb v4377 k0_hw694)

def k0_chk693 (v4374 : BitVec 32) : Prop :=
  (∀ a, (k0_off692 v4374) a + S32x4096.size a ≤ S4096x4096.size a) ∧
  (∀ (hinb : ∀ a, (k0_off692 v4374) a + S32x4096.size a ≤ S4096x4096.size a), (Rect.unit (s := S4096x4096) (k0_off692 v4374) S32x4096.size hinb).WholeWords (EltTy.packing .i8))
theorem k0_off692_inb : ∀ (v4374 : BitVec 32) (k0_hw693 : k0_chk693 v4374), ∀ a, (k0_off692 v4374) a + S32x4096.size a ≤ S4096x4096.size a := fun v4374 k0_hw693 => k0_hw693.1
theorem k0_off692_wordsi8 : ∀ (v4374 : BitVec 32) (k0_hw693 : k0_chk693 v4374), (Rect.unit (s := S4096x4096) (k0_off692 v4374) S32x4096.size (k0_off692_inb v4374 k0_hw693)).WholeWords (EltTy.packing .i8) := fun v4374 k0_hw693 => k0_hw693.2 (k0_off692_inb v4374 k0_hw693)

def k0_off694 (v4384 : BitVec 32) : Fin 2 → Nat :=
  let c128_i32_4678 : BitVec 32 := 128#32
  let v4385 : BitVec 32 := Scalar.muli v4384 c128_i32_4678
  let c32_i32_4679 : BitVec 32 := 32#32
  let v4386 : BitVec 32 := Scalar.addi v4385 c32_i32_4679
  let c0_i32_4688 : BitVec 32 := 0#32
  ![v4386.toNat, 0]

def k0_off695 (v4387 : BitVec 32) : Fin 2 → Nat :=
  let c128_i32_4681 : BitVec 32 := 128#32
  let v4388 : BitVec 32 := Scalar.muli v4387 c128_i32_4681
  let c32_i32_4682 : BitVec 32 := 32#32
  let v4389 : BitVec 32 := Scalar.addi v4388 c32_i32_4682
  let c0_i32_4689 : BitVec 32 := 0#32
  ![v4389.toNat, 0]

def k0_chk696 (v4387 : BitVec 32) : Prop :=
  (∀ a, (k0_off695 v4387) a + S32x4096.size a ≤ S4096x4096.size a) ∧
  (∀ (hinb : ∀ a, (k0_off695 v4387) a + S32x4096.size a ≤ S4096x4096.size a), (Rect.unit (s := S4096x4096) (k0_off695 v4387) S32x4096.size hinb).WholeWords (EltTy.packing .i8))
theorem k0_off695_inb : ∀ (v4387 : BitVec 32) (k0_hw696 : k0_chk696 v4387), ∀ a, (k0_off695 v4387) a + S32x4096.size a ≤ S4096x4096.size a := fun v4387 k0_hw696 => k0_hw696.1
theorem k0_off695_wordsi8 : ∀ (v4387 : BitVec 32) (k0_hw696 : k0_chk696 v4387), (Rect.unit (s := S4096x4096) (k0_off695 v4387) S32x4096.size (k0_off695_inb v4387 k0_hw696)).WholeWords (EltTy.packing .i8) := fun v4387 k0_hw696 => k0_hw696.2 (k0_off695_inb v4387 k0_hw696)

def k0_chk695 (v4384 : BitVec 32) : Prop :=
  (∀ a, (k0_off694 v4384) a + S32x4096.size a ≤ S4096x4096.size a) ∧
  (∀ (hinb : ∀ a, (k0_off694 v4384) a + S32x4096.size a ≤ S4096x4096.size a), (Rect.unit (s := S4096x4096) (k0_off694 v4384) S32x4096.size hinb).WholeWords (EltTy.packing .i8))
theorem k0_off694_inb : ∀ (v4384 : BitVec 32) (k0_hw695 : k0_chk695 v4384), ∀ a, (k0_off694 v4384) a + S32x4096.size a ≤ S4096x4096.size a := fun v4384 k0_hw695 => k0_hw695.1
theorem k0_off694_wordsi8 : ∀ (v4384 : BitVec 32) (k0_hw695 : k0_chk695 v4384), (Rect.unit (s := S4096x4096) (k0_off694 v4384) S32x4096.size (k0_off694_inb v4384 k0_hw695)).WholeWords (EltTy.packing .i8) := fun v4384 k0_hw695 => k0_hw695.2 (k0_off694_inb v4384 k0_hw695)

def k0_off696 (v4394 : BitVec 32) : Fin 2 → Nat :=
  let c128_i32_4691 : BitVec 32 := 128#32
  let v4395 : BitVec 32 := Scalar.muli v4394 c128_i32_4691
  let c64_i32_4692 : BitVec 32 := 64#32
  let v4396 : BitVec 32 := Scalar.addi v4395 c64_i32_4692
  let c0_i32_4701 : BitVec 32 := 0#32
  ![v4396.toNat, 0]

def k0_off697 (v4397 : BitVec 32) : Fin 2 → Nat :=
  let c128_i32_4694 : BitVec 32 := 128#32
  let v4398 : BitVec 32 := Scalar.muli v4397 c128_i32_4694
  let c64_i32_4695 : BitVec 32 := 64#32
  let v4399 : BitVec 32 := Scalar.addi v4398 c64_i32_4695
  let c0_i32_4702 : BitVec 32 := 0#32
  ![v4399.toNat, 0]

def k0_chk698 (v4397 : BitVec 32) : Prop :=
  (∀ a, (k0_off697 v4397) a + S32x4096.size a ≤ S4096x4096.size a) ∧
  (∀ (hinb : ∀ a, (k0_off697 v4397) a + S32x4096.size a ≤ S4096x4096.size a), (Rect.unit (s := S4096x4096) (k0_off697 v4397) S32x4096.size hinb).WholeWords (EltTy.packing .i8))
theorem k0_off697_inb : ∀ (v4397 : BitVec 32) (k0_hw698 : k0_chk698 v4397), ∀ a, (k0_off697 v4397) a + S32x4096.size a ≤ S4096x4096.size a := fun v4397 k0_hw698 => k0_hw698.1
theorem k0_off697_wordsi8 : ∀ (v4397 : BitVec 32) (k0_hw698 : k0_chk698 v4397), (Rect.unit (s := S4096x4096) (k0_off697 v4397) S32x4096.size (k0_off697_inb v4397 k0_hw698)).WholeWords (EltTy.packing .i8) := fun v4397 k0_hw698 => k0_hw698.2 (k0_off697_inb v4397 k0_hw698)

def k0_chk697 (v4394 : BitVec 32) : Prop :=
  (∀ a, (k0_off696 v4394) a + S32x4096.size a ≤ S4096x4096.size a) ∧
  (∀ (hinb : ∀ a, (k0_off696 v4394) a + S32x4096.size a ≤ S4096x4096.size a), (Rect.unit (s := S4096x4096) (k0_off696 v4394) S32x4096.size hinb).WholeWords (EltTy.packing .i8))
theorem k0_off696_inb : ∀ (v4394 : BitVec 32) (k0_hw697 : k0_chk697 v4394), ∀ a, (k0_off696 v4394) a + S32x4096.size a ≤ S4096x4096.size a := fun v4394 k0_hw697 => k0_hw697.1
theorem k0_off696_wordsi8 : ∀ (v4394 : BitVec 32) (k0_hw697 : k0_chk697 v4394), (Rect.unit (s := S4096x4096) (k0_off696 v4394) S32x4096.size (k0_off696_inb v4394 k0_hw697)).WholeWords (EltTy.packing .i8) := fun v4394 k0_hw697 => k0_hw697.2 (k0_off696_inb v4394 k0_hw697)

def k0_off698 (v4404 : BitVec 32) : Fin 2 → Nat :=
  let c128_i32_4704 : BitVec 32 := 128#32
  let v4405 : BitVec 32 := Scalar.muli v4404 c128_i32_4704
  let c64_i32_4705 : BitVec 32 := 64#32
  let v4406 : BitVec 32 := Scalar.addi v4405 c64_i32_4705
  let c0_i32_4714 : BitVec 32 := 0#32
  ![v4406.toNat, 0]

def k0_off699 (v4407 : BitVec 32) : Fin 2 → Nat :=
  let c128_i32_4707 : BitVec 32 := 128#32
  let v4408 : BitVec 32 := Scalar.muli v4407 c128_i32_4707
  let c64_i32_4708 : BitVec 32 := 64#32
  let v4409 : BitVec 32 := Scalar.addi v4408 c64_i32_4708
  let c0_i32_4715 : BitVec 32 := 0#32
  ![v4409.toNat, 0]

def k0_chk700 (v4407 : BitVec 32) : Prop :=
  (∀ a, (k0_off699 v4407) a + S32x4096.size a ≤ S4096x4096.size a) ∧
  (∀ (hinb : ∀ a, (k0_off699 v4407) a + S32x4096.size a ≤ S4096x4096.size a), (Rect.unit (s := S4096x4096) (k0_off699 v4407) S32x4096.size hinb).WholeWords (EltTy.packing .i8))
theorem k0_off699_inb : ∀ (v4407 : BitVec 32) (k0_hw700 : k0_chk700 v4407), ∀ a, (k0_off699 v4407) a + S32x4096.size a ≤ S4096x4096.size a := fun v4407 k0_hw700 => k0_hw700.1
theorem k0_off699_wordsi8 : ∀ (v4407 : BitVec 32) (k0_hw700 : k0_chk700 v4407), (Rect.unit (s := S4096x4096) (k0_off699 v4407) S32x4096.size (k0_off699_inb v4407 k0_hw700)).WholeWords (EltTy.packing .i8) := fun v4407 k0_hw700 => k0_hw700.2 (k0_off699_inb v4407 k0_hw700)

def k0_chk699 (v4404 : BitVec 32) : Prop :=
  (∀ a, (k0_off698 v4404) a + S32x4096.size a ≤ S4096x4096.size a) ∧
  (∀ (hinb : ∀ a, (k0_off698 v4404) a + S32x4096.size a ≤ S4096x4096.size a), (Rect.unit (s := S4096x4096) (k0_off698 v4404) S32x4096.size hinb).WholeWords (EltTy.packing .i8))
theorem k0_off698_inb : ∀ (v4404 : BitVec 32) (k0_hw699 : k0_chk699 v4404), ∀ a, (k0_off698 v4404) a + S32x4096.size a ≤ S4096x4096.size a := fun v4404 k0_hw699 => k0_hw699.1
theorem k0_off698_wordsi8 : ∀ (v4404 : BitVec 32) (k0_hw699 : k0_chk699 v4404), (Rect.unit (s := S4096x4096) (k0_off698 v4404) S32x4096.size (k0_off698_inb v4404 k0_hw699)).WholeWords (EltTy.packing .i8) := fun v4404 k0_hw699 => k0_hw699.2 (k0_off698_inb v4404 k0_hw699)

def k0_off700 (v4414 : BitVec 32) : Fin 2 → Nat :=
  let c128_i32_4717 : BitVec 32 := 128#32
  let v4415 : BitVec 32 := Scalar.muli v4414 c128_i32_4717
  let c96_i32_4718 : BitVec 32 := 96#32
  let v4416 : BitVec 32 := Scalar.addi v4415 c96_i32_4718
  let c0_i32_4727 : BitVec 32 := 0#32
  ![v4416.toNat, 0]

def k0_off701 (v4417 : BitVec 32) : Fin 2 → Nat :=
  let c128_i32_4720 : BitVec 32 := 128#32
  let v4418 : BitVec 32 := Scalar.muli v4417 c128_i32_4720
  let c96_i32_4721 : BitVec 32 := 96#32
  let v4419 : BitVec 32 := Scalar.addi v4418 c96_i32_4721
  let c0_i32_4728 : BitVec 32 := 0#32
  ![v4419.toNat, 0]

def k0_chk702 (v4417 : BitVec 32) : Prop :=
  (∀ a, (k0_off701 v4417) a + S32x4096.size a ≤ S4096x4096.size a) ∧
  (∀ (hinb : ∀ a, (k0_off701 v4417) a + S32x4096.size a ≤ S4096x4096.size a), (Rect.unit (s := S4096x4096) (k0_off701 v4417) S32x4096.size hinb).WholeWords (EltTy.packing .i8))
theorem k0_off701_inb : ∀ (v4417 : BitVec 32) (k0_hw702 : k0_chk702 v4417), ∀ a, (k0_off701 v4417) a + S32x4096.size a ≤ S4096x4096.size a := fun v4417 k0_hw702 => k0_hw702.1
theorem k0_off701_wordsi8 : ∀ (v4417 : BitVec 32) (k0_hw702 : k0_chk702 v4417), (Rect.unit (s := S4096x4096) (k0_off701 v4417) S32x4096.size (k0_off701_inb v4417 k0_hw702)).WholeWords (EltTy.packing .i8) := fun v4417 k0_hw702 => k0_hw702.2 (k0_off701_inb v4417 k0_hw702)

def k0_chk701 (v4414 : BitVec 32) : Prop :=
  (∀ a, (k0_off700 v4414) a + S32x4096.size a ≤ S4096x4096.size a) ∧
  (∀ (hinb : ∀ a, (k0_off700 v4414) a + S32x4096.size a ≤ S4096x4096.size a), (Rect.unit (s := S4096x4096) (k0_off700 v4414) S32x4096.size hinb).WholeWords (EltTy.packing .i8))
theorem k0_off700_inb : ∀ (v4414 : BitVec 32) (k0_hw701 : k0_chk701 v4414), ∀ a, (k0_off700 v4414) a + S32x4096.size a ≤ S4096x4096.size a := fun v4414 k0_hw701 => k0_hw701.1
theorem k0_off700_wordsi8 : ∀ (v4414 : BitVec 32) (k0_hw701 : k0_chk701 v4414), (Rect.unit (s := S4096x4096) (k0_off700 v4414) S32x4096.size (k0_off700_inb v4414 k0_hw701)).WholeWords (EltTy.packing .i8) := fun v4414 k0_hw701 => k0_hw701.2 (k0_off700_inb v4414 k0_hw701)

def k0_off702 (v4424 : BitVec 32) : Fin 2 → Nat :=
  let c128_i32_4730 : BitVec 32 := 128#32
  let v4425 : BitVec 32 := Scalar.muli v4424 c128_i32_4730
  let c96_i32_4731 : BitVec 32 := 96#32
  let v4426 : BitVec 32 := Scalar.addi v4425 c96_i32_4731
  let c0_i32_4740 : BitVec 32 := 0#32
  ![v4426.toNat, 0]

def k0_off703 (v4427 : BitVec 32) : Fin 2 → Nat :=
  let c128_i32_4733 : BitVec 32 := 128#32
  let v4428 : BitVec 32 := Scalar.muli v4427 c128_i32_4733
  let c96_i32_4734 : BitVec 32 := 96#32
  let v4429 : BitVec 32 := Scalar.addi v4428 c96_i32_4734
  let c0_i32_4741 : BitVec 32 := 0#32
  ![v4429.toNat, 0]

def k0_chk704 (v4427 : BitVec 32) : Prop :=
  (∀ a, (k0_off703 v4427) a + S32x4096.size a ≤ S4096x4096.size a) ∧
  (∀ (hinb : ∀ a, (k0_off703 v4427) a + S32x4096.size a ≤ S4096x4096.size a), (Rect.unit (s := S4096x4096) (k0_off703 v4427) S32x4096.size hinb).WholeWords (EltTy.packing .i8))
theorem k0_off703_inb : ∀ (v4427 : BitVec 32) (k0_hw704 : k0_chk704 v4427), ∀ a, (k0_off703 v4427) a + S32x4096.size a ≤ S4096x4096.size a := fun v4427 k0_hw704 => k0_hw704.1
theorem k0_off703_wordsi8 : ∀ (v4427 : BitVec 32) (k0_hw704 : k0_chk704 v4427), (Rect.unit (s := S4096x4096) (k0_off703 v4427) S32x4096.size (k0_off703_inb v4427 k0_hw704)).WholeWords (EltTy.packing .i8) := fun v4427 k0_hw704 => k0_hw704.2 (k0_off703_inb v4427 k0_hw704)

def k0_chk703 (v4424 : BitVec 32) : Prop :=
  (∀ a, (k0_off702 v4424) a + S32x4096.size a ≤ S4096x4096.size a) ∧
  (∀ (hinb : ∀ a, (k0_off702 v4424) a + S32x4096.size a ≤ S4096x4096.size a), (Rect.unit (s := S4096x4096) (k0_off702 v4424) S32x4096.size hinb).WholeWords (EltTy.packing .i8))
theorem k0_off702_inb : ∀ (v4424 : BitVec 32) (k0_hw703 : k0_chk703 v4424), ∀ a, (k0_off702 v4424) a + S32x4096.size a ≤ S4096x4096.size a := fun v4424 k0_hw703 => k0_hw703.1
theorem k0_off702_wordsi8 : ∀ (v4424 : BitVec 32) (k0_hw703 : k0_chk703 v4424), (Rect.unit (s := S4096x4096) (k0_off702 v4424) S32x4096.size (k0_off702_inb v4424 k0_hw703)).WholeWords (EltTy.packing .i8) := fun v4424 k0_hw703 => k0_hw703.2 (k0_off702_inb v4424 k0_hw703)

def k0_off704 (v4434 : BitVec 32) : Fin 2 → Nat :=
  let c128_i32_4743 : BitVec 32 := 128#32
  let v4435 : BitVec 32 := Scalar.muli v4434 c128_i32_4743
  let c0_i32_4744 : BitVec 32 := 0#32
  let v4436 : BitVec 32 := Scalar.addi v4435 c0_i32_4744
  let c0_i32_4753 : BitVec 32 := 0#32
  ![v4436.toNat, 0]

def k0_off705 (v4437 : BitVec 32) : Fin 2 → Nat :=
  let c128_i32_4746 : BitVec 32 := 128#32
  let v4438 : BitVec 32 := Scalar.muli v4437 c128_i32_4746
  let c0_i32_4747 : BitVec 32 := 0#32
  let v4439 : BitVec 32 := Scalar.addi v4438 c0_i32_4747
  let c0_i32_4754 : BitVec 32 := 0#32
  ![v4439.toNat, 0]

def k0_chk706 (v4437 : BitVec 32) : Prop :=
  (∀ a, (k0_off705 v4437) a + S32x4096.size a ≤ S4096x4096.size a) ∧
  (∀ (hinb : ∀ a, (k0_off705 v4437) a + S32x4096.size a ≤ S4096x4096.size a), (Rect.unit (s := S4096x4096) (k0_off705 v4437) S32x4096.size hinb).WholeWords (EltTy.packing .i8))
theorem k0_off705_inb : ∀ (v4437 : BitVec 32) (k0_hw706 : k0_chk706 v4437), ∀ a, (k0_off705 v4437) a + S32x4096.size a ≤ S4096x4096.size a := fun v4437 k0_hw706 => k0_hw706.1
theorem k0_off705_wordsi8 : ∀ (v4437 : BitVec 32) (k0_hw706 : k0_chk706 v4437), (Rect.unit (s := S4096x4096) (k0_off705 v4437) S32x4096.size (k0_off705_inb v4437 k0_hw706)).WholeWords (EltTy.packing .i8) := fun v4437 k0_hw706 => k0_hw706.2 (k0_off705_inb v4437 k0_hw706)

def k0_chk705 (v4434 : BitVec 32) : Prop :=
  (∀ a, (k0_off704 v4434) a + S32x4096.size a ≤ S4096x4096.size a) ∧
  (∀ (hinb : ∀ a, (k0_off704 v4434) a + S32x4096.size a ≤ S4096x4096.size a), (Rect.unit (s := S4096x4096) (k0_off704 v4434) S32x4096.size hinb).WholeWords (EltTy.packing .i8))
theorem k0_off704_inb : ∀ (v4434 : BitVec 32) (k0_hw705 : k0_chk705 v4434), ∀ a, (k0_off704 v4434) a + S32x4096.size a ≤ S4096x4096.size a := fun v4434 k0_hw705 => k0_hw705.1
theorem k0_off704_wordsi8 : ∀ (v4434 : BitVec 32) (k0_hw705 : k0_chk705 v4434), (Rect.unit (s := S4096x4096) (k0_off704 v4434) S32x4096.size (k0_off704_inb v4434 k0_hw705)).WholeWords (EltTy.packing .i8) := fun v4434 k0_hw705 => k0_hw705.2 (k0_off704_inb v4434 k0_hw705)

def k0_off706 (v4444 : BitVec 32) : Fin 2 → Nat :=
  let c128_i32_4756 : BitVec 32 := 128#32
  let v4445 : BitVec 32 := Scalar.muli v4444 c128_i32_4756
  let c0_i32_4757 : BitVec 32 := 0#32
  let v4446 : BitVec 32 := Scalar.addi v4445 c0_i32_4757
  let c0_i32_4766 : BitVec 32 := 0#32
  ![v4446.toNat, 0]

def k0_off707 (v4447 : BitVec 32) : Fin 2 → Nat :=
  let c128_i32_4759 : BitVec 32 := 128#32
  let v4448 : BitVec 32 := Scalar.muli v4447 c128_i32_4759
  let c0_i32_4760 : BitVec 32 := 0#32
  let v4449 : BitVec 32 := Scalar.addi v4448 c0_i32_4760
  let c0_i32_4767 : BitVec 32 := 0#32
  ![v4449.toNat, 0]

def k0_chk708 (v4447 : BitVec 32) : Prop :=
  (∀ a, (k0_off707 v4447) a + S32x4096.size a ≤ S4096x4096.size a) ∧
  (∀ (hinb : ∀ a, (k0_off707 v4447) a + S32x4096.size a ≤ S4096x4096.size a), (Rect.unit (s := S4096x4096) (k0_off707 v4447) S32x4096.size hinb).WholeWords (EltTy.packing .i8))
theorem k0_off707_inb : ∀ (v4447 : BitVec 32) (k0_hw708 : k0_chk708 v4447), ∀ a, (k0_off707 v4447) a + S32x4096.size a ≤ S4096x4096.size a := fun v4447 k0_hw708 => k0_hw708.1
theorem k0_off707_wordsi8 : ∀ (v4447 : BitVec 32) (k0_hw708 : k0_chk708 v4447), (Rect.unit (s := S4096x4096) (k0_off707 v4447) S32x4096.size (k0_off707_inb v4447 k0_hw708)).WholeWords (EltTy.packing .i8) := fun v4447 k0_hw708 => k0_hw708.2 (k0_off707_inb v4447 k0_hw708)

def k0_chk707 (v4444 : BitVec 32) : Prop :=
  (∀ a, (k0_off706 v4444) a + S32x4096.size a ≤ S4096x4096.size a) ∧
  (∀ (hinb : ∀ a, (k0_off706 v4444) a + S32x4096.size a ≤ S4096x4096.size a), (Rect.unit (s := S4096x4096) (k0_off706 v4444) S32x4096.size hinb).WholeWords (EltTy.packing .i8))
theorem k0_off706_inb : ∀ (v4444 : BitVec 32) (k0_hw707 : k0_chk707 v4444), ∀ a, (k0_off706 v4444) a + S32x4096.size a ≤ S4096x4096.size a := fun v4444 k0_hw707 => k0_hw707.1
theorem k0_off706_wordsi8 : ∀ (v4444 : BitVec 32) (k0_hw707 : k0_chk707 v4444), (Rect.unit (s := S4096x4096) (k0_off706 v4444) S32x4096.size (k0_off706_inb v4444 k0_hw707)).WholeWords (EltTy.packing .i8) := fun v4444 k0_hw707 => k0_hw707.2 (k0_off706_inb v4444 k0_hw707)

def k0_off708 (v4454 : BitVec 32) : Fin 2 → Nat :=
  let c128_i32_4769 : BitVec 32 := 128#32
  let v4455 : BitVec 32 := Scalar.muli v4454 c128_i32_4769
  let c32_i32_4770 : BitVec 32 := 32#32
  let v4456 : BitVec 32 := Scalar.addi v4455 c32_i32_4770
  let c0_i32_4779 : BitVec 32 := 0#32
  ![v4456.toNat, 0]

def k0_off709 (v4457 : BitVec 32) : Fin 2 → Nat :=
  let c128_i32_4772 : BitVec 32 := 128#32
  let v4458 : BitVec 32 := Scalar.muli v4457 c128_i32_4772
  let c32_i32_4773 : BitVec 32 := 32#32
  let v4459 : BitVec 32 := Scalar.addi v4458 c32_i32_4773
  let c0_i32_4780 : BitVec 32 := 0#32
  ![v4459.toNat, 0]

def k0_chk710 (v4457 : BitVec 32) : Prop :=
  (∀ a, (k0_off709 v4457) a + S32x4096.size a ≤ S4096x4096.size a) ∧
  (∀ (hinb : ∀ a, (k0_off709 v4457) a + S32x4096.size a ≤ S4096x4096.size a), (Rect.unit (s := S4096x4096) (k0_off709 v4457) S32x4096.size hinb).WholeWords (EltTy.packing .i8))
theorem k0_off709_inb : ∀ (v4457 : BitVec 32) (k0_hw710 : k0_chk710 v4457), ∀ a, (k0_off709 v4457) a + S32x4096.size a ≤ S4096x4096.size a := fun v4457 k0_hw710 => k0_hw710.1
theorem k0_off709_wordsi8 : ∀ (v4457 : BitVec 32) (k0_hw710 : k0_chk710 v4457), (Rect.unit (s := S4096x4096) (k0_off709 v4457) S32x4096.size (k0_off709_inb v4457 k0_hw710)).WholeWords (EltTy.packing .i8) := fun v4457 k0_hw710 => k0_hw710.2 (k0_off709_inb v4457 k0_hw710)

def k0_chk709 (v4454 : BitVec 32) : Prop :=
  (∀ a, (k0_off708 v4454) a + S32x4096.size a ≤ S4096x4096.size a) ∧
  (∀ (hinb : ∀ a, (k0_off708 v4454) a + S32x4096.size a ≤ S4096x4096.size a), (Rect.unit (s := S4096x4096) (k0_off708 v4454) S32x4096.size hinb).WholeWords (EltTy.packing .i8))
theorem k0_off708_inb : ∀ (v4454 : BitVec 32) (k0_hw709 : k0_chk709 v4454), ∀ a, (k0_off708 v4454) a + S32x4096.size a ≤ S4096x4096.size a := fun v4454 k0_hw709 => k0_hw709.1
theorem k0_off708_wordsi8 : ∀ (v4454 : BitVec 32) (k0_hw709 : k0_chk709 v4454), (Rect.unit (s := S4096x4096) (k0_off708 v4454) S32x4096.size (k0_off708_inb v4454 k0_hw709)).WholeWords (EltTy.packing .i8) := fun v4454 k0_hw709 => k0_hw709.2 (k0_off708_inb v4454 k0_hw709)

def k0_off710 (v4464 : BitVec 32) : Fin 2 → Nat :=
  let c128_i32_4782 : BitVec 32 := 128#32
  let v4465 : BitVec 32 := Scalar.muli v4464 c128_i32_4782
  let c32_i32_4783 : BitVec 32 := 32#32
  let v4466 : BitVec 32 := Scalar.addi v4465 c32_i32_4783
  let c0_i32_4792 : BitVec 32 := 0#32
  ![v4466.toNat, 0]

def k0_off711 (v4467 : BitVec 32) : Fin 2 → Nat :=
  let c128_i32_4785 : BitVec 32 := 128#32
  let v4468 : BitVec 32 := Scalar.muli v4467 c128_i32_4785
  let c32_i32_4786 : BitVec 32 := 32#32
  let v4469 : BitVec 32 := Scalar.addi v4468 c32_i32_4786
  let c0_i32_4793 : BitVec 32 := 0#32
  ![v4469.toNat, 0]

def k0_chk712 (v4467 : BitVec 32) : Prop :=
  (∀ a, (k0_off711 v4467) a + S32x4096.size a ≤ S4096x4096.size a) ∧
  (∀ (hinb : ∀ a, (k0_off711 v4467) a + S32x4096.size a ≤ S4096x4096.size a), (Rect.unit (s := S4096x4096) (k0_off711 v4467) S32x4096.size hinb).WholeWords (EltTy.packing .i8))
theorem k0_off711_inb : ∀ (v4467 : BitVec 32) (k0_hw712 : k0_chk712 v4467), ∀ a, (k0_off711 v4467) a + S32x4096.size a ≤ S4096x4096.size a := fun v4467 k0_hw712 => k0_hw712.1
theorem k0_off711_wordsi8 : ∀ (v4467 : BitVec 32) (k0_hw712 : k0_chk712 v4467), (Rect.unit (s := S4096x4096) (k0_off711 v4467) S32x4096.size (k0_off711_inb v4467 k0_hw712)).WholeWords (EltTy.packing .i8) := fun v4467 k0_hw712 => k0_hw712.2 (k0_off711_inb v4467 k0_hw712)

def k0_chk711 (v4464 : BitVec 32) : Prop :=
  (∀ a, (k0_off710 v4464) a + S32x4096.size a ≤ S4096x4096.size a) ∧
  (∀ (hinb : ∀ a, (k0_off710 v4464) a + S32x4096.size a ≤ S4096x4096.size a), (Rect.unit (s := S4096x4096) (k0_off710 v4464) S32x4096.size hinb).WholeWords (EltTy.packing .i8))
theorem k0_off710_inb : ∀ (v4464 : BitVec 32) (k0_hw711 : k0_chk711 v4464), ∀ a, (k0_off710 v4464) a + S32x4096.size a ≤ S4096x4096.size a := fun v4464 k0_hw711 => k0_hw711.1
theorem k0_off710_wordsi8 : ∀ (v4464 : BitVec 32) (k0_hw711 : k0_chk711 v4464), (Rect.unit (s := S4096x4096) (k0_off710 v4464) S32x4096.size (k0_off710_inb v4464 k0_hw711)).WholeWords (EltTy.packing .i8) := fun v4464 k0_hw711 => k0_hw711.2 (k0_off710_inb v4464 k0_hw711)

def k0_off712 (v4474 : BitVec 32) : Fin 2 → Nat :=
  let c128_i32_4795 : BitVec 32 := 128#32
  let v4475 : BitVec 32 := Scalar.muli v4474 c128_i32_4795
  let c64_i32_4796 : BitVec 32 := 64#32
  let v4476 : BitVec 32 := Scalar.addi v4475 c64_i32_4796
  let c0_i32_4805 : BitVec 32 := 0#32
  ![v4476.toNat, 0]

def k0_off713 (v4477 : BitVec 32) : Fin 2 → Nat :=
  let c128_i32_4798 : BitVec 32 := 128#32
  let v4478 : BitVec 32 := Scalar.muli v4477 c128_i32_4798
  let c64_i32_4799 : BitVec 32 := 64#32
  let v4479 : BitVec 32 := Scalar.addi v4478 c64_i32_4799
  let c0_i32_4806 : BitVec 32 := 0#32
  ![v4479.toNat, 0]

def k0_chk714 (v4477 : BitVec 32) : Prop :=
  (∀ a, (k0_off713 v4477) a + S32x4096.size a ≤ S4096x4096.size a) ∧
  (∀ (hinb : ∀ a, (k0_off713 v4477) a + S32x4096.size a ≤ S4096x4096.size a), (Rect.unit (s := S4096x4096) (k0_off713 v4477) S32x4096.size hinb).WholeWords (EltTy.packing .i8))
theorem k0_off713_inb : ∀ (v4477 : BitVec 32) (k0_hw714 : k0_chk714 v4477), ∀ a, (k0_off713 v4477) a + S32x4096.size a ≤ S4096x4096.size a := fun v4477 k0_hw714 => k0_hw714.1
theorem k0_off713_wordsi8 : ∀ (v4477 : BitVec 32) (k0_hw714 : k0_chk714 v4477), (Rect.unit (s := S4096x4096) (k0_off713 v4477) S32x4096.size (k0_off713_inb v4477 k0_hw714)).WholeWords (EltTy.packing .i8) := fun v4477 k0_hw714 => k0_hw714.2 (k0_off713_inb v4477 k0_hw714)

def k0_chk713 (v4474 : BitVec 32) : Prop :=
  (∀ a, (k0_off712 v4474) a + S32x4096.size a ≤ S4096x4096.size a) ∧
  (∀ (hinb : ∀ a, (k0_off712 v4474) a + S32x4096.size a ≤ S4096x4096.size a), (Rect.unit (s := S4096x4096) (k0_off712 v4474) S32x4096.size hinb).WholeWords (EltTy.packing .i8))
theorem k0_off712_inb : ∀ (v4474 : BitVec 32) (k0_hw713 : k0_chk713 v4474), ∀ a, (k0_off712 v4474) a + S32x4096.size a ≤ S4096x4096.size a := fun v4474 k0_hw713 => k0_hw713.1
theorem k0_off712_wordsi8 : ∀ (v4474 : BitVec 32) (k0_hw713 : k0_chk713 v4474), (Rect.unit (s := S4096x4096) (k0_off712 v4474) S32x4096.size (k0_off712_inb v4474 k0_hw713)).WholeWords (EltTy.packing .i8) := fun v4474 k0_hw713 => k0_hw713.2 (k0_off712_inb v4474 k0_hw713)

def k0_off714 (v4484 : BitVec 32) : Fin 2 → Nat :=
  let c128_i32_4808 : BitVec 32 := 128#32
  let v4485 : BitVec 32 := Scalar.muli v4484 c128_i32_4808
  let c64_i32_4809 : BitVec 32 := 64#32
  let v4486 : BitVec 32 := Scalar.addi v4485 c64_i32_4809
  let c0_i32_4818 : BitVec 32 := 0#32
  ![v4486.toNat, 0]

def k0_off715 (v4487 : BitVec 32) : Fin 2 → Nat :=
  let c128_i32_4811 : BitVec 32 := 128#32
  let v4488 : BitVec 32 := Scalar.muli v4487 c128_i32_4811
  let c64_i32_4812 : BitVec 32 := 64#32
  let v4489 : BitVec 32 := Scalar.addi v4488 c64_i32_4812
  let c0_i32_4819 : BitVec 32 := 0#32
  ![v4489.toNat, 0]

def k0_chk716 (v4487 : BitVec 32) : Prop :=
  (∀ a, (k0_off715 v4487) a + S32x4096.size a ≤ S4096x4096.size a) ∧
  (∀ (hinb : ∀ a, (k0_off715 v4487) a + S32x4096.size a ≤ S4096x4096.size a), (Rect.unit (s := S4096x4096) (k0_off715 v4487) S32x4096.size hinb).WholeWords (EltTy.packing .i8))
theorem k0_off715_inb : ∀ (v4487 : BitVec 32) (k0_hw716 : k0_chk716 v4487), ∀ a, (k0_off715 v4487) a + S32x4096.size a ≤ S4096x4096.size a := fun v4487 k0_hw716 => k0_hw716.1
theorem k0_off715_wordsi8 : ∀ (v4487 : BitVec 32) (k0_hw716 : k0_chk716 v4487), (Rect.unit (s := S4096x4096) (k0_off715 v4487) S32x4096.size (k0_off715_inb v4487 k0_hw716)).WholeWords (EltTy.packing .i8) := fun v4487 k0_hw716 => k0_hw716.2 (k0_off715_inb v4487 k0_hw716)

def k0_chk715 (v4484 : BitVec 32) : Prop :=
  (∀ a, (k0_off714 v4484) a + S32x4096.size a ≤ S4096x4096.size a) ∧
  (∀ (hinb : ∀ a, (k0_off714 v4484) a + S32x4096.size a ≤ S4096x4096.size a), (Rect.unit (s := S4096x4096) (k0_off714 v4484) S32x4096.size hinb).WholeWords (EltTy.packing .i8))
theorem k0_off714_inb : ∀ (v4484 : BitVec 32) (k0_hw715 : k0_chk715 v4484), ∀ a, (k0_off714 v4484) a + S32x4096.size a ≤ S4096x4096.size a := fun v4484 k0_hw715 => k0_hw715.1
theorem k0_off714_wordsi8 : ∀ (v4484 : BitVec 32) (k0_hw715 : k0_chk715 v4484), (Rect.unit (s := S4096x4096) (k0_off714 v4484) S32x4096.size (k0_off714_inb v4484 k0_hw715)).WholeWords (EltTy.packing .i8) := fun v4484 k0_hw715 => k0_hw715.2 (k0_off714_inb v4484 k0_hw715)

def k0_off716 (v4494 : BitVec 32) : Fin 2 → Nat :=
  let c128_i32_4821 : BitVec 32 := 128#32
  let v4495 : BitVec 32 := Scalar.muli v4494 c128_i32_4821
  let c96_i32_4822 : BitVec 32 := 96#32
  let v4496 : BitVec 32 := Scalar.addi v4495 c96_i32_4822
  let c0_i32_4831 : BitVec 32 := 0#32
  ![v4496.toNat, 0]

def k0_off717 (v4497 : BitVec 32) : Fin 2 → Nat :=
  let c128_i32_4824 : BitVec 32 := 128#32
  let v4498 : BitVec 32 := Scalar.muli v4497 c128_i32_4824
  let c96_i32_4825 : BitVec 32 := 96#32
  let v4499 : BitVec 32 := Scalar.addi v4498 c96_i32_4825
  let c0_i32_4832 : BitVec 32 := 0#32
  ![v4499.toNat, 0]

def k0_chk718 (v4497 : BitVec 32) : Prop :=
  (∀ a, (k0_off717 v4497) a + S32x4096.size a ≤ S4096x4096.size a) ∧
  (∀ (hinb : ∀ a, (k0_off717 v4497) a + S32x4096.size a ≤ S4096x4096.size a), (Rect.unit (s := S4096x4096) (k0_off717 v4497) S32x4096.size hinb).WholeWords (EltTy.packing .i8))
theorem k0_off717_inb : ∀ (v4497 : BitVec 32) (k0_hw718 : k0_chk718 v4497), ∀ a, (k0_off717 v4497) a + S32x4096.size a ≤ S4096x4096.size a := fun v4497 k0_hw718 => k0_hw718.1
theorem k0_off717_wordsi8 : ∀ (v4497 : BitVec 32) (k0_hw718 : k0_chk718 v4497), (Rect.unit (s := S4096x4096) (k0_off717 v4497) S32x4096.size (k0_off717_inb v4497 k0_hw718)).WholeWords (EltTy.packing .i8) := fun v4497 k0_hw718 => k0_hw718.2 (k0_off717_inb v4497 k0_hw718)

def k0_chk717 (v4494 : BitVec 32) : Prop :=
  (∀ a, (k0_off716 v4494) a + S32x4096.size a ≤ S4096x4096.size a) ∧
  (∀ (hinb : ∀ a, (k0_off716 v4494) a + S32x4096.size a ≤ S4096x4096.size a), (Rect.unit (s := S4096x4096) (k0_off716 v4494) S32x4096.size hinb).WholeWords (EltTy.packing .i8))
theorem k0_off716_inb : ∀ (v4494 : BitVec 32) (k0_hw717 : k0_chk717 v4494), ∀ a, (k0_off716 v4494) a + S32x4096.size a ≤ S4096x4096.size a := fun v4494 k0_hw717 => k0_hw717.1
theorem k0_off716_wordsi8 : ∀ (v4494 : BitVec 32) (k0_hw717 : k0_chk717 v4494), (Rect.unit (s := S4096x4096) (k0_off716 v4494) S32x4096.size (k0_off716_inb v4494 k0_hw717)).WholeWords (EltTy.packing .i8) := fun v4494 k0_hw717 => k0_hw717.2 (k0_off716_inb v4494 k0_hw717)

def k0_off718 (v4504 : BitVec 32) : Fin 2 → Nat :=
  let c128_i32_4834 : BitVec 32 := 128#32
  let v4505 : BitVec 32 := Scalar.muli v4504 c128_i32_4834
  let c96_i32_4835 : BitVec 32 := 96#32
  let v4506 : BitVec 32 := Scalar.addi v4505 c96_i32_4835
  let c0_i32_4844 : BitVec 32 := 0#32
  ![v4506.toNat, 0]

def k0_off719 (v4507 : BitVec 32) : Fin 2 → Nat :=
  let c128_i32_4837 : BitVec 32 := 128#32
  let v4508 : BitVec 32 := Scalar.muli v4507 c128_i32_4837
  let c96_i32_4838 : BitVec 32 := 96#32
  let v4509 : BitVec 32 := Scalar.addi v4508 c96_i32_4838
  let c0_i32_4845 : BitVec 32 := 0#32
  ![v4509.toNat, 0]

def k0_chk720 (v4507 : BitVec 32) : Prop :=
  (∀ a, (k0_off719 v4507) a + S32x4096.size a ≤ S4096x4096.size a) ∧
  (∀ (hinb : ∀ a, (k0_off719 v4507) a + S32x4096.size a ≤ S4096x4096.size a), (Rect.unit (s := S4096x4096) (k0_off719 v4507) S32x4096.size hinb).WholeWords (EltTy.packing .i8))
theorem k0_off719_inb : ∀ (v4507 : BitVec 32) (k0_hw720 : k0_chk720 v4507), ∀ a, (k0_off719 v4507) a + S32x4096.size a ≤ S4096x4096.size a := fun v4507 k0_hw720 => k0_hw720.1
theorem k0_off719_wordsi8 : ∀ (v4507 : BitVec 32) (k0_hw720 : k0_chk720 v4507), (Rect.unit (s := S4096x4096) (k0_off719 v4507) S32x4096.size (k0_off719_inb v4507 k0_hw720)).WholeWords (EltTy.packing .i8) := fun v4507 k0_hw720 => k0_hw720.2 (k0_off719_inb v4507 k0_hw720)

def k0_chk719 (v4504 : BitVec 32) : Prop :=
  (∀ a, (k0_off718 v4504) a + S32x4096.size a ≤ S4096x4096.size a) ∧
  (∀ (hinb : ∀ a, (k0_off718 v4504) a + S32x4096.size a ≤ S4096x4096.size a), (Rect.unit (s := S4096x4096) (k0_off718 v4504) S32x4096.size hinb).WholeWords (EltTy.packing .i8))
theorem k0_off718_inb : ∀ (v4504 : BitVec 32) (k0_hw719 : k0_chk719 v4504), ∀ a, (k0_off718 v4504) a + S32x4096.size a ≤ S4096x4096.size a := fun v4504 k0_hw719 => k0_hw719.1
theorem k0_off718_wordsi8 : ∀ (v4504 : BitVec 32) (k0_hw719 : k0_chk719 v4504), (Rect.unit (s := S4096x4096) (k0_off718 v4504) S32x4096.size (k0_off718_inb v4504 k0_hw719)).WholeWords (EltTy.packing .i8) := fun v4504 k0_hw719 => k0_hw719.2 (k0_off718_inb v4504 k0_hw719)

def k0_off720 (v4514 : BitVec 32) : Fin 2 → Nat :=
  let c128_i32_4847 : BitVec 32 := 128#32
  let v4515 : BitVec 32 := Scalar.muli v4514 c128_i32_4847
  let c0_i32_4848 : BitVec 32 := 0#32
  let v4516 : BitVec 32 := Scalar.addi v4515 c0_i32_4848
  let c0_i32_4857 : BitVec 32 := 0#32
  ![v4516.toNat, 0]

def k0_off721 (v4517 : BitVec 32) : Fin 2 → Nat :=
  let c128_i32_4850 : BitVec 32 := 128#32
  let v4518 : BitVec 32 := Scalar.muli v4517 c128_i32_4850
  let c0_i32_4851 : BitVec 32 := 0#32
  let v4519 : BitVec 32 := Scalar.addi v4518 c0_i32_4851
  let c0_i32_4858 : BitVec 32 := 0#32
  ![v4519.toNat, 0]

def k0_chk722 (v4517 : BitVec 32) : Prop :=
  (∀ a, (k0_off721 v4517) a + S32x4096.size a ≤ S4096x4096.size a) ∧
  (∀ (hinb : ∀ a, (k0_off721 v4517) a + S32x4096.size a ≤ S4096x4096.size a), (Rect.unit (s := S4096x4096) (k0_off721 v4517) S32x4096.size hinb).WholeWords (EltTy.packing .i8))
theorem k0_off721_inb : ∀ (v4517 : BitVec 32) (k0_hw722 : k0_chk722 v4517), ∀ a, (k0_off721 v4517) a + S32x4096.size a ≤ S4096x4096.size a := fun v4517 k0_hw722 => k0_hw722.1
theorem k0_off721_wordsi8 : ∀ (v4517 : BitVec 32) (k0_hw722 : k0_chk722 v4517), (Rect.unit (s := S4096x4096) (k0_off721 v4517) S32x4096.size (k0_off721_inb v4517 k0_hw722)).WholeWords (EltTy.packing .i8) := fun v4517 k0_hw722 => k0_hw722.2 (k0_off721_inb v4517 k0_hw722)

def k0_chk721 (v4514 : BitVec 32) : Prop :=
  (∀ a, (k0_off720 v4514) a + S32x4096.size a ≤ S4096x4096.size a) ∧
  (∀ (hinb : ∀ a, (k0_off720 v4514) a + S32x4096.size a ≤ S4096x4096.size a), (Rect.unit (s := S4096x4096) (k0_off720 v4514) S32x4096.size hinb).WholeWords (EltTy.packing .i8))
theorem k0_off720_inb : ∀ (v4514 : BitVec 32) (k0_hw721 : k0_chk721 v4514), ∀ a, (k0_off720 v4514) a + S32x4096.size a ≤ S4096x4096.size a := fun v4514 k0_hw721 => k0_hw721.1
theorem k0_off720_wordsi8 : ∀ (v4514 : BitVec 32) (k0_hw721 : k0_chk721 v4514), (Rect.unit (s := S4096x4096) (k0_off720 v4514) S32x4096.size (k0_off720_inb v4514 k0_hw721)).WholeWords (EltTy.packing .i8) := fun v4514 k0_hw721 => k0_hw721.2 (k0_off720_inb v4514 k0_hw721)

def k0_off722 (v4524 : BitVec 32) : Fin 2 → Nat :=
  let c128_i32_4860 : BitVec 32 := 128#32
  let v4525 : BitVec 32 := Scalar.muli v4524 c128_i32_4860
  let c0_i32_4861 : BitVec 32 := 0#32
  let v4526 : BitVec 32 := Scalar.addi v4525 c0_i32_4861
  let c0_i32_4870 : BitVec 32 := 0#32
  ![v4526.toNat, 0]

def k0_off723 (v4527 : BitVec 32) : Fin 2 → Nat :=
  let c128_i32_4863 : BitVec 32 := 128#32
  let v4528 : BitVec 32 := Scalar.muli v4527 c128_i32_4863
  let c0_i32_4864 : BitVec 32 := 0#32
  let v4529 : BitVec 32 := Scalar.addi v4528 c0_i32_4864
  let c0_i32_4871 : BitVec 32 := 0#32
  ![v4529.toNat, 0]

def k0_chk724 (v4527 : BitVec 32) : Prop :=
  (∀ a, (k0_off723 v4527) a + S32x4096.size a ≤ S4096x4096.size a) ∧
  (∀ (hinb : ∀ a, (k0_off723 v4527) a + S32x4096.size a ≤ S4096x4096.size a), (Rect.unit (s := S4096x4096) (k0_off723 v4527) S32x4096.size hinb).WholeWords (EltTy.packing .i8))
theorem k0_off723_inb : ∀ (v4527 : BitVec 32) (k0_hw724 : k0_chk724 v4527), ∀ a, (k0_off723 v4527) a + S32x4096.size a ≤ S4096x4096.size a := fun v4527 k0_hw724 => k0_hw724.1
theorem k0_off723_wordsi8 : ∀ (v4527 : BitVec 32) (k0_hw724 : k0_chk724 v4527), (Rect.unit (s := S4096x4096) (k0_off723 v4527) S32x4096.size (k0_off723_inb v4527 k0_hw724)).WholeWords (EltTy.packing .i8) := fun v4527 k0_hw724 => k0_hw724.2 (k0_off723_inb v4527 k0_hw724)

def k0_chk723 (v4524 : BitVec 32) : Prop :=
  (∀ a, (k0_off722 v4524) a + S32x4096.size a ≤ S4096x4096.size a) ∧
  (∀ (hinb : ∀ a, (k0_off722 v4524) a + S32x4096.size a ≤ S4096x4096.size a), (Rect.unit (s := S4096x4096) (k0_off722 v4524) S32x4096.size hinb).WholeWords (EltTy.packing .i8))
theorem k0_off722_inb : ∀ (v4524 : BitVec 32) (k0_hw723 : k0_chk723 v4524), ∀ a, (k0_off722 v4524) a + S32x4096.size a ≤ S4096x4096.size a := fun v4524 k0_hw723 => k0_hw723.1
theorem k0_off722_wordsi8 : ∀ (v4524 : BitVec 32) (k0_hw723 : k0_chk723 v4524), (Rect.unit (s := S4096x4096) (k0_off722 v4524) S32x4096.size (k0_off722_inb v4524 k0_hw723)).WholeWords (EltTy.packing .i8) := fun v4524 k0_hw723 => k0_hw723.2 (k0_off722_inb v4524 k0_hw723)

def k0_off724 (v4534 : BitVec 32) : Fin 2 → Nat :=
  let c128_i32_4873 : BitVec 32 := 128#32
  let v4535 : BitVec 32 := Scalar.muli v4534 c128_i32_4873
  let c32_i32_4874 : BitVec 32 := 32#32
  let v4536 : BitVec 32 := Scalar.addi v4535 c32_i32_4874
  let c0_i32_4883 : BitVec 32 := 0#32
  ![v4536.toNat, 0]

def k0_off725 (v4537 : BitVec 32) : Fin 2 → Nat :=
  let c128_i32_4876 : BitVec 32 := 128#32
  let v4538 : BitVec 32 := Scalar.muli v4537 c128_i32_4876
  let c32_i32_4877 : BitVec 32 := 32#32
  let v4539 : BitVec 32 := Scalar.addi v4538 c32_i32_4877
  let c0_i32_4884 : BitVec 32 := 0#32
  ![v4539.toNat, 0]

def k0_chk726 (v4537 : BitVec 32) : Prop :=
  (∀ a, (k0_off725 v4537) a + S32x4096.size a ≤ S4096x4096.size a) ∧
  (∀ (hinb : ∀ a, (k0_off725 v4537) a + S32x4096.size a ≤ S4096x4096.size a), (Rect.unit (s := S4096x4096) (k0_off725 v4537) S32x4096.size hinb).WholeWords (EltTy.packing .i8))
theorem k0_off725_inb : ∀ (v4537 : BitVec 32) (k0_hw726 : k0_chk726 v4537), ∀ a, (k0_off725 v4537) a + S32x4096.size a ≤ S4096x4096.size a := fun v4537 k0_hw726 => k0_hw726.1
theorem k0_off725_wordsi8 : ∀ (v4537 : BitVec 32) (k0_hw726 : k0_chk726 v4537), (Rect.unit (s := S4096x4096) (k0_off725 v4537) S32x4096.size (k0_off725_inb v4537 k0_hw726)).WholeWords (EltTy.packing .i8) := fun v4537 k0_hw726 => k0_hw726.2 (k0_off725_inb v4537 k0_hw726)

def k0_chk725 (v4534 : BitVec 32) : Prop :=
  (∀ a, (k0_off724 v4534) a + S32x4096.size a ≤ S4096x4096.size a) ∧
  (∀ (hinb : ∀ a, (k0_off724 v4534) a + S32x4096.size a ≤ S4096x4096.size a), (Rect.unit (s := S4096x4096) (k0_off724 v4534) S32x4096.size hinb).WholeWords (EltTy.packing .i8))
theorem k0_off724_inb : ∀ (v4534 : BitVec 32) (k0_hw725 : k0_chk725 v4534), ∀ a, (k0_off724 v4534) a + S32x4096.size a ≤ S4096x4096.size a := fun v4534 k0_hw725 => k0_hw725.1
theorem k0_off724_wordsi8 : ∀ (v4534 : BitVec 32) (k0_hw725 : k0_chk725 v4534), (Rect.unit (s := S4096x4096) (k0_off724 v4534) S32x4096.size (k0_off724_inb v4534 k0_hw725)).WholeWords (EltTy.packing .i8) := fun v4534 k0_hw725 => k0_hw725.2 (k0_off724_inb v4534 k0_hw725)

def k0_off726 (v4544 : BitVec 32) : Fin 2 → Nat :=
  let c128_i32_4886 : BitVec 32 := 128#32
  let v4545 : BitVec 32 := Scalar.muli v4544 c128_i32_4886
  let c32_i32_4887 : BitVec 32 := 32#32
  let v4546 : BitVec 32 := Scalar.addi v4545 c32_i32_4887
  let c0_i32_4896 : BitVec 32 := 0#32
  ![v4546.toNat, 0]

def k0_off727 (v4547 : BitVec 32) : Fin 2 → Nat :=
  let c128_i32_4889 : BitVec 32 := 128#32
  let v4548 : BitVec 32 := Scalar.muli v4547 c128_i32_4889
  let c32_i32_4890 : BitVec 32 := 32#32
  let v4549 : BitVec 32 := Scalar.addi v4548 c32_i32_4890
  let c0_i32_4897 : BitVec 32 := 0#32
  ![v4549.toNat, 0]

def k0_chk728 (v4547 : BitVec 32) : Prop :=
  (∀ a, (k0_off727 v4547) a + S32x4096.size a ≤ S4096x4096.size a) ∧
  (∀ (hinb : ∀ a, (k0_off727 v4547) a + S32x4096.size a ≤ S4096x4096.size a), (Rect.unit (s := S4096x4096) (k0_off727 v4547) S32x4096.size hinb).WholeWords (EltTy.packing .i8))
theorem k0_off727_inb : ∀ (v4547 : BitVec 32) (k0_hw728 : k0_chk728 v4547), ∀ a, (k0_off727 v4547) a + S32x4096.size a ≤ S4096x4096.size a := fun v4547 k0_hw728 => k0_hw728.1
theorem k0_off727_wordsi8 : ∀ (v4547 : BitVec 32) (k0_hw728 : k0_chk728 v4547), (Rect.unit (s := S4096x4096) (k0_off727 v4547) S32x4096.size (k0_off727_inb v4547 k0_hw728)).WholeWords (EltTy.packing .i8) := fun v4547 k0_hw728 => k0_hw728.2 (k0_off727_inb v4547 k0_hw728)

def k0_chk727 (v4544 : BitVec 32) : Prop :=
  (∀ a, (k0_off726 v4544) a + S32x4096.size a ≤ S4096x4096.size a) ∧
  (∀ (hinb : ∀ a, (k0_off726 v4544) a + S32x4096.size a ≤ S4096x4096.size a), (Rect.unit (s := S4096x4096) (k0_off726 v4544) S32x4096.size hinb).WholeWords (EltTy.packing .i8))
theorem k0_off726_inb : ∀ (v4544 : BitVec 32) (k0_hw727 : k0_chk727 v4544), ∀ a, (k0_off726 v4544) a + S32x4096.size a ≤ S4096x4096.size a := fun v4544 k0_hw727 => k0_hw727.1
theorem k0_off726_wordsi8 : ∀ (v4544 : BitVec 32) (k0_hw727 : k0_chk727 v4544), (Rect.unit (s := S4096x4096) (k0_off726 v4544) S32x4096.size (k0_off726_inb v4544 k0_hw727)).WholeWords (EltTy.packing .i8) := fun v4544 k0_hw727 => k0_hw727.2 (k0_off726_inb v4544 k0_hw727)

def k0_off728 (v4554 : BitVec 32) : Fin 2 → Nat :=
  let c128_i32_4899 : BitVec 32 := 128#32
  let v4555 : BitVec 32 := Scalar.muli v4554 c128_i32_4899
  let c64_i32_4900 : BitVec 32 := 64#32
  let v4556 : BitVec 32 := Scalar.addi v4555 c64_i32_4900
  let c0_i32_4909 : BitVec 32 := 0#32
  ![v4556.toNat, 0]

def k0_off729 (v4557 : BitVec 32) : Fin 2 → Nat :=
  let c128_i32_4902 : BitVec 32 := 128#32
  let v4558 : BitVec 32 := Scalar.muli v4557 c128_i32_4902
  let c64_i32_4903 : BitVec 32 := 64#32
  let v4559 : BitVec 32 := Scalar.addi v4558 c64_i32_4903
  let c0_i32_4910 : BitVec 32 := 0#32
  ![v4559.toNat, 0]

def k0_chk730 (v4557 : BitVec 32) : Prop :=
  (∀ a, (k0_off729 v4557) a + S32x4096.size a ≤ S4096x4096.size a) ∧
  (∀ (hinb : ∀ a, (k0_off729 v4557) a + S32x4096.size a ≤ S4096x4096.size a), (Rect.unit (s := S4096x4096) (k0_off729 v4557) S32x4096.size hinb).WholeWords (EltTy.packing .i8))
theorem k0_off729_inb : ∀ (v4557 : BitVec 32) (k0_hw730 : k0_chk730 v4557), ∀ a, (k0_off729 v4557) a + S32x4096.size a ≤ S4096x4096.size a := fun v4557 k0_hw730 => k0_hw730.1
theorem k0_off729_wordsi8 : ∀ (v4557 : BitVec 32) (k0_hw730 : k0_chk730 v4557), (Rect.unit (s := S4096x4096) (k0_off729 v4557) S32x4096.size (k0_off729_inb v4557 k0_hw730)).WholeWords (EltTy.packing .i8) := fun v4557 k0_hw730 => k0_hw730.2 (k0_off729_inb v4557 k0_hw730)

def k0_chk729 (v4554 : BitVec 32) : Prop :=
  (∀ a, (k0_off728 v4554) a + S32x4096.size a ≤ S4096x4096.size a) ∧
  (∀ (hinb : ∀ a, (k0_off728 v4554) a + S32x4096.size a ≤ S4096x4096.size a), (Rect.unit (s := S4096x4096) (k0_off728 v4554) S32x4096.size hinb).WholeWords (EltTy.packing .i8))
theorem k0_off728_inb : ∀ (v4554 : BitVec 32) (k0_hw729 : k0_chk729 v4554), ∀ a, (k0_off728 v4554) a + S32x4096.size a ≤ S4096x4096.size a := fun v4554 k0_hw729 => k0_hw729.1
theorem k0_off728_wordsi8 : ∀ (v4554 : BitVec 32) (k0_hw729 : k0_chk729 v4554), (Rect.unit (s := S4096x4096) (k0_off728 v4554) S32x4096.size (k0_off728_inb v4554 k0_hw729)).WholeWords (EltTy.packing .i8) := fun v4554 k0_hw729 => k0_hw729.2 (k0_off728_inb v4554 k0_hw729)

def k0_off730 (v4564 : BitVec 32) : Fin 2 → Nat :=
  let c128_i32_4912 : BitVec 32 := 128#32
  let v4565 : BitVec 32 := Scalar.muli v4564 c128_i32_4912
  let c64_i32_4913 : BitVec 32 := 64#32
  let v4566 : BitVec 32 := Scalar.addi v4565 c64_i32_4913
  let c0_i32_4922 : BitVec 32 := 0#32
  ![v4566.toNat, 0]

def k0_off731 (v4567 : BitVec 32) : Fin 2 → Nat :=
  let c128_i32_4915 : BitVec 32 := 128#32
  let v4568 : BitVec 32 := Scalar.muli v4567 c128_i32_4915
  let c64_i32_4916 : BitVec 32 := 64#32
  let v4569 : BitVec 32 := Scalar.addi v4568 c64_i32_4916
  let c0_i32_4923 : BitVec 32 := 0#32
  ![v4569.toNat, 0]

def k0_chk732 (v4567 : BitVec 32) : Prop :=
  (∀ a, (k0_off731 v4567) a + S32x4096.size a ≤ S4096x4096.size a) ∧
  (∀ (hinb : ∀ a, (k0_off731 v4567) a + S32x4096.size a ≤ S4096x4096.size a), (Rect.unit (s := S4096x4096) (k0_off731 v4567) S32x4096.size hinb).WholeWords (EltTy.packing .i8))
theorem k0_off731_inb : ∀ (v4567 : BitVec 32) (k0_hw732 : k0_chk732 v4567), ∀ a, (k0_off731 v4567) a + S32x4096.size a ≤ S4096x4096.size a := fun v4567 k0_hw732 => k0_hw732.1
theorem k0_off731_wordsi8 : ∀ (v4567 : BitVec 32) (k0_hw732 : k0_chk732 v4567), (Rect.unit (s := S4096x4096) (k0_off731 v4567) S32x4096.size (k0_off731_inb v4567 k0_hw732)).WholeWords (EltTy.packing .i8) := fun v4567 k0_hw732 => k0_hw732.2 (k0_off731_inb v4567 k0_hw732)

def k0_chk731 (v4564 : BitVec 32) : Prop :=
  (∀ a, (k0_off730 v4564) a + S32x4096.size a ≤ S4096x4096.size a) ∧
  (∀ (hinb : ∀ a, (k0_off730 v4564) a + S32x4096.size a ≤ S4096x4096.size a), (Rect.unit (s := S4096x4096) (k0_off730 v4564) S32x4096.size hinb).WholeWords (EltTy.packing .i8))
theorem k0_off730_inb : ∀ (v4564 : BitVec 32) (k0_hw731 : k0_chk731 v4564), ∀ a, (k0_off730 v4564) a + S32x4096.size a ≤ S4096x4096.size a := fun v4564 k0_hw731 => k0_hw731.1
theorem k0_off730_wordsi8 : ∀ (v4564 : BitVec 32) (k0_hw731 : k0_chk731 v4564), (Rect.unit (s := S4096x4096) (k0_off730 v4564) S32x4096.size (k0_off730_inb v4564 k0_hw731)).WholeWords (EltTy.packing .i8) := fun v4564 k0_hw731 => k0_hw731.2 (k0_off730_inb v4564 k0_hw731)

def k0_off732 (v4574 : BitVec 32) : Fin 2 → Nat :=
  let c128_i32_4925 : BitVec 32 := 128#32
  let v4575 : BitVec 32 := Scalar.muli v4574 c128_i32_4925
  let c96_i32_4926 : BitVec 32 := 96#32
  let v4576 : BitVec 32 := Scalar.addi v4575 c96_i32_4926
  let c0_i32_4935 : BitVec 32 := 0#32
  ![v4576.toNat, 0]

def k0_off733 (v4577 : BitVec 32) : Fin 2 → Nat :=
  let c128_i32_4928 : BitVec 32 := 128#32
  let v4578 : BitVec 32 := Scalar.muli v4577 c128_i32_4928
  let c96_i32_4929 : BitVec 32 := 96#32
  let v4579 : BitVec 32 := Scalar.addi v4578 c96_i32_4929
  let c0_i32_4936 : BitVec 32 := 0#32
  ![v4579.toNat, 0]

def k0_chk734 (v4577 : BitVec 32) : Prop :=
  (∀ a, (k0_off733 v4577) a + S32x4096.size a ≤ S4096x4096.size a) ∧
  (∀ (hinb : ∀ a, (k0_off733 v4577) a + S32x4096.size a ≤ S4096x4096.size a), (Rect.unit (s := S4096x4096) (k0_off733 v4577) S32x4096.size hinb).WholeWords (EltTy.packing .i8))
theorem k0_off733_inb : ∀ (v4577 : BitVec 32) (k0_hw734 : k0_chk734 v4577), ∀ a, (k0_off733 v4577) a + S32x4096.size a ≤ S4096x4096.size a := fun v4577 k0_hw734 => k0_hw734.1
theorem k0_off733_wordsi8 : ∀ (v4577 : BitVec 32) (k0_hw734 : k0_chk734 v4577), (Rect.unit (s := S4096x4096) (k0_off733 v4577) S32x4096.size (k0_off733_inb v4577 k0_hw734)).WholeWords (EltTy.packing .i8) := fun v4577 k0_hw734 => k0_hw734.2 (k0_off733_inb v4577 k0_hw734)

def k0_chk733 (v4574 : BitVec 32) : Prop :=
  (∀ a, (k0_off732 v4574) a + S32x4096.size a ≤ S4096x4096.size a) ∧
  (∀ (hinb : ∀ a, (k0_off732 v4574) a + S32x4096.size a ≤ S4096x4096.size a), (Rect.unit (s := S4096x4096) (k0_off732 v4574) S32x4096.size hinb).WholeWords (EltTy.packing .i8))
theorem k0_off732_inb : ∀ (v4574 : BitVec 32) (k0_hw733 : k0_chk733 v4574), ∀ a, (k0_off732 v4574) a + S32x4096.size a ≤ S4096x4096.size a := fun v4574 k0_hw733 => k0_hw733.1
theorem k0_off732_wordsi8 : ∀ (v4574 : BitVec 32) (k0_hw733 : k0_chk733 v4574), (Rect.unit (s := S4096x4096) (k0_off732 v4574) S32x4096.size (k0_off732_inb v4574 k0_hw733)).WholeWords (EltTy.packing .i8) := fun v4574 k0_hw733 => k0_hw733.2 (k0_off732_inb v4574 k0_hw733)

def k0_off734 (v4584 : BitVec 32) : Fin 2 → Nat :=
  let c128_i32_4938 : BitVec 32 := 128#32
  let v4585 : BitVec 32 := Scalar.muli v4584 c128_i32_4938
  let c96_i32_4939 : BitVec 32 := 96#32
  let v4586 : BitVec 32 := Scalar.addi v4585 c96_i32_4939
  let c0_i32_4948 : BitVec 32 := 0#32
  ![v4586.toNat, 0]

def k0_off735 (v4587 : BitVec 32) : Fin 2 → Nat :=
  let c128_i32_4941 : BitVec 32 := 128#32
  let v4588 : BitVec 32 := Scalar.muli v4587 c128_i32_4941
  let c96_i32_4942 : BitVec 32 := 96#32
  let v4589 : BitVec 32 := Scalar.addi v4588 c96_i32_4942
  let c0_i32_4949 : BitVec 32 := 0#32
  ![v4589.toNat, 0]

def k0_chk736 (v4587 : BitVec 32) : Prop :=
  (∀ a, (k0_off735 v4587) a + S32x4096.size a ≤ S4096x4096.size a) ∧
  (∀ (hinb : ∀ a, (k0_off735 v4587) a + S32x4096.size a ≤ S4096x4096.size a), (Rect.unit (s := S4096x4096) (k0_off735 v4587) S32x4096.size hinb).WholeWords (EltTy.packing .i8))
theorem k0_off735_inb : ∀ (v4587 : BitVec 32) (k0_hw736 : k0_chk736 v4587), ∀ a, (k0_off735 v4587) a + S32x4096.size a ≤ S4096x4096.size a := fun v4587 k0_hw736 => k0_hw736.1
theorem k0_off735_wordsi8 : ∀ (v4587 : BitVec 32) (k0_hw736 : k0_chk736 v4587), (Rect.unit (s := S4096x4096) (k0_off735 v4587) S32x4096.size (k0_off735_inb v4587 k0_hw736)).WholeWords (EltTy.packing .i8) := fun v4587 k0_hw736 => k0_hw736.2 (k0_off735_inb v4587 k0_hw736)

def k0_chk735 (v4584 : BitVec 32) : Prop :=
  (∀ a, (k0_off734 v4584) a + S32x4096.size a ≤ S4096x4096.size a) ∧
  (∀ (hinb : ∀ a, (k0_off734 v4584) a + S32x4096.size a ≤ S4096x4096.size a), (Rect.unit (s := S4096x4096) (k0_off734 v4584) S32x4096.size hinb).WholeWords (EltTy.packing .i8))
theorem k0_off734_inb : ∀ (v4584 : BitVec 32) (k0_hw735 : k0_chk735 v4584), ∀ a, (k0_off734 v4584) a + S32x4096.size a ≤ S4096x4096.size a := fun v4584 k0_hw735 => k0_hw735.1
theorem k0_off734_wordsi8 : ∀ (v4584 : BitVec 32) (k0_hw735 : k0_chk735 v4584), (Rect.unit (s := S4096x4096) (k0_off734 v4584) S32x4096.size (k0_off734_inb v4584 k0_hw735)).WholeWords (EltTy.packing .i8) := fun v4584 k0_hw735 => k0_hw735.2 (k0_off734_inb v4584 k0_hw735)

def k0_off736 (v4594 : BitVec 32) : Fin 2 → Nat :=
  let c128_i32_4951 : BitVec 32 := 128#32
  let v4595 : BitVec 32 := Scalar.muli v4594 c128_i32_4951
  let c0_i32_4952 : BitVec 32 := 0#32
  let v4596 : BitVec 32 := Scalar.addi v4595 c0_i32_4952
  let c0_i32_4961 : BitVec 32 := 0#32
  ![v4596.toNat, 0]

def k0_off737 (v4597 : BitVec 32) : Fin 2 → Nat :=
  let c128_i32_4954 : BitVec 32 := 128#32
  let v4598 : BitVec 32 := Scalar.muli v4597 c128_i32_4954
  let c0_i32_4955 : BitVec 32 := 0#32
  let v4599 : BitVec 32 := Scalar.addi v4598 c0_i32_4955
  let c0_i32_4962 : BitVec 32 := 0#32
  ![v4599.toNat, 0]

def k0_chk738 (v4597 : BitVec 32) : Prop :=
  (∀ a, (k0_off737 v4597) a + S32x4096.size a ≤ S4096x4096.size a) ∧
  (∀ (hinb : ∀ a, (k0_off737 v4597) a + S32x4096.size a ≤ S4096x4096.size a), (Rect.unit (s := S4096x4096) (k0_off737 v4597) S32x4096.size hinb).WholeWords (EltTy.packing .i8))
theorem k0_off737_inb : ∀ (v4597 : BitVec 32) (k0_hw738 : k0_chk738 v4597), ∀ a, (k0_off737 v4597) a + S32x4096.size a ≤ S4096x4096.size a := fun v4597 k0_hw738 => k0_hw738.1
theorem k0_off737_wordsi8 : ∀ (v4597 : BitVec 32) (k0_hw738 : k0_chk738 v4597), (Rect.unit (s := S4096x4096) (k0_off737 v4597) S32x4096.size (k0_off737_inb v4597 k0_hw738)).WholeWords (EltTy.packing .i8) := fun v4597 k0_hw738 => k0_hw738.2 (k0_off737_inb v4597 k0_hw738)

def k0_chk737 (v4594 : BitVec 32) : Prop :=
  (∀ a, (k0_off736 v4594) a + S32x4096.size a ≤ S4096x4096.size a) ∧
  (∀ (hinb : ∀ a, (k0_off736 v4594) a + S32x4096.size a ≤ S4096x4096.size a), (Rect.unit (s := S4096x4096) (k0_off736 v4594) S32x4096.size hinb).WholeWords (EltTy.packing .i8))
theorem k0_off736_inb : ∀ (v4594 : BitVec 32) (k0_hw737 : k0_chk737 v4594), ∀ a, (k0_off736 v4594) a + S32x4096.size a ≤ S4096x4096.size a := fun v4594 k0_hw737 => k0_hw737.1
theorem k0_off736_wordsi8 : ∀ (v4594 : BitVec 32) (k0_hw737 : k0_chk737 v4594), (Rect.unit (s := S4096x4096) (k0_off736 v4594) S32x4096.size (k0_off736_inb v4594 k0_hw737)).WholeWords (EltTy.packing .i8) := fun v4594 k0_hw737 => k0_hw737.2 (k0_off736_inb v4594 k0_hw737)

def k0_off738 (v4604 : BitVec 32) : Fin 2 → Nat :=
  let c128_i32_4964 : BitVec 32 := 128#32
  let v4605 : BitVec 32 := Scalar.muli v4604 c128_i32_4964
  let c0_i32_4965 : BitVec 32 := 0#32
  let v4606 : BitVec 32 := Scalar.addi v4605 c0_i32_4965
  let c0_i32_4974 : BitVec 32 := 0#32
  ![v4606.toNat, 0]

def k0_off739 (v4607 : BitVec 32) : Fin 2 → Nat :=
  let c128_i32_4967 : BitVec 32 := 128#32
  let v4608 : BitVec 32 := Scalar.muli v4607 c128_i32_4967
  let c0_i32_4968 : BitVec 32 := 0#32
  let v4609 : BitVec 32 := Scalar.addi v4608 c0_i32_4968
  let c0_i32_4975 : BitVec 32 := 0#32
  ![v4609.toNat, 0]

def k0_chk740 (v4607 : BitVec 32) : Prop :=
  (∀ a, (k0_off739 v4607) a + S32x4096.size a ≤ S4096x4096.size a) ∧
  (∀ (hinb : ∀ a, (k0_off739 v4607) a + S32x4096.size a ≤ S4096x4096.size a), (Rect.unit (s := S4096x4096) (k0_off739 v4607) S32x4096.size hinb).WholeWords (EltTy.packing .i8))
theorem k0_off739_inb : ∀ (v4607 : BitVec 32) (k0_hw740 : k0_chk740 v4607), ∀ a, (k0_off739 v4607) a + S32x4096.size a ≤ S4096x4096.size a := fun v4607 k0_hw740 => k0_hw740.1
theorem k0_off739_wordsi8 : ∀ (v4607 : BitVec 32) (k0_hw740 : k0_chk740 v4607), (Rect.unit (s := S4096x4096) (k0_off739 v4607) S32x4096.size (k0_off739_inb v4607 k0_hw740)).WholeWords (EltTy.packing .i8) := fun v4607 k0_hw740 => k0_hw740.2 (k0_off739_inb v4607 k0_hw740)

def k0_chk739 (v4604 : BitVec 32) : Prop :=
  (∀ a, (k0_off738 v4604) a + S32x4096.size a ≤ S4096x4096.size a) ∧
  (∀ (hinb : ∀ a, (k0_off738 v4604) a + S32x4096.size a ≤ S4096x4096.size a), (Rect.unit (s := S4096x4096) (k0_off738 v4604) S32x4096.size hinb).WholeWords (EltTy.packing .i8))
theorem k0_off738_inb : ∀ (v4604 : BitVec 32) (k0_hw739 : k0_chk739 v4604), ∀ a, (k0_off738 v4604) a + S32x4096.size a ≤ S4096x4096.size a := fun v4604 k0_hw739 => k0_hw739.1
theorem k0_off738_wordsi8 : ∀ (v4604 : BitVec 32) (k0_hw739 : k0_chk739 v4604), (Rect.unit (s := S4096x4096) (k0_off738 v4604) S32x4096.size (k0_off738_inb v4604 k0_hw739)).WholeWords (EltTy.packing .i8) := fun v4604 k0_hw739 => k0_hw739.2 (k0_off738_inb v4604 k0_hw739)

def k0_off740 (v4614 : BitVec 32) : Fin 2 → Nat :=
  let c128_i32_4977 : BitVec 32 := 128#32
  let v4615 : BitVec 32 := Scalar.muli v4614 c128_i32_4977
  let c32_i32_4978 : BitVec 32 := 32#32
  let v4616 : BitVec 32 := Scalar.addi v4615 c32_i32_4978
  let c0_i32_4987 : BitVec 32 := 0#32
  ![v4616.toNat, 0]

def k0_off741 (v4617 : BitVec 32) : Fin 2 → Nat :=
  let c128_i32_4980 : BitVec 32 := 128#32
  let v4618 : BitVec 32 := Scalar.muli v4617 c128_i32_4980
  let c32_i32_4981 : BitVec 32 := 32#32
  let v4619 : BitVec 32 := Scalar.addi v4618 c32_i32_4981
  let c0_i32_4988 : BitVec 32 := 0#32
  ![v4619.toNat, 0]

def k0_chk742 (v4617 : BitVec 32) : Prop :=
  (∀ a, (k0_off741 v4617) a + S32x4096.size a ≤ S4096x4096.size a) ∧
  (∀ (hinb : ∀ a, (k0_off741 v4617) a + S32x4096.size a ≤ S4096x4096.size a), (Rect.unit (s := S4096x4096) (k0_off741 v4617) S32x4096.size hinb).WholeWords (EltTy.packing .i8))
theorem k0_off741_inb : ∀ (v4617 : BitVec 32) (k0_hw742 : k0_chk742 v4617), ∀ a, (k0_off741 v4617) a + S32x4096.size a ≤ S4096x4096.size a := fun v4617 k0_hw742 => k0_hw742.1
theorem k0_off741_wordsi8 : ∀ (v4617 : BitVec 32) (k0_hw742 : k0_chk742 v4617), (Rect.unit (s := S4096x4096) (k0_off741 v4617) S32x4096.size (k0_off741_inb v4617 k0_hw742)).WholeWords (EltTy.packing .i8) := fun v4617 k0_hw742 => k0_hw742.2 (k0_off741_inb v4617 k0_hw742)

def k0_chk741 (v4614 : BitVec 32) : Prop :=
  (∀ a, (k0_off740 v4614) a + S32x4096.size a ≤ S4096x4096.size a) ∧
  (∀ (hinb : ∀ a, (k0_off740 v4614) a + S32x4096.size a ≤ S4096x4096.size a), (Rect.unit (s := S4096x4096) (k0_off740 v4614) S32x4096.size hinb).WholeWords (EltTy.packing .i8))
theorem k0_off740_inb : ∀ (v4614 : BitVec 32) (k0_hw741 : k0_chk741 v4614), ∀ a, (k0_off740 v4614) a + S32x4096.size a ≤ S4096x4096.size a := fun v4614 k0_hw741 => k0_hw741.1
theorem k0_off740_wordsi8 : ∀ (v4614 : BitVec 32) (k0_hw741 : k0_chk741 v4614), (Rect.unit (s := S4096x4096) (k0_off740 v4614) S32x4096.size (k0_off740_inb v4614 k0_hw741)).WholeWords (EltTy.packing .i8) := fun v4614 k0_hw741 => k0_hw741.2 (k0_off740_inb v4614 k0_hw741)

def k0_off742 (v4624 : BitVec 32) : Fin 2 → Nat :=
  let c128_i32_4990 : BitVec 32 := 128#32
  let v4625 : BitVec 32 := Scalar.muli v4624 c128_i32_4990
  let c32_i32_4991 : BitVec 32 := 32#32
  let v4626 : BitVec 32 := Scalar.addi v4625 c32_i32_4991
  let c0_i32_5000 : BitVec 32 := 0#32
  ![v4626.toNat, 0]

def k0_off743 (v4627 : BitVec 32) : Fin 2 → Nat :=
  let c128_i32_4993 : BitVec 32 := 128#32
  let v4628 : BitVec 32 := Scalar.muli v4627 c128_i32_4993
  let c32_i32_4994 : BitVec 32 := 32#32
  let v4629 : BitVec 32 := Scalar.addi v4628 c32_i32_4994
  let c0_i32_5001 : BitVec 32 := 0#32
  ![v4629.toNat, 0]

def k0_chk744 (v4627 : BitVec 32) : Prop :=
  (∀ a, (k0_off743 v4627) a + S32x4096.size a ≤ S4096x4096.size a) ∧
  (∀ (hinb : ∀ a, (k0_off743 v4627) a + S32x4096.size a ≤ S4096x4096.size a), (Rect.unit (s := S4096x4096) (k0_off743 v4627) S32x4096.size hinb).WholeWords (EltTy.packing .i8))
theorem k0_off743_inb : ∀ (v4627 : BitVec 32) (k0_hw744 : k0_chk744 v4627), ∀ a, (k0_off743 v4627) a + S32x4096.size a ≤ S4096x4096.size a := fun v4627 k0_hw744 => k0_hw744.1
theorem k0_off743_wordsi8 : ∀ (v4627 : BitVec 32) (k0_hw744 : k0_chk744 v4627), (Rect.unit (s := S4096x4096) (k0_off743 v4627) S32x4096.size (k0_off743_inb v4627 k0_hw744)).WholeWords (EltTy.packing .i8) := fun v4627 k0_hw744 => k0_hw744.2 (k0_off743_inb v4627 k0_hw744)

def k0_chk743 (v4624 : BitVec 32) : Prop :=
  (∀ a, (k0_off742 v4624) a + S32x4096.size a ≤ S4096x4096.size a) ∧
  (∀ (hinb : ∀ a, (k0_off742 v4624) a + S32x4096.size a ≤ S4096x4096.size a), (Rect.unit (s := S4096x4096) (k0_off742 v4624) S32x4096.size hinb).WholeWords (EltTy.packing .i8))
theorem k0_off742_inb : ∀ (v4624 : BitVec 32) (k0_hw743 : k0_chk743 v4624), ∀ a, (k0_off742 v4624) a + S32x4096.size a ≤ S4096x4096.size a := fun v4624 k0_hw743 => k0_hw743.1
theorem k0_off742_wordsi8 : ∀ (v4624 : BitVec 32) (k0_hw743 : k0_chk743 v4624), (Rect.unit (s := S4096x4096) (k0_off742 v4624) S32x4096.size (k0_off742_inb v4624 k0_hw743)).WholeWords (EltTy.packing .i8) := fun v4624 k0_hw743 => k0_hw743.2 (k0_off742_inb v4624 k0_hw743)

def k0_off744 (v4634 : BitVec 32) : Fin 2 → Nat :=
  let c128_i32_5003 : BitVec 32 := 128#32
  let v4635 : BitVec 32 := Scalar.muli v4634 c128_i32_5003
  let c64_i32_5004 : BitVec 32 := 64#32
  let v4636 : BitVec 32 := Scalar.addi v4635 c64_i32_5004
  let c0_i32_5013 : BitVec 32 := 0#32
  ![v4636.toNat, 0]

def k0_off745 (v4637 : BitVec 32) : Fin 2 → Nat :=
  let c128_i32_5006 : BitVec 32 := 128#32
  let v4638 : BitVec 32 := Scalar.muli v4637 c128_i32_5006
  let c64_i32_5007 : BitVec 32 := 64#32
  let v4639 : BitVec 32 := Scalar.addi v4638 c64_i32_5007
  let c0_i32_5014 : BitVec 32 := 0#32
  ![v4639.toNat, 0]

def k0_chk746 (v4637 : BitVec 32) : Prop :=
  (∀ a, (k0_off745 v4637) a + S32x4096.size a ≤ S4096x4096.size a) ∧
  (∀ (hinb : ∀ a, (k0_off745 v4637) a + S32x4096.size a ≤ S4096x4096.size a), (Rect.unit (s := S4096x4096) (k0_off745 v4637) S32x4096.size hinb).WholeWords (EltTy.packing .i8))
theorem k0_off745_inb : ∀ (v4637 : BitVec 32) (k0_hw746 : k0_chk746 v4637), ∀ a, (k0_off745 v4637) a + S32x4096.size a ≤ S4096x4096.size a := fun v4637 k0_hw746 => k0_hw746.1
theorem k0_off745_wordsi8 : ∀ (v4637 : BitVec 32) (k0_hw746 : k0_chk746 v4637), (Rect.unit (s := S4096x4096) (k0_off745 v4637) S32x4096.size (k0_off745_inb v4637 k0_hw746)).WholeWords (EltTy.packing .i8) := fun v4637 k0_hw746 => k0_hw746.2 (k0_off745_inb v4637 k0_hw746)

def k0_chk745 (v4634 : BitVec 32) : Prop :=
  (∀ a, (k0_off744 v4634) a + S32x4096.size a ≤ S4096x4096.size a) ∧
  (∀ (hinb : ∀ a, (k0_off744 v4634) a + S32x4096.size a ≤ S4096x4096.size a), (Rect.unit (s := S4096x4096) (k0_off744 v4634) S32x4096.size hinb).WholeWords (EltTy.packing .i8))
theorem k0_off744_inb : ∀ (v4634 : BitVec 32) (k0_hw745 : k0_chk745 v4634), ∀ a, (k0_off744 v4634) a + S32x4096.size a ≤ S4096x4096.size a := fun v4634 k0_hw745 => k0_hw745.1
theorem k0_off744_wordsi8 : ∀ (v4634 : BitVec 32) (k0_hw745 : k0_chk745 v4634), (Rect.unit (s := S4096x4096) (k0_off744 v4634) S32x4096.size (k0_off744_inb v4634 k0_hw745)).WholeWords (EltTy.packing .i8) := fun v4634 k0_hw745 => k0_hw745.2 (k0_off744_inb v4634 k0_hw745)

def k0_off746 (v4644 : BitVec 32) : Fin 2 → Nat :=
  let c128_i32_5016 : BitVec 32 := 128#32
  let v4645 : BitVec 32 := Scalar.muli v4644 c128_i32_5016
  let c64_i32_5017 : BitVec 32 := 64#32
  let v4646 : BitVec 32 := Scalar.addi v4645 c64_i32_5017
  let c0_i32_5026 : BitVec 32 := 0#32
  ![v4646.toNat, 0]

def k0_off747 (v4647 : BitVec 32) : Fin 2 → Nat :=
  let c128_i32_5019 : BitVec 32 := 128#32
  let v4648 : BitVec 32 := Scalar.muli v4647 c128_i32_5019
  let c64_i32_5020 : BitVec 32 := 64#32
  let v4649 : BitVec 32 := Scalar.addi v4648 c64_i32_5020
  let c0_i32_5027 : BitVec 32 := 0#32
  ![v4649.toNat, 0]

def k0_chk748 (v4647 : BitVec 32) : Prop :=
  (∀ a, (k0_off747 v4647) a + S32x4096.size a ≤ S4096x4096.size a) ∧
  (∀ (hinb : ∀ a, (k0_off747 v4647) a + S32x4096.size a ≤ S4096x4096.size a), (Rect.unit (s := S4096x4096) (k0_off747 v4647) S32x4096.size hinb).WholeWords (EltTy.packing .i8))
theorem k0_off747_inb : ∀ (v4647 : BitVec 32) (k0_hw748 : k0_chk748 v4647), ∀ a, (k0_off747 v4647) a + S32x4096.size a ≤ S4096x4096.size a := fun v4647 k0_hw748 => k0_hw748.1
theorem k0_off747_wordsi8 : ∀ (v4647 : BitVec 32) (k0_hw748 : k0_chk748 v4647), (Rect.unit (s := S4096x4096) (k0_off747 v4647) S32x4096.size (k0_off747_inb v4647 k0_hw748)).WholeWords (EltTy.packing .i8) := fun v4647 k0_hw748 => k0_hw748.2 (k0_off747_inb v4647 k0_hw748)

def k0_chk747 (v4644 : BitVec 32) : Prop :=
  (∀ a, (k0_off746 v4644) a + S32x4096.size a ≤ S4096x4096.size a) ∧
  (∀ (hinb : ∀ a, (k0_off746 v4644) a + S32x4096.size a ≤ S4096x4096.size a), (Rect.unit (s := S4096x4096) (k0_off746 v4644) S32x4096.size hinb).WholeWords (EltTy.packing .i8))
theorem k0_off746_inb : ∀ (v4644 : BitVec 32) (k0_hw747 : k0_chk747 v4644), ∀ a, (k0_off746 v4644) a + S32x4096.size a ≤ S4096x4096.size a := fun v4644 k0_hw747 => k0_hw747.1
theorem k0_off746_wordsi8 : ∀ (v4644 : BitVec 32) (k0_hw747 : k0_chk747 v4644), (Rect.unit (s := S4096x4096) (k0_off746 v4644) S32x4096.size (k0_off746_inb v4644 k0_hw747)).WholeWords (EltTy.packing .i8) := fun v4644 k0_hw747 => k0_hw747.2 (k0_off746_inb v4644 k0_hw747)

def k0_off748 (v4654 : BitVec 32) : Fin 2 → Nat :=
  let c128_i32_5029 : BitVec 32 := 128#32
  let v4655 : BitVec 32 := Scalar.muli v4654 c128_i32_5029
  let c96_i32_5030 : BitVec 32 := 96#32
  let v4656 : BitVec 32 := Scalar.addi v4655 c96_i32_5030
  let c0_i32_5039 : BitVec 32 := 0#32
  ![v4656.toNat, 0]

def k0_off749 (v4657 : BitVec 32) : Fin 2 → Nat :=
  let c128_i32_5032 : BitVec 32 := 128#32
  let v4658 : BitVec 32 := Scalar.muli v4657 c128_i32_5032
  let c96_i32_5033 : BitVec 32 := 96#32
  let v4659 : BitVec 32 := Scalar.addi v4658 c96_i32_5033
  let c0_i32_5040 : BitVec 32 := 0#32
  ![v4659.toNat, 0]

def k0_chk750 (v4657 : BitVec 32) : Prop :=
  (∀ a, (k0_off749 v4657) a + S32x4096.size a ≤ S4096x4096.size a) ∧
  (∀ (hinb : ∀ a, (k0_off749 v4657) a + S32x4096.size a ≤ S4096x4096.size a), (Rect.unit (s := S4096x4096) (k0_off749 v4657) S32x4096.size hinb).WholeWords (EltTy.packing .i8))
theorem k0_off749_inb : ∀ (v4657 : BitVec 32) (k0_hw750 : k0_chk750 v4657), ∀ a, (k0_off749 v4657) a + S32x4096.size a ≤ S4096x4096.size a := fun v4657 k0_hw750 => k0_hw750.1
theorem k0_off749_wordsi8 : ∀ (v4657 : BitVec 32) (k0_hw750 : k0_chk750 v4657), (Rect.unit (s := S4096x4096) (k0_off749 v4657) S32x4096.size (k0_off749_inb v4657 k0_hw750)).WholeWords (EltTy.packing .i8) := fun v4657 k0_hw750 => k0_hw750.2 (k0_off749_inb v4657 k0_hw750)

def k0_chk749 (v4654 : BitVec 32) : Prop :=
  (∀ a, (k0_off748 v4654) a + S32x4096.size a ≤ S4096x4096.size a) ∧
  (∀ (hinb : ∀ a, (k0_off748 v4654) a + S32x4096.size a ≤ S4096x4096.size a), (Rect.unit (s := S4096x4096) (k0_off748 v4654) S32x4096.size hinb).WholeWords (EltTy.packing .i8))
theorem k0_off748_inb : ∀ (v4654 : BitVec 32) (k0_hw749 : k0_chk749 v4654), ∀ a, (k0_off748 v4654) a + S32x4096.size a ≤ S4096x4096.size a := fun v4654 k0_hw749 => k0_hw749.1
theorem k0_off748_wordsi8 : ∀ (v4654 : BitVec 32) (k0_hw749 : k0_chk749 v4654), (Rect.unit (s := S4096x4096) (k0_off748 v4654) S32x4096.size (k0_off748_inb v4654 k0_hw749)).WholeWords (EltTy.packing .i8) := fun v4654 k0_hw749 => k0_hw749.2 (k0_off748_inb v4654 k0_hw749)

def k0_off750 (v4664 : BitVec 32) : Fin 2 → Nat :=
  let c128_i32_5042 : BitVec 32 := 128#32
  let v4665 : BitVec 32 := Scalar.muli v4664 c128_i32_5042
  let c96_i32_5043 : BitVec 32 := 96#32
  let v4666 : BitVec 32 := Scalar.addi v4665 c96_i32_5043
  let c0_i32_5052 : BitVec 32 := 0#32
  ![v4666.toNat, 0]

def k0_off751 (v4667 : BitVec 32) : Fin 2 → Nat :=
  let c128_i32_5045 : BitVec 32 := 128#32
  let v4668 : BitVec 32 := Scalar.muli v4667 c128_i32_5045
  let c96_i32_5046 : BitVec 32 := 96#32
  let v4669 : BitVec 32 := Scalar.addi v4668 c96_i32_5046
  let c0_i32_5053 : BitVec 32 := 0#32
  ![v4669.toNat, 0]

def k0_chk752 (v4667 : BitVec 32) : Prop :=
  (∀ a, (k0_off751 v4667) a + S32x4096.size a ≤ S4096x4096.size a) ∧
  (∀ (hinb : ∀ a, (k0_off751 v4667) a + S32x4096.size a ≤ S4096x4096.size a), (Rect.unit (s := S4096x4096) (k0_off751 v4667) S32x4096.size hinb).WholeWords (EltTy.packing .i8))
theorem k0_off751_inb : ∀ (v4667 : BitVec 32) (k0_hw752 : k0_chk752 v4667), ∀ a, (k0_off751 v4667) a + S32x4096.size a ≤ S4096x4096.size a := fun v4667 k0_hw752 => k0_hw752.1
theorem k0_off751_wordsi8 : ∀ (v4667 : BitVec 32) (k0_hw752 : k0_chk752 v4667), (Rect.unit (s := S4096x4096) (k0_off751 v4667) S32x4096.size (k0_off751_inb v4667 k0_hw752)).WholeWords (EltTy.packing .i8) := fun v4667 k0_hw752 => k0_hw752.2 (k0_off751_inb v4667 k0_hw752)

def k0_chk751 (v4664 : BitVec 32) : Prop :=
  (∀ a, (k0_off750 v4664) a + S32x4096.size a ≤ S4096x4096.size a) ∧
  (∀ (hinb : ∀ a, (k0_off750 v4664) a + S32x4096.size a ≤ S4096x4096.size a), (Rect.unit (s := S4096x4096) (k0_off750 v4664) S32x4096.size hinb).WholeWords (EltTy.packing .i8))
theorem k0_off750_inb : ∀ (v4664 : BitVec 32) (k0_hw751 : k0_chk751 v4664), ∀ a, (k0_off750 v4664) a + S32x4096.size a ≤ S4096x4096.size a := fun v4664 k0_hw751 => k0_hw751.1
theorem k0_off750_wordsi8 : ∀ (v4664 : BitVec 32) (k0_hw751 : k0_chk751 v4664), (Rect.unit (s := S4096x4096) (k0_off750 v4664) S32x4096.size (k0_off750_inb v4664 k0_hw751)).WholeWords (EltTy.packing .i8) := fun v4664 k0_hw751 => k0_hw751.2 (k0_off750_inb v4664 k0_hw751)

def k0_off752 (v4674 : BitVec 32) : Fin 2 → Nat :=
  let c128_i32_5055 : BitVec 32 := 128#32
  let v4675 : BitVec 32 := Scalar.muli v4674 c128_i32_5055
  let c0_i32_5056 : BitVec 32 := 0#32
  let v4676 : BitVec 32 := Scalar.addi v4675 c0_i32_5056
  let c0_i32_5065 : BitVec 32 := 0#32
  ![v4676.toNat, 0]

def k0_off753 (v4677 : BitVec 32) : Fin 2 → Nat :=
  let c128_i32_5058 : BitVec 32 := 128#32
  let v4678 : BitVec 32 := Scalar.muli v4677 c128_i32_5058
  let c0_i32_5059 : BitVec 32 := 0#32
  let v4679 : BitVec 32 := Scalar.addi v4678 c0_i32_5059
  let c0_i32_5066 : BitVec 32 := 0#32
  ![v4679.toNat, 0]

def k0_chk754 (v4677 : BitVec 32) : Prop :=
  (∀ a, (k0_off753 v4677) a + S32x4096.size a ≤ S4096x4096.size a) ∧
  (∀ (hinb : ∀ a, (k0_off753 v4677) a + S32x4096.size a ≤ S4096x4096.size a), (Rect.unit (s := S4096x4096) (k0_off753 v4677) S32x4096.size hinb).WholeWords (EltTy.packing .i8))
theorem k0_off753_inb : ∀ (v4677 : BitVec 32) (k0_hw754 : k0_chk754 v4677), ∀ a, (k0_off753 v4677) a + S32x4096.size a ≤ S4096x4096.size a := fun v4677 k0_hw754 => k0_hw754.1
theorem k0_off753_wordsi8 : ∀ (v4677 : BitVec 32) (k0_hw754 : k0_chk754 v4677), (Rect.unit (s := S4096x4096) (k0_off753 v4677) S32x4096.size (k0_off753_inb v4677 k0_hw754)).WholeWords (EltTy.packing .i8) := fun v4677 k0_hw754 => k0_hw754.2 (k0_off753_inb v4677 k0_hw754)

def k0_chk753 (v4674 : BitVec 32) : Prop :=
  (∀ a, (k0_off752 v4674) a + S32x4096.size a ≤ S4096x4096.size a) ∧
  (∀ (hinb : ∀ a, (k0_off752 v4674) a + S32x4096.size a ≤ S4096x4096.size a), (Rect.unit (s := S4096x4096) (k0_off752 v4674) S32x4096.size hinb).WholeWords (EltTy.packing .i8))
theorem k0_off752_inb : ∀ (v4674 : BitVec 32) (k0_hw753 : k0_chk753 v4674), ∀ a, (k0_off752 v4674) a + S32x4096.size a ≤ S4096x4096.size a := fun v4674 k0_hw753 => k0_hw753.1
theorem k0_off752_wordsi8 : ∀ (v4674 : BitVec 32) (k0_hw753 : k0_chk753 v4674), (Rect.unit (s := S4096x4096) (k0_off752 v4674) S32x4096.size (k0_off752_inb v4674 k0_hw753)).WholeWords (EltTy.packing .i8) := fun v4674 k0_hw753 => k0_hw753.2 (k0_off752_inb v4674 k0_hw753)

def k0_off754 (v4684 : BitVec 32) : Fin 2 → Nat :=
  let c128_i32_5068 : BitVec 32 := 128#32
  let v4685 : BitVec 32 := Scalar.muli v4684 c128_i32_5068
  let c0_i32_5069 : BitVec 32 := 0#32
  let v4686 : BitVec 32 := Scalar.addi v4685 c0_i32_5069
  let c0_i32_5078 : BitVec 32 := 0#32
  ![v4686.toNat, 0]

def k0_off755 (v4687 : BitVec 32) : Fin 2 → Nat :=
  let c128_i32_5071 : BitVec 32 := 128#32
  let v4688 : BitVec 32 := Scalar.muli v4687 c128_i32_5071
  let c0_i32_5072 : BitVec 32 := 0#32
  let v4689 : BitVec 32 := Scalar.addi v4688 c0_i32_5072
  let c0_i32_5079 : BitVec 32 := 0#32
  ![v4689.toNat, 0]

def k0_chk756 (v4687 : BitVec 32) : Prop :=
  (∀ a, (k0_off755 v4687) a + S32x4096.size a ≤ S4096x4096.size a) ∧
  (∀ (hinb : ∀ a, (k0_off755 v4687) a + S32x4096.size a ≤ S4096x4096.size a), (Rect.unit (s := S4096x4096) (k0_off755 v4687) S32x4096.size hinb).WholeWords (EltTy.packing .i8))
theorem k0_off755_inb : ∀ (v4687 : BitVec 32) (k0_hw756 : k0_chk756 v4687), ∀ a, (k0_off755 v4687) a + S32x4096.size a ≤ S4096x4096.size a := fun v4687 k0_hw756 => k0_hw756.1
theorem k0_off755_wordsi8 : ∀ (v4687 : BitVec 32) (k0_hw756 : k0_chk756 v4687), (Rect.unit (s := S4096x4096) (k0_off755 v4687) S32x4096.size (k0_off755_inb v4687 k0_hw756)).WholeWords (EltTy.packing .i8) := fun v4687 k0_hw756 => k0_hw756.2 (k0_off755_inb v4687 k0_hw756)

def k0_chk755 (v4684 : BitVec 32) : Prop :=
  (∀ a, (k0_off754 v4684) a + S32x4096.size a ≤ S4096x4096.size a) ∧
  (∀ (hinb : ∀ a, (k0_off754 v4684) a + S32x4096.size a ≤ S4096x4096.size a), (Rect.unit (s := S4096x4096) (k0_off754 v4684) S32x4096.size hinb).WholeWords (EltTy.packing .i8))
theorem k0_off754_inb : ∀ (v4684 : BitVec 32) (k0_hw755 : k0_chk755 v4684), ∀ a, (k0_off754 v4684) a + S32x4096.size a ≤ S4096x4096.size a := fun v4684 k0_hw755 => k0_hw755.1
theorem k0_off754_wordsi8 : ∀ (v4684 : BitVec 32) (k0_hw755 : k0_chk755 v4684), (Rect.unit (s := S4096x4096) (k0_off754 v4684) S32x4096.size (k0_off754_inb v4684 k0_hw755)).WholeWords (EltTy.packing .i8) := fun v4684 k0_hw755 => k0_hw755.2 (k0_off754_inb v4684 k0_hw755)

def k0_off756 (v4694 : BitVec 32) : Fin 2 → Nat :=
  let c128_i32_5081 : BitVec 32 := 128#32
  let v4695 : BitVec 32 := Scalar.muli v4694 c128_i32_5081
  let c32_i32_5082 : BitVec 32 := 32#32
  let v4696 : BitVec 32 := Scalar.addi v4695 c32_i32_5082
  let c0_i32_5091 : BitVec 32 := 0#32
  ![v4696.toNat, 0]

def k0_off757 (v4697 : BitVec 32) : Fin 2 → Nat :=
  let c128_i32_5084 : BitVec 32 := 128#32
  let v4698 : BitVec 32 := Scalar.muli v4697 c128_i32_5084
  let c32_i32_5085 : BitVec 32 := 32#32
  let v4699 : BitVec 32 := Scalar.addi v4698 c32_i32_5085
  let c0_i32_5092 : BitVec 32 := 0#32
  ![v4699.toNat, 0]

def k0_chk758 (v4697 : BitVec 32) : Prop :=
  (∀ a, (k0_off757 v4697) a + S32x4096.size a ≤ S4096x4096.size a) ∧
  (∀ (hinb : ∀ a, (k0_off757 v4697) a + S32x4096.size a ≤ S4096x4096.size a), (Rect.unit (s := S4096x4096) (k0_off757 v4697) S32x4096.size hinb).WholeWords (EltTy.packing .i8))
theorem k0_off757_inb : ∀ (v4697 : BitVec 32) (k0_hw758 : k0_chk758 v4697), ∀ a, (k0_off757 v4697) a + S32x4096.size a ≤ S4096x4096.size a := fun v4697 k0_hw758 => k0_hw758.1
theorem k0_off757_wordsi8 : ∀ (v4697 : BitVec 32) (k0_hw758 : k0_chk758 v4697), (Rect.unit (s := S4096x4096) (k0_off757 v4697) S32x4096.size (k0_off757_inb v4697 k0_hw758)).WholeWords (EltTy.packing .i8) := fun v4697 k0_hw758 => k0_hw758.2 (k0_off757_inb v4697 k0_hw758)

def k0_chk757 (v4694 : BitVec 32) : Prop :=
  (∀ a, (k0_off756 v4694) a + S32x4096.size a ≤ S4096x4096.size a) ∧
  (∀ (hinb : ∀ a, (k0_off756 v4694) a + S32x4096.size a ≤ S4096x4096.size a), (Rect.unit (s := S4096x4096) (k0_off756 v4694) S32x4096.size hinb).WholeWords (EltTy.packing .i8))
theorem k0_off756_inb : ∀ (v4694 : BitVec 32) (k0_hw757 : k0_chk757 v4694), ∀ a, (k0_off756 v4694) a + S32x4096.size a ≤ S4096x4096.size a := fun v4694 k0_hw757 => k0_hw757.1
theorem k0_off756_wordsi8 : ∀ (v4694 : BitVec 32) (k0_hw757 : k0_chk757 v4694), (Rect.unit (s := S4096x4096) (k0_off756 v4694) S32x4096.size (k0_off756_inb v4694 k0_hw757)).WholeWords (EltTy.packing .i8) := fun v4694 k0_hw757 => k0_hw757.2 (k0_off756_inb v4694 k0_hw757)

def k0_off758 (v4704 : BitVec 32) : Fin 2 → Nat :=
  let c128_i32_5094 : BitVec 32 := 128#32
  let v4705 : BitVec 32 := Scalar.muli v4704 c128_i32_5094
  let c32_i32_5095 : BitVec 32 := 32#32
  let v4706 : BitVec 32 := Scalar.addi v4705 c32_i32_5095
  let c0_i32_5104 : BitVec 32 := 0#32
  ![v4706.toNat, 0]

def k0_off759 (v4707 : BitVec 32) : Fin 2 → Nat :=
  let c128_i32_5097 : BitVec 32 := 128#32
  let v4708 : BitVec 32 := Scalar.muli v4707 c128_i32_5097
  let c32_i32_5098 : BitVec 32 := 32#32
  let v4709 : BitVec 32 := Scalar.addi v4708 c32_i32_5098
  let c0_i32_5105 : BitVec 32 := 0#32
  ![v4709.toNat, 0]

def k0_chk760 (v4707 : BitVec 32) : Prop :=
  (∀ a, (k0_off759 v4707) a + S32x4096.size a ≤ S4096x4096.size a) ∧
  (∀ (hinb : ∀ a, (k0_off759 v4707) a + S32x4096.size a ≤ S4096x4096.size a), (Rect.unit (s := S4096x4096) (k0_off759 v4707) S32x4096.size hinb).WholeWords (EltTy.packing .i8))
theorem k0_off759_inb : ∀ (v4707 : BitVec 32) (k0_hw760 : k0_chk760 v4707), ∀ a, (k0_off759 v4707) a + S32x4096.size a ≤ S4096x4096.size a := fun v4707 k0_hw760 => k0_hw760.1
theorem k0_off759_wordsi8 : ∀ (v4707 : BitVec 32) (k0_hw760 : k0_chk760 v4707), (Rect.unit (s := S4096x4096) (k0_off759 v4707) S32x4096.size (k0_off759_inb v4707 k0_hw760)).WholeWords (EltTy.packing .i8) := fun v4707 k0_hw760 => k0_hw760.2 (k0_off759_inb v4707 k0_hw760)

def k0_chk759 (v4704 : BitVec 32) : Prop :=
  (∀ a, (k0_off758 v4704) a + S32x4096.size a ≤ S4096x4096.size a) ∧
  (∀ (hinb : ∀ a, (k0_off758 v4704) a + S32x4096.size a ≤ S4096x4096.size a), (Rect.unit (s := S4096x4096) (k0_off758 v4704) S32x4096.size hinb).WholeWords (EltTy.packing .i8))
theorem k0_off758_inb : ∀ (v4704 : BitVec 32) (k0_hw759 : k0_chk759 v4704), ∀ a, (k0_off758 v4704) a + S32x4096.size a ≤ S4096x4096.size a := fun v4704 k0_hw759 => k0_hw759.1
theorem k0_off758_wordsi8 : ∀ (v4704 : BitVec 32) (k0_hw759 : k0_chk759 v4704), (Rect.unit (s := S4096x4096) (k0_off758 v4704) S32x4096.size (k0_off758_inb v4704 k0_hw759)).WholeWords (EltTy.packing .i8) := fun v4704 k0_hw759 => k0_hw759.2 (k0_off758_inb v4704 k0_hw759)

def k0_off760 (v4714 : BitVec 32) : Fin 2 → Nat :=
  let c128_i32_5107 : BitVec 32 := 128#32
  let v4715 : BitVec 32 := Scalar.muli v4714 c128_i32_5107
  let c64_i32_5108 : BitVec 32 := 64#32
  let v4716 : BitVec 32 := Scalar.addi v4715 c64_i32_5108
  let c0_i32_5117 : BitVec 32 := 0#32
  ![v4716.toNat, 0]

def k0_off761 (v4717 : BitVec 32) : Fin 2 → Nat :=
  let c128_i32_5110 : BitVec 32 := 128#32
  let v4718 : BitVec 32 := Scalar.muli v4717 c128_i32_5110
  let c64_i32_5111 : BitVec 32 := 64#32
  let v4719 : BitVec 32 := Scalar.addi v4718 c64_i32_5111
  let c0_i32_5118 : BitVec 32 := 0#32
  ![v4719.toNat, 0]

def k0_chk762 (v4717 : BitVec 32) : Prop :=
  (∀ a, (k0_off761 v4717) a + S32x4096.size a ≤ S4096x4096.size a) ∧
  (∀ (hinb : ∀ a, (k0_off761 v4717) a + S32x4096.size a ≤ S4096x4096.size a), (Rect.unit (s := S4096x4096) (k0_off761 v4717) S32x4096.size hinb).WholeWords (EltTy.packing .i8))
theorem k0_off761_inb : ∀ (v4717 : BitVec 32) (k0_hw762 : k0_chk762 v4717), ∀ a, (k0_off761 v4717) a + S32x4096.size a ≤ S4096x4096.size a := fun v4717 k0_hw762 => k0_hw762.1
theorem k0_off761_wordsi8 : ∀ (v4717 : BitVec 32) (k0_hw762 : k0_chk762 v4717), (Rect.unit (s := S4096x4096) (k0_off761 v4717) S32x4096.size (k0_off761_inb v4717 k0_hw762)).WholeWords (EltTy.packing .i8) := fun v4717 k0_hw762 => k0_hw762.2 (k0_off761_inb v4717 k0_hw762)

def k0_chk761 (v4714 : BitVec 32) : Prop :=
  (∀ a, (k0_off760 v4714) a + S32x4096.size a ≤ S4096x4096.size a) ∧
  (∀ (hinb : ∀ a, (k0_off760 v4714) a + S32x4096.size a ≤ S4096x4096.size a), (Rect.unit (s := S4096x4096) (k0_off760 v4714) S32x4096.size hinb).WholeWords (EltTy.packing .i8))
theorem k0_off760_inb : ∀ (v4714 : BitVec 32) (k0_hw761 : k0_chk761 v4714), ∀ a, (k0_off760 v4714) a + S32x4096.size a ≤ S4096x4096.size a := fun v4714 k0_hw761 => k0_hw761.1
theorem k0_off760_wordsi8 : ∀ (v4714 : BitVec 32) (k0_hw761 : k0_chk761 v4714), (Rect.unit (s := S4096x4096) (k0_off760 v4714) S32x4096.size (k0_off760_inb v4714 k0_hw761)).WholeWords (EltTy.packing .i8) := fun v4714 k0_hw761 => k0_hw761.2 (k0_off760_inb v4714 k0_hw761)

def k0_off762 (v4724 : BitVec 32) : Fin 2 → Nat :=
  let c128_i32_5120 : BitVec 32 := 128#32
  let v4725 : BitVec 32 := Scalar.muli v4724 c128_i32_5120
  let c64_i32_5121 : BitVec 32 := 64#32
  let v4726 : BitVec 32 := Scalar.addi v4725 c64_i32_5121
  let c0_i32_5130 : BitVec 32 := 0#32
  ![v4726.toNat, 0]

def k0_off763 (v4727 : BitVec 32) : Fin 2 → Nat :=
  let c128_i32_5123 : BitVec 32 := 128#32
  let v4728 : BitVec 32 := Scalar.muli v4727 c128_i32_5123
  let c64_i32_5124 : BitVec 32 := 64#32
  let v4729 : BitVec 32 := Scalar.addi v4728 c64_i32_5124
  let c0_i32_5131 : BitVec 32 := 0#32
  ![v4729.toNat, 0]

def k0_chk764 (v4727 : BitVec 32) : Prop :=
  (∀ a, (k0_off763 v4727) a + S32x4096.size a ≤ S4096x4096.size a) ∧
  (∀ (hinb : ∀ a, (k0_off763 v4727) a + S32x4096.size a ≤ S4096x4096.size a), (Rect.unit (s := S4096x4096) (k0_off763 v4727) S32x4096.size hinb).WholeWords (EltTy.packing .i8))
theorem k0_off763_inb : ∀ (v4727 : BitVec 32) (k0_hw764 : k0_chk764 v4727), ∀ a, (k0_off763 v4727) a + S32x4096.size a ≤ S4096x4096.size a := fun v4727 k0_hw764 => k0_hw764.1
theorem k0_off763_wordsi8 : ∀ (v4727 : BitVec 32) (k0_hw764 : k0_chk764 v4727), (Rect.unit (s := S4096x4096) (k0_off763 v4727) S32x4096.size (k0_off763_inb v4727 k0_hw764)).WholeWords (EltTy.packing .i8) := fun v4727 k0_hw764 => k0_hw764.2 (k0_off763_inb v4727 k0_hw764)

def k0_chk763 (v4724 : BitVec 32) : Prop :=
  (∀ a, (k0_off762 v4724) a + S32x4096.size a ≤ S4096x4096.size a) ∧
  (∀ (hinb : ∀ a, (k0_off762 v4724) a + S32x4096.size a ≤ S4096x4096.size a), (Rect.unit (s := S4096x4096) (k0_off762 v4724) S32x4096.size hinb).WholeWords (EltTy.packing .i8))
theorem k0_off762_inb : ∀ (v4724 : BitVec 32) (k0_hw763 : k0_chk763 v4724), ∀ a, (k0_off762 v4724) a + S32x4096.size a ≤ S4096x4096.size a := fun v4724 k0_hw763 => k0_hw763.1
theorem k0_off762_wordsi8 : ∀ (v4724 : BitVec 32) (k0_hw763 : k0_chk763 v4724), (Rect.unit (s := S4096x4096) (k0_off762 v4724) S32x4096.size (k0_off762_inb v4724 k0_hw763)).WholeWords (EltTy.packing .i8) := fun v4724 k0_hw763 => k0_hw763.2 (k0_off762_inb v4724 k0_hw763)

def k0_off764 (v4734 : BitVec 32) : Fin 2 → Nat :=
  let c128_i32_5133 : BitVec 32 := 128#32
  let v4735 : BitVec 32 := Scalar.muli v4734 c128_i32_5133
  let c96_i32_5134 : BitVec 32 := 96#32
  let v4736 : BitVec 32 := Scalar.addi v4735 c96_i32_5134
  let c0_i32_5143 : BitVec 32 := 0#32
  ![v4736.toNat, 0]

def k0_off765 (v4737 : BitVec 32) : Fin 2 → Nat :=
  let c128_i32_5136 : BitVec 32 := 128#32
  let v4738 : BitVec 32 := Scalar.muli v4737 c128_i32_5136
  let c96_i32_5137 : BitVec 32 := 96#32
  let v4739 : BitVec 32 := Scalar.addi v4738 c96_i32_5137
  let c0_i32_5144 : BitVec 32 := 0#32
  ![v4739.toNat, 0]

def k0_chk766 (v4737 : BitVec 32) : Prop :=
  (∀ a, (k0_off765 v4737) a + S32x4096.size a ≤ S4096x4096.size a) ∧
  (∀ (hinb : ∀ a, (k0_off765 v4737) a + S32x4096.size a ≤ S4096x4096.size a), (Rect.unit (s := S4096x4096) (k0_off765 v4737) S32x4096.size hinb).WholeWords (EltTy.packing .i8))
theorem k0_off765_inb : ∀ (v4737 : BitVec 32) (k0_hw766 : k0_chk766 v4737), ∀ a, (k0_off765 v4737) a + S32x4096.size a ≤ S4096x4096.size a := fun v4737 k0_hw766 => k0_hw766.1
theorem k0_off765_wordsi8 : ∀ (v4737 : BitVec 32) (k0_hw766 : k0_chk766 v4737), (Rect.unit (s := S4096x4096) (k0_off765 v4737) S32x4096.size (k0_off765_inb v4737 k0_hw766)).WholeWords (EltTy.packing .i8) := fun v4737 k0_hw766 => k0_hw766.2 (k0_off765_inb v4737 k0_hw766)

def k0_chk765 (v4734 : BitVec 32) : Prop :=
  (∀ a, (k0_off764 v4734) a + S32x4096.size a ≤ S4096x4096.size a) ∧
  (∀ (hinb : ∀ a, (k0_off764 v4734) a + S32x4096.size a ≤ S4096x4096.size a), (Rect.unit (s := S4096x4096) (k0_off764 v4734) S32x4096.size hinb).WholeWords (EltTy.packing .i8))
theorem k0_off764_inb : ∀ (v4734 : BitVec 32) (k0_hw765 : k0_chk765 v4734), ∀ a, (k0_off764 v4734) a + S32x4096.size a ≤ S4096x4096.size a := fun v4734 k0_hw765 => k0_hw765.1
theorem k0_off764_wordsi8 : ∀ (v4734 : BitVec 32) (k0_hw765 : k0_chk765 v4734), (Rect.unit (s := S4096x4096) (k0_off764 v4734) S32x4096.size (k0_off764_inb v4734 k0_hw765)).WholeWords (EltTy.packing .i8) := fun v4734 k0_hw765 => k0_hw765.2 (k0_off764_inb v4734 k0_hw765)

def k0_off766 (v4744 : BitVec 32) : Fin 2 → Nat :=
  let c128_i32_5146 : BitVec 32 := 128#32
  let v4745 : BitVec 32 := Scalar.muli v4744 c128_i32_5146
  let c96_i32_5147 : BitVec 32 := 96#32
  let v4746 : BitVec 32 := Scalar.addi v4745 c96_i32_5147
  let c0_i32_5156 : BitVec 32 := 0#32
  ![v4746.toNat, 0]

def k0_off767 (v4747 : BitVec 32) : Fin 2 → Nat :=
  let c128_i32_5149 : BitVec 32 := 128#32
  let v4748 : BitVec 32 := Scalar.muli v4747 c128_i32_5149
  let c96_i32_5150 : BitVec 32 := 96#32
  let v4749 : BitVec 32 := Scalar.addi v4748 c96_i32_5150
  let c0_i32_5157 : BitVec 32 := 0#32
  ![v4749.toNat, 0]

def k0_chk768 (v4747 : BitVec 32) : Prop :=
  (∀ a, (k0_off767 v4747) a + S32x4096.size a ≤ S4096x4096.size a) ∧
  (∀ (hinb : ∀ a, (k0_off767 v4747) a + S32x4096.size a ≤ S4096x4096.size a), (Rect.unit (s := S4096x4096) (k0_off767 v4747) S32x4096.size hinb).WholeWords (EltTy.packing .i8))
theorem k0_off767_inb : ∀ (v4747 : BitVec 32) (k0_hw768 : k0_chk768 v4747), ∀ a, (k0_off767 v4747) a + S32x4096.size a ≤ S4096x4096.size a := fun v4747 k0_hw768 => k0_hw768.1
theorem k0_off767_wordsi8 : ∀ (v4747 : BitVec 32) (k0_hw768 : k0_chk768 v4747), (Rect.unit (s := S4096x4096) (k0_off767 v4747) S32x4096.size (k0_off767_inb v4747 k0_hw768)).WholeWords (EltTy.packing .i8) := fun v4747 k0_hw768 => k0_hw768.2 (k0_off767_inb v4747 k0_hw768)

def k0_chk767 (v4744 : BitVec 32) : Prop :=
  (∀ a, (k0_off766 v4744) a + S32x4096.size a ≤ S4096x4096.size a) ∧
  (∀ (hinb : ∀ a, (k0_off766 v4744) a + S32x4096.size a ≤ S4096x4096.size a), (Rect.unit (s := S4096x4096) (k0_off766 v4744) S32x4096.size hinb).WholeWords (EltTy.packing .i8))
theorem k0_off766_inb : ∀ (v4744 : BitVec 32) (k0_hw767 : k0_chk767 v4744), ∀ a, (k0_off766 v4744) a + S32x4096.size a ≤ S4096x4096.size a := fun v4744 k0_hw767 => k0_hw767.1
theorem k0_off766_wordsi8 : ∀ (v4744 : BitVec 32) (k0_hw767 : k0_chk767 v4744), (Rect.unit (s := S4096x4096) (k0_off766 v4744) S32x4096.size (k0_off766_inb v4744 k0_hw767)).WholeWords (EltTy.packing .i8) := fun v4744 k0_hw767 => k0_hw767.2 (k0_off766_inb v4744 k0_hw767)

def k0_off768 (v4754 : BitVec 32) : Fin 2 → Nat :=
  let c128_i32_5159 : BitVec 32 := 128#32
  let v4755 : BitVec 32 := Scalar.muli v4754 c128_i32_5159
  let c0_i32_5160 : BitVec 32 := 0#32
  let v4756 : BitVec 32 := Scalar.addi v4755 c0_i32_5160
  let c0_i32_5169 : BitVec 32 := 0#32
  ![v4756.toNat, 0]

def k0_off769 (v4757 : BitVec 32) : Fin 2 → Nat :=
  let c128_i32_5162 : BitVec 32 := 128#32
  let v4758 : BitVec 32 := Scalar.muli v4757 c128_i32_5162
  let c0_i32_5163 : BitVec 32 := 0#32
  let v4759 : BitVec 32 := Scalar.addi v4758 c0_i32_5163
  let c0_i32_5170 : BitVec 32 := 0#32
  ![v4759.toNat, 0]

def k0_chk770 (v4757 : BitVec 32) : Prop :=
  (∀ a, (k0_off769 v4757) a + S32x4096.size a ≤ S4096x4096.size a) ∧
  (∀ (hinb : ∀ a, (k0_off769 v4757) a + S32x4096.size a ≤ S4096x4096.size a), (Rect.unit (s := S4096x4096) (k0_off769 v4757) S32x4096.size hinb).WholeWords (EltTy.packing .i8))
theorem k0_off769_inb : ∀ (v4757 : BitVec 32) (k0_hw770 : k0_chk770 v4757), ∀ a, (k0_off769 v4757) a + S32x4096.size a ≤ S4096x4096.size a := fun v4757 k0_hw770 => k0_hw770.1
theorem k0_off769_wordsi8 : ∀ (v4757 : BitVec 32) (k0_hw770 : k0_chk770 v4757), (Rect.unit (s := S4096x4096) (k0_off769 v4757) S32x4096.size (k0_off769_inb v4757 k0_hw770)).WholeWords (EltTy.packing .i8) := fun v4757 k0_hw770 => k0_hw770.2 (k0_off769_inb v4757 k0_hw770)

def k0_chk769 (v4754 : BitVec 32) : Prop :=
  (∀ a, (k0_off768 v4754) a + S32x4096.size a ≤ S4096x4096.size a) ∧
  (∀ (hinb : ∀ a, (k0_off768 v4754) a + S32x4096.size a ≤ S4096x4096.size a), (Rect.unit (s := S4096x4096) (k0_off768 v4754) S32x4096.size hinb).WholeWords (EltTy.packing .i8))
theorem k0_off768_inb : ∀ (v4754 : BitVec 32) (k0_hw769 : k0_chk769 v4754), ∀ a, (k0_off768 v4754) a + S32x4096.size a ≤ S4096x4096.size a := fun v4754 k0_hw769 => k0_hw769.1
theorem k0_off768_wordsi8 : ∀ (v4754 : BitVec 32) (k0_hw769 : k0_chk769 v4754), (Rect.unit (s := S4096x4096) (k0_off768 v4754) S32x4096.size (k0_off768_inb v4754 k0_hw769)).WholeWords (EltTy.packing .i8) := fun v4754 k0_hw769 => k0_hw769.2 (k0_off768_inb v4754 k0_hw769)

def k0_off770 (v4764 : BitVec 32) : Fin 2 → Nat :=
  let c128_i32_5172 : BitVec 32 := 128#32
  let v4765 : BitVec 32 := Scalar.muli v4764 c128_i32_5172
  let c0_i32_5173 : BitVec 32 := 0#32
  let v4766 : BitVec 32 := Scalar.addi v4765 c0_i32_5173
  let c0_i32_5182 : BitVec 32 := 0#32
  ![v4766.toNat, 0]

def k0_off771 (v4767 : BitVec 32) : Fin 2 → Nat :=
  let c128_i32_5175 : BitVec 32 := 128#32
  let v4768 : BitVec 32 := Scalar.muli v4767 c128_i32_5175
  let c0_i32_5176 : BitVec 32 := 0#32
  let v4769 : BitVec 32 := Scalar.addi v4768 c0_i32_5176
  let c0_i32_5183 : BitVec 32 := 0#32
  ![v4769.toNat, 0]

def k0_chk772 (v4767 : BitVec 32) : Prop :=
  (∀ a, (k0_off771 v4767) a + S32x4096.size a ≤ S4096x4096.size a) ∧
  (∀ (hinb : ∀ a, (k0_off771 v4767) a + S32x4096.size a ≤ S4096x4096.size a), (Rect.unit (s := S4096x4096) (k0_off771 v4767) S32x4096.size hinb).WholeWords (EltTy.packing .i8))
theorem k0_off771_inb : ∀ (v4767 : BitVec 32) (k0_hw772 : k0_chk772 v4767), ∀ a, (k0_off771 v4767) a + S32x4096.size a ≤ S4096x4096.size a := fun v4767 k0_hw772 => k0_hw772.1
theorem k0_off771_wordsi8 : ∀ (v4767 : BitVec 32) (k0_hw772 : k0_chk772 v4767), (Rect.unit (s := S4096x4096) (k0_off771 v4767) S32x4096.size (k0_off771_inb v4767 k0_hw772)).WholeWords (EltTy.packing .i8) := fun v4767 k0_hw772 => k0_hw772.2 (k0_off771_inb v4767 k0_hw772)

def k0_chk771 (v4764 : BitVec 32) : Prop :=
  (∀ a, (k0_off770 v4764) a + S32x4096.size a ≤ S4096x4096.size a) ∧
  (∀ (hinb : ∀ a, (k0_off770 v4764) a + S32x4096.size a ≤ S4096x4096.size a), (Rect.unit (s := S4096x4096) (k0_off770 v4764) S32x4096.size hinb).WholeWords (EltTy.packing .i8))
theorem k0_off770_inb : ∀ (v4764 : BitVec 32) (k0_hw771 : k0_chk771 v4764), ∀ a, (k0_off770 v4764) a + S32x4096.size a ≤ S4096x4096.size a := fun v4764 k0_hw771 => k0_hw771.1
theorem k0_off770_wordsi8 : ∀ (v4764 : BitVec 32) (k0_hw771 : k0_chk771 v4764), (Rect.unit (s := S4096x4096) (k0_off770 v4764) S32x4096.size (k0_off770_inb v4764 k0_hw771)).WholeWords (EltTy.packing .i8) := fun v4764 k0_hw771 => k0_hw771.2 (k0_off770_inb v4764 k0_hw771)

def k0_off772 (v4774 : BitVec 32) : Fin 2 → Nat :=
  let c128_i32_5185 : BitVec 32 := 128#32
  let v4775 : BitVec 32 := Scalar.muli v4774 c128_i32_5185
  let c32_i32_5186 : BitVec 32 := 32#32
  let v4776 : BitVec 32 := Scalar.addi v4775 c32_i32_5186
  let c0_i32_5195 : BitVec 32 := 0#32
  ![v4776.toNat, 0]

def k0_off773 (v4777 : BitVec 32) : Fin 2 → Nat :=
  let c128_i32_5188 : BitVec 32 := 128#32
  let v4778 : BitVec 32 := Scalar.muli v4777 c128_i32_5188
  let c32_i32_5189 : BitVec 32 := 32#32
  let v4779 : BitVec 32 := Scalar.addi v4778 c32_i32_5189
  let c0_i32_5196 : BitVec 32 := 0#32
  ![v4779.toNat, 0]

def k0_chk774 (v4777 : BitVec 32) : Prop :=
  (∀ a, (k0_off773 v4777) a + S32x4096.size a ≤ S4096x4096.size a) ∧
  (∀ (hinb : ∀ a, (k0_off773 v4777) a + S32x4096.size a ≤ S4096x4096.size a), (Rect.unit (s := S4096x4096) (k0_off773 v4777) S32x4096.size hinb).WholeWords (EltTy.packing .i8))
theorem k0_off773_inb : ∀ (v4777 : BitVec 32) (k0_hw774 : k0_chk774 v4777), ∀ a, (k0_off773 v4777) a + S32x4096.size a ≤ S4096x4096.size a := fun v4777 k0_hw774 => k0_hw774.1
theorem k0_off773_wordsi8 : ∀ (v4777 : BitVec 32) (k0_hw774 : k0_chk774 v4777), (Rect.unit (s := S4096x4096) (k0_off773 v4777) S32x4096.size (k0_off773_inb v4777 k0_hw774)).WholeWords (EltTy.packing .i8) := fun v4777 k0_hw774 => k0_hw774.2 (k0_off773_inb v4777 k0_hw774)

def k0_chk773 (v4774 : BitVec 32) : Prop :=
  (∀ a, (k0_off772 v4774) a + S32x4096.size a ≤ S4096x4096.size a) ∧
  (∀ (hinb : ∀ a, (k0_off772 v4774) a + S32x4096.size a ≤ S4096x4096.size a), (Rect.unit (s := S4096x4096) (k0_off772 v4774) S32x4096.size hinb).WholeWords (EltTy.packing .i8))
theorem k0_off772_inb : ∀ (v4774 : BitVec 32) (k0_hw773 : k0_chk773 v4774), ∀ a, (k0_off772 v4774) a + S32x4096.size a ≤ S4096x4096.size a := fun v4774 k0_hw773 => k0_hw773.1
theorem k0_off772_wordsi8 : ∀ (v4774 : BitVec 32) (k0_hw773 : k0_chk773 v4774), (Rect.unit (s := S4096x4096) (k0_off772 v4774) S32x4096.size (k0_off772_inb v4774 k0_hw773)).WholeWords (EltTy.packing .i8) := fun v4774 k0_hw773 => k0_hw773.2 (k0_off772_inb v4774 k0_hw773)

def k0_off774 (v4784 : BitVec 32) : Fin 2 → Nat :=
  let c128_i32_5198 : BitVec 32 := 128#32
  let v4785 : BitVec 32 := Scalar.muli v4784 c128_i32_5198
  let c32_i32_5199 : BitVec 32 := 32#32
  let v4786 : BitVec 32 := Scalar.addi v4785 c32_i32_5199
  let c0_i32_5208 : BitVec 32 := 0#32
  ![v4786.toNat, 0]

def k0_off775 (v4787 : BitVec 32) : Fin 2 → Nat :=
  let c128_i32_5201 : BitVec 32 := 128#32
  let v4788 : BitVec 32 := Scalar.muli v4787 c128_i32_5201
  let c32_i32_5202 : BitVec 32 := 32#32
  let v4789 : BitVec 32 := Scalar.addi v4788 c32_i32_5202
  let c0_i32_5209 : BitVec 32 := 0#32
  ![v4789.toNat, 0]

def k0_chk776 (v4787 : BitVec 32) : Prop :=
  (∀ a, (k0_off775 v4787) a + S32x4096.size a ≤ S4096x4096.size a) ∧
  (∀ (hinb : ∀ a, (k0_off775 v4787) a + S32x4096.size a ≤ S4096x4096.size a), (Rect.unit (s := S4096x4096) (k0_off775 v4787) S32x4096.size hinb).WholeWords (EltTy.packing .i8))
theorem k0_off775_inb : ∀ (v4787 : BitVec 32) (k0_hw776 : k0_chk776 v4787), ∀ a, (k0_off775 v4787) a + S32x4096.size a ≤ S4096x4096.size a := fun v4787 k0_hw776 => k0_hw776.1
theorem k0_off775_wordsi8 : ∀ (v4787 : BitVec 32) (k0_hw776 : k0_chk776 v4787), (Rect.unit (s := S4096x4096) (k0_off775 v4787) S32x4096.size (k0_off775_inb v4787 k0_hw776)).WholeWords (EltTy.packing .i8) := fun v4787 k0_hw776 => k0_hw776.2 (k0_off775_inb v4787 k0_hw776)

def k0_chk775 (v4784 : BitVec 32) : Prop :=
  (∀ a, (k0_off774 v4784) a + S32x4096.size a ≤ S4096x4096.size a) ∧
  (∀ (hinb : ∀ a, (k0_off774 v4784) a + S32x4096.size a ≤ S4096x4096.size a), (Rect.unit (s := S4096x4096) (k0_off774 v4784) S32x4096.size hinb).WholeWords (EltTy.packing .i8))
theorem k0_off774_inb : ∀ (v4784 : BitVec 32) (k0_hw775 : k0_chk775 v4784), ∀ a, (k0_off774 v4784) a + S32x4096.size a ≤ S4096x4096.size a := fun v4784 k0_hw775 => k0_hw775.1
theorem k0_off774_wordsi8 : ∀ (v4784 : BitVec 32) (k0_hw775 : k0_chk775 v4784), (Rect.unit (s := S4096x4096) (k0_off774 v4784) S32x4096.size (k0_off774_inb v4784 k0_hw775)).WholeWords (EltTy.packing .i8) := fun v4784 k0_hw775 => k0_hw775.2 (k0_off774_inb v4784 k0_hw775)

def k0_off776 (v4794 : BitVec 32) : Fin 2 → Nat :=
  let c128_i32_5211 : BitVec 32 := 128#32
  let v4795 : BitVec 32 := Scalar.muli v4794 c128_i32_5211
  let c64_i32_5212 : BitVec 32 := 64#32
  let v4796 : BitVec 32 := Scalar.addi v4795 c64_i32_5212
  let c0_i32_5221 : BitVec 32 := 0#32
  ![v4796.toNat, 0]

def k0_off777 (v4797 : BitVec 32) : Fin 2 → Nat :=
  let c128_i32_5214 : BitVec 32 := 128#32
  let v4798 : BitVec 32 := Scalar.muli v4797 c128_i32_5214
  let c64_i32_5215 : BitVec 32 := 64#32
  let v4799 : BitVec 32 := Scalar.addi v4798 c64_i32_5215
  let c0_i32_5222 : BitVec 32 := 0#32
  ![v4799.toNat, 0]

def k0_chk778 (v4797 : BitVec 32) : Prop :=
  (∀ a, (k0_off777 v4797) a + S32x4096.size a ≤ S4096x4096.size a) ∧
  (∀ (hinb : ∀ a, (k0_off777 v4797) a + S32x4096.size a ≤ S4096x4096.size a), (Rect.unit (s := S4096x4096) (k0_off777 v4797) S32x4096.size hinb).WholeWords (EltTy.packing .i8))
theorem k0_off777_inb : ∀ (v4797 : BitVec 32) (k0_hw778 : k0_chk778 v4797), ∀ a, (k0_off777 v4797) a + S32x4096.size a ≤ S4096x4096.size a := fun v4797 k0_hw778 => k0_hw778.1
theorem k0_off777_wordsi8 : ∀ (v4797 : BitVec 32) (k0_hw778 : k0_chk778 v4797), (Rect.unit (s := S4096x4096) (k0_off777 v4797) S32x4096.size (k0_off777_inb v4797 k0_hw778)).WholeWords (EltTy.packing .i8) := fun v4797 k0_hw778 => k0_hw778.2 (k0_off777_inb v4797 k0_hw778)

def k0_chk777 (v4794 : BitVec 32) : Prop :=
  (∀ a, (k0_off776 v4794) a + S32x4096.size a ≤ S4096x4096.size a) ∧
  (∀ (hinb : ∀ a, (k0_off776 v4794) a + S32x4096.size a ≤ S4096x4096.size a), (Rect.unit (s := S4096x4096) (k0_off776 v4794) S32x4096.size hinb).WholeWords (EltTy.packing .i8))
theorem k0_off776_inb : ∀ (v4794 : BitVec 32) (k0_hw777 : k0_chk777 v4794), ∀ a, (k0_off776 v4794) a + S32x4096.size a ≤ S4096x4096.size a := fun v4794 k0_hw777 => k0_hw777.1
theorem k0_off776_wordsi8 : ∀ (v4794 : BitVec 32) (k0_hw777 : k0_chk777 v4794), (Rect.unit (s := S4096x4096) (k0_off776 v4794) S32x4096.size (k0_off776_inb v4794 k0_hw777)).WholeWords (EltTy.packing .i8) := fun v4794 k0_hw777 => k0_hw777.2 (k0_off776_inb v4794 k0_hw777)

def k0_off778 (v4804 : BitVec 32) : Fin 2 → Nat :=
  let c128_i32_5224 : BitVec 32 := 128#32
  let v4805 : BitVec 32 := Scalar.muli v4804 c128_i32_5224
  let c64_i32_5225 : BitVec 32 := 64#32
  let v4806 : BitVec 32 := Scalar.addi v4805 c64_i32_5225
  let c0_i32_5234 : BitVec 32 := 0#32
  ![v4806.toNat, 0]

def k0_off779 (v4807 : BitVec 32) : Fin 2 → Nat :=
  let c128_i32_5227 : BitVec 32 := 128#32
  let v4808 : BitVec 32 := Scalar.muli v4807 c128_i32_5227
  let c64_i32_5228 : BitVec 32 := 64#32
  let v4809 : BitVec 32 := Scalar.addi v4808 c64_i32_5228
  let c0_i32_5235 : BitVec 32 := 0#32
  ![v4809.toNat, 0]

def k0_chk780 (v4807 : BitVec 32) : Prop :=
  (∀ a, (k0_off779 v4807) a + S32x4096.size a ≤ S4096x4096.size a) ∧
  (∀ (hinb : ∀ a, (k0_off779 v4807) a + S32x4096.size a ≤ S4096x4096.size a), (Rect.unit (s := S4096x4096) (k0_off779 v4807) S32x4096.size hinb).WholeWords (EltTy.packing .i8))
theorem k0_off779_inb : ∀ (v4807 : BitVec 32) (k0_hw780 : k0_chk780 v4807), ∀ a, (k0_off779 v4807) a + S32x4096.size a ≤ S4096x4096.size a := fun v4807 k0_hw780 => k0_hw780.1
theorem k0_off779_wordsi8 : ∀ (v4807 : BitVec 32) (k0_hw780 : k0_chk780 v4807), (Rect.unit (s := S4096x4096) (k0_off779 v4807) S32x4096.size (k0_off779_inb v4807 k0_hw780)).WholeWords (EltTy.packing .i8) := fun v4807 k0_hw780 => k0_hw780.2 (k0_off779_inb v4807 k0_hw780)

def k0_chk779 (v4804 : BitVec 32) : Prop :=
  (∀ a, (k0_off778 v4804) a + S32x4096.size a ≤ S4096x4096.size a) ∧
  (∀ (hinb : ∀ a, (k0_off778 v4804) a + S32x4096.size a ≤ S4096x4096.size a), (Rect.unit (s := S4096x4096) (k0_off778 v4804) S32x4096.size hinb).WholeWords (EltTy.packing .i8))
theorem k0_off778_inb : ∀ (v4804 : BitVec 32) (k0_hw779 : k0_chk779 v4804), ∀ a, (k0_off778 v4804) a + S32x4096.size a ≤ S4096x4096.size a := fun v4804 k0_hw779 => k0_hw779.1
theorem k0_off778_wordsi8 : ∀ (v4804 : BitVec 32) (k0_hw779 : k0_chk779 v4804), (Rect.unit (s := S4096x4096) (k0_off778 v4804) S32x4096.size (k0_off778_inb v4804 k0_hw779)).WholeWords (EltTy.packing .i8) := fun v4804 k0_hw779 => k0_hw779.2 (k0_off778_inb v4804 k0_hw779)

def k0_off780 (v4814 : BitVec 32) : Fin 2 → Nat :=
  let c128_i32_5237 : BitVec 32 := 128#32
  let v4815 : BitVec 32 := Scalar.muli v4814 c128_i32_5237
  let c96_i32_5238 : BitVec 32 := 96#32
  let v4816 : BitVec 32 := Scalar.addi v4815 c96_i32_5238
  let c0_i32_5247 : BitVec 32 := 0#32
  ![v4816.toNat, 0]

def k0_off781 (v4817 : BitVec 32) : Fin 2 → Nat :=
  let c128_i32_5240 : BitVec 32 := 128#32
  let v4818 : BitVec 32 := Scalar.muli v4817 c128_i32_5240
  let c96_i32_5241 : BitVec 32 := 96#32
  let v4819 : BitVec 32 := Scalar.addi v4818 c96_i32_5241
  let c0_i32_5248 : BitVec 32 := 0#32
  ![v4819.toNat, 0]

def k0_chk782 (v4817 : BitVec 32) : Prop :=
  (∀ a, (k0_off781 v4817) a + S32x4096.size a ≤ S4096x4096.size a) ∧
  (∀ (hinb : ∀ a, (k0_off781 v4817) a + S32x4096.size a ≤ S4096x4096.size a), (Rect.unit (s := S4096x4096) (k0_off781 v4817) S32x4096.size hinb).WholeWords (EltTy.packing .i8))
theorem k0_off781_inb : ∀ (v4817 : BitVec 32) (k0_hw782 : k0_chk782 v4817), ∀ a, (k0_off781 v4817) a + S32x4096.size a ≤ S4096x4096.size a := fun v4817 k0_hw782 => k0_hw782.1
theorem k0_off781_wordsi8 : ∀ (v4817 : BitVec 32) (k0_hw782 : k0_chk782 v4817), (Rect.unit (s := S4096x4096) (k0_off781 v4817) S32x4096.size (k0_off781_inb v4817 k0_hw782)).WholeWords (EltTy.packing .i8) := fun v4817 k0_hw782 => k0_hw782.2 (k0_off781_inb v4817 k0_hw782)

def k0_chk781 (v4814 : BitVec 32) : Prop :=
  (∀ a, (k0_off780 v4814) a + S32x4096.size a ≤ S4096x4096.size a) ∧
  (∀ (hinb : ∀ a, (k0_off780 v4814) a + S32x4096.size a ≤ S4096x4096.size a), (Rect.unit (s := S4096x4096) (k0_off780 v4814) S32x4096.size hinb).WholeWords (EltTy.packing .i8))
theorem k0_off780_inb : ∀ (v4814 : BitVec 32) (k0_hw781 : k0_chk781 v4814), ∀ a, (k0_off780 v4814) a + S32x4096.size a ≤ S4096x4096.size a := fun v4814 k0_hw781 => k0_hw781.1
theorem k0_off780_wordsi8 : ∀ (v4814 : BitVec 32) (k0_hw781 : k0_chk781 v4814), (Rect.unit (s := S4096x4096) (k0_off780 v4814) S32x4096.size (k0_off780_inb v4814 k0_hw781)).WholeWords (EltTy.packing .i8) := fun v4814 k0_hw781 => k0_hw781.2 (k0_off780_inb v4814 k0_hw781)

def k0_off782 (v4824 : BitVec 32) : Fin 2 → Nat :=
  let c128_i32_5250 : BitVec 32 := 128#32
  let v4825 : BitVec 32 := Scalar.muli v4824 c128_i32_5250
  let c96_i32_5251 : BitVec 32 := 96#32
  let v4826 : BitVec 32 := Scalar.addi v4825 c96_i32_5251
  let c0_i32_5260 : BitVec 32 := 0#32
  ![v4826.toNat, 0]

def k0_off783 (v4827 : BitVec 32) : Fin 2 → Nat :=
  let c128_i32_5253 : BitVec 32 := 128#32
  let v4828 : BitVec 32 := Scalar.muli v4827 c128_i32_5253
  let c96_i32_5254 : BitVec 32 := 96#32
  let v4829 : BitVec 32 := Scalar.addi v4828 c96_i32_5254
  let c0_i32_5261 : BitVec 32 := 0#32
  ![v4829.toNat, 0]

def k0_chk784 (v4827 : BitVec 32) : Prop :=
  (∀ a, (k0_off783 v4827) a + S32x4096.size a ≤ S4096x4096.size a) ∧
  (∀ (hinb : ∀ a, (k0_off783 v4827) a + S32x4096.size a ≤ S4096x4096.size a), (Rect.unit (s := S4096x4096) (k0_off783 v4827) S32x4096.size hinb).WholeWords (EltTy.packing .i8))
theorem k0_off783_inb : ∀ (v4827 : BitVec 32) (k0_hw784 : k0_chk784 v4827), ∀ a, (k0_off783 v4827) a + S32x4096.size a ≤ S4096x4096.size a := fun v4827 k0_hw784 => k0_hw784.1
theorem k0_off783_wordsi8 : ∀ (v4827 : BitVec 32) (k0_hw784 : k0_chk784 v4827), (Rect.unit (s := S4096x4096) (k0_off783 v4827) S32x4096.size (k0_off783_inb v4827 k0_hw784)).WholeWords (EltTy.packing .i8) := fun v4827 k0_hw784 => k0_hw784.2 (k0_off783_inb v4827 k0_hw784)

def k0_chk783 (v4824 : BitVec 32) : Prop :=
  (∀ a, (k0_off782 v4824) a + S32x4096.size a ≤ S4096x4096.size a) ∧
  (∀ (hinb : ∀ a, (k0_off782 v4824) a + S32x4096.size a ≤ S4096x4096.size a), (Rect.unit (s := S4096x4096) (k0_off782 v4824) S32x4096.size hinb).WholeWords (EltTy.packing .i8))
theorem k0_off782_inb : ∀ (v4824 : BitVec 32) (k0_hw783 : k0_chk783 v4824), ∀ a, (k0_off782 v4824) a + S32x4096.size a ≤ S4096x4096.size a := fun v4824 k0_hw783 => k0_hw783.1
theorem k0_off782_wordsi8 : ∀ (v4824 : BitVec 32) (k0_hw783 : k0_chk783 v4824), (Rect.unit (s := S4096x4096) (k0_off782 v4824) S32x4096.size (k0_off782_inb v4824 k0_hw783)).WholeWords (EltTy.packing .i8) := fun v4824 k0_hw783 => k0_hw783.2 (k0_off782_inb v4824 k0_hw783)

def k0_off784 (v4834 : BitVec 32) : Fin 2 → Nat :=
  let c128_i32_5263 : BitVec 32 := 128#32
  let v4835 : BitVec 32 := Scalar.muli v4834 c128_i32_5263
  let c0_i32_5264 : BitVec 32 := 0#32
  let v4836 : BitVec 32 := Scalar.addi v4835 c0_i32_5264
  let c0_i32_5273 : BitVec 32 := 0#32
  ![v4836.toNat, 0]

def k0_off785 (v4837 : BitVec 32) : Fin 2 → Nat :=
  let c128_i32_5266 : BitVec 32 := 128#32
  let v4838 : BitVec 32 := Scalar.muli v4837 c128_i32_5266
  let c0_i32_5267 : BitVec 32 := 0#32
  let v4839 : BitVec 32 := Scalar.addi v4838 c0_i32_5267
  let c0_i32_5274 : BitVec 32 := 0#32
  ![v4839.toNat, 0]

def k0_chk786 (v4837 : BitVec 32) : Prop :=
  (∀ a, (k0_off785 v4837) a + S32x4096.size a ≤ S4096x4096.size a) ∧
  (∀ (hinb : ∀ a, (k0_off785 v4837) a + S32x4096.size a ≤ S4096x4096.size a), (Rect.unit (s := S4096x4096) (k0_off785 v4837) S32x4096.size hinb).WholeWords (EltTy.packing .i8))
theorem k0_off785_inb : ∀ (v4837 : BitVec 32) (k0_hw786 : k0_chk786 v4837), ∀ a, (k0_off785 v4837) a + S32x4096.size a ≤ S4096x4096.size a := fun v4837 k0_hw786 => k0_hw786.1
theorem k0_off785_wordsi8 : ∀ (v4837 : BitVec 32) (k0_hw786 : k0_chk786 v4837), (Rect.unit (s := S4096x4096) (k0_off785 v4837) S32x4096.size (k0_off785_inb v4837 k0_hw786)).WholeWords (EltTy.packing .i8) := fun v4837 k0_hw786 => k0_hw786.2 (k0_off785_inb v4837 k0_hw786)

def k0_chk785 (v4834 : BitVec 32) : Prop :=
  (∀ a, (k0_off784 v4834) a + S32x4096.size a ≤ S4096x4096.size a) ∧
  (∀ (hinb : ∀ a, (k0_off784 v4834) a + S32x4096.size a ≤ S4096x4096.size a), (Rect.unit (s := S4096x4096) (k0_off784 v4834) S32x4096.size hinb).WholeWords (EltTy.packing .i8))
theorem k0_off784_inb : ∀ (v4834 : BitVec 32) (k0_hw785 : k0_chk785 v4834), ∀ a, (k0_off784 v4834) a + S32x4096.size a ≤ S4096x4096.size a := fun v4834 k0_hw785 => k0_hw785.1
theorem k0_off784_wordsi8 : ∀ (v4834 : BitVec 32) (k0_hw785 : k0_chk785 v4834), (Rect.unit (s := S4096x4096) (k0_off784 v4834) S32x4096.size (k0_off784_inb v4834 k0_hw785)).WholeWords (EltTy.packing .i8) := fun v4834 k0_hw785 => k0_hw785.2 (k0_off784_inb v4834 k0_hw785)

def k0_off786 (v4844 : BitVec 32) : Fin 2 → Nat :=
  let c128_i32_5276 : BitVec 32 := 128#32
  let v4845 : BitVec 32 := Scalar.muli v4844 c128_i32_5276
  let c32_i32_5277 : BitVec 32 := 32#32
  let v4846 : BitVec 32 := Scalar.addi v4845 c32_i32_5277
  let c0_i32_5286 : BitVec 32 := 0#32
  ![v4846.toNat, 0]

def k0_off787 (v4847 : BitVec 32) : Fin 2 → Nat :=
  let c128_i32_5279 : BitVec 32 := 128#32
  let v4848 : BitVec 32 := Scalar.muli v4847 c128_i32_5279
  let c32_i32_5280 : BitVec 32 := 32#32
  let v4849 : BitVec 32 := Scalar.addi v4848 c32_i32_5280
  let c0_i32_5287 : BitVec 32 := 0#32
  ![v4849.toNat, 0]

def k0_chk788 (v4847 : BitVec 32) : Prop :=
  (∀ a, (k0_off787 v4847) a + S32x4096.size a ≤ S4096x4096.size a) ∧
  (∀ (hinb : ∀ a, (k0_off787 v4847) a + S32x4096.size a ≤ S4096x4096.size a), (Rect.unit (s := S4096x4096) (k0_off787 v4847) S32x4096.size hinb).WholeWords (EltTy.packing .i8))
theorem k0_off787_inb : ∀ (v4847 : BitVec 32) (k0_hw788 : k0_chk788 v4847), ∀ a, (k0_off787 v4847) a + S32x4096.size a ≤ S4096x4096.size a := fun v4847 k0_hw788 => k0_hw788.1
theorem k0_off787_wordsi8 : ∀ (v4847 : BitVec 32) (k0_hw788 : k0_chk788 v4847), (Rect.unit (s := S4096x4096) (k0_off787 v4847) S32x4096.size (k0_off787_inb v4847 k0_hw788)).WholeWords (EltTy.packing .i8) := fun v4847 k0_hw788 => k0_hw788.2 (k0_off787_inb v4847 k0_hw788)

def k0_chk787 (v4844 : BitVec 32) : Prop :=
  (∀ a, (k0_off786 v4844) a + S32x4096.size a ≤ S4096x4096.size a) ∧
  (∀ (hinb : ∀ a, (k0_off786 v4844) a + S32x4096.size a ≤ S4096x4096.size a), (Rect.unit (s := S4096x4096) (k0_off786 v4844) S32x4096.size hinb).WholeWords (EltTy.packing .i8))
theorem k0_off786_inb : ∀ (v4844 : BitVec 32) (k0_hw787 : k0_chk787 v4844), ∀ a, (k0_off786 v4844) a + S32x4096.size a ≤ S4096x4096.size a := fun v4844 k0_hw787 => k0_hw787.1
theorem k0_off786_wordsi8 : ∀ (v4844 : BitVec 32) (k0_hw787 : k0_chk787 v4844), (Rect.unit (s := S4096x4096) (k0_off786 v4844) S32x4096.size (k0_off786_inb v4844 k0_hw787)).WholeWords (EltTy.packing .i8) := fun v4844 k0_hw787 => k0_hw787.2 (k0_off786_inb v4844 k0_hw787)

def k0_off788 (v4854 : BitVec 32) : Fin 2 → Nat :=
  let c128_i32_5289 : BitVec 32 := 128#32
  let v4855 : BitVec 32 := Scalar.muli v4854 c128_i32_5289
  let c64_i32_5290 : BitVec 32 := 64#32
  let v4856 : BitVec 32 := Scalar.addi v4855 c64_i32_5290
  let c0_i32_5299 : BitVec 32 := 0#32
  ![v4856.toNat, 0]

def k0_off789 (v4857 : BitVec 32) : Fin 2 → Nat :=
  let c128_i32_5292 : BitVec 32 := 128#32
  let v4858 : BitVec 32 := Scalar.muli v4857 c128_i32_5292
  let c64_i32_5293 : BitVec 32 := 64#32
  let v4859 : BitVec 32 := Scalar.addi v4858 c64_i32_5293
  let c0_i32_5300 : BitVec 32 := 0#32
  ![v4859.toNat, 0]

def k0_chk790 (v4857 : BitVec 32) : Prop :=
  (∀ a, (k0_off789 v4857) a + S32x4096.size a ≤ S4096x4096.size a) ∧
  (∀ (hinb : ∀ a, (k0_off789 v4857) a + S32x4096.size a ≤ S4096x4096.size a), (Rect.unit (s := S4096x4096) (k0_off789 v4857) S32x4096.size hinb).WholeWords (EltTy.packing .i8))
theorem k0_off789_inb : ∀ (v4857 : BitVec 32) (k0_hw790 : k0_chk790 v4857), ∀ a, (k0_off789 v4857) a + S32x4096.size a ≤ S4096x4096.size a := fun v4857 k0_hw790 => k0_hw790.1
theorem k0_off789_wordsi8 : ∀ (v4857 : BitVec 32) (k0_hw790 : k0_chk790 v4857), (Rect.unit (s := S4096x4096) (k0_off789 v4857) S32x4096.size (k0_off789_inb v4857 k0_hw790)).WholeWords (EltTy.packing .i8) := fun v4857 k0_hw790 => k0_hw790.2 (k0_off789_inb v4857 k0_hw790)

def k0_chk789 (v4854 : BitVec 32) : Prop :=
  (∀ a, (k0_off788 v4854) a + S32x4096.size a ≤ S4096x4096.size a) ∧
  (∀ (hinb : ∀ a, (k0_off788 v4854) a + S32x4096.size a ≤ S4096x4096.size a), (Rect.unit (s := S4096x4096) (k0_off788 v4854) S32x4096.size hinb).WholeWords (EltTy.packing .i8))
theorem k0_off788_inb : ∀ (v4854 : BitVec 32) (k0_hw789 : k0_chk789 v4854), ∀ a, (k0_off788 v4854) a + S32x4096.size a ≤ S4096x4096.size a := fun v4854 k0_hw789 => k0_hw789.1
theorem k0_off788_wordsi8 : ∀ (v4854 : BitVec 32) (k0_hw789 : k0_chk789 v4854), (Rect.unit (s := S4096x4096) (k0_off788 v4854) S32x4096.size (k0_off788_inb v4854 k0_hw789)).WholeWords (EltTy.packing .i8) := fun v4854 k0_hw789 => k0_hw789.2 (k0_off788_inb v4854 k0_hw789)

def k0_off790 (v4864 : BitVec 32) : Fin 2 → Nat :=
  let c128_i32_5302 : BitVec 32 := 128#32
  let v4865 : BitVec 32 := Scalar.muli v4864 c128_i32_5302
  let c96_i32_5303 : BitVec 32 := 96#32
  let v4866 : BitVec 32 := Scalar.addi v4865 c96_i32_5303
  let c0_i32_5312 : BitVec 32 := 0#32
  ![v4866.toNat, 0]

def k0_off791 (v4867 : BitVec 32) : Fin 2 → Nat :=
  let c128_i32_5305 : BitVec 32 := 128#32
  let v4868 : BitVec 32 := Scalar.muli v4867 c128_i32_5305
  let c96_i32_5306 : BitVec 32 := 96#32
  let v4869 : BitVec 32 := Scalar.addi v4868 c96_i32_5306
  let c0_i32_5313 : BitVec 32 := 0#32
  ![v4869.toNat, 0]

def k0_chk792 (v4867 : BitVec 32) : Prop :=
  (∀ a, (k0_off791 v4867) a + S32x4096.size a ≤ S4096x4096.size a) ∧
  (∀ (hinb : ∀ a, (k0_off791 v4867) a + S32x4096.size a ≤ S4096x4096.size a), (Rect.unit (s := S4096x4096) (k0_off791 v4867) S32x4096.size hinb).WholeWords (EltTy.packing .i8))
theorem k0_off791_inb : ∀ (v4867 : BitVec 32) (k0_hw792 : k0_chk792 v4867), ∀ a, (k0_off791 v4867) a + S32x4096.size a ≤ S4096x4096.size a := fun v4867 k0_hw792 => k0_hw792.1
theorem k0_off791_wordsi8 : ∀ (v4867 : BitVec 32) (k0_hw792 : k0_chk792 v4867), (Rect.unit (s := S4096x4096) (k0_off791 v4867) S32x4096.size (k0_off791_inb v4867 k0_hw792)).WholeWords (EltTy.packing .i8) := fun v4867 k0_hw792 => k0_hw792.2 (k0_off791_inb v4867 k0_hw792)

def k0_chk791 (v4864 : BitVec 32) : Prop :=
  (∀ a, (k0_off790 v4864) a + S32x4096.size a ≤ S4096x4096.size a) ∧
  (∀ (hinb : ∀ a, (k0_off790 v4864) a + S32x4096.size a ≤ S4096x4096.size a), (Rect.unit (s := S4096x4096) (k0_off790 v4864) S32x4096.size hinb).WholeWords (EltTy.packing .i8))
theorem k0_off790_inb : ∀ (v4864 : BitVec 32) (k0_hw791 : k0_chk791 v4864), ∀ a, (k0_off790 v4864) a + S32x4096.size a ≤ S4096x4096.size a := fun v4864 k0_hw791 => k0_hw791.1
theorem k0_off790_wordsi8 : ∀ (v4864 : BitVec 32) (k0_hw791 : k0_chk791 v4864), (Rect.unit (s := S4096x4096) (k0_off790 v4864) S32x4096.size (k0_off790_inb v4864 k0_hw791)).WholeWords (EltTy.packing .i8) := fun v4864 k0_hw791 => k0_hw791.2 (k0_off790_inb v4864 k0_hw791)

abbrev stage0_0 : Fin 1 → Memref sig .tc .vmem S128x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S16 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S16 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Ring.lean ====
/- The ring of devices: the neighbours, and whose rows reach a device after so many hops. -/
module

public import Mathlib.Data.Fintype.Prod
public import Mathlib.Data.Fintype.Pi
public import Mathlib.Data.Finset.Basic
public import Mathlib.Data.List.Infix
public import Mathlib.Tactic.FinCases
public import Mathlib.Tactic.Ring

@[expose] public section

namespace Cert.Order

/-! ## The ring -/

/-- The next device along the ring. -/
def nextTab : List ℕ :=
  [8, 0, 10, 4, 12, 2, 14, 6, 16, 1, 18, 3, 20, 5, 22, 7, 24, 9, 26, 11, 28, 13, 30, 15, 27, 17, 25, 19, 31, 21, 29, 23]
/-- The previous device along the ring. -/
def prevTab : List ℕ :=
  [1, 9, 5, 11, 3, 13, 7, 15, 0, 17, 2, 19, 4, 21, 6, 23, 8, 25, 10, 27, 12, 29, 14, 31, 16, 26, 18, 24, 20, 30, 22, 28]

/-- The neighbour a device sends to in direction `d`: `false` is forwards along the ring, `true` backwards. -/
def nbr (d : Bool) (c : Fin 32) : Fin 32 :=
  if d then Fin.ofNat 32 (prevTab.getD c.val 0) else Fin.ofNat 32 (nextTab.getD c.val 0)

/-- Going one step along the ring and then one step back returns to the same device. -/
theorem nbr_nbr (d : Bool) (c : Fin 32) : nbr (!d) (nbr d c) = c := by revert d c; decide +kernel
/-- Going one step back along the ring and then one step along returns to the same device. -/
theorem nbr_nbr' (d : Bool) (c : Fin 32) : nbr d (nbr (!d) c) = c := by revert d c; decide +kernel

/-- The device whose rows reach `c` in direction `d` after `h` hops. -/
def org (d : Bool) : ℕ → Fin 32 → Fin 32
  | 0, c => c
  | h + 1, c => nbr (!d) (org d h c)

/-- The origin one hop further away is one more step back from the origin `h` hops away. -/
theorem org_succ (d : Bool) (h : ℕ) (c : Fin 32) : org d (h + 1) c = nbr (!d) (org d h c) := rfl
/-- The origin `h + 1` hops away from a device is the origin `h` hops away from its upstream neighbour. -/
theorem org_succ' (d : Bool) (h : ℕ) (c : Fin 32) : org d (h + 1) c = org d h (nbr (!d) c) := by
  induction h with
  | zero => rfl
  | succ h ih => rw [org_succ, ih, org_succ]
/-- What `c` sends at hop `h` is what its neighbour receives there. -/
theorem org_nbr (d : Bool) (h : ℕ) (c : Fin 32) : org d (h + 1) (nbr d c) = org d h c := by
  rw [org_succ', nbr_nbr]

/-! ## Places along the ring -/

/-- The devices in ring order, from device 0 on. -/
def ringTab : List ℕ := [0, 8, 16, 24, 27, 19, 11, 3, 4, 12, 20, 28, 31, 23, 15, 7, 6, 14, 22, 30, 29, 21, 13, 5, 2, 10, 18, 26, 25, 17, 9, 1]
/-- The position of each device on the ring: the inverse of the table of the ring order. -/
def posTab : List ℕ := [0, 31, 24, 7, 8, 23, 16, 15, 1, 30, 25, 6, 9, 22, 17, 14, 2, 29, 26, 5, 10, 21, 18, 13, 3, 28, 27, 4, 11, 20, 19, 12]

/-- A device's place along the ring. -/
def pos (c : Fin 32) : ℕ := posTab.getD c.val 0

/-- A position is below the number of devices. -/
theorem pos_lt (c : Fin 32) : pos c < 32 := by revert c; decide +kernel
/-- The device standing at the position of `c` is `c`. -/
theorem ring_pos (c : Fin 32) : Fin.ofNat 32 (ringTab.getD (pos c) 0) = c := by revert c; decide +kernel
/-- A step along the ring adds one to the position in one direction and takes one away in the other, modulo 32. -/
theorem pos_nbr (d : Bool) (c : Fin 32) : pos (nbr d c) = (pos c + if d then 31 else 1) % 32 := by revert d c; decide +kernel

/-- Two devices at the same position are the same device. -/
theorem pos_inj {a b : Fin 32} (h : pos a = pos b) : a = b := by rw [← ring_pos a, ← ring_pos b, h]
/-- Some device stands at every position. -/
theorem pos_surj (n : ℕ) (h : n < 32) : ∃ c, pos c = n := by
  have : ∀ m : Fin 32, pos (Fin.ofNat 32 (ringTab.getD m.val 0)) = m.val := by decide +kernel
  exact ⟨_, this ⟨n, h⟩⟩

/-- The rows that come forwards are those of the devices behind, and the other way round. -/
theorem pos_org (d : Bool) (n : ℕ) (c : Fin 32) : pos (org d n c) = (pos c + if d then n else 31 * n) % 32 := by
  induction n with
  | zero => have := pos_lt c; cases d <;> simp only [org, Bool.false_eq_true, if_true, if_false] <;> omega
  | succ n ih => rw [org_succ, pos_nbr, ih]; cases d <;> simp only [Bool.not_true, Bool.not_false, Bool.false_eq_true, if_true, if_false] <;> omega
/-- The position of the origin `n` hops away, in either direction, for `n` up to 32. -/
theorem pos_org' (d : Bool) {n : ℕ} (hn : n ≤ 32) (c : Fin 32) : pos (org d n c) = (pos c + if d then n else 32 - n) % 32 := by
  rw [pos_org]; cases d <;> simp only [Bool.false_eq_true, if_true, if_false] <;> omega

end Cert.Order

end
-- ==== Proof.Sched.lean ====
/- The order in which one device of the ring sends, receives, multiplies and finally waits for its sends, and the
   facts about that order which the proof of the body reads: nothing here mentions a buffer or a semaphore. -/
module

public import proofs.«01_k».proof.Proof.Ring
public import Mathlib.Data.Fintype.Prod
public import Mathlib.Data.Fintype.Pi
public import Mathlib.Data.Finset.Basic
public import Mathlib.Data.List.Infix
public import Mathlib.Tactic.FinCases
public import Mathlib.Tactic.Ring

@[expose] public section

namespace Cert.Order

/-! ## Lanes and operations -/

/-- A lane: a direction, a hop, and one of four bands of 32 rows. -/
abbrev Lane := Bool × Fin 16 × Fin 4

/-- The last hop carries two bands in each direction, the others all four. -/
def valid (v : Lane) : Bool := v.2.1.val < 15 || (if v.1 then 2 ≤ v.2.2.val else v.2.2.val < 2)

/-- The lanes that a device uses: the pairs of a direction, a hop and a band along which a copy is sent. -/
def lanes : Finset Lane := Finset.univ.filter (fun v => valid v = true)

/-- The lane that forwards what this one delivered, at the next hop. -/
def next (v : Lane) : Lane := (v.1, v.2.1 + 1, v.2.2)
/-- The lane whose delivery this one forwards. -/
def prev (v : Lane) : Lane := (v.1, v.2.1 - 1, v.2.2)

/-- One operation of the body that moves or uses rows. -/
inductive Op
  | send (v : Lane)
  | recv (v : Lane)
  | mul (o : Option (Bool × Fin 16))
  | fin (v : Lane)
deriving DecidableEq

open Op

/-- The first sends: each device's own rows, four bands each way, and then its product with them. -/
@[reducible] def startOps (tl : List Op) : List Op :=
  send (false, 0, 0) :: send (false, 0, 1) :: send (false, 0, 2) :: send (false, 0, 3) ::
  send (true, 0, 0) :: send (true, 0, 1) :: send (true, 0, 2) :: send (true, 0, 3) :: mul none :: tl

/-- A hop whose deliveries are all forwarded at hop `k`. -/
@[reducible] def hopOps (h k : Fin 16) (tl : List Op) : List Op :=
  recv (false, h, 0) :: send (false, k, 0) :: recv (true, h, 0) :: send (true, k, 0) ::
  recv (false, h, 1) :: send (false, k, 1) :: recv (true, h, 1) :: send (true, k, 1) ::
  recv (false, h, 2) :: send (false, k, 2) :: recv (true, h, 2) :: send (true, k, 2) ::
  recv (false, h, 3) :: send (false, k, 3) :: recv (true, h, 3) :: send (true, k, 3) ::
  mul (some (false, h)) :: mul (some (true, h)) :: tl

/-- The last two hops: half the bands are forwarded, and then none. -/
@[reducible] def lastOps (tl : List Op) : List Op :=
  recv (false, 14, 0) :: send (false, 15, 0) :: recv (true, 14, 0) ::
  recv (false, 14, 1) :: send (false, 15, 1) :: recv (true, 14, 1) ::
  recv (false, 14, 2) :: recv (true, 14, 2) :: send (true, 15, 2) ::
  recv (false, 14, 3) :: recv (true, 14, 3) :: send (true, 15, 3) ::
  mul (some (false, 14)) :: mul (some (true, 14)) ::
  recv (false, 15, 0) :: recv (false, 15, 1) :: recv (true, 15, 2) :: recv (true, 15, 3) :: mul (some (false, 15)) :: tl

/-- The waits for the sends of one hop. -/
@[reducible] def finOps (h : Fin 16) (tl : List Op) : List Op :=
  fin (false, h, 0) :: fin (true, h, 0) :: fin (false, h, 1) :: fin (true, h, 1) ::
  fin (false, h, 2) :: fin (true, h, 2) :: fin (false, h, 3) :: fin (true, h, 3) :: tl

/-- The waits for the sends of hops 8 on. -/
@[reducible] def finHigh : List Op :=
  finOps 8 <| finOps 9 <| finOps 10 <| finOps 11 <| finOps 12 <| finOps 13 <| finOps 14
    [fin (false, 15, 0), fin (false, 15, 1), fin (true, 15, 2), fin (true, 15, 3)]
/-- The waits for the sends. -/
@[reducible] def finAll : List Op :=
  finOps 0 <| finOps 1 <| finOps 2 <| finOps 3 <| finOps 4 <| finOps 5 <| finOps 6 <| finOps 7 finHigh

/-- The operations from hop 7 on. -/
@[reducible] def fromHop7 : List Op :=
  hopOps 7 8 <| hopOps 8 9 <| hopOps 9 10 <| hopOps 10 11 <| hopOps 11 12 <| hopOps 12 13 <| hopOps 13 14 <| lastOps finAll

/-- The body's operations in program order. -/
@[reducible] def ops : List Op :=
  startOps <| hopOps 0 1 <| hopOps 1 2 <| hopOps 2 3 <| hopOps 3 4 <| hopOps 4 5 <| hopOps 5 6 <| hopOps 6 7 fromHop7

/-- The body performs 404 of the listed operations. -/
theorem ops_length : ops.length = 404 := by decide +kernel

/-! ## What holds at each operation, of the operations still to come -/

/-- The lane whose delivery completes band `j` of the block that arrives at hop `h` in direction `d`. -/
def via (d : Bool) (h : Fin 16) (j : Fin 4) : Lane := if valid (d, h, j) then (d, h, j) else (!d, h, j)

/-- What is asked of one operation, given the operations that come after it. -/
def opOk (o : Op) (rest : List Op) : Bool :=
  match o with
  | send v => valid v && decide (send v ∉ rest) && decide (fin v ∈ rest)
      && (v.2.1.val == 0 || decide (recv (prev v) ∉ rest))
  | recv v => valid v && decide (recv v ∉ rest)
      && (!(decide (v.2.1.val < 15) && valid (next v)) || decide (send (next v) ∈ rest))
      && rest.all (fun q => match q with | send u => decide (v.2.1.val < u.2.1.val) | _ => true)
  | mul none => decide (mul none ∉ rest)
  | mul (some (d, h)) => decide (mul (some (d, h)) ∉ rest)
      && (List.finRange 4).all (fun j => valid (via d h j) && decide (recv (via d h j) ∉ rest))
  | fin v => valid v && decide (fin v ∉ rest) && decide (send v ∉ rest) && rest.all (fun q => match q with | fin _ => true | _ => false)

/-- Every operation of a list meets what `opOk` asks of it. -/
def allOk : List Op → Bool
  | [] => true
  | o :: rest => opOk o rest && allOk rest

/-- The whole schedule meets it, found by evaluation. -/
theorem allOk_ops : allOk ops = true := by decide +kernel

/-- In a list that is all in order, an operation is in order with respect to whatever follows it. -/
theorem opOk_of_allOk {o : Op} {rest : List Op} : ∀ {l : List Op}, allOk l = true → (o :: rest) <:+ l → opOk o rest = true
  | [], _, h => absurd (List.eq_nil_of_suffix_nil h) (List.cons_ne_nil _ _)
  | q :: l, hl, h => by
    rw [allOk, Bool.and_eq_true] at hl
    rcases List.suffix_cons_iff.1 h with h | h
    · obtain ⟨rfl, rfl⟩ := List.cons.inj h; exact hl.1
    · exact opOk_of_allOk hl.2 h

/-- A tail of the program order. -/
def Tail (l : List Op) : Prop := l <:+ ops

/-- An operation of the schedule is in order with respect to the rest of the schedule. -/
theorem Tail.ok {o : Op} {l : List Op} (h : Tail (o :: l)) : opOk o l = true := opOk_of_allOk allOk_ops h
/-- What is left after an operation of the schedule is again a tail of the schedule. -/
theorem Tail.tail {o : Op} {l : List Op} (h : Tail (o :: l)) : Tail l := (List.suffix_cons o l).trans h

end Cert.Order

end
-- ==== Proof.Blocks.lean ====
/- Which block each product of the body reads, and which band each lane delivers. -/
module

public import proofs.«01_k».proof.Proof.Sched
public import Mathlib.Data.Fintype.Option

@[expose] public section

namespace Cert.Order

open Op

/-- The lanes in use: every lane of the first fifteen hops, and on the last hop two bands in each direction. -/
theorem valid_iff (v : Lane) : v ∈ lanes ↔ v.2.1.val < 15 ∨ (v.1 = true ∧ 2 ≤ v.2.2.val) ∨ (v.1 = false ∧ v.2.2.val < 2) := by
  obtain ⟨d, h, j⟩ := v
  cases d <;> simp [lanes, valid]

/-- The products: the device's own block, and the block that arrives at each hop in each direction; at the last hop the
    two directions bring halves of one block. -/
def muls : Finset (Option (Bool × Fin 16)) := Finset.univ.filter (fun a => a ≠ some (true, 15))

/-- The products: all sixteen hops in one direction, and fifteen in the other. -/
theorem muls_iff (d : Bool) (h : Fin 16) : some (d, h) ∈ muls ↔ d = false ∨ h.val < 15 := by
  have : h.val = 15 ↔ h = 15 := ⟨fun e => Fin.ext e, fun e => by rw [e]; rfl⟩
  have := h.2
  cases d <;> simp [muls] <;> omega

/-- Whose rows a product reads on device `c`. -/
def own (c : Fin 32) : Option (Bool × Fin 16) → Fin 32
  | none => c
  | some (d, h) => org d (h.val + 1) c

/-- The position of the device whose rows arrive on a given hop. -/
theorem pos_hop (d : Bool) (h : Fin 16) (c : Fin 32) : pos (org d (h.val + 1) c) = (pos c + if d then h.val + 1 else 31 - h.val) % 32 := by
  have := h.2
  rw [pos_org' d (by omega)]; cases d <;> simp only [Bool.false_eq_true, if_true, if_false] <;> congr 2
  omega

/-- Two different products of a device work on rows of different devices. -/
theorem own_inj (c : Fin 32) {a b : Option (Bool × Fin 16)} (ha : a ∈ muls) (hb : b ∈ muls) (h : own c a = own c b) : a = b := by
  have hp := congrArg pos h
  have h0 := pos_lt c
  rcases a with _ | ⟨d, k⟩ <;> rcases b with _ | ⟨e, m⟩
  · rfl
  · rw [muls_iff] at hb; simp only [own, pos_hop] at hp; exfalso
    have := m.2; split at hp <;> omega
  · rw [muls_iff] at ha; simp only [own, pos_hop] at hp; exfalso
    have := k.2; split at hp <;> omega
  · rw [muls_iff] at ha hb; simp only [own, pos_hop] at hp
    have := k.2; have := m.2
    cases d <;> cases e <;> simp at ha hb hp ⊢ <;> first | exact Fin.ext (by omega) | (exfalso; omega)

/-- The rows of every device are worked on by some product. -/
theorem own_surj (c o : Fin 32) : ∃ a ∈ muls, own c a = o := by
  have h0 := pos_lt c; have h1 := pos_lt o
  rcases Nat.eq_zero_or_pos ((pos c + 32 - pos o) % 32) with hz | hz
  · exact ⟨none, Finset.mem_filter.2 ⟨Finset.mem_univ _, by simp⟩, pos_inj (by simp only [own]; omega)⟩
  · rcases Nat.lt_or_ge 16 ((pos c + 32 - pos o) % 32) with hg | hg
    · refine ⟨some (true, ⟨31 - (pos c + 32 - pos o) % 32, by omega⟩), (muls_iff _ _).2 (Or.inr (by simp only; omega)), pos_inj ?_⟩
      refine (pos_hop _ _ _).trans ?_
      simp only [if_true]; omega
    · refine ⟨some (false, ⟨(pos c + 32 - pos o) % 32 - 1, by omega⟩), (muls_iff _ _).2 (Or.inl rfl), pos_inj ?_⟩
      refine (pos_hop _ _ _).trans ?_
      simp only [Bool.false_eq_true, if_false]; omega

/-- Whichever lane completes a band, it is a band of the product's block. -/
theorem org_via (c : Fin 32) (d : Bool) (h : Fin 16) (j : Fin 4) :
    org (via d h j).1 ((via d h j).2.1.val + 1) c = org d (h.val + 1) c := by
  unfold via
  split
  · rfl
  · next hv =>
    have : h.val = 15 := by
      have := h.2
      simp only [valid, Bool.or_eq_true, decide_eq_true_eq, not_or] at hv; omega
    refine pos_inj ?_
    have := pos_lt c
    simp only [pos_hop, this]; cases d <;> simp <;> omega
/-- The lane by which band `j` of a product's rows arrives carries band `j`. -/
theorem via_band (d : Bool) (h : Fin 16) (j : Fin 4) : (via d h j).2.2 = j := by unfold via; split <;> rfl

/-- No two lanes deliver the same band, and none delivers a band of the device's own. -/
theorem lane_inj (c : Fin 32) {u v : Lane} (hu : u ∈ lanes) (hv : v ∈ lanes)
    (h : org u.1 (u.2.1.val + 1) c = org v.1 (v.2.1.val + 1) c) (hj : u.2.2 = v.2.2) : u = v := by
  obtain ⟨d, k, j⟩ := u; obtain ⟨e, m, j'⟩ := v
  simp only at hj; subst hj
  rw [valid_iff] at hu hv
  have hp := congrArg pos h
  have h0 := pos_lt c; have := k.2; have := m.2
  simp only [pos_hop] at hp hu hv
  cases d <;> cases e <;> simp at hu hv hp ⊢ <;> first | exact Fin.ext (by omega) | (exfalso; omega)
/-- No lane brings a device its own rows. -/
theorem lane_ne (c : Fin 32) (u : Lane) : org u.1 (u.2.1.val + 1) c ≠ c := by
  intro h
  have hp := congrArg pos h
  have h0 := pos_lt c; have := u.2.1.2
  simp only [pos_hop] at hp
  split at hp <;> omega
/-- Every band of every other device's rows arrives by some lane in use. -/
theorem lane_surj (c o : Fin 32) (j : Fin 4) (ho : o ≠ c) : ∃ u ∈ lanes, org u.1 (u.2.1.val + 1) c = o ∧ u.2.2 = j := by
  obtain ⟨a, ha, hao⟩ := own_surj c o
  rcases a with _ | ⟨d, h⟩
  · exact absurd hao.symm ho
  · refine ⟨via d h j, ?_, (org_via c d h j).trans hao, via_band d h j⟩
    rw [valid_iff]; unfold via
    have := h.2; have := j.2
    split
    · next hv => simpa [valid, valid_iff] using (valid_iff (d, h, j)).1 (by simp [lanes, hv])
    · next hv =>
      rw [valid] at hv
      cases d <;> simp at hv ⊢ <;> omega

/-! ## What the program order says at each operation -/

/-- A lane is in use exactly when `valid` says so. -/
theorem mem_lanes {v : Lane} : v ∈ lanes ↔ valid v = true := by simp [lanes]

/-- The lane before the next lane is the lane itself. -/
theorem prev_next (v : Lane) : prev (next v) = v := by
  obtain ⟨d, h, j⟩ := v
  have : ∀ h : Fin 16, h + 1 - 1 = h := by decide
  simp [prev, next, this]
/-- The lane after the previous lane is the lane itself. -/
theorem next_prev (v : Lane) : next (prev v) = v := by
  obtain ⟨d, h, j⟩ := v
  have : ∀ h : Fin 16, h - 1 + 1 = h := by decide
  simp [prev, next, this]
/-- The next lane is one hop further, before the last hop. -/
theorem next_val {v : Lane} (h : v.2.1.val < 15) : (next v).2.1.val = v.2.1.val + 1 := by
  obtain ⟨d, k, j⟩ := v
  show (k + 1).val = k.val + 1
  rw [Fin.val_add_one_of_lt]
  exact Fin.lt_def.2 (show k.val < 15 from h)
/-- The previous lane is one hop nearer, after the first hop. -/
theorem prev_val {v : Lane} (h : v.2.1.val ≠ 0) : (prev v).2.1.val + 1 = v.2.1.val := by
  obtain ⟨d, k, j⟩ := v
  have hk := k.2
  have e : (prev (d, k, j)).2.1.val = (k - 1 : Fin 16).val := rfl
  have h' : k.val ≠ 0 := h
  rw [e, Fin.sub_def]
  show (16 - 1 + k.val) % 16 + 1 = k.val
  omega

/-- When a copy is sent its lane is in use, it is not sent again, its end is still awaited later, and what it forwards has already arrived. -/
theorem ok_send {v : Lane} {l : List Op} (h : Tail (send v :: l)) :
    v ∈ lanes ∧ send v ∉ l ∧ fin v ∈ l ∧ (v.2.1.val = 0 ∨ recv (prev v) ∉ l) := by
  have := h.ok
  simp only [opOk, Bool.and_eq_true, Bool.or_eq_true, decide_eq_true_eq, beq_iff_eq] at this
  exact ⟨mem_lanes.2 this.1.1.1, this.1.1.2, this.1.2, this.2⟩
/-- When an arrival is awaited its lane is in use, it is not awaited again, a copy that forwards it is still to be sent, and every copy still to be sent is on a later hop. -/
theorem ok_recv {v : Lane} {l : List Op} (h : Tail (recv v :: l)) :
    v ∈ lanes ∧ recv v ∉ l ∧ ((v.2.1.val < 15 ∧ next v ∈ lanes) → send (next v) ∈ l) ∧ ∀ u, send u ∈ l → v.2.1.val < u.2.1.val := by
  have := h.ok
  simp only [opOk, Bool.and_eq_true, Bool.or_eq_true, decide_eq_true_eq, Bool.not_eq_true', List.all_eq_true] at this
  refine ⟨mem_lanes.2 this.1.1.1, this.1.1.2, fun hn => this.1.2.resolve_left ?_, fun u hu => of_decide_eq_true (this.2 _ hu)⟩
  rw [Bool.and_eq_false_iff, not_or]
  exact ⟨by simp [hn.1], by simp [mem_lanes.1 hn.2]⟩
/-- A product is not taken twice. -/
theorem ok_mul {o : Option (Bool × Fin 16)} {l : List Op} (h : Tail (mul o :: l)) : mul o ∉ l := by
  have := h.ok
  rcases o with _ | ⟨d, k⟩
  · simpa only [opOk, decide_eq_true_eq] using this
  · simp only [opOk, Bool.and_eq_true, decide_eq_true_eq] at this; exact this.1
/-- When a product is taken every band of its rows has arrived. -/
theorem ok_via {d : Bool} {k : Fin 16} {l : List Op} (h : Tail (mul (some (d, k)) :: l)) (j : Fin 4) : via d k j ∈ lanes ∧ recv (via d k j) ∉ l := by
  have := h.ok
  simp only [opOk, Bool.and_eq_true, decide_eq_true_eq, List.all_eq_true] at this
  exact ⟨mem_lanes.2 (this.2 j (List.mem_finRange j)).1, (this.2 j (List.mem_finRange j)).2⟩
/-- When the end of a copy is awaited it is not awaited again, and there is nothing left to send or to receive. -/
theorem ok_fin {v : Lane} {l : List Op} (h : Tail (fin v :: l)) : v ∈ lanes ∧ fin v ∉ l ∧ (∀ u, send u ∉ l) ∧ ∀ u, recv u ∉ l := by
  have := h.ok
  simp only [opOk, Bool.and_eq_true, decide_eq_true_eq, List.all_eq_true] at this
  exact ⟨mem_lanes.2 this.1.1.1, this.1.1.2, fun u hu => absurd (this.2 _ hu) (by simp), fun u hu => absurd (this.2 _ hu) (by simp)⟩

/-- Every lane is sent, delivered and waited for, and every product is made. -/
theorem all_in : (∀ v ∈ lanes, send v ∈ ops ∧ recv v ∈ ops ∧ fin v ∈ ops) ∧ ∀ o ∈ muls, mul o ∈ ops := by decide +kernel

end Cert.Order

end
-- ==== Proof.IdealBase.lean ====
/- The protocol of the ring: the cells, what each holds for the thread that waits on it, and who owes what.
   The same for the program read over the extended reals. -/
module

public import proofs.«01_k».proof.Proof.Blocks
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.ValueIdxCore
public import Idealize.ShloMosaic.Lib.Tactic

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Words, memrefs and windows -/

/-- The word that names device `o` in a table. -/
def wd (o : Dev nD) : BitVec 32 := BitVec.ofNat 32 o.val

/-- The first row and column of a band, as the kernel computes it from a table's word. -/
def slotOff (w : BitVec 32) (n : ℕ) : Fin 2 → ℕ := ![(Scalar.addi (Scalar.muli w 128#32) (BitVec.ofNat 32 n)).toNat, 0]
/-- The first row and column of a block. -/
def rowOff (w : BitVec 32) : Fin 2 → ℕ := ![(Scalar.muli w 128#32).toNat, 0]
/-- A device's logical id as the kernel computes it from a table's word. -/
def devW (w : BitVec 32) : ℕ := (Scalar.addi 0#32 (Scalar.muli w 1#32)).toNat

/-- The word that names a device has the number of the device as its value. -/
theorem wd_toNat (o : Dev nD) : (wd o).toNat = o.val := by
  have : o.val < 32 := o.2; unfold wd; rw [BitVec.toNat_ofNat]; exact Nat.mod_eq_of_lt (by omega)
/-- The offset the kernel computes for a band of a device's rows. -/
theorem slotOff_wd (o : Dev nD) (n : ℕ) (hn : n < 128) : slotOff (wd o) n = ![128 * o.val + n, 0] := by
  have : o.val < 32 := o.2
  unfold slotOff Scalar.addi Scalar.muli IntOp.addi IntOp.muli
  rw [BitVec.toNat_add, BitVec.toNat_mul, wd_toNat, BitVec.toNat_ofNat, BitVec.toNat_ofNat]
  congr 1; omega
/-- The offset the kernel computes for all the rows of a device. -/
theorem rowOff_wd (o : Dev nD) : rowOff (wd o) = ![128 * o.val, 0] := by
  have : o.val < 32 := o.2
  unfold rowOff Scalar.muli IntOp.muli
  rw [BitVec.toNat_mul, wd_toNat, BitVec.toNat_ofNat]
  congr 1; omega
/-- The device number read back from the word that names the device. -/
theorem devW_wd (o : Dev nD) : devW (wd o) = o.val := by
  have : o.val < 32 := o.2
  unfold devW Scalar.addi Scalar.muli IntOp.addi IntOp.muli
  rw [BitVec.toNat_add, BitVec.toNat_mul, wd_toNat, BitVec.toNat_ofNat, BitVec.toNat_ofNat]
  omega

abbrev xM : Memref sig .tc .vmem S128x4096 .i8 := Memref.whole cc0_stg0_0
abbrev wM : Memref sig .tc .vmem S4096x64 .i8 := Memref.whole cc0_stg1_0
abbrev oM : Memref sig .tc .vmem S4096x64 .f32 := Memref.whole cc0_stg10_0
abbrev xfM : Memref sig .tc .vmem S4096x4096 .i8 := Memref.whole cc0_scratch0

/-- A band of 32 rows of the gathered array, at an offset. -/
abbrev slotM (off : Fin 2 → ℕ) (h : ∀ a, off a + S32x4096.size a ≤ S4096x4096.size a) : Memref sig .tc .vmem S32x4096 .i8 :=
  xfM.slice (Rect.unit (s := S4096x4096) off S32x4096.size h) (fun _ => rfl)
/-- A band of 32 rows of the device's own block. -/
abbrev bandM (off : Fin 2 → ℕ) (h : ∀ a, off a + S32x4096.size a ≤ S128x4096.size a) : Memref sig .tc .vmem S32x4096 .i8 :=
  xM.slice (Rect.unit (s := S128x4096) off S32x4096.size h) (fun _ => rfl)

abbrev XfC : Type := (cc0_scratch0 : Ref sig .tc).ty.Contents (Elt F)
abbrev XC : Type := (cc0_stg0_0 : Ref sig .tc).ty.Contents (Elt F)
abbrev WC : Type := (cc0_stg1_0 : Ref sig .tc).ty.Contents (Elt F)
abbrev OC : Type := (cc0_stg10_0 : Ref sig .tc).ty.Contents (Elt F)

/-- The elements of band `j` of device `o`'s rows in the gathered array. -/
def slotSet (o : Dev nD) (j : Fin 4) : Finset (cc0_scratch0 : Ref sig .tc).ty.Idx :=
  Finset.univ.filter fun i => (i (0 : Fin 2)).val / 32 = 4 * o.val + j.val
/-- The elements of band `j` of the own block. -/
def bandSet (j : Fin 4) : Finset (cc0_stg0_0 : Ref sig .tc).ty.Idx := Finset.univ.filter fun i => (i (0 : Fin 2)).val / 32 = j.val
/-- The elements of device `o`'s rows in the result. -/
def outSet (o : Dev nD) : Finset (cc0_stg10_0 : Ref sig .tc).ty.Idx := Finset.univ.filter fun i => (i (0 : Fin 2)).val / 128 = o.val

/-- The view of the kernel at such an offset covers exactly band `j` of the rows of device `o`. -/
theorem slotM_set (o : Dev nD) (j : Fin 4) {off : Fin 2 → ℕ} {h} (ho : off = ![128 * o.val + 32 * j.val, 0]) :
    (slotM off h).view.set = slotSet o j := by
  subst ho
  ext i
  rw [show (slotM _ h).view.set = (Rect.unit (s := S4096x4096) _ S32x4096.size h).set from View.set_slice_whole _ _,
    Rect.mem_set_unit, slotSet, Finset.mem_filter, Fin.forall_fin_two]
  have h1 : (i (1 : Fin 2)).val < 4096 := (i (1 : Fin 2)).2
  show ((128 * o.val + 32 * j.val ≤ (i (0 : Fin 2)).val ∧ (i (0 : Fin 2)).val < 128 * o.val + 32 * j.val + 32) ∧ 0 ≤ (i (1 : Fin 2)).val ∧ (i (1 : Fin 2)).val < 0 + 4096) ↔ _
  simp only [Finset.mem_univ, true_and]
  omega
/-- The view of a band of the device's own input covers exactly that band. -/
theorem bandM_set (j : Fin 4) {off : Fin 2 → ℕ} {h} (ho : off = ![32 * j.val, 0]) : (bandM off h).view.set = bandSet j := by
  subst ho
  ext i
  rw [show (bandM _ h).view.set = (Rect.unit (s := S128x4096) _ S32x4096.size h).set from View.set_slice_whole _ _,
    Rect.mem_set_unit, bandSet, Finset.mem_filter, Fin.forall_fin_two]
  have h1 : (i (1 : Fin 2)).val < 4096 := (i (1 : Fin 2)).2
  show ((32 * j.val ≤ (i (0 : Fin 2)).val ∧ (i (0 : Fin 2)).val < 32 * j.val + 32) ∧ 0 ≤ (i (1 : Fin 2)).val ∧ (i (1 : Fin 2)).val < 0 + 4096) ↔ _
  simp only [Finset.mem_univ, true_and]
  omega

/-! ## Contents -/

set_option backward.proofsInPublic true in
/-- Which device's block a row of the gathered array is in, and which of its rows it is. -/
def devOf (n : ℕ) : Dev nD := ⟨n / 128 % 32, Nat.mod_lt _ (by decide)⟩
set_option backward.proofsInPublic true in
/-- The row of a block that a row of the gathered array is. -/
def inRow (n : ℕ) : Fin 128 := ⟨n % 128, Nat.mod_lt _ (by decide)⟩

/-- Row `128 * o + k` of the gathered array belongs to device `o`. -/
theorem devOf_eq (o : Dev nD) (k : ℕ) (hk : k < 128) : devOf (128 * o.val + k) = o := by
  have : o.val < 32 := o.2; refine Fin.ext ?_; show (128 * o.val + k) / 128 % 32 = o.val; omega
/-- Row `128 * o + k` of the gathered array is row `k` of its block. -/
theorem inRow_eq (o k : ℕ) (hk : k < 128) : inRow (128 * o + k) = ⟨k, hk⟩ := by
  refine Fin.ext ?_; show (128 * o + k) % 128 = k; omega

/-- The gathered array: device `o`'s rows are `o`'s block. -/
def XG (X : Dev nD → XC (F := F)) : XfC (F := F) := fun i =>
  X (devOf (i (0 : Fin 2)).val) (ValueIdx.ix2 (inRow (i (0 : Fin 2)).val) (i (1 : Fin 2)))

/-- The result: device `o`'s rows are the product of `o`'s block, `P o`. -/
def YG (P : Dev nD → FVec F S128x64 .f32) : OC (F := F) := fun i =>
  P (devOf (i (0 : Fin 2)).val) (ValueIdx.ix2 (inRow (i (0 : Fin 2)).val) (i (1 : Fin 2)))

/-- What a first send lands: the sender's own band, where the gathered array has it. -/
theorem land_own (X : Dev nD → XC (F := F)) (o : Dev nD) (j : Fin 4) {off off' : Fin 2 → ℕ} {h h'} (ho : off = ![128 * o.val + 32 * j.val, 0])
    (ho' : off' = ![32 * j.val, 0]) (fd : XfC (F := F)) :
    ∀ i ∈ slotSet o j, (slotM off h).view.write (Elt F) fd ((bandM off' h').view.read (Elt F) (X o)) Finset.univ i = XG X i := by
  intro i hi
  rw [← slotM_set o j (h := h) ho] at hi
  obtain ⟨x, -, rfl⟩ := Finset.mem_map.1 hi
  rw [View.write_emb_of_mem _ _ (Finset.mem_univ x)]
  subst ho ho'
  have h0 : (x (0 : Fin 2)).val < 32 := (x (0 : Fin 2)).2
  have hj := j.2
  have e0 : ((slotM ![128 * o.val + 32 * j.val, 0] h).view.emb x (0 : Fin 2)).val = 128 * o.val + (32 * j.val + (x (0 : Fin 2)).val) := by
    show 128 * o.val + 32 * j.val + 1 * (x (0 : Fin 2)).val = _; omega
  have hk : 32 * j.val + (x (0 : Fin 2)).val < 128 := by omega
  have hd := devOf_eq o _ hk
  have hr := inRow_eq o.val _ hk
  rw [← e0] at hd hr
  unfold XG
  rw [hd, hr]
  show (X o) ((bandM ![32 * j.val, 0] h').view.emb x) = _
  have he : ((bandM ![32 * j.val, 0] h').view.emb x : S128x4096.Idx) = ValueIdx.ix2 (⟨32 * j.val + (x (0 : Fin 2)).val, hk⟩ : Fin 128)
      ((slotM ![128 * o.val + 32 * j.val, 0] h).view.emb x (1 : Fin 2)) := by
    funext a
    match a with
    | ⟨0, _⟩ => exact Fin.ext (by show 32 * j.val + 1 * (x (0 : Fin 2)).val = 32 * j.val + (x (0 : Fin 2)).val; omega)
    | ⟨1, _⟩ => rfl
  exact congrArg (X o) he

/-- What a later send lands: the same band of the gathered array. -/
theorem land_slot (g : XfC (F := F)) (o : Dev nD) (j : Fin 4) {off : Fin 2 → ℕ} {h h'} (ho : off = ![128 * o.val + 32 * j.val, 0]) (fd : XfC (F := F)) :
    ∀ i ∈ slotSet o j, (slotM off h).view.write (Elt F) fd ((slotM off h').view.read (Elt F) g) Finset.univ i = g i := by
  intro i hi
  rw [← slotM_set o j (h := h) ho] at hi
  obtain ⟨x, -, rfl⟩ := Finset.mem_map.1 hi
  rw [View.write_emb_of_mem _ _ (Finset.mem_univ x)]
  rfl

/-! ## Semaphores and cells -/

set_option backward.proofsInPublic true in
/-- The semaphore of a lane: the one its sender waits on (`false`), the one its receiver waits on (`true`). -/
def semIx (b : Bool) (v : Lane) : DmaSem sig :=
  ⟨11 + 64 * ((if v.1 then 2 else 0) + if b then 1 else 0) + 4 * v.2.1.val + v.2.2.val, by
    have := v.2.1.2; have := v.2.2.2; show _ < 267; split <;> split <;> omega⟩

set_option backward.proofsInPublic true in
/-- Which lane a semaphore serves, if any. -/
def dec (q : DmaSem sig) : Option (Bool × Lane) :=
  if h : 11 ≤ q.val then
    some (decide ((q.val - 11) / 64 % 2 = 1), decide (2 ≤ (q.val - 11) / 64), ⟨(q.val - 11) % 64 / 4, by omega⟩, ⟨(q.val - 11) % 4, by omega⟩)
  else none

/-- Reading back the semaphore of a lane gives the lane. -/
theorem dec_semIx (b : Bool) (v : Lane) : dec (semIx b v) = some (b, v) := by
  obtain ⟨d, h, j⟩ := v
  have := h.2; have := j.2
  have e : 11 ≤ (semIx b (d, h, j)).val := by show 11 ≤ 11 + _ + _ + _; omega
  unfold dec
  rw [dif_pos e]
  have hv : (semIx b (d, h, j)).val = 11 + 64 * ((if d then 2 else 0) + if b then 1 else 0) + 4 * h.val + j.val := rfl
  refine congrArg some (Prod.ext ?_ (Prod.ext ?_ (Prod.ext ?_ ?_)))
  · show decide _ = b; rw [hv]; cases d <;> cases b <;> simp <;> omega
  · show decide _ = d; rw [hv]; cases d <;> cases b <;> simp <;> omega
  · refine Fin.ext ?_; show (_ - 11) % 64 / 4 = _; rw [hv]; cases d <;> cases b <;> simp <;> omega
  · refine Fin.ext ?_; show (_ - 11) % 4 = _; rw [hv]; cases d <;> cases b <;> simp <;> omega
/-- Different lanes have different semaphores. -/
theorem semIx_inj {b b' : Bool} {v v' : Lane} (h : semIx b v = semIx b' v') : b = b' ∧ v = v' := by
  have := congrArg dec h
  rw [dec_semIx, dec_semIx] at this
  exact Prod.ext_iff.1 (Option.some.inj this)
/-- A semaphore that reads back as a lane is the semaphore of that lane. -/
theorem semIx_dec {q : DmaSem sig} {b : Bool} {v : Lane} (h : dec q = some (b, v)) : q = semIx b v := by
  unfold dec at h
  split at h
  · next hq =>
    have hq2 : q.val < 267 := q.2
    obtain ⟨d, k, j⟩ := v
    have e := Option.some.inj h
    simp only [Prod.mk.injEq] at e
    obtain ⟨rfl, rfl, rfl, rfl⟩ := e
    refine Fin.ext ?_
    show q.val = 11 + 64 * ((if decide (2 ≤ (q.val - 11) / 64) = true then 2 else 0) + if decide ((q.val - 11) / 64 % 2 = 1) = true then 1 else 0) + 4 * ((q.val - 11) % 64 / 4) + (q.val - 11) % 4
    simp only [decide_eq_true_eq]
    split <;> split <;> omega
  · exact absurd h (by simp)

abbrev barS : Sem sig := (SemArray.scalar (sig.barrier 0 rfl) : Sems sig S_).sem
abbrev barCell (c : Dev nD) : GSem nD τ sig := ((c : Thread nD τ), .reg barS)
abbrev cell (b : Bool) (v : Lane) (c : Dev nD) : GSem nD τ sig := ((c : Thread nD τ), .dma (semIx b v))
abbrev sendCell (v : Lane) (c : Dev nD) : GSem nD τ sig := cell false v c
abbrev recvCell (v : Lane) (c : Dev nD) : GSem nD τ sig := cell true v c

abbrev N : ℕ := (slotM ![0, 0] (by decide)).view.dmaCredit
/-- A copy of one band moves a positive amount. -/
theorem N_pos : 0 < N := View.dmaCredit_pos _ (by decide)

/-! ## Points-tos -/

abbrev xfLoc (c : Dev nD) : Loc nD τ sig := (c : Thread nD τ).loc cc0_scratch0
abbrev xLoc (c : Dev nD) : Loc nD τ sig := (c : Thread nD τ).loc cc0_stg0_0
abbrev oLoc (c : Dev nD) : Loc nD τ sig := (c : Thread nD τ).loc cc0_stg10_0

/-- Band `j` of device `o`'s rows in `c`'s gathered array. -/
def slotPts (c o : Dev nD) (j : Fin 4) (q : PosShare TreeShare) (f : XfC (F := F)) : sProp 𝕄 := xfLoc c ↦[slotSet o j]{q} f
/-- Band `j` of `c`'s own block. -/
def bandPts (c : Dev nD) (j : Fin 4) (q : PosShare TreeShare) (f : XC (F := F)) : sProp 𝕄 := xLoc c ↦[bandSet j]{q} f
/-- Device `o`'s rows of `c`'s result. -/
def outPts (c o : Dev nD) (f : OC (F := F)) : sProp 𝕄 := oLoc c ↦[outSet o]{fullShare} f

omit [FloatOps F] in
instance slotPts_storable (c o : Dev nD) (j q f) : BI.Storable (upEmb : UEmb _ 𝕄) (slotPts (F := F) c o j q f) := by unfold slotPts; infer_instance
omit [FloatOps F] in
instance bandPts_storable (c : Dev nD) (j q f) : BI.Storable (upEmb : UEmb _ 𝕄) (bandPts (F := F) c j q f) := by unfold bandPts; infer_instance

/-- The share of its own block a device's sends in each direction read; its products read the left half. -/
def qs (d : Bool) : PosShare TreeShare := if d then fullShare.right.right else fullShare.right.left

/-! ## The schedule -/

section Sched

variable (X : Dev nD → XC (F := F))

/-- What a lane's sender reads from: its own band, or half of the band that was delivered a hop before. -/
def Src (c : Dev nD) (v : Lane) : sProp 𝕄 :=
  if v.2.1.val = 0 then bandPts c v.2.2 (qs v.1) (X c) else slotPts c (org v.1 v.2.1.val c) v.2.2 fullShare.right (XG X)

/-- Paid to device `c`'s barrier cell by the neighbour it sends to in direction `d`: the bands its sends there land in. -/
def barPay (c : Dev nD) (d : Bool) : sProp 𝕄 :=
  bigSep (lanes.filter fun v => v.1 = d) fun v =>
    iprop((∃ f, slotPts (nbr v.1 c) (org v.1 v.2.1.val c) v.2.2 fullShare f) ∗ reached ER (recvCell v (nbr v.1 c)) 0)

/-- Paid to a lane's cells by its one transfer: the source back, the band filled. -/
def lanePay (c : Dev nD) (b : Bool) (v : Lane) : sProp 𝕄 :=
  if b then slotPts c (org v.1 (v.2.1.val + 1) c) v.2.2 fullShare (XG X) else Src X c v

omit [FloatOps F] in
instance Src_storable (c v) : BI.Storable (upEmb : UEmb _ 𝕄) (Src X c v) := by unfold Src; split <;> infer_instance
omit [FloatOps F] in
instance barPay_storable (c d) : BI.Storable (upEmb : UEmb _ 𝕄) (barPay (F := F) c d) := by unfold barPay; infer_instance
omit [FloatOps F] in
instance lanePay_storable (c b v) : BI.Storable (upEmb : UEmb _ 𝕄) (lanePay X c b v) := by unfold lanePay; split <;> infer_instance

/-- One round. A barrier cell has a duty of each neighbour's; a lane's two cells have its transfer's. -/
def rd : Rounds.Schedule (GSem nD τ sig) Bool 𝕄 where
  duties g r := if r = 0 ∧ g.1.2 = .tc then
      match g.2 with
      | .reg _ => Finset.univ
      | .dma q => match dec q with
        | some (_, v) => if v ∈ lanes then {false} else ∅
        | none => ∅
    else ∅
  unitless _ := False
  amount g _ _ := match g.2 with
    | .reg _ => 1
    | .dma _ => N
  payload g _ d := match g.2 with
    | .reg _ => barPay g.1.1 d
    | .dma q => match dec q with
      | some (b, v) => lanePay X g.1.1 b v
      | none => iprop(emp)
  amount_pos g _ _ _ := by
    rcases g with ⟨t, s | q⟩
    · exact Nat.one_pos
    · exact N_pos

instance rd_payload_storable (g : GSem nD τ sig) (r : ℕ) (d : Bool) : BI.Storable (upEmb : UEmb _ 𝕄) ((rd X).payload g r d) := by
  rcases g with ⟨t, s | q⟩
  · show BI.Storable upEmb (barPay t.1 d); infer_instance
  · show BI.Storable upEmb (match dec q with | some (b, v) => lanePay X t.1 b v | none => iprop(emp))
    split <;> infer_instance

/-- Both neighbours have a duty at the barrier of a device. -/
theorem duties_bar (c : Dev nD) : (rd X).duties (barCell c) 0 = Finset.univ := by dsimp only [rd]; exact if_pos ⟨rfl, rfl⟩
/-- One copy has a duty at each semaphore of a lane in use. -/
theorem duties_lane (c : Dev nD) (b : Bool) {v : Lane} (hv : v ∈ lanes) : (rd X).duties (cell b v c) 0 = {false} := by
  dsimp only [rd]; rw [if_pos ⟨rfl, rfl⟩, dec_semIx]; exact if_pos hv
/-- Nobody has a duty at a semaphore of a lane that is not in use. -/
theorem duties_idle (c : Dev nD) (b : Bool) {v : Lane} (hv : v ∉ lanes) (r : ℕ) : (rd X).duties (cell b v c) r = ∅ := by
  dsimp only [rd]; rw [dec_semIx]; dsimp only; rw [if_neg hv, ite_self]
/-- There is only one round of duties. -/
theorem duties_later (g : GSem nD τ sig) : ∀ r, 1 ≤ r → (rd X).duties g r = ∅ :=
  fun r hr => by dsimp only [rd]; exact if_neg fun h => by omega

/-- A neighbour raises the barrier by one. -/
theorem amount_bar (c : Dev nD) (d : Bool) : (rd X).amount (barCell c) 0 d = 1 := rfl
/-- A copy raises its semaphores by the amount of one band. -/
theorem amount_lane (c : Dev nD) (b : Bool) (v : Lane) (d : Bool) : (rd X).amount (cell b v c) 0 d = N := rfl

/-- A device waits for two at its barrier. -/
theorem expect_bar (c : Dev nD) : (rd X).expect (barCell c) 0 = 2 := by
  unfold Schedule.expect Schedule.amountOf
  rw [duties_bar, Finset.sum_congr rfl fun d _ => amount_bar X c d, Finset.sum_const, Finset.card_univ, Fintype.card_bool, smul_eq_mul]
/-- A device waits for the amount of one band at a semaphore of a lane. -/
theorem expect_lane (c : Dev nD) (b : Bool) {v : Lane} (hv : v ∈ lanes) : (rd X).expect (cell b v c) 0 = N := by
  unfold Schedule.expect Schedule.amountOf; rw [duties_lane X c b hv, Finset.sum_singleton, amount_lane]

/-- What a neighbour hands over at the barrier. -/
theorem payload_bar (c : Dev nD) (d : Bool) : (rd X).payload (barCell c) 0 d = barPay c d := rfl
/-- What a copy hands over at the semaphore of its lane. -/
theorem payload_lane (c : Dev nD) (b : Bool) (v : Lane) (d : Bool) : (rd X).payload (cell b v c) 0 d = lanePay X c b v := by
  dsimp only [rd]; rw [dec_semIx]

/-- All that a device obtains at its barrier is what its two neighbours hand over. -/
theorem rest_bar (c : Dev nD) : bigSep ((rd X).duties (barCell c) 0 \ ∅) (fun d => (rd X).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
/-- All that a device obtains at a semaphore of a lane is what the copy hands over. -/
theorem rest_lane (c : Dev nD) (b : Bool) {v : Lane} (hv : v ∈ lanes) :
    bigSep ((rd X).duties (cell b v c) 0 \ ∅) (fun d => (rd X).payload (cell b v c) 0 d) = lanePay X c b v := by
  rw [Finset.sdiff_empty, duties_lane X c b hv, bigSep_singleton, payload_lane]

end Sched

/-! ## The order of waits -/

/-- The indices at which something can be owed: one at each semaphore of a device's core, and none elsewhere. -/
def L (g : GSem nD τ sig) : Finset Unit := if g.1.2 = .tc then {()} else ∅
/-- The barrier comes first, then each hop's deliveries; a wait for a send is below all that. -/
def lv (g : GSem nD τ sig) (_ : Unit) : ℕ := match g.2 with
  | .reg _ => 1
  | .dma q => match dec q with
    | some (true, v) => 2 + v.2.1.val
    | _ => 0

/-- Nothing can be owed away from the core. -/
theorem L_of_ne (g : GSem nD τ sig) (h : g.1.2 ≠ .tc) : L g = ∅ := if_neg h
/-- There is one such index at each semaphore of the core. -/
theorem L_tc (c : Dev nD) (sm : SemLoc sig) : L ((c : Thread nD τ), sm) = {()} := if_pos rfl
/-- The level of an arrival grows with its hop. -/
theorem lv_recv (c : Dev nD) (v : Lane) : lv (recvCell v c) () = 2 + v.2.1.val := by dsimp only [lv]; rw [dec_semIx]

/-- What `c` owes when the lanes in `S` are still to be sent: each one's delivery. -/
def owing (c : Dev nD) (S : Finset Lane) : CellTallies nD τ sig Unit := ∑ v ∈ S, tallyAt (recvCell v (nbr v.1 c)) () N

/-- What a device still owes is the arrival of a copy that it has yet to send. -/
theorem owing_pos {c : Dev nD} {S : Finset Lane} {g : GSem nD τ sig} {u : Unit} (h : 0 < owing c S g u) : ∃ v ∈ S, g = recvCell v (nbr v.1 c) := by
  unfold owing at h
  rw [Finset.sum_apply, Finsupp.finset_sum_apply] at h
  by_contra hn
  refine Nat.lt_irrefl 0 (h.trans_eq (Finset.sum_eq_zero fun v hv => ?_))
  rw [tallyAt_apply]
  exact if_neg fun e => hn ⟨v, hv, e.1⟩

/-- A wait below every delivery still owed is allowed. -/
theorem mayWait_of (c : Dev nD) (s : SemLoc sig) (n : ℕ) (hs : lv ((c : Thread nD τ), s) () ≤ n) (S : Finset Lane) (hS : ∀ v ∈ S, n < 2 + v.2.1.val) :
    (levAts L lv : sProp 𝕄) ⊢ MayWait (c : Thread nD τ) s () (owing c S) :=
  MayOwe.of_cut (L := L) (lev := lv) n (fun p hp => by rw [Finset.mem_singleton.mp hp, L_tc]; exact Finset.mem_singleton_self _)
    (fun g u hg => by obtain ⟨v, -, rfl⟩ := owing_pos hg; exact Finset.mem_singleton_self _)
    (fun p hp => by rw [Finset.mem_singleton.mp hp]; exact hs)
    (fun g u hg => by obtain ⟨v, hv, rfl⟩ := owing_pos hg; rw [lv_recv]; exact hS v hv)

end Cert.KernelIdeal.Ring

end
-- ==== Proof.IdealState.lean ====
/- What a device holds while it runs the kernel, as a function of the operations still to come, and what each operation does to that.
   The same for the program read over the extended reals. -/
module

public import proofs.«01_k».proof.Proof.IdealBase
public import Idealize.SL.ProofMode.BigOp

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

/-- Running a program of device `c`'s TensorCore to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Sums of resources -/

omit [FloatOps F] in
/-- One summand first. -/
theorem bigSep_at {I : Type} [DecidableEq I] {S : Finset I} {v : I} (hv : v ∈ S) (Φ : I → sProp 𝕄) :
    bigSep S Φ = iprop(Φ v ∗ bigSep (S.erase v) Φ) := bigSep_erase hv

omit [FloatOps F] in
/-- One part can be taken out of many. -/
theorem bigSep_get {I : Type} [DecidableEq I] {S : Finset I} {v : I} (hv : v ∈ S) (Φ : I → sProp 𝕄) : bigSep S Φ ⊢ Φ v := bigSep_elim hv

omit [FloatOps F] in
/-- Take one summand out, put a changed one back. -/
theorem touch {I : Type} [DecidableEq I] {S : Finset I} {Φ Ψ : I → sProp 𝕄} {v : I} (hv : v ∈ S) (h : ∀ u ∈ S, u ≠ v → Φ u = Ψ u) :
    bigSep S Φ ⊢ iprop(Φ v ∗ (Ψ v -∗ bigSep S Ψ)) := by
  rw [bigSep_at hv Φ, bigSep_at hv Ψ,
    bigSep_congr (s := S.erase v) fun u hu => h u (Finset.mem_of_mem_erase hu) (Finset.ne_of_mem_erase hu)]
  iintro ⟨Ha, Hr⟩
  isplitl [Ha]; · iexact Ha
  iintro Hb
  isplitl [Hb]; · iexact Hb
  iexact Hr

omit [FloatOps F] in
/-- Take a part of each summand out, put it back. -/
theorem lend {I : Type} [DecidableEq I] {S : Finset I} {A B : I → sProp 𝕄} (h : ∀ u ∈ S, A u ⊢ iprop(B u ∗ (B u -∗ A u))) :
    bigSep S A ⊢ iprop(bigSep S B ∗ (bigSep S B -∗ bigSep S A)) := by
  refine (bigSep_mono h).trans ?_
  rw [bigSep_sep' S B]
  show (iprop(bigSep S B ∗ bigSep S fun u => iprop(B u -∗ A u)) : sProp 𝕄) ⊢ iprop(bigSep S B ∗ (bigSep S B -∗ bigSep S A))
  iintro ⟨Hb, Hw⟩
  isplitl [Hb]; · iexact Hb
  iintro Hb
  iapply (show iprop(bigSep S B ∗ bigSep S fun u => iprop(B u -∗ A u)) ⊢ bigSep S A from by
    rw [← bigSep_sep']
    exact bigSep_mono fun u _ => show (iprop(B u ∗ (B u -∗ A u)) : sProp 𝕄) ⊢ A u from by iintro ⟨Hb, Hw⟩; iapply Hw; iexact Hb)
  isplitl [Hb]; · iexact Hb
  iexact Hw

/-! ## The state -/

/-- A table: entry `i` names the origin of what hop `i + k` moves in direction `d`. -/
def tab (d : Bool) (k : ℕ) (c : Dev nD) : Vec F S16 .i32 := fun i => wd (org d ((i (0 : Fin 1)).val + k) c)

abbrev wLoc (c : Dev nD) : Loc nD τ sig := (c : Thread nD τ).loc cc0_stg1_0

/-- The lanes still to be sent. -/
def toSend (l : List Op) : Finset Lane := lanes.filter fun v => send v ∈ l
/-- Whether what a lane delivers is sent on. -/
def hasNext (v : Lane) : Prop := v.2.1.val < 15 ∧ next v ∈ lanes
instance (v : Lane) : Decidable (hasNext v) := by unfold hasNext; infer_instance

section State

variable (X : Dev nD → XC (F := F)) (Wt : Dev nD → WC (F := F)) (pay : Dev nD → F .f32) (Kn : GSem nD τ sig → ℕ)

/-- The product of device `o`'s block with device `c`'s columns, scaled. -/
def Pr (c o : Dev nD) : FVec F S128x64 .f32 := k0_pay4 (pay c) (X o) (Wt c)

/-- The names of all cells, and that each is kept by the protocol. -/
def Recs : sProp 𝕄 :=
  iprop((bigSep Finset.univ fun c : Dev nD => cellInv ER (rd X) (Kn (barCell c)) (barCell c))
    ∗ bigSep Finset.univ fun p : (Bool × Lane) × Dev nD => cellInv ER (rd X) (Kn (cell p.1.1 p.1.2 p.2)) (cell p.1.1 p.1.2 p.2))
instance Recs_persistent : BI.Persistent (Recs X Kn) := by unfold Recs; infer_instance

/-- The records hold the invariant of the barrier of every device. -/
theorem Recs_bar (c : Dev nD) : Recs X Kn ⊢ cellInv ER (rd X) (Kn (barCell c)) (barCell c) := by
  unfold Recs
  iintro ⟨H, -⟩
  iapply (bigSep_get (Finset.mem_univ c) fun c : Dev nD => cellInv ER (rd X) (Kn (barCell c)) (barCell c)); iexact H
/-- The records hold the invariant of the semaphore of every lane of every device. -/
theorem Recs_cell (b : Bool) (v : Lane) (c : Dev nD) : Recs X Kn ⊢ cellInv ER (rd X) (Kn (cell b v c)) (cell b v c) := by
  unfold Recs
  iintro ⟨-, H⟩
  iapply (bigSep_get (Finset.mem_univ ((b, v), c)) fun p : (Bool × Lane) × Dev nD => cellInv ER (rd X) (Kn (cell p.1.1 p.1.2 p.2)) (cell p.1.1 p.1.2 p.2)); iexact H

/-- What sending on a lane needs beside its source. -/
def Tok (c : Dev nD) (v : Lane) : sProp 𝕄 :=
  iprop((∃ f, slotPts (nbr v.1 c) (org v.1 v.2.1.val c) v.2.2 fullShare f)
    ∗ dutyTok ER (recvCell v (nbr v.1 c)) 0 false ∗ reached ER (recvCell v (nbr v.1 c)) 0
    ∗ dutyTok ER (sendCell v c) 0 false ∗ reached ER (sendCell v c) 0)

/-- A lane's sending end. -/
def sendRes (c : Dev nD) (l : List Op) (v : Lane) : sProp 𝕄 :=
  if send v ∈ l then iprop(Tok (F := F) c v ∗ atPos ER (sendCell v c) 0 ∅ 0)
  else if fin v ∈ l then iprop(cred (tallyAt (sendCell v c) () N) ∗ atPos ER (sendCell v c) 0 ∅ 0)
  else atPos ER (sendCell v c) (0 + 1) ∅ 0
/-- A lane's source: in hand from its delivery to its sending, and once it is back. -/
def srcRes (c : Dev nD) (l : List Op) (v : Lane) : sProp 𝕄 :=
  if (v.2.1.val = 0 ∨ recv (prev v) ∉ l) ∧ (send v ∈ l ∨ fin v ∉ l) then Src X c v else iprop(emp)
/-- The half of a delivered band that is not sent on. -/
def restRes (c : Dev nD) (v : Lane) : sProp 𝕄 :=
  if hasNext v then iprop(emp) else slotPts c (org v.1 (v.2.1.val + 1) c) v.2.2 fullShare.right (XG X)
/-- A lane's receiving end. -/
def recvRes (c : Dev nD) (l : List Op) (v : Lane) : sProp 𝕄 :=
  if recv v ∈ l then iprop(cred (tallyAt (recvCell v c) () N) ∗ atPos ER (recvCell v c) 0 ∅ 0)
  else iprop(atPos ER (recvCell v c) (0 + 1) ∅ 0 ∗ slotPts c (org v.1 (v.2.1.val + 1) c) v.2.2 fullShare.left (XG X)
    ∗ restRes X c v)
/-- A block of rows of the result. -/
def outRes (c : Dev nD) (l : List Op) (g : Option (Bool × Fin 16)) : sProp 𝕄 :=
  if mul g ∈ l then iprop(∃ f, outPts c (own c g) f) else outPts c (own c g) (YG (Pr X Wt pay c))

/-- What the kernel reads only. -/
def Tabs (c : Dev nD) : sProp 𝕄 :=
  iprop((xLoc c ↦[Finset.univ]{fullShare.left} X c) ∗ (wLoc c ↦[Finset.univ]{fullShare} Wt c)
    ∗ ((c : Thread nD τ).loc cc0_stg6_0 ↦[Finset.univ]{fullShare} tab (F := F) false 0 c)
    ∗ ((c : Thread nD τ).loc cc0_stg7_0 ↦[Finset.univ]{fullShare} tab (F := F) false 1 c)
    ∗ ((c : Thread nD τ).loc cc0_stg8_0 ↦[Finset.univ]{fullShare} tab (F := F) true 0 c)
    ∗ ((c : Thread nD τ).loc cc0_stg9_0 ↦[Finset.univ]{fullShare} tab (F := F) true 1 c))

/-- What device `c` holds when the operations `l` are still to come; `Rm` is what they leave alone. -/
def Inv (Rm : sProp 𝕄) (c : Dev nD) (l : List Op) : sProp 𝕄 :=
  iprop(⌜Tail l⌝ ∗ levAts L lv ∗ Recs X Kn ∗ (∃ W, owes (c : Thread nD τ) (owing c (toSend l)) W)
    ∗ bigSep lanes (sendRes (F := F) c l) ∗ bigSep lanes (srcRes X c l) ∗ bigSep lanes (recvRes X c l) ∗ bigSep muls (outRes X Wt pay c l)
    ∗ Tabs X Wt c ∗ Rm)

/-! ## Which parts an operation leaves alone -/

/-- What is held for sending on a lane depends only on whether its sending and its end are still to come. -/
theorem sendRes_congr {c : Dev nD} {l l' : List Op} {v : Lane} (h : send v ∈ l ↔ send v ∈ l') (h' : fin v ∈ l ↔ fin v ∈ l') :
    sendRes (F := F) c l v = sendRes c l' v := by
  unfold sendRes; simp only [h, h']
/-- What is held of the source of a lane depends only on whether its sending, its end and the arrival before it are still to come. -/
theorem srcRes_congr {c : Dev nD} {l l' : List Op} {v : Lane} (h : send v ∈ l ↔ send v ∈ l') (h' : fin v ∈ l ↔ fin v ∈ l')
    (h'' : v.2.1.val = 0 ∨ Iff (recv (prev v) ∈ l) (recv (prev v) ∈ l')) : srcRes X c l v = srcRes X c l' v := by
  unfold srcRes
  rcases h'' with h'' | h''
  · simp only [h, h', h'', _root_.true_or]
  · simp only [h, h', h'']
/-- What is held for an arrival depends only on whether it is still to come. -/
theorem recvRes_congr {c : Dev nD} {l l' : List Op} {v : Lane} (h : recv v ∈ l ↔ recv v ∈ l') : recvRes X c l v = recvRes X c l' v := by
  unfold recvRes; simp only [h]
/-- What is held of the output depends only on whether the product is still to come. -/
theorem outRes_congr {c : Dev nD} {l l' : List Op} {g : Option (Bool × Fin 16)} (h : mul g ∈ l ↔ mul g ∈ l') :
    outRes X Wt pay c l g = outRes X Wt pay c l' g := by
  unfold outRes; simp only [h]

/-- Before a copy is sent its lane is among those to send, and after it no longer. -/
theorem toSend_cons {l : List Op} {v : Lane} (hv : v ∈ lanes) (h : send v ∉ l) : toSend (send v :: l) = insert v (toSend l) ∧ v ∉ toSend l := by
  refine ⟨?_, fun hm => h (Finset.mem_filter.1 hm).2⟩
  ext u
  simp only [toSend, Finset.mem_filter, Finset.mem_insert, List.mem_cons, Op.send.injEq]
  constructor
  · rintro ⟨hu, rfl | hl⟩
    · exact .inl rfl
    · exact .inr ⟨hu, hl⟩
  · rintro (rfl | ⟨hu, hl⟩)
    · exact ⟨hv, .inl rfl⟩
    · exact ⟨hu, .inr hl⟩
/-- Any other operation leaves the lanes to send as they are. -/
theorem toSend_skip {l : List Op} {o : Op} (h : ∀ v, o ≠ send v) : toSend (o :: l) = toSend l := by
  refine Finset.filter_congr fun u _ => ?_
  simp only [List.mem_cons, or_iff_right_iff_imp]
  exact fun e => absurd e.symm (h u)

/-! ## Loads and checks -/

/-- A load of what the state holds some share of. -/
theorem step_load {c : Dev nD} {α : Type} {Q : α → sProp 𝕄} {sp : CoreSpace} {s : Shape} {e : EltTy} {m : Memref sig .tc sp s e} {r : LoadRect s} {hl : m.view.LoadsAt r}
    {k : (r.shape.Idx → Elt F e) → Prog (TpuEff nD τ sig (Elt F) Λ₀ .tc) α} {I : sProp 𝕄} (S) (q : PosShare TreeShare) (f) (v : r.shape.Idx → Elt F e)
    (hS : m.view.setOn r.set ⊆ S)
    (hI : I ⊢ iprop((m.view.loc (c : Thread nD τ) ↦[S]{q} f) ∗ ((m.view.loc (c : Thread nD τ) ↦[S]{q} f) -∗ I)))
    (hv : m.view.readAt (Elt F) r f = v) (h : I ⊢ WP c (k v) Q) :
    I ⊢ WP c (.op (.load m r hl) k) Q := by
  subst hv
  refine hI.trans ?_
  iintro ⟨Hm, Hb⟩
  iapply (wp_load (defs := defs₀ (F := F)) 𝒱₀ (c : Thread nD τ) none Set.univ (m := m) (r := r) (S := S) (q := q) (f := f) hS) $$ [Hm]
  · iexact Hm
  iintro Hm
  iapply h
  iapply Hb
  iexact Hm

/-- An assumption that is true can be passed. -/
theorem step_assume {c : Dev nD} {α : Type} {Q : α → sProp 𝕄} {P : Prop} {d : Decidable P} {k : PLift P → Prog (TpuEff nD τ sig (Elt F) Λ₀ .tc) α}
    {I : sProp 𝕄} (hP : P) (h : I ⊢ WP c (k ⟨hP⟩) Q) : I ⊢ WP c (.op (.assume P d) k) Q :=
  h.trans (wp_assume 𝒱₀ (c : Thread nD τ) none Set.univ hP)

end State

end Cert.KernelIdeal.Ring

end
-- ==== Proof.IdealSteps.lean ====
/- What each operation of the kernel does to the state.
   The same for the program read over the extended reals. -/
module

public import proofs.«01_k».proof.Proof.IdealState

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

section Steps

variable {X : Dev nD → XC (F := F)} {Wt : Dev nD → WC (F := F)} {pay : Dev nD → F .f32} {Kn : GSem nD τ sig → ℕ} {Rm : sProp (MT nD τ sig Unit (Elt F) ℕ UU ℕ)}

local notation "𝕀" => Inv X Wt pay Kn Rm

/-- The origin at distance zero is the device itself. -/
theorem org_zero (d : Bool) (c : Dev nD) : org d 0 c = c := rfl

/-! ## What an operation leaves alone -/

/-- An operation that neither sends nor ends a copy leaves what is held for sending. -/
theorem keepSend {c : Dev nD} {l : List Op} (o : Op) (h : ∀ u, send u ≠ o ∧ fin u ≠ o) :
    bigSep lanes (sendRes (F := F) c (o :: l)) ⊢ bigSep lanes (sendRes c l) :=
  Entails.of_eq (bigSep_congr fun u _ => sendRes_congr (by simp only [List.mem_cons, (h u).1, _root_.false_or]) (by simp only [List.mem_cons, (h u).2, _root_.false_or]))
/-- An operation that neither sends, ends nor brings a copy leaves what is held of the sources. -/
theorem keepSrc {c : Dev nD} {l : List Op} (o : Op) (h : ∀ u, send u ≠ o ∧ fin u ≠ o) (h' : ∀ u ∈ lanes, u.2.1.val ≠ 0 → recv (prev u) ≠ o) :
    bigSep lanes (srcRes X c (o :: l)) ⊢ bigSep lanes (srcRes X c l) :=
  Entails.of_eq (bigSep_congr fun u hu => srcRes_congr X (by simp only [List.mem_cons, (h u).1, _root_.false_or]) (by simp only [List.mem_cons, (h u).2, _root_.false_or]) (by
    by_cases hz : u.2.1.val = 0
    · exact .inl hz
    · exact .inr (by simp only [List.mem_cons, h' u hu hz, _root_.false_or])))
/-- An operation that awaits no arrival leaves what is held for the arrivals. -/
theorem keepRecv {c : Dev nD} {l : List Op} (o : Op) (h : ∀ u, recv u ≠ o) : bigSep lanes (recvRes X c (o :: l)) ⊢ bigSep lanes (recvRes X c l) :=
  Entails.of_eq (bigSep_congr fun u _ => recvRes_congr X (by simp only [List.mem_cons, h u, _root_.false_or]))
/-- An operation that is no product leaves what is held of the output. -/
theorem keepOut {c : Dev nD} {l : List Op} (o : Op) (h : ∀ g, mul g ≠ o) : bigSep muls (outRes X Wt pay c (o :: l)) ⊢ bigSep muls (outRes X Wt pay c l) :=
  Entails.of_eq (bigSep_congr fun g _ => outRes_congr X Wt pay (by simp only [List.mem_cons, h g, _root_.false_or]))

/-! ## Sending -/

/-- A send on a lane: its source goes, its landing is paid to the neighbour. -/
theorem step_send_core {c : Dev nD} {α : Type} {Q : α → sProp 𝕄} {v : Lane} {l : List Op}
    {src dst : Memref sig .tc .vmem S32x4096 .i8} {hsc : dst.view.ref.isScScratch = false} {hsrc : src.view.WordExact} {hdst : dst.view.WordExact}
    {hsem : DmaTarget.Typed .vmem (.dma (semIx true v)) (.remote ((nbr v.1 c : Dev nD) : Thread nD τ) dst (.dma (semIx false v)) hsc)}
    {k : PUnit → Prog (TpuEff nD τ sig (Elt F) Λ₀ .tc) α} {q : PosShare TreeShare} {fs : Buf (Elt F) (src.view.loc (c : Thread nD τ))}
    (hN : dst.view.amount (.dma (semIx true v)) = N)
    (hs : Src X c v = (src.view.loc (c : Thread nD τ) ↦[src.view.set]{q} fs))
    (hd : ∀ f, ∃ fd, slotPts (F := F) (nbr v.1 c) (org v.1 v.2.1.val c) v.2.2 fullShare f = (dst.view.loc ((nbr v.1 c : Dev nD) : Thread nD τ) ↦[dst.view.set]{fullShare} fd))
    (hl : ∀ fd, (dst.view.loc ((nbr v.1 c : Dev nD) : Thread nD τ) ↦[dst.view.set]{fullShare} (dst.view.write (Elt F) fd (src.view.read (Elt F) fs) Finset.univ))
      ⊢ slotPts (nbr v.1 c) (org v.1 v.2.1.val c) v.2.2 fullShare (XG X))
    (h : 𝕀 c l ⊢ WP c (k ⟨⟩) Q) :
    𝕀 c (send v :: l) ⊢ WP c (.op (.enqueueDma src (.remote ((nbr v.1 c : Dev nD) : Thread nD τ) dst (.dma (semIx false v)) hsc) (.dma (semIx true v)) hsrc hdst hsem) k) Q := by
  unfold Inv at h ⊢
  iintro ⟨%ht, #Hlev, #HR, ⟨%W, HO⟩, HSS, HSR, HRR, HOO, HT, Hrm⟩
  obtain ⟨hv, hns, hf, hp⟩ := ok_send ht
  obtain ⟨hts, hnt⟩ := toSend_cons hv hns
  have hss : send v ∈ send v :: l := List.mem_cons_self
  ihave HSS := (touch (Ψ := sendRes (F := F) c l) hv fun u _ hu => sendRes_congr
    (by simp only [List.mem_cons, Op.send.injEq, hu, _root_.false_or]) (by simp only [List.mem_cons, reduceCtorEq, _root_.false_or])) $$ HSS
  ihave HSR := (touch (Ψ := srcRes X c l) hv fun u _ hu => srcRes_congr X
    (by simp only [List.mem_cons, Op.send.injEq, hu, _root_.false_or]) (by simp only [List.mem_cons, reduceCtorEq, _root_.false_or])
    (.inr (by simp only [List.mem_cons, reduceCtorEq, _root_.false_or]))) $$ HSR
  icases HSS with ⟨Hv, HSS⟩
  icases HSR with ⟨Hsrc, HSR⟩
  ihave Hv := (Entails.of_eq (show sendRes (F := F) c (send v :: l) v = iprop(Tok (F := F) c v ∗ atPos ER (sendCell v c) 0 ∅ 0) from if_pos hss)) $$ Hv
  ihave Hsrc := (Entails.of_eq ((show srcRes X c (send v :: l) v = Src X c v from if_pos ⟨hp.imp_right fun hr => by simpa using hr, .inl hss⟩).trans hs)) $$ Hsrc
  unfold Tok
  icases Hv with ⟨⟨⟨%f, Hd⟩, HtR, #HrR, HtS, #HrS⟩, Hat⟩
  obtain ⟨fd, hfd⟩ := hd f
  ihave Hd := (Entails.of_eq hfd) $$ Hd
  iapply (Rounds.wp_send_pointsTo 𝒱₀ ER (rd X) (c : Thread nD τ) none (c' := ((nbr v.1 c : Dev nD) : Thread nD τ)) (src := src) (dst := dst)
      (sS := .dma (semIx false v)) (sem := .dma (semIx true v)) (q := q) (fs := fs) (κ₁ := Kn (sendCell v c)) (κ₂ := Kn (recvCell v (nbr v.1 c)))
      (r₁ := 0) (r₂ := 0) (d₁ := false) (d₂ := false) (fd := fd) (O₀ := owing c (toSend (send v :: l)))
      (by rw [duties_lane X c false hv]; exact Finset.mem_singleton_self _) (by rw [duties_lane X _ true hv]; exact Finset.mem_singleton_self _)
      () () N hN rfl rfl (owing c (toSend l)) (by rw [hts, owing, Finset.sum_insert hnt, add_comm]; rfl) (W := W)
      (by rw [payload_lane]; exact Entails.of_eq hs.symm)
      (by rw [payload_lane]; unfold lanePay; rw [if_pos rfl, org_nbr]; exact hl fd)) $$ [Hsrc Hd HO HtS HtR]
  · isplitr; · iapply (Recs_cell X Kn false v c); iexact HR
    isplitr; · iapply (Recs_cell X Kn true v (nbr v.1 c)); iexact HR
    isplitl [Hsrc]; · iexact Hsrc
    isplitl [Hd]; · iexact Hd
    isplitl [HO]; · iexact HO
    isplitl [HtS]; · iexact HtS
    isplitr; · iexact HrS
    isplitl [HtR]; · iexact HtR
    iexact HrR
  iintro ⟨Hc, HO⟩
  iapply h
  isplitr; · ipureintro; exact ht.tail
  isplitr; · iexact Hlev
  isplitr; · iexact HR
  isplitl [HO]; · iexists W; iexact HO
  isplitl [HSS Hc Hat]
  · iapply HSS
    iapply (Entails.of_eq (show sendRes (F := F) c l v = iprop(cred (tallyAt (sendCell v c) () N) ∗ atPos ER (sendCell v c) 0 ∅ 0) from (if_neg hns).trans (if_pos hf)).symm)
    isplitl [Hc]; · iexact Hc
    iexact Hat
  isplitl [HSR]
  · iapply HSR
    iapply (Entails.of_eq (show srcRes X c l v = iprop(emp) from if_neg fun hh => hh.2.elim hns (fun hnf => hnf hf)).symm)
    iempintro
  isplitl [HRR]
  · iapply (keepRecv (send v) (by simp)); iexact HRR
  isplitl [HOO]
  · iapply (keepOut (send v) (by simp)); iexact HOO
  isplitl [HT]; · iexact HT
  iexact Hrm

/-- The first send of a lane, of the device's own band. -/
theorem step_send0 {c : Dev nD} {α : Type} {Q : α → sProp 𝕄} {v : Lane} {l : List Op} {n : ℕ} {hn : n < nD} {off off' : Fin 2 → ℕ} {hb hb'}
    {q q' : DmaSem sig} {hsc : (slotM off hb).view.ref.isScScratch = false} {hsrc : (bandM off' hb').view.WordExact} {hdst : (slotM off hb).view.WordExact}
    {hsem : DmaTarget.Typed .vmem (.dma q') (.remote (Dev.tc (⟨n, hn⟩ : Dev nD)) (slotM off hb) (.dma q) hsc)}
    {k : PUnit → Prog (TpuEff nD τ sig (Elt F) Λ₀ .tc) α}
    (h0 : v.2.1.val = 0) (hnb : n = (nbr v.1 c).val) (ho : off = ![128 * (org v.1 v.2.1.val c).val + 32 * v.2.2.val, 0]) (ho' : off' = ![32 * v.2.2.val, 0])
    (hq : q = semIx false v) (hq' : q' = semIx true v) (h : 𝕀 c l ⊢ WP c (k ⟨⟩) Q) :
    𝕀 c (send v :: l) ⊢ WP c (.op (.enqueueDma (bandM off' hb') (.remote (Dev.tc (⟨n, hn⟩ : Dev nD)) (slotM off hb) (.dma q) hsc) (.dma q') hsrc hdst hsem) k) Q := by
  subst hnb hq hq'
  refine step_send_core (q := qs v.1) (fs := X c) rfl ?_ (fun f => ⟨f, ?_⟩) (fun fd => ?_) h
  · unfold Src bandPts; rw [if_pos h0, bandM_set v.2.2 ho']
  · unfold slotPts; rw [slotM_set _ v.2.2 ho]
  · have e : org v.1 v.2.1.val c = c := by rw [h0]; rfl
    rw [e] at ho ⊢
    rw [slotM_set _ v.2.2 ho]
    exact Entails.of_eq (pointsTo_congr (land_own X c v.2.2 ho ho' fd))

/-- A later send of a lane, of what was delivered a hop before. -/
theorem step_send {c : Dev nD} {α : Type} {Q : α → sProp 𝕄} {v : Lane} {l : List Op} {n : ℕ} {hn : n < nD} {off off' : Fin 2 → ℕ} {hb hb'}
    {q q' : DmaSem sig} {hsc : (slotM off hb).view.ref.isScScratch = false} {hsrc : (slotM off' hb').view.WordExact} {hdst : (slotM off hb).view.WordExact}
    {hsem : DmaTarget.Typed .vmem (.dma q') (.remote (Dev.tc (⟨n, hn⟩ : Dev nD)) (slotM off hb) (.dma q) hsc)}
    {k : PUnit → Prog (TpuEff nD τ sig (Elt F) Λ₀ .tc) α}
    (h0 : v.2.1.val ≠ 0) (hnb : n = (nbr v.1 c).val) (ho : off = ![128 * (org v.1 v.2.1.val c).val + 32 * v.2.2.val, 0])
    (ho' : off' = ![128 * (org v.1 v.2.1.val c).val + 32 * v.2.2.val, 0])
    (hq : q = semIx false v) (hq' : q' = semIx true v) (h : 𝕀 c l ⊢ WP c (k ⟨⟩) Q) :
    𝕀 c (send v :: l) ⊢ WP c (.op (.enqueueDma (slotM off' hb') (.remote (Dev.tc (⟨n, hn⟩ : Dev nD)) (slotM off hb) (.dma q) hsc) (.dma q') hsrc hdst hsem) k) Q := by
  subst hnb hq hq' ho ho'
  refine step_send_core (q := fullShare.right) (fs := XG X) rfl ?_ (fun f => ⟨f, ?_⟩) (fun fd => ?_) h
  · unfold Src slotPts; rw [if_neg h0, slotM_set _ v.2.2 rfl]
  · unfold slotPts; rw [slotM_set _ v.2.2 rfl]
  · rw [slotM_set _ v.2.2 rfl]
    exact Entails.of_eq (pointsTo_congr (land_slot (XG X) _ v.2.2 rfl fd))

/-! ## Waiting -/

/-- A wait for a delivery: the band is in hand, half of it for the next send. -/
theorem step_recv {c : Dev nD} {α : Type} {Q : α → sProp 𝕄} {v : Lane} {l : List Op}
    {src dst : Memref sig .tc .vmem S32x4096 .i8} {q : DmaSem sig} {hsrc : src.view.WordExact} {hdst : dst.view.WordExact}
    {k : PUnit → Prog (TpuEff nD τ sig (Elt F) Λ₀ .tc) α}
    (hN : dst.view.dmaCredit = N) (hq : q = semIx true v) (h : 𝕀 c l ⊢ WP c (k ⟨⟩) Q) :
    𝕀 c (recv v :: l) ⊢ WP c (.op (.waitDma2 q src dst hsrc hdst) k) Q := by
  subst hq
  unfold Inv at h ⊢
  iintro ⟨%ht, #Hlev, #HR, ⟨%W, HO⟩, HSS, HSR, HRR, HOO, HT, Hrm⟩
  obtain ⟨hv, hnr, hnx, hlow⟩ := ok_recv ht
  have hrr : recv v ∈ recv v :: l := List.mem_cons_self
  ihave HRR := (touch (Ψ := recvRes X c l) hv fun u _ hu => recvRes_congr X
    (by simp only [List.mem_cons, Op.recv.injEq, hu, _root_.false_or])) $$ HRR
  icases HRR with ⟨Hv, HRR⟩
  ihave Hv := (Entails.of_eq (show recvRes X c (recv v :: l) v = iprop(cred (tallyAt (recvCell v c) () N) ∗ atPos ER (recvCell v c) 0 ∅ 0) from if_pos hrr)) $$ Hv
  have hback : iprop(atPos ER (recvCell v c) (0 + 1) ∅ 0 ∗ slotPts c (org v.1 (v.2.1.val + 1) c) v.2.2 fullShare.left (XG X) ∗ restRes X c v) ⊢ recvRes X c l v :=
    Entails.of_eq (if_neg hnr).symm
  have hts := toSend_skip (l := l) (o := recv v) (by simp)
  ihave HO := (Entails.of_eq (congrArg (fun T => owes (c : Thread nD τ) (owing c T) W) hts)) $$ HO
  icases Hv with ⟨Hc, Hat⟩
  iapply (Rounds.wp_wait_rest_token 𝒱₀ ER (rd X) (c : Thread nD τ) none (κ := Kn (recvCell v c))
      (wpE_waitDma2_eq (src := src) (dst := dst) 𝒱₀ (c : Thread nD τ) none Set.univ) (Set.mem_univ _) () (O := owing c (toSend l)) (W := W) (R := 0) (m := 0) (T := ∅)
      ((Nat.zero_add _).trans (hN.trans (expect_lane X c true hv).symm))) $$ [Hc HO Hat]
  · isplitr; · iapply (Recs_cell X Kn true v c); iexact HR
    isplitl [Hc]; · rw [hN]; iexact Hc
    isplitl [HO]; · iexact HO
    isplitr
    · iapply (mayWait_of c (.dma (semIx true v)) (2 + v.2.1.val) (le_of_eq (lv_recv c v)) (toSend l)
        fun u hu => Nat.add_lt_add_left (hlow u (Finset.mem_filter.1 hu).2) 2)
      iexact Hlev
    iexact Hat
  iintro ⟨HO, Hat, -, Hp⟩
  ihave Hp := (Entails.of_eq ((rest_lane X c true hv).trans (by unfold lanePay; exact if_pos rfl))) $$ Hp
  ihave Hp := (show slotPts c (org v.1 (v.2.1.val + 1) c) v.2.2 fullShare (XG X) ⊢ iprop(slotPts c (org v.1 (v.2.1.val + 1) c) v.2.2 fullShare.left (XG X)
    ∗ slotPts c (org v.1 (v.2.1.val + 1) c) v.2.2 fullShare.right (XG X)) from (pointsTo_share (PosShare.mem_left_op_right fullShare)).1) $$ Hp
  icases Hp with ⟨HpL, HpR⟩
  iapply h
  isplitr; · ipureintro; exact ht.tail
  isplitr; · iexact Hlev
  isplitr; · iexact HR
  isplitl [HO]; · iexists _; iexact HO
  isplitl [HSS]
  · iapply (keepSend (recv v) (by simp)); iexact HSS
  by_cases hh : hasNext v
  · isplitl [HSR HpR]
    · have hz : (next v).2.1.val ≠ 0 := by rw [next_val hh.1]; omega
      have hsn := hnx hh
      ihave HSR := (touch (Ψ := srcRes X c l) hh.2 fun u _ hu => srcRes_congr X
        (by simp only [List.mem_cons, reduceCtorEq, _root_.false_or]) (by simp only [List.mem_cons, reduceCtorEq, _root_.false_or])
        (.inr (by
          have : prev u ≠ v := fun e => hu (by rw [← e, next_prev])
          simp only [List.mem_cons, Op.recv.injEq, this, _root_.false_or]))) $$ HSR
      icases HSR with ⟨-, HSR⟩
      iapply HSR
      iapply (Entails.of_eq (show slotPts c (org v.1 (v.2.1.val + 1) c) v.2.2 fullShare.right (XG X) = srcRes X c l (next v) from by
        rw [show srcRes X c l (next v) = Src X c (next v) from if_pos ⟨.inr (by rw [prev_next]; exact hnr), .inl hsn⟩, Src, if_neg hz, next_val hh.1]; rfl))
      iexact HpR
    isplitl [HRR Hat HpL]
    · iapply HRR
      iapply hback
      isplitl [Hat]; · iexact Hat
      isplitl [HpL]; · iexact HpL
      iapply (Entails.of_eq (show restRes X c v = iprop(emp) from if_pos hh).symm)
      iempintro
    isplitl [HOO]
    · iapply (keepOut (recv v) (by simp)); iexact HOO
    isplitl [HT]; · iexact HT
    iexact Hrm
  · isplitl [HSR]
    · iapply (keepSrc (recv v) (by simp) fun u hu hz e => hh (by
        obtain rfl : prev u = v := Op.recv.inj e
        refine ⟨?_, by rw [next_prev]; exact hu⟩
        have := prev_val hz
        have : u.2.1.val < 16 := u.2.1.2
        omega)); iexact HSR
    isplitl [HRR Hat HpL HpR]
    · iapply HRR
      iapply hback
      isplitl [Hat]; · iexact Hat
      isplitl [HpL]; · iexact HpL
      iapply (Entails.of_eq (show restRes X c v = slotPts c (org v.1 (v.2.1.val + 1) c) v.2.2 fullShare.right (XG X) from if_neg hh).symm)
      iexact HpR
    isplitl [HOO]
    · iapply (keepOut (recv v) (by simp)); iexact HOO
    isplitl [HT]; · iexact HT
    iexact Hrm

/-- A wait for a send: its source is back. -/
theorem step_fin {c : Dev nD} {α : Type} {Q : α → sProp 𝕄} {v : Lane} {l : List Op}
    {src dst : Memref sig .tc .vmem S32x4096 .i8} {q : DmaSem sig} {hsrc : src.view.WordExact} {hdst : dst.view.WordExact}
    {k : PUnit → Prog (TpuEff nD τ sig (Elt F) Λ₀ .tc) α}
    (hN : dst.view.dmaCredit = N) (hq : q = semIx false v) (h : 𝕀 c l ⊢ WP c (k ⟨⟩) Q):
    𝕀 c (fin v :: l) ⊢ WP c (.op (.waitDma2 q src dst hsrc hdst) k) Q := by
  subst hq
  unfold Inv at h ⊢
  iintro ⟨%ht, #Hlev, #HR, ⟨%W, HO⟩, HSS, HSR, HRR, HOO, HT, Hrm⟩
  obtain ⟨hv, hnf, hns, hnr⟩ := ok_fin ht
  have hff : fin v ∈ fin v :: l := List.mem_cons_self
  have hns' : send v ∉ fin v :: l := by simp [hns v]
  ihave HSS := (touch (Ψ := sendRes (F := F) c l) hv fun u _ hu => sendRes_congr
    (by simp only [List.mem_cons, reduceCtorEq, _root_.false_or]) (by simp only [List.mem_cons, Op.fin.injEq, hu, _root_.false_or])) $$ HSS
  ihave HSR := (touch (Ψ := srcRes X c l) hv fun u _ hu => srcRes_congr X
    (by simp only [List.mem_cons, reduceCtorEq, _root_.false_or]) (by simp only [List.mem_cons, Op.fin.injEq, hu, _root_.false_or])
    (.inr (by simp only [List.mem_cons, reduceCtorEq, _root_.false_or]))) $$ HSR
  icases HSS with ⟨Hv, HSS⟩
  icases HSR with ⟨-, HSR⟩
  ihave Hv := (Entails.of_eq (show sendRes (F := F) c (fin v :: l) v = iprop(cred (tallyAt (sendCell v c) () N) ∗ atPos ER (sendCell v c) 0 ∅ 0) from
      (if_neg hns').trans (if_pos hff))) $$ Hv
  have hts := toSend_skip (l := l) (o := fin v) (by simp)
  ihave HO := (Entails.of_eq (congrArg (fun T => owes (c : Thread nD τ) (owing c T) W) hts)) $$ HO
  icases Hv with ⟨Hc, Hat⟩
  iapply (Rounds.wp_wait_rest_token 𝒱₀ ER (rd X) (c : Thread nD τ) none (κ := Kn (sendCell v c))
      (wpE_waitDma2_eq (src := src) (dst := dst) 𝒱₀ (c : Thread nD τ) none Set.univ) (Set.mem_univ _) () (O := owing c (toSend l)) (W := W) (R := 0) (m := 0) (T := ∅)
      ((Nat.zero_add _).trans (hN.trans (expect_lane X c false hv).symm))) $$ [Hc HO Hat]
  · isplitr; · iapply (Recs_cell X Kn false v c); iexact HR
    isplitl [Hc]; · rw [hN]; iexact Hc
    isplitl [HO]; · iexact HO
    isplitr
    · iapply (mayWait_of c (.dma (semIx false v)) 0 (by dsimp only [lv]; rw [dec_semIx]) (toSend l)
        fun u hu => absurd (Finset.mem_filter.1 hu).2 (hns u))
      iexact Hlev
    iexact Hat
  iintro ⟨HO, Hat, -, Hp⟩
  ihave Hp := (Entails.of_eq ((rest_lane X c false hv).trans (by unfold lanePay; exact if_neg (by decide)))) $$ Hp
  iapply h
  isplitr; · ipureintro; exact ht.tail
  isplitr; · iexact Hlev
  isplitr; · iexact HR
  isplitl [HO]; · iexists _; iexact HO
  isplitl [HSS Hat]
  · iapply HSS
    iapply (Entails.of_eq (show sendRes (F := F) c l v = atPos ER (sendCell v c) (0 + 1) ∅ 0 from (if_neg (hns v)).trans (if_neg hnf)).symm)
    iexact Hat
  isplitl [HSR Hp]
  · iapply HSR
    iapply (Entails.of_eq (show srcRes X c l v = Src X c v from if_pos ⟨.inr (hnr _), .inr hnf⟩).symm)
    iexact Hp
  isplitl [HRR]
  · iapply (keepRecv (fin v) (by simp)); iexact HRR
  isplitl [HOO]
  · iapply (keepOut (fin v) (by simp)); iexact HOO
  isplitl [HT]; · iexact HT
  iexact Hrm

end Steps

end Cert.KernelIdeal.Ring

end
-- ==== Proof.IdealLoads.lean ====
/- What the loads and stores of the kernel read and write, and that its checks hold.
   The same for the program read over the extended reals. -/
module

public import proofs.«01_k».proof.Proof.IdealSteps

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

/-! ## What the loads read -/

/-- Entry `n` of a table of the kernel names the device that far away. -/
theorem tab_row (n k : ℕ) (d : Bool) (c : Dev nD) (i : S16.Idx) (h : (i (0 : Fin 1)).val = n) : tab (F := F) d k c i = wd (org d (n + k) c) := by
  unfold tab; rw [h]

/-- The rows of device `o`'s block in the gathered array. -/
def rowSet (o : Dev nD) : Finset (cc0_scratch0 : Ref sig .tc).ty.Idx := Finset.univ.filter fun i => (i (0 : Fin 2)).val / 128 = o.val

/-- The rows of a device are its four bands. -/
theorem rowSet_eq (o : Dev nD) : rowSet o = (Finset.univ : Finset (Fin 4)).biUnion (slotSet o) := by
  ext i
  simp only [rowSet, slotSet, Finset.mem_filter, Finset.mem_univ, true_and, Finset.mem_biUnion]
  constructor
  · intro h
    exact ⟨⟨(i (0 : Fin 2)).val / 32 % 4, Nat.mod_lt _ (by decide)⟩, by show _ = 4 * o.val + (i (0 : Fin 2)).val / 32 % 4; omega⟩
  · rintro ⟨j, hj⟩
    have : j.val < 4 := j.2
    omega
/-- Different bands of a device's rows do not meet. -/
theorem slotSet_disjoint (o : Dev nD) {j j' : Fin 4} (h : j ≠ j') : Disjoint (slotSet o j) (slotSet o j') := by
  rw [Finset.disjoint_left]
  intro i hi hi'
  have h1 := (Finset.mem_filter.1 hi).2
  have h2 := (Finset.mem_filter.1 hi').2
  exact h (Fin.ext (by omega))

/-- The kernel's load of a device's rows touches only those rows. -/
theorem rows_sub (o : Dev nD) {off : Fin 2 → ℕ} {hb : ∀ a, off a + S128x4096.size a ≤ S4096x4096.size a} (ho : off = ![128 * o.val, 0]) :
    xfM.view.setOn (Rect.unit (s := S4096x4096) off S128x4096.size hb).toLoadRect.set ⊆ rowSet o := by
  subst ho
  intro i hi
  obtain ⟨x, hx, rfl⟩ := Finset.mem_map.1 hi
  obtain ⟨j, hj, e⟩ := (LoadRect.mem_set _).1 hx (0 : Fin 2)
  refine Finset.mem_filter.2 ⟨Finset.mem_univ _, ?_⟩
  have hj' : j < 128 := hj
  have e' : (x (0 : Fin 2)).val = 128 * o.val + 1 * j := e
  show (x (0 : Fin 2)).val / 128 = o.val
  omega

/-- The kernel's load of a device's rows gives the input of that device. -/
theorem rows_read (X : Dev nD → XC (F := F)) (o : Dev nD) {off : Fin 2 → ℕ} {hb : ∀ a, off a + S128x4096.size a ≤ S4096x4096.size a} (ho : off = ![128 * o.val, 0]) :
    xfM.view.readAt (Elt F) (Rect.unit (s := S4096x4096) off S128x4096.size hb).toLoadRect (XG X) = X o := by
  subst ho
  funext x
  have h0 : (x (0 : Fin 2)).val < 128 := (x (0 : Fin 2)).2
  show XG X ((Rect.unit (s := S4096x4096) ![128 * o.val, 0] S128x4096.size hb).toLoadRect.idx x) = X o x
  have e0 : ((Rect.unit (s := S4096x4096) ![128 * o.val, 0] S128x4096.size hb).toLoadRect.idx x (0 : Fin 2)).val = 128 * o.val + (x (0 : Fin 2)).val := by
    show 128 * o.val + 1 * (x (0 : Fin 2)).val = _; omega
  have hd := devOf_eq o _ h0
  have hr := inRow_eq o.val _ h0
  rw [← e0] at hd hr
  unfold XG
  rw [hd, hr]
  refine congrArg (X o) (funext fun a => ?_)
  match a with
  | ⟨0, _⟩ => rfl
  | ⟨1, _⟩ => exact Fin.ext (by show 0 + 1 * (x (1 : Fin 2)).val = (x (1 : Fin 2)).val; omega)

/-- The kernel's load from the output touches only the block of the device named. -/
theorem out_sub (o : Dev nD) {off : Fin 2 → ℕ} {hb : ∀ a, off a + S128x64.size a ≤ S4096x64.size a} (ho : off = ![128 * o.val, 0]) :
    oM.view.setOn (Rect.unit (s := S4096x64) off S128x64.size hb).toLoadRect.set ⊆ outSet o := by
  subst ho
  intro i hi
  obtain ⟨x, hx, rfl⟩ := Finset.mem_map.1 hi
  obtain ⟨j, hj, e⟩ := (LoadRect.mem_set _).1 hx (0 : Fin 2)
  refine Finset.mem_filter.2 ⟨Finset.mem_univ _, ?_⟩
  have hj' : j < 128 := hj
  have e' : (x (0 : Fin 2)).val = 128 * o.val + 1 * j := e
  show (x (0 : Fin 2)).val / 128 = o.val
  omega

/-- The kernel's store to the output writes exactly the block of the device named. -/
theorem out_set (o : Dev nD) {off : Fin 2 → ℕ} {hb : ∀ a, off a + S128x64.size a ≤ S4096x64.size a} (ho : off = ![128 * o.val, 0]) :
    (oM.access (Rect.unit (s := S4096x64) off S128x64.size hb)).set = outSet o := by
  subst ho
  ext i
  rw [show (oM.access (Rect.unit (s := S4096x64) ![128 * o.val, 0] S128x64.size hb)).set = (Rect.unit (s := S4096x64) _ S128x64.size hb).set from View.set_slice_whole _ _,
    Rect.mem_set_unit, outSet, Finset.mem_filter, Fin.forall_fin_two]
  have h1 : (i (1 : Fin 2)).val < 64 := (i (1 : Fin 2)).2
  show ((128 * o.val ≤ (i (0 : Fin 2)).val ∧ (i (0 : Fin 2)).val < 128 * o.val + 128) ∧ 0 ≤ (i (1 : Fin 2)).val ∧ (i (1 : Fin 2)).val < 0 + 64) ↔ _
  simp only [Finset.mem_univ, true_and]
  omega

/-- What a store of a block of rows leaves there. -/
theorem out_land (P : Dev nD → FVec F S128x64 .f32) (o : Dev nD) {off : Fin 2 → ℕ} {hb : ∀ a, off a + S128x64.size a ≤ S4096x64.size a}
    (ho : off = ![128 * o.val, 0]) (f : OC (F := F)) :
    ∀ i ∈ outSet o, (oM.access (Rect.unit (s := S4096x64) off S128x64.size hb)).write (Elt F) f (P o) Finset.univ i = YG P i := by
  intro i hi
  rw [← out_set o (hb := hb) ho] at hi
  obtain ⟨x, -, rfl⟩ := Finset.mem_map.1 hi
  rw [View.write_emb_of_mem _ _ (Finset.mem_univ x)]
  subst ho
  have h0 : (x (0 : Fin 2)).val < 128 := (x (0 : Fin 2)).2
  have e0 : ((oM.access (Rect.unit (s := S4096x64) ![128 * o.val, 0] S128x64.size hb)).emb x (0 : Fin 2)).val = 128 * o.val + (x (0 : Fin 2)).val := by
    show 128 * o.val + 1 * (x (0 : Fin 2)).val = _; omega
  have hd := devOf_eq o _ h0
  have hr := inRow_eq o.val _ h0
  rw [← e0] at hd hr
  unfold YG
  rw [hd, hr]
  refine congrArg (P o) (funext fun a => ?_)
  match a with
  | ⟨0, _⟩ => rfl
  | ⟨1, _⟩ => exact Fin.ext (by show (x (1 : Fin 2)).val = 0 + 1 * (x (1 : Fin 2)).val; omega)

/-! ## The checks -/

/-- Every band of the gathered array consists of whole words. -/
theorem words_all : ∀ (o : Fin 32) (j : Fin 4), S4096x4096.WholeWordsAt (EltTy.packing .i8) ![128 * o.val + 32 * j.val, 0] S32x4096.size (fun _ => 1) := by
  decide +kernel
/-- A band's offset is in range and at whole words. -/
theorem slotChk (o : Dev nD) (j : Fin 4) {off : Fin 2 → ℕ} (ho : off = ![128 * o.val + 32 * j.val, 0]) :
    (∀ a, off a + S32x4096.size a ≤ S4096x4096.size a) ∧
      ∀ hinb : ∀ a, off a + S32x4096.size a ≤ S4096x4096.size a, (Rect.unit (s := S4096x4096) off S32x4096.size hinb).WholeWords (EltTy.packing .i8) := by
  subst ho
  have h1 : o.val < 32 := o.2
  have h2 : j.val < 4 := j.2
  refine ⟨fun a => ?_, fun hinb => ?_⟩
  · match a with
    | ⟨0, _⟩ => show 128 * o.val + 32 * j.val + 32 ≤ 4096; omega
    | ⟨1, _⟩ => show 0 + 4096 ≤ 4096; omega
  · exact (Rect.wholeWords_iff_at _ _).2 (words_all o j)
/-- A block's offset is in range. -/
theorem rowChk (o : Dev nD) {off : Fin 2 → ℕ} (ho : off = ![128 * o.val, 0]) : ∀ a, off a + S128x4096.size a ≤ S4096x4096.size a := by
  subst ho
  have h1 : o.val < 32 := o.2
  intro a
  match a with
  | ⟨0, _⟩ => show 128 * o.val + 128 ≤ 4096; omega
  | ⟨1, _⟩ => show 0 + 4096 ≤ 4096; omega
/-- The block of a device lies inside the output. -/
theorem outChk (o : Dev nD) {off : Fin 2 → ℕ} (ho : off = ![128 * o.val, 0]) : ∀ a, off a + S128x64.size a ≤ S4096x64.size a := by
  subst ho
  have h1 : o.val < 32 := o.2
  intro a
  match a with
  | ⟨0, _⟩ => show 128 * o.val + 128 ≤ 4096; omega
  | ⟨1, _⟩ => show 0 + 64 ≤ 64; omega
/-- The word that names a device is below the number of devices. -/
theorem devChk (o : Dev nD) : devW (wd o) < nD := (devW_wd o).trans_lt o.2

/-! ## The steps -/

section Loads

variable {X : Dev nD → XC (F := F)} {Wt : Dev nD → WC (F := F)} {pay : Dev nD → F .f32} {Kn : GSem nD τ sig → ℕ} {Rm : sProp (MT nD τ sig Unit (Elt F) ℕ UU ℕ)}

local notation "𝕀" => Inv X Wt pay Kn Rm

/-- A load of an entry of a table. -/
theorem tab_read6 (n : ℕ) {hb} (c : Dev nD) : (Memref.whole cc0_stg6_0).view.readAt (Elt F) (Rect.unit (s := S16) ![n] S1.size hb).toLoadRect (tab (F := F) false 0 c) = fun _ => wd (org false n c) := by
  funext x
  have h0 : (x (0 : Fin 1)).val < 1 := (x (0 : Fin 1)).2
  exact tab_row n 0 false c _ (by show n + 1 * (x (0 : Fin 1)).val = n; omega)
/-- What the kernel reads from the table of arrivals in the first direction. -/
theorem tab_read7 (n : ℕ) {hb} (c : Dev nD) : (Memref.whole cc0_stg7_0).view.readAt (Elt F) (Rect.unit (s := S16) ![n] S1.size hb).toLoadRect (tab (F := F) false 1 c) = fun _ => wd (org false (n + 1) c) := by
  funext x
  have h0 : (x (0 : Fin 1)).val < 1 := (x (0 : Fin 1)).2
  exact tab_row n 1 false c _ (by show n + 1 * (x (0 : Fin 1)).val = n; omega)
/-- What the kernel reads from the table of sends in the second direction. -/
theorem tab_read8 (n : ℕ) {hb} (c : Dev nD) : (Memref.whole cc0_stg8_0).view.readAt (Elt F) (Rect.unit (s := S16) ![n] S1.size hb).toLoadRect (tab (F := F) true 0 c) = fun _ => wd (org true n c) := by
  funext x
  have h0 : (x (0 : Fin 1)).val < 1 := (x (0 : Fin 1)).2
  exact tab_row n 0 true c _ (by show n + 1 * (x (0 : Fin 1)).val = n; omega)
/-- What the kernel reads from the table of arrivals in the second direction. -/
theorem tab_read9 (n : ℕ) {hb} (c : Dev nD) : (Memref.whole cc0_stg9_0).view.readAt (Elt F) (Rect.unit (s := S16) ![n] S1.size hb).toLoadRect (tab (F := F) true 1 c) = fun _ => wd (org true (n + 1) c) := by
  funext x
  have h0 : (x (0 : Fin 1)).val < 1 := (x (0 : Fin 1)).2
  exact tab_row n 1 true c _ (by show n + 1 * (x (0 : Fin 1)).val = n; omega)

/-- What the state holds to read only, taken out and put back. -/
theorem inv_tabs (c : Dev nD) (l : List Op) : 𝕀 c l ⊢ iprop(Tabs X Wt c ∗ (Tabs X Wt c -∗ 𝕀 c l)) := by
  unfold Inv
  iintro ⟨Ht, Hlev, HR, HO, HSS, HSR, HRR, HOO, HT, Hrm⟩
  isplitl [HT]; · iexact HT
  iintro HT
  isplitl [Ht]; · iexact Ht
  isplitl [Hlev]; · iexact Hlev
  isplitl [HR]; · iexact HR
  isplitl [HO]; · iexact HO
  isplitl [HSS]; · iexact HSS
  isplitl [HSR]; · iexact HSR
  isplitl [HRR]; · iexact HRR
  isplitl [HOO]; · iexact HOO
  isplitl [HT]; · iexact HT
  iexact Hrm

/-- The kernel reads an entry of the table of sends in the first direction. -/
theorem step_fs {c : Dev nD} {α : Type} {Q : α → sProp 𝕄} {l : List Op} {n : ℕ} {hb : ∀ a, (![n] : Fin 1 → ℕ) a + S1.size a ≤ S16.size a} {hl}
    {k : ((Rect.unit (s := S16) ![n] S1.size hb).toLoadRect.shape.Idx → Elt F .i32) → Prog (TpuEff nD τ sig (Elt F) Λ₀ .tc) α}
    (h : 𝕀 c l ⊢ WP c (k fun _ => wd (org false n c)) Q) :
    𝕀 c l ⊢ WP c (.op (.load (Memref.whole cc0_stg6_0) (Rect.unit (s := S16) ![n] S1.size hb).toLoadRect hl) k) Q := by
  refine step_load Finset.univ fullShare (tab (F := F) false 0 c) _ (Finset.subset_univ _) ?_ (tab_read6 n c) h
  refine (inv_tabs c l).trans ?_
  unfold Tabs
  iintro ⟨⟨HX, HW, H6, H7, H8, H9⟩, Hb⟩
  isplitl [H6]; · iexact H6
  iintro H6; iapply Hb
  isplitl [HX]; · iexact HX
  isplitl [HW]; · iexact HW
  isplitl [H6]; · iexact H6
  isplitl [H7]; · iexact H7
  isplitl [H8]; · iexact H8
  iexact H9
/-- The kernel reads an entry of the table of arrivals in the first direction. -/
theorem step_fr {c : Dev nD} {α : Type} {Q : α → sProp 𝕄} {l : List Op} {n : ℕ} {hb : ∀ a, (![n] : Fin 1 → ℕ) a + S1.size a ≤ S16.size a} {hl}
    {k : ((Rect.unit (s := S16) ![n] S1.size hb).toLoadRect.shape.Idx → Elt F .i32) → Prog (TpuEff nD τ sig (Elt F) Λ₀ .tc) α}
    (h : 𝕀 c l ⊢ WP c (k fun _ => wd (org false (n + 1) c)) Q) :
    𝕀 c l ⊢ WP c (.op (.load (Memref.whole cc0_stg7_0) (Rect.unit (s := S16) ![n] S1.size hb).toLoadRect hl) k) Q := by
  refine step_load Finset.univ fullShare (tab (F := F) false 1 c) _ (Finset.subset_univ _) ?_ (tab_read7 n c) h
  refine (inv_tabs c l).trans ?_
  unfold Tabs
  iintro ⟨⟨HX, HW, H6, H7, H8, H9⟩, Hb⟩
  isplitl [H7]; · iexact H7
  iintro H7; iapply Hb
  isplitl [HX]; · iexact HX
  isplitl [HW]; · iexact HW
  isplitl [H6]; · iexact H6
  isplitl [H7]; · iexact H7
  isplitl [H8]; · iexact H8
  iexact H9
/-- The kernel reads an entry of the table of sends in the second direction. -/
theorem step_rs {c : Dev nD} {α : Type} {Q : α → sProp 𝕄} {l : List Op} {n : ℕ} {hb : ∀ a, (![n] : Fin 1 → ℕ) a + S1.size a ≤ S16.size a} {hl}
    {k : ((Rect.unit (s := S16) ![n] S1.size hb).toLoadRect.shape.Idx → Elt F .i32) → Prog (TpuEff nD τ sig (Elt F) Λ₀ .tc) α}
    (h : 𝕀 c l ⊢ WP c (k fun _ => wd (org true n c)) Q) :
    𝕀 c l ⊢ WP c (.op (.load (Memref.whole cc0_stg8_0) (Rect.unit (s := S16) ![n] S1.size hb).toLoadRect hl) k) Q := by
  refine step_load Finset.univ fullShare (tab (F := F) true 0 c) _ (Finset.subset_univ _) ?_ (tab_read8 n c) h
  refine (inv_tabs c l).trans ?_
  unfold Tabs
  iintro ⟨⟨HX, HW, H6, H7, H8, H9⟩, Hb⟩
  isplitl [H8]; · iexact H8
  iintro H8; iapply Hb
  isplitl [HX]; · iexact HX
  isplitl [HW]; · iexact HW
  isplitl [H6]; · iexact H6
  isplitl [H7]; · iexact H7
  isplitl [H8]; · iexact H8
  iexact H9
/-- The kernel reads an entry of the table of arrivals in the second direction. -/
theorem step_rr {c : Dev nD} {α : Type} {Q : α → sProp 𝕄} {l : List Op} {n : ℕ} {hb : ∀ a, (![n] : Fin 1 → ℕ) a + S1.size a ≤ S16.size a} {hl}
    {k : ((Rect.unit (s := S16) ![n] S1.size hb).toLoadRect.shape.Idx → Elt F .i32) → Prog (TpuEff nD τ sig (Elt F) Λ₀ .tc) α}
    (h : 𝕀 c l ⊢ WP c (k fun _ => wd (org true (n + 1) c)) Q) :
    𝕀 c l ⊢ WP c (.op (.load (Memref.whole cc0_stg9_0) (Rect.unit (s := S16) ![n] S1.size hb).toLoadRect hl) k) Q := by
  refine step_load Finset.univ fullShare (tab (F := F) true 1 c) _ (Finset.subset_univ _) ?_ (tab_read9 n c) h
  refine (inv_tabs c l).trans ?_
  unfold Tabs
  iintro ⟨⟨HX, HW, H6, H7, H8, H9⟩, Hb⟩
  isplitl [H9]; · iexact H9
  iintro H9; iapply Hb
  isplitl [HX]; · iexact HX
  isplitl [HW]; · iexact HW
  isplitl [H6]; · iexact H6
  isplitl [H7]; · iexact H7
  isplitl [H8]; · iexact H8
  iexact H9

/-- The load of the device's own block. -/
theorem step_x {c : Dev nD} {α : Type} {Q : α → sProp 𝕄} {l : List Op} {hb : ∀ a, (![0, 0] : Fin 2 → ℕ) a + S128x4096.size a ≤ S128x4096.size a} {hl}
    {k : ((Rect.unit (s := S128x4096) ![0, 0] S128x4096.size hb).toLoadRect.shape.Idx → Elt F .i8) → Prog (TpuEff nD τ sig (Elt F) Λ₀ .tc) α}
    (h : 𝕀 c l ⊢ WP c (k (X c)) Q) :
    𝕀 c l ⊢ WP c (.op (.load xM (Rect.unit (s := S128x4096) ![0, 0] S128x4096.size hb).toLoadRect hl) k) Q := by
  refine step_load Finset.univ fullShare.left (X c) _ (Finset.subset_univ _) ?_
    (Memref.readAt_unit_zero (Elt F) cc0_stg0_0 (by funext a; fin_cases a <;> rfl) hb (X c)) h
  refine (inv_tabs c l).trans ?_
  unfold Tabs
  iintro ⟨⟨HX, HT⟩, Hb⟩
  isplitl [HX]; · iexact HX
  iintro HX; iapply Hb
  isplitl [HX]; · iexact HX
  iexact HT
/-- The load of the device's columns. -/
theorem step_w {c : Dev nD} {α : Type} {Q : α → sProp 𝕄} {l : List Op} {hb : ∀ a, (![0, 0] : Fin 2 → ℕ) a + S4096x64.size a ≤ S4096x64.size a} {hl}
    {k : ((Rect.unit (s := S4096x64) ![0, 0] S4096x64.size hb).toLoadRect.shape.Idx → Elt F .i8) → Prog (TpuEff nD τ sig (Elt F) Λ₀ .tc) α}
    (h : 𝕀 c l ⊢ WP c (k (Wt c)) Q) :
    𝕀 c l ⊢ WP c (.op (.load wM (Rect.unit (s := S4096x64) ![0, 0] S4096x64.size hb).toLoadRect hl) k) Q := by
  refine step_load Finset.univ fullShare (Wt c) _ (Finset.subset_univ _) ?_
    (Memref.readAt_unit_zero (Elt F) cc0_stg1_0 (by funext a; fin_cases a <;> rfl) hb (Wt c)) h
  refine (inv_tabs c l).trans ?_
  unfold Tabs
  iintro ⟨⟨HX, HW, HT⟩, Hb⟩
  isplitl [HW]; · iexact HW
  iintro HW; iapply Hb
  isplitl [HX]; · iexact HX
  isplitl [HW]; · iexact HW
  iexact HT

/-- The lane by which band `j` of a product's rows arrives carries band `j`. -/
theorem via_band' (d : Bool) (h : Fin 16) (j : Fin 4) : (via d h j).2.2 = j := by unfold via; split <;> rfl

/-- The bands of a block that has arrived, taken out and put back. -/
theorem inv_rows (c : Dev nD) (d : Bool) (h : Fin 16) (l : List Op) : 𝕀 c (mul (some (d, h)) :: l)
    ⊢ iprop((xfLoc c ↦[rowSet (org d (h.val + 1) c)]{fullShare.left} XG X) ∗ ((xfLoc c ↦[rowSet (org d (h.val + 1) c)]{fullShare.left} XG X) -∗ 𝕀 c (mul (some (d, h)) :: l))) := by
  unfold Inv
  iintro ⟨%ht, Hlev, HR, HO, HSS, HSR, HRR, HOO, HT, Hrm⟩
  let e : Fin 4 ↪ Lane := ⟨via d h, fun j j' hj => by have := congrArg (fun v : Lane => v.2.2) hj; simpa only [via_band'] using this⟩
  have hsub : (Finset.univ : Finset (Fin 4)).map e ⊆ lanes := by
    intro u hu; obtain ⟨j, -, rfl⟩ := Finset.mem_map.1 hu; exact (ok_via ht j).1
  have hsplit : bigSep lanes (recvRes X c (mul (some (d, h)) :: l))
      = iprop(bigSep Finset.univ (fun j => recvRes X c (mul (some (d, h)) :: l) (e j)) ∗ bigSep (lanes \ (Finset.univ : Finset (Fin 4)).map e) (recvRes X c (mul (some (d, h)) :: l))) := by
    rw [← bigSep_map e]; exact bigSep_sdiff_split hsub
  have hpts : (xfLoc c ↦[rowSet (org d (h.val + 1) c)]{fullShare.left} XG X : sProp 𝕄)
      = bigSep Finset.univ fun j => slotPts c (org d (h.val + 1) c) j fullShare.left (XG X) := by
    rw [rowSet_eq]; exact pointsTo_biUnion _ _ fun j _ j' _ hj => slotSet_disjoint _ hj
  have hlend : bigSep Finset.univ (fun j => recvRes X c (mul (some (d, h)) :: l) (e j))
      ⊢ iprop((bigSep Finset.univ fun j => slotPts c (org d (h.val + 1) c) j fullShare.left (XG X))
        ∗ ((bigSep Finset.univ fun j => slotPts c (org d (h.val + 1) c) j fullShare.left (XG X)) -∗ bigSep Finset.univ (fun j => recvRes X c (mul (some (d, h)) :: l) (e j)))) := by
    refine lend fun j _ => ?_
    have e1 : org (e j).1 ((e j).2.1.val + 1) c = org d (h.val + 1) c := org_via c d h j
    have e2 : (e j).2.2 = j := via_band' d h j
    have he : recvRes X c (mul (some (d, h)) :: l) (e j)
        = iprop(atPos ER (recvCell (e j) c) (0 + 1) ∅ 0 ∗ slotPts c (org d (h.val + 1) c) j fullShare.left (XG X) ∗ restRes X c (e j)) := by
      have e3 : recvRes X c (mul (some (d, h)) :: l) (e j)
          = iprop(atPos ER (recvCell (e j) c) (0 + 1) ∅ 0 ∗ slotPts c (org (e j).1 ((e j).2.1.val + 1) c) (e j).2.2 fullShare.left (XG X) ∗ restRes X c (e j)) :=
        if_neg (by
          intro hm
          rcases List.mem_cons.1 hm with h' | h'
          · cases h'
          · exact (ok_via ht j).2 h')
      rw [e3, e1, e2]
    rw [he]
    show iprop(atPos ER (recvCell (e j) c) (0 + 1) ∅ 0 ∗ slotPts c (org d (h.val + 1) c) j fullShare.left (XG X) ∗ restRes X c (e j)) ⊢ iprop(slotPts c (org d (h.val + 1) c) j fullShare.left (XG X) ∗ (slotPts c (org d (h.val + 1) c) j fullShare.left (XG X) -∗
      iprop(atPos ER (recvCell (e j) c) (0 + 1) ∅ 0 ∗ slotPts c (org d (h.val + 1) c) j fullShare.left (XG X) ∗ restRes X c (e j))))
    iintro ⟨Ha, Hs, Hr⟩
    isplitl [Hs]; · iexact Hs
    iintro Hs
    isplitl [Ha]; · iexact Ha
    isplitl [Hs]; · iexact Hs
    iexact Hr
  ihave HRR := (Entails.of_eq hsplit) $$ HRR
  icases HRR with ⟨H4, HRR⟩
  ihave H4 := hlend $$ H4
  icases H4 with ⟨H4, Hb⟩
  isplitl [H4]; · iapply (Entails.of_eq hpts.symm); iexact H4
  iintro H4
  ihave H4 := (Entails.of_eq hpts) $$ H4
  isplitr; · ipureintro; exact ht
  isplitl [Hlev]; · iexact Hlev
  isplitl [HR]; · iexact HR
  isplitl [HO]; · iexact HO
  isplitl [HSS]; · iexact HSS
  isplitl [HSR]; · iexact HSR
  isplitl [HRR H4 Hb]
  · iapply (Entails.of_eq hsplit.symm)
    isplitl [H4 Hb]
    · iapply Hb; iexact H4
    iexact HRR
  isplitl [HOO]; · iexact HOO
  isplitl [HT]; · iexact HT
  iexact Hrm

/-- The load of a block that has arrived. -/
theorem step_rows {c : Dev nD} {α : Type} {Q : α → sProp 𝕄} {l : List Op} {d : Bool} {m : Fin 16} {off : Fin 2 → ℕ} {hb : ∀ a, off a + S128x4096.size a ≤ S4096x4096.size a} {hl}
    {k : ((Rect.unit (s := S4096x4096) off S128x4096.size hb).toLoadRect.shape.Idx → Elt F .i8) → Prog (TpuEff nD τ sig (Elt F) Λ₀ .tc) α}
    (ho : off = ![128 * (org d (m.val + 1) c).val, 0])
    (h : 𝕀 c (mul (some (d, m)) :: l) ⊢ WP c (k (X (org d (m.val + 1) c))) Q) :
    𝕀 c (mul (some (d, m)) :: l) ⊢ WP c (.op (.load xfM (Rect.unit (s := S4096x4096) off S128x4096.size hb).toLoadRect hl) k) Q :=
  step_load (rowSet (org d (m.val + 1) c)) fullShare.left (XG X) _ (rows_sub _ ho) (inv_rows c d m l) (rows_read X _ ho) h

/-- The rows of the result a product is about to fill, taken out; its rows filled, put back. -/
theorem inv_out (c : Dev nD) (g : Option (Bool × Fin 16)) (hg : g ∈ muls) (l : List Op) : 𝕀 c (mul g :: l)
    ⊢ iprop((∃ f, outPts c (own c g) f) ∗ (((∃ f, outPts c (own c g) f) -∗ 𝕀 c (mul g :: l)) ∧ (outPts c (own c g) (YG (Pr X Wt pay c)) -∗ 𝕀 c l))) := by
  unfold Inv
  iintro ⟨%ht, Hlev, HR, ⟨%W, HO⟩, HSS, HSR, HRR, HOO, HT, Hrm⟩
  have hn := ok_mul ht
  have e1 : outRes X Wt pay c (mul g :: l) g = iprop(∃ f, outPts c (own c g) f) := if_pos List.mem_cons_self
  have e2 : outRes X Wt pay c l g = outPts c (own c g) (YG (Pr X Wt pay c)) := if_neg hn
  have e3 : bigSep (muls.erase g) (outRes X Wt pay c (mul g :: l)) = bigSep (muls.erase g) (outRes X Wt pay c l) :=
    bigSep_congr fun u hu => outRes_congr X Wt pay (by simp only [List.mem_cons, Op.mul.injEq, Finset.ne_of_mem_erase hu, _root_.false_or])
  ihave HOO := (Entails.of_eq (bigSep_at hg (outRes X Wt pay c (mul g :: l)))) $$ HOO
  icases HOO with ⟨Hg, HOO⟩
  ihave Hg := (Entails.of_eq e1) $$ Hg
  isplitl [Hg]; · iexact Hg
  isplit
  · iintro Hg
    isplitr; · ipureintro; exact ht
    isplitl [Hlev]; · iexact Hlev
    isplitl [HR]; · iexact HR
    isplitl [HO]; · iexists W; iexact HO
    isplitl [HSS]; · iexact HSS
    isplitl [HSR]; · iexact HSR
    isplitl [HRR]; · iexact HRR
    isplitl [HOO Hg]
    · iapply (Entails.of_eq (bigSep_at hg (outRes X Wt pay c (mul g :: l))).symm)
      isplitl [Hg]; · iapply (Entails.of_eq e1.symm); iexact Hg
      iexact HOO
    isplitl [HT]; · iexact HT
    iexact Hrm
  · iintro Hg
    isplitr; · ipureintro; exact ht.tail
    isplitl [Hlev]; · iexact Hlev
    isplitl [HR]; · iexact HR
    isplitl [HO]
    · iexists W
      iapply (Entails.of_eq (congrArg (fun T => owes (c : Thread nD τ) (owing c T) W) (toSend_skip (l := l) (o := mul g) (by simp)))); iexact HO
    isplitl [HSS]; · iapply (keepSend (mul g) (by simp)); iexact HSS
    isplitl [HSR]; · iapply (keepSrc (mul g) (by simp) (by simp)); iexact HSR
    isplitl [HRR]; · iapply (keepRecv (mul g) (by simp)); iexact HRR
    isplitl [HOO Hg]
    · iapply (Entails.of_eq (bigSep_at hg (outRes X Wt pay c l)).symm)
      isplitl [Hg]; · iapply (Entails.of_eq e2.symm); iexact Hg
      iapply (Entails.of_eq e3); iexact HOO
    isplitl [HT]; · iexact HT
    iexact Hrm

/-- The load of the result's rows before they are filled, whose value nothing reads. -/
theorem step_dead {c : Dev nD} {α : Type} {Q : α → sProp 𝕄} {l : List Op} {g : Option (Bool × Fin 16)} {off : Fin 2 → ℕ} {hb : ∀ a, off a + S128x64.size a ≤ S4096x64.size a} {hl}
    {k : ((Rect.unit (s := S4096x64) off S128x64.size hb).toLoadRect.shape.Idx → Elt F .f32) → Prog (TpuEff nD τ sig (Elt F) Λ₀ .tc) α}
    (hg : g ∈ muls) (ho : off = ![128 * (own c g).val, 0])
    (h : ∀ v, 𝕀 c (mul g :: l) ⊢ WP c (k v) Q) :
    𝕀 c (mul g :: l) ⊢ WP c (.op (.load oM (Rect.unit (s := S4096x64) off S128x64.size hb).toLoadRect hl) k) Q := by
  refine (inv_out c g hg l).trans ?_
  iintro ⟨⟨%f, Hf⟩, Hb⟩
  iapply (wp_load (defs := defs₀ (F := F)) 𝒱₀ (c : Thread nD τ) none Set.univ (m := oM) (r := (Rect.unit (s := S4096x64) off S128x64.size hb).toLoadRect)
    (S := outSet (own c g)) (q := fullShare) (f := f) (out_sub _ ho)) $$ [Hf]
  · unfold outPts; iexact Hf
  iintro Hf
  iapply (h _)
  ihave Hb := and_elim_l $$ Hb
  iapply Hb
  iexists f
  unfold outPts; iexact Hf

/-- The store of a product. -/
theorem step_store {c : Dev nD} {α : Type} {Q : α → sProp 𝕄} {l : List Op} {g : Option (Bool × Fin 16)} {off : Fin 2 → ℕ} {hb : ∀ a, off a + S128x64.size a ≤ S4096x64.size a}
    {w : (Rect.unit (s := S4096x64) off S128x64.size hb).shape.Idx → Elt F .f32} {hx hm}
    {k : PUnit → Prog (TpuEff nD τ sig (Elt F) Λ₀ .tc) α}
    (hg : g ∈ muls) (ho : off = ![128 * (own c g).val, 0]) (hw : w = Pr X Wt pay c (own c g))
    (h : 𝕀 c l ⊢ WP c (k ⟨⟩) Q) :
    𝕀 c (mul g :: l) ⊢ WP c (.op (.store oM (Rect.unit (s := S4096x64) off S128x64.size hb) w Finset.univ hx hm) k) Q := by
  subst hw
  refine (inv_out c g hg l).trans ?_
  iintro ⟨⟨%f, Hf⟩, Hb⟩
  iapply (wp_store (defs := defs₀ (F := F)) 𝒱₀ (c : Thread nD τ) none Set.univ (m := oM) (r := Rect.unit (s := S4096x64) off S128x64.size hb)
    (w := Pr X Wt pay c (own c g)) (Mk := Finset.univ) (hx := hx) (hm := hm) (S := outSet (own c g)) (f := f) (le_of_eq (out_set _ ho))) $$ [Hf]
  · unfold outPts; iexact Hf
  iintro Hf
  iapply h
  ihave Hb := and_elim_r $$ Hb
  iapply Hb
  have e : (oLoc c ↦[outSet (own c g)]{fullShare} ((oM.access (Rect.unit (s := S4096x64) off S128x64.size hb)).write (Elt F) f (Pr X Wt pay c (own c g)) Finset.univ : OC (F := F)) : sProp 𝕄)
      = outPts c (own c g) (YG (Pr X Wt pay c)) := pointsTo_congr (out_land (Pr X Wt pay c) (own c g) ho f)
  iapply (Entails.of_eq e)
  iexact Hf

end Loads

end Cert.KernelIdeal.Ring

end
-- ==== Proof.IdealStart.lean ====
/- The barrier with both neighbours, before the first send.
   The same for the program read over the extended reals. -/
module

public import proofs.«01_k».proof.Proof.IdealLoads

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

section Start

variable {X : Dev nD → XC (F := F)} {Wt : Dev nD → WC (F := F)} {pay ax aw : Dev nD → F .f32} {Kn : GSem nD τ sig → ℕ} {Rm D : sProp (MT nD τ sig Unit (Elt F) ℕ UU ℕ)}

local notation "𝕀" => Inv X Wt pay Kn Rm

/-! ## Sequencing -/

/-- A program in two parts is treated one part after the other. -/
theorem step_bind {c : Dev nD} {α β : Type} {Q : β → sProp 𝕄} {I : sProp 𝕄} {p : Prog (TpuEff nD τ sig (Elt F) Λ₀ .tc) α} {k : α → Prog (TpuEff nD τ sig (Elt F) Λ₀ .tc) β}
    (h : I ⊢ WP c p fun a => WP c (k a) Q) : I ⊢ WP c (p >>= k) Q :=
  h.trans (Entails.of_eq (wp_bind ..).symm)
/-- A program that only returns a value. -/
theorem step_ret {c : Dev nD} {α : Type} {Q : α → sProp 𝕄} {I : sProp 𝕄} {a : α} (h : I ⊢ Q a) : I ⊢ WP c (.ret a) Q :=
  h.trans (fupd_intro ..)
/-- The kernel asks which device it runs on. -/
theorem step_dev {c : Dev nD} {α : Type} {Q : α → sProp 𝕄} {I : sProp 𝕄} {k : Dev nD → Prog (TpuEff nD τ sig (Elt F) Λ₀ .tc) α}
    (h : I ⊢ WP c (k c) Q) : I ⊢ WP c (.op .deviceId k) Q :=
  h.trans (Entails.of_eq (wp_deviceId ..).symm)

/-! ## The conditions the kernel checks -/

/-- A band's offset is in range and at whole words. -/
theorem chkS (o : Dev nD) (n : ℕ) (hn : n % 32 = 0 ∧ n < 128) :
    (∀ a, slotOff (wd o) n a + S32x4096.size a ≤ S4096x4096.size a) ∧
      ∀ hinb : ∀ a, slotOff (wd o) n a + S32x4096.size a ≤ S4096x4096.size a, (Rect.unit (s := S4096x4096) (slotOff (wd o) n) S32x4096.size hinb).WholeWords (EltTy.packing .i8) :=
  slotChk o ⟨n / 32, by omega⟩ (by rw [slotOff_wd o n hn.2]; congr 2; show n = 32 * (n / 32); omega)
/-- A block's rows are in range. -/
theorem chkR (o : Dev nD) : ∀ a, rowOff (wd o) a + S128x4096.size a ≤ S4096x4096.size a := rowChk o (rowOff_wd o)
/-- A product's rows are in range. -/
theorem chkO (o : Dev nD) : ∀ a, rowOff (wd o) a + S128x64.size a ≤ S4096x64.size a := outChk o (rowOff_wd o)

/-! ## The barrier with both neighbours -/

/-- The single-entry operands: the neighbours and the two scales. -/
def Scal (ax aw : Dev nD → F .f32) (c : Dev nD) : sProp 𝕄 :=
  iprop(((c : Thread nD τ).loc cc0_stg4_0 ↦[Finset.univ]{fullShare} fun _ => wd (nbr false c))
    ∗ ((c : Thread nD τ).loc cc0_stg5_0 ↦[Finset.univ]{fullShare} fun _ => wd (nbr true c))
    ∗ ((c : Thread nD τ).loc cc0_stg2_0 ↦[Finset.univ]{fullShare} fun _ => ax c)
    ∗ ((c : Thread nD τ).loc cc0_stg3_0 ↦[Finset.univ]{fullShare} fun _ => aw c))

/-- What signalling the neighbour whose sends in direction `d` come here needs: the bands they land in. -/
def Due (c : Dev nD) (d : Bool) : sProp 𝕄 :=
  iprop(dutyTok ER (barCell (nbr (!d) c)) 0 d ∗ reached ER (barCell (nbr (!d) c)) 0 ∗ barPay (nbr (!d) c) d)

/-- What a device holds before its barrier wait: it owes `O`, still holds `D` to signal with, and keeps `Rm`. -/
def Pre (X : Dev nD → XC (F := F)) (Kn : GSem nD τ sig → ℕ) (ax aw : Dev nD → F .f32) (c : Dev nD) (O : CellTallies nD τ sig Unit) (D : sProp 𝕄) (Rm : sProp 𝕄) : sProp 𝕄 :=
  iprop(Scal ax aw c ∗ levAts L lv ∗ Recs X Kn ∗ (∃ W, owes (c : Thread nD τ) O W) ∗ D ∗ cred (tallyAt (barCell c) () 2) ∗ atPos ER (barCell c) 0 ∅ 0 ∗ Rm)

/-- The scalars can be lent out of the state before the loop and given back. -/
theorem pre_scal {c : Dev nD} {O : CellTallies nD τ sig Unit} : Pre X Kn ax aw c O D Rm ⊢ iprop(Scal ax aw c ∗ (Scal ax aw c -∗ Pre X Kn ax aw c O D Rm)) := by
  unfold Pre
  iintro ⟨HS, H⟩
  isplitl [HS]; · iexact HS
  iintro HS
  isplitl [HS]; · iexact HS
  iexact H

/-- The kernel reads the number of its neighbour in the first direction. -/
theorem step_succ {c : Dev nD} {O : CellTallies nD τ sig Unit} {α : Type} {Q : α → sProp 𝕄} {r : LoadRect S1} {hl}
    {k : (r.shape.Idx → Elt F .i32) → Prog (TpuEff nD τ sig (Elt F) Λ₀ .tc) α}
    (h : Pre X Kn ax aw c O D Rm ⊢ WP c (k fun _ => wd (nbr false c)) Q) :
    Pre X Kn ax aw c O D Rm ⊢ WP c (.op (.load (Memref.whole cc0_stg4_0) r hl) k) Q := by
  refine step_load Finset.univ fullShare (fun _ => wd (nbr false c)) _ (Finset.subset_univ _) (pre_scal.trans ?_) rfl h
  unfold Scal
  iintro ⟨⟨H4, H5, H2, H3⟩, Hb⟩
  isplitl [H4]; · iexact H4
  iintro H4; iapply Hb
  isplitl [H4]; · iexact H4
  isplitl [H5]; · iexact H5
  isplitl [H2]; · iexact H2
  iexact H3
/-- The kernel reads the number of its neighbour in the second direction. -/
theorem step_pred {c : Dev nD} {O : CellTallies nD τ sig Unit} {α : Type} {Q : α → sProp 𝕄} {r : LoadRect S1} {hl}
    {k : (r.shape.Idx → Elt F .i32) → Prog (TpuEff nD τ sig (Elt F) Λ₀ .tc) α}
    (h : Pre X Kn ax aw c O D Rm ⊢ WP c (k fun _ => wd (nbr true c)) Q) :
    Pre X Kn ax aw c O D Rm ⊢ WP c (.op (.load (Memref.whole cc0_stg5_0) r hl) k) Q := by
  refine step_load Finset.univ fullShare (fun _ => wd (nbr true c)) _ (Finset.subset_univ _) (pre_scal.trans ?_) rfl h
  unfold Scal
  iintro ⟨⟨H4, H5, H2, H3⟩, Hb⟩
  isplitl [H5]; · iexact H5
  iintro H5; iapply Hb
  isplitl [H4]; · iexact H4
  isplitl [H5]; · iexact H5
  isplitl [H2]; · iexact H2
  iexact H3
/-- The kernel reads the scale of the first operand. -/
theorem step_sx {c : Dev nD} {O : CellTallies nD τ sig Unit} {α : Type} {Q : α → sProp 𝕄} {r : LoadRect S1} {hl}
    {k : (r.shape.Idx → Elt F .f32) → Prog (TpuEff nD τ sig (Elt F) Λ₀ .tc) α}
    (h : Pre X Kn ax aw c O D Rm ⊢ WP c (k fun _ => ax c) Q) :
    Pre X Kn ax aw c O D Rm ⊢ WP c (.op (.load (Memref.whole cc0_stg2_0) r hl) k) Q := by
  refine step_load Finset.univ fullShare (fun _ => ax c) _ (Finset.subset_univ _) (pre_scal.trans ?_) rfl h
  unfold Scal
  iintro ⟨⟨H4, H5, H2, H3⟩, Hb⟩
  isplitl [H2]; · iexact H2
  iintro H2; iapply Hb
  isplitl [H4]; · iexact H4
  isplitl [H5]; · iexact H5
  isplitl [H2]; · iexact H2
  iexact H3
/-- The kernel reads the scale of the second operand. -/
theorem step_sw {c : Dev nD} {O : CellTallies nD τ sig Unit} {α : Type} {Q : α → sProp 𝕄} {r : LoadRect S1} {hl}
    {k : (r.shape.Idx → Elt F .f32) → Prog (TpuEff nD τ sig (Elt F) Λ₀ .tc) α}
    (h : Pre X Kn ax aw c O D Rm ⊢ WP c (k fun _ => aw c) Q) :
    Pre X Kn ax aw c O D Rm ⊢ WP c (.op (.load (Memref.whole cc0_stg3_0) r hl) k) Q := by
  refine step_load Finset.univ fullShare (fun _ => aw c) _ (Finset.subset_univ _) (pre_scal.trans ?_) rfl h
  unfold Scal
  iintro ⟨⟨H4, H5, H2, H3⟩, Hb⟩
  isplitl [H3]; · iexact H3
  iintro H3; iapply Hb
  isplitl [H4]; · iexact H4
  isplitl [H5]; · iexact H5
  isplitl [H2]; · iexact H2
  iexact H3

/-- A signal to a neighbour's barrier cell. -/
theorem step_signal (d : Bool) {c : Dev nD} {O : CellTallies nD τ sig Unit} {α : Type} {Q : α → sProp 𝕄} {n : ℕ} {hn : n < nD} {s : Sem sig}
    {k : PUnit → Prog (TpuEff nD τ sig (Elt F) Λ₀ .tc) α} (hnb : n = (nbr (!d) c).val) (hs : s = barS)
    (h : Pre X Kn ax aw c O D Rm ⊢ WP c (k ⟨⟩) Q) :
    Pre X Kn ax aw c (O + tallyAt (barCell (nbr (!d) c)) () 1) iprop(Due (F := F) c d ∗ D) Rm ⊢ WP c ((semSignalWord (⟨n, hn⟩ : Dev nD) s 1#32).bind k) Q := by
  subst hnb hs
  unfold Pre at h ⊢
  unfold Due
  iintro ⟨HS, #Hlev, #HR, ⟨%W, HO⟩, ⟨⟨Ht, #Hr, Hp⟩, HD⟩, Hc, Hat, Hrm⟩
  iapply (Rounds.wp_signal 𝒱₀ ER (rd X) (c : Thread nD τ) none (dst := ((nbr (!d) c : Dev nD) : Thread nD τ)) (sem := barS) (r := 0) (d := d) (κ := Kn (barCell (nbr (!d) c)))
      (by rw [duties_bar]; exact Finset.mem_univ _) (amount_bar X (nbr (!d) c) d) () O rfl)
    $$ [HO Ht Hp]
  · isplitr; · iapply (Recs_bar X Kn (nbr (!d) c)); iexact HR
    isplitl [HO]; · iexact HO
    isplitl [Ht]; · iexact Ht
    isplitl [Hp]; · iapply (Entails.of_eq (payload_bar X (nbr (!d) c) d).symm); iexact Hp
    iexact Hr
  iintro HO
  iapply h
  isplitl [HS]; · iexact HS
  isplitr; · iexact Hlev
  isplitr; · iexact HR
  isplitl [HO]; · iexists W; iexact HO
  isplitl [HD]; · iexact HD
  isplitl [Hc]; · iexact Hc
  isplitl [Hat]; · iexact Hat
  iexact Hrm

/-- The wait for both neighbours. -/
theorem step_barrier {c : Dev nD} {I : sProp 𝕄} {α : Type} {Q : α → sProp 𝕄} {s : Sem sig}
    {k : PUnit → Prog (TpuEff nD τ sig (Elt F) Λ₀ .tc) α} (hs : s = barS)
    (hI : iprop(Scal ax aw c ∗ levAts L lv ∗ Recs X Kn ∗ (∃ W, owes (c : Thread nD τ) (owing c lanes) W) ∗ barPay (F := F) c false ∗ barPay (F := F) c true ∗ atPos ER (barCell c) (0 + 1) ∅ 0 ∗ Rm) ⊢ I)
    (h : I ⊢ WP c (k ⟨⟩) Q) :
    Pre X Kn ax aw c (owing c lanes) iprop(emp) Rm ⊢ WP c ((semWaitWord s 2#32).bind k) Q := by
  subst hs
  unfold Pre
  iintro ⟨HS, #Hlev, #HR, ⟨%W, HO⟩, -, Hc, Hat, Hrm⟩
  iapply (Rounds.wp_wait_rest_token 𝒱₀ ER (rd X) (c : Thread nD τ) none (κ := Kn (barCell c))
      (wpE_semWait_eq 𝒱₀ (c : Thread nD τ) none Set.univ) (Set.mem_univ _) () (O := owing c lanes) (W := W) (R := 0) (m := 0) (T := ∅)
      ((Nat.zero_add _).trans (expect_bar X c).symm)) $$ [Hc HO Hat]
  · isplitr; · iapply (Recs_bar X Kn c); iexact HR
    isplitl [Hc]; · iexact Hc
    isplitl [HO]; · iexact HO
    isplitr
    · iapply (mayWait_of c (.reg barS) 1 (le_refl 1) lanes fun v _ => by omega); iexact Hlev
    iexact Hat
  iintro ⟨HO, Hat, -, Hpay⟩
  ihave Hp := (Entails.of_eq (rest_bar X c)) $$ Hpay
  icases Hp with ⟨Hf, Ht⟩
  iapply (hI.trans h)
  isplitl [HS]; · iexact HS
  isplitr; · iexact Hlev
  isplitr; · iexact HR
  isplitl [HO]; · iexists _; iexact HO
  isplitl [Hf]; · iexact Hf
  isplitl [Ht]; · iexact Ht
  isplitl [Hat]; · iexact Hat
  iexact Hrm

end Start

/-! ## The steps, as the kernel's text has them -/

section Do

variable {X : Dev nD → XC (F := F)} {Wt : Dev nD → WC (F := F)} {pay ax aw : Dev nD → F .f32} {Kn : GSem nD τ sig → ℕ} {Rm D : sProp (MT nD τ sig Unit (Elt F) ℕ UU ℕ)}
variable {c : Dev nD} {α : Type} {Q : α → sProp (MT nD τ sig Unit (Elt F) ℕ UU ℕ)} {I : sProp (MT nD τ sig Unit (Elt F) ℕ UU ℕ)} {l : List Op} {v : Lane} {g : Option (Bool × Fin 16)}

local notation "𝕀" => Inv X Wt pay Kn Rm

/-- A part of a program can be treated together with what follows it. -/
theorem step_unbind {β : Type} {p : Prog (TpuEff nD τ sig (Elt F) Λ₀ .tc) β} {k : β → Prog (TpuEff nD τ sig (Elt F) Λ₀ .tc) α}
    (h : I ⊢ WP c (p >>= k) Q) : I ⊢ WP c p fun a => WP c (k a) Q :=
  h.trans (Entails.of_eq (wp_bind ..))
/-- A part that only returns a value. -/
theorem do_pure {a : α} (h : I ⊢ Q a) : I ⊢ WP c (pure a) Q := step_ret h
/-- As written in the kernel: read an entry of the table of sends in the first direction. -/
theorem do_fs {n : ℕ} {hb : ∀ a, (![n] : Fin 1 → ℕ) a + S1.size a ≤ S16.size a} {h1 hp} {k : Elt F .i32 → Prog (TpuEff nD τ sig (Elt F) Λ₀ .tc) α}
    (h : 𝕀 c l ⊢ WP c (k (wd (org false n c))) Q) :
    𝕀 c l ⊢ WP c (smemLoad (s := S16) (e := .i32) (Memref.whole cc0_stg6_0) (Rect.unit (s := S16) ![n] S1.size hb) h1 hp >>= k) Q := step_fs h
/-- As written in the kernel: read an entry of the table of arrivals in the first direction. -/
theorem do_fr {n : ℕ} {hb : ∀ a, (![n] : Fin 1 → ℕ) a + S1.size a ≤ S16.size a} {h1 hp} {k : Elt F .i32 → Prog (TpuEff nD τ sig (Elt F) Λ₀ .tc) α}
    (h : 𝕀 c l ⊢ WP c (k (wd (org false (n + 1) c))) Q) :
    𝕀 c l ⊢ WP c (smemLoad (s := S16) (e := .i32) (Memref.whole cc0_stg7_0) (Rect.unit (s := S16) ![n] S1.size hb) h1 hp >>= k) Q := step_fr h
/-- As written in the kernel: read an entry of the table of sends in the second direction. -/
theorem do_rs {n : ℕ} {hb : ∀ a, (![n] : Fin 1 → ℕ) a + S1.size a ≤ S16.size a} {h1 hp} {k : Elt F .i32 → Prog (TpuEff nD τ sig (Elt F) Λ₀ .tc) α}
    (h : 𝕀 c l ⊢ WP c (k (wd (org true n c))) Q) :
    𝕀 c l ⊢ WP c (smemLoad (s := S16) (e := .i32) (Memref.whole cc0_stg8_0) (Rect.unit (s := S16) ![n] S1.size hb) h1 hp >>= k) Q := step_rs h
/-- As written in the kernel: read an entry of the table of arrivals in the second direction. -/
theorem do_rr {n : ℕ} {hb : ∀ a, (![n] : Fin 1 → ℕ) a + S1.size a ≤ S16.size a} {h1 hp} {k : Elt F .i32 → Prog (TpuEff nD τ sig (Elt F) Λ₀ .tc) α}
    (h : 𝕀 c l ⊢ WP c (k (wd (org true (n + 1) c))) Q) :
    𝕀 c l ⊢ WP c (smemLoad (s := S16) (e := .i32) (Memref.whole cc0_stg9_0) (Rect.unit (s := S16) ![n] S1.size hb) h1 hp >>= k) Q := step_rr h
/-- As written in the kernel: an assumption that is true. -/
theorem do_assume {P : Prop} {d : Decidable P} {k : PLift P → Prog (TpuEff nD τ sig (Elt F) Λ₀ .tc) α} (hP : P) (h : I ⊢ WP c (k ⟨hP⟩) Q) :
    I ⊢ WP c (Prog.lift (TpuEff.assume P d) >>= k) Q := step_assume hP h
/-- As written in the kernel: load the device's own rows. -/
theorem do_x {hb : ∀ a, (![0, 0] : Fin 2 → ℕ) a + S128x4096.size a ≤ S128x4096.size a} {hl} {k : (S128x4096.Idx → Elt F .i8) → Prog (TpuEff nD τ sig (Elt F) Λ₀ .tc) α}
    (h : 𝕀 c l ⊢ WP c (k (X c)) Q) :
    𝕀 c l ⊢ WP c (Prog.lift (.load xM (Rect.unit (s := S128x4096) ![0, 0] S128x4096.size hb).toLoadRect hl) >>= k) Q := step_x h
/-- As written in the kernel: load the second operand. -/
theorem do_w {hb : ∀ a, (![0, 0] : Fin 2 → ℕ) a + S4096x64.size a ≤ S4096x64.size a} {hl} {k : (S4096x64.Idx → Elt F .i8) → Prog (TpuEff nD τ sig (Elt F) Λ₀ .tc) α}
    (h : 𝕀 c l ⊢ WP c (k (Wt c)) Q) :
    𝕀 c l ⊢ WP c (Prog.lift (.load wM (Rect.unit (s := S4096x64) ![0, 0] S4096x64.size hb).toLoadRect hl) >>= k) Q := step_w h
/-- As written in the kernel: load the rows of another device, once they have arrived. -/
theorem do_rows {d : Bool} {m : Fin 16} {off : Fin 2 → ℕ} {hb : ∀ a, off a + S128x4096.size a ≤ S4096x4096.size a} {hl}
    {k : (S128x4096.Idx → Elt F .i8) → Prog (TpuEff nD τ sig (Elt F) Λ₀ .tc) α}
    (ho : off = ![128 * (org d (m.val + 1) c).val, 0])
    (h : 𝕀 c (mul (some (d, m)) :: l) ⊢ WP c (k (X (org d (m.val + 1) c))) Q) :
    𝕀 c (mul (some (d, m)) :: l) ⊢ WP c (Prog.lift (.load xfM (Rect.unit (s := S4096x4096) off S128x4096.size hb).toLoadRect hl) >>= k) Q := step_rows ho h
/-- As written in the kernel: load an output block whose value is not used. -/
theorem do_dead {off : Fin 2 → ℕ} {hb : ∀ a, off a + S128x64.size a ≤ S4096x64.size a} {hl}
    {k : (S128x64.Idx → Elt F .f32) → Prog (TpuEff nD τ sig (Elt F) Λ₀ .tc) α}
    (hg : g ∈ muls) (ho : off = ![128 * (own c g).val, 0]) (h : ∀ v, 𝕀 c (mul g :: l) ⊢ WP c (k v) Q) :
    𝕀 c (mul g :: l) ⊢ WP c (Prog.lift (.load oM (Rect.unit (s := S4096x64) off S128x64.size hb).toLoadRect hl) >>= k) Q := step_dead hg ho h
/-- As written in the kernel: store a product into its block of the output. -/
theorem do_store {off : Fin 2 → ℕ} {hb : ∀ a, off a + S128x64.size a ≤ S4096x64.size a} {w : S128x64.Idx → Elt F .f32} {hx hm}
    {k : PUnit → Prog (TpuEff nD τ sig (Elt F) Λ₀ .tc) α}
    (hg : g ∈ muls) (ho : off = ![128 * (own c g).val, 0]) (hw : w = Pr X Wt pay c (own c g)) (h : 𝕀 c l ⊢ WP c (k ⟨⟩) Q) :
    𝕀 c (mul g :: l) ⊢ WP c (Prog.lift (.store oM (Rect.unit (s := S4096x64) off S128x64.size hb) w Finset.univ hx hm) >>= k) Q := step_store hg ho hw h
/-- As written in the kernel: start a copy of a band of the device's own rows. -/
theorem do_send0 {n : ℕ} {hn : n < nD} {off off' : Fin 2 → ℕ} {hb hb'}
    {q q' : DmaSem sig} {hsc : (slotM off hb).view.ref.isScScratch = false} {hsrc : (bandM off' hb').view.WordExact} {hdst : (slotM off hb).view.WordExact}
    {hsem : DmaTarget.Typed .vmem (.dma q') (.remote (Dev.tc (⟨n, hn⟩ : Dev nD)) (slotM off hb) (.dma q) hsc)}
    {k : PUnit → Prog (TpuEff nD τ sig (Elt F) Λ₀ .tc) α}
    (h0 : v.2.1.val = 0) (hnb : n = (nbr v.1 c).val) (ho : off = ![128 * (org v.1 v.2.1.val c).val + 32 * v.2.2.val, 0]) (ho' : off' = ![32 * v.2.2.val, 0])
    (hq : q = semIx false v) (hq' : q' = semIx true v) (h : 𝕀 c l ⊢ WP c (k ⟨⟩) Q) :
    𝕀 c (send v :: l) ⊢ WP c (Prog.lift (.enqueueDma (bandM off' hb') (.remote (Dev.tc (⟨n, hn⟩ : Dev nD)) (slotM off hb) (.dma q) hsc) (.dma q') hsrc hdst hsem) >>= k) Q :=
  step_send0 h0 hnb ho ho' hq hq' h
/-- As written in the kernel: start a copy that forwards a band which has arrived. -/
theorem do_send {n : ℕ} {hn : n < nD} {off off' : Fin 2 → ℕ} {hb hb'}
    {q q' : DmaSem sig} {hsc : (slotM off hb).view.ref.isScScratch = false} {hsrc : (slotM off' hb').view.WordExact} {hdst : (slotM off hb).view.WordExact}
    {hsem : DmaTarget.Typed .vmem (.dma q') (.remote (Dev.tc (⟨n, hn⟩ : Dev nD)) (slotM off hb) (.dma q) hsc)}
    {k : PUnit → Prog (TpuEff nD τ sig (Elt F) Λ₀ .tc) α}
    (h0 : v.2.1.val ≠ 0) (hnb : n = (nbr v.1 c).val) (ho : off = ![128 * (org v.1 v.2.1.val c).val + 32 * v.2.2.val, 0])
    (ho' : off' = ![128 * (org v.1 v.2.1.val c).val + 32 * v.2.2.val, 0])
    (hq : q = semIx false v) (hq' : q' = semIx true v) (h : 𝕀 c l ⊢ WP c (k ⟨⟩) Q) :
    𝕀 c (send v :: l) ⊢ WP c (Prog.lift (.enqueueDma (slotM off' hb') (.remote (Dev.tc (⟨n, hn⟩ : Dev nD)) (slotM off hb) (.dma q) hsc) (.dma q') hsrc hdst hsem) >>= k) Q :=
  step_send h0 hnb ho ho' hq hq' h
/-- As written in the kernel: wait for the arrival of a band. -/
theorem do_recv {src dst : Memref sig .tc .vmem S32x4096 .i8} {q : DmaSem sig} {hsrc : src.view.WordExact} {hdst : dst.view.WordExact}
    {k : PUnit → Prog (TpuEff nD τ sig (Elt F) Λ₀ .tc) α} (hN : dst.view.dmaCredit = N) (hq : q = semIx true v) (h : 𝕀 c l ⊢ WP c (k ⟨⟩) Q) :
    𝕀 c (recv v :: l) ⊢ WP c (Prog.lift (.waitDma2 q src dst hsrc hdst) >>= k) Q := step_recv hN hq h
/-- As written in the kernel: wait for the end of a copy that was sent. -/
theorem do_fin {src dst : Memref sig .tc .vmem S32x4096 .i8} {q : DmaSem sig} {hsrc : src.view.WordExact} {hdst : dst.view.WordExact}
    {k : PUnit → Prog (TpuEff nD τ sig (Elt F) Λ₀ .tc) α} (hN : dst.view.dmaCredit = N) (hq : q = semIx false v) (h : 𝕀 c l ⊢ WP c (k ⟨⟩) Q) :
    𝕀 c (fin v :: l) ⊢ WP c (Prog.lift (.waitDma2 q src dst hsrc hdst) >>= k) Q := step_fin hN hq h
/-- As written in the kernel: ask which device it runs on. -/
theorem do_dev {k : Dev nD → Prog (TpuEff nD τ sig (Elt F) Λ₀ .tc) α} (h : I ⊢ WP c (k c) Q) : I ⊢ WP c (Prog.lift .deviceId >>= k) Q := step_dev h

variable {O : CellTallies nD τ sig Unit}

/-- As written in the kernel: read the number of the neighbour in the first direction. -/
theorem do_succ {r : Rect S1} {h1 hp} {k : Elt F .i32 → Prog (TpuEff nD τ sig (Elt F) Λ₀ .tc) α}
    (h : Pre X Kn ax aw c O D Rm ⊢ WP c (k (wd (nbr false c))) Q) :
    Pre X Kn ax aw c O D Rm ⊢ WP c (smemLoad (s := S1) (e := .i32) (Memref.whole cc0_stg4_0) r h1 hp >>= k) Q := step_succ h
/-- As written in the kernel: read the number of the neighbour in the second direction. -/
theorem do_pred {r : Rect S1} {h1 hp} {k : Elt F .i32 → Prog (TpuEff nD τ sig (Elt F) Λ₀ .tc) α}
    (h : Pre X Kn ax aw c O D Rm ⊢ WP c (k (wd (nbr true c))) Q) :
    Pre X Kn ax aw c O D Rm ⊢ WP c (smemLoad (s := S1) (e := .i32) (Memref.whole cc0_stg5_0) r h1 hp >>= k) Q := step_pred h
/-- As written in the kernel: read the scale of the first operand. -/
theorem do_sx {r : Rect S1} {h1 hp} {k : Elt F .f32 → Prog (TpuEff nD τ sig (Elt F) Λ₀ .tc) α}
    (h : Pre X Kn ax aw c O D Rm ⊢ WP c (k (ax c)) Q) :
    Pre X Kn ax aw c O D Rm ⊢ WP c (smemLoad (s := S1) (e := .f32) (Memref.whole cc0_stg2_0) r h1 hp >>= k) Q := step_sx h
/-- As written in the kernel: read the scale of the second operand. -/
theorem do_sw {r : Rect S1} {h1 hp} {k : Elt F .f32 → Prog (TpuEff nD τ sig (Elt F) Λ₀ .tc) α}
    (h : Pre X Kn ax aw c O D Rm ⊢ WP c (k (aw c)) Q) :
    Pre X Kn ax aw c O D Rm ⊢ WP c (smemLoad (s := S1) (e := .f32) (Memref.whole cc0_stg3_0) r h1 hp >>= k) Q := step_sw h

end Do
end Cert.KernelIdeal.Ring
end
-- ==== Proof.IdealEnds.lean ====
/- How the whole buffers split into the bands a device's state holds one by one, and how its resources before the first
   operation and after the last one are those it enters and leaves the kernel with.
   The same for the program read over the extended reals. -/
module

public import proofs.«01_k».proof.Proof.IdealStart

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

/-! ## The gathered array -/

/-- The rows of `c` in its own gathered array, which nobody writes. -/
def ownSet (c : Dev nD) : Finset (cc0_scratch0 : Ref sig .tc).ty.Idx := (Finset.univ : Finset (Fin 4)).biUnion fun j => slotSet c j
/-- The rows that arrive at `c`. -/
def gotSet (c : Dev nD) : Finset (cc0_scratch0 : Ref sig .tc).ty.Idx := lanes.biUnion fun v => slotSet (org v.1 (v.2.1.val + 1) c) v.2.2

/-- Bands that differ in device or in number do not meet. -/
theorem slot_disj {o o' : Dev nD} {j j' : Fin 4} (h : o = o' → j ≠ j') : Disjoint (slotSet o j) (slotSet o' j') := by
  refine Finset.disjoint_left.2 fun i hi hi' => ?_
  have h1 := (Finset.mem_filter.1 hi).2
  have h2 := (Finset.mem_filter.1 hi').2
  have := j.2; have := j'.2
  exact h (Fin.ext (by omega)) (Fin.ext (by omega))

/-- A device's own rows of the gathered array do not meet the rows it receives. -/
theorem own_got (c : Dev nD) : Disjoint (ownSet c) (gotSet c) := by
  unfold ownSet gotSet
  rw [Finset.disjoint_biUnion_left]; intro j _
  rw [Finset.disjoint_biUnion_right]; intro v _
  exact slot_disj fun e => absurd e.symm (lane_ne c v)

/-- A device's own rows and the rows it receives make up the gathered array. -/
theorem own_union (c : Dev nD) : ownSet c ∪ gotSet c = Finset.univ := by
  refine Finset.eq_univ_iff_forall.2 fun i => ?_
  have hi : (i (0 : Fin 2)).val < 4096 := (i (0 : Fin 2)).2
  rw [Finset.mem_union]
  have key : ∃ (o : Dev nD) (j : Fin 4), i ∈ slotSet o j :=
    ⟨⟨(i (0 : Fin 2)).val / 128, by show _ < 32; omega⟩, ⟨(i (0 : Fin 2)).val / 32 % 4, by omega⟩,
      Finset.mem_filter.2 ⟨Finset.mem_univ _, by show _ = 4 * ((i (0 : Fin 2)).val / 128) + (i (0 : Fin 2)).val / 32 % 4; omega⟩⟩
  obtain ⟨o, j, hm⟩ := key
  by_cases h : o = c
  · subst h; exact .inl (Finset.mem_biUnion.2 ⟨j, Finset.mem_univ _, hm⟩)
  · obtain ⟨u, hu, ho, hj⟩ := lane_surj c o j h
    refine .inr (Finset.mem_biUnion.2 ⟨u, hu, ?_⟩)
    rw [ho, hj]; exact hm

omit [FloatOps F] in
/-- A device's own rows are the bands it owns. -/
theorem own_slots (c : Dev nD) (q : PosShare TreeShare) (f : XfC (F := F)) :
    (xfLoc c ↦[ownSet c]{q} f : sProp 𝕄) = bigSep Finset.univ fun j => slotPts c c j q f :=
  pointsTo_biUnion _ _ fun j _ j' _ h => slot_disj fun _ => h
omit [FloatOps F] in
/-- The rows a device receives are the bands of its lanes. -/
theorem got_slots (c : Dev nD) (q : PosShare TreeShare) (f : XfC (F := F)) :
    (xfLoc c ↦[gotSet c]{q} f : sProp 𝕄) = bigSep lanes fun v => slotPts c (org v.1 (v.2.1.val + 1) c) v.2.2 q f :=
  pointsTo_biUnion _ _ fun u hu v hv h => slot_disj fun e ej => h (lane_inj c hu hv e ej)

omit [FloatOps F] in
/-- The gathered array is taken apart into the bands. -/
theorem xf_split (c : Dev nD) (f : XfC (F := F)) :
    (xfLoc c ↦[Finset.univ]{fullShare} f : sProp 𝕄) ⊢ iprop((xfLoc c ↦[ownSet c]{fullShare} f)
      ∗ bigSep lanes fun v => slotPts c (org v.1 (v.2.1.val + 1) c) v.2.2 fullShare f) := by
  rw [← got_slots, ← own_union c]
  exact (pointsTo_union (own_got c)).1
omit [FloatOps F] in
/-- The bands are put together into the gathered array again. -/
theorem xf_join (c : Dev nD) (f g : XfC (F := F)) :
    iprop((xfLoc c ↦[ownSet c]{fullShare} f) ∗ bigSep lanes fun v => slotPts c (org v.1 (v.2.1.val + 1) c) v.2.2 fullShare g)
      ⊢ (iprop(∃ h, xfLoc c ↦[Finset.univ]{fullShare} h) : sProp 𝕄) := by
  rw [← got_slots, ← own_union c]
  exact (pointsTo_join (own_got c)).trans (exists_intro _)

/-! ## The own block and the result -/

/-- The lanes of the first hop: each band in each direction. -/
theorem first_lanes : (lanes.filter fun v => v.2.1.val = 0) = (Finset.univ : Finset (Bool × Fin 4)).image fun p => (p.1, 0, p.2) := by decide +kernel

omit [FloatOps F] in
/-- The device's own input is taken apart into its bands. -/
theorem bands (c : Dev nD) (q : PosShare TreeShare) (f : XC (F := F)) :
    (xLoc c ↦[Finset.univ]{q} f : sProp 𝕄) = bigSep Finset.univ fun j => bandPts c j q f := by
  have : (Finset.univ : Finset (cc0_stg0_0 : Ref sig .tc).ty.Idx) = (Finset.univ : Finset (Fin 4)).biUnion fun j => bandSet j := by
    refine (Finset.eq_univ_iff_forall.2 fun i => ?_).symm
    have hi : (i (0 : Fin 2)).val < 128 := (i (0 : Fin 2)).2
    exact Finset.mem_biUnion.2 ⟨⟨(i (0 : Fin 2)).val / 32, by omega⟩, Finset.mem_univ _, Finset.mem_filter.2 ⟨Finset.mem_univ _, rfl⟩⟩
  rw [this]
  refine pointsTo_biUnion _ _ fun j _ j' _ h => Finset.disjoint_left.2 fun i hi hi' => h (Fin.ext ?_)
  exact (Finset.mem_filter.1 hi).2.symm.trans (Finset.mem_filter.1 hi').2

omit [FloatOps F] in
/-- The first sends of both directions read disjoint shares of the bands; the products keep the left half. -/
theorem x_shares (c : Dev nD) (f : XC (F := F)) : (xLoc c ↦[Finset.univ]{fullShare} f : sProp 𝕄)
    = iprop((xLoc c ↦[Finset.univ]{fullShare.left} f) ∗ bigSep (lanes.filter fun v => v.2.1.val = 0) fun v => bandPts c v.2.2 (qs v.1) f) := by
  have e1 : (xLoc c ↦[Finset.univ]{fullShare} f : sProp 𝕄) = iprop((xLoc c ↦[Finset.univ]{fullShare.left} f) ∗ xLoc c ↦[Finset.univ]{fullShare.right} f) :=
    Entails.antisymm (pointsTo_share (PosShare.mem_left_op_right fullShare)).1 (pointsTo_share (PosShare.mem_left_op_right fullShare)).2
  have e2 : (xLoc c ↦[Finset.univ]{fullShare.right} f : sProp 𝕄) = iprop((xLoc c ↦[Finset.univ]{fullShare.right.left} f) ∗ xLoc c ↦[Finset.univ]{fullShare.right.right} f) :=
    Entails.antisymm (pointsTo_share (PosShare.mem_left_op_right fullShare.right)).1 (pointsTo_share (PosShare.mem_left_op_right fullShare.right)).2
  rw [e1, e2, first_lanes, bigSep_image_of_injOn (fun a _ b _ h => by simpa [Prod.ext_iff] using h), bigSep_univ_prod,
    bigSep_univ_eq_bigSepL [false, true] (by decide) (by decide), bigSepL_cons_cons, bigSepL_singleton, bands c fullShare.right.left, bands c fullShare.right.right]
  rfl

omit [FloatOps F] in
/-- The output is taken apart into the blocks of the products. -/
theorem out_rows (c : Dev nD) (f : OC (F := F)) : (oLoc c ↦[Finset.univ]{fullShare} f : sProp 𝕄) = bigSep muls fun g => outPts c (own c g) f := by
  have : (Finset.univ : Finset (cc0_stg10_0 : Ref sig .tc).ty.Idx) = muls.biUnion fun g => outSet (own c g) := by
    refine (Finset.eq_univ_iff_forall.2 fun i => ?_).symm
    have hi : (i (0 : Fin 2)).val < 4096 := (i (0 : Fin 2)).2
    obtain ⟨g, hg, ho⟩ := own_surj c ⟨(i (0 : Fin 2)).val / 128, by omega⟩
    exact Finset.mem_biUnion.2 ⟨g, hg, by rw [ho]; exact Finset.mem_filter.2 ⟨Finset.mem_univ _, rfl⟩⟩
  rw [this]
  refine pointsTo_biUnion _ _ fun j hj j' hj' h => Finset.disjoint_left.2 fun i hi hi' => h (own_inj c hj hj' (Fin.ext ?_))
  exact (Finset.mem_filter.1 hi).2.symm.trans (Finset.mem_filter.1 hi').2

/-! ## What the barrier carries -/

omit [FloatOps F] in
/-- What the two neighbours hand over at the barrier is the room for the copies on every lane in use. -/
theorem barPay_both (c : Dev nD) : iprop(barPay (F := F) c false ∗ barPay c true) = bigSep lanes fun v =>
    iprop((∃ f, slotPts (nbr v.1 c) (org v.1 v.2.1.val c) v.2.2 fullShare f) ∗ reached ER (recvCell v (nbr v.1 c)) 0) := by
  rw [bigSep_filter_split lanes fun v => v.1 = false]
  unfold barPay
  rw [Finset.filter_congr (p := fun v : Lane => ¬ v.1 = false) (q := fun v => v.1 = true) fun v _ => by simp]
  rfl

omit [FloatOps F] in
/-- What a device pays to its neighbours' barriers: the bands the rows will arrive in. -/
theorem dues_pay (c : Dev nD) (f : XfC (F := F)) :
    iprop((bigSep lanes fun v => slotPts c (org v.1 (v.2.1.val + 1) c) v.2.2 fullShare f) ∗ bigSep lanes fun v => reached ER (recvCell v c) 0)
      ⊢ (iprop(barPay (nbr (!false) c) false ∗ barPay (nbr (!true) c) true) : sProp 𝕄) := by
  have key : ∀ d, barPay (F := F) (nbr (!d) c) d = bigSep (lanes.filter fun v => v.1 = d) fun v =>
      iprop((∃ f, slotPts c (org v.1 (v.2.1.val + 1) c) v.2.2 fullShare f) ∗ reached ER (recvCell v c) 0) := fun d => by
    unfold barPay
    refine bigSep_congr fun v hv => ?_
    obtain rfl := (Finset.mem_filter.1 hv).2
    rw [nbr_nbr', org_succ']
  rw [key, key, ← bigSep_sep', Finset.filter_congr (p := fun v : Lane => v.1 = true) (q := fun v => ¬ v.1 = false) fun v _ => by simp]
  refine BI.Entails.trans ?_ (Entails.of_eq (bigSep_filter_split lanes (fun v : Lane => v.1 = false)
    (Φ := fun v => (iprop((∃ f, slotPts c (org v.1 (v.2.1.val + 1) c) v.2.2 fullShare f) ∗ reached ER (recvCell v c) 0) : sProp 𝕄))))
  refine bigSep_mono fun v _ => ?_
  show (iprop(slotPts c (org v.1 (v.2.1.val + 1) c) v.2.2 fullShare f ∗ reached ER (recvCell v c) 0) : sProp 𝕄) ⊢ _
  iintro ⟨H, Hr⟩
  isplitl [H]; · iexists f; iexact H
  iexact Hr

/-! ## Before the first operation and after the last -/

section Ends

variable (X : Dev nD → XC (F := F)) (Wt : Dev nD → WC (F := F)) (pay ax aw : Dev nD → F .f32) (Kn : GSem nD τ sig → ℕ)

/-- What a lane's two cells on a device, and the cell its sends signal, hold for it at the launch. -/
def LaneRes (c : Dev nD) (v : Lane) : sProp 𝕄 :=
  iprop((dutyTok ER (recvCell v (nbr v.1 c)) 0 false ∗ dutyTok ER (sendCell v c) 0 false ∗ reached ER (sendCell v c) 0)
    ∗ atPos ER (sendCell v c) 0 ∅ 0 ∗ cred (tallyAt (recvCell v c) () N) ∗ atPos ER (recvCell v c) 0 ∅ 0)

/-- The tables, as the kernel finds and leaves them. -/
def Tbl (c : Dev nD) : sProp 𝕄 :=
  iprop((wLoc c ↦[Finset.univ]{fullShare} Wt c)
    ∗ ((c : Thread nD τ).loc cc0_stg6_0 ↦[Finset.univ]{fullShare} tab (F := F) false 0 c)
    ∗ ((c : Thread nD τ).loc cc0_stg7_0 ↦[Finset.univ]{fullShare} tab (F := F) false 1 c)
    ∗ ((c : Thread nD τ).loc cc0_stg8_0 ↦[Finset.univ]{fullShare} tab (F := F) true 0 c)
    ∗ ((c : Thread nD τ).loc cc0_stg9_0 ↦[Finset.univ]{fullShare} tab (F := F) true 1 c))

/-- Every operation is still to come. -/
def Full (l : List Op) : Prop := Tail l ∧ (∀ v ∈ lanes, send v ∈ l ∧ recv v ∈ l ∧ fin v ∈ l) ∧ ∀ o ∈ muls, mul o ∈ l

/-- The whole schedule is the schedule with everything still to come. -/
theorem full_ops : Full ops := ⟨List.suffix_refl _, all_in⟩

variable {l : List Op} (hl : Full l)
include hl

/-- At the start every lane in use is still to be sent. -/
theorem toSend_full : toSend l = lanes := Finset.filter_true_of_mem fun v hv => (hl.2.1 v hv).1

omit hl in
/-- The lane before a lane in use is in use. -/
theorem prev_mem {v : Lane} (hv : v ∈ lanes) (h : v.2.1.val ≠ 0) : prev v ∈ lanes := by
  have := prev_val h
  have := v.2.1.2
  exact (valid_iff _).2 (.inl (by omega))

/-- At the start the sources held are those of the first hop. -/
theorem src_start (c : Dev nD) : bigSep lanes (srcRes X c l) = bigSep (lanes.filter fun v => v.2.1.val = 0) fun v => bandPts c v.2.2 (qs v.1) (X c) := by
  rw [bigSep_filter]
  refine bigSep_congr fun v hv => ?_
  unfold srcRes Src
  by_cases h : v.2.1.val = 0
  · rw [if_pos ⟨.inl h, .inl (hl.2.1 v hv).1⟩, if_pos h, if_pos h]
  · rw [if_neg (fun hc => hc.1.elim h fun hn => hn (hl.2.1 _ (prev_mem hv h)).2.1), if_neg h]
    rfl

/-- A device's resources once its barrier wait is over make the state before its first operation. -/
theorem inv_start (Rm : sProp (MT nD τ sig Unit (Elt F) ℕ UU ℕ)) (c : Dev nD) :
    iprop(Scal ax aw c ∗ levAts L lv ∗ Recs X Kn ∗ (∃ W, owes (c : Thread nD τ) (owing c lanes) W) ∗ barPay c false ∗ barPay c true ∗ atPos ER (barCell c) (0 + 1) ∅ 0
      ∗ bigSep lanes (LaneRes (F := F) c) ∗ (xLoc c ↦[Finset.univ]{fullShare} X c) ∗ Tbl Wt c ∗ (∃ f, oLoc c ↦[Finset.univ]{fullShare} f) ∗ Rm)
      ⊢ Inv X Wt pay Kn iprop(Scal ax aw c ∗ atPos ER (barCell c) (0 + 1) ∅ 0 ∗ Rm) c l := by
  have hO : (iprop(∃ W, owes (c : Thread nD τ) (owing c lanes) W) : sProp 𝕄) = iprop(∃ W, owes (c : Thread nD τ) (owing c (toSend l)) W) := by rw [toSend_full hl]
  have hx := x_shares (F := F) c (X c)
  have hb := barPay_both (F := F) c
  have hs : bigSep lanes (sendRes (F := F) c l) = bigSep lanes fun v => iprop(Tok c v ∗ atPos ER (sendCell v c) 0 ∅ 0) :=
    bigSep_congr fun v hv => if_pos (hl.2.1 v hv).1
  have hr : bigSep lanes (recvRes X c l) = bigSep lanes fun v => iprop(cred (tallyAt (recvCell v c) () N) ∗ atPos ER (recvCell v c) 0 ∅ 0) :=
    bigSep_congr fun v hv => if_pos (hl.2.1 v hv).2.1
  have ho : bigSep muls (outRes X Wt pay c l) = bigSep muls fun g => iprop(∃ f, outPts (F := F) c (own c g) f) :=
    bigSep_congr fun g hg => if_pos (hl.2.2 g hg)
  have hln : iprop((bigSep lanes fun v => iprop((∃ f, slotPts (nbr v.1 c) (org v.1 v.2.1.val c) v.2.2 fullShare f) ∗ reached ER (recvCell v (nbr v.1 c)) 0))
        ∗ bigSep lanes (LaneRes (F := F) c))
      ⊢ (iprop((bigSep lanes fun v => iprop(Tok c v ∗ atPos ER (sendCell v c) 0 ∅ 0))
        ∗ bigSep lanes fun v => iprop(cred (tallyAt (recvCell v c) () N) ∗ atPos ER (recvCell v c) 0 ∅ 0)) : sProp 𝕄) := by
    rw [← bigSep_sep', ← bigSep_sep']
    refine bigSep_mono fun v _ => ?_
    unfold LaneRes Tok
    show (iprop(((∃ f, slotPts (nbr v.1 c) (org v.1 v.2.1.val c) v.2.2 fullShare f) ∗ reached ER (recvCell v (nbr v.1 c)) 0)
      ∗ (dutyTok ER (recvCell v (nbr v.1 c)) 0 false ∗ dutyTok ER (sendCell v c) 0 false ∗ reached ER (sendCell v c) 0)
      ∗ atPos ER (sendCell v c) 0 ∅ 0 ∗ cred (tallyAt (recvCell v c) () N) ∗ atPos ER (recvCell v c) 0 ∅ 0) : sProp 𝕄) ⊢ _
    iintro ⟨⟨Hf, Hr⟩, ⟨Hd, Hd', Hr'⟩, Ha, Hc, Ha'⟩
    isplitl [Hf Hr Hd Hd' Hr' Ha]
    · isplitl [Hf Hr Hd Hd' Hr']
      · isplitl [Hf]; · iexact Hf
        isplitl [Hd]; · iexact Hd
        isplitl [Hr]; · iexact Hr
        isplitl [Hd']; · iexact Hd'
        iexact Hr'
      iexact Ha
    isplitl [Hc]; · iexact Hc
    iexact Ha'
  have hout : ∀ f, (oLoc c ↦[Finset.univ]{fullShare} f : sProp 𝕄) ⊢ bigSep muls fun g => iprop(∃ f, outPts (F := F) c (own c g) f) := fun f => by
    rw [out_rows]; exact bigSep_mono fun g _ => exists_intro (Φ := fun f => outPts (F := F) c (own c g) f) f
  unfold Inv Tbl Tabs
  iintro ⟨HS, HL, HR, HO, HB, HB', HA, HLn, Hx, HT, ⟨%f, Ho⟩, HM⟩
  ihave Hx := (Entails.of_eq hx) $$ Hx
  icases Hx with ⟨Hx, Hbd⟩
  ihave Hout := (hout f) $$ Ho
  ihave Hb := (Entails.of_eq hb) $$ [HB HB']
  · isplitl [HB]; · iexact HB
    iexact HB'
  ihave H := hln $$ [Hb HLn]
  · isplitl [Hb]; · iexact Hb
    iexact HLn
  icases H with ⟨Hs, Hr⟩
  isplitr; · ipureintro; exact hl.1
  isplitl [HL]; · iexact HL
  isplitl [HR]; · iexact HR
  isplitl [HO]; · iapply (Entails.of_eq hO); iexact HO
  isplitl [Hs]; · iapply (Entails.of_eq hs.symm); iexact Hs
  isplitl [Hbd]; · iapply (Entails.of_eq (src_start X hl c).symm); iexact Hbd
  isplitl [Hr]; · iapply (Entails.of_eq hr.symm); iexact Hr
  isplitl [Hout]; · iapply (Entails.of_eq ho.symm); iexact Hout
  isplitl [Hx HT]
  · isplitl [Hx]; · iexact Hx
    iexact HT
  isplitl [HS]; · iexact HS
  isplitl [HA]; · iexact HA
  iexact HM

omit hl in
/-- The lanes after the first hop are those that follow another lane. -/
theorem next_lanes : (lanes.filter fun v => ¬ v.2.1.val = 0) = (lanes.filter hasNext).image next := by decide +kernel

omit hl in
/-- The right halves of all delivered bands: those sent on came back, the others were kept. -/
theorem rights (c : Dev nD) : iprop(bigSep lanes (srcRes X c []) ∗ bigSep lanes (restRes X c))
    ⊢ (iprop((bigSep (lanes.filter fun v => v.2.1.val = 0) fun v => bandPts c v.2.2 (qs v.1) (X c))
      ∗ bigSep lanes fun v => slotPts c (org v.1 (v.2.1.val + 1) c) v.2.2 fullShare.right (XG X)) : sProp 𝕄) := by
  have e1 : bigSep lanes (srcRes X c []) = bigSep lanes (Src X c) :=
    bigSep_congr fun v _ => if_pos ⟨.inr (by simp), .inr (by simp)⟩
  have e2 : bigSep (lanes.filter fun v => v.2.1.val = 0) (Src X c) = bigSep (lanes.filter fun v => v.2.1.val = 0) fun v => bandPts c v.2.2 (qs v.1) (X c) :=
    bigSep_congr fun v hv => if_pos (Finset.mem_filter.1 hv).2
  have e3 : bigSep (lanes.filter fun v => ¬ v.2.1.val = 0) (Src X c) = bigSep (lanes.filter hasNext) fun v => slotPts c (org v.1 (v.2.1.val + 1) c) v.2.2 fullShare.right (XG X) := by
    rw [next_lanes, bigSep_image_of_injOn fun a _ b _ h => by rw [← prev_next a, ← prev_next b, h]]
    refine bigSep_congr fun v hv => ?_
    have hn := next_val (Finset.mem_filter.1 hv).2.1
    unfold Src
    rw [if_neg (by rw [hn]; omega), hn]
    rfl
  have e4 : bigSep lanes (restRes X c) = bigSep (lanes.filter fun v => ¬ hasNext v) fun v => slotPts c (org v.1 (v.2.1.val + 1) c) v.2.2 fullShare.right (XG X) := by
    rw [bigSep_filter]
    refine bigSep_congr fun v _ => ?_
    unfold restRes
    by_cases h : hasNext v
    · rw [if_pos h, if_neg (not_not_intro h)]; rfl
    · rw [if_neg h, if_pos h]
  rw [e1, e4, bigSep_filter_split lanes (fun v => v.2.1.val = 0) (Φ := Src X c), e2, e3,
    bigSep_filter_split lanes hasNext (Φ := fun v => slotPts c (org v.1 (v.2.1.val + 1) c) v.2.2 fullShare.right (XG X))]
  exact sep_assoc.1

omit hl in
/-- The state after the last operation is what the device leaves the kernel with. -/
theorem inv_end (Rm : sProp (MT nD τ sig Unit (Elt F) ℕ UU ℕ)) (c : Dev nD) :
    Inv X Wt pay Kn iprop(Scal ax aw c ∗ atPos ER (barCell c) (0 + 1) ∅ 0 ∗ Rm) c []
      ⊢ iprop(Scal ax aw c ∗ Recs X Kn ∗ (∃ W, owes (c : Thread nD τ) 0 W) ∗ atPos ER (barCell c) (0 + 1) ∅ 0
        ∗ ((bigSep lanes fun v => atPos ER (sendCell v c) (0 + 1) ∅ 0) ∗ bigSep lanes fun v => atPos ER (recvCell v c) (0 + 1) ∅ 0)
        ∗ (xLoc c ↦[Finset.univ]{fullShare} X c) ∗ Tbl Wt c ∗ (oLoc c ↦[Finset.univ]{fullShare} YG (Pr X Wt pay c))
        ∗ (bigSep lanes fun v => slotPts c (org v.1 (v.2.1.val + 1) c) v.2.2 fullShare (XG X)) ∗ Rm) := by
  have hO : owing c (toSend []) = 0 := by
    unfold owing toSend; rw [Finset.filter_false_of_mem fun v _ => by simp, Finset.sum_empty]
  have hs : bigSep lanes (sendRes (F := F) c []) = bigSep lanes fun v => atPos ER (sendCell v c) (0 + 1) ∅ 0 :=
    bigSep_congr fun v _ => (if_neg (by simp)).trans (if_neg (by simp))
  have hn : ∀ v, recvRes X c [] v = iprop(atPos ER (recvCell v c) (0 + 1) ∅ 0 ∗ slotPts c (org v.1 (v.2.1.val + 1) c) v.2.2 fullShare.left (XG X)
      ∗ restRes X c v) := fun v => if_neg List.not_mem_nil
  have hr : bigSep lanes (recvRes X c []) = iprop((bigSep lanes fun v => atPos ER (recvCell v c) (0 + 1) ∅ 0)
      ∗ (bigSep lanes fun v => slotPts c (org v.1 (v.2.1.val + 1) c) v.2.2 fullShare.left (XG X)) ∗ bigSep lanes (restRes X c)) := by
    rw [bigSep_congr (Ψ := fun v => iprop(atPos ER (recvCell v c) (0 + 1) ∅ 0 ∗ slotPts c (org v.1 (v.2.1.val + 1) c) v.2.2 fullShare.left (XG X)
      ∗ restRes X c v)) fun v _ => hn v, bigSep_sep', bigSep_sep']
  have ho : bigSep muls (outRes X Wt pay c []) = (oLoc c ↦[Finset.univ]{fullShare} YG (Pr X Wt pay c)) := by
    rw [out_rows]; exact bigSep_congr fun g _ => if_neg (by simp)
  have hj : (iprop((bigSep lanes fun v => slotPts c (org v.1 (v.2.1.val + 1) c) v.2.2 fullShare.left (XG X))
      ∗ bigSep lanes fun v => slotPts c (org v.1 (v.2.1.val + 1) c) v.2.2 fullShare.right (XG X)) : sProp 𝕄)
      ⊢ bigSep lanes fun v => slotPts c (org v.1 (v.2.1.val + 1) c) v.2.2 fullShare (XG X) := by
    rw [← got_slots, ← got_slots, ← got_slots]
    exact (pointsTo_share (PosShare.mem_left_op_right fullShare)).2
  unfold Inv
  rw [hO, hs, hr, ho, x_shares]
  unfold Tbl Tabs
  show (iprop(⌜Tail []⌝ ∗ levAts L lv ∗ Recs X Kn ∗ (∃ W, owes (c : Thread nD τ) 0 W)
    ∗ (bigSep lanes fun v => atPos ER (sendCell v c) (0 + 1) ∅ 0) ∗ bigSep lanes (srcRes X c []) ∗ ((bigSep lanes fun v => atPos ER (recvCell v c) (0 + 1) ∅ 0)
      ∗ (bigSep lanes fun v => slotPts c (org v.1 (v.2.1.val + 1) c) v.2.2 fullShare.left (XG X)) ∗ bigSep lanes (restRes X c))
    ∗ (oLoc c ↦[Finset.univ]{fullShare} YG (Pr X Wt pay c))
    ∗ ((xLoc c ↦[Finset.univ]{fullShare.left} X c) ∗ (wLoc c ↦[Finset.univ]{fullShare} Wt c)
    ∗ ((c : Thread nD τ).loc cc0_stg6_0 ↦[Finset.univ]{fullShare} tab (F := F) false 0 c)
    ∗ ((c : Thread nD τ).loc cc0_stg7_0 ↦[Finset.univ]{fullShare} tab (F := F) false 1 c)
    ∗ ((c : Thread nD τ).loc cc0_stg8_0 ↦[Finset.univ]{fullShare} tab (F := F) true 0 c)
    ∗ ((c : Thread nD τ).loc cc0_stg9_0 ↦[Finset.univ]{fullShare} tab (F := F) true 1 c)) ∗ (Scal ax aw c ∗ atPos ER (barCell c) (0 + 1) ∅ 0 ∗ Rm)) : sProp 𝕄) ⊢ _
  iintro ⟨-, -, HR, HO, Hs, Hsrc, ⟨Hr, Hl, Hrest⟩, Hout, ⟨Hx, HT⟩, HS, HA, HM⟩
  ihave H := (rights X c) $$ [Hsrc Hrest]
  · isplitl [Hsrc]; · iexact Hsrc
    iexact Hrest
  icases H with ⟨Hbd, Hrt⟩
  ihave Hj := hj $$ [Hl Hrt]
  · isplitl [Hl]; · iexact Hl
    iexact Hrt
  isplitl [HS]; · iexact HS
  isplitl [HR]; · iexact HR
  isplitl [HO]; · iexact HO
  isplitl [HA]; · iexact HA
  isplitl [Hs Hr]
  · isplitl [Hs]; · iexact Hs
    iexact Hr
  isplitl [Hx Hbd]
  · isplitl [Hx]; · iexact Hx
    iexact Hbd
  isplitl [HT]; · iexact HT
  isplitl [Hout]; · iexact Hout
  isplitl [Hj]; · iexact Hj
  iexact HM

end Ends

end Cert.KernelIdeal.Ring

end
-- ==== Proof.IdealRun.lean ====
/- The kernel's body, statement by statement: its operations run in the order of the schedule, from the barrier to the last wait.
   The same for the program read over the extended reals. -/
module

public import proofs.«01_k».proof.Proof.IdealStart
public import Idealize.ShloMosaic.Lib.Pipeline.Value

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Order.Op (send recv mul fin)

variable {F : FTy → Type} [FloatOps F]

local notation "𝕄" => MT nD τ sig Unit (Elt F) ℕ UU ℕ

section Run

variable {X : Dev nD → XC (F := F)} {Wt : Dev nD → WC (F := F)} {pay ax aw : Dev nD → F .f32} {Kn : GSem nD τ sig → ℕ} {c : Dev nD} {Rm Rm' : sProp (MT nD τ sig Unit (Elt F) ℕ UU ℕ)}

local notation "𝕀" => Inv X Wt (fun c => Scalar.mulf (ax c) (aw c)) Kn Rm

/-- The kernel's body, on the buffers it is given. -/
abbrev bodyM (F : FTy → Type) [FloatOps F] := cc0_body (F := F) xM (Memref.isWhole_whole _) wM (Memref.isWhole_whole _) (Memref.whole cc0_stg2_0) (Memref.isWhole_whole _) (Memref.whole cc0_stg3_0) (Memref.isWhole_whole _)
  (Memref.whole cc0_stg4_0) (Memref.isWhole_whole _) (Memref.whole cc0_stg5_0) (Memref.isWhole_whole _) (Memref.whole cc0_stg6_0) (Memref.isWhole_whole _) (Memref.whole cc0_stg7_0) (Memref.isWhole_whole _)
  (Memref.whole cc0_stg8_0) (Memref.isWhole_whole _) (Memref.whole cc0_stg9_0) (Memref.isWhole_whole _) oM (Memref.isWhole_whole _) xfM (Memref.isWhole_whole _) cc0_scratch1 cc0_scratch2 cc0_scratch3 cc0_scratch4

/-- The device named by the table of successors exists, -/
theorem chk2_all : k0_chk2 (wd (nbr false c)) := by
  have h : devW (wd (nbr false c)) < nD := devChk _
  unfold k0_chk2
  repeat' refine And.intro ?_ ?_
  all_goals exact h
/-- and so does the one named by the table of predecessors. -/
theorem chk1_all : k0_chk1 (wd (nbr true c)) := by
  have h : devW (wd (nbr true c)) < nD := devChk _
  unfold k0_chk1
  repeat' refine And.intro ?_ ?_
  all_goals exact h

/-- A last statement, with what follows it made plain. -/
theorem do_last {α : Type} {Q : α → sProp 𝕄} {I : sProp 𝕄} {p : Prog (TpuEff nD τ sig (Elt F) Λ₀ .tc) α}
    (h : I ⊢ WP c (p >>= pure) Q) : I ⊢ WP c p Q := by
  rw [← Prog.bind_pure p]
  exact h

/-- The device's own product is one of the products. -/
theorem none_mem : none ∈ muls := by decide
/-- The device's own product, as its store has it. -/
theorem own_pay {p : F .f32} {x : XC (F := F)} {w : WC (F := F)} : k0_pay3 p (k0_pay2 x) w = k0_pay4 p x w :=
  congrArg (fun y => k0_pay4 p y w) (shapeCast_self ..)

set_option backward.isDefEq.respectTransparency false in
set_option maxHeartbeats 0 in
/-- The body from its start: the state after the barrier leads through every operation to the state with none left. -/
theorem run_body {Q : PUnit → sProp 𝕄}
    (hI : iprop(Scal ax aw c ∗ levAts L lv ∗ Recs X Kn ∗ (∃ W, owes (c : Thread nD τ) (owing c lanes) W) ∗ barPay (F := F) c false ∗ barPay (F := F) c true ∗ atPos ER (barCell c) (0 + 1) ∅ 0 ∗ Rm') ⊢ 𝕀 c ops)
    (hQ : 𝕀 c [] ⊢ Q ⟨⟩) :
    Pre X Kn ax aw c (owing c lanes + tallyAt (barCell (nbr (!true) c)) () 1 + tallyAt (barCell (nbr (!false) c)) () 1) iprop(Due (F := F) c false ∗ Due (F := F) c true ∗ emp) Rm' ⊢ WP c (bodyM F) Q := by
  refine step_bind (F := F) ?_
  refine step_bind (F := F) ?_
  refine step_bind (F := F) ?_
  with_reducible refine step_unbind (F := F) ?_
  with_reducible refine do_dev (F := F) ?_
  with_reducible refine do_succ (F := F) ?_
  with_reducible refine do_assume (F := F) chk2_all ?_
  with_reducible refine do_pred (F := F) ?_
  with_reducible refine do_assume (F := F) chk1_all ?_
  with_reducible refine do_sx (F := F) ?_
  with_reducible refine do_sw (F := F) ?_
  refine step_signal (F := F) false (devW_wd _) rfl ?_
  refine step_signal (F := F) true (devW_wd _) rfl ?_
  refine step_barrier (F := F) rfl hI ?_
  with_reducible refine do_fs (F := F) ?_
  with_reducible refine do_assume (F := F) ?_ ?_
  · exact chkS _ _ (by decide)
  refine do_send0 (F := F) rfl (devW_wd _) (slotOff_wd _ _ (by decide)) rfl rfl rfl ?_
  with_reducible refine do_fs (F := F) ?_
  with_reducible refine do_pure (F := F) ?_
  repeat (first
    | with_reducible refine do_fs (F := F) ?_ | with_reducible refine do_fr (F := F) ?_ | with_reducible refine do_rs (F := F) ?_ | with_reducible refine do_rr (F := F) ?_
    | (with_reducible refine do_assume (F := F) ?_ ?_
       · first | exact chkS _ _ (by decide) | exact chkR _ | exact chkO _)
    | (with_reducible refine do_send0 (F := F) ?_ ?_ ?_ ?_ ?_ ?_ ?_
       · rfl
       · exact devW_wd _
       · exact slotOff_wd _ _ (by decide)
       · rfl
       · rfl
       · rfl)
    | (with_reducible refine do_recv (F := F) ?_ ?_ ?_
       · rfl
       · rfl)
    | (with_reducible refine do_send (F := F) ?_ ?_ ?_ ?_ ?_ ?_ ?_
       · decide
       · exact devW_wd _
       · exact slotOff_wd _ _ (by decide)
       · exact slotOff_wd _ _ (by decide)
       · rfl
       · rfl)
    | (with_reducible refine do_rows (F := F) ?_ ?_
       · exact rowOff_wd _)
    | (with_reducible refine do_dead (F := F) (g := some _) ?_ ?_ fun _ => ?_
       · exact (muls_iff _ _).2 (by decide)
       · exact rowOff_wd _)
    | (with_reducible refine do_store (F := F) (g := some _) ?_ ?_ ?_ ?_
       · exact (muls_iff _ _).2 (by decide)
       · exact rowOff_wd _
       · rfl)
    | (with_reducible refine do_dead (F := F) (g := none) ?_ ?_ fun _ => ?_
       · exact none_mem
       · exact k0_off9_eq _)
    | (with_reducible refine do_store (F := F) (g := none) ?_ ?_ ?_ ?_
       · exact none_mem
       · exact k0_off9_eq _
       · exact own_pay)
    | with_reducible refine do_w (F := F) ?_
    | with_reducible refine do_x (F := F) ?_
    | (with_reducible refine do_fin (F := F) ?_ ?_ ?_
       · rfl
       · rfl)
    | with_reducible refine do_pure (F := F) ?_
    | (with_reducible refine step_bind (F := F) ?_
       refine step_bind (F := F) ?_
       with_reducible refine step_unbind (F := F) ?_)
    | (with_reducible refine do_last (F := F) ?_
       first
         | with_reducible refine do_fs (F := F) ?_ | with_reducible refine do_fr (F := F) ?_
         | with_reducible refine do_rs (F := F) ?_ | with_reducible refine do_rr (F := F) ?_))
  exact hQ

end Run

end Cert.KernelIdeal.Ring
-- ==== Proof.IdealHost.lean ====
/- What the host operations before the kernel leave in its small operands: the neighbours of the device and the four
   tables of origins.
   The same for the program read over the extended reals. -/
module

public import proofs.«01_k».proof.Proof.IdealState
public import proofs.«01_k».proof.Proof.Gen.KernelIdeal.Regions
public import Idealize.ShloMosaic.Lib.StableHlo.RunRead

@[expose] public section

noncomputable section

namespace Cert.KernelIdeal.Ring

open Cert.KernelIdeal Cert.KernelIdeal.Gen Cert.Order
open Idealize.ShloMosaic Idealize.ShloMosaic.TcCoe Idealize.ShloMosaic.StableHlo

variable {F : FTy → Type} [FloatOps F]
variable (m : (ℓ : Loc nD τ sig) → Buf (Elt F) ℓ)

/-- An array of one element has one index. -/
theorem one_idx (i : S1.Idx) : i = ValueIdx.ix1 (0 : Fin 1) := by
  funext a; match a with | ⟨0, _⟩ => exact Subsingleton.elim (α := Fin 1) _ _
/-- An index of an array of sixteen is one of sixteen numbers. -/
theorem sixteen_idx (i : S16.Idx) : ∃ k : Fin 16, i = ValueIdx.ix1 k :=
  ⟨i (0 : Fin 1), by funext a; match a with | ⟨0, _⟩ => rfl⟩

/-- The device's place on the mesh, as the program computes it. -/
def place (c : Dev nD) : IVec S_ 32 := Host.remui (Host.divui (constantI S_ 32 (Dev.word c)) (constantI S_ 32 1#32)) (constantI S_ 32 32#32)
/-- A negative place counts from the end. -/
def wrapped (w : IVec S_ 32) : IVec S1 32 :=
  broadcastInDim S1 ![] bcast_S_S1 (select (cmpi .slt w (constantI S_ 32 0#32)) (addi w (constantI S_ 32 32#32)) w)
/-- Whether a place is on the mesh. -/
def inside (w : IVec S_ 32) : IVec S_ 1 :=
  Host.reduce IntOp.andi (andi (cmpi .sge (wrapped w) (broadcastInDim S1 ![] bcast_S_S1 (constantI S_ 32 0#32))) (cmpi .sle (wrapped w) (constantI S1 32 31#32)))
    (constantI S_ 1 1#1) reducesTo_S1_S_d0 h_S_
/-- The entry of a list at a place. -/
def pick (w : IVec S_ 32) (t : IVec S32 32) : IVec S_ 32 :=
  select (inside w) (Host.gather gather_S32_S1_S__n_0_n_n_0_0_1 t (wrapped w)) (constantI S_ 32 2147483648#32)
/-- The row of a table at a place. -/
def pickRow (w : IVec S_ 32) (t : IVec S32x16 32) : IVec S16 32 :=
  select (broadcastInDim S16 ![] bcast_S_S16 (inside w)) (Host.gather gather_S32x16_S1_S16_0_0_n_n_0_0_116 t (wrapped w))
    (broadcastInDim S16 ![] bcast_S_S16 (constantI S_ 32 2147483648#32))

/-- The one element of an array with no axis. -/
theorem no_idx (i : S_.Idx) : i = fun a => a.elim0 := funext fun a => a.elim0

/-- The host computes the number of the neighbour in the first direction. -/
theorem v5_eq (c : Dev nD) : V2 m c main_v5 = fun _ => wd (nbr false c) := by
  after_reads_simp
  simp only [TRef.ofBuf_toBuf]
  refine (show _ = pick (place c) (fun i => lit0 (S32.rowMajor i)) from rfl).trans ?_
  have : ∀ c : Fin 32, pick (place c) (fun i => lit0 (S32.rowMajor i)) (fun a => a.elim0) = wd (nbr false c) := by decide +kernel
  funext i
  obtain rfl := no_idx i
  exact this c
/-- The host computes the number of the neighbour in the second direction. -/
theorem v7_eq (c : Dev nD) : V4 m c main_v7 = fun _ => wd (nbr true c) := by
  after_reads_simp
  refine (show _ = pick (place c) (fun i => lit1 (S32.rowMajor i)) from by sl_kernel_rfl).trans ?_
  have : ∀ c : Fin 32, pick (place c) (fun i => lit1 (S32.rowMajor i)) (fun a => a.elim0) = wd (nbr true c) := by decide +kernel
  funext i
  obtain rfl := no_idx i
  exact this c

/-- The neighbour forwards. -/
theorem v6_eq (c : Dev nD) : V9 m c main_v6 = fun _ => wd (nbr false c) := by
  rw [V9_of m c main_v6 (by decide), V8_of m c main_v6 (by decide), V7_of m c main_v6 (by decide), V6_of m c main_v6 (by decide),
    V5_of m c main_v6 (by decide), V4_of m c main_v6 (by decide)]
  refine (reshape_result main_v5 main_v6 rfl shapeCasts_S_S1 ⟨by decide, rfl⟩ ⟨by decide, rfl⟩ (V2 m c)).trans ?_
  rw [v5_eq]
  rfl
/-- The neighbour backwards. -/
theorem v8_eq (c : Dev nD) : V9 m c main_v8 = fun _ => wd (nbr true c) := by
  rw [V9_of m c main_v8 (by decide), V8_of m c main_v8 (by decide), V7_of m c main_v8 (by decide), V6_of m c main_v8 (by decide)]
  refine (reshape_result main_v7 main_v8 rfl shapeCasts_S_S1 ⟨by decide, rfl⟩ ⟨by decide, rfl⟩ (V4 m c)).trans ?_
  rw [v7_eq]
  rfl

/-- A table's row, from the list it was written down as. -/
theorem row_eq {T : IVec S32x16 32} {d : Bool} {k : ℕ} (h : ∀ (c : Fin 32) (i : Fin 16), pickRow (place c) T (ValueIdx.ix1 i) = wd (org d (i.val + k) c)) (c : Dev nD) :
    pickRow (place c) T = tab (F := F) d k c := by
  funext i
  obtain ⟨i, rfl⟩ := sixteen_idx i
  exact h c i

/-- What moves forwards at each hop. -/
theorem v9_eq (c : Dev nD) : V9 m c main_v9 = tab (F := F) false 0 c := by
  after_reads_simp
  exact (show _ = pickRow (place c) (fun i => lit2 (S32x16.rowMajor i)) from rfl).trans (row_eq (by decide +kernel) c)
/-- What arrives forwards at each hop. -/
theorem v10_eq (c : Dev nD) : V9 m c main_v10 = tab (F := F) false 1 c := by
  after_reads_simp
  exact (show _ = pickRow (place c) (fun i => lit3 (S32x16.rowMajor i)) from rfl).trans (row_eq (by decide +kernel) c)
/-- What moves backwards at each hop. -/
theorem v11_eq (c : Dev nD) : V9 m c main_v11 = tab (F := F) true 0 c := by
  after_reads_simp
  exact (show _ = pickRow (place c) (fun i => lit4 (S32x16.rowMajor i)) from rfl).trans (row_eq (by decide +kernel) c)
/-- What arrives backwards at each hop. -/
theorem v12_eq (c : Dev nD) : V9 m c main_v12 = tab (F := F) true 1 c := by
  after_reads_simp
  exact (show _ = pickRow (place c) (fun i => lit5 (S32x16.rowMajor i)) from rfl).trans (row_eq (by decide +kernel) c)

/-- The kernel finds the arguments as launched. -/
theorem V9_arg (c : Dev nD) (r : Ref sig .tc) (h : r ∈ [main_arg0, main_arg1, main_arg2, main_arg3]) : V9 m c r = m ((c : Thread nD τ).loc r) := by
  simp only [List.mem_cons, List.not_mem_nil, or_false] at h
  rcases h with rfl | rfl | rfl | rfl <;>
  exact (V9_of m c _ (by decide)).trans <| (V8_of m c _ (by decide)).trans <| (V7_of m c _ (by decide)).trans <| (V6_of m c _ (by decide)).trans <|
    (V5_of m c _ (by decide)).trans <| (V4_of m c _ (by decide)).trans <| (V3_of m c _ (by decide)).trans <| (V2_of m c _ (by decide)).trans (V1_of m c _ (by decide))

end Cert.KernelIdeal.Ring

end
-- ==== Proof.IdealEnter.lean ====
/- How a device enters the kernel with its share of the launch's ghost state, and leaves it with every counter at zero.
   The same for the program read over the extended reals. -/
module

public import proofs.«01_k».proof.Proof.IdealEnds
public import proofs.«01_k».proof.Proof.IdealRun
public import proofs.«01_k».proof.Proof.IdealHost

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters the kernel uses -/

/-- The counters of the lanes. -/
def osem (p : Bool × Lane) : SemLoc sig := .dma (semIx p.1 p.2)
/-- The lanes nothing is sent on. -/
def idle : Finset Lane := Finset.univ \ lanes

omit [FloatOps F] in
/-- All cells of a device: those of lanes in use and of the others, of senders and of receivers. -/
theorem all_cells (Φ : Bool × Lane → sProp 𝕄) : bigSep Finset.univ Φ
    = iprop(((bigSep lanes fun v => Φ (false, v)) ∗ bigSep idle fun v => Φ (false, v)) ∗ (bigSep lanes fun v => Φ (true, v)) ∗ bigSep idle fun v => Φ (true, v)) := by
  have h : ∀ Ψ : Lane → sProp 𝕄, bigSep Finset.univ Ψ = iprop(bigSep lanes Ψ ∗ bigSep idle Ψ) := fun Ψ => bigSep_sdiff_split (Finset.subset_univ _)
  rw [bigSep_univ_prod, bigSep_univ_eq_bigSepL [false, true] (by decide) (by decide), bigSepL_cons_cons, bigSepL_singleton, h, h]
  rfl

/-- The last update may come after the program. -/
theorem wp_done {c : Dev nD} {p : Prog (TpuEff nD τ sig (Elt F) Λ₀ .tc) PUnit} {I R : sProp 𝕄}
    (h : I ⊢ WP c p fun _ => iprop(|={Set.univ}=> R)) : I ⊢ WP c p fun _ => R :=
  h.trans (wp_fupd _ _ _ _ _)

section Enter

variable (X : Dev nD → XC (F := F)) (Wt : Dev nD → WC (F := F)) (ax aw : Dev nD → F .f32) (Kn : GSem nD τ sig → ℕ)

/-- What a device is dealt at the launch, beside its lanes. -/
def Deal (c : Dev nD) : sProp 𝕄 :=
  iprop(Recs X Kn ∗ (reached ER (barCell (nbr (!false) c)) 0 ∗ reached ER (barCell (nbr (!true) c)) 0)
    ∗ (dutyTok ER (barCell (nbr (!false) c)) 0 false ∗ dutyTok ER (barCell (nbr (!true) c)) 0 true)
    ∗ cred (tallyAt (barCell c) () 2) ∗ atPos ER (barCell c) 0 ∅ 0)
/-- What it is dealt for a lane. -/
def LaneDeal (c : Dev nD) (v : Lane) : sProp 𝕄 :=
  iprop((dutyTok ER (recvCell v (nbr v.1 c)) 0 false ∗ dutyTok ER (sendCell v c) 0 false) ∗ cred (tallyAt (recvCell v c) () N))
/-- A device's ghost state from the launch to the kernel's entry. -/
def Ghost (c : Dev nD) : sProp 𝕄 :=
  iprop(Deal X Kn c ∗ bigSep lanes (LaneDeal (F := F) c) ∗ bigSep Finset.univ fun p : Bool × Lane => openTok ER (cell p.1 p.2 c))
/-- The positions at the cells of the lanes not in use. -/
def Idle (c : Dev nD) : sProp 𝕄 :=
  iprop((bigSep idle fun v => atPos ER (sendCell v c) 0 ∅ 0) ∗ bigSep idle fun v => atPos ER (recvCell v c) 0 ∅ 0)
/-- The same once its cells are open. -/
def Opened (c : Dev nD) : sProp 𝕄 :=
  iprop(Deal X Kn c ∗ bigSep lanes (LaneRes (F := F) c) ∗ (bigSep lanes fun v => reached ER (recvCell v c) 0) ∗ Idle c)

/-- The invariants of the semaphores of a device are opened from what it is given at the launch. -/
theorem ghost_open (c : Dev nD) : iprop(Ghost X Kn c ∗ Pipeline.ownSems0 osem c) ⊢ (|={Set.univ}=> Opened X Kn c : sProp 𝕄) := by
  have h1 : iprop(Recs X Kn ∗ bigSep Finset.univ fun p : Bool × Lane => openTok ER (cell p.1 p.2 c))
      ⊢ (bigSep Finset.univ fun p : Bool × Lane => iprop(cellInv ER (rd X) (Kn (cell p.1 p.2 c)) (cell p.1 p.2 c) ∗ openTok ER (cell p.1 p.2 c)) : sProp 𝕄) :=
    bigSep_with_persistent (R := Recs X Kn) fun p _ => by
      iintro ⟨HR, Ho⟩
      isplitl [HR]; · iapply (Recs_cell X Kn p.1 p.2 c); iexact HR
      iexact Ho
  have h2 := Rounds.cells_open ER (rd X) (Finset.univ : Finset (Bool × Lane)) (fun p => cell p.1 p.2 c) (fun p => Kn (cell p.1 p.2 c)) (Es := Set.univ) fun _ _ => Set.mem_univ _
  have h3 : (bigSep Finset.univ fun p : Bool × Lane => iprop(atPos ER (cell p.1 p.2 c) 0 ∅ 0 ∗ reached ER (cell p.1 p.2 c) 0))
      ⊢ (iprop((bigSep lanes fun v => iprop(atPos ER (sendCell v c) 0 ∅ 0 ∗ reached ER (sendCell v c) 0 ∗ atPos ER (recvCell v c) 0 ∅ 0))
        ∗ (bigSep lanes fun v => reached ER (recvCell v c) 0) ∗ Idle c) : sProp 𝕄) := by
    rw [all_cells, bigSep_sep', bigSep_sep', bigSep_sep', bigSep_sep', bigSep_sep', bigSep_sep']
    unfold Idle
    show (iprop((((bigSep lanes fun v => atPos ER (sendCell v c) 0 ∅ 0) ∗ bigSep lanes fun v => reached ER (sendCell v c) 0)
        ∗ (bigSep idle fun v => atPos ER (sendCell v c) 0 ∅ 0) ∗ bigSep idle fun v => reached ER (sendCell v c) 0)
      ∗ ((bigSep lanes fun v => atPos ER (recvCell v c) 0 ∅ 0) ∗ bigSep lanes fun v => reached ER (recvCell v c) 0)
        ∗ (bigSep idle fun v => atPos ER (recvCell v c) 0 ∅ 0) ∗ bigSep idle fun v => reached ER (recvCell v c) 0) : sProp 𝕄) ⊢ _
    iintro ⟨⟨⟨Ha, Hb⟩, Hc, -⟩, ⟨Hd, He⟩, Hf, -⟩
    isplitl [Ha Hb Hd]
    · isplitl [Ha]; · iexact Ha
      isplitl [Hb]; · iexact Hb
      iexact Hd
    isplitl [He]; · iexact He
    isplitl [Hc]; · iexact Hc
    iexact Hf
  have h4 : iprop(bigSep lanes (LaneDeal (F := F) c) ∗ bigSep lanes fun v => iprop(atPos ER (sendCell v c) 0 ∅ 0 ∗ reached ER (sendCell v c) 0 ∗ atPos ER (recvCell v c) 0 ∅ 0))
      ⊢ (bigSep lanes (LaneRes (F := F) c) : sProp 𝕄) := by
    rw [← bigSep_sep']
    refine bigSep_mono fun v _ => ?_
    unfold LaneDeal LaneRes
    show (iprop(((dutyTok ER (recvCell v (nbr v.1 c)) 0 false ∗ dutyTok ER (sendCell v c) 0 false) ∗ cred (tallyAt (recvCell v c) () N))
      ∗ atPos ER (sendCell v c) 0 ∅ 0 ∗ reached ER (sendCell v c) 0 ∗ atPos ER (recvCell v c) 0 ∅ 0) : sProp 𝕄) ⊢ _
    iintro ⟨⟨⟨Hd, Hd'⟩, Hc⟩, Ha, Hr, Ha'⟩
    isplitl [Hd Hd' Hr]
    · isplitl [Hd]; · iexact Hd
      isplitl [Hd']; · iexact Hd'
      iexact Hr
    isplitl [Ha]; · iexact Ha
    isplitl [Hc]; · iexact Hc
    iexact Ha'
  unfold Ghost Opened Deal Pipeline.ownSems0 osem
  iintro ⟨⟨⟨#HR, HD⟩, HLn, Ho⟩, Hs⟩
  ihave Hi := h1 $$ [Ho]
  · isplitr; · iexact HR
    iexact Ho
  imod h2 $$ [Hi Hs] with H
  · isplitl [Hi]; · iexact Hi
    iexact Hs
  ihave H' := h3 $$ H
  icases H' with ⟨H, Hr, HI⟩
  ihave Hln := h4 $$ [HLn H]
  · isplitl [HLn]; · iexact HLn
    iexact H
  imodintro
  isplitl [HD]
  · isplitr; · iexact HR
    iexact HD
  isplitl [Hln]; · iexact Hln
  isplitl [Hr]; · iexact Hr
  iexact HI

/-- The round a cell's owner is at when the kernel ends. -/
def lastRound (p : Bool × Lane) : ℕ := if p.2 ∈ lanes then 0 + 1 else 0

/-- Every counter is at zero once the kernel is done. -/
theorem ghost_close (c : Dev nD) :
    iprop(Recs X Kn ∗ atPos ER (barCell c) (0 + 1) ∅ 0
        ∗ ((bigSep lanes fun v => atPos ER (sendCell v c) (0 + 1) ∅ 0) ∗ bigSep lanes fun v => atPos ER (recvCell v c) (0 + 1) ∅ 0) ∗ Idle c)
      ⊢ (|={Set.univ}=> iprop(semVal (barCell c) 0 ∗ Pipeline.ownSems0 osem c) : sProp 𝕄) := by
  have h1 : iprop(((bigSep lanes fun v => atPos ER (sendCell v c) (0 + 1) ∅ 0) ∗ bigSep lanes fun v => atPos ER (recvCell v c) (0 + 1) ∅ 0) ∗ Idle c)
      ⊢ (bigSep Finset.univ fun p : Bool × Lane => atPos ER (cell p.1 p.2 c) (lastRound p) ∅ 0 : sProp 𝕄) := by
    have e1 : ∀ b : Bool, (bigSep lanes fun v => (atPos ER (cell b v c) (lastRound (b, v)) ∅ 0 : sProp 𝕄)) = bigSep lanes fun v => atPos ER (cell b v c) (0 + 1) ∅ 0 :=
      fun b => bigSep_congr fun v hv => by rw [show lastRound (b, v) = 0 + 1 from if_pos hv]
    have e2 : ∀ b : Bool, (bigSep idle fun v => (atPos ER (cell b v c) (lastRound (b, v)) ∅ 0 : sProp 𝕄)) = bigSep idle fun v => atPos ER (cell b v c) 0 ∅ 0 :=
      fun b => bigSep_congr fun v hv => by rw [show lastRound (b, v) = 0 from if_neg (Finset.mem_sdiff.1 hv).2]
    rw [all_cells, e1, e1, e2, e2]
    unfold Idle
    iintro ⟨⟨Ha, Hb⟩, Hc, Hd⟩
    isplitl [Ha Hc]
    · isplitl [Ha]; · iexact Ha
      iexact Hc
    isplitl [Hb]; · iexact Hb
    iexact Hd
  have h2 : iprop(Recs X Kn ∗ bigSep Finset.univ fun p : Bool × Lane => atPos ER (cell p.1 p.2 c) (lastRound p) ∅ 0)
      ⊢ (bigSep Finset.univ fun p : Bool × Lane => iprop(cellInv ER (rd X) (Kn (cell p.1 p.2 c)) (cell p.1 p.2 c) ∗ atPos ER (cell p.1 p.2 c) (lastRound p) ∅ 0) : sProp 𝕄) :=
    bigSep_with_persistent (R := Recs X Kn) fun p _ => by
      iintro ⟨HR, Ho⟩
      isplitl [HR]; · iapply (Recs_cell X Kn p.1 p.2 c); iexact HR
      iexact Ho
  have h3 := Rounds.cells_close ER (rd X) (Finset.univ : Finset (Bool × Lane)) (fun p => cell p.1 p.2 c) (fun p => Kn (cell p.1 p.2 c)) (Es := Set.univ)
    (fun _ _ => Set.mem_univ _) (fun _ _ => id) lastRound fun p _ r hr => by
      by_cases h : p.2 ∈ lanes
      · exact duties_later X _ r (by rw [show lastRound p = 0 + 1 from if_pos h] at hr; exact hr)
      · exact duties_idle X c p.1 h r
  have h4 := Rounds.cell_close ER (rd X) (g := barCell c) (Set.mem_univ (Kn (barCell c))) id (duties_later X (barCell c))
  unfold Pipeline.ownSems0 osem
  iintro ⟨#HR, Hb, Hl, HI⟩
  ihave Ha := h1 $$ [Hl HI]
  · isplitl [Hl]; · iexact Hl
    iexact HI
  ihave Hi := h2 $$ [Ha]
  · isplitr; · iexact HR
    iexact Ha
  imod h3 $$ Hi with Hs
  imod h4 $$ [Hb] with Hv
  · isplitr; · iapply (Recs_bar X Kn c); iexact HR
    iexact Hb
  imodintro
  isplitl [Hv]; · iexact Hv
  iexact Hs

/-- What a device owes from the launch on: its deliveries and its two signals. -/
def O₀ (c : Dev nD) : CellTallies nD τ sig Unit :=
  owing c lanes + tallyAt (barCell (nbr (!true) c)) () 1 + tallyAt (barCell (nbr (!false) c)) () 1

/-- The whole result of a device. -/
def Res (c : Dev nD) : OC (F := F) := YG (Pr X Wt (fun c => Scalar.mulf (ax c) (aw c)) c)

/-- The kernel's body from its buffers and ghost state: the result is stored, the operands are unchanged, every counter is at zero. -/
theorem body_run (P : sProp (MT nD τ sig Unit (Elt F) ℕ UU ℕ)) (c : Dev nD) :
    iprop(Scal ax aw c ∗ levAts L lv ∗ (∃ W, owes (c : Thread nD τ) (O₀ c) W) ∗ Opened X Kn c ∗ (∃ f, xfLoc c ↦[Finset.univ]{fullShare} f)
        ∗ (xLoc c ↦[Finset.univ]{fullShare} X c) ∗ Tbl Wt c ∗ (∃ f, oLoc c ↦[Finset.univ]{fullShare} f) ∗ P)
      ⊢ WP c (bodyM F) (fun _ => iprop(Scal ax aw c ∗ (∃ W, owes (c : Thread nD τ) 0 W) ∗ semVal (barCell c) 0 ∗ Pipeline.ownSems0 osem c
        ∗ (∃ f, xfLoc c ↦[Finset.univ]{fullShare} f) ∗ (xLoc c ↦[Finset.univ]{fullShare} X c) ∗ Tbl Wt c
        ∗ (oLoc c ↦[Finset.univ]{fullShare} Res X Wt ax aw c) ∗ P)) := by
  suffices h : ((iprop(Scal ax aw c ∗ levAts L lv ∗ (∃ W, owes (c : Thread nD τ) (O₀ c) W) ∗ Opened X Kn c ∗ (∃ f, xfLoc c ↦[Finset.univ]{fullShare} f)
        ∗ (xLoc c ↦[Finset.univ]{fullShare} X c) ∗ Tbl Wt c ∗ (∃ f, oLoc c ↦[Finset.univ]{fullShare} f) ∗ P) : sProp 𝕄) ⊢ WP c (bodyM F) (fun _ => (iprop(|={Set.univ}=> iprop(Scal ax aw c ∗ (∃ W, owes (c : Thread nD τ) 0 W) ∗ semVal (barCell c) 0 ∗ Pipeline.ownSems0 osem c
        ∗ (∃ f, xfLoc c ↦[Finset.univ]{fullShare} f) ∗ (xLoc c ↦[Finset.univ]{fullShare} X c) ∗ Tbl Wt c
        ∗ (oLoc c ↦[Finset.univ]{fullShare} Res X Wt ax aw c) ∗ P)) : sProp 𝕄))) from
    wp_done h
  have hI := fun f => inv_start X Wt (fun c => Scalar.mulf (ax c) (aw c)) ax aw Kn full_ops iprop((xfLoc c ↦[ownSet c]{fullShare} f) ∗ Idle c ∗ P) c
  have hE := fun f => inv_end X Wt (fun c => Scalar.mulf (ax c) (aw c)) ax aw Kn iprop((xfLoc c ↦[ownSet c]{fullShare} f) ∗ Idle c ∗ P) c
  have hQ : ∀ f, Inv X Wt (fun c => Scalar.mulf (ax c) (aw c)) Kn iprop(Scal ax aw c ∗ atPos ER (barCell c) (0 + 1) ∅ 0 ∗ (xfLoc c ↦[ownSet c]{fullShare} f) ∗ Idle c ∗ P) c []
      ⊢ (|={Set.univ}=> iprop(Scal ax aw c ∗ (∃ W, owes (c : Thread nD τ) 0 W) ∗ semVal (barCell c) 0 ∗ Pipeline.ownSems0 osem c
        ∗ (∃ f, xfLoc c ↦[Finset.univ]{fullShare} f) ∗ (xLoc c ↦[Finset.univ]{fullShare} X c) ∗ Tbl Wt c
        ∗ (oLoc c ↦[Finset.univ]{fullShare} Res X Wt ax aw c) ∗ P) : sProp 𝕄) := fun f => (hE f).trans (by
    iintro ⟨HS, HR, HO, HA, HL, Hx, HT, Ho, Hsl, Hf, HI, HP⟩
    imod (ghost_close X Kn c) $$ [HR HA HL HI] with ⟨Hb, Hs⟩
    · isplitl [HR]; · iexact HR
      isplitl [HA]; · iexact HA
      isplitl [HL]; · iexact HL
      iexact HI
    ihave Hxf := (xf_join c f (XG X)) $$ [Hf Hsl]
    · isplitl [Hf]; · iexact Hf
      iexact Hsl
    imodintro
    isplitl [HS]; · iexact HS
    isplitl [HO]; · iexact HO
    isplitl [Hb]; · iexact Hb
    isplitl [Hs]; · iexact Hs
    isplitl [Hxf]; · iexact Hxf
    isplitl [Hx]; · iexact Hx
    isplitl [HT]; · iexact HT
    isplitl [Ho]; · iexact Ho
    iexact HP)
  have key := fun f => run_body (hI f) (Q := fun _ => _) (hQ f)
  iintro ⟨HS, HL, HO, HG, ⟨%f, Hf⟩, Hx, HT, Ho, HP⟩
  iapply (key f)
  unfold Pre Due Opened Deal O₀
  icases HG with ⟨⟨HR, ⟨Hr1, Hr2⟩, ⟨Ht1, Ht2⟩, Hc, HA⟩, HLn, Hr, HI⟩
  ihave Hf := (xf_split c f) $$ Hf
  icases Hf with ⟨Hown, Hsl⟩
  ihave Hp := (dues_pay c f) $$ [Hsl Hr]
  · isplitl [Hsl]; · iexact Hsl
    iexact Hr
  icases Hp with ⟨Hp1, Hp2⟩
  isplitl [HS]; · iexact HS
  isplitl [HL]; · iexact HL
  isplitl [HR]; · iexact HR
  isplitl [HO]; · iexact HO
  isplitl [Ht1 Ht2 Hr1 Hr2 Hp1 Hp2]
  · isplitl [Ht1 Hr1 Hp1]
    · isplitl [Ht1]; · iexact Ht1
      isplitl [Hr1]; · iexact Hr1
      iexact Hp1
    isplitl [Ht2 Hr2 Hp2]
    · isplitl [Ht2]; · iexact Ht2
      isplitl [Hr2]; · iexact Hr2
      iexact Hp2
    iempintro
  isplitl [Hc]; · iexact Hc
  isplitl [HA]; · iexact HA
  isplitl [HLn]; · iexact HLn
  isplitl [Hx]; · iexact Hx
  isplitl [HT]; · iexact HT
  isplitl [Ho]; · iexact Ho
  isplitl [Hown]; · iexact Hown
  isplitl [HI]; · iexact HI
  iexact HP

end Enter

end Cert.KernelIdeal.Ring

end
-- ==== Proof.IdealRegion.lean ====
/- The kernel as a region of the program: its operands as the program hands them over, its body, and what it leaves.
   The same for the program read over the extended reals. -/
module

public import proofs.«01_k».proof.Proof.IdealEnter
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's block of rows, its columns, and the two scales. -/
def XA (c : Dev nD) : XC (F := F) := m ((c : Thread nD τ).loc main_arg0)
/-- The second operand on a device, from the memory at the start. -/
def WA (c : Dev nD) : WC (F := F) := m ((c : Thread nD τ).loc main_arg1)
/-- The scale of the first operand on a device. -/
def aX (c : Dev nD) : F .f32 := (m ((c : Thread nD τ).loc main_arg2) : Vec F S1 .f32) (ValueIdx.ix1 0)
/-- The scale of the second operand on a device. -/
def aW (c : Dev nD) : F .f32 := (m ((c : Thread nD τ).loc main_arg3) : Vec F S1 .f32) (ValueIdx.ix1 0)
/-- The result of device `c`. -/
def Out (c : Dev nD) : OC (F := F) := Res (XA m) (WA m) (aX m) (aW m) c

/-- The buffers' contents after the kernel. -/
def VE (c : Dev nD) : Valuation τ sig (Elt F) := Function.update (V9 m c) (Proc.devRef .tc main_v13) (Out m c)

/-- What enters the kernel's region beside its windows and its own buffer, and what comes out. -/
def Xk (c : Dev nD) : sProp 𝕄 := iprop((∃ Kn, Opened (XA m) Kn c) ∗ levAts L lv)
/-- What a device is given at the launch for its semaphores. -/
def Tk (c : Dev nD) : sProp 𝕄 := iprop(∃ Kn, Ghost (XA m) Kn c)
/-- What a device has when the kernel ends: its barrier back at zero. -/
def Yk (c : Dev nD) : sProp 𝕄 := semVal (barCell c) 0
/-- The gathered array's buffer and the random generator's register, at contents not chosen. -/
def Any (c : Dev nD) : sProp 𝕄 := iprop((∃ f, xfLoc c ↦[Finset.univ]{fullShare} f) ∗ ∃ r, prngReg c r)

/-- What each window's staging buffer holds after the body. -/
def aft (c : Dev nD) (w : Fin cfg0.W) : (cfg0.win w).block.Idx → Elt F (cfg0.win w).elt := match w with
  | ⟨0, _⟩ => XA m c
  | ⟨1, _⟩ => WA m c
  | ⟨2, _⟩ => fun _ => aX m c
  | ⟨3, _⟩ => fun _ => aW m c
  | ⟨4, _⟩ => fun _ => wd (nbr false c)
  | ⟨5, _⟩ => fun _ => wd (nbr true c)
  | ⟨6, _⟩ => tab (F := F) false 0 c
  | ⟨7, _⟩ => tab (F := F) false 1 c
  | ⟨8, _⟩ => tab (F := F) true 0 c
  | ⟨9, _⟩ => tab (F := F) true 1 c
  | ⟨10, _⟩ => Out m c

/-- What is stated of the kernel's one grid step on a device. -/
def dat0 (c : Dev nD) : Dat τ (Elt F) Unit ℕ UU ℕ cfg0 c where
  A w := V9 m c ((cfg0.win w).arr.view.loc (c : Thread nD τ)).2
  after w _ := aft m c w
  Φ t := if t.val = 0 then iprop(Xk m c ∗ Any c) else iprop((Yk (F := F) c ∗ Pipeline.ownSems0 osem c) ∗ Any c)
  q _ := fullShare
  owed t := if t.val = 0 then O₀ c else 0

/-- The same, for each kernel of the program; there is one. -/
def pdats : (p : Fin 1) → (c : Dev nD) → Dat τ (Elt F) Unit ℕ UU ℕ (Pipeline.pin (pcfgs (F := F)) adm p) c
  | 0 => dat0 m

/-- Window 0 holds the same before the grid step as is stated after it. -/
theorem before_0 (c : Dev nD) (d) : (dat0 m c).before 0 t0_0 d = aft m c 0 := by
  have hi : ∀ a, win0_0.index t0_0 a = 0 := by decide +kernel
  unfold Dat.before
  rw [if_pos (fetch0_0 _)]
  funext j
  show V9 m c main_arg0 _ = _
  rw [V9_arg m c main_arg0 (by simp)]
  refine congrArg (XA m c) ?_
  blk_ext [hi]
/-- Window 1 holds the same before the grid step as is stated after it. -/
theorem before_1 (c : Dev nD) (d) : (dat0 m c).before 1 t0_0 d = aft m c 1 := by
  have hi : ∀ a, win0_1.index t0_0 a = 0 := by decide +kernel
  unfold Dat.before
  rw [if_pos (fetch0_1 _)]
  funext j
  show V9 m c main_arg1 _ = _
  rw [V9_arg m c main_arg1 (by simp)]
  refine congrArg (WA m c) ?_
  blk_ext [hi]
/-- Window 2 holds the same before the grid step as is stated after it. -/
theorem before_2 (c : Dev nD) (d) : (dat0 m c).before 2 t0_0 d = aft m c 2 := by
  unfold Dat.before
  rw [if_pos (fetch0_2 _)]
  funext j
  show V9 m c main_arg2 _ = _
  rw [V9_arg m c main_arg2 (by simp)]
  exact congrArg (m ((c : Thread nD τ).loc main_arg2) : Vec F S1 .f32) (one_idx _)
/-- Window 3 holds the same before the grid step as is stated after it. -/
theorem before_3 (c : Dev nD) (d) : (dat0 m c).before 3 t0_0 d = aft m c 3 := by
  unfold Dat.before
  rw [if_pos (fetch0_3 _)]
  funext j
  show V9 m c main_arg3 _ = _
  rw [V9_arg m c main_arg3 (by simp)]
  exact congrArg (m ((c : Thread nD τ).loc main_arg3) : Vec F S1 .f32) (one_idx _)
/-- Window 4 holds the same before the grid step as is stated after it. -/
theorem before_4 (c : Dev nD) (d) : (dat0 m c).before 4 t0_0 d = aft m c 4 := by
  unfold Dat.before
  rw [if_pos (fetch0_4 _)]
  funext j
  show V9 m c main_v6 _ = _
  rw [v6_eq]
  rfl
/-- Window 5 holds the same before the grid step as is stated after it. -/
theorem before_5 (c : Dev nD) (d) : (dat0 m c).before 5 t0_0 d = aft m c 5 := by
  unfold Dat.before
  rw [if_pos (fetch0_5 _)]
  funext j
  show V9 m c main_v8 _ = _
  rw [v8_eq]
  rfl
/-- Window 6 holds the same before the grid step as is stated after it. -/
theorem before_6 (c : Dev nD) (d) : (dat0 m c).before 6 t0_0 d = aft m c 6 := by
  have hi : ∀ a, win0_6.index t0_0 a = 0 := by decide +kernel
  unfold Dat.before
  rw [if_pos (fetch0_6 _)]
  funext j
  show V9 m c main_v9 _ = _
  rw [v9_eq]
  refine congrArg (tab (F := F) false 0 c) ?_
  blk_ext [hi]
/-- Window 7 holds the same before the grid step as is stated after it. -/
theorem before_7 (c : Dev nD) (d) : (dat0 m c).before 7 t0_0 d = aft m c 7 := by
  have hi : ∀ a, win0_7.index t0_0 a = 0 := by decide +kernel
  unfold Dat.before
  rw [if_pos (fetch0_7 _)]
  funext j
  show V9 m c main_v10 _ = _
  rw [v10_eq]
  refine congrArg (tab (F := F) false 1 c) ?_
  blk_ext [hi]
/-- Window 8 holds the same before the grid step as is stated after it. -/
theorem before_8 (c : Dev nD) (d) : (dat0 m c).before 8 t0_0 d = aft m c 8 := by
  have hi : ∀ a, win0_8.index t0_0 a = 0 := by decide +kernel
  unfold Dat.before
  rw [if_pos (fetch0_8 _)]
  funext j
  show V9 m c main_v11 _ = _
  rw [v11_eq]
  refine congrArg (tab (F := F) true 0 c) ?_
  blk_ext [hi]
/-- Window 9 holds the same before the grid step as is stated after it. -/
theorem before_9 (c : Dev nD) (d) : (dat0 m c).before 9 t0_0 d = aft m c 9 := by
  have hi : ∀ a, win0_9.index t0_0 a = 0 := by decide +kernel
  unfold Dat.before
  rw [if_pos (fetch0_9 _)]
  funext j
  show V9 m c main_v12 _ = _
  rw [v12_eq]
  refine congrArg (tab (F := F) true 1 c) ?_
  blk_ext [hi]

/-- What the kernel leaves in its arrays: the operands as they were, the result stored. -/
theorem arr_out (c : Dev nD) : (dat0 m c).arrAt 10 cfg0.N = Out m c := by
  have hi : ∀ a, win0_10.index t0_0 a = 0 := by decide +kernel
  refine (dat0 m c).arrAt_eq_of_after_last 10 t0_0 (by decide +kernel) _ fun j => ?_
  refine congrArg (Out m c) ?_
  blk_ext [hi]

end Cert.KernelIdeal.Ring

end
-- ==== Proof.IdealBody.lean ====
/- The kernel's body as the region of the program asks for it.
   The same for the program read over the extended reals. -/
module

public import proofs.«01_k».proof.Proof.IdealRegion
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole, at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- The same for a staging buffer. -/
theorem stg_eq (c : Dev nD) (b : Ref sig .tc) (X : b.ty.Contents (Elt F)) : stg c b X = (((c : Thread nD τ).loc b) ↦[Finset.univ]{fullShare} X : sProp 𝕄) := by
  have h1 : stg c b X ⊢ (((c : Thread nD τ).loc b) ↦[Finset.univ]{fullShare} X : sProp 𝕄) := by
    unfold stg
    iintro ⟨%f, %h, H⟩
    subst h
    iexact H
  have h2 : (((c : Thread nD τ).loc b) ↦[Finset.univ]{fullShare} X : sProp 𝕄) ⊢ stg c b X := by
    unfold stg
    iintro H
    iexists X
    isplitr; · ipureintro; rfl
    iexact H
  exact BI.equiv_iff.mp ⟨h1, h2⟩

/-- What is owed at a grid step, from what is owed. -/
theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
/-- What is owed, from what is owed at a grid step. -/
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- Nothing is owed after the grid step. -/
theorem owed_last (c : Dev nD) : (dat0 m c).owed (Fin.last _) = 0 := by
  show (if (Fin.last cfg0.N).val = 0 then O₀ c else 0) = 0
  rw [Fin.val_last, if_neg (by rw [show cfg0.N = 1 from N_0]; decide)]
/-- What holds after the grid step. -/
theorem phi_last (c : Dev nD) : (dat0 m c).Φ (Fin.last _) = iprop((Yk (F := F) c ∗ Pipeline.ownSems0 osem c) ∗ Any c) := by
  have h : ¬ (Fin.last cfg0.N).val = 0 := by rw [Fin.val_last, show cfg0.N = 1 from N_0]; decide
  exact if_neg (t := iprop(Xk m c ∗ Any c)) h
/-- What holds before the grid step. -/
theorem phi_first (c : Dev nD) : (dat0 m c).Φ t0_0.castSucc = iprop(Xk m c ∗ Any c) :=
  if_pos (e := iprop((Yk (F := F) c ∗ Pipeline.ownSems0 osem c) ∗ Any c)) (show (t0_0.castSucc : Fin (cfg0.N + 1)).val = 0 from rfl)
/-- What holds at the start. -/
theorem phi_zero (c : Dev nD) : (dat0 m c).Φ 0 = iprop(Xk m c ∗ Any c) :=
  if_pos (e := iprop((Yk (F := F) c ∗ Pipeline.ownSems0 osem c) ∗ Any c)) (show (0 : Fin (cfg0.N + 1)).val = 0 from rfl)
/-- What holds when the grid step is done. -/
theorem phi_succ (c : Dev nD) : (dat0 m c).Φ t0_0.succ = iprop((Yk (F := F) c ∗ Pipeline.ownSems0 osem c) ∗ Any c) :=
  if_neg (t := iprop(Xk m c ∗ Any c)) (show ¬ (t0_0.succ : Fin (cfg0.N + 1)).val = 0 from Nat.succ_ne_zero _)

/-- The windows' buffers, in order. -/
def Bufs (c : Dev nD) (o : sProp (MT nD τ sig Unit (Elt F) ℕ UU ℕ)) : sProp 𝕄 :=
  iprop(stg c cc0_stg0_0 (XA m c) ∗ stg c cc0_stg1_0 (WA m c) ∗ stg c cc0_stg2_0 (fun _ => aX m c) ∗ stg c cc0_stg3_0 (fun _ => aW m c)
    ∗ stg c cc0_stg4_0 (fun _ => wd (nbr false c)) ∗ stg c cc0_stg5_0 (fun _ => wd (nbr true c))
    ∗ stg c cc0_stg6_0 (tab (F := F) false 0 c) ∗ stg c cc0_stg7_0 (tab (F := F) false 1 c)
    ∗ stg c cc0_stg8_0 (tab (F := F) true 0 c) ∗ stg c cc0_stg9_0 (tab (F := F) true 1 c) ∗ o)

attribute [local irreducible] cc0_body

/-- A run from less to more. -/
theorem wp_conv {c : Dev nD} {p : Prog (TpuEff nD τ sig (Elt F) Λ₀ .tc) PUnit} {A A' B B' : sProp 𝕄}
    (hA : A ⊢ A') (hB : B' ⊢ B) (h : A' ⊢ WP c p fun _ => B') : A ⊢ WP c p fun _ => B :=
  (hA.trans h).trans (wp_mono _ _ _ fun _ => hB)

/-- What the body leaves, window by window. -/
theorem body_out (c : Dev nD) :
    iprop(Scal (aX m) (aW m) c ∗ (∃ W, owes (c : Thread nD τ) 0 W) ∗ semVal (barCell c) 0 ∗ Pipeline.ownSems0 osem c
        ∗ (∃ f, xfLoc c ↦[Finset.univ]{fullShare} f) ∗ (xLoc c ↦[Finset.univ]{fullShare} XA m c) ∗ Tbl (WA m) c
        ∗ (oLoc c ↦[Finset.univ]{fullShare} Res (XA m) (WA m) (aX m) (aW m) c) ∗ (∃ r, prngReg c r))
      ⊢ iprop(((Yk (F := F) c ∗ Pipeline.ownSems0 osem c) ∗ Any c) ∗ (∃ W, owes (c : Thread nD τ) 0 W)
        ∗ Bufs m c (stg c cc0_stg10_0 (Out m c))) := by
  unfold Bufs
  simp only [stg_eq]
  unfold Any Yk Scal Tbl Out
  iintro ⟨⟨H4, H5, H2, H3⟩, HO, Hb, Hs, Hf, H0, ⟨H1, H6, H7, H8, H9⟩, Ho, Hp⟩
  isplitl [Hb Hs Hf Hp]
  · isplitl [Hb Hs]
    · isplitl [Hb]; · iexact Hb
      iexact Hs
    isplitl [Hf]; · iexact Hf
    iexact Hp
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Ho

/-- What the region hands the body is what the body runs from. -/
theorem body_in (c : Dev nD) :
    iprop((Xk m c ∗ Any c) ∗ (∃ W, owes (c : Thread nD τ) (O₀ c) W) ∗ Bufs m c iprop(∃ f, oLoc c ↦[Finset.univ]{fullShare} f))
      ⊢ iprop(∃ Kn, Scal (aX m) (aW m) c ∗ levAts L lv ∗ (∃ W, owes (c : Thread nD τ) (O₀ c) W) ∗ Opened (XA m) Kn c ∗ (∃ f, xfLoc c ↦[Finset.univ]{fullShare} f)
        ∗ (xLoc c ↦[Finset.univ]{fullShare} XA m c) ∗ Tbl (WA m) c ∗ (∃ f, oLoc c ↦[Finset.univ]{fullShare} f) ∗ (∃ r, prngReg c r)) := by
  unfold Bufs
  simp only [stg_eq]
  unfold Xk Any
  iintro ⟨⟨⟨⟨%Kn, HG⟩, #HL⟩, Hf, Hp⟩, HO, H0, H1, H2, H3, H4, H5, H6, H7, H8, H9, Ho⟩
  iexists Kn
  unfold Scal Tbl
  isplitl [H2 H3 H4 H5]
  · isplitl [H4]; · iexact H4
    isplitl [H5]; · iexact H5
    isplitl [H2]; · iexact H2
    iexact H3
  isplitr; · iexact HL
  isplitl [HO]; · iexact HO
  isplitl [HG]; · iexact HG
  isplitl [Hf]; · iexact Hf
  isplitl [H0]; · iexact H0
  isplitl [H1 H6 H7 H8 H9]
  · isplitl [H1]; · iexact H1
    isplitl [H6]; · iexact H6
    isplitl [H7]; · iexact H7
    isplitl [H8]; · iexact H8
    iexact H9
  isplitl [Ho]; · iexact Ho
  iexact Hp

/-- The body in the region's terms. -/
theorem body_at (c : Dev nD) :
    iprop((Xk m c ∗ Any c) ∗ (∃ W, owes (c : Thread nD τ) (O₀ c) W) ∗ Bufs m c iprop(∃ f, oLoc c ↦[Finset.univ]{fullShare} f))
      ⊢ WP c (bodyM F) (fun _ => iprop(((Yk (F := F) c ∗ Pipeline.ownSems0 osem c) ∗ Any c) ∗ (∃ W, owes (c : Thread nD τ) 0 W)
        ∗ Bufs m c (stg c cc0_stg10_0 (Out m c)))) :=
  (body_in m c).trans (sProp.exists_elim fun Kn =>
    wp_conv .rfl (body_out m c) (body_run (XA m) (WA m) (aX m) (aW m) Kn iprop(∃ r, prngReg c r) c))

/-- The windows' buffers as the region hands them over. -/
theorem bufs_in (c : Dev nD) :
    iprop((dat0 m c).Φ t0_0.castSucc ∗ (dat0 m c).owesAt () t0_0.castSucc
      ∗ (∃ d, stg c cc0_stg0_0 ((dat0 m c).before 0 t0_0 d)) ∗ (∃ d, stg c cc0_stg1_0 ((dat0 m c).before 1 t0_0 d))
      ∗ (∃ d, stg c cc0_stg2_0 ((dat0 m c).before 2 t0_0 d)) ∗ (∃ d, stg c cc0_stg3_0 ((dat0 m c).before 3 t0_0 d))
      ∗ (∃ d, stg c cc0_stg4_0 ((dat0 m c).before 4 t0_0 d)) ∗ (∃ d, stg c cc0_stg5_0 ((dat0 m c).before 5 t0_0 d))
      ∗ (∃ d, stg c cc0_stg6_0 ((dat0 m c).before 6 t0_0 d)) ∗ (∃ d, stg c cc0_stg7_0 ((dat0 m c).before 7 t0_0 d))
      ∗ (∃ d, stg c cc0_stg8_0 ((dat0 m c).before 8 t0_0 d)) ∗ (∃ d, stg c cc0_stg9_0 ((dat0 m c).before 9 t0_0 d))
      ∗ (∃ d, stg c cc0_stg10_0 ((dat0 m c).before 10 t0_0 d)))
    ⊢ iprop((Xk m c ∗ Any c) ∗ (∃ W, owes (c : Thread nD τ) (O₀ c) W) ∗ Bufs m c iprop(∃ f, oLoc c ↦[Finset.univ]{fullShare} f)) := by
  rw [phi_first]
  simp only [before_0, before_1, before_2, before_3, before_4, before_5, before_6, before_7, before_8, before_9]
  unfold Bufs
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d, Ho⟩⟩
  isplitl [HΦ]; · iexact HΦ
  isplitl [HO]; · iapply (owesAt_elim (dat0 m c) t0_0.castSucc (O₀ c) rfl) $$ HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold stg
  icases Ho with ⟨%f, -, Ho⟩
  iexists f
  iexact Ho

/-- The body's obligation to the region. -/
theorem body_ob (c : Dev nD) : BodyObligation (dat0 m c) defs₀ 𝒱₀ () Set.univ := fun t => by
  obtain rfl := fin_N0 t
  rw [bigSep_W0, bigSep_W0]
  refine wp_conv ?_ ?_ (body_at m c)
  · simp only [owns_whole_eq]
    exact bufs_in m c
  · simp only [owns_whole_eq]
    rw [phi_succ]
    show (iprop(_ ∗ _ ∗ _) : sProp 𝕄) ⊢ _
    iintro ⟨HΦ, HO, HB⟩
    isplitl [HΦ]; · iexact HΦ
    isplitl [HO]; · iapply (owesAt_intro (dat0 m c) t0_0.succ 0 rfl rfl) $$ HO
    unfold Bufs stg
    iexact HB

end Cert.KernelIdeal.Ring

end
-- ==== Proof.IdealTalk.lean ====
/- The kernel as a segment of the program, between the host's operations and the end.
   The same for the program read over the extended reals. -/
module

public import proofs.«01_k».proof.Proof.IdealBody
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The semaphores of the lanes are not those of the staging copies. -/
theorem stage_sem_ne : ∀ (k : Bool × Lane) (w : Fin 11) (s : Fin (spec0 w).nbuf), osem k ≠ .dma ((spec0 w).sem s) := by decide +kernel

/-- The kernel's own semaphores: distinct, its own, and no staging buffer's. -/
theorem own_facts : Pipeline.OwnSemFacts (Pipeline.PCfg.spec (pcfgs (F := F) 0)) osem where
  isScoped := by decide +kernel
  inj p q h := by
    obtain ⟨a, v⟩ := p
    obtain ⟨b, w⟩ := q
    have := semIx_inj (SemLoc.dma.inj h)
    exact Prod.ext this.1 this.2
  disj k w s := stage_sem_ne k w s

/-- The facts about the launch that the kernel's text settles. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that are not the kernel's arrays. -/
def Others : Finset (DevRef τ sig) := Pipeline.ucRefs τ sig \ Pipeline.arrRefs (τ := τ) spec0

/-- The arrays of the windows are among the buffers outside the kernel. -/
theorem arr_sub : Pipeline.arrRefs (τ := τ) spec0 ⊆ Pipeline.ucRefs τ sig :=
  Pipeline.arrRefs_sub_ucRefs spec0 (by decide +kernel)

/-- Every buffer but the output is after the kernel as before it. -/
theorem VE_of_ne (c : Dev nD) (b : DevRef τ sig) (h : b ≠ Proc.devRef .tc main_v13) : VE m c b = V9 m c b :=
  Function.update_of_ne h _ _

/-- The output after the kernel is the result that is stated. -/
theorem VE_out (c : Dev nD) : VE m c (Proc.devRef .tc main_v13) = Out m c := Function.update_self _ _ _

/-- The buffers that are not arrays of windows are unchanged. -/
theorem others_eq (c : Dev nD) : ∀ b ∈ Others \ (∅ : Finset (DevRef τ sig)), VE m c b = V9 m c b := fun b hb => by
  refine VE_of_ne m c b fun h => ?_
  subst h
  have := (Finset.mem_sdiff.mp (Finset.mem_sdiff.mp hb).1).2
  exact this (Finset.mem_map_of_mem _ (Finset.mem_image.mpr ⟨(10 : Fin 11), Finset.mem_univ _, rfl⟩))

/-- The semaphores opened with the ghost state. -/
theorem open_own (c : Dev nD) : iprop(Tk m c ∗ Pipeline.ownSems0 osem c ∗ levAts L lv) ⊢ (|={Set.univ}=> Xk m c : sProp 𝕄) := by
  unfold Tk Xk
  iintro ⟨⟨%Kn, HG⟩, Hs, HL⟩
  imod (ghost_open (XA m) Kn c) $$ [HG Hs] with HO
  · isplitl [HG]; · iexact HG
    iexact Hs
  imodintro
  isplitl [HO]
  · iexists Kn; iexact HO
  iexact HL

/-- Holding no buffers is holding nothing. -/
theorem held_none (c : Dev nD) (W : Valuation τ sig (Elt F)) : (StableHlo.held (c.tc : Thread nD τ) ∅ W : sProp 𝕄) = BI.emp := by
  unfold StableHlo.held; exact BI.bigSep_empty

/-- What a device has on entering the kernel gives what holds before the grid step. -/
theorem enter_inv (c : Dev nD) :
    iprop(Pipeline.scopedRest (Pipeline.pin (pcfgs (F := F)) adm 0).spec c ∗ (∃ r, prngReg c r) ∗ StableHlo.held (c.tc : Thread nD τ) ∅ (V9 m c) ∗ Xk m c)
    ⊢ (pdats m 0 c).Φ 0 := by
  rw [show (pdats m 0 c).Φ 0 = _ from phi_zero m c, show (Pipeline.scopedRest (Pipeline.pin (pcfgs (F := F)) adm 0).spec c : sProp 𝕄) = _ from scopedRest0_eq c]
  unfold Any
  iintro ⟨Hf, Hp, -, HX⟩
  isplitl [HX]; · iexact HX
  isplitl [Hf]; · iexact Hf
  iexact Hp

/-- What holds after the grid step gives what a device has on leaving the kernel. -/
theorem leave_inv (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (VE m c)
      ∗ Pipeline.ownSems0 osem c ∗ Yk (F := F) c) := by
  rw [show (pdats m 0 c).Φ (Fin.last _) = _ from phi_last m c, show (Pipeline.scopedRest (Pipeline.pin (pcfgs (F := F)) adm 0).spec c : sProp 𝕄) = _ from scopedRest0_eq c,
    held_none]
  unfold Any
  iintro ⟨⟨HY, Hs⟩, Hf, Hp⟩
  isplitl [Hf]; · iexact Hf
  isplitl [Hp]; · iexact Hp
  isplitr; · iempintro
  isplitl [Hs]; · iexact Hs
  iexact HY

/-- What a device owes at the start, it owes at a barrier or a receive semaphore. -/
theorem owed_pos {c : Dev nD} {g : GSem nD τ sig} {u : Unit} (h : 0 < O₀ c g u) : (∃ v e, v ∈ lanes ∧ g = recvCell v e) ∨ ∃ e, g = barCell e := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨v, hv, rfl⟩ := owing_pos h
      exact .inl ⟨v, _, hv, rfl⟩
    · rw [tallyAt_apply] at h
      split at h
      · next hg => exact .inr ⟨_, hg.1⟩
      · exact absurd h (Nat.lt_irrefl 0)
  · rw [tallyAt_apply] at h
    split at h
    · next hg => exact .inr ⟨_, hg.1⟩
    · exact absurd h (Nat.lt_irrefl 0)

/-- What is owed during the kernel lies above the level of the staging copies. -/
theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases owed_pos h with ⟨v, e, hv, rfl⟩ | ⟨e, rfl⟩
    · exact ⟨by rw [L_tc]; exact Finset.mem_singleton_self _, by rw [lv_recv]; omega⟩
    · exact ⟨by rw [L_tc]; exact Finset.mem_singleton_self _, Nat.one_pos⟩
  · exact absurd h (Nat.lt_irrefl 0)

/-- The arrays of the windows at the end of the kernel. -/
theorem arr_at (c : Dev nD) : ∀ w, (pdats m 0 c).arrAt w (Pipeline.pin (pcfgs (F := F)) adm 0).N
    = VE m c (Proc.devRef .tc (Pipeline.arrRef (Pipeline.pin (pcfgs (F := F)) adm 0).spec w)) := fun w => by
  by_cases h : w = (10 : Fin 11)
  · subst h
    exact (arr_out m c).trans (VE_out m c).symm
  · have hin : ∀ w : Fin 11, w ≠ 10 → (spec0 w).isOut = false := by decide +kernel
    have hne : ∀ w : Fin 11, w ≠ 10 → Pipeline.arrRef spec0 w ≠ main_v13 := by decide +kernel
    refine ((dat0 m c).arrAt_in w (hin w h) _).trans ?_
    exact (VE_of_ne m c _ fun e => hne w h (Proc.devRef_injective _ e)).symm

/-- The semaphores of the staging copies come before those of the lanes. -/
theorem stage_low : ∀ (w : Fin 11) (s : Fin (spec0 w).nbuf), ¬ 11 ≤ ((spec0 w).sem s).val := by decide +kernel

/-- The staging buffers' semaphores come before everything owed. -/
theorem stage_lv (c : Dev nD) (w : Fin 11) (s : Fin (spec0 w).nbuf) : lv ((c : Thread nD τ), .dma ((spec0 w).sem s)) () ≤ 0 := by
  show (match dec ((spec0 w).sem s) with | some (true, v) => 2 + v.2.1.val | _ => 0) ≤ 0
  unfold dec
  rw [dif_neg (stage_low w s)]

set_option backward.isDefEq.respectTransparency.types false in
/-- The kernel's segment. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ Others (Finset.empty_subset _) kit rfl (fun c => (body_ob m c).loose)
    (fun _ => 0) O₀ (fun c => (zero_add _).symm) (owed_last m) (fun _ => rfl)
    (fun c w => by unfold Dat.share; split <;> rfl)
    (V9 m) (VE m) (others_eq m)
    (Tk m) Yk (Xk m) Yk (open_own m) (enter_inv m) (leave_inv m)
    (fun c => by iintro H; imodintro; iexact H)
    (fun _ => 0)
    ⟨fun c w s => by rw [L_tc]; exact Finset.mem_singleton_self _, fun c w s => stage_lv c w s, fun c t g i h => cutD m c t g i h⟩
    (fun _ => iprop(emp))
    (fun c w => rfl) (arr_at m)

end Cert.KernelIdeal.Ring

end
-- ==== Proof.IdealLaunch.lean ====
/- What the launch makes: every cell's record, the rights to signal and to open, and the credits, dealt to the devices.
   The same for the program read over the extended reals. -/
module

public import proofs.«01_k».proof.Proof.IdealTalk
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The barrier cells and the semaphores' cells, as sets. -/
noncomputable def barEmb : Dev nD ↪ GSem nD τ sig := ⟨fun c => barCell c, fun _ _ h => congrArg (fun g : GSem nD τ sig => g.1.1) h⟩
/-- The semaphores of all lanes of all devices, one by one. -/
noncomputable def semEmb : (Bool × Lane) × Dev nD ↪ GSem nD τ sig :=
  ⟨fun p => cell p.1.1 p.1.2 p.2, fun p q h => by
    obtain ⟨⟨a, v⟩, c⟩ := p
    obtain ⟨⟨b, w⟩, d⟩ := q
    have h1 : c = d := congrArg (fun g : GSem nD τ sig => g.1.1) h
    have h2 := semIx_inj (SemLoc.dma.inj (congrArg Prod.snd h))
    exact Prod.ext (Prod.ext h2.1 h2.2) h1⟩
noncomputable abbrev barCells : Finset (GSem nD τ sig) := Finset.univ.map barEmb
noncomputable abbrev semCells : Finset (GSem nD τ sig) := Finset.univ.map semEmb

/-- No barrier is the semaphore of a lane. -/
theorem disjoint_cells : Disjoint (barCells : Finset (GSem nD τ sig)) semCells := by
  rw [Finset.disjoint_left]
  rintro g h₁ h₂
  obtain ⟨c, -, rfl⟩ := Finset.mem_map.mp h₁
  obtain ⟨p, -, h⟩ := Finset.mem_map.mp h₂
  have h' : SemLoc.dma (semIx p.1.1 p.1.2) = SemLoc.reg barS := congrArg Prod.snd h
  cases h'

/-- The tokens: each barrier is signalled from both sides, each semaphore's first round once. -/
noncomputable def barTok : Dev nD × Bool ↪ GSem nD τ sig × ℕ × Bool :=
  ⟨fun p => (barCell p.1, 0, p.2), fun p q h => Prod.ext (barEmb.injective (congrArg Prod.fst h)) (congrArg (fun x : GSem nD τ sig × ℕ × Bool => x.2.2) h)⟩
/-- The duty at the semaphore of each lane of each device. -/
noncomputable def semTok : (Bool × Lane) × Dev nD ↪ GSem nD τ sig × ℕ × Bool :=
  ⟨fun p => (semEmb p, 0, false), fun p q h => semEmb.injective (congrArg Prod.fst h)⟩
/-- All the duties handed out at the launch. -/
noncomputable def toks : Finset (GSem nD τ sig × ℕ × Bool) := Finset.univ.map barTok ∪ Finset.univ.map semTok

/-- No duty at a barrier is a duty at the semaphore of a lane. -/
theorem disjoint_toks : Disjoint (Finset.univ.map barTok) (Finset.univ.map semTok) := by
  rw [Finset.disjoint_left]
  rintro g h₁ h₂
  obtain ⟨p, -, rfl⟩ := Finset.mem_map.mp h₁
  obtain ⟨q, -, h⟩ := Finset.mem_map.mp h₂
  have h' : SemLoc.dma (semIx q.1.1 q.1.2) = SemLoc.reg barS := congrArg (fun x : GSem nD τ sig × ℕ × Bool => x.1.2) h
  cases h'

/-- The launch's element: the staging library's, and the protocol's. -/
noncomputable def u₀ : UU :=
  (initOf (Pipeline.cells (Pipeline.pin (pcfgs (F := F)) adm) cellOf_inj) (Pipeline.launchToks (Pipeline.pin (pcfgs (F := F)) adm) cellOf_inj),
    launchOf barCells semCells toks)

/-- A resource all of which device `c₀` holds. -/
def onDev (c₀ : Dev nD) (X : sProp (MT nD τ sig Unit (Elt F) ℕ UU ℕ)) (c : Dev nD) : sProp 𝕄 := if c = c₀ then X else iprop(emp)
/-- What is placed on one device is, over all devices, just that. -/
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- What exists before the launch, placed on the first device. -/
def G : Dev nD → sProp 𝕄 := onDev 0 (BI.own (ER (launchOf barCells semCells toks)))

/-! ## Credits -/

/-- A device is the neighbour of another exactly when that one is its neighbour in the opposite direction. -/
theorem nbr_eq (d : Bool) (a c : Dev nD) : nbr d a = c ↔ a = nbr (!d) c :=
  ⟨fun h => by rw [← h, nbr_nbr], fun h => by rw [h, nbr_nbr']⟩

/-- What device `a` owes at a lane's receive semaphore. -/
theorem owed_recv (a c : Dev nD) (v : Lane) (hv : v ∈ lanes) : O₀ a (recvCell v c) () = if a = nbr (!v.1) c then N else 0 := by
  have hb : ∀ e, recvCell v c ≠ barCell e := fun e h => by cases congrArg Prod.snd h
  unfold O₀
  rw [Pi.add_apply, Finsupp.add_apply, Pi.add_apply, Finsupp.add_apply, tallyAt_ne_cell (hb _), tallyAt_ne_cell (hb _), Finsupp.zero_apply, Nat.add_zero, Nat.add_zero]
  unfold owing
  rw [Finset.sum_apply, Finsupp.finset_sum_apply, Finset.sum_eq_single v]
  · rw [tallyAt_apply]
    by_cases h : a = nbr (!v.1) c
    · rw [if_pos h, if_pos ⟨by rw [(nbr_eq v.1 a c).mpr h], rfl⟩]
    · rw [if_neg h, if_neg fun hh => h ((nbr_eq v.1 a c).mp (congrArg (fun g : GSem nD τ sig => g.1.1) hh.1).symm)]
  · intro w _ hw
    rw [tallyAt_apply, if_neg fun hh => hw (semIx_inj (SemLoc.dma.inj (congrArg Prod.snd hh.1))).2.symm]
  · exact fun h => absurd hv h

/-- What device `a` owes at a barrier. -/
theorem owed_bar (a c : Dev nD) : O₀ a (barCell c) () = (if a = nbr true c then 1 else 0) + if a = nbr false c then 1 else 0 := by
  unfold O₀
  have h0 : owing a lanes (barCell c) () = 0 := by
    by_contra h
    obtain ⟨v, -, hv⟩ := owing_pos (Nat.pos_of_ne_zero h)
    cases congrArg Prod.snd hv
  rw [Pi.add_apply, Finsupp.add_apply, Pi.add_apply, Finsupp.add_apply, h0, Nat.zero_add, tallyAt_apply, tallyAt_apply]
  have key : ∀ d, barCell c = barCell (nbr d a) ↔ a = nbr (!d) c := fun d =>
    ⟨fun h => (nbr_eq d a c).mp (congrArg (fun g : GSem nD τ sig => g.1.1) h).symm, fun h => by rw [(nbr_eq d a c).mpr h]⟩
  simp only [key, and_true, Bool.not_true, Bool.not_false]

/-- A device is due two at its barrier from the launch. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nbr true c) fun _ => 1, Finset.sum_ite_eq' Finset.univ (nbr false c) fun _ => 1,
    if_pos (Finset.mem_univ _), if_pos (Finset.mem_univ _)]

/-- A device is due the amount of one band at the arrival of each lane in use. -/
theorem launch_recv (c : Dev nD) (v : Lane) (hv : v ∈ lanes) :
    tallyOn (recvCell v c) (launchCredit (Pipeline.owing O₀) 0 (recvCell v c)) = (tallyAt (recvCell v c) () N : CellTallies nD τ sig Unit) := by
  unfold tallyAt; refine congrArg _ (Finsupp.ext fun u => ?_); cases u
  rw [Pipeline.launchCredit_owing, Finsupp.single_eq_same, Finset.sum_congr rfl fun d _ => owed_recv d c v hv, Finset.sum_ite_eq' Finset.univ (nbr (!v.1) c) fun _ => N,
    if_pos (Finset.mem_univ _)]

/-- The semaphores of arrival, lane by lane. -/
noncomputable def recvEmb : Lane ↪ SemLoc sig := ⟨fun v => .dma (semIx true v), fun v w h => (semIx_inj (SemLoc.dma.inj h)).2⟩

/-- The credit a device starts with: for its barrier's two signals, and for each lane's delivery. -/
theorem creds (c : Dev nD) :
    (Pipeline.launchCred O₀ c : sProp 𝕄) ⊢ iprop(cred (tallyAt (barCell c) () 2) ∗ bigSep lanes fun v => cred (tallyAt (recvCell v c) () N)) := by
  unfold Pipeline.launchCred
  rw [bigSep_univ_at _ (SemLoc.reg barS), launch_bar]
  refine sep_mono_right ?_
  refine (BI.bigSep_subset (t := lanes.map recvEmb) fun sm hsm => ?_).trans ?_
  · obtain ⟨v, -, rfl⟩ := Finset.mem_map.mp hsm
    exact Finset.mem_erase.mpr ⟨fun h => (by cases h), Finset.mem_univ _⟩
  · rw [BI.bigSep_map]
    exact BI.bigSep_mono fun v hv => Entails.of_eq (congrArg cred (launch_recv c v hv))

/-! ## The deal -/

/-- The records every device may consult. -/
def records (κ : GSem nD τ sig → ℕ) : sProp 𝕄 :=
  iprop(Recs (XA m) κ ∗ bigSep barCells fun g => reached ER g 0)
instance records_persistent (κ : GSem nD τ sig → ℕ) : BI.Persistent (records m κ) := by unfold records; infer_instance

/-- What each device gets of the rest. -/
def linear (c : Dev nD) : sProp 𝕄 :=
  iprop((dutyTok ER (barCell (nbr (!false) c)) 0 false ∗ dutyTok ER (barCell (nbr (!true) c)) 0 true) ∗ atPos ER (barCell c) 0 ∅ 0
    ∗ (bigSep lanes fun v => dutyTok ER (recvCell v (nbr v.1 c)) 0 false) ∗ (bigSep lanes fun v => dutyTok ER (sendCell v c) 0 false)
    ∗ bigSep Finset.univ fun p : Bool × Lane => openTok ER (cell p.1 p.2 c))

/-- The part of what a device is given that only it can hold. -/
def bundle (c : Dev nD) : sProp 𝕄 :=
  iprop((cred (tallyAt (barCell c) () 2) ∗ bigSep lanes fun v => cred (tallyAt (recvCell v c) () N))
    ∗ (∃ r, prngReg c r) ∗ ∃ W, owes (c : Thread nD τ) (O₀ c) W)

/-- What a device holds beside its buffers up to the kernel. -/
def E0 (c : Dev nD) : sProp 𝕄 := iprop(Tk m c ∗ (∃ r, prngReg c r) ∗ ∃ W, owes (c : Thread nD τ) (O₀ c) W)

/-- The first round at the barrier of a device has been reached. -/
theorem reached_at (c : Dev nD) : (bigSep barCells fun g => (reached ER g 0 : sProp 𝕄)) ⊢ reached ER (barCell c) 0 :=
  bigSep_elim (Finset.mem_map_of_mem barEmb (Finset.mem_univ c))

/-- What a device is given at the launch, put together from its parts. -/
theorem E0_intro (κ : GSem nD τ sig → ℕ) (c : Dev nD) : iprop(records m κ ∗ (linear (F := F) c ∗ bundle (F := F) c)) ⊢ E0 m c := by
  unfold records linear bundle E0 Tk Ghost Deal LaneDeal
  rw [bigSep_sep', bigSep_sep']
  iintro ⟨⟨#HR, #Hr⟩, ⟨⟨Ht1, Ht2⟩, HA, HT1, HT2, HO⟩, ⟨Hc, HC⟩, Hp, HW⟩
  isplitr [Hp HW]
  · iexists κ
    isplitl [Ht1 Ht2 HA Hc]
    · isplitr; · iexact HR
      isplitr
      · isplitr
        · iapply (reached_at (F := F) (nbr (!false) c)); iexact Hr
        iapply (reached_at (F := F) (nbr (!true) c)); iexact Hr
      isplitl [Ht1 Ht2]
      · isplitl [Ht1]; · iexact Ht1
        iexact Ht2
      isplitl [Hc]; · iexact Hc
      iexact HA
    isplitr [HO]
    · isplitr [HC]
      · isplitl [HT1]; · iexact HT1
        iexact HT2
      iexact HC
    iexact HO
  isplitl [Hp]; · iexact Hp
  iexact HW

/-- Going to a neighbour, as a rearrangement of the devices. -/
noncomputable def nbrEquiv (d : Bool) : Dev nD ≃ Dev nD := ⟨nbr d, nbr (!d), nbr_nbr d, nbr_nbr' d⟩

/-- The barriers' tokens, each with the neighbour that signals. -/
theorem bar_toks :
    (bigSep (Finset.univ.map barTok) fun x => (dutyTok ER x.1 x.2.1 x.2.2 : sProp 𝕄))
      ⊢ bigSep Finset.univ fun c : Dev nD => iprop(dutyTok ER (barCell (nbr (!false) c)) 0 false ∗ dutyTok ER (barCell (nbr (!true) c)) 0 true) := by
  have h (c : Dev nD) : (bigSep Finset.univ fun b : Bool => (dutyTok ER (barTok (c, b)).1 (barTok (c, b)).2.1 (barTok (c, b)).2.2 : sProp 𝕄))
      = iprop(dutyTok ER (barCell c) 0 false ∗ dutyTok ER (barCell c) 0 true) := by
    rw [bigSep_univ_eq_bigSepL [false, true] (by decide) (by decide)]
    rfl
  rw [bigSep_map, bigSep_univ_prod, bigSep_congr fun c _ => h c, bigSep_sep', bigSep_sep', bigSep_univ_equiv (nbrEquiv (!false)) (fun c : Dev nD => (dutyTok ER (barCell c) 0 false : sProp 𝕄)),
    bigSep_univ_equiv (nbrEquiv (!true)) (fun c : Dev nD => (dutyTok ER (barCell c) 0 true : sProp 𝕄))]
  exact BI.Entails.refl _

/-- Sums in either order; sums of pairs. -/
theorem sum_comm {A B : Type} [Fintype A] [Fintype B] [DecidableEq A] [DecidableEq B] (Φ : A → B → sProp (MT nD τ sig Unit (Elt F) ℕ UU ℕ)) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl
/-- Two families can be held as one family of pairs. -/
theorem sum_pair {A : Type} {s : Finset A} {Φ Ψ : A → sProp (MT nD τ sig Unit (Elt F) ℕ UU ℕ)} :
    iprop(bigSep s Φ ∗ bigSep s Ψ) ⊢ bigSep s fun a => iprop(Φ a ∗ Ψ a) := Entails.of_eq (bigSep_sep' ..).symm
/-- One family of pairs can be held as two families. -/
theorem sum_unpair {A : Type} {s : Finset A} {Φ Ψ : A → sProp (MT nD τ sig Unit (Elt F) ℕ UU ℕ)} :
    (bigSep s fun a => iprop(Φ a ∗ Ψ a)) ⊢ iprop(bigSep s Φ ∗ bigSep s Ψ) := Entails.of_eq (bigSep_sep' ..)

/-- A sum over the lanes and the devices, the other way round, for some of the lanes. -/
theorem lane_dev (Φ : Lane → Dev nD → sProp (MT nD τ sig Unit (Elt F) ℕ UU ℕ)) :
    (bigSep Finset.univ fun v => bigSep Finset.univ fun c => Φ v c) ⊢ bigSep Finset.univ fun c => bigSep lanes fun v => Φ v c := by
  have h := sum_comm Φ
  rw [h]
  exact BI.bigSep_mono fun c _ => BI.bigSep_subset (Finset.subset_univ lanes)

/-- The lanes' tokens: a delivery's with the device that sends it. -/
theorem sem_toks :
    (bigSep (Finset.univ.map semTok) fun x => (dutyTok ER x.1 x.2.1 x.2.2 : sProp 𝕄))
      ⊢ bigSep Finset.univ fun c : Dev nD => iprop((bigSep lanes fun v => dutyTok ER (recvCell v (nbr v.1 c)) 0 false) ∗ bigSep lanes fun v => dutyTok ER (sendCell v c) 0 false) := by
  have h (b : Bool) (v : Lane) (c : Dev nD) : (dutyTok ER (semTok ((b, v), c)).1 (semTok ((b, v), c)).2.1 (semTok ((b, v), c)).2.2 : sProp 𝕄)
      = dutyTok ER (cell b v c) 0 false := rfl
  rw [bigSep_map, bigSep_univ_prod, bigSep_univ_prod, bigSep_univ_eq_bigSepL [true, false] (by decide) (by decide), bigSep_sep']
  show (iprop((bigSep Finset.univ fun v => bigSep Finset.univ fun c => dutyTok ER (recvCell v c) 0 false)
    ∗ (bigSep Finset.univ fun v => bigSep Finset.univ fun c => dutyTok ER (sendCell v c) 0 false)) : sProp 𝕄) ⊢ _
  refine BI.sep_mono ?_ (lane_dev fun v c => dutyTok ER (sendCell v c) 0 false)
  refine BI.Entails.trans (Entails.of_eq (bigSep_congr fun v _ => ?_)) (lane_dev fun v c => dutyTok ER (recvCell v (nbr v.1 c)) 0 false)
  exact bigSep_univ_equiv (nbrEquiv v.1) fun c : Dev nD => (dutyTok ER (recvCell v c) 0 false : sProp 𝕄)

/-- The duties are those at the barriers and those at the lanes. -/
theorem toks_split : (bigSep toks fun x => (dutyTok ER x.1 x.2.1 x.2.2 : sProp 𝕄))
    ⊢ iprop((bigSep (Finset.univ.map barTok) fun x => dutyTok ER x.1 x.2.1 x.2.2) ∗ bigSep (Finset.univ.map semTok) fun x => dutyTok ER x.1 x.2.1 x.2.2) :=
  Entails.of_eq (bigSep_union disjoint_toks)

/-- The invariants of all semaphores give the records. -/
theorem rec_split (κ : GSem nD τ sig → ℕ) :
    (bigSep (barCells ∪ semCells) fun g => (cellInv ER (rd (XA m)) (κ g) g : sProp 𝕄)) ⊢ Recs (XA m) κ := by
  rw [bigSep_union disjoint_cells, bigSep_map, bigSep_map]
  exact Entails.of_eq rfl

/-- The permissions to open are dealt out by device and lane. -/
theorem open_split :
    (bigSep semCells fun g => (openTok ER g : sProp 𝕄))
      ⊢ bigSep Finset.univ fun c : Dev nD => bigSep Finset.univ fun p : Bool × Lane => openTok ER (cell p.1 p.2 c) := by
  have h := sum_comm fun (p : Bool × Lane) (c : Dev nD) => (openTok ER (cell p.1 p.2 c) : sProp 𝕄)
  rw [bigSep_map, bigSep_univ_prod]
  exact Entails.of_eq h

/-- The one semaphore outside the kernel is the barrier. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The launch: from every device's barrier counter at zero, its dues and its credit, what each holds up to the kernel. -/
theorem launch_E0 (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c))
        ∗ levAts L lv)
      ⊢ (|={Set.univ}=> bigSep Finset.univ (E0 m) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle (F := F) c ∗ (semVal (barCell c) 0 ∗ G (F := F) c)) : sProp 𝕄) := by
    rw [unscopedSems0_eq]
    unfold bundle
    iintro ⟨Hus, HO, Hcr, Hp, HG⟩
    isplitl [HO Hcr Hp]
    · isplitl [Hcr]; · iapply (creds (F := F) c) $$ Hcr
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle (F := F) c ∗ (semVal (barCell c) 0 ∗ G (F := F) c)) : sProp 𝕄) from bigSep_mono fun c _ => hcore c) $$ H
  ihave H2 := sum_unpair $$ H'; icases H2 with ⟨HB, H3⟩
  ihave H4 := sum_unpair $$ H3; icases H4 with ⟨Hv, HG⟩
  ihave Hu := (show bigSep Finset.univ (G (F := F)) ⊢ BI.own (ER (launchOf barCells semCells toks)) from
    Entails.of_eq (bigSep_onDev (F := F) 0 (BI.own (ER (launchOf barCells semCells toks))))) $$ HG
  imod (Rounds.fund_launch ER (rd (XA m)) disjoint_cells (fun g _ h => h) toks) $$ [Hv Hu] with ⟨%κ, -, Hinv, #Hr, Hat, Hopen, Htok⟩
  · isplitl [Hv]
    · iapply hv $$ Hv
    · iexact Hu
  ihave HR := (rec_split m κ) $$ Hinv
  ihave Htok := (toks_split (F := F)) $$ Htok
  icases Htok with ⟨Htb, Hts⟩
  ihave Hts := (sem_toks (F := F)) $$ Hts
  ihave Hts := sum_unpair $$ Hts
  icases Hts with ⟨Hts1, Hts2⟩
  imodintro
  iapply (bigSep_with_persistent (R := records m κ) (Φ := fun c => iprop(linear (F := F) c ∗ bundle (F := F) c)) fun c _ => E0_intro m κ c)
  isplitl [HR]
  · unfold records
    isplitl [HR]; · iexact HR
    iexact Hr
  iapply sum_pair
  isplitr [HB]
  · unfold linear
    iapply sum_pair; isplitl [Htb]; · iapply (bar_toks (F := F)) $$ Htb
    iapply sum_pair; isplitl [Hat]; · iapply hat $$ Hat
    iapply sum_pair; isplitl [Hts1]; · iexact Hts1
    iapply sum_pair; isplitl [Hts2]; · iexact Hts2
    iapply (open_split (F := F)) $$ Hopen
  · iexact HB

end Cert.KernelIdeal.Ring

end
-- ==== Proof.IdealMain.lean ====
/- The whole program's run: the operands kept, the result stored, every semaphore back at zero.
   The same for the program read over the extended reals. -/
module

public import proofs.«01_k».proof.Proof.IdealLaunch
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen Cert.Order
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- What a device holds beside its buffers, before the kernel and after. -/
def E : Fin 2 → Dev nD → sProp 𝕄
  | 0, c => E0 m c
  | 1, c => iprop(semVal (barCell c) 0 ∗ ∃ W, owes (c : Thread nD τ) (0 : CellTallies nD τ sig Unit) W)

/-- What a device holds before the kernel gives what the kernel asks for. -/
theorem reg_pre (c : Dev nD) : iprop(StableHlo.held (c : Thread nD τ) (Pipeline.ucRefs τ sig) (V9 m c) ∗ E m 0 c) ⊢ (reg0 m).pre c := by
  show iprop(StableHlo.held (c : Thread nD τ) (Pipeline.ucRefs τ sig) (V9 m c) ∗ E0 m c)
    ⊢ (iprop(StableHlo.held (c.tc : Thread nD τ) (Pipeline.arrRefs (τ := τ) (pcfgs (F := F) 0).spec) (V9 m c) ∗ (∃ r, prngReg c r)
      ∗ (StableHlo.held (c.tc : Thread nD τ) Others (V9 m c) ∗ emp) ∗ Tk m c ∗ ∃ Wd, owes (c : Thread nD τ) (0 + O₀ c) Wd) : sProp 𝕄)
  rw [StableHlo.held_sub_split (c : Thread nD τ) arr_sub (V9 m c), zero_add]
  unfold E0 Others
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

/-- What the kernel gives back is what a device holds after it. -/
theorem reg_post (c : Dev nD) : (reg0 m).post c
    ⊢ iprop((StableHlo.held (c : Thread nD τ) (Pipeline.ucRefs τ sig) (VE m c) ∗ semVal (barCell c) 0)
      ∗ ∃ W, owes (c : Thread nD τ) (0 : CellTallies nD τ sig Unit) W) := by
  show (iprop(StableHlo.held (c.tc : Thread nD τ) (Pipeline.arrRefs (τ := τ) (pcfgs (F := F) 0).spec) (VE m c) ∗ (∃ r, prngReg c r)
      ∗ (StableHlo.held (c.tc : Thread nD τ) Others (VE m c) ∗ emp) ∗ Yk (F := F) c ∗ ∃ Wd, owes (c : Thread nD τ) (0 : CellTallies nD τ sig Unit) Wd) : sProp 𝕄) ⊢ _
  rw [StableHlo.held_sub_split (c : Thread nD τ) arr_sub (VE m c)]
  unfold Yk Others
  iintro ⟨Ha, -, ⟨Hh, -⟩, Hb, HO⟩
  isplitr [HO]
  · isplitl [Ha Hh]
    · isplitl [Ha]; · iexact Ha
      iexact Hh
    iexact Hb
  iexact HO

/-- The one semaphore outside the kernel is the barrier. -/
theorem unscoped_eq : ∀ sm : SemLoc sig, sm.isScoped .tc = false → sm = .reg barS := by decide +kernel

/-- The arguments are unchanged after the kernel. -/
theorem VE_arg (c : Dev nD) (r : Ref sig .tc) (h : r ∈ [main_arg0, main_arg1, main_arg2, main_arg3]) (hr : r ≠ main_v13) :
    VE m c (Proc.devRef .tc r) = m ((c : Thread nD τ).loc r) :=
  (VE_of_ne m c _ fun e => hr (Proc.devRef_injective _ e)).trans (V9_arg m c r h)

set_option backward.isDefEq.respectTransparency.types false in
/-- Every run from zero counters ends, with the operands as they were, the result `Out m c` on device `c`, and every
    counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v13) = Out m c) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Pipeline.Seg.run_eq_chain,
        show (segs m 𝒱₀ L lv (E m) () (pdats m) (reg0 m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (VE m c) ∗ semVal (barCell c) 0))
    (hch := fun c => ⟨.rfl, .rfl, .rfl, .rfl, .rfl, .rfl, .rfl, .rfl, .rfl, reg_pre m c, reg_post m c⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v13) = Out m c) ∧ s.sem (barCell c) = 0)
    (hfin := fun c s' => ?_)
    (hQ := fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [bigSep_onDev]; iexact HX
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_E0 m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VE m c) s') $$ [Hh HSI]
    · isplitl [Hh] <;> iassumption
    icases Hr with ⟨%h, HSI⟩
    imodintro
    isplitr
    · ipureintro
      have hm : ∀ r : Ref sig .tc, ¬ (Proc.devRef (τ := τ) .tc r).isScoped → Proc.devRef .tc r ∈ Pipeline.ucRefs τ sig :=
        fun r hr => Finset.mem_filter.mpr ⟨StableHlo.devRef_mem_tcRefs r, hr⟩
      refine ⟨⟨⟨(h _ (hm main_arg0 (by decide))).trans (VE_arg m c main_arg0 (by simp) (by decide)),
        (h _ (hm main_arg1 (by decide))).trans (VE_arg m c main_arg1 (by simp) (by decide)),
        (h _ (hm main_arg2 (by decide))).trans (VE_arg m c main_arg2 (by simp) (by decide)),
        (h _ (hm main_arg3 (by decide))).trans (VE_arg m c main_arg3 (by simp) (by decide))⟩,
        (h _ (hm main_v13 (by decide))).trans (VE_out m c)⟩, by simpa using hb⟩
    iexact HSI

end Cert.KernelIdeal.Ring

end
-- ==== Proof.Ref.lean ====
/- The run of the reference: the operands kept, the scaled product stored. -/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The product of two arrays of bytes read as floats. -/
def prodOf (x : IVec S4096x4096 8) (w : IVec S4096x2048 8) : FVec F S4096x2048 .f32 :=
  Host.dotGeneral dot_S4096x4096_S4096x2048_S4096x2048_1_0_0_1_n_n none
    (sitofp .f32 (extsi 32 x natLt_8_32)) (sitofp .f32 (extsi 32 w natLt_8_32))

/-- The two scales' product at every element. -/
def scaleOf (a b : FVec F S1 .f32) : FVec F S4096x2048 .f32 :=
  broadcastInDim S4096x2048 ![0, 1] bcast_S1x1_S4096x2048_0_1 (broadcastInDim S1x1 ![1] bcast_S1_S1x1_1 (mulf a b))

/-- The reference's result from its operands. -/
def outOf (x : IVec S4096x4096 8) (w : IVec S4096x2048 8) (a b : FVec F S1 .f32) : FVec F S4096x2048 .f32 :=
  mulf (prodOf x w) (scaleOf a b)

/-- The program's operations, in order. -/
abbrev steps : List (HloOp τ sig (Elt F)) :=
  [ unary main_arg0 main_v0 (extsi 32 · natLt_8_32), unary main_v0 main_v1 (sitofp .f32),
    unary main_arg1 main_v2 (extsi 32 · natLt_8_32), unary main_v2 main_v3 (sitofp .f32),
    binary main_v1 main_v3 main_v4 (fun l r => Host.dotGeneral dot_S4096x4096_S4096x2048_S4096x2048_1_0_0_1_n_n none l r),
    binary main_arg2 main_arg3 main_v5 mulf, unary main_v5 main_v6 (broadcastInDim S1x1 ![1] bcast_S1_S1x1_1),
    unary main_v6 main_v7 (broadcastInDim S4096x2048 ![0, 1] bcast_S1x1_S4096x2048_0_1), binary main_v4 main_v7 main_v8 mulf ]

/-- The program is these operations. -/
theorem main_line (c : Dev nD) : main (F := F) c = seq steps := rfl

/-- The result's buffer after them, -/
theorem result_after (V : Valuation τ sig (Elt F)) : after steps V (main_v8 : DevRef τ sig)
    = outOf (V (main_arg0 : DevRef τ sig)) (V (main_arg1 : DevRef τ sig)) (V (main_arg2 : DevRef τ sig)) (V (main_arg3 : DevRef τ sig)) := by
  after_results
  rfl

/-- and the operands' buffers, which no operation writes. -/
theorem arg0_after (V : Valuation τ sig (Elt F)) : after steps V (main_arg0 : DevRef τ sig) = V (main_arg0 : DevRef τ sig) := by
  after_results
/-- The steps leave the second argument as it was. -/
theorem arg1_after (V : Valuation τ sig (Elt F)) : after steps V (main_arg1 : DevRef τ sig) = V (main_arg1 : DevRef τ sig) := by
  after_results
/-- The steps leave the third argument as it was. -/
theorem arg2_after (V : Valuation τ sig (Elt F)) : after steps V (main_arg2 : DevRef τ sig) = V (main_arg2 : DevRef τ sig) := by
  after_results
/-- The steps leave the fourth argument as it was. -/
theorem arg3_after (V : Valuation τ sig (Elt F)) : after steps V (main_arg3 : DevRef τ sig) = V (main_arg3 : DevRef τ sig) := by
  after_results

/-- No buffer and no semaphore of the program is scoped. -/
theorem no_scoped_buf : (Finset.univ.filter fun b : Ref sig .tc => b.isScoped) = ∅ := by decide
/-- The reference has no semaphores of its own. -/
theorem no_scoped_sem : (Finset.univ.filter fun sm : SemLoc sig => sm.isScoped .tc) = ∅ := by decide

/-- The operations touch the device's own buffers only. -/
theorem steps_within : (steps : List (HloOp τ sig (Elt F))).Forall fun op => op.bufs ⊆ tcRefs τ sig :=
  ⟨unary_bufs_sub .., unary_bufs_sub .., unary_bufs_sub .., unary_bufs_sub .., binary_bufs_sub .., binary_bufs_sub ..,
    unary_bufs_sub .., unary_bufs_sub .., binary_bufs_sub ..⟩

/-- The reference ends with its operands unchanged, every semaphore at zero, and `outOf` of the operands in the result. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v8) = outOf (m ((c.tc : Thread nD τ).loc main_arg0))
          (m ((c.tc : Thread nD τ).loc main_arg1)) (m ((c.tc : Thread nD τ).loc main_arg2)) (m ((c.tc : Thread nD τ).loc main_arg3)))
      ∧ r.2.sem = fun _ => 0 :=
  (θ_run defs _ _).mono (fun r h => ⟨fun c => ⟨⟨(h c main_arg0).trans (arg0_after _), (h c main_arg1).trans (arg1_after _),
      (h c main_arg2).trans (arg2_after _), (h c main_arg3).trans (arg3_after _)⟩, (h c main_v8).trans (result_after _)⟩,
      sem_eq_zero_of_no_sems (by decide) r.2⟩)
    (run_seq no_scoped_buf no_scoped_sem defs main (fun _ => steps) main_line (fun _ => steps_within) m ρ)

end Cert.ReferenceIdeal.Run

end
-- ==== Proof.Prods.lean ====
/- Products of bytes: the matrix unit's exact product, and the same sum over the extended reals. -/
module

public import proofs.«01_k».proof.Proof.Gen.KernelIdeal.Skeleton
public import Idealize.ShloMosaic.Lib.IntMxu
public import Idealize.ShloMosaic.Lib.MatmulPlain
public import Idealize.ShloMosaic.Lib.StackMember

@[expose] public section

noncomputable section

namespace Cert.Bytes

open Idealize.ShloMosaic Idealize.ShloMosaic.ValueIdx

variable {M K N : ℕ}

/-- The contraction's sum as a sum over the contracted coordinate. -/
theorem sum_contr {A : Type} [AddCommMonoid A] (f : (⟨2, ![M, K]⟩ : Shape).Idx → (⟨2, ![K, N]⟩ : Shape).Idx → A) (r : Fin M) (c : Fin N) :
    (∑ k : (DotDims.plain M K N).contr.Idx, f ((DotDims.plain M K N).lhsIdx (ix2 r c) k) ((DotDims.plain M K N).rhsIdx (ix2 r c) k))
      = ∑ k : Fin K, f (ix2 r k) (ix2 k c) := by
  rw [← Equiv.sum_comp (DotDims.plainContr M K N).symm]
  refine Finset.sum_congr rfl fun k _ => ?_
  have hk := contrEquiv1_symm_val _ K (DotDims.plain_contr_rank M K N) (DotDims.plain_contr_size M K N) k
  refine congrArg₂ f (funext fun a => Fin.ext ?_) (funext fun a => Fin.ext ?_)
  · match a with
    | ⟨0, _⟩ => rfl
    | ⟨1, _⟩ => exact hk
  · match a with
    | ⟨0, _⟩ => exact hk
    | ⟨1, _⟩ => rfl

/-- A row of bytes times a column of bytes, as an integer, -/
def dot (x : Fin K → BitVec 8) (w : Fin K → BitVec 8) : ℤ := ∑ k, (x k).toInt * (w k).toInt
/-- and the total of the products' magnitudes. -/
def mag (x : Fin K → BitVec 8) (w : Fin K → BitVec 8) : ℕ := ∑ k, ((x k).toInt * (w k).toInt).natAbs

/-- The matrix unit's exact product is the integer product, -/
theorem dotI8_eq (x : IVec ⟨2, ![M, K]⟩ 8) (w : IVec ⟨2, ![K, N]⟩ 8) (r : Fin M) (c : Fin N) :
    dotI8 (DotDims.plain M K N) x w (ix2 r c) = dot (fun k => x (ix2 r k)) (fun k => w (ix2 k c)) :=
  sum_contr (fun a b => (x a).toInt * (w b).toInt) r c

/-- and its magnitudes total what the integer products' do. -/
theorem absDotI8_eq (x : IVec ⟨2, ![M, K]⟩ 8) (w : IVec ⟨2, ![K, N]⟩ 8) (r : Fin M) (c : Fin N) :
    absDotI8 (DotDims.plain M K N) x w (ix2 r c) = mag (fun k => x (ix2 r k)) (fun k => w (ix2 k c)) :=
  sum_contr (fun a b => ((x a).toInt * (w b).toInt).natAbs) r c

/-- Sums of products of integers are the same over the extended reals. -/
theorem sum_coe (a b : Fin K → ℤ) :
    (∑ k, ((a k : ℝ) : EReal) * ((b k : ℝ) : EReal)) = (((∑ k, a k * b k : ℤ) : ℝ) : EReal) := by
  have h : ∀ s : Finset (Fin K), (∑ k ∈ s, ((a k : ℝ) : EReal) * ((b k : ℝ) : EReal)) = (((∑ k ∈ s, a k * b k : ℤ) : ℝ) : EReal) := by
    intro s
    induction s using Finset.induction_on with
    | empty => simp
    | insert k s hk ih =>
      rw [Finset.sum_insert hk, Finset.sum_insert hk, ih]
      push_cast
      rfl
  exact h Finset.univ

/-- The larger of an integer and its negation is its magnitude. -/
theorem max_neg_coe (z : ℤ) : max ((z : ℝ) : EReal) (-((z : ℝ) : EReal)) = (((z.natAbs : ℤ) : ℝ) : EReal) := by
  rw [← EReal.coe_neg, ← EReal.coe_strictMono.monotone.map_max, Int.natCast_natAbs, Int.cast_abs]
  rfl

/-- The total of the magnitudes, over the extended reals. -/
theorem mag_coe (x w : Fin K → BitVec 8) :
    (∑ k, max (((x k).toInt : ℝ) : EReal) (-(((x k).toInt : ℝ) : EReal)) * max (((w k).toInt : ℝ) : EReal) (-(((w k).toInt : ℝ) : EReal)))
      = (((mag x w : ℤ) : ℝ) : EReal) := by
  simp only [max_neg_coe]
  rw [sum_coe]
  unfold mag
  push_cast [Int.natAbs_mul]
  rfl

/-- A byte widened to a word is the same integer. -/
theorem widen_toInt (b : BitVec 8) : (b.signExtend 32).toInt = b.toInt := BitVec.toInt_signExtend_of_le (by decide)

end Cert.Bytes

namespace Cert.KernelIdeal.Ring

open Cert.KernelIdeal Cert.KernelIdeal.Gen Cert.Bytes
open Idealize.ShloMosaic Idealize.ShloMosaic.ValueIdx

/-- What the kernel stores of two blocks, where the products' magnitudes total less than 2^24: the integer product, scaled. -/
theorem pay_apply (p : Ideal .f32) (x : IVec S128x4096 8) (w : IVec S4096x64 8) (r : Fin 128) (l : Fin 64)
    (h : mag (fun k => x (ix2 r k)) (fun k => w (ix2 k l)) < 2 ^ 24) :
    k0_pay4 (F := Ideal) p x w (ix2 r l) = ((dot (fun k => x (ix2 r k)) (fun k => w (ix2 k l)) : ℝ) : EReal) * p := by
  have hw : shapeCast S4096x64 w shapeCasts_S4096x64_S4096x64 = w := shapeCast_self ..
  have e : (matmulI8 IntMxuNumerics.v7x dot_S128x4096_S4096x64_S128x64_1_0_0_1_n_n x w (constantI S128x64 32 0#32) (ix2 r l)).toInt = dot (fun k => x (ix2 r k)) (fun k => w (ix2 k l)) :=
    (matmulI8_toInt IntMxuNumerics.v7x (DotDims.plain 128 4096 64) x w (constantI S128x64 32 0#32) (ix2 r l) rfl
      (by rw [absDotI8_eq]; exact Nat.le_sub_one_of_lt h)).trans (dotI8_eq x w r l)
  show ((((matmulI8 IntMxuNumerics.v7x dot_S128x4096_S4096x64_S128x64_1_0_0_1_n_n x
    (shapeCast S4096x64 w shapeCasts_S4096x64_S4096x64) (constantI S128x64 32 0#32) (ix2 r l)).toInt : ℝ) : EReal) * p : EReal) = _
  rw [hw, e]

end Cert.KernelIdeal.Ring

end
-- ==== Proof.RefValue.lean ====
/- The reference's result at an element, over the extended reals. -/
module

public import proofs.«01_k».proof.Proof.Ref
public import proofs.«01_k».proof.Proof.Prods

@[expose] public section

noncomputable section

namespace Cert.ReferenceIdeal.Run

open Cert.ReferenceIdeal Cert.ReferenceIdeal.Gen Cert.Bytes
open Idealize.ShloMosaic Idealize.ShloMosaic.ValueIdx

/-- The product of the byte arrays is the integer product of a row and a column. -/
theorem prodOf_apply (x : IVec S4096x4096 8) (w : IVec S4096x2048 8) (i : Fin 4096) (j : Fin 2048) :
    prodOf (F := Ideal) x w (ix2 i j) = ((dot (fun k => x (ix2 i k)) (fun k => w (ix2 k j)) : ℝ) : EReal) := by
  refine (StackMember.dotGeneral_plain_apply (m := 4096) (n := 2048) none _ _ i j).trans ?_
  show (∑ k : Fin 4096, ((((x (ix2 i k)).signExtend 32).toInt : ℝ) : EReal) * ((((w (ix2 k j)).signExtend 32).toInt : ℝ) : EReal)) = _
  simp only [widen_toInt]
  rw [sum_coe]
  rfl

/-- The scales' product at an element. -/
theorem scaleOf_apply (a b : FVec Ideal S1 .f32) (i : S4096x2048.Idx) : scaleOf a b i = (a (ix1 0) * b (ix1 0) : EReal) := by
  have e : ∀ z : S1.Idx, z = ix1 0 := fun z => (eq_ix1 z).trans (congrArg ix1 (Subsingleton.elim (α := Fin 1) (z 0) 0))
  exact (congrArg (mulf a b) (e _)).trans rfl

/-- The reference's result at an element. -/
theorem outOf_apply (x : IVec S4096x4096 8) (w : IVec S4096x2048 8) (a b : FVec Ideal S1 .f32) (i : Fin 4096) (j : Fin 2048) :
    outOf (F := Ideal) x w a b (ix2 i j)
      = (((dot (fun k => x (ix2 i k)) (fun k => w (ix2 k j)) : ℝ) : EReal) * (a (ix1 0) * b (ix1 0)) : EReal) := by
  show (prodOf (F := Ideal) x w (ix2 i j) * scaleOf a b (ix2 i j) : EReal) = _
  rw [prodOf_apply, scaleOf_apply]

end Cert.ReferenceIdeal.Run

end
-- ==== Proof.Within.lean ====
/- The mask of the claim: the elements whose products' magnitudes total less than 2^24. -/
module

public import proofs.«01_k».proof.On_within
public import proofs.«01_k».proof.Proof.RefValue

@[expose] public section

noncomputable section

namespace Cert.On_within

open Idealize.ShloMosaic Idealize.ShloMosaic.ValueIdx Cert.Bytes

/-- The shape relations that the mask's operations ask for. -/
instance facts : Facts where
  natLt_8_32 := by decide
  bcast_S_S4096x2048 := by decide
  dot_S4096x4096_S4096x2048_S4096x2048_1_0_0_1_n_n_wf := by decide

/-- The mask's literal is 2^24. -/
theorem bound_eq : Ideal.ofBits .f32 0x4B800000#32 = ((16777216 : ℝ) : EReal) := by
  simp [Ideal.ofBits, Ideal.ieee]
  rw [← EReal.coe_mul]
  norm_num

/-- The products' magnitudes, over the extended reals, total what the integers' do. -/
theorem total_apply (x : IVec S4096x4096 8) (w : IVec S4096x2048 8) (i : Fin 4096) (j : Fin 2048) :
    (Host.dotGeneral (F := Ideal) dot_S4096x4096_S4096x2048_S4096x2048_1_0_0_1_n_n none
      (Host.absf (sitofp .f32 (extsi 32 x facts.natLt_8_32))) (Host.absf (sitofp .f32 (extsi 32 w facts.natLt_8_32))) (ix2 i j) : EReal)
      = (((mag (fun k => x (ix2 i k)) (fun k => w (ix2 k j)) : ℤ) : ℝ) : EReal) := by
  refine (StackMember.dotGeneral_plain_apply (m := 4096) (n := 2048) none _ _ i j).trans ?_
  show (∑ k : Fin 4096, max ((((x (ix2 i k)).signExtend 32).toInt : ℝ) : EReal) (-((((x (ix2 i k)).signExtend 32).toInt : ℝ) : EReal))
    * max ((((w (ix2 k j)).signExtend 32).toInt : ℝ) : EReal) (-((((w (ix2 k j)).signExtend 32).toInt : ℝ) : EReal))) = _
  simp only [widen_toInt]
  exact mag_coe _ _

/-- The mask's comparison at an element. -/
theorem cmp_apply (t : FVec Ideal S4096x2048 .f32) (p : S4096x2048.Idx) :
    cmpf .olt t (broadcastInDim S4096x2048 ![] facts.bcast_S_S4096x2048 (constant (F := Ideal) S_ .f32 0x4B800000#32)) p
      = Ideal.cmp .olt (t p) (Ideal.ofBits .f32 0x4B800000#32) := rfl

/-- Where the mask is set, the products' magnitudes total less than 2^24. -/
theorem mag_lt (x : IVec S4096x4096 8) (w : IVec S4096x2048 8) (a b : FVec Ideal S1 .f32) (i : Fin 4096) (j : Fin 2048)
    (h : fn (F := Ideal) x w a b (ix2 i j) = 1#1) : mag (fun k => x (ix2 i k)) (fun k => w (ix2 k j)) < 2 ^ 24 := by
  have h' := (cmp_apply (Host.dotGeneral (F := Ideal) dot_S4096x4096_S4096x2048_S4096x2048_1_0_0_1_n_n none
      (Host.absf (sitofp .f32 (extsi 32 x facts.natLt_8_32))) (Host.absf (sitofp .f32 (extsi 32 w facts.natLt_8_32)))) (ix2 i j)).symm.trans h
  rw [total_apply, bound_eq] at h'
  generalize mag (fun k => x (ix2 i k)) (fun k => w (ix2 k j)) = n at h' ⊢
  have hl : (((n : ℤ) : ℝ) : EReal) < ((16777216 : ℝ) : EReal) := by
    by_contra hn
    rw [show Ideal.cmp .olt _ _ = BitVec.ofBool (decide (_ < _)) from rfl, decide_eq_false hn] at h'
    exact absurd h' (by decide)
  rw [EReal.coe_lt_coe_iff] at hl
  exact_mod_cast hl

end Cert.On_within

end
-- ==== Proof.Value.lean ====
/- The kernel's result against the reference's, over the extended reals. -/
module

public import proofs.«01_k».proof.Proof.Within
public import proofs.«01_k».proof.Proof.IdealMain
public import Idealize.ShloMosaic.Lib.Layout

@[expose] public section

noncomputable section

namespace Cert.KernelIdeal.Ring

open Cert.KernelIdeal Cert.KernelIdeal.Gen Cert.Bytes
open Idealize.ShloMosaic hiding ix1 ix2
open Idealize.ShloMosaic.ValueIdx Idealize.ShloMosaic.TcCoe

variable (m : (ℓ : Loc nD τ sig) → Buf (Elt Ideal) ℓ)
variable (x : IVec ⟨2, ![4096, 4096]⟩ 8) (w : IVec ⟨2, ![4096, 2048]⟩ 8) (a b : FVec Ideal ⟨1, ![1]⟩ .f32)

/-- Column `l` of device `c`'s columns is this column of the whole. -/
def colOf (c : Dev nD) (l : Fin 64) : Fin 2048 := ⟨c.val * 64 + l.val, by have := c.2; have := l.2; simp only [nD] at *; omega⟩

/-- An element of a device's block of columns, in the whole. -/
theorem block_cols {A : Type} (f : (⟨2, ![4096, 2048]⟩ : Shape).Idx → A) (c : Dev nD) (i : Fin 4096) (l : Fin 64) :
    Layout.block ⟨2, ![4096, 64]⟩ ⟨2, ![4096, 2048]⟩ 1 32 c f (by decide) (ix2 i l) = f (ix2 i (colOf c l)) := by
  refine congrArg f (funext fun q => Fin.ext ?_)
  match q with
  | ⟨0, _⟩ => rfl
  | ⟨1, _⟩ => rfl

/-- A row of a device's block of rows, in the whole. -/
theorem block_rows {A : Type} (f : (⟨2, ![4096, 4096]⟩ : Shape).Idx → A) (i k : Fin 4096) :
    Layout.block ⟨2, ![128, 4096]⟩ ⟨2, ![4096, 4096]⟩ 0 32 (devOf i.val) f (by decide) (ix2 (inRow i.val) k) = f (ix2 i k) := by
  refine congrArg f (funext fun q => Fin.ext ?_)
  match q with
  | ⟨0, _⟩ => exact (show i.val / 128 % 32 * 128 + i.val % 128 = i.val by have := i.2; omega)
  | ⟨1, _⟩ => rfl

/-- Where the mask is set, a device's result is its block of the reference's. -/
theorem out_block
    (hx : ∀ c : Dev nD, m ((c : Thread nD τ).loc main_arg0) = Layout.block ⟨2, ![128, 4096]⟩ ⟨2, ![4096, 4096]⟩ 0 32 c x (by decide))
    (hw : ∀ c : Dev nD, m ((c : Thread nD τ).loc main_arg1) = Layout.block ⟨2, ![4096, 64]⟩ ⟨2, ![4096, 2048]⟩ 1 32 c w (by decide))
    (ha : ∀ c : Dev nD, m ((c : Thread nD τ).loc main_arg2) = a) (hb : ∀ c : Dev nD, m ((c : Thread nD τ).loc main_arg3) = b)
    (c : Dev nD) (i : Fin 4096) (l : Fin 64) (hm : Cert.On_within.fn (F := Ideal) x w a b (ix2 i (colOf c l)) = 1#1) :
    (Out (F := Ideal) m c : (⟨2, ![4096, 64]⟩ : Shape).Idx → EReal) (ix2 i l)
      = (Cert.ReferenceIdeal.Run.outOf (F := Ideal) x w a b : (⟨2, ![4096, 2048]⟩ : Shape).Idx → EReal) (ix2 i (colOf c l)) := by
  have hg := Cert.On_within.mag_lt x w a b i (colOf c l) hm
  have hr : ∀ k, (XA m (devOf i.val) : IVec ⟨2, ![128, 4096]⟩ 8) (ix2 (inRow i.val) k) = x (ix2 i k) := fun k =>
    (congrFun (hx (devOf i.val)) (ix2 (inRow i.val) k)).trans (block_rows x i k)
  have hc : ∀ k, (WA m c : IVec ⟨2, ![4096, 64]⟩ 8) (ix2 k l) = w (ix2 k (colOf c l)) := fun k =>
    (congrFun (hw c) (ix2 k l)).trans (block_cols w c k l)
  refine Eq.trans (?_ : _ = (((dot (fun k => x (ix2 i k)) (fun k => w (ix2 k (colOf c l))) : ℝ) : EReal) * (a (ix1 0) * b (ix1 0)) : EReal))
    (Cert.ReferenceIdeal.Run.outOf_apply x w a b i (colOf c l)).symm
  have hp := pay_apply (Scalar.mulf (aX m c) (aW m c)) (XA m (devOf i.val)) (WA m c) (inRow i.val) l
    (by rw [funext hr, funext hc]; exact hg)
  rw [funext hr, funext hc] at hp
  have e2 : aX m c = a (ix1 0) := congrFun (ha c) (ix1 0)
  have e3 : aW m c = b (ix1 0) := congrFun (hb c) (ix1 0)
  rw [e2, e3] at hp
  exact (show _ = k0_pay4 (F := Ideal) (Scalar.mulf (aX m c) (aW m c)) (XA m (devOf i.val)) (WA m c) (ix2 (inRow i.val) l) from rfl).trans
    (by rw [e2, e3]; exact hp)

end Cert.KernelIdeal.Ring

end
-- ==== Proof.lean ====
/- The certificate: the three frames, the ideal program being the kernel's own text, and the kernel's result equal to the
   reference's where the mask is set. The runs are proved in Proof/Main.lean, Proof/IdealMain.lean and Proof/Ref.lean, the
   equality of the results in Proof/Value.lean. -/
module

public import proofs.«01_k».proof.Defs
public import proofs.«01_k».proof.Proof.Main
public import proofs.«01_k».proof.Proof.IdealMain
public import proofs.«01_k».proof.Proof.Value
public import Idealize.ShloMosaic.Adequacy
public import Idealize.ShloMosaic.Init

@[expose] public section

noncomputable section

namespace Cert.Proof

open Idealize.ShloMosaic Idealize.SL.Sem

/-- The kernel's frame at words. -/
theorem frame_kernel : quiescent_Kernel (hKernel := Cert.Kernel.Gen.facts) := fun m g _ =>
  (θ_run _ _ _).mono (fun _ h => ⟨fun c => (h.1 c).1, h.2⟩) (Cert.Kernel.Ring.run_main m g)

/-- The ideal program's frame. -/
theorem frame_ideal : quiescent_KernelIdeal (hKernelIdeal := Cert.KernelIdeal.Gen.facts) := fun m g _ =>
  (θ_run _ _ _).mono (fun _ h => ⟨fun c => (h.1 c).1, h.2⟩) (Cert.KernelIdeal.Ring.run_main m g)

/-- The reference's frame. -/
theorem frame_reference : quiescent_ReferenceIdeal (hReferenceIdeal := Cert.ReferenceIdeal.Gen.facts) := fun m g _ =>
  (θ_run _ _ _).mono (fun _ h => ⟨fun c => (h.1 c).1, h.2⟩) (Cert.ReferenceIdeal.Run.run_main m g)

/-- Where the mask is set, each device's result is its block of the reference's. -/
theorem equal : algebraic_KernelIdeal_ReferenceIdeal_on_within (hKernelIdeal := Cert.KernelIdeal.Gen.facts)
    (hReferenceIdeal := Cert.ReferenceIdeal.Gen.facts) (hOn_within := Cert.On_within.facts) := fun m g m' g' _ hag => by
  refine ⟨_, (θ_run _ _ _).mono (fun r h c => ⟨fun i hm => ?_, (h.1 c).1⟩) (Cert.KernelIdeal.Ring.run_main m g),
    (θ_run _ _ _).mono (fun r h => ⟨fun i _ => congrFun (h.1 0).2 i, (h.1 0).1⟩) (Cert.ReferenceIdeal.Run.run_main m' g')⟩
  obtain ⟨a, b, rfl⟩ : ∃ (a : Fin 4096) (b : Fin 64), i = ValueIdx.ix2 a b := ⟨i 0, i 1, ValueIdx.eq_ix2 i⟩
  refine (congrFun (h.1 c).2 (ValueIdx.ix2 a b)).trans ?_
  refine (Cert.KernelIdeal.Ring.out_block m _ _ _ _ (fun c => (hag c).1) (fun c => (hag c).2.1) (fun c => (hag c).2.2.1)
    (fun c => (hag c).2.2.2) c a b ?_).trans (Cert.KernelIdeal.Ring.block_cols _ c a b).symm
  exact (Cert.KernelIdeal.Ring.block_cols _ c a b).symm.trans hm

/-- The claims, all five. -/
theorem claim : Cert.Claim :=
  ⟨Cert.Kernel.Gen.facts, Cert.KernelIdeal.Gen.facts, Cert.ReferenceIdeal.Gen.facts, Cert.On_within.facts,
    frame_kernel, frame_ideal, frame_reference, trivial, equal⟩

end Cert.Proof

end
